-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.2 = (fun _ => 1#1)

def Pre_Lnb (m : (ℓ : Loc Cert.Lnb.nD Cert.Lnb.τ Cert.Lnb.sig) → Buf (Elt Bits) ℓ) : Prop :=
  True

def Pre_LnbIdeal (m : (ℓ : Loc Cert.LnbIdeal.nD Cert.LnbIdeal.τ Cert.LnbIdeal.sig) → Buf (Elt Ideal) ℓ) : Prop :=
  True

def Pre_LnbIdeal_lnb_finite [hPre_lnb_finite : Cert.Pre_lnb_finite.Facts] (m : (ℓ : Loc Cert.LnbIdeal.nD Cert.LnbIdeal.τ Cert.LnbIdeal.sig) → Buf (Elt Ideal) ℓ) : Prop :=
  ∀ c : Dev Cert.LnbIdeal.nD,
    (Cert.Pre_lnb_finite.fn (F := Ideal) (m ((c.tc : Thread Cert.LnbIdeal.nD Cert.LnbIdeal.τ).loc Cert.LnbIdeal.main_arg0)) (m ((c.tc : Thread Cert.LnbIdeal.nD Cert.LnbIdeal.τ).loc Cert.LnbIdeal.main_arg1)) (m ((c.tc : Thread Cert.LnbIdeal.nD Cert.LnbIdeal.τ).loc Cert.LnbIdeal.main_arg2))).1 = (fun _ => 1#1)
    ∧ (Cert.Pre_lnb_finite.fn (F := Ideal) (m ((c.tc : Thread Cert.LnbIdeal.nD Cert.LnbIdeal.τ).loc Cert.LnbIdeal.main_arg0)) (m ((c.tc : Thread Cert.LnbIdeal.nD Cert.LnbIdeal.τ).loc Cert.LnbIdeal.main_arg1)) (m ((c.tc : Thread Cert.LnbIdeal.nD Cert.LnbIdeal.τ).loc Cert.LnbIdeal.main_arg2))).2.1 = (fun _ => 1#1)
    ∧ (Cert.Pre_lnb_finite.fn (F := Ideal) (m ((c.tc : Thread Cert.LnbIdeal.nD Cert.LnbIdeal.τ).loc Cert.LnbIdeal.main_arg0)) (m ((c.tc : Thread Cert.LnbIdeal.nD Cert.LnbIdeal.τ).loc Cert.LnbIdeal.main_arg1)) (m ((c.tc : Thread Cert.LnbIdeal.nD Cert.LnbIdeal.τ).loc Cert.LnbIdeal.main_arg2))).2.2 = (fun _ => 1#1)

def Pre_LnbRefIdeal (m : (ℓ : Loc Cert.LnbRefIdeal.nD Cert.LnbRefIdeal.τ Cert.LnbRefIdeal.sig) → Buf (Elt Ideal) ℓ) : Prop :=
  True

def Pre_LnbRefIdeal_lnb_finite [hPre_lnb_finite : Cert.Pre_lnb_finite.Facts] (m : (ℓ : Loc Cert.LnbRefIdeal.nD Cert.LnbRefIdeal.τ Cert.LnbRefIdeal.sig) → Buf (Elt Ideal) ℓ) : Prop :=
  ∀ c : Dev Cert.LnbRefIdeal.nD,
    (Cert.Pre_lnb_finite.fn (F := Ideal) (m ((c.tc : Thread Cert.LnbRefIdeal.nD Cert.LnbRefIdeal.τ).loc Cert.LnbRefIdeal.main_arg0)) (m ((c.tc : Thread Cert.LnbRefIdeal.nD Cert.LnbRefIdeal.τ).loc Cert.LnbRefIdeal.main_arg1)) (m ((c.tc : Thread Cert.LnbRefIdeal.nD Cert.LnbRefIdeal.τ).loc Cert.LnbRefIdeal.main_arg2))).1 = (fun _ => 1#1)
    ∧ (Cert.Pre_lnb_finite.fn (F := Ideal) (m ((c.tc : Thread Cert.LnbRefIdeal.nD Cert.LnbRefIdeal.τ).loc Cert.LnbRefIdeal.main_arg0)) (m ((c.tc : Thread Cert.LnbRefIdeal.nD Cert.LnbRefIdeal.τ).loc Cert.LnbRefIdeal.main_arg1)) (m ((c.tc : Thread Cert.LnbRefIdeal.nD Cert.LnbRefIdeal.τ).loc Cert.LnbRefIdeal.main_arg2))).2.1 = (fun _ => 1#1)
    ∧ (Cert.Pre_lnb_finite.fn (F := Ideal) (m ((c.tc : Thread Cert.LnbRefIdeal.nD Cert.LnbRefIdeal.τ).loc Cert.LnbRefIdeal.main_arg0)) (m ((c.tc : Thread Cert.LnbRefIdeal.nD Cert.LnbRefIdeal.τ).loc Cert.LnbRefIdeal.main_arg1)) (m ((c.tc : Thread Cert.LnbRefIdeal.nD Cert.LnbRefIdeal.τ).loc Cert.LnbRefIdeal.main_arg2))).2.2 = (fun _ => 1#1)

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_RopeQRefIdeal (m : (ℓ : Loc Cert.RopeQRefIdeal.nD Cert.RopeQRefIdeal.τ Cert.RopeQRefIdeal.sig) → Buf (Elt Ideal) ℓ) : Prop :=
  True

def Pre_DLat (m : (ℓ : Loc Cert.DLat.nD Cert.DLat.τ Cert.DLat.sig) → Buf (Elt Bits) ℓ) : Prop :=
  True

def Pre_DLatIdeal (m : (ℓ : Loc Cert.DLatIdeal.nD Cert.DLatIdeal.τ Cert.DLatIdeal.sig) → Buf (Elt Ideal) ℓ) : Prop :=
  True

def Pre_DLatIdeal_dlat_finite [hPre_dlat_finite : Cert.Pre_dlat_finite.Facts] (m : (ℓ : Loc Cert.DLatIdeal.nD Cert.DLatIdeal.τ Cert.DLatIdeal.sig) → Buf (Elt Ideal) ℓ) : Prop :=
  ∀ c : Dev Cert.DLatIdeal.nD,
    (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).1 = (fun _ => 1#1)
    ∧ (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).2.1 = (fun _ => 1#1)
    ∧ (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).2.2.1 = (fun _ => 1#1)
    ∧ (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).2.2.2.1 = (fun _ => 1#1)
    ∧ (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).2.2.2.2.1 = (fun _ => 1#1)
    ∧ (Cert.Pre_dlat_finite.fn (F := Ideal) (m ((c.tc : Thread Cert.DLatIdeal.nD Cert.DLatIdeal.τ).loc Cert.DLatIdeal.main_arg0)) (m ((c.tc : Thread Cert.DLatIdeal.nD Cert.DLatIdeal.τ).loc Cert.DLatIdeal.main_arg1)) (m ((c.tc : Thread Cert.DLatIdeal.nD Cert.DLatIdeal.τ).loc Cert.DLatIdeal.main_arg2)) (m ((c.tc : Thread Cert.DLatIdeal.nD Cert.DLatIdeal.τ).loc Cert.DLatIdeal.main_arg3)) (m ((c.tc : Thread Cert.DLatIdeal.nD Cert.DLatIdeal.τ).loc Cert.DLatIdeal.main_arg4)) (m ((c.tc : Thread Cert.DLatIdeal.nD Cert.DLatIdeal.τ).loc Cert.DLatIdeal.main_arg5)) (m ((c.tc : Thread Cert.DLatIdeal.nD Cert.DLatIdeal.τ).loc Cert.DLatIdeal.main_arg6))).2.2.2.2.2 = (fun _ => 1#1)

def Pre_DLatRefIdeal (m : (ℓ : Loc Cert.DLatRefIdeal.nD Cert.DLatRefIdeal.τ Cert.DLatRefIdeal.sig) → Buf (Elt Ideal) ℓ) : Prop :=
  True

def Pre_DLatRefIdeal_dlat_finite [hPre_dlat_finite : Cert.Pre_dlat_finite.Facts] (m : (ℓ : Loc Cert.DLatRefIdeal.nD Cert.DLatRefIdeal.τ Cert.DLatRefIdeal.sig) → Buf (Elt Ideal) ℓ) : Prop :=
  ∀ c : Dev Cert.DLatRefIdeal.nD,
    (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).1 = (fun _ => 1#1)
    ∧ (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).2.1 = (fun _ => 1#1)
    ∧ (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).2.2.1 = (fun _ => 1#1)
    ∧ (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).2.2.2.1 = (fun _ => 1#1)
    ∧ (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).2.2.2.2.1 = (fun _ => 1#1)
    ∧ (Cert.Pre_dlat_finite.fn (F := Ideal) (m ((c.tc : Thread Cert.DLatRefIdeal.nD Cert.DLatRefIdeal.τ).loc Cert.DLatRefIdeal.main_arg0)) (m ((c.tc : Thread Cert.DLatRefIdeal.nD Cert.DLatRefIdeal.τ).loc Cert.DLatRefIdeal.main_arg1)) (m ((c.tc : Thread Cert.DLatRefIdeal.nD Cert.DLatRefIdeal.τ).loc Cert.DLatRefIdeal.main_arg2)) (m ((c.tc : Thread Cert.DLatRefIdeal.nD Cert.DLatRefIdeal.τ).loc Cert.DLatRefIdeal.main_arg3)) (m ((c.tc : Thread Cert.DLatRefIdeal.nD Cert.DLatRefIdeal.τ).loc Cert.DLatRefIdeal.main_arg4)) (m ((c.tc : Thread Cert.DLatRefIdeal.nD Cert.DLatRefIdeal.τ).loc Cert.DLatRefIdeal.main_arg5)) (m ((c.tc : Thread Cert.DLatRefIdeal.nD Cert.DLatRefIdeal.τ).loc Cert.DLatRefIdeal.main_arg6))).2.2.2.2.2 = (fun _ => 1#1)

def Pre_FfnDA (m : (ℓ : Loc Cert.FfnDA.nD Cert.FfnDA.τ Cert.FfnDA.sig) → Buf (Elt Bits) ℓ) : Prop :=
  True

def Pre_FfnDAIdeal (m : (ℓ : Loc Cert.FfnDAIdeal.nD Cert.FfnDAIdeal.τ Cert.FfnDAIdeal.sig) → Buf (Elt Ideal) ℓ) : Prop :=
  True

def Pre_FfnDAIdeal_ffnda_finite [hPre_ffnda_finite : Cert.Pre_ffnda_finite.Facts] (m : (ℓ : Loc Cert.FfnDAIdeal.nD Cert.FfnDAIdeal.τ Cert.FfnDAIdeal.sig) → Buf (Elt Ideal) ℓ) : Prop :=
  ∀ c : Dev Cert.FfnDAIdeal.nD,
    (Cert.Pre_ffnda_finite.fn (F := Ideal) (m ((c.tc : Thread Cert.FfnDAIdeal.nD Cert.FfnDAIdeal.τ).loc Cert.FfnDAIdeal.main_arg0)) (m ((c.tc : Thread Cert.FfnDAIdeal.nD Cert.FfnDAIdeal.τ).loc Cert.FfnDAIdeal.main_arg1)) (m ((c.tc : Thread Cert.FfnDAIdeal.nD Cert.FfnDAIdeal.τ).loc Cert.FfnDAIdeal.main_arg2)) (m ((c.tc : Thread Cert.FfnDAIdeal.nD Cert.FfnDAIdeal.τ).loc Cert.FfnDAIdeal.main_arg3))).1 = (fun _ => 1#1)
    ∧ (Cert.Pre_ffnda_finite.fn (F := Ideal) (m ((c.tc : Thread Cert.FfnDAIdeal.nD Cert.FfnDAIdeal.τ).loc Cert.FfnDAIdeal.main_arg0)) (m ((c.tc : Thread Cert.FfnDAIdeal.nD Cert.FfnDAIdeal.τ).loc Cert.FfnDAIdeal.main_arg1)) (m ((c.tc : Thread Cert.FfnDAIdeal.nD Cert.FfnDAIdeal.τ).loc Cert.FfnDAIdeal.main_arg2)) (m ((c.tc : Thread Cert.FfnDAIdeal.nD Cert.FfnDAIdeal.τ).loc Cert.FfnDAIdeal.main_arg3))).2.1 = (fun _ => 1#1)
    ∧ (Cert.Pre_ffnda_finite.fn (F := Ideal) (m ((c.tc : Thread Cert.FfnDAIdeal.nD Cert.FfnDAIdeal.τ).loc Cert.FfnDAIdeal.main_arg0)) (m ((c.tc : Thread Cert.FfnDAIdeal.nD Cert.FfnDAIdeal.τ).loc Cert.FfnDAIdeal.main_arg1)) (m ((c.tc : Thread Cert.FfnDAIdeal.nD Cert.FfnDAIdeal.τ).loc Cert.FfnDAIdeal.main_arg2)) (m ((c.tc : Thread Cert.FfnDAIdeal.nD Cert.FfnDAIdeal.τ).loc Cert.FfnDAIdeal.main_arg3))).2.2 = (fun _ => 1#1)

def Pre_FfnDARefIdeal (m : (ℓ : Loc Cert.FfnDARefIdeal.nD Cert.FfnDARefIdeal.τ Cert.FfnDARefIdeal.sig) → Buf (Elt Ideal) ℓ) : Prop :=
  True

def Pre_FfnDARefIdeal_ffnda_finite [hPre_ffnda_finite : Cert.Pre_ffnda_finite.Facts] (m : (ℓ : Loc Cert.FfnDARefIdeal.nD Cert.FfnDARefIdeal.τ Cert.FfnDARefIdeal.sig) → Buf (Elt Ideal) ℓ) : Prop :=
  ∀ c : Dev Cert.FfnDARefIdeal.nD,
    (Cert.Pre_ffnda_finite.fn (F := Ideal) (m ((c.tc : Thread Cert.FfnDARefIdeal.nD Cert.FfnDARefIdeal.τ).loc Cert.FfnDARefIdeal.main_arg0)) (m ((c.tc : Thread Cert.FfnDARefIdeal.nD Cert.FfnDARefIdeal.τ).loc Cert.FfnDARefIdeal.main_arg1)) (m ((c.tc : Thread Cert.FfnDARefIdeal.nD Cert.FfnDARefIdeal.τ).loc Cert.FfnDARefIdeal.main_arg2)) (m ((c.tc : Thread Cert.FfnDARefIdeal.nD Cert.FfnDARefIdeal.τ).loc Cert.FfnDARefIdeal.main_arg3))).1 = (fun _ => 1#1)
    ∧ (Cert.Pre_ffnda_finite.fn (F := Ideal) (m ((c.tc : Thread Cert.FfnDARefIdeal.nD Cert.FfnDARefIdeal.τ).loc Cert.FfnDARefIdeal.main_arg0)) (m ((c.tc : Thread Cert.FfnDARefIdeal.nD Cert.FfnDARefIdeal.τ).loc Cert.FfnDARefIdeal.main_arg1)) (m ((c.tc : Thread Cert.FfnDARefIdeal.nD Cert.FfnDARefIdeal.τ).loc Cert.FfnDARefIdeal.main_arg2)) (m ((c.tc : Thread Cert.FfnDARefIdeal.nD Cert.FfnDARefIdeal.τ).loc Cert.FfnDARefIdeal.main_arg3))).2.1 = (fun _ => 1#1)
    ∧ (Cert.Pre_ffnda_finite.fn (F := Ideal) (m ((c.tc : Thread Cert.FfnDARefIdeal.nD Cert.FfnDARefIdeal.τ).loc Cert.FfnDARefIdeal.main_arg0)) (m ((c.tc : Thread Cert.FfnDARefIdeal.nD Cert.FfnDARefIdeal.τ).loc Cert.FfnDARefIdeal.main_arg1)) (m ((c.tc : Thread Cert.FfnDARefIdeal.nD Cert.FfnDARefIdeal.τ).loc Cert.FfnDARefIdeal.main_arg2)) (m ((c.tc : Thread Cert.FfnDARefIdeal.nD Cert.FfnDARefIdeal.τ).loc Cert.FfnDARefIdeal.main_arg3))).2.2 = (fun _ => 1#1)

def Pre_RopeKV (m : (ℓ : Loc Cert.RopeKV.nD Cert.RopeKV.τ Cert.RopeKV.sig) → Buf (Elt Bits) ℓ) : Prop :=
  True

def Pre_RopeKVIdeal (m : (ℓ : Loc Cert.RopeKVIdeal.nD Cert.RopeKVIdeal.τ Cert.RopeKVIdeal.sig) → Buf (Elt Ideal) ℓ) : Prop :=
  True

def Pre_RopeKVIdeal_ropekv_finite [hPre_ropekv_finite : Cert.Pre_ropekv_finite.Facts] (m : (ℓ : Loc Cert.RopeKVIdeal.nD Cert.RopeKVIdeal.τ Cert.RopeKVIdeal.sig) → Buf (Elt Ideal) ℓ) : Prop :=
  ∀ c : Dev Cert.RopeKVIdeal.nD,
    (Cert.Pre_ropekv_finite.fn (F := Ideal) (m ((c.tc : Thread Cert.RopeKVIdeal.nD Cert.RopeKVIdeal.τ).loc Cert.RopeKVIdeal.main_arg0)) (m ((c.tc : Thread Cert.RopeKVIdeal.nD Cert.RopeKVIdeal.τ).loc Cert.RopeKVIdeal.main_arg1)) (m ((c.tc : Thread Cert.RopeKVIdeal.nD Cert.RopeKVIdeal.τ).loc Cert.RopeKVIdeal.main_arg2))) = (fun _ => 1#1)

def Pre_RopeKVRefIdeal (m : (ℓ : Loc Cert.RopeKVRefIdeal.nD Cert.RopeKVRefIdeal.τ Cert.RopeKVRefIdeal.sig) → Buf (Elt Ideal) ℓ) : Prop :=
  True

def Pre_RopeKVRefIdeal_ropekv_finite [hPre_ropekv_finite : Cert.Pre_ropekv_finite.Facts] (m : (ℓ : Loc Cert.RopeKVRefIdeal.nD Cert.RopeKVRefIdeal.τ Cert.RopeKVRefIdeal.sig) → Buf (Elt Ideal) ℓ) : Prop :=
  ∀ c : Dev Cert.RopeKVRefIdeal.nD,
    (Cert.Pre_ropekv_finite.fn (F := Ideal) (m ((c.tc : Thread Cert.RopeKVRefIdeal.nD Cert.RopeKVRefIdeal.τ).loc Cert.RopeKVRefIdeal.main_arg0)) (m ((c.tc : Thread Cert.RopeKVRefIdeal.nD Cert.RopeKVRefIdeal.τ).loc Cert.RopeKVRefIdeal.main_arg1)) (m ((c.tc : Thread Cert.RopeKVRefIdeal.nD Cert.RopeKVRefIdeal.τ).loc Cert.RopeKVRefIdeal.main_arg2))) = (fun _ => 1#1)

def Pre_HgDog (m : (ℓ : Loc Cert.HgDog.nD Cert.HgDog.τ Cert.HgDog.sig) → Buf (Elt Bits) ℓ) : Prop :=
  True

def Pre_HgDogIdeal (m : (ℓ : Loc Cert.HgDogIdeal.nD Cert.HgDogIdeal.τ Cert.HgDogIdeal.sig) → Buf (Elt Ideal) ℓ) : Prop :=
  True

def Pre_HgDogIdeal_hgdog_finite [hPre_hgdog_finite : Cert.Pre_hgdog_finite.Facts] (m : (ℓ : Loc Cert.HgDogIdeal.nD Cert.HgDogIdeal.τ Cert.HgDogIdeal.sig) → Buf (Elt Ideal) ℓ) : Prop :=
  ∀ c : Dev Cert.HgDogIdeal.nD,
    (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).1 = (fun _ => 1#1)
    ∧ (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).2.1 = (fun _ => 1#1)
    ∧ (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).2.2.1 = (fun _ => 1#1)
    ∧ (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).2.2.2.1 = (fun _ => 1#1)
    ∧ (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).2.2.2.2.1 = (fun _ => 1#1)
    ∧ (Cert.Pre_hgdog_finite.fn (F := Ideal) (m ((c.tc : Thread Cert.HgDogIdeal.nD Cert.HgDogIdeal.τ).loc Cert.HgDogIdeal.main_arg0)) (m ((c.tc : Thread Cert.HgDogIdeal.nD Cert.HgDogIdeal.τ).loc Cert.HgDogIdeal.main_arg1)) (m ((c.tc : Thread Cert.HgDogIdeal.nD Cert.HgDogIdeal.τ).loc Cert.HgDogIdeal.main_arg2)) (m ((c.tc : Thread Cert.HgDogIdeal.nD Cert.HgDogIdeal.τ).loc Cert.HgDogIdeal.main_arg3)) (m ((c.tc : Thread Cert.HgDogIdeal.nD Cert.HgDogIdeal.τ).loc Cert.HgDogIdeal.main_arg4)) (m ((c.tc : Thread Cert.HgDogIdeal.nD Cert.HgDogIdeal.τ).loc Cert.HgDogIdeal.main_arg5))).2.2.2.2.2 = (fun _ => 1#1)

def Pre_HgDogRefIdeal (m : (ℓ : Loc Cert.HgDogRefIdeal.nD Cert.HgDogRefIdeal.τ Cert.HgDogRefIdeal.sig) → Buf (Elt Ideal) ℓ) : Prop :=
  True

def Pre_HgDogRefIdeal_hgdog_finite [hPre_hgdog_finite : Cert.Pre_hgdog_finite.Facts] (m : (ℓ : Loc Cert.HgDogRefIdeal.nD Cert.HgDogRefIdeal.τ Cert.HgDogRefIdeal.sig) → Buf (Elt Ideal) ℓ) : Prop :=
  ∀ c : Dev Cert.HgDogRefIdeal.nD,
    (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).1 = (fun _ => 1#1)
    ∧ (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).2.1 = (fun _ => 1#1)
    ∧ (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).2.2.1 = (fun _ => 1#1)
    ∧ (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).2.2.2.1 = (fun _ => 1#1)
    ∧ (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).2.2.2.2.1 = (fun _ => 1#1)
    ∧ (Cert.Pre_hgdog_finite.fn (F := Ideal) (m ((c.tc : Thread Cert.HgDogRefIdeal.nD Cert.HgDogRefIdeal.τ).loc Cert.HgDogRefIdeal.main_arg0)) (m ((c.tc : Thread Cert.HgDogRefIdeal.nD Cert.HgDogRefIdeal.τ).loc Cert.HgDogRefIdeal.main_arg1)) (m ((c.tc : Thread Cert.HgDogRefIdeal.nD Cert.HgDogRefIdeal.τ).loc Cert.HgDogRefIdeal.main_arg2)) (m ((c.tc : Thread Cert.HgDogRefIdeal.nD Cert.HgDogRefIdeal.τ).loc Cert.HgDogRefIdeal.main_arg3)) (m ((c.tc : Thread Cert.HgDogRefIdeal.nD Cert.HgDogRefIdeal.τ).loc Cert.HgDogRefIdeal.main_arg4)) (m ((c.tc : Thread Cert.HgDogRefIdeal.nD Cert.HgDogRefIdeal.τ).loc Cert.HgDogRefIdeal.main_arg5))).2.2.2.2.2 = (fun _ => 1#1)

def Pre_S5Glu (m : (ℓ : Loc Cert.S5Glu.nD Cert.S5Glu.τ Cert.S5Glu.sig) → Buf (Elt Bits) ℓ) : Prop :=
  True

def Pre_S5GluIdeal (m : (ℓ : Loc Cert.S5GluIdeal.nD Cert.S5GluIdeal.τ Cert.S5GluIdeal.sig) → Buf (Elt Ideal) ℓ) : Prop :=
  True

def Pre_S5GluRefIdeal (m : (ℓ : Loc Cert.S5GluRefIdeal.nD Cert.S5GluRefIdeal.τ Cert.S5GluRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InDX (m : (ℓ : Loc Cert.InDX.nD Cert.InDX.τ Cert.InDX.sig) → Buf (Elt Bits) ℓ) : Prop :=
  True

def Pre_InDXIdeal (m : (ℓ : Loc Cert.InDXIdeal.nD Cert.InDXIdeal.τ Cert.InDXIdeal.sig) → Buf (Elt Ideal) ℓ) : Prop :=
  True

def Pre_InDXRefIdeal (m : (ℓ : Loc Cert.InDXRefIdeal.nD Cert.InDXRefIdeal.τ Cert.InDXRefIdeal.sig) → Buf (Elt Ideal) ℓ) : Prop :=
  True

def Pre_OutLN (m : (ℓ : Loc Cert.OutLN.nD Cert.OutLN.τ Cert.OutLN.sig) → Buf (Elt Bits) ℓ) : Prop :=
  True

def Pre_OutLNIdeal (m : (ℓ : Loc Cert.OutLNIdeal.nD Cert.OutLNIdeal.τ Cert.OutLNIdeal.sig) → Buf (Elt Ideal) ℓ) : Prop :=
  True

def Pre_OutLNRefIdeal (m : (ℓ : Loc Cert.OutLNRefIdeal.nD Cert.OutLNRefIdeal.τ Cert.OutLNRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Lnb [hLnb : Cert.Lnb.Facts] : Prop :=
  ∀ (m : (ℓ : Loc Cert.Lnb.nD Cert.Lnb.τ Cert.Lnb.sig) → Buf (Elt Bits) ℓ) (g : Dev Cert.Lnb.nD → PrngReg), Pre_Lnb m →
    θ_run (Cert.Lnb.defs (F := Bits)) (onTc (τ := Cert.Lnb.τ) (Cert.Lnb.main (F := Bits))) ⟨m, fun _ => 0, g⟩ (fun r => (∀ c : Dev Cert.Lnb.nD,
      r.2.mem ((c.tc : Thread Cert.Lnb.nD Cert.Lnb.τ).loc Cert.Lnb.main_arg0) = m ((c.tc : Thread Cert.Lnb.nD Cert.Lnb.τ).loc Cert.Lnb.main_arg0)
      ∧ r.2.mem ((c.tc : Thread Cert.Lnb.nD Cert.Lnb.τ).loc Cert.Lnb.main_arg1) = m ((c.tc : Thread Cert.Lnb.nD Cert.Lnb.τ).loc Cert.Lnb.main_arg1)
      ∧ r.2.mem ((c.tc : Thread Cert.Lnb.nD Cert.Lnb.τ).loc Cert.Lnb.main_arg2) = m ((c.tc : Thread Cert.Lnb.nD Cert.Lnb.τ).loc Cert.Lnb.main_arg2))
      ∧ r.2.sem = fun _ => 0)

def quiescent_LnbIdeal [hLnbIdeal : Cert.LnbIdeal.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2))
      ∧ r.2.sem = fun _ => 0)

def quiescent_LnbIdeal_pre_lnb_finite [hLnbIdeal : Cert.LnbIdeal.Facts] [hPre_lnb_finite : Cert.Pre_lnb_finite.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal_lnb_finite m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2))
      ∧ r.2.sem = fun _ => 0)

def quiescent_LnbRefIdeal [hLnbRefIdeal : Cert.LnbRefIdeal.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2))
      ∧ r.2.sem = fun _ => 0)

def quiescent_LnbRefIdeal_pre_lnb_finite [hLnbRefIdeal : Cert.LnbRefIdeal.Facts] [hPre_lnb_finite : Cert.Pre_lnb_finite.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal_lnb_finite m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0)
      ∧ r.2.mem ((c.tc : Thread Cert.RopeQ.nD Cert.RopeQ.τ).loc Cert.RopeQ.main_arg1) = m ((c.tc : Thread Cert.RopeQ.nD Cert.RopeQ.τ).loc Cert.RopeQ.main_arg1)
      ∧ r.2.mem ((c.tc : Thread Cert.RopeQ.nD Cert.RopeQ.τ).loc Cert.RopeQ.main_arg2) = m ((c.tc : Thread Cert.RopeQ.nD Cert.RopeQ.τ).loc Cert.RopeQ.main_arg2))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
      ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
      ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ r.2.sem = fun _ => 0)

def quiescent_RopeQRefIdeal [hRopeQRefIdeal : Cert.RopeQRefIdeal.Facts] : Prop :=
  ∀ (m : (ℓ : Loc Cert.RopeQRefIdeal.nD Cert.RopeQRefIdeal.τ Cert.RopeQRefIdeal.sig) → Buf (Elt Ideal) ℓ) (g : Dev Cert.RopeQRefIdeal.nD → PrngReg), Pre_RopeQRefIdeal m →
    θ_run (Cert.RopeQRefIdeal.defs (F := Ideal)) (onTc (τ := Cert.RopeQRefIdeal.τ) (Cert.RopeQRefIdeal.main (F := Ideal))) ⟨m, fun _ => 0, g⟩ (fun r => (∀ c : Dev Cert.RopeQRefIdeal.nD,
      r.2.mem ((c.tc : Thread Cert.RopeQRefIdeal.nD Cert.RopeQRefIdeal.τ).loc Cert.RopeQRefIdeal.main_arg0) = m ((c.tc : Thread Cert.RopeQRefIdeal.nD Cert.RopeQRefIdeal.τ).loc Cert.RopeQRefIdeal.main_arg0)
      ∧ r.2.mem ((c.tc : Thread Cert.RopeQRefIdeal.nD Cert.RopeQRefIdeal.τ).loc Cert.RopeQRefIdeal.main_arg1) = m ((c.tc : Thread Cert.RopeQRefIdeal.nD Cert.RopeQRefIdeal.τ).loc Cert.RopeQRefIdeal.main_arg1)
      ∧ r.2.mem ((c.tc : Thread Cert.RopeQRefIdeal.nD Cert.RopeQRefIdeal.τ).loc Cert.RopeQRefIdeal.main_arg2) = m ((c.tc : Thread Cert.RopeQRefIdeal.nD Cert.RopeQRefIdeal.τ).loc Cert.RopeQRefIdeal.main_arg2))
      ∧ r.2.sem = fun _ => 0)

def quiescent_DLat [hDLat : Cert.DLat.Facts] : Prop :=
  ∀ (m : (ℓ : Loc Cert.DLat.nD Cert.DLat.τ Cert.DLat.sig) → Buf (Elt Bits) ℓ) (g : Dev Cert.DLat.nD → PrngReg), Pre_DLat m →
    θ_run (Cert.DLat.defs (F := Bits)) (onTc (τ := Cert.DLat.τ) (Cert.DLat.main (F := Bits))) ⟨m, fun _ => 0, g⟩ (fun r => (∀ c : Dev Cert.DLat.nD,
      r.2.mem ((c.tc : Thread Cert.DLat.nD Cert.DLat.τ).loc Cert.DLat.main_arg0) = m ((c.tc : Thread Cert.DLat.nD Cert.DLat.τ).loc Cert.DLat.main_arg0)
      ∧ r.2.mem ((c.tc : Thread Cert.DLat.nD Cert.DLat.τ).loc Cert.DLat.main_arg1) = m ((c.tc : Thread Cert.DLat.nD Cert.DLat.τ).loc Cert.DLat.main_arg1)
      ∧ r.2.mem ((c.tc : Thread Cert.DLat.nD Cert.DLat.τ).loc Cert.DLat.main_arg2) = m ((c.tc : Thread Cert.DLat.nD Cert.DLat.τ).loc Cert.DLat.main_arg2)
      ∧ r.2.mem ((c.tc : Thread Cert.DLat.nD Cert.DLat.τ).loc Cert.DLat.main_arg3) = m ((c.tc : Thread Cert.DLat.nD Cert.DLat.τ).loc Cert.DLat.main_arg3)
      ∧ r.2.mem ((c.tc : Thread Cert.DLat.nD Cert.DLat.τ).loc Cert.DLat.main_arg4) = m ((c.tc : Thread Cert.DLat.nD Cert.DLat.τ).loc Cert.DLat.main_arg4)
      ∧ r.2.mem ((c.tc : Thread Cert.DLat.nD Cert.DLat.τ).loc Cert.DLat.main_arg5) = m ((c.tc : Thread Cert.DLat.nD Cert.DLat.τ).loc Cert.DLat.main_arg5)
      ∧ r.2.mem ((c.tc : Thread Cert.DLat.nD Cert.DLat.τ).loc Cert.DLat.main_arg6) = m ((c.tc : Thread Cert.DLat.nD Cert.DLat.τ).loc Cert.DLat.main_arg6))
      ∧ r.2.sem = fun _ => 0)

def quiescent_DLatIdeal [hDLatIdeal : Cert.DLatIdeal.Facts] : Prop :=
  ∀ (m : (ℓ : Loc Cert.DLatIdeal.nD Cert.DLatIdeal.τ Cert.DLatIdeal.sig) → Buf (Elt Ideal) ℓ) (g : Dev Cert.DLatIdeal.nD → PrngReg), Pre_DLatIdeal m →
    θ_run (Cert.DLatIdeal.defs (F := Ideal)) (onTc (τ := Cert.DLatIdeal.τ) (Cert.DLatIdeal.main (F := Ideal))) ⟨m, fun _ => 0, g⟩ (fun r => (∀ c : Dev Cert.DLatIdeal.nD,
      r.2.mem ((c.tc : Thread Cert.DLatIdeal.nD Cert.DLatIdeal.τ).loc Cert.DLatIdeal.main_arg0) = m ((c.tc : Thread Cert.DLatIdeal.nD Cert.DLatIdeal.τ).loc Cert.DLatIdeal.main_arg0)
      ∧ r.2.mem ((c.tc : Thread Cert.DLatIdeal.nD Cert.DLatIdeal.τ).loc Cert.DLatIdeal.main_arg1) = m ((c.tc : Thread Cert.DLatIdeal.nD Cert.DLatIdeal.τ).loc Cert.DLatIdeal.main_arg1)
      ∧ r.2.mem ((c.tc : Thread Cert.DLatIdeal.nD Cert.DLatIdeal.τ).loc Cert.DLatIdeal.main_arg2) = m ((c.tc : Thread Cert.DLatIdeal.nD Cert.DLatIdeal.τ).loc Cert.DLatIdeal.main_arg2)
      ∧ r.2.mem ((c.tc : Thread Cert.DLatIdeal.nD Cert.DLatIdeal.τ).loc Cert.DLatIdeal.main_arg3) = m ((c.tc : Thread Cert.DLatIdeal.nD Cert.DLatIdeal.τ).loc Cert.DLatIdeal.main_arg3)
      ∧ r.2.mem ((c.tc : Thread Cert.DLatIdeal.nD Cert.DLatIdeal.τ).loc Cert.DLatIdeal.main_arg4) = m ((c.tc : Thread Cert.DLatIdeal.nD Cert.DLatIdeal.τ).loc Cert.DLatIdeal.main_arg4)
      ∧ r.2.mem ((c.tc : Thread Cert.DLatIdeal.nD Cert.DLatIdeal.τ).loc Cert.DLatIdeal.main_arg5) = m ((c.tc : Thread Cert.DLatIdeal.nD Cert.DLatIdeal.τ).loc Cert.DLatIdeal.main_arg5)
      ∧ r.2.mem ((c.tc : Thread Cert.DLatIdeal.nD Cert.DLatIdeal.τ).loc Cert.DLatIdeal.main_arg6) = m ((c.tc : Thread Cert.DLatIdeal.nD Cert.DLatIdeal.τ).loc Cert.DLatIdeal.main_arg6))
      ∧ r.2.sem = fun _ => 0)

def quiescent_DLatIdeal_pre_dlat_finite [hDLatIdeal : Cert.DLatIdeal.Facts] [hPre_dlat_finite : Cert.Pre_dlat_finite.Facts] : Prop :=
  ∀ (m : (ℓ : Loc Cert.DLatIdeal.nD Cert.DLatIdeal.τ Cert.DLatIdeal.sig) → Buf (Elt Ideal) ℓ) (g : Dev Cert.DLatIdeal.nD → PrngReg), Pre_DLatIdeal_dlat_finite m →
    θ_run (Cert.DLatIdeal.defs (F := Ideal)) (onTc (τ := Cert.DLatIdeal.τ) (Cert.DLatIdeal.main (F := Ideal))) ⟨m, fun _ => 0, g⟩ (fun r => (∀ c : Dev Cert.DLatIdeal.nD,
      r.2.mem ((c.tc : Thread Cert.DLatIdeal.nD Cert.DLatIdeal.τ).loc Cert.DLatIdeal.main_arg0) = m ((c.tc : Thread Cert.DLatIdeal.nD Cert.DLatIdeal.τ).loc Cert.DLatIdeal.main_arg0)
      ∧ r.2.mem ((c.tc : Thread Cert.DLatIdeal.nD Cert.DLatIdeal.τ).loc Cert.DLatIdeal.main_arg1) = m ((c.tc : Thread Cert.DLatIdeal.nD Cert.DLatIdeal.τ).loc Cert.DLatIdeal.main_arg1)
      ∧ r.2.mem ((c.tc : Thread Cert.DLatIdeal.nD Cert.DLatIdeal.τ).loc Cert.DLatIdeal.main_arg2) = m ((c.tc : Thread Cert.DLatIdeal.nD Cert.DLatIdeal.τ).loc Cert.DLatIdeal.main_arg2)
      ∧ r.2.mem ((c.tc : Thread Cert.DLatIdeal.nD Cert.DLatIdeal.τ).loc Cert.DLatIdeal.main_arg3) = m ((c.tc : Thread Cert.DLatIdeal.nD Cert.DLatIdeal.τ).loc Cert.DLatIdeal.main_arg3)
      ∧ r.2.mem ((c.tc : Thread Cert.DLatIdeal.nD Cert.DLatIdeal.τ).loc Cert.DLatIdeal.main_arg4) = m ((c.tc : Thread Cert.DLatIdeal.nD Cert.DLatIdeal.τ).loc Cert.DLatIdeal.main_arg4)
      ∧ r.2.mem ((c.tc : Thread Cert.DLatIdeal.nD Cert.DLatIdeal.τ).loc Cert.DLatIdeal.main_arg5) = m ((c.tc : Thread Cert.DLatIdeal.nD Cert.DLatIdeal.τ).loc Cert.DLatIdeal.main_arg5)
      ∧ r.2.mem ((c.tc : Thread Cert.DLatIdeal.nD Cert.DLatIdeal.τ).loc Cert.DLatIdeal.main_arg6) = m ((c.tc : Thread Cert.DLatIdeal.nD Cert.DLatIdeal.τ).loc Cert.DLatIdeal.main_arg6))
      ∧ r.2.sem = fun _ => 0)

def quiescent_DLatRefIdeal [hDLatRefIdeal : Cert.DLatRefIdeal.Facts] : Prop :=
  ∀ (m : (ℓ : Loc Cert.DLatRefIdeal.nD Cert.DLatRefIdeal.τ Cert.DLatRefIdeal.sig) → Buf (Elt Ideal) ℓ) (g : Dev Cert.DLatRefIdeal.nD → PrngReg), Pre_DLatRefIdeal m →
    θ_run (Cert.DLatRefIdeal.defs (F := Ideal)) (onTc (τ := Cert.DLatRefIdeal.τ) (Cert.DLatRefIdeal.main (F := Ideal))) ⟨m, fun _ => 0, g⟩ (fun r => (∀ c : Dev Cert.DLatRefIdeal.nD,
      r.2.mem ((c.tc : Thread Cert.DLatRefIdeal.nD Cert.DLatRefIdeal.τ).loc Cert.DLatRefIdeal.main_arg0) = m ((c.tc : Thread Cert.DLatRefIdeal.nD Cert.DLatRefIdeal.τ).loc Cert.DLatRefIdeal.main_arg0)
      ∧ r.2.mem ((c.tc : Thread Cert.DLatRefIdeal.nD Cert.DLatRefIdeal.τ).loc Cert.DLatRefIdeal.main_arg1) = m ((c.tc : Thread Cert.DLatRefIdeal.nD Cert.DLatRefIdeal.τ).loc Cert.DLatRefIdeal.main_arg1)
      ∧ r.2.mem ((c.tc : Thread Cert.DLatRefIdeal.nD Cert.DLatRefIdeal.τ).loc Cert.DLatRefIdeal.main_arg2) = m ((c.tc : Thread Cert.DLatRefIdeal.nD Cert.DLatRefIdeal.τ).loc Cert.DLatRefIdeal.main_arg2)
      ∧ r.2.mem ((c.tc : Thread Cert.DLatRefIdeal.nD Cert.DLatRefIdeal.τ).loc Cert.DLatRefIdeal.main_arg3) = m ((c.tc : Thread Cert.DLatRefIdeal.nD Cert.DLatRefIdeal.τ).loc Cert.DLatRefIdeal.main_arg3)
      ∧ r.2.mem ((c.tc : Thread Cert.DLatRefIdeal.nD Cert.DLatRefIdeal.τ).loc Cert.DLatRefIdeal.main_arg4) = m ((c.tc : Thread Cert.DLatRefIdeal.nD Cert.DLatRefIdeal.τ).loc Cert.DLatRefIdeal.main_arg4)
      ∧ r.2.mem ((c.tc : Thread Cert.DLatRefIdeal.nD Cert.DLatRefIdeal.τ).loc Cert.DLatRefIdeal.main_arg5) = m ((c.tc : Thread Cert.DLatRefIdeal.nD Cert.DLatRefIdeal.τ).loc Cert.DLatRefIdeal.main_arg5)
      ∧ r.2.mem ((c.tc : Thread Cert.DLatRefIdeal.nD Cert.DLatRefIdeal.τ).loc Cert.DLatRefIdeal.main_arg6) = m ((c.tc : Thread Cert.DLatRefIdeal.nD Cert.DLatRefIdeal.τ).loc Cert.DLatRefIdeal.main_arg6))
      ∧ r.2.sem = fun _ => 0)

def quiescent_DLatRefIdeal_pre_dlat_finite [hDLatRefIdeal : Cert.DLatRefIdeal.Facts] [hPre_dlat_finite : Cert.Pre_dlat_finite.Facts] : Prop :=
  ∀ (m : (ℓ : Loc Cert.DLatRefIdeal.nD Cert.DLatRefIdeal.τ Cert.DLatRefIdeal.sig) → Buf (Elt Ideal) ℓ) (g : Dev Cert.DLatRefIdeal.nD → PrngReg), Pre_DLatRefIdeal_dlat_finite m →
    θ_run (Cert.DLatRefIdeal.defs (F := Ideal)) (onTc (τ := Cert.DLatRefIdeal.τ) (Cert.DLatRefIdeal.main (F := Ideal))) ⟨m, fun _ => 0, g⟩ (fun r => (∀ c : Dev Cert.DLatRefIdeal.nD,
      r.2.mem ((c.tc : Thread Cert.DLatRefIdeal.nD Cert.DLatRefIdeal.τ).loc Cert.DLatRefIdeal.main_arg0) = m ((c.tc : Thread Cert.DLatRefIdeal.nD Cert.DLatRefIdeal.τ).loc Cert.DLatRefIdeal.main_arg0)
      ∧ r.2.mem ((c.tc : Thread Cert.DLatRefIdeal.nD Cert.DLatRefIdeal.τ).loc Cert.DLatRefIdeal.main_arg1) = m ((c.tc : Thread Cert.DLatRefIdeal.nD Cert.DLatRefIdeal.τ).loc Cert.DLatRefIdeal.main_arg1)
      ∧ r.2.mem ((c.tc : Thread Cert.DLatRefIdeal.nD Cert.DLatRefIdeal.τ).loc Cert.DLatRefIdeal.main_arg2) = m ((c.tc : Thread Cert.DLatRefIdeal.nD Cert.DLatRefIdeal.τ).loc Cert.DLatRefIdeal.main_arg2)
      ∧ r.2.mem ((c.tc : Thread Cert.DLatRefIdeal.nD Cert.DLatRefIdeal.τ).loc Cert.DLatRefIdeal.main_arg3) = m ((c.tc : Thread Cert.DLatRefIdeal.nD Cert.DLatRefIdeal.τ).loc Cert.DLatRefIdeal.main_arg3)
      ∧ r.2.mem ((c.tc : Thread Cert.DLatRefIdeal.nD Cert.DLatRefIdeal.τ).loc Cert.DLatRefIdeal.main_arg4) = m ((c.tc : Thread Cert.DLatRefIdeal.nD Cert.DLatRefIdeal.τ).loc Cert.DLatRefIdeal.main_arg4)
      ∧ r.2.mem ((c.tc : Thread Cert.DLatRefIdeal.nD Cert.DLatRefIdeal.τ).loc Cert.DLatRefIdeal.main_arg5) = m ((c.tc : Thread Cert.DLatRefIdeal.nD Cert.DLatRefIdeal.τ).loc Cert.DLatRefIdeal.main_arg5)
      ∧ r.2.mem ((c.tc : Thread Cert.DLatRefIdeal.nD Cert.DLatRefIdeal.τ).loc Cert.DLatRefIdeal.main_arg6) = m ((c.tc : Thread Cert.DLatRefIdeal.nD Cert.DLatRefIdeal.τ).loc Cert.DLatRefIdeal.main_arg6))
      ∧ r.2.sem = fun _ => 0)

def quiescent_FfnDA [hFfnDA : Cert.FfnDA.Facts] : Prop :=
  ∀ (m : (ℓ : Loc Cert.FfnDA.nD Cert.FfnDA.τ Cert.FfnDA.sig) → Buf (Elt Bits) ℓ) (g : Dev Cert.FfnDA.nD → PrngReg), Pre_FfnDA m →
    θ_run (Cert.FfnDA.defs (F := Bits)) (onTc (τ := Cert.FfnDA.τ) (Cert.FfnDA.main (F := Bits))) ⟨m, fun _ => 0, g⟩ (fun r => (∀ c : Dev Cert.FfnDA.nD,
      r.2.mem ((c.tc : Thread Cert.FfnDA.nD Cert.FfnDA.τ).loc Cert.FfnDA.main_arg0) = m ((c.tc : Thread Cert.FfnDA.nD Cert.FfnDA.τ).loc Cert.FfnDA.main_arg0)
      ∧ r.2.mem ((c.tc : Thread Cert.FfnDA.nD Cert.FfnDA.τ).loc Cert.FfnDA.main_arg1) = m ((c.tc : Thread Cert.FfnDA.nD Cert.FfnDA.τ).loc Cert.FfnDA.main_arg1)
      ∧ r.2.mem ((c.tc : Thread Cert.FfnDA.nD Cert.FfnDA.τ).loc Cert.FfnDA.main_arg2) = m ((c.tc : Thread Cert.FfnDA.nD Cert.FfnDA.τ).loc Cert.FfnDA.main_arg2)
      ∧ r.2.mem ((c.tc : Thread Cert.FfnDA.nD Cert.FfnDA.τ).loc Cert.FfnDA.main_arg3) = m ((c.tc : Thread Cert.FfnDA.nD Cert.FfnDA.τ).loc Cert.FfnDA.main_arg3))
      ∧ r.2.sem = fun _ => 0)

def quiescent_FfnDAIdeal [hFfnDAIdeal : Cert.FfnDAIdeal.Facts] : Prop :=
  ∀ (m : (ℓ : Loc Cert.FfnDAIdeal.nD Cert.FfnDAIdeal.τ Cert.FfnDAIdeal.sig) → Buf (Elt Ideal) ℓ) (g : Dev Cert.FfnDAIdeal.nD → PrngReg), Pre_FfnDAIdeal m →
    θ_run (Cert.FfnDAIdeal.defs (F := Ideal)) (onTc (τ := Cert.FfnDAIdeal.τ) (Cert.FfnDAIdeal.main (F := Ideal))) ⟨m, fun _ => 0, g⟩ (fun r => (∀ c : Dev Cert.FfnDAIdeal.nD,
      r.2.mem ((c.tc : Thread Cert.FfnDAIdeal.nD Cert.FfnDAIdeal.τ).loc Cert.FfnDAIdeal.main_arg0) = m ((c.tc : Thread Cert.FfnDAIdeal.nD Cert.FfnDAIdeal.τ).loc Cert.FfnDAIdeal.main_arg0)
      ∧ r.2.mem ((c.tc : Thread Cert.FfnDAIdeal.nD Cert.FfnDAIdeal.τ).loc Cert.FfnDAIdeal.main_arg1) = m ((c.tc : Thread Cert.FfnDAIdeal.nD Cert.FfnDAIdeal.τ).loc Cert.FfnDAIdeal.main_arg1)
      ∧ r.2.mem ((c.tc : Thread Cert.FfnDAIdeal.nD Cert.FfnDAIdeal.τ).loc Cert.FfnDAIdeal.main_arg2) = m ((c.tc : Thread Cert.FfnDAIdeal.nD Cert.FfnDAIdeal.τ).loc Cert.FfnDAIdeal.main_arg2)
      ∧ r.2.mem ((c.tc : Thread Cert.FfnDAIdeal.nD Cert.FfnDAIdeal.τ).loc Cert.FfnDAIdeal.main_arg3) = m ((c.tc : Thread Cert.FfnDAIdeal.nD Cert.FfnDAIdeal.τ).loc Cert.FfnDAIdeal.main_arg3))
      ∧ r.2.sem = fun _ => 0)

def quiescent_FfnDAIdeal_pre_ffnda_finite [hFfnDAIdeal : Cert.FfnDAIdeal.Facts] [hPre_ffnda_finite : Cert.Pre_ffnda_finite.Facts] : Prop :=
  ∀ (m : (ℓ : Loc Cert.FfnDAIdeal.nD Cert.FfnDAIdeal.τ Cert.FfnDAIdeal.sig) → Buf (Elt Ideal) ℓ) (g : Dev Cert.FfnDAIdeal.nD → PrngReg), Pre_FfnDAIdeal_ffnda_finite m →
    θ_run (Cert.FfnDAIdeal.defs (F := Ideal)) (onTc (τ := Cert.FfnDAIdeal.τ) (Cert.FfnDAIdeal.main (F := Ideal))) ⟨m, fun _ => 0, g⟩ (fun r => (∀ c : Dev Cert.FfnDAIdeal.nD,
      r.2.mem ((c.tc : Thread Cert.FfnDAIdeal.nD Cert.FfnDAIdeal.τ).loc Cert.FfnDAIdeal.main_arg0) = m ((c.tc : Thread Cert.FfnDAIdeal.nD Cert.FfnDAIdeal.τ).loc Cert.FfnDAIdeal.main_arg0)
      ∧ r.2.mem ((c.tc : Thread Cert.FfnDAIdeal.nD Cert.FfnDAIdeal.τ).loc Cert.FfnDAIdeal.main_arg1) = m ((c.tc : Thread Cert.FfnDAIdeal.nD Cert.FfnDAIdeal.τ).loc Cert.FfnDAIdeal.main_arg1)
      ∧ r.2.mem ((c.tc : Thread Cert.FfnDAIdeal.nD Cert.FfnDAIdeal.τ).loc Cert.FfnDAIdeal.main_arg2) = m ((c.tc : Thread Cert.FfnDAIdeal.nD Cert.FfnDAIdeal.τ).loc Cert.FfnDAIdeal.main_arg2)
      ∧ r.2.mem ((c.tc : Thread Cert.FfnDAIdeal.nD Cert.FfnDAIdeal.τ).loc Cert.FfnDAIdeal.main_arg3) = m ((c.tc : Thread Cert.FfnDAIdeal.nD Cert.FfnDAIdeal.τ).loc Cert.FfnDAIdeal.main_arg3))
      ∧ r.2.sem = fun _ => 0)

def quiescent_FfnDARefIdeal [hFfnDARefIdeal : Cert.FfnDARefIdeal.Facts] : Prop :=
  ∀ (m : (ℓ : Loc Cert.FfnDARefIdeal.nD Cert.FfnDARefIdeal.τ Cert.FfnDARefIdeal.sig) → Buf (Elt Ideal) ℓ) (g : Dev Cert.FfnDARefIdeal.nD → PrngReg), Pre_FfnDARefIdeal m →
    θ_run (Cert.FfnDARefIdeal.defs (F := Ideal)) (onTc (τ := Cert.FfnDARefIdeal.τ) (Cert.FfnDARefIdeal.main (F := Ideal))) ⟨m, fun _ => 0, g⟩ (fun r => (∀ c : Dev Cert.FfnDARefIdeal.nD,
      r.2.mem ((c.tc : Thread Cert.FfnDARefIdeal.nD Cert.FfnDARefIdeal.τ).loc Cert.FfnDARefIdeal.main_arg0) = m ((c.tc : Thread Cert.FfnDARefIdeal.nD Cert.FfnDARefIdeal.τ).loc Cert.FfnDARefIdeal.main_arg0)
      ∧ r.2.mem ((c.tc : Thread Cert.FfnDARefIdeal.nD Cert.FfnDARefIdeal.τ).loc Cert.FfnDARefIdeal.main_arg1) = m ((c.tc : Thread Cert.FfnDARefIdeal.nD Cert.FfnDARefIdeal.τ).loc Cert.FfnDARefIdeal.main_arg1)
      ∧ r.2.mem ((c.tc : Thread Cert.FfnDARefIdeal.nD Cert.FfnDARefIdeal.τ).loc Cert.FfnDARefIdeal.main_arg2) = m ((c.tc : Thread Cert.FfnDARefIdeal.nD Cert.FfnDARefIdeal.τ).loc Cert.FfnDARefIdeal.main_arg2)
      ∧ r.2.mem ((c.tc : Thread Cert.FfnDARefIdeal.nD Cert.FfnDARefIdeal.τ).loc Cert.FfnDARefIdeal.main_arg3) = m ((c.tc : Thread Cert.FfnDARefIdeal.nD Cert.FfnDARefIdeal.τ).loc Cert.FfnDARefIdeal.main_arg3))
      ∧ r.2.sem = fun _ => 0)

def quiescent_FfnDARefIdeal_pre_ffnda_finite [hFfnDARefIdeal : Cert.FfnDARefIdeal.Facts] [hPre_ffnda_finite : Cert.Pre_ffnda_finite.Facts] : Prop :=
  ∀ (m : (ℓ : Loc Cert.FfnDARefIdeal.nD Cert.FfnDARefIdeal.τ Cert.FfnDARefIdeal.sig) → Buf (Elt Ideal) ℓ) (g : Dev Cert.FfnDARefIdeal.nD → PrngReg), Pre_FfnDARefIdeal_ffnda_finite m →
    θ_run (Cert.FfnDARefIdeal.defs (F := Ideal)) (onTc (τ := Cert.FfnDARefIdeal.τ) (Cert.FfnDARefIdeal.main (F := Ideal))) ⟨m, fun _ => 0, g⟩ (fun r => (∀ c : Dev Cert.FfnDARefIdeal.nD,
      r.2.mem ((c.tc : Thread Cert.FfnDARefIdeal.nD Cert.FfnDARefIdeal.τ).loc Cert.FfnDARefIdeal.main_arg0) = m ((c.tc : Thread Cert.FfnDARefIdeal.nD Cert.FfnDARefIdeal.τ).loc Cert.FfnDARefIdeal.main_arg0)
      ∧ r.2.mem ((c.tc : Thread Cert.FfnDARefIdeal.nD Cert.FfnDARefIdeal.τ).loc Cert.FfnDARefIdeal.main_arg1) = m ((c.tc : Thread Cert.FfnDARefIdeal.nD Cert.FfnDARefIdeal.τ).loc Cert.FfnDARefIdeal.main_arg1)
      ∧ r.2.mem ((c.tc : Thread Cert.FfnDARefIdeal.nD Cert.FfnDARefIdeal.τ).loc Cert.FfnDARefIdeal.main_arg2) = m ((c.tc : Thread Cert.FfnDARefIdeal.nD Cert.FfnDARefIdeal.τ).loc Cert.FfnDARefIdeal.main_arg2)
      ∧ r.2.mem ((c.tc : Thread Cert.FfnDARefIdeal.nD Cert.FfnDARefIdeal.τ).loc Cert.FfnDARefIdeal.main_arg3) = m ((c.tc : Thread Cert.FfnDARefIdeal.nD Cert.FfnDARefIdeal.τ).loc Cert.FfnDARefIdeal.main_arg3))
      ∧ r.2.sem = fun _ => 0)

def quiescent_RopeKV [hRopeKV : Cert.RopeKV.Facts] : Prop :=
  ∀ (m : (ℓ : Loc Cert.RopeKV.nD Cert.RopeKV.τ Cert.RopeKV.sig) → Buf (Elt Bits) ℓ) (g : Dev Cert.RopeKV.nD → PrngReg), Pre_RopeKV m →
    θ_run (Cert.RopeKV.defs (F := Bits)) (onTc (τ := Cert.RopeKV.τ) (Cert.RopeKV.main (F := Bits))) ⟨m, fun _ => 0, g⟩ (fun r => (∀ c : Dev Cert.RopeKV.nD,
      r.2.mem ((c.tc : Thread Cert.RopeKV.nD Cert.RopeKV.τ).loc Cert.RopeKV.main_arg0) = m ((c.tc : Thread Cert.RopeKV.nD Cert.RopeKV.τ).loc Cert.RopeKV.main_arg0)
      ∧ r.2.mem ((c.tc : Thread Cert.RopeKV.nD Cert.RopeKV.τ).loc Cert.RopeKV.main_arg1) = m ((c.tc : Thread Cert.RopeKV.nD Cert.RopeKV.τ).loc Cert.RopeKV.main_arg1)
      ∧ r.2.mem ((c.tc : Thread Cert.RopeKV.nD Cert.RopeKV.τ).loc Cert.RopeKV.main_arg2) = m ((c.tc : Thread Cert.RopeKV.nD Cert.RopeKV.τ).loc Cert.RopeKV.main_arg2))
      ∧ r.2.sem = fun _ => 0)

def quiescent_RopeKVIdeal [hRopeKVIdeal : Cert.RopeKVIdeal.Facts] : Prop :=
  ∀ (m : (ℓ : Loc Cert.RopeKVIdeal.nD Cert.RopeKVIdeal.τ Cert.RopeKVIdeal.sig) → Buf (Elt Ideal) ℓ) (g : Dev Cert.RopeKVIdeal.nD → PrngReg), Pre_RopeKVIdeal m →
    θ_run (Cert.RopeKVIdeal.defs (F := Ideal)) (onTc (τ := Cert.RopeKVIdeal.τ) (Cert.RopeKVIdeal.main (F := Ideal))) ⟨m, fun _ => 0, g⟩ (fun r => (∀ c : Dev Cert.RopeKVIdeal.nD,
      r.2.mem ((c.tc : Thread Cert.RopeKVIdeal.nD Cert.RopeKVIdeal.τ).loc Cert.RopeKVIdeal.main_arg0) = m ((c.tc : Thread Cert.RopeKVIdeal.nD Cert.RopeKVIdeal.τ).loc Cert.RopeKVIdeal.main_arg0)
      ∧ r.2.mem ((c.tc : Thread Cert.RopeKVIdeal.nD Cert.RopeKVIdeal.τ).loc Cert.RopeKVIdeal.main_arg1) = m ((c.tc : Thread Cert.RopeKVIdeal.nD Cert.RopeKVIdeal.τ).loc Cert.RopeKVIdeal.main_arg1)
      ∧ r.2.mem ((c.tc : Thread Cert.RopeKVIdeal.nD Cert.RopeKVIdeal.τ).loc Cert.RopeKVIdeal.main_arg2) = m ((c.tc : Thread Cert.RopeKVIdeal.nD Cert.RopeKVIdeal.τ).loc Cert.RopeKVIdeal.main_arg2))
      ∧ r.2.sem = fun _ => 0)

def quiescent_RopeKVIdeal_pre_ropekv_finite [hRopeKVIdeal : Cert.RopeKVIdeal.Facts] [hPre_ropekv_finite : Cert.Pre_ropekv_finite.Facts] : Prop :=
  ∀ (m : (ℓ : Loc Cert.RopeKVIdeal.nD Cert.RopeKVIdeal.τ Cert.RopeKVIdeal.sig) → Buf (Elt Ideal) ℓ) (g : Dev Cert.RopeKVIdeal.nD → PrngReg), Pre_RopeKVIdeal_ropekv_finite m →
    θ_run (Cert.RopeKVIdeal.defs (F := Ideal)) (onTc (τ := Cert.RopeKVIdeal.τ) (Cert.RopeKVIdeal.main (F := Ideal))) ⟨m, fun _ => 0, g⟩ (fun r => (∀ c : Dev Cert.RopeKVIdeal.nD,
      r.2.mem ((c.tc : Thread Cert.RopeKVIdeal.nD Cert.RopeKVIdeal.τ).loc Cert.RopeKVIdeal.main_arg0) = m ((c.tc : Thread Cert.RopeKVIdeal.nD Cert.RopeKVIdeal.τ).loc Cert.RopeKVIdeal.main_arg0)
      ∧ r.2.mem ((c.tc : Thread Cert.RopeKVIdeal.nD Cert.RopeKVIdeal.τ).loc Cert.RopeKVIdeal.main_arg1) = m ((c.tc : Thread Cert.RopeKVIdeal.nD Cert.RopeKVIdeal.τ).loc Cert.RopeKVIdeal.main_arg1)
      ∧ r.2.mem ((c.tc : Thread Cert.RopeKVIdeal.nD Cert.RopeKVIdeal.τ).loc Cert.RopeKVIdeal.main_arg2) = m ((c.tc : Thread Cert.RopeKVIdeal.nD Cert.RopeKVIdeal.τ).loc Cert.RopeKVIdeal.main_arg2))
      ∧ r.2.sem = fun _ => 0)

def quiescent_RopeKVRefIdeal [hRopeKVRefIdeal : Cert.RopeKVRefIdeal.Facts] : Prop :=
  ∀ (m : (ℓ : Loc Cert.RopeKVRefIdeal.nD Cert.RopeKVRefIdeal.τ Cert.RopeKVRefIdeal.sig) → Buf (Elt Ideal) ℓ) (g : Dev Cert.RopeKVRefIdeal.nD → PrngReg), Pre_RopeKVRefIdeal m →
    θ_run (Cert.RopeKVRefIdeal.defs (F := Ideal)) (onTc (τ := Cert.RopeKVRefIdeal.τ) (Cert.RopeKVRefIdeal.main (F := Ideal))) ⟨m, fun _ => 0, g⟩ (fun r => (∀ c : Dev Cert.RopeKVRefIdeal.nD,
      r.2.mem ((c.tc : Thread Cert.RopeKVRefIdeal.nD Cert.RopeKVRefIdeal.τ).loc Cert.RopeKVRefIdeal.main_arg0) = m ((c.tc : Thread Cert.RopeKVRefIdeal.nD Cert.RopeKVRefIdeal.τ).loc Cert.RopeKVRefIdeal.main_arg0)
      ∧ r.2.mem ((c.tc : Thread Cert.RopeKVRefIdeal.nD Cert.RopeKVRefIdeal.τ).loc Cert.RopeKVRefIdeal.main_arg1) = m ((c.tc : Thread Cert.RopeKVRefIdeal.nD Cert.RopeKVRefIdeal.τ).loc Cert.RopeKVRefIdeal.main_arg1)
      ∧ r.2.mem ((c.tc : Thread Cert.RopeKVRefIdeal.nD Cert.RopeKVRefIdeal.τ).loc Cert.RopeKVRefIdeal.main_arg2) = m ((c.tc : Thread Cert.RopeKVRefIdeal.nD Cert.RopeKVRefIdeal.τ).loc Cert.RopeKVRefIdeal.main_arg2))
      ∧ r.2.sem = fun _ => 0)

def quiescent_RopeKVRefIdeal_pre_ropekv_finite [hRopeKVRefIdeal : Cert.RopeKVRefIdeal.Facts] [hPre_ropekv_finite : Cert.Pre_ropekv_finite.Facts] : Prop :=
  ∀ (m : (ℓ : Loc Cert.RopeKVRefIdeal.nD Cert.RopeKVRefIdeal.τ Cert.RopeKVRefIdeal.sig) → Buf (Elt Ideal) ℓ) (g : Dev Cert.RopeKVRefIdeal.nD → PrngReg), Pre_RopeKVRefIdeal_ropekv_finite m →
    θ_run (Cert.RopeKVRefIdeal.defs (F := Ideal)) (onTc (τ := Cert.RopeKVRefIdeal.τ) (Cert.RopeKVRefIdeal.main (F := Ideal))) ⟨m, fun _ => 0, g⟩ (fun r => (∀ c : Dev Cert.RopeKVRefIdeal.nD,
      r.2.mem ((c.tc : Thread Cert.RopeKVRefIdeal.nD Cert.RopeKVRefIdeal.τ).loc Cert.RopeKVRefIdeal.main_arg0) = m ((c.tc : Thread Cert.RopeKVRefIdeal.nD Cert.RopeKVRefIdeal.τ).loc Cert.RopeKVRefIdeal.main_arg0)
      ∧ r.2.mem ((c.tc : Thread Cert.RopeKVRefIdeal.nD Cert.RopeKVRefIdeal.τ).loc Cert.RopeKVRefIdeal.main_arg1) = m ((c.tc : Thread Cert.RopeKVRefIdeal.nD Cert.RopeKVRefIdeal.τ).loc Cert.RopeKVRefIdeal.main_arg1)
      ∧ r.2.mem ((c.tc : Thread Cert.RopeKVRefIdeal.nD Cert.RopeKVRefIdeal.τ).loc Cert.RopeKVRefIdeal.main_arg2) = m ((c.tc : Thread Cert.RopeKVRefIdeal.nD Cert.RopeKVRefIdeal.τ).loc Cert.RopeKVRefIdeal.main_arg2))
      ∧ r.2.sem = fun _ => 0)

def quiescent_HgDog [hHgDog : Cert.HgDog.Facts] : Prop :=
  ∀ (m : (ℓ : Loc Cert.HgDog.nD Cert.HgDog.τ Cert.HgDog.sig) → Buf (Elt Bits) ℓ) (g : Dev Cert.HgDog.nD → PrngReg), Pre_HgDog m →
    θ_run (Cert.HgDog.defs (F := Bits)) (onTc (τ := Cert.HgDog.τ) (Cert.HgDog.main (F := Bits))) ⟨m, fun _ => 0, g⟩ (fun r => (∀ c : Dev Cert.HgDog.nD,
      r.2.mem ((c.tc : Thread Cert.HgDog.nD Cert.HgDog.τ).loc Cert.HgDog.main_arg0) = m ((c.tc : Thread Cert.HgDog.nD Cert.HgDog.τ).loc Cert.HgDog.main_arg0)
      ∧ r.2.mem ((c.tc : Thread Cert.HgDog.nD Cert.HgDog.τ).loc Cert.HgDog.main_arg1) = m ((c.tc : Thread Cert.HgDog.nD Cert.HgDog.τ).loc Cert.HgDog.main_arg1)
      ∧ r.2.mem ((c.tc : Thread Cert.HgDog.nD Cert.HgDog.τ).loc Cert.HgDog.main_arg2) = m ((c.tc : Thread Cert.HgDog.nD Cert.HgDog.τ).loc Cert.HgDog.main_arg2)
      ∧ r.2.mem ((c.tc : Thread Cert.HgDog.nD Cert.HgDog.τ).loc Cert.HgDog.main_arg3) = m ((c.tc : Thread Cert.HgDog.nD Cert.HgDog.τ).loc Cert.HgDog.main_arg3)
      ∧ r.2.mem ((c.tc : Thread Cert.HgDog.nD Cert.HgDog.τ).loc Cert.HgDog.main_arg4) = m ((c.tc : Thread Cert.HgDog.nD Cert.HgDog.τ).loc Cert.HgDog.main_arg4)
      ∧ r.2.mem ((c.tc : Thread Cert.HgDog.nD Cert.HgDog.τ).loc Cert.HgDog.main_arg5) = m ((c.tc : Thread Cert.HgDog.nD Cert.HgDog.τ).loc Cert.HgDog.main_arg5))
      ∧ r.2.sem = fun _ => 0)

def quiescent_HgDogIdeal [hHgDogIdeal : Cert.HgDogIdeal.Facts] : Prop :=
  ∀ (m : (ℓ : Loc Cert.HgDogIdeal.nD Cert.HgDogIdeal.τ Cert.HgDogIdeal.sig) → Buf (Elt Ideal) ℓ) (g : Dev Cert.HgDogIdeal.nD → PrngReg), Pre_HgDogIdeal m →
    θ_run (Cert.HgDogIdeal.defs (F := Ideal)) (onTc (τ := Cert.HgDogIdeal.τ) (Cert.HgDogIdeal.main (F := Ideal))) ⟨m, fun _ => 0, g⟩ (fun r => (∀ c : Dev Cert.HgDogIdeal.nD,
      r.2.mem ((c.tc : Thread Cert.HgDogIdeal.nD Cert.HgDogIdeal.τ).loc Cert.HgDogIdeal.main_arg0) = m ((c.tc : Thread Cert.HgDogIdeal.nD Cert.HgDogIdeal.τ).loc Cert.HgDogIdeal.main_arg0)
      ∧ r.2.mem ((c.tc : Thread Cert.HgDogIdeal.nD Cert.HgDogIdeal.τ).loc Cert.HgDogIdeal.main_arg1) = m ((c.tc : Thread Cert.HgDogIdeal.nD Cert.HgDogIdeal.τ).loc Cert.HgDogIdeal.main_arg1)
      ∧ r.2.mem ((c.tc : Thread Cert.HgDogIdeal.nD Cert.HgDogIdeal.τ).loc Cert.HgDogIdeal.main_arg2) = m ((c.tc : Thread Cert.HgDogIdeal.nD Cert.HgDogIdeal.τ).loc Cert.HgDogIdeal.main_arg2)
      ∧ r.2.mem ((c.tc : Thread Cert.HgDogIdeal.nD Cert.HgDogIdeal.τ).loc Cert.HgDogIdeal.main_arg3) = m ((c.tc : Thread Cert.HgDogIdeal.nD Cert.HgDogIdeal.τ).loc Cert.HgDogIdeal.main_arg3)
      ∧ r.2.mem ((c.tc : Thread Cert.HgDogIdeal.nD Cert.HgDogIdeal.τ).loc Cert.HgDogIdeal.main_arg4) = m ((c.tc : Thread Cert.HgDogIdeal.nD Cert.HgDogIdeal.τ).loc Cert.HgDogIdeal.main_arg4)
      ∧ r.2.mem ((c.tc : Thread Cert.HgDogIdeal.nD Cert.HgDogIdeal.τ).loc Cert.HgDogIdeal.main_arg5) = m ((c.tc : Thread Cert.HgDogIdeal.nD Cert.HgDogIdeal.τ).loc Cert.HgDogIdeal.main_arg5))
      ∧ r.2.sem = fun _ => 0)

def quiescent_HgDogIdeal_pre_hgdog_finite [hHgDogIdeal : Cert.HgDogIdeal.Facts] [hPre_hgdog_finite : Cert.Pre_hgdog_finite.Facts] : Prop :=
  ∀ (m : (ℓ : Loc Cert.HgDogIdeal.nD Cert.HgDogIdeal.τ Cert.HgDogIdeal.sig) → Buf (Elt Ideal) ℓ) (g : Dev Cert.HgDogIdeal.nD → PrngReg), Pre_HgDogIdeal_hgdog_finite m →
    θ_run (Cert.HgDogIdeal.defs (F := Ideal)) (onTc (τ := Cert.HgDogIdeal.τ) (Cert.HgDogIdeal.main (F := Ideal))) ⟨m, fun _ => 0, g⟩ (fun r => (∀ c : Dev Cert.HgDogIdeal.nD,
      r.2.mem ((c.tc : Thread Cert.HgDogIdeal.nD Cert.HgDogIdeal.τ).loc Cert.HgDogIdeal.main_arg0) = m ((c.tc : Thread Cert.HgDogIdeal.nD Cert.HgDogIdeal.τ).loc Cert.HgDogIdeal.main_arg0)
      ∧ r.2.mem ((c.tc : Thread Cert.HgDogIdeal.nD Cert.HgDogIdeal.τ).loc Cert.HgDogIdeal.main_arg1) = m ((c.tc : Thread Cert.HgDogIdeal.nD Cert.HgDogIdeal.τ).loc Cert.HgDogIdeal.main_arg1)
      ∧ r.2.mem ((c.tc : Thread Cert.HgDogIdeal.nD Cert.HgDogIdeal.τ).loc Cert.HgDogIdeal.main_arg2) = m ((c.tc : Thread Cert.HgDogIdeal.nD Cert.HgDogIdeal.τ).loc Cert.HgDogIdeal.main_arg2)
      ∧ r.2.mem ((c.tc : Thread Cert.HgDogIdeal.nD Cert.HgDogIdeal.τ).loc Cert.HgDogIdeal.main_arg3) = m ((c.tc : Thread Cert.HgDogIdeal.nD Cert.HgDogIdeal.τ).loc Cert.HgDogIdeal.main_arg3)
      ∧ r.2.mem ((c.tc : Thread Cert.HgDogIdeal.nD Cert.HgDogIdeal.τ).loc Cert.HgDogIdeal.main_arg4) = m ((c.tc : Thread Cert.HgDogIdeal.nD Cert.HgDogIdeal.τ).loc Cert.HgDogIdeal.main_arg4)
      ∧ r.2.mem ((c.tc : Thread Cert.HgDogIdeal.nD Cert.HgDogIdeal.τ).loc Cert.HgDogIdeal.main_arg5) = m ((c.tc : Thread Cert.HgDogIdeal.nD Cert.HgDogIdeal.τ).loc Cert.HgDogIdeal.main_arg5))
      ∧ r.2.sem = fun _ => 0)

def quiescent_HgDogRefIdeal [hHgDogRefIdeal : Cert.HgDogRefIdeal.Facts] : Prop :=
  ∀ (m : (ℓ : Loc Cert.HgDogRefIdeal.nD Cert.HgDogRefIdeal.τ Cert.HgDogRefIdeal.sig) → Buf (Elt Ideal) ℓ) (g : Dev Cert.HgDogRefIdeal.nD → PrngReg), Pre_HgDogRefIdeal m →
    θ_run (Cert.HgDogRefIdeal.defs (F := Ideal)) (onTc (τ := Cert.HgDogRefIdeal.τ) (Cert.HgDogRefIdeal.main (F := Ideal))) ⟨m, fun _ => 0, g⟩ (fun r => (∀ c : Dev Cert.HgDogRefIdeal.nD,
      r.2.mem ((c.tc : Thread Cert.HgDogRefIdeal.nD Cert.HgDogRefIdeal.τ).loc Cert.HgDogRefIdeal.main_arg0) = m ((c.tc : Thread Cert.HgDogRefIdeal.nD Cert.HgDogRefIdeal.τ).loc Cert.HgDogRefIdeal.main_arg0)
      ∧ r.2.mem ((c.tc : Thread Cert.HgDogRefIdeal.nD Cert.HgDogRefIdeal.τ).loc Cert.HgDogRefIdeal.main_arg1) = m ((c.tc : Thread Cert.HgDogRefIdeal.nD Cert.HgDogRefIdeal.τ).loc Cert.HgDogRefIdeal.main_arg1)
      ∧ r.2.mem ((c.tc : Thread Cert.HgDogRefIdeal.nD Cert.HgDogRefIdeal.τ).loc Cert.HgDogRefIdeal.main_arg2) = m ((c.tc : Thread Cert.HgDogRefIdeal.nD Cert.HgDogRefIdeal.τ).loc Cert.HgDogRefIdeal.main_arg2)
      ∧ r.2.mem ((c.tc : Thread Cert.HgDogRefIdeal.nD Cert.HgDogRefIdeal.τ).loc Cert.HgDogRefIdeal.main_arg3) = m ((c.tc : Thread Cert.HgDogRefIdeal.nD Cert.HgDogRefIdeal.τ).loc Cert.HgDogRefIdeal.main_arg3)
      ∧ r.2.mem ((c.tc : Thread Cert.HgDogRefIdeal.nD Cert.HgDogRefIdeal.τ).loc Cert.HgDogRefIdeal.main_arg4) = m ((c.tc : Thread Cert.HgDogRefIdeal.nD Cert.HgDogRefIdeal.τ).loc Cert.HgDogRefIdeal.main_arg4)
      ∧ r.2.mem ((c.tc : Thread Cert.HgDogRefIdeal.nD Cert.HgDogRefIdeal.τ).loc Cert.HgDogRefIdeal.main_arg5) = m ((c.tc : Thread Cert.HgDogRefIdeal.nD Cert.HgDogRefIdeal.τ).loc Cert.HgDogRefIdeal.main_arg5))
      ∧ r.2.sem = fun _ => 0)

def quiescent_HgDogRefIdeal_pre_hgdog_finite [hHgDogRefIdeal : Cert.HgDogRefIdeal.Facts] [hPre_hgdog_finite : Cert.Pre_hgdog_finite.Facts] : Prop :=
  ∀ (m : (ℓ : Loc Cert.HgDogRefIdeal.nD Cert.HgDogRefIdeal.τ Cert.HgDogRefIdeal.sig) → Buf (Elt Ideal) ℓ) (g : Dev Cert.HgDogRefIdeal.nD → PrngReg), Pre_HgDogRefIdeal_hgdog_finite m →
    θ_run (Cert.HgDogRefIdeal.defs (F := Ideal)) (onTc (τ := Cert.HgDogRefIdeal.τ) (Cert.HgDogRefIdeal.main (F := Ideal))) ⟨m, fun _ => 0, g⟩ (fun r => (∀ c : Dev Cert.HgDogRefIdeal.nD,
      r.2.mem ((c.tc : Thread Cert.HgDogRefIdeal.nD Cert.HgDogRefIdeal.τ).loc Cert.HgDogRefIdeal.main_arg0) = m ((c.tc : Thread Cert.HgDogRefIdeal.nD Cert.HgDogRefIdeal.τ).loc Cert.HgDogRefIdeal.main_arg0)
      ∧ r.2.mem ((c.tc : Thread Cert.HgDogRefIdeal.nD Cert.HgDogRefIdeal.τ).loc Cert.HgDogRefIdeal.main_arg1) = m ((c.tc : Thread Cert.HgDogRefIdeal.nD Cert.HgDogRefIdeal.τ).loc Cert.HgDogRefIdeal.main_arg1)
      ∧ r.2.mem ((c.tc : Thread Cert.HgDogRefIdeal.nD Cert.HgDogRefIdeal.τ).loc Cert.HgDogRefIdeal.main_arg2) = m ((c.tc : Thread Cert.HgDogRefIdeal.nD Cert.HgDogRefIdeal.τ).loc Cert.HgDogRefIdeal.main_arg2)
      ∧ r.2.mem ((c.tc : Thread Cert.HgDogRefIdeal.nD Cert.HgDogRefIdeal.τ).loc Cert.HgDogRefIdeal.main_arg3) = m ((c.tc : Thread Cert.HgDogRefIdeal.nD Cert.HgDogRefIdeal.τ).loc Cert.HgDogRefIdeal.main_arg3)
      ∧ r.2.mem ((c.tc : Thread Cert.HgDogRefIdeal.nD Cert.HgDogRefIdeal.τ).loc Cert.HgDogRefIdeal.main_arg4) = m ((c.tc : Thread Cert.HgDogRefIdeal.nD Cert.HgDogRefIdeal.τ).loc Cert.HgDogRefIdeal.main_arg4)
      ∧ r.2.mem ((c.tc : Thread Cert.HgDogRefIdeal.nD Cert.HgDogRefIdeal.τ).loc Cert.HgDogRefIdeal.main_arg5) = m ((c.tc : Thread Cert.HgDogRefIdeal.nD Cert.HgDogRefIdeal.τ).loc Cert.HgDogRefIdeal.main_arg5))
      ∧ r.2.sem = fun _ => 0)

def quiescent_S5Glu [hS5Glu : Cert.S5Glu.Facts] : Prop :=
  ∀ (m : (ℓ : Loc Cert.S5Glu.nD Cert.S5Glu.τ Cert.S5Glu.sig) → Buf (Elt Bits) ℓ) (g : Dev Cert.S5Glu.nD → PrngReg), Pre_S5Glu m →
    θ_run (Cert.S5Glu.defs (F := Bits)) (onTc (τ := Cert.S5Glu.τ) (Cert.S5Glu.main (F := Bits))) ⟨m, fun _ => 0, g⟩ (fun r => (∀ c : Dev Cert.S5Glu.nD,
      r.2.mem ((c.tc : Thread Cert.S5Glu.nD Cert.S5Glu.τ).loc Cert.S5Glu.main_arg0) = m ((c.tc : Thread Cert.S5Glu.nD Cert.S5Glu.τ).loc Cert.S5Glu.main_arg0)
      ∧ r.2.mem ((c.tc : Thread Cert.S5Glu.nD Cert.S5Glu.τ).loc Cert.S5Glu.main_arg1) = m ((c.tc : Thread Cert.S5Glu.nD Cert.S5Glu.τ).loc Cert.S5Glu.main_arg1)
      ∧ r.2.mem ((c.tc : Thread Cert.S5Glu.nD Cert.S5Glu.τ).loc Cert.S5Glu.main_arg2) = m ((c.tc : Thread Cert.S5Glu.nD Cert.S5Glu.τ).loc Cert.S5Glu.main_arg2)
      ∧ r.2.mem ((c.tc : Thread Cert.S5Glu.nD Cert.S5Glu.τ).loc Cert.S5Glu.main_arg3) = m ((c.tc : Thread Cert.S5Glu.nD Cert.S5Glu.τ).loc Cert.S5Glu.main_arg3)
      ∧ r.2.mem ((c.tc : Thread Cert.S5Glu.nD Cert.S5Glu.τ).loc Cert.S5Glu.main_arg4) = m ((c.tc : Thread Cert.S5Glu.nD Cert.S5Glu.τ).loc Cert.S5Glu.main_arg4))
      ∧ r.2.sem = fun _ => 0)

def quiescent_S5GluIdeal [hS5GluIdeal : Cert.S5GluIdeal.Facts] : Prop :=
  ∀ (m : (ℓ : Loc Cert.S5GluIdeal.nD Cert.S5GluIdeal.τ Cert.S5GluIdeal.sig) → Buf (Elt Ideal) ℓ) (g : Dev Cert.S5GluIdeal.nD → PrngReg), Pre_S5GluIdeal m →
    θ_run (Cert.S5GluIdeal.defs (F := Ideal)) (onTc (τ := Cert.S5GluIdeal.τ) (Cert.S5GluIdeal.main (F := Ideal))) ⟨m, fun _ => 0, g⟩ (fun r => (∀ c : Dev Cert.S5GluIdeal.nD,
      r.2.mem ((c.tc : Thread Cert.S5GluIdeal.nD Cert.S5GluIdeal.τ).loc Cert.S5GluIdeal.main_arg0) = m ((c.tc : Thread Cert.S5GluIdeal.nD Cert.S5GluIdeal.τ).loc Cert.S5GluIdeal.main_arg0)
      ∧ r.2.mem ((c.tc : Thread Cert.S5GluIdeal.nD Cert.S5GluIdeal.τ).loc Cert.S5GluIdeal.main_arg1) = m ((c.tc : Thread Cert.S5GluIdeal.nD Cert.S5GluIdeal.τ).loc Cert.S5GluIdeal.main_arg1)
      ∧ r.2.mem ((c.tc : Thread Cert.S5GluIdeal.nD Cert.S5GluIdeal.τ).loc Cert.S5GluIdeal.main_arg2) = m ((c.tc : Thread Cert.S5GluIdeal.nD Cert.S5GluIdeal.τ).loc Cert.S5GluIdeal.main_arg2)
      ∧ r.2.mem ((c.tc : Thread Cert.S5GluIdeal.nD Cert.S5GluIdeal.τ).loc Cert.S5GluIdeal.main_arg3) = m ((c.tc : Thread Cert.S5GluIdeal.nD Cert.S5GluIdeal.τ).loc Cert.S5GluIdeal.main_arg3)
      ∧ r.2.mem ((c.tc : Thread Cert.S5GluIdeal.nD Cert.S5GluIdeal.τ).loc Cert.S5GluIdeal.main_arg4) = m ((c.tc : Thread Cert.S5GluIdeal.nD Cert.S5GluIdeal.τ).loc Cert.S5GluIdeal.main_arg4))
      ∧ r.2.sem = fun _ => 0)

def quiescent_S5GluRefIdeal [hS5GluRefIdeal : Cert.S5GluRefIdeal.Facts] : Prop :=
  ∀ (m : (ℓ : Loc Cert.S5GluRefIdeal.nD Cert.S5GluRefIdeal.τ Cert.S5GluRefIdeal.sig) → Buf (Elt Ideal) ℓ) (g : Dev Cert.S5GluRefIdeal.nD → PrngReg), Pre_S5GluRefIdeal m →
    θ_run (Cert.S5GluRefIdeal.defs (F := Ideal)) (onTc (τ := Cert.S5GluRefIdeal.τ) (Cert.S5GluRefIdeal.main (F := Ideal))) ⟨m, fun _ => 0, g⟩ (fun r => (∀ c : Dev Cert.S5GluRefIdeal.nD,
      r.2.mem ((c.tc : Thread Cert.S5GluRefIdeal.nD Cert.S5GluRefIdeal.τ).loc Cert.S5GluRefIdeal.main_arg0) = m ((c.tc : Thread Cert.S5GluRefIdeal.nD Cert.S5GluRefIdeal.τ).loc Cert.S5GluRefIdeal.main_arg0)
      ∧ r.2.mem ((c.tc : Thread Cert.S5GluRefIdeal.nD Cert.S5GluRefIdeal.τ).loc Cert.S5GluRefIdeal.main_arg1) = m ((c.tc : Thread Cert.S5GluRefIdeal.nD Cert.S5GluRefIdeal.τ).loc Cert.S5GluRefIdeal.main_arg1)
      ∧ r.2.mem ((c.tc : Thread Cert.S5GluRefIdeal.nD Cert.S5GluRefIdeal.τ).loc Cert.S5GluRefIdeal.main_arg2) = m ((c.tc : Thread Cert.S5GluRefIdeal.nD Cert.S5GluRefIdeal.τ).loc Cert.S5GluRefIdeal.main_arg2)
      ∧ r.2.mem ((c.tc : Thread Cert.S5GluRefIdeal.nD Cert.S5GluRefIdeal.τ).loc Cert.S5GluRefIdeal.main_arg3) = m ((c.tc : Thread Cert.S5GluRefIdeal.nD Cert.S5GluRefIdeal.τ).loc Cert.S5GluRefIdeal.main_arg3)
      ∧ r.2.mem ((c.tc : Thread Cert.S5GluRefIdeal.nD Cert.S5GluRefIdeal.τ).loc Cert.S5GluRefIdeal.main_arg4) = m ((c.tc : Thread Cert.S5GluRefIdeal.nD Cert.S5GluRefIdeal.τ).loc Cert.S5GluRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_InDX [hInDX : Cert.InDX.Facts] : Prop :=
  ∀ (m : (ℓ : Loc Cert.InDX.nD Cert.InDX.τ Cert.InDX.sig) → Buf (Elt Bits) ℓ) (g : Dev Cert.InDX.nD → PrngReg), Pre_InDX m →
    θ_run (Cert.InDX.defs (F := Bits)) (onTc (τ := Cert.InDX.τ) (Cert.InDX.main (F := Bits))) ⟨m, fun _ => 0, g⟩ (fun r => (∀ c : Dev Cert.InDX.nD,
      r.2.mem ((c.tc : Thread Cert.InDX.nD Cert.InDX.τ).loc Cert.InDX.main_arg0) = m ((c.tc : Thread Cert.InDX.nD Cert.InDX.τ).loc Cert.InDX.main_arg0)
      ∧ r.2.mem ((c.tc : Thread Cert.InDX.nD Cert.InDX.τ).loc Cert.InDX.main_arg1) = m ((c.tc : Thread Cert.InDX.nD Cert.InDX.τ).loc Cert.InDX.main_arg1)
      ∧ r.2.mem ((c.tc : Thread Cert.InDX.nD Cert.InDX.τ).loc Cert.InDX.main_arg2) = m ((c.tc : Thread Cert.InDX.nD Cert.InDX.τ).loc Cert.InDX.main_arg2)
      ∧ r.2.mem ((c.tc : Thread Cert.InDX.nD Cert.InDX.τ).loc Cert.InDX.main_arg3) = m ((c.tc : Thread Cert.InDX.nD Cert.InDX.τ).loc Cert.InDX.main_arg3)
      ∧ r.2.mem ((c.tc : Thread Cert.InDX.nD Cert.InDX.τ).loc Cert.InDX.main_arg4) = m ((c.tc : Thread Cert.InDX.nD Cert.InDX.τ).loc Cert.InDX.main_arg4)
      ∧ r.2.mem ((c.tc : Thread Cert.InDX.nD Cert.InDX.τ).loc Cert.InDX.main_arg5) = m ((c.tc : Thread Cert.InDX.nD Cert.InDX.τ).loc Cert.InDX.main_arg5)
      ∧ r.2.mem ((c.tc : Thread Cert.InDX.nD Cert.InDX.τ).loc Cert.InDX.main_arg6) = m ((c.tc : Thread Cert.InDX.nD Cert.InDX.τ).loc Cert.InDX.main_arg6)
      ∧ r.2.mem ((c.tc : Thread Cert.InDX.nD Cert.InDX.τ).loc Cert.InDX.main_arg7) = m ((c.tc : Thread Cert.InDX.nD Cert.InDX.τ).loc Cert.InDX.main_arg7)
      ∧ r.2.mem ((c.tc : Thread Cert.InDX.nD Cert.InDX.τ).loc Cert.InDX.main_arg8) = m ((c.tc : Thread Cert.InDX.nD Cert.InDX.τ).loc Cert.InDX.main_arg8)
      ∧ r.2.mem ((c.tc : Thread Cert.InDX.nD Cert.InDX.τ).loc Cert.InDX.main_arg9) = m ((c.tc : Thread Cert.InDX.nD Cert.InDX.τ).loc Cert.InDX.main_arg9)
      ∧ r.2.mem ((c.tc : Thread Cert.InDX.nD Cert.InDX.τ).loc Cert.InDX.main_arg10) = m ((c.tc : Thread Cert.InDX.nD Cert.InDX.τ).loc Cert.InDX.main_arg10)
      ∧ r.2.mem ((c.tc : Thread Cert.InDX.nD Cert.InDX.τ).loc Cert.InDX.main_arg11) = m ((c.tc : Thread Cert.InDX.nD Cert.InDX.τ).loc Cert.InDX.main_arg11)
      ∧ r.2.mem ((c.tc : Thread Cert.InDX.nD Cert.InDX.τ).loc Cert.InDX.main_arg12) = m ((c.tc : Thread Cert.InDX.nD Cert.InDX.τ).loc Cert.InDX.main_arg12)
      ∧ r.2.mem ((c.tc : Thread Cert.InDX.nD Cert.InDX.τ).loc Cert.InDX.main_arg13) = m ((c.tc : Thread Cert.InDX.nD Cert.InDX.τ).loc Cert.InDX.main_arg13))
      ∧ r.2.sem = fun _ => 0)

def quiescent_InDXIdeal [hInDXIdeal : Cert.InDXIdeal.Facts] : Prop :=
  ∀ (m : (ℓ : Loc Cert.InDXIdeal.nD Cert.InDXIdeal.τ Cert.InDXIdeal.sig) → Buf (Elt Ideal) ℓ) (g : Dev Cert.InDXIdeal.nD → PrngReg), Pre_InDXIdeal m →
    θ_run (Cert.InDXIdeal.defs (F := Ideal)) (onTc (τ := Cert.InDXIdeal.τ) (Cert.InDXIdeal.main (F := Ideal))) ⟨m, fun _ => 0, g⟩ (fun r => (∀ c : Dev Cert.InDXIdeal.nD,
      r.2.mem ((c.tc : Thread Cert.InDXIdeal.nD Cert.InDXIdeal.τ).loc Cert.InDXIdeal.main_arg0) = m ((c.tc : Thread Cert.InDXIdeal.nD Cert.InDXIdeal.τ).loc Cert.InDXIdeal.main_arg0)
      ∧ r.2.mem ((c.tc : Thread Cert.InDXIdeal.nD Cert.InDXIdeal.τ).loc Cert.InDXIdeal.main_arg1) = m ((c.tc : Thread Cert.InDXIdeal.nD Cert.InDXIdeal.τ).loc Cert.InDXIdeal.main_arg1)
      ∧ r.2.mem ((c.tc : Thread Cert.InDXIdeal.nD Cert.InDXIdeal.τ).loc Cert.InDXIdeal.main_arg2) = m ((c.tc : Thread Cert.InDXIdeal.nD Cert.InDXIdeal.τ).loc Cert.InDXIdeal.main_arg2)
      ∧ r.2.mem ((c.tc : Thread Cert.InDXIdeal.nD Cert.InDXIdeal.τ).loc Cert.InDXIdeal.main_arg3) = m ((c.tc : Thread Cert.InDXIdeal.nD Cert.InDXIdeal.τ).loc Cert.InDXIdeal.main_arg3)
      ∧ r.2.mem ((c.tc : Thread Cert.InDXIdeal.nD Cert.InDXIdeal.τ).loc Cert.InDXIdeal.main_arg4) = m ((c.tc : Thread Cert.InDXIdeal.nD Cert.InDXIdeal.τ).loc Cert.InDXIdeal.main_arg4)
      ∧ r.2.mem ((c.tc : Thread Cert.InDXIdeal.nD Cert.InDXIdeal.τ).loc Cert.InDXIdeal.main_arg5) = m ((c.tc : Thread Cert.InDXIdeal.nD Cert.InDXIdeal.τ).loc Cert.InDXIdeal.main_arg5)
      ∧ r.2.mem ((c.tc : Thread Cert.InDXIdeal.nD Cert.InDXIdeal.τ).loc Cert.InDXIdeal.main_arg6) = m ((c.tc : Thread Cert.InDXIdeal.nD Cert.InDXIdeal.τ).loc Cert.InDXIdeal.main_arg6)
      ∧ r.2.mem ((c.tc : Thread Cert.InDXIdeal.nD Cert.InDXIdeal.τ).loc Cert.InDXIdeal.main_arg7) = m ((c.tc : Thread Cert.InDXIdeal.nD Cert.InDXIdeal.τ).loc Cert.InDXIdeal.main_arg7)
      ∧ r.2.mem ((c.tc : Thread Cert.InDXIdeal.nD Cert.InDXIdeal.τ).loc Cert.InDXIdeal.main_arg8) = m ((c.tc : Thread Cert.InDXIdeal.nD Cert.InDXIdeal.τ).loc Cert.InDXIdeal.main_arg8)
      ∧ r.2.mem ((c.tc : Thread Cert.InDXIdeal.nD Cert.InDXIdeal.τ).loc Cert.InDXIdeal.main_arg9) = m ((c.tc : Thread Cert.InDXIdeal.nD Cert.InDXIdeal.τ).loc Cert.InDXIdeal.main_arg9)
      ∧ r.2.mem ((c.tc : Thread Cert.InDXIdeal.nD Cert.InDXIdeal.τ).loc Cert.InDXIdeal.main_arg10) = m ((c.tc : Thread Cert.InDXIdeal.nD Cert.InDXIdeal.τ).loc Cert.InDXIdeal.main_arg10)
      ∧ r.2.mem ((c.tc : Thread Cert.InDXIdeal.nD Cert.InDXIdeal.τ).loc Cert.InDXIdeal.main_arg11) = m ((c.tc : Thread Cert.InDXIdeal.nD Cert.InDXIdeal.τ).loc Cert.InDXIdeal.main_arg11)
      ∧ r.2.mem ((c.tc : Thread Cert.InDXIdeal.nD Cert.InDXIdeal.τ).loc Cert.InDXIdeal.main_arg12) = m ((c.tc : Thread Cert.InDXIdeal.nD Cert.InDXIdeal.τ).loc Cert.InDXIdeal.main_arg12)
      ∧ r.2.mem ((c.tc : Thread Cert.InDXIdeal.nD Cert.InDXIdeal.τ).loc Cert.InDXIdeal.main_arg13) = m ((c.tc : Thread Cert.InDXIdeal.nD Cert.InDXIdeal.τ).loc Cert.InDXIdeal.main_arg13))
      ∧ r.2.sem = fun _ => 0)

def quiescent_InDXRefIdeal [hInDXRefIdeal : Cert.InDXRefIdeal.Facts] : Prop :=
  ∀ (m : (ℓ : Loc Cert.InDXRefIdeal.nD Cert.InDXRefIdeal.τ Cert.InDXRefIdeal.sig) → Buf (Elt Ideal) ℓ) (g : Dev Cert.InDXRefIdeal.nD → PrngReg), Pre_InDXRefIdeal m →
    θ_run (Cert.InDXRefIdeal.defs (F := Ideal)) (onTc (τ := Cert.InDXRefIdeal.τ) (Cert.InDXRefIdeal.main (F := Ideal))) ⟨m, fun _ => 0, g⟩ (fun r => (∀ c : Dev Cert.InDXRefIdeal.nD,
      r.2.mem ((c.tc : Thread Cert.InDXRefIdeal.nD Cert.InDXRefIdeal.τ).loc Cert.InDXRefIdeal.main_arg0) = m ((c.tc : Thread Cert.InDXRefIdeal.nD Cert.InDXRefIdeal.τ).loc Cert.InDXRefIdeal.main_arg0)
      ∧ r.2.mem ((c.tc : Thread Cert.InDXRefIdeal.nD Cert.InDXRefIdeal.τ).loc Cert.InDXRefIdeal.main_arg1) = m ((c.tc : Thread Cert.InDXRefIdeal.nD Cert.InDXRefIdeal.τ).loc Cert.InDXRefIdeal.main_arg1)
      ∧ r.2.mem ((c.tc : Thread Cert.InDXRefIdeal.nD Cert.InDXRefIdeal.τ).loc Cert.InDXRefIdeal.main_arg2) = m ((c.tc : Thread Cert.InDXRefIdeal.nD Cert.InDXRefIdeal.τ).loc Cert.InDXRefIdeal.main_arg2)
      ∧ r.2.mem ((c.tc : Thread Cert.InDXRefIdeal.nD Cert.InDXRefIdeal.τ).loc Cert.InDXRefIdeal.main_arg3) = m ((c.tc : Thread Cert.InDXRefIdeal.nD Cert.InDXRefIdeal.τ).loc Cert.InDXRefIdeal.main_arg3)
      ∧ r.2.mem ((c.tc : Thread Cert.InDXRefIdeal.nD Cert.InDXRefIdeal.τ).loc Cert.InDXRefIdeal.main_arg4) = m ((c.tc : Thread Cert.InDXRefIdeal.nD Cert.InDXRefIdeal.τ).loc Cert.InDXRefIdeal.main_arg4)
      ∧ r.2.mem ((c.tc : Thread Cert.InDXRefIdeal.nD Cert.InDXRefIdeal.τ).loc Cert.InDXRefIdeal.main_arg5) = m ((c.tc : Thread Cert.InDXRefIdeal.nD Cert.InDXRefIdeal.τ).loc Cert.InDXRefIdeal.main_arg5)
      ∧ r.2.mem ((c.tc : Thread Cert.InDXRefIdeal.nD Cert.InDXRefIdeal.τ).loc Cert.InDXRefIdeal.main_arg6) = m ((c.tc : Thread Cert.InDXRefIdeal.nD Cert.InDXRefIdeal.τ).loc Cert.InDXRefIdeal.main_arg6)
      ∧ r.2.mem ((c.tc : Thread Cert.InDXRefIdeal.nD Cert.InDXRefIdeal.τ).loc Cert.InDXRefIdeal.main_arg7) = m ((c.tc : Thread Cert.InDXRefIdeal.nD Cert.InDXRefIdeal.τ).loc Cert.InDXRefIdeal.main_arg7)
      ∧ r.2.mem ((c.tc : Thread Cert.InDXRefIdeal.nD Cert.InDXRefIdeal.τ).loc Cert.InDXRefIdeal.main_arg8) = m ((c.tc : Thread Cert.InDXRefIdeal.nD Cert.InDXRefIdeal.τ).loc Cert.InDXRefIdeal.main_arg8)
      ∧ r.2.mem ((c.tc : Thread Cert.InDXRefIdeal.nD Cert.InDXRefIdeal.τ).loc Cert.InDXRefIdeal.main_arg9) = m ((c.tc : Thread Cert.InDXRefIdeal.nD Cert.InDXRefIdeal.τ).loc Cert.InDXRefIdeal.main_arg9)
      ∧ r.2.mem ((c.tc : Thread Cert.InDXRefIdeal.nD Cert.InDXRefIdeal.τ).loc Cert.InDXRefIdeal.main_arg10) = m ((c.tc : Thread Cert.InDXRefIdeal.nD Cert.InDXRefIdeal.τ).loc Cert.InDXRefIdeal.main_arg10)
      ∧ r.2.mem ((c.tc : Thread Cert.InDXRefIdeal.nD Cert.InDXRefIdeal.τ).loc Cert.InDXRefIdeal.main_arg11) = m ((c.tc : Thread Cert.InDXRefIdeal.nD Cert.InDXRefIdeal.τ).loc Cert.InDXRefIdeal.main_arg11)
      ∧ r.2.mem ((c.tc : Thread Cert.InDXRefIdeal.nD Cert.InDXRefIdeal.τ).loc Cert.InDXRefIdeal.main_arg12) = m ((c.tc : Thread Cert.InDXRefIdeal.nD Cert.InDXRefIdeal.τ).loc Cert.InDXRefIdeal.main_arg12)
      ∧ r.2.mem ((c.tc : Thread Cert.InDXRefIdeal.nD Cert.InDXRefIdeal.τ).loc Cert.InDXRefIdeal.main_arg13) = m ((c.tc : Thread Cert.InDXRefIdeal.nD Cert.InDXRefIdeal.τ).loc Cert.InDXRefIdeal.main_arg13))
      ∧ r.2.sem = fun _ => 0)

def quiescent_OutLN [hOutLN : Cert.OutLN.Facts] : Prop :=
  ∀ (m : (ℓ : Loc Cert.OutLN.nD Cert.OutLN.τ Cert.OutLN.sig) → Buf (Elt Bits) ℓ) (g : Dev Cert.OutLN.nD → PrngReg), Pre_OutLN m →
    θ_run (Cert.OutLN.defs (F := Bits)) (onTc (τ := Cert.OutLN.τ) (Cert.OutLN.main (F := Bits))) ⟨m, fun _ => 0, g⟩ (fun r => (∀ c : Dev Cert.OutLN.nD,
      r.2.mem ((c.tc : Thread Cert.OutLN.nD Cert.OutLN.τ).loc Cert.OutLN.main_arg0) = m ((c.tc : Thread Cert.OutLN.nD Cert.OutLN.τ).loc Cert.OutLN.main_arg0)
      ∧ r.2.mem ((c.tc : Thread Cert.OutLN.nD Cert.OutLN.τ).loc Cert.OutLN.main_arg1) = m ((c.tc : Thread Cert.OutLN.nD Cert.OutLN.τ).loc Cert.OutLN.main_arg1)
      ∧ r.2.mem ((c.tc : Thread Cert.OutLN.nD Cert.OutLN.τ).loc Cert.OutLN.main_arg2) = m ((c.tc : Thread Cert.OutLN.nD Cert.OutLN.τ).loc Cert.OutLN.main_arg2)
      ∧ r.2.mem ((c.tc : Thread Cert.OutLN.nD Cert.OutLN.τ).loc Cert.OutLN.main_arg3) = m ((c.tc : Thread Cert.OutLN.nD Cert.OutLN.τ).loc Cert.OutLN.main_arg3)
      ∧ r.2.mem ((c.tc : Thread Cert.OutLN.nD Cert.OutLN.τ).loc Cert.OutLN.main_arg4) = m ((c.tc : Thread Cert.OutLN.nD Cert.OutLN.τ).loc Cert.OutLN.main_arg4)
      ∧ r.2.mem ((c.tc : Thread Cert.OutLN.nD Cert.OutLN.τ).loc Cert.OutLN.main_arg5) = m ((c.tc : Thread Cert.OutLN.nD Cert.OutLN.τ).loc Cert.OutLN.main_arg5)
      ∧ r.2.mem ((c.tc : Thread Cert.OutLN.nD Cert.OutLN.τ).loc Cert.OutLN.main_arg6) = m ((c.tc : Thread Cert.OutLN.nD Cert.OutLN.τ).loc Cert.OutLN.main_arg6)
      ∧ r.2.mem ((c.tc : Thread Cert.OutLN.nD Cert.OutLN.τ).loc Cert.OutLN.main_arg7) = m ((c.tc : Thread Cert.OutLN.nD Cert.OutLN.τ).loc Cert.OutLN.main_arg7)
      ∧ r.2.mem ((c.tc : Thread Cert.OutLN.nD Cert.OutLN.τ).loc Cert.OutLN.main_arg8) = m ((c.tc : Thread Cert.OutLN.nD Cert.OutLN.τ).loc Cert.OutLN.main_arg8)
      ∧ r.2.mem ((c.tc : Thread Cert.OutLN.nD Cert.OutLN.τ).loc Cert.OutLN.main_arg9) = m ((c.tc : Thread Cert.OutLN.nD Cert.OutLN.τ).loc Cert.OutLN.main_arg9))
      ∧ r.2.sem = fun _ => 0)

def quiescent_OutLNIdeal [hOutLNIdeal : Cert.OutLNIdeal.Facts] : Prop :=
  ∀ (m : (ℓ : Loc Cert.OutLNIdeal.nD Cert.OutLNIdeal.τ Cert.OutLNIdeal.sig) → Buf (Elt Ideal) ℓ) (g : Dev Cert.OutLNIdeal.nD → PrngReg), Pre_OutLNIdeal m →
    θ_run (Cert.OutLNIdeal.defs (F := Ideal)) (onTc (τ := Cert.OutLNIdeal.τ) (Cert.OutLNIdeal.main (F := Ideal))) ⟨m, fun _ => 0, g⟩ (fun r => (∀ c : Dev Cert.OutLNIdeal.nD,
      r.2.mem ((c.tc : Thread Cert.OutLNIdeal.nD Cert.OutLNIdeal.τ).loc Cert.OutLNIdeal.main_arg0) = m ((c.tc : Thread Cert.OutLNIdeal.nD Cert.OutLNIdeal.τ).loc Cert.OutLNIdeal.main_arg0)
      ∧ r.2.mem ((c.tc : Thread Cert.OutLNIdeal.nD Cert.OutLNIdeal.τ).loc Cert.OutLNIdeal.main_arg1) = m ((c.tc : Thread Cert.OutLNIdeal.nD Cert.OutLNIdeal.τ).loc Cert.OutLNIdeal.main_arg1)
      ∧ r.2.mem ((c.tc : Thread Cert.OutLNIdeal.nD Cert.OutLNIdeal.τ).loc Cert.OutLNIdeal.main_arg2) = m ((c.tc : Thread Cert.OutLNIdeal.nD Cert.OutLNIdeal.τ).loc Cert.OutLNIdeal.main_arg2)
      ∧ r.2.mem ((c.tc : Thread Cert.OutLNIdeal.nD Cert.OutLNIdeal.τ).loc Cert.OutLNIdeal.main_arg3) = m ((c.tc : Thread Cert.OutLNIdeal.nD Cert.OutLNIdeal.τ).loc Cert.OutLNIdeal.main_arg3)
      ∧ r.2.mem ((c.tc : Thread Cert.OutLNIdeal.nD Cert.OutLNIdeal.τ).loc Cert.OutLNIdeal.main_arg4) = m ((c.tc : Thread Cert.OutLNIdeal.nD Cert.OutLNIdeal.τ).loc Cert.OutLNIdeal.main_arg4)
      ∧ r.2.mem ((c.tc : Thread Cert.OutLNIdeal.nD Cert.OutLNIdeal.τ).loc Cert.OutLNIdeal.main_arg5) = m ((c.tc : Thread Cert.OutLNIdeal.nD Cert.OutLNIdeal.τ).loc Cert.OutLNIdeal.main_arg5)
      ∧ r.2.mem ((c.tc : Thread Cert.OutLNIdeal.nD Cert.OutLNIdeal.τ).loc Cert.OutLNIdeal.main_arg6) = m ((c.tc : Thread Cert.OutLNIdeal.nD Cert.OutLNIdeal.τ).loc Cert.OutLNIdeal.main_arg6)
      ∧ r.2.mem ((c.tc : Thread Cert.OutLNIdeal.nD Cert.OutLNIdeal.τ).loc Cert.OutLNIdeal.main_arg7) = m ((c.tc : Thread Cert.OutLNIdeal.nD Cert.OutLNIdeal.τ).loc Cert.OutLNIdeal.main_arg7)
      ∧ r.2.mem ((c.tc : Thread Cert.OutLNIdeal.nD Cert.OutLNIdeal.τ).loc Cert.OutLNIdeal.main_arg8) = m ((c.tc : Thread Cert.OutLNIdeal.nD Cert.OutLNIdeal.τ).loc Cert.OutLNIdeal.main_arg8)
      ∧ r.2.mem ((c.tc : Thread Cert.OutLNIdeal.nD Cert.OutLNIdeal.τ).loc Cert.OutLNIdeal.main_arg9) = m ((c.tc : Thread Cert.OutLNIdeal.nD Cert.OutLNIdeal.τ).loc Cert.OutLNIdeal.main_arg9))
      ∧ r.2.sem = fun _ => 0)

def quiescent_OutLNRefIdeal [hOutLNRefIdeal : Cert.OutLNRefIdeal.Facts] : Prop :=
  ∀ (m : (ℓ : Loc Cert.OutLNRefIdeal.nD Cert.OutLNRefIdeal.τ Cert.OutLNRefIdeal.sig) → Buf (Elt Ideal) ℓ) (g : Dev Cert.OutLNRefIdeal.nD → PrngReg), Pre_OutLNRefIdeal m →
    θ_run (Cert.OutLNRefIdeal.defs (F := Ideal)) (onTc (τ := Cert.OutLNRefIdeal.τ) (Cert.OutLNRefIdeal.main (F := Ideal))) ⟨m, fun _ => 0, g⟩ (fun r => (∀ c : Dev Cert.OutLNRefIdeal.nD,
      r.2.mem ((c.tc : Thread Cert.OutLNRefIdeal.nD Cert.OutLNRefIdeal.τ).loc Cert.OutLNRefIdeal.main_arg0) = m ((c.tc : Thread Cert.OutLNRefIdeal.nD Cert.OutLNRefIdeal.τ).loc Cert.OutLNRefIdeal.main_arg0)
      ∧ r.2.mem ((c.tc : Thread Cert.OutLNRefIdeal.nD Cert.OutLNRefIdeal.τ).loc Cert.OutLNRefIdeal.main_arg1) = m ((c.tc : Thread Cert.OutLNRefIdeal.nD Cert.OutLNRefIdeal.τ).loc Cert.OutLNRefIdeal.main_arg1)
      ∧ r.2.mem ((c.tc : Thread Cert.OutLNRefIdeal.nD Cert.OutLNRefIdeal.τ).loc Cert.OutLNRefIdeal.main_arg2) = m ((c.tc : Thread Cert.OutLNRefIdeal.nD Cert.OutLNRefIdeal.τ).loc Cert.OutLNRefIdeal.main_arg2)
      ∧ r.2.mem ((c.tc : Thread Cert.OutLNRefIdeal.nD Cert.OutLNRefIdeal.τ).loc Cert.OutLNRefIdeal.main_arg3) = m ((c.tc : Thread Cert.OutLNRefIdeal.nD Cert.OutLNRefIdeal.τ).loc Cert.OutLNRefIdeal.main_arg3)
      ∧ r.2.mem ((c.tc : Thread Cert.OutLNRefIdeal.nD Cert.OutLNRefIdeal.τ).loc Cert.OutLNRefIdeal.main_arg4) = m ((c.tc : Thread Cert.OutLNRefIdeal.nD Cert.OutLNRefIdeal.τ).loc Cert.OutLNRefIdeal.main_arg4)
      ∧ r.2.mem ((c.tc : Thread Cert.OutLNRefIdeal.nD Cert.OutLNRefIdeal.τ).loc Cert.OutLNRefIdeal.main_arg5) = m ((c.tc : Thread Cert.OutLNRefIdeal.nD Cert.OutLNRefIdeal.τ).loc Cert.OutLNRefIdeal.main_arg5)
      ∧ r.2.mem ((c.tc : Thread Cert.OutLNRefIdeal.nD Cert.OutLNRefIdeal.τ).loc Cert.OutLNRefIdeal.main_arg6) = m ((c.tc : Thread Cert.OutLNRefIdeal.nD Cert.OutLNRefIdeal.τ).loc Cert.OutLNRefIdeal.main_arg6)
      ∧ r.2.mem ((c.tc : Thread Cert.OutLNRefIdeal.nD Cert.OutLNRefIdeal.τ).loc Cert.OutLNRefIdeal.main_arg7) = m ((c.tc : Thread Cert.OutLNRefIdeal.nD Cert.OutLNRefIdeal.τ).loc Cert.OutLNRefIdeal.main_arg7)
      ∧ r.2.mem ((c.tc : Thread Cert.OutLNRefIdeal.nD Cert.OutLNRefIdeal.τ).loc Cert.OutLNRefIdeal.main_arg8) = m ((c.tc : Thread Cert.OutLNRefIdeal.nD Cert.OutLNRefIdeal.τ).loc Cert.OutLNRefIdeal.main_arg8)
      ∧ r.2.mem ((c.tc : Thread Cert.OutLNRefIdeal.nD Cert.OutLNRefIdeal.τ).loc Cert.OutLNRefIdeal.main_arg9) = m ((c.tc : Thread Cert.OutLNRefIdeal.nD Cert.OutLNRefIdeal.τ).loc Cert.OutLNRefIdeal.main_arg9))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v16)) (v1 : (c : Dev Cert.AttnIdeal.nD) → Buf (Elt Ideal) ((c.tc : Thread Cert.AttnIdeal.nD Cert.AttnIdeal.τ).loc Cert.AttnIdeal.main_v17)) (v2 : (c : Dev Cert.AttnIdeal.nD) → Buf (Elt Ideal) ((c.tc : Thread Cert.AttnIdeal.nD Cert.AttnIdeal.τ).loc Cert.AttnIdeal.main_v18)) (v3 : (c : Dev Cert.AttnIdeal.nD) → Buf (Elt Ideal) ((c.tc : Thread Cert.AttnIdeal.nD Cert.AttnIdeal.τ).loc Cert.AttnIdeal.main_v20)) (v4 : (c : Dev Cert.AttnIdeal.nD) → Buf (Elt Ideal) ((c.tc : Thread Cert.AttnIdeal.nD Cert.AttnIdeal.τ).loc Cert.AttnIdeal.main_v15_2)) (v5 : (c : Dev Cert.AttnIdeal.nD) → Buf (Elt Ideal) ((c.tc : Thread Cert.AttnIdeal.nD Cert.AttnIdeal.τ).loc Cert.AttnIdeal.main_v13_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_v17) = v1 c
          ∧ r.2.mem ((c.tc : Thread Cert.AttnIdeal.nD Cert.AttnIdeal.τ).loc Cert.AttnIdeal.main_v18) = v2 c
          ∧ r.2.mem ((c.tc : Thread Cert.AttnIdeal.nD Cert.AttnIdeal.τ).loc Cert.AttnIdeal.main_v20) = v3 c
          ∧ r.2.mem ((c.tc : Thread Cert.AttnIdeal.nD Cert.AttnIdeal.τ).loc Cert.AttnIdeal.main_v15_2) = v4 c
          ∧ r.2.mem ((c.tc : Thread Cert.AttnIdeal.nD Cert.AttnIdeal.τ).loc Cert.AttnIdeal.main_v13_0) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v61) = v0 c
          ∧ r.2.mem ((c.tc : Thread Cert.AttnRefIdeal.nD Cert.AttnRefIdeal.τ).loc Cert.AttnRefIdeal.main_v62) = v1 c
          ∧ r.2.mem ((c.tc : Thread Cert.AttnRefIdeal.nD Cert.AttnRefIdeal.τ).loc Cert.AttnRefIdeal.main_v63) = v2 c
          ∧ r.2.mem ((c.tc : Thread Cert.AttnRefIdeal.nD Cert.AttnRefIdeal.τ).loc Cert.AttnRefIdeal.main_v56) = v3 c
          ∧ r.2.mem ((c.tc : Thread Cert.AttnRefIdeal.nD Cert.AttnRefIdeal.τ).loc Cert.AttnRefIdeal.main_v64) = v4 c
          ∧ r.2.mem ((c.tc : Thread Cert.AttnRefIdeal.nD Cert.AttnRefIdeal.τ).loc Cert.AttnRefIdeal.main_v34) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Lnb_LnbIdeal : Prop :=
  True

def algebraic_LnbIdeal_LnbRefIdeal_pre_lnb_finite [hLnbIdeal : Cert.LnbIdeal.Facts] [hLnbRefIdeal : Cert.LnbRefIdeal.Facts] [hPre_lnb_finite : Cert.Pre_lnb_finite.Facts] : Prop :=
  ∀ (m : (ℓ : Loc Cert.LnbIdeal.nD Cert.LnbIdeal.τ Cert.LnbIdeal.sig) → Buf (Elt Ideal) ℓ) (g : Dev Cert.LnbIdeal.nD → PrngReg)
    (m' : (ℓ : Loc Cert.LnbRefIdeal.nD Cert.LnbRefIdeal.τ Cert.LnbRefIdeal.sig) → Buf (Elt Ideal) ℓ) (g' : Dev Cert.LnbRefIdeal.nD → PrngReg), Pre_LnbIdeal_lnb_finite m →
    (∀ c : Dev Cert.LnbIdeal.nD,
      m' ((c.tc : Thread Cert.LnbRefIdeal.nD Cert.LnbRefIdeal.τ).loc Cert.LnbRefIdeal.main_arg0) = m ((c.tc : Thread Cert.LnbIdeal.nD Cert.LnbIdeal.τ).loc Cert.LnbIdeal.main_arg0)
      ∧ m' ((c.tc : Thread Cert.LnbRefIdeal.nD Cert.LnbRefIdeal.τ).loc Cert.LnbRefIdeal.main_arg1) = m ((c.tc : Thread Cert.LnbIdeal.nD Cert.LnbIdeal.τ).loc Cert.LnbIdeal.main_arg1)
      ∧ m' ((c.tc : Thread Cert.LnbRefIdeal.nD Cert.LnbRefIdeal.τ).loc Cert.LnbRefIdeal.main_arg2) = m ((c.tc : Thread Cert.LnbIdeal.nD Cert.LnbIdeal.τ).loc Cert.LnbIdeal.main_arg2)) →
    ∃ (v0 : (c : Dev Cert.LnbIdeal.nD) → Buf (Elt Ideal) ((c.tc : Thread Cert.LnbIdeal.nD Cert.LnbIdeal.τ).loc Cert.LnbIdeal.main_v0_0)) (v1 : (c : Dev Cert.LnbIdeal.nD) → Buf (Elt Ideal) ((c.tc : Thread Cert.LnbIdeal.nD Cert.LnbIdeal.τ).loc Cert.LnbIdeal.main_v4)) (v2 : (c : Dev Cert.LnbIdeal.nD) → Buf (Elt Ideal) ((c.tc : Thread Cert.LnbIdeal.nD Cert.LnbIdeal.τ).loc Cert.LnbIdeal.main_v8)),
      θ_run (Cert.LnbIdeal.defs (F := Ideal)) (onTc (τ := Cert.LnbIdeal.τ) (Cert.LnbIdeal.main (F := Ideal))) ⟨m, fun _ => 0, g⟩ (fun r => ∀ c : Dev Cert.LnbIdeal.nD,
          r.2.mem ((c.tc : Thread Cert.LnbIdeal.nD Cert.LnbIdeal.τ).loc Cert.LnbIdeal.main_v0_0) = v0 c
          ∧ r.2.mem ((c.tc : Thread Cert.LnbIdeal.nD Cert.LnbIdeal.τ).loc Cert.LnbIdeal.main_v4) = v1 c
          ∧ r.2.mem ((c.tc : Thread Cert.LnbIdeal.nD Cert.LnbIdeal.τ).loc Cert.LnbIdeal.main_v8) = v2 c
          ∧ r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
          ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
          ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2))
      ∧ θ_run (Cert.LnbRefIdeal.defs (F := Ideal)) (onTc (τ := Cert.LnbRefIdeal.τ) (Cert.LnbRefIdeal.main (F := Ideal))) ⟨m', fun _ => 0, g'⟩ (fun r => ∀ c : Dev Cert.LnbRefIdeal.nD,
          r.2.mem ((c.tc : Thread Cert.LnbRefIdeal.nD Cert.LnbRefIdeal.τ).loc Cert.LnbRefIdeal.main_v65) = v0 c
          ∧ r.2.mem ((c.tc : Thread Cert.LnbRefIdeal.nD Cert.LnbRefIdeal.τ).loc Cert.LnbRefIdeal.main_v41) = v1 c
          ∧ r.2.mem ((c.tc : Thread Cert.LnbRefIdeal.nD Cert.LnbRefIdeal.τ).loc Cert.LnbRefIdeal.main_v35) = v2 c
          ∧ r.2.mem ((c.tc : Thread Cert.LnbRefIdeal.nD Cert.LnbRefIdeal.τ).loc Cert.LnbRefIdeal.main_arg0) = m' ((c.tc : Thread Cert.LnbRefIdeal.nD Cert.LnbRefIdeal.τ).loc Cert.LnbRefIdeal.main_arg0)
          ∧ r.2.mem ((c.tc : Thread Cert.LnbRefIdeal.nD Cert.LnbRefIdeal.τ).loc Cert.LnbRefIdeal.main_arg1) = m' ((c.tc : Thread Cert.LnbRefIdeal.nD Cert.LnbRefIdeal.τ).loc Cert.LnbRefIdeal.main_arg1)
          ∧ r.2.mem ((c.tc : Thread Cert.LnbRefIdeal.nD Cert.LnbRefIdeal.τ).loc Cert.LnbRefIdeal.main_arg2) = m' ((c.tc : Thread Cert.LnbRefIdeal.nD Cert.LnbRefIdeal.τ).loc Cert.LnbRefIdeal.main_arg2))

def preserves_RopeQ_RopeQIdeal : Prop :=
  True

def algebraic_RopeQIdeal_RopeQRefIdeal [hRopeQIdeal : Cert.RopeQIdeal.Facts] [hRopeQRefIdeal : Cert.RopeQRefIdeal.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.RopeQRefIdeal.nD Cert.RopeQRefIdeal.τ Cert.RopeQRefIdeal.sig) → Buf (Elt Ideal) ℓ) (g' : Dev Cert.RopeQRefIdeal.nD → PrngReg), Pre_RopeQIdeal m →
    (∀ c : Dev Cert.RopeQIdeal.nD,
      m' ((c.tc : Thread Cert.RopeQRefIdeal.nD Cert.RopeQRefIdeal.τ).loc Cert.RopeQRefIdeal.main_arg0) = m ((c.tc : Thread Cert.RopeQIdeal.nD Cert.RopeQIdeal.τ).loc Cert.RopeQIdeal.main_arg0)
      ∧ m' ((c.tc : Thread Cert.RopeQRefIdeal.nD Cert.RopeQRefIdeal.τ).loc Cert.RopeQRefIdeal.main_arg1) = m ((c.tc : Thread Cert.RopeQIdeal.nD Cert.RopeQIdeal.τ).loc Cert.RopeQIdeal.main_arg1)
      ∧ m' ((c.tc : Thread Cert.RopeQRefIdeal.nD Cert.RopeQRefIdeal.τ).loc Cert.RopeQRefIdeal.main_arg2) = m ((c.tc : Thread Cert.RopeQIdeal.nD Cert.RopeQIdeal.τ).loc Cert.RopeQIdeal.main_arg2)) →
    ∃ (v0 : (c : Dev Cert.RopeQIdeal.nD) → Buf (Elt Ideal) ((c.tc : Thread Cert.RopeQIdeal.nD Cert.RopeQIdeal.τ).loc Cert.RopeQIdeal.main_v30)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v30) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
          ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
          ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ θ_run (Cert.RopeQRefIdeal.defs (F := Ideal)) (onTc (τ := Cert.RopeQRefIdeal.τ) (Cert.RopeQRefIdeal.main (F := Ideal))) ⟨m', fun _ => 0, g'⟩ (fun r => ∀ c : Dev Cert.RopeQRefIdeal.nD,
          r.2.mem ((c.tc : Thread Cert.RopeQRefIdeal.nD Cert.RopeQRefIdeal.τ).loc Cert.RopeQRefIdeal.main_v57) = v0 c
          ∧ r.2.mem ((c.tc : Thread Cert.RopeQRefIdeal.nD Cert.RopeQRefIdeal.τ).loc Cert.RopeQRefIdeal.main_arg0) = m' ((c.tc : Thread Cert.RopeQRefIdeal.nD Cert.RopeQRefIdeal.τ).loc Cert.RopeQRefIdeal.main_arg0)
          ∧ r.2.mem ((c.tc : Thread Cert.RopeQRefIdeal.nD Cert.RopeQRefIdeal.τ).loc Cert.RopeQRefIdeal.main_arg1) = m' ((c.tc : Thread Cert.RopeQRefIdeal.nD Cert.RopeQRefIdeal.τ).loc Cert.RopeQRefIdeal.main_arg1)
          ∧ r.2.mem ((c.tc : Thread Cert.RopeQRefIdeal.nD Cert.RopeQRefIdeal.τ).loc Cert.RopeQRefIdeal.main_arg2) = m' ((c.tc : Thread Cert.RopeQRefIdeal.nD Cert.RopeQRefIdeal.τ).loc Cert.RopeQRefIdeal.main_arg2))

def preserves_DLat_DLatIdeal : Prop :=
  True

def algebraic_DLatIdeal_DLatRefIdeal_pre_dlat_finite [hDLatIdeal : Cert.DLatIdeal.Facts] [hDLatRefIdeal : Cert.DLatRefIdeal.Facts] [hPre_dlat_finite : Cert.Pre_dlat_finite.Facts] : Prop :=
  ∀ (m : (ℓ : Loc Cert.DLatIdeal.nD Cert.DLatIdeal.τ Cert.DLatIdeal.sig) → Buf (Elt Ideal) ℓ) (g : Dev Cert.DLatIdeal.nD → PrngReg)
    (m' : (ℓ : Loc Cert.DLatRefIdeal.nD Cert.DLatRefIdeal.τ Cert.DLatRefIdeal.sig) → Buf (Elt Ideal) ℓ) (g' : Dev Cert.DLatRefIdeal.nD → PrngReg), Pre_DLatIdeal_dlat_finite m →
    (∀ c : Dev Cert.DLatIdeal.nD,
      m' ((c.tc : Thread Cert.DLatRefIdeal.nD Cert.DLatRefIdeal.τ).loc Cert.DLatRefIdeal.main_arg0) = m ((c.tc : Thread Cert.DLatIdeal.nD Cert.DLatIdeal.τ).loc Cert.DLatIdeal.main_arg0)
      ∧ m' ((c.tc : Thread Cert.DLatRefIdeal.nD Cert.DLatRefIdeal.τ).loc Cert.DLatRefIdeal.main_arg1) = m ((c.tc : Thread Cert.DLatIdeal.nD Cert.DLatIdeal.τ).loc Cert.DLatIdeal.main_arg1)
      ∧ m' ((c.tc : Thread Cert.DLatRefIdeal.nD Cert.DLatRefIdeal.τ).loc Cert.DLatRefIdeal.main_arg2) = m ((c.tc : Thread Cert.DLatIdeal.nD Cert.DLatIdeal.τ).loc Cert.DLatIdeal.main_arg2)
      ∧ m' ((c.tc : Thread Cert.DLatRefIdeal.nD Cert.DLatRefIdeal.τ).loc Cert.DLatRefIdeal.main_arg3) = m ((c.tc : Thread Cert.DLatIdeal.nD Cert.DLatIdeal.τ).loc Cert.DLatIdeal.main_arg3)
      ∧ m' ((c.tc : Thread Cert.DLatRefIdeal.nD Cert.DLatRefIdeal.τ).loc Cert.DLatRefIdeal.main_arg4) = m ((c.tc : Thread Cert.DLatIdeal.nD Cert.DLatIdeal.τ).loc Cert.DLatIdeal.main_arg4)
      ∧ m' ((c.tc : Thread Cert.DLatRefIdeal.nD Cert.DLatRefIdeal.τ).loc Cert.DLatRefIdeal.main_arg5) = m ((c.tc : Thread Cert.DLatIdeal.nD Cert.DLatIdeal.τ).loc Cert.DLatIdeal.main_arg5)
      ∧ m' ((c.tc : Thread Cert.DLatRefIdeal.nD Cert.DLatRefIdeal.τ).loc Cert.DLatRefIdeal.main_arg6) = m ((c.tc : Thread Cert.DLatIdeal.nD Cert.DLatIdeal.τ).loc Cert.DLatIdeal.main_arg6)) →
    ∃ (v0 : (c : Dev Cert.DLatIdeal.nD) → Buf (Elt Ideal) ((c.tc : Thread Cert.DLatIdeal.nD Cert.DLatIdeal.τ).loc Cert.DLatIdeal.main_v3)) (v1 : (c : Dev Cert.DLatIdeal.nD) → Buf (Elt Ideal) ((c.tc : Thread Cert.DLatIdeal.nD Cert.DLatIdeal.τ).loc Cert.DLatIdeal.main_v7)) (v2 : (c : Dev Cert.DLatIdeal.nD) → Buf (Elt Ideal) ((c.tc : Thread Cert.DLatIdeal.nD Cert.DLatIdeal.τ).loc Cert.DLatIdeal.main_v11)),
      θ_run (Cert.DLatIdeal.defs (F := Ideal)) (onTc (τ := Cert.DLatIdeal.τ) (Cert.DLatIdeal.main (F := Ideal))) ⟨m, fun _ => 0, g⟩ (fun r => ∀ c : Dev Cert.DLatIdeal.nD,
          r.2.mem ((c.tc : Thread Cert.DLatIdeal.nD Cert.DLatIdeal.τ).loc Cert.DLatIdeal.main_v3) = v0 c
          ∧ r.2.mem ((c.tc : Thread Cert.DLatIdeal.nD Cert.DLatIdeal.τ).loc Cert.DLatIdeal.main_v7) = v1 c
          ∧ r.2.mem ((c.tc : Thread Cert.DLatIdeal.nD Cert.DLatIdeal.τ).loc Cert.DLatIdeal.main_v11) = v2 c
          ∧ r.2.mem ((c.tc : Thread Cert.DLatIdeal.nD Cert.DLatIdeal.τ).loc Cert.DLatIdeal.main_arg0) = m ((c.tc : Thread Cert.DLatIdeal.nD Cert.DLatIdeal.τ).loc Cert.DLatIdeal.main_arg0)
          ∧ r.2.mem ((c.tc : Thread Cert.DLatIdeal.nD Cert.DLatIdeal.τ).loc Cert.DLatIdeal.main_arg1) = m ((c.tc : Thread Cert.DLatIdeal.nD Cert.DLatIdeal.τ).loc Cert.DLatIdeal.main_arg1)
          ∧ r.2.mem ((c.tc : Thread Cert.DLatIdeal.nD Cert.DLatIdeal.τ).loc Cert.DLatIdeal.main_arg2) = m ((c.tc : Thread Cert.DLatIdeal.nD Cert.DLatIdeal.τ).loc Cert.DLatIdeal.main_arg2)
          ∧ r.2.mem ((c.tc : Thread Cert.DLatIdeal.nD Cert.DLatIdeal.τ).loc Cert.DLatIdeal.main_arg3) = m ((c.tc : Thread Cert.DLatIdeal.nD Cert.DLatIdeal.τ).loc Cert.DLatIdeal.main_arg3)
          ∧ r.2.mem ((c.tc : Thread Cert.DLatIdeal.nD Cert.DLatIdeal.τ).loc Cert.DLatIdeal.main_arg4) = m ((c.tc : Thread Cert.DLatIdeal.nD Cert.DLatIdeal.τ).loc Cert.DLatIdeal.main_arg4)
          ∧ r.2.mem ((c.tc : Thread Cert.DLatIdeal.nD Cert.DLatIdeal.τ).loc Cert.DLatIdeal.main_arg5) = m ((c.tc : Thread Cert.DLatIdeal.nD Cert.DLatIdeal.τ).loc Cert.DLatIdeal.main_arg5)
          ∧ r.2.mem ((c.tc : Thread Cert.DLatIdeal.nD Cert.DLatIdeal.τ).loc Cert.DLatIdeal.main_arg6) = m ((c.tc : Thread Cert.DLatIdeal.nD Cert.DLatIdeal.τ).loc Cert.DLatIdeal.main_arg6))
      ∧ θ_run (Cert.DLatRefIdeal.defs (F := Ideal)) (onTc (τ := Cert.DLatRefIdeal.τ) (Cert.DLatRefIdeal.main (F := Ideal))) ⟨m', fun _ => 0, g'⟩ (fun r => ∀ c : Dev Cert.DLatRefIdeal.nD,
          r.2.mem ((c.tc : Thread Cert.DLatRefIdeal.nD Cert.DLatRefIdeal.τ).loc Cert.DLatRefIdeal.main_v80) = v0 c
          ∧ r.2.mem ((c.tc : Thread Cert.DLatRefIdeal.nD Cert.DLatRefIdeal.τ).loc Cert.DLatRefIdeal.main_v64) = v1 c
          ∧ r.2.mem ((c.tc : Thread Cert.DLatRefIdeal.nD Cert.DLatRefIdeal.τ).loc Cert.DLatRefIdeal.main_v42) = v2 c
          ∧ r.2.mem ((c.tc : Thread Cert.DLatRefIdeal.nD Cert.DLatRefIdeal.τ).loc Cert.DLatRefIdeal.main_arg0) = m' ((c.tc : Thread Cert.DLatRefIdeal.nD Cert.DLatRefIdeal.τ).loc Cert.DLatRefIdeal.main_arg0)
          ∧ r.2.mem ((c.tc : Thread Cert.DLatRefIdeal.nD Cert.DLatRefIdeal.τ).loc Cert.DLatRefIdeal.main_arg1) = m' ((c.tc : Thread Cert.DLatRefIdeal.nD Cert.DLatRefIdeal.τ).loc Cert.DLatRefIdeal.main_arg1)
          ∧ r.2.mem ((c.tc : Thread Cert.DLatRefIdeal.nD Cert.DLatRefIdeal.τ).loc Cert.DLatRefIdeal.main_arg2) = m' ((c.tc : Thread Cert.DLatRefIdeal.nD Cert.DLatRefIdeal.τ).loc Cert.DLatRefIdeal.main_arg2)
          ∧ r.2.mem ((c.tc : Thread Cert.DLatRefIdeal.nD Cert.DLatRefIdeal.τ).loc Cert.DLatRefIdeal.main_arg3) = m' ((c.tc : Thread Cert.DLatRefIdeal.nD Cert.DLatRefIdeal.τ).loc Cert.DLatRefIdeal.main_arg3)
          ∧ r.2.mem ((c.tc : Thread Cert.DLatRefIdeal.nD Cert.DLatRefIdeal.τ).loc Cert.DLatRefIdeal.main_arg4) = m' ((c.tc : Thread Cert.DLatRefIdeal.nD Cert.DLatRefIdeal.τ).loc Cert.DLatRefIdeal.main_arg4)
          ∧ r.2.mem ((c.tc : Thread Cert.DLatRefIdeal.nD Cert.DLatRefIdeal.τ).loc Cert.DLatRefIdeal.main_arg5) = m' ((c.tc : Thread Cert.DLatRefIdeal.nD Cert.DLatRefIdeal.τ).loc Cert.DLatRefIdeal.main_arg5)
          ∧ r.2.mem ((c.tc : Thread Cert.DLatRefIdeal.nD Cert.DLatRefIdeal.τ).loc Cert.DLatRefIdeal.main_arg6) = m' ((c.tc : Thread Cert.DLatRefIdeal.nD Cert.DLatRefIdeal.τ).loc Cert.DLatRefIdeal.main_arg6))

def preserves_FfnDA_FfnDAIdeal : Prop :=
  True

def algebraic_FfnDAIdeal_FfnDARefIdeal_pre_ffnda_finite [hFfnDAIdeal : Cert.FfnDAIdeal.Facts] [hFfnDARefIdeal : Cert.FfnDARefIdeal.Facts] [hPre_ffnda_finite : Cert.Pre_ffnda_finite.Facts] : Prop :=
  ∀ (m : (ℓ : Loc Cert.FfnDAIdeal.nD Cert.FfnDAIdeal.τ Cert.FfnDAIdeal.sig) → Buf (Elt Ideal) ℓ) (g : Dev Cert.FfnDAIdeal.nD → PrngReg)
    (m' : (ℓ : Loc Cert.FfnDARefIdeal.nD Cert.FfnDARefIdeal.τ Cert.FfnDARefIdeal.sig) → Buf (Elt Ideal) ℓ) (g' : Dev Cert.FfnDARefIdeal.nD → PrngReg), Pre_FfnDAIdeal_ffnda_finite m →
    (∀ c : Dev Cert.FfnDAIdeal.nD,
      m' ((c.tc : Thread Cert.FfnDARefIdeal.nD Cert.FfnDARefIdeal.τ).loc Cert.FfnDARefIdeal.main_arg0) = m ((c.tc : Thread Cert.FfnDAIdeal.nD Cert.FfnDAIdeal.τ).loc Cert.FfnDAIdeal.main_arg0)
      ∧ m' ((c.tc : Thread Cert.FfnDARefIdeal.nD Cert.FfnDARefIdeal.τ).loc Cert.FfnDARefIdeal.main_arg1) = m ((c.tc : Thread Cert.FfnDAIdeal.nD Cert.FfnDAIdeal.τ).loc Cert.FfnDAIdeal.main_arg1)
      ∧ m' ((c.tc : Thread Cert.FfnDARefIdeal.nD Cert.FfnDARefIdeal.τ).loc Cert.FfnDARefIdeal.main_arg2) = m ((c.tc : Thread Cert.FfnDAIdeal.nD Cert.FfnDAIdeal.τ).loc Cert.FfnDAIdeal.main_arg2)
      ∧ m' ((c.tc : Thread Cert.FfnDARefIdeal.nD Cert.FfnDARefIdeal.τ).loc Cert.FfnDARefIdeal.main_arg3) = m ((c.tc : Thread Cert.FfnDAIdeal.nD Cert.FfnDAIdeal.τ).loc Cert.FfnDAIdeal.main_arg3)) →
    ∃ (v0 : (c : Dev Cert.FfnDAIdeal.nD) → Buf (Elt Ideal) ((c.tc : Thread Cert.FfnDAIdeal.nD Cert.FfnDAIdeal.τ).loc Cert.FfnDAIdeal.main_v1)) (v1 : (c : Dev Cert.FfnDAIdeal.nD) → Buf (Elt Ideal) ((c.tc : Thread Cert.FfnDAIdeal.nD Cert.FfnDAIdeal.τ).loc Cert.FfnDAIdeal.main_v2)),
      θ_run (Cert.FfnDAIdeal.defs (F := Ideal)) (onTc (τ := Cert.FfnDAIdeal.τ) (Cert.FfnDAIdeal.main (F := Ideal))) ⟨m, fun _ => 0, g⟩ (fun r => ∀ c : Dev Cert.FfnDAIdeal.nD,
          r.2.mem ((c.tc : Thread Cert.FfnDAIdeal.nD Cert.FfnDAIdeal.τ).loc Cert.FfnDAIdeal.main_v1) = v0 c
          ∧ r.2.mem ((c.tc : Thread Cert.FfnDAIdeal.nD Cert.FfnDAIdeal.τ).loc Cert.FfnDAIdeal.main_v2) = v1 c
          ∧ r.2.mem ((c.tc : Thread Cert.FfnDAIdeal.nD Cert.FfnDAIdeal.τ).loc Cert.FfnDAIdeal.main_arg0) = m ((c.tc : Thread Cert.FfnDAIdeal.nD Cert.FfnDAIdeal.τ).loc Cert.FfnDAIdeal.main_arg0)
          ∧ r.2.mem ((c.tc : Thread Cert.FfnDAIdeal.nD Cert.FfnDAIdeal.τ).loc Cert.FfnDAIdeal.main_arg1) = m ((c.tc : Thread Cert.FfnDAIdeal.nD Cert.FfnDAIdeal.τ).loc Cert.FfnDAIdeal.main_arg1)
          ∧ r.2.mem ((c.tc : Thread Cert.FfnDAIdeal.nD Cert.FfnDAIdeal.τ).loc Cert.FfnDAIdeal.main_arg2) = m ((c.tc : Thread Cert.FfnDAIdeal.nD Cert.FfnDAIdeal.τ).loc Cert.FfnDAIdeal.main_arg2)
          ∧ r.2.mem ((c.tc : Thread Cert.FfnDAIdeal.nD Cert.FfnDAIdeal.τ).loc Cert.FfnDAIdeal.main_arg3) = m ((c.tc : Thread Cert.FfnDAIdeal.nD Cert.FfnDAIdeal.τ).loc Cert.FfnDAIdeal.main_arg3))
      ∧ θ_run (Cert.FfnDARefIdeal.defs (F := Ideal)) (onTc (τ := Cert.FfnDARefIdeal.τ) (Cert.FfnDARefIdeal.main (F := Ideal))) ⟨m', fun _ => 0, g'⟩ (fun r => ∀ c : Dev Cert.FfnDARefIdeal.nD,
          r.2.mem ((c.tc : Thread Cert.FfnDARefIdeal.nD Cert.FfnDARefIdeal.τ).loc Cert.FfnDARefIdeal.main_v6) = v0 c
          ∧ r.2.mem ((c.tc : Thread Cert.FfnDARefIdeal.nD Cert.FfnDARefIdeal.τ).loc Cert.FfnDARefIdeal.main_v4) = v1 c
          ∧ r.2.mem ((c.tc : Thread Cert.FfnDARefIdeal.nD Cert.FfnDARefIdeal.τ).loc Cert.FfnDARefIdeal.main_arg0) = m' ((c.tc : Thread Cert.FfnDARefIdeal.nD Cert.FfnDARefIdeal.τ).loc Cert.FfnDARefIdeal.main_arg0)
          ∧ r.2.mem ((c.tc : Thread Cert.FfnDARefIdeal.nD Cert.FfnDARefIdeal.τ).loc Cert.FfnDARefIdeal.main_arg1) = m' ((c.tc : Thread Cert.FfnDARefIdeal.nD Cert.FfnDARefIdeal.τ).loc Cert.FfnDARefIdeal.main_arg1)
          ∧ r.2.mem ((c.tc : Thread Cert.FfnDARefIdeal.nD Cert.FfnDARefIdeal.τ).loc Cert.FfnDARefIdeal.main_arg2) = m' ((c.tc : Thread Cert.FfnDARefIdeal.nD Cert.FfnDARefIdeal.τ).loc Cert.FfnDARefIdeal.main_arg2)
          ∧ r.2.mem ((c.tc : Thread Cert.FfnDARefIdeal.nD Cert.FfnDARefIdeal.τ).loc Cert.FfnDARefIdeal.main_arg3) = m' ((c.tc : Thread Cert.FfnDARefIdeal.nD Cert.FfnDARefIdeal.τ).loc Cert.FfnDARefIdeal.main_arg3))

def preserves_RopeKV_RopeKVIdeal : Prop :=
  True

def algebraic_RopeKVIdeal_RopeKVRefIdeal_pre_ropekv_finite [hRopeKVIdeal : Cert.RopeKVIdeal.Facts] [hRopeKVRefIdeal : Cert.RopeKVRefIdeal.Facts] [hPre_ropekv_finite : Cert.Pre_ropekv_finite.Facts] : Prop :=
  ∀ (m : (ℓ : Loc Cert.RopeKVIdeal.nD Cert.RopeKVIdeal.τ Cert.RopeKVIdeal.sig) → Buf (Elt Ideal) ℓ) (g : Dev Cert.RopeKVIdeal.nD → PrngReg)
    (m' : (ℓ : Loc Cert.RopeKVRefIdeal.nD Cert.RopeKVRefIdeal.τ Cert.RopeKVRefIdeal.sig) → Buf (Elt Ideal) ℓ) (g' : Dev Cert.RopeKVRefIdeal.nD → PrngReg), Pre_RopeKVIdeal_ropekv_finite m →
    (∀ c : Dev Cert.RopeKVIdeal.nD,
      m' ((c.tc : Thread Cert.RopeKVRefIdeal.nD Cert.RopeKVRefIdeal.τ).loc Cert.RopeKVRefIdeal.main_arg0) = m ((c.tc : Thread Cert.RopeKVIdeal.nD Cert.RopeKVIdeal.τ).loc Cert.RopeKVIdeal.main_arg0)
      ∧ m' ((c.tc : Thread Cert.RopeKVRefIdeal.nD Cert.RopeKVRefIdeal.τ).loc Cert.RopeKVRefIdeal.main_arg1) = m ((c.tc : Thread Cert.RopeKVIdeal.nD Cert.RopeKVIdeal.τ).loc Cert.RopeKVIdeal.main_arg1)
      ∧ m' ((c.tc : Thread Cert.RopeKVRefIdeal.nD Cert.RopeKVRefIdeal.τ).loc Cert.RopeKVRefIdeal.main_arg2) = m ((c.tc : Thread Cert.RopeKVIdeal.nD Cert.RopeKVIdeal.τ).loc Cert.RopeKVIdeal.main_arg2)) →
    ∃ (v0 : (c : Dev Cert.RopeKVIdeal.nD) → Buf (Elt Ideal) ((c.tc : Thread Cert.RopeKVIdeal.nD Cert.RopeKVIdeal.τ).loc Cert.RopeKVIdeal.main_v18)) (v1 : (c : Dev Cert.RopeKVIdeal.nD) → Buf (Elt Ideal) ((c.tc : Thread Cert.RopeKVIdeal.nD Cert.RopeKVIdeal.τ).loc Cert.RopeKVIdeal.main_v24)),
      θ_run (Cert.RopeKVIdeal.defs (F := Ideal)) (onTc (τ := Cert.RopeKVIdeal.τ) (Cert.RopeKVIdeal.main (F := Ideal))) ⟨m, fun _ => 0, g⟩ (fun r => ∀ c : Dev Cert.RopeKVIdeal.nD,
          r.2.mem ((c.tc : Thread Cert.RopeKVIdeal.nD Cert.RopeKVIdeal.τ).loc Cert.RopeKVIdeal.main_v18) = v0 c
          ∧ r.2.mem ((c.tc : Thread Cert.RopeKVIdeal.nD Cert.RopeKVIdeal.τ).loc Cert.RopeKVIdeal.main_v24) = v1 c
          ∧ r.2.mem ((c.tc : Thread Cert.RopeKVIdeal.nD Cert.RopeKVIdeal.τ).loc Cert.RopeKVIdeal.main_arg0) = m ((c.tc : Thread Cert.RopeKVIdeal.nD Cert.RopeKVIdeal.τ).loc Cert.RopeKVIdeal.main_arg0)
          ∧ r.2.mem ((c.tc : Thread Cert.RopeKVIdeal.nD Cert.RopeKVIdeal.τ).loc Cert.RopeKVIdeal.main_arg1) = m ((c.tc : Thread Cert.RopeKVIdeal.nD Cert.RopeKVIdeal.τ).loc Cert.RopeKVIdeal.main_arg1)
          ∧ r.2.mem ((c.tc : Thread Cert.RopeKVIdeal.nD Cert.RopeKVIdeal.τ).loc Cert.RopeKVIdeal.main_arg2) = m ((c.tc : Thread Cert.RopeKVIdeal.nD Cert.RopeKVIdeal.τ).loc Cert.RopeKVIdeal.main_arg2))
      ∧ θ_run (Cert.RopeKVRefIdeal.defs (F := Ideal)) (onTc (τ := Cert.RopeKVRefIdeal.τ) (Cert.RopeKVRefIdeal.main (F := Ideal))) ⟨m', fun _ => 0, g'⟩ (fun r => ∀ c : Dev Cert.RopeKVRefIdeal.nD,
          r.2.mem ((c.tc : Thread Cert.RopeKVRefIdeal.nD Cert.RopeKVRefIdeal.τ).loc Cert.RopeKVRefIdeal.main_v41) = v0 c
          ∧ r.2.mem ((c.tc : Thread Cert.RopeKVRefIdeal.nD Cert.RopeKVRefIdeal.τ).loc Cert.RopeKVRefIdeal.main_v53) = v1 c
          ∧ r.2.mem ((c.tc : Thread Cert.RopeKVRefIdeal.nD Cert.RopeKVRefIdeal.τ).loc Cert.RopeKVRefIdeal.main_arg0) = m' ((c.tc : Thread Cert.RopeKVRefIdeal.nD Cert.RopeKVRefIdeal.τ).loc Cert.RopeKVRefIdeal.main_arg0)
          ∧ r.2.mem ((c.tc : Thread Cert.RopeKVRefIdeal.nD Cert.RopeKVRefIdeal.τ).loc Cert.RopeKVRefIdeal.main_arg1) = m' ((c.tc : Thread Cert.RopeKVRefIdeal.nD Cert.RopeKVRefIdeal.τ).loc Cert.RopeKVRefIdeal.main_arg1)
          ∧ r.2.mem ((c.tc : Thread Cert.RopeKVRefIdeal.nD Cert.RopeKVRefIdeal.τ).loc Cert.RopeKVRefIdeal.main_arg2) = m' ((c.tc : Thread Cert.RopeKVRefIdeal.nD Cert.RopeKVRefIdeal.τ).loc Cert.RopeKVRefIdeal.main_arg2))

def preserves_HgDog_HgDogIdeal : Prop :=
  True

def algebraic_HgDogIdeal_HgDogRefIdeal_pre_hgdog_finite [hHgDogIdeal : Cert.HgDogIdeal.Facts] [hHgDogRefIdeal : Cert.HgDogRefIdeal.Facts] [hPre_hgdog_finite : Cert.Pre_hgdog_finite.Facts] : Prop :=
  ∀ (m : (ℓ : Loc Cert.HgDogIdeal.nD Cert.HgDogIdeal.τ Cert.HgDogIdeal.sig) → Buf (Elt Ideal) ℓ) (g : Dev Cert.HgDogIdeal.nD → PrngReg)
    (m' : (ℓ : Loc Cert.HgDogRefIdeal.nD Cert.HgDogRefIdeal.τ Cert.HgDogRefIdeal.sig) → Buf (Elt Ideal) ℓ) (g' : Dev Cert.HgDogRefIdeal.nD → PrngReg), Pre_HgDogIdeal_hgdog_finite m →
    (∀ c : Dev Cert.HgDogIdeal.nD,
      m' ((c.tc : Thread Cert.HgDogRefIdeal.nD Cert.HgDogRefIdeal.τ).loc Cert.HgDogRefIdeal.main_arg0) = m ((c.tc : Thread Cert.HgDogIdeal.nD Cert.HgDogIdeal.τ).loc Cert.HgDogIdeal.main_arg0)
      ∧ m' ((c.tc : Thread Cert.HgDogRefIdeal.nD Cert.HgDogRefIdeal.τ).loc Cert.HgDogRefIdeal.main_arg1) = m ((c.tc : Thread Cert.HgDogIdeal.nD Cert.HgDogIdeal.τ).loc Cert.HgDogIdeal.main_arg1)
      ∧ m' ((c.tc : Thread Cert.HgDogRefIdeal.nD Cert.HgDogRefIdeal.τ).loc Cert.HgDogRefIdeal.main_arg2) = m ((c.tc : Thread Cert.HgDogIdeal.nD Cert.HgDogIdeal.τ).loc Cert.HgDogIdeal.main_arg2)
      ∧ m' ((c.tc : Thread Cert.HgDogRefIdeal.nD Cert.HgDogRefIdeal.τ).loc Cert.HgDogRefIdeal.main_arg3) = m ((c.tc : Thread Cert.HgDogIdeal.nD Cert.HgDogIdeal.τ).loc Cert.HgDogIdeal.main_arg3)
      ∧ m' ((c.tc : Thread Cert.HgDogRefIdeal.nD Cert.HgDogRefIdeal.τ).loc Cert.HgDogRefIdeal.main_arg4) = m ((c.tc : Thread Cert.HgDogIdeal.nD Cert.HgDogIdeal.τ).loc Cert.HgDogIdeal.main_arg4)
      ∧ m' ((c.tc : Thread Cert.HgDogRefIdeal.nD Cert.HgDogRefIdeal.τ).loc Cert.HgDogRefIdeal.main_arg5) = m ((c.tc : Thread Cert.HgDogIdeal.nD Cert.HgDogIdeal.τ).loc Cert.HgDogIdeal.main_arg5)) →
    ∃ (v0 : (c : Dev Cert.HgDogIdeal.nD) → Buf (Elt Ideal) ((c.tc : Thread Cert.HgDogIdeal.nD Cert.HgDogIdeal.τ).loc Cert.HgDogIdeal.main_v1_0)) (v1 : (c : Dev Cert.HgDogIdeal.nD) → Buf (Elt Ideal) ((c.tc : Thread Cert.HgDogIdeal.nD Cert.HgDogIdeal.τ).loc Cert.HgDogIdeal.main_v1_1)) (v2 : (c : Dev Cert.HgDogIdeal.nD) → Buf (Elt Ideal) ((c.tc : Thread Cert.HgDogIdeal.nD Cert.HgDogIdeal.τ).loc Cert.HgDogIdeal.main_v7)),
      θ_run (Cert.HgDogIdeal.defs (F := Ideal)) (onTc (τ := Cert.HgDogIdeal.τ) (Cert.HgDogIdeal.main (F := Ideal))) ⟨m, fun _ => 0, g⟩ (fun r => ∀ c : Dev Cert.HgDogIdeal.nD,
          r.2.mem ((c.tc : Thread Cert.HgDogIdeal.nD Cert.HgDogIdeal.τ).loc Cert.HgDogIdeal.main_v1_0) = v0 c
          ∧ r.2.mem ((c.tc : Thread Cert.HgDogIdeal.nD Cert.HgDogIdeal.τ).loc Cert.HgDogIdeal.main_v1_1) = v1 c
          ∧ r.2.mem ((c.tc : Thread Cert.HgDogIdeal.nD Cert.HgDogIdeal.τ).loc Cert.HgDogIdeal.main_v7) = v2 c
          ∧ r.2.mem ((c.tc : Thread Cert.HgDogIdeal.nD Cert.HgDogIdeal.τ).loc Cert.HgDogIdeal.main_arg0) = m ((c.tc : Thread Cert.HgDogIdeal.nD Cert.HgDogIdeal.τ).loc Cert.HgDogIdeal.main_arg0)
          ∧ r.2.mem ((c.tc : Thread Cert.HgDogIdeal.nD Cert.HgDogIdeal.τ).loc Cert.HgDogIdeal.main_arg1) = m ((c.tc : Thread Cert.HgDogIdeal.nD Cert.HgDogIdeal.τ).loc Cert.HgDogIdeal.main_arg1)
          ∧ r.2.mem ((c.tc : Thread Cert.HgDogIdeal.nD Cert.HgDogIdeal.τ).loc Cert.HgDogIdeal.main_arg2) = m ((c.tc : Thread Cert.HgDogIdeal.nD Cert.HgDogIdeal.τ).loc Cert.HgDogIdeal.main_arg2)
          ∧ r.2.mem ((c.tc : Thread Cert.HgDogIdeal.nD Cert.HgDogIdeal.τ).loc Cert.HgDogIdeal.main_arg3) = m ((c.tc : Thread Cert.HgDogIdeal.nD Cert.HgDogIdeal.τ).loc Cert.HgDogIdeal.main_arg3)
          ∧ r.2.mem ((c.tc : Thread Cert.HgDogIdeal.nD Cert.HgDogIdeal.τ).loc Cert.HgDogIdeal.main_arg4) = m ((c.tc : Thread Cert.HgDogIdeal.nD Cert.HgDogIdeal.τ).loc Cert.HgDogIdeal.main_arg4)
          ∧ r.2.mem ((c.tc : Thread Cert.HgDogIdeal.nD Cert.HgDogIdeal.τ).loc Cert.HgDogIdeal.main_arg5) = m ((c.tc : Thread Cert.HgDogIdeal.nD Cert.HgDogIdeal.τ).loc Cert.HgDogIdeal.main_arg5))
      ∧ θ_run (Cert.HgDogRefIdeal.defs (F := Ideal)) (onTc (τ := Cert.HgDogRefIdeal.τ) (Cert.HgDogRefIdeal.main (F := Ideal))) ⟨m', fun _ => 0, g'⟩ (fun r => ∀ c : Dev Cert.HgDogRefIdeal.nD,
          r.2.mem ((c.tc : Thread Cert.HgDogRefIdeal.nD Cert.HgDogRefIdeal.τ).loc Cert.HgDogRefIdeal.main_v48) = v0 c
          ∧ r.2.mem ((c.tc : Thread Cert.HgDogRefIdeal.nD Cert.HgDogRefIdeal.τ).loc Cert.HgDogRefIdeal.main_v26) = v1 c
          ∧ r.2.mem ((c.tc : Thread Cert.HgDogRefIdeal.nD Cert.HgDogRefIdeal.τ).loc Cert.HgDogRefIdeal.main_v33) = v2 c
          ∧ r.2.mem ((c.tc : Thread Cert.HgDogRefIdeal.nD Cert.HgDogRefIdeal.τ).loc Cert.HgDogRefIdeal.main_arg0) = m' ((c.tc : Thread Cert.HgDogRefIdeal.nD Cert.HgDogRefIdeal.τ).loc Cert.HgDogRefIdeal.main_arg0)
          ∧ r.2.mem ((c.tc : Thread Cert.HgDogRefIdeal.nD Cert.HgDogRefIdeal.τ).loc Cert.HgDogRefIdeal.main_arg1) = m' ((c.tc : Thread Cert.HgDogRefIdeal.nD Cert.HgDogRefIdeal.τ).loc Cert.HgDogRefIdeal.main_arg1)
          ∧ r.2.mem ((c.tc : Thread Cert.HgDogRefIdeal.nD Cert.HgDogRefIdeal.τ).loc Cert.HgDogRefIdeal.main_arg2) = m' ((c.tc : Thread Cert.HgDogRefIdeal.nD Cert.HgDogRefIdeal.τ).loc Cert.HgDogRefIdeal.main_arg2)
          ∧ r.2.mem ((c.tc : Thread Cert.HgDogRefIdeal.nD Cert.HgDogRefIdeal.τ).loc Cert.HgDogRefIdeal.main_arg3) = m' ((c.tc : Thread Cert.HgDogRefIdeal.nD Cert.HgDogRefIdeal.τ).loc Cert.HgDogRefIdeal.main_arg3)
          ∧ r.2.mem ((c.tc : Thread Cert.HgDogRefIdeal.nD Cert.HgDogRefIdeal.τ).loc Cert.HgDogRefIdeal.main_arg4) = m' ((c.tc : Thread Cert.HgDogRefIdeal.nD Cert.HgDogRefIdeal.τ).loc Cert.HgDogRefIdeal.main_arg4)
          ∧ r.2.mem ((c.tc : Thread Cert.HgDogRefIdeal.nD Cert.HgDogRefIdeal.τ).loc Cert.HgDogRefIdeal.main_arg5) = m' ((c.tc : Thread Cert.HgDogRefIdeal.nD Cert.HgDogRefIdeal.τ).loc Cert.HgDogRefIdeal.main_arg5))

def preserves_S5Glu_S5GluIdeal : Prop :=
  True

def algebraic_S5GluIdeal_S5GluRefIdeal [hS5GluIdeal : Cert.S5GluIdeal.Facts] [hS5GluRefIdeal : Cert.S5GluRefIdeal.Facts] : Prop :=
  ∀ (m : (ℓ : Loc Cert.S5GluIdeal.nD Cert.S5GluIdeal.τ Cert.S5GluIdeal.sig) → Buf (Elt Ideal) ℓ) (g : Dev Cert.S5GluIdeal.nD → PrngReg)
    (m' : (ℓ : Loc Cert.S5GluRefIdeal.nD Cert.S5GluRefIdeal.τ Cert.S5GluRefIdeal.sig) → Buf (Elt Ideal) ℓ) (g' : Dev Cert.S5GluRefIdeal.nD → PrngReg), Pre_S5GluIdeal m →
    (∀ c : Dev Cert.S5GluIdeal.nD,
      m' ((c.tc : Thread Cert.S5GluRefIdeal.nD Cert.S5GluRefIdeal.τ).loc Cert.S5GluRefIdeal.main_arg0) = m ((c.tc : Thread Cert.S5GluIdeal.nD Cert.S5GluIdeal.τ).loc Cert.S5GluIdeal.main_arg0)
      ∧ m' ((c.tc : Thread Cert.S5GluRefIdeal.nD Cert.S5GluRefIdeal.τ).loc Cert.S5GluRefIdeal.main_arg1) = m ((c.tc : Thread Cert.S5GluIdeal.nD Cert.S5GluIdeal.τ).loc Cert.S5GluIdeal.main_arg1)
      ∧ m' ((c.tc : Thread Cert.S5GluRefIdeal.nD Cert.S5GluRefIdeal.τ).loc Cert.S5GluRefIdeal.main_arg2) = m ((c.tc : Thread Cert.S5GluIdeal.nD Cert.S5GluIdeal.τ).loc Cert.S5GluIdeal.main_arg2)
      ∧ m' ((c.tc : Thread Cert.S5GluRefIdeal.nD Cert.S5GluRefIdeal.τ).loc Cert.S5GluRefIdeal.main_arg3) = m ((c.tc : Thread Cert.S5GluIdeal.nD Cert.S5GluIdeal.τ).loc Cert.S5GluIdeal.main_arg3)
      ∧ m' ((c.tc : Thread Cert.S5GluRefIdeal.nD Cert.S5GluRefIdeal.τ).loc Cert.S5GluRefIdeal.main_arg4) = m ((c.tc : Thread Cert.S5GluIdeal.nD Cert.S5GluIdeal.τ).loc Cert.S5GluIdeal.main_arg4)) →
    ∃ (v0 : (c : Dev Cert.S5GluIdeal.nD) → Buf (Elt Ideal) ((c.tc : Thread Cert.S5GluIdeal.nD Cert.S5GluIdeal.τ).loc Cert.S5GluIdeal.main_v3)) (v1 : (c : Dev Cert.S5GluIdeal.nD) → Buf (Elt Ideal) ((c.tc : Thread Cert.S5GluIdeal.nD Cert.S5GluIdeal.τ).loc Cert.S5GluIdeal.main_v4)) (v2 : (c : Dev Cert.S5GluIdeal.nD) → Buf (Elt Ideal) ((c.tc : Thread Cert.S5GluIdeal.nD Cert.S5GluIdeal.τ).loc Cert.S5GluIdeal.main_v2_1)) (v3 : (c : Dev Cert.S5GluIdeal.nD) → Buf (Elt Ideal) ((c.tc : Thread Cert.S5GluIdeal.nD Cert.S5GluIdeal.τ).loc Cert.S5GluIdeal.main_v8)),
      θ_run (Cert.S5GluIdeal.defs (F := Ideal)) (onTc (τ := Cert.S5GluIdeal.τ) (Cert.S5GluIdeal.main (F := Ideal))) ⟨m, fun _ => 0, g⟩ (fun r => ∀ c : Dev Cert.S5GluIdeal.nD,
          r.2.mem ((c.tc : Thread Cert.S5GluIdeal.nD Cert.S5GluIdeal.τ).loc Cert.S5GluIdeal.main_v3) = v0 c
          ∧ r.2.mem ((c.tc : Thread Cert.S5GluIdeal.nD Cert.S5GluIdeal.τ).loc Cert.S5GluIdeal.main_v4) = v1 c
          ∧ r.2.mem ((c.tc : Thread Cert.S5GluIdeal.nD Cert.S5GluIdeal.τ).loc Cert.S5GluIdeal.main_v2_1) = v2 c
          ∧ r.2.mem ((c.tc : Thread Cert.S5GluIdeal.nD Cert.S5GluIdeal.τ).loc Cert.S5GluIdeal.main_v8) = v3 c
          ∧ r.2.mem ((c.tc : Thread Cert.S5GluIdeal.nD Cert.S5GluIdeal.τ).loc Cert.S5GluIdeal.main_arg0) = m ((c.tc : Thread Cert.S5GluIdeal.nD Cert.S5GluIdeal.τ).loc Cert.S5GluIdeal.main_arg0)
          ∧ r.2.mem ((c.tc : Thread Cert.S5GluIdeal.nD Cert.S5GluIdeal.τ).loc Cert.S5GluIdeal.main_arg1) = m ((c.tc : Thread Cert.S5GluIdeal.nD Cert.S5GluIdeal.τ).loc Cert.S5GluIdeal.main_arg1)
          ∧ r.2.mem ((c.tc : Thread Cert.S5GluIdeal.nD Cert.S5GluIdeal.τ).loc Cert.S5GluIdeal.main_arg2) = m ((c.tc : Thread Cert.S5GluIdeal.nD Cert.S5GluIdeal.τ).loc Cert.S5GluIdeal.main_arg2)
          ∧ r.2.mem ((c.tc : Thread Cert.S5GluIdeal.nD Cert.S5GluIdeal.τ).loc Cert.S5GluIdeal.main_arg3) = m ((c.tc : Thread Cert.S5GluIdeal.nD Cert.S5GluIdeal.τ).loc Cert.S5GluIdeal.main_arg3)
          ∧ r.2.mem ((c.tc : Thread Cert.S5GluIdeal.nD Cert.S5GluIdeal.τ).loc Cert.S5GluIdeal.main_arg4) = m ((c.tc : Thread Cert.S5GluIdeal.nD Cert.S5GluIdeal.τ).loc Cert.S5GluIdeal.main_arg4))
      ∧ θ_run (Cert.S5GluRefIdeal.defs (F := Ideal)) (onTc (τ := Cert.S5GluRefIdeal.τ) (Cert.S5GluRefIdeal.main (F := Ideal))) ⟨m', fun _ => 0, g'⟩ (fun r => ∀ c : Dev Cert.S5GluRefIdeal.nD,
          r.2.mem ((c.tc : Thread Cert.S5GluRefIdeal.nD Cert.S5GluRefIdeal.τ).loc Cert.S5GluRefIdeal.main_v46) = v0 c
          ∧ r.2.mem ((c.tc : Thread Cert.S5GluRefIdeal.nD Cert.S5GluRefIdeal.τ).loc Cert.S5GluRefIdeal.main_v18) = v1 c
          ∧ r.2.mem ((c.tc : Thread Cert.S5GluRefIdeal.nD Cert.S5GluRefIdeal.τ).loc Cert.S5GluRefIdeal.main_v17) = v2 c
          ∧ r.2.mem ((c.tc : Thread Cert.S5GluRefIdeal.nD Cert.S5GluRefIdeal.τ).loc Cert.S5GluRefIdeal.main_v39) = v3 c
          ∧ r.2.mem ((c.tc : Thread Cert.S5GluRefIdeal.nD Cert.S5GluRefIdeal.τ).loc Cert.S5GluRefIdeal.main_arg0) = m' ((c.tc : Thread Cert.S5GluRefIdeal.nD Cert.S5GluRefIdeal.τ).loc Cert.S5GluRefIdeal.main_arg0)
          ∧ r.2.mem ((c.tc : Thread Cert.S5GluRefIdeal.nD Cert.S5GluRefIdeal.τ).loc Cert.S5GluRefIdeal.main_arg1) = m' ((c.tc : Thread Cert.S5GluRefIdeal.nD Cert.S5GluRefIdeal.τ).loc Cert.S5GluRefIdeal.main_arg1)
          ∧ r.2.mem ((c.tc : Thread Cert.S5GluRefIdeal.nD Cert.S5GluRefIdeal.τ).loc Cert.S5GluRefIdeal.main_arg2) = m' ((c.tc : Thread Cert.S5GluRefIdeal.nD Cert.S5GluRefIdeal.τ).loc Cert.S5GluRefIdeal.main_arg2)
          ∧ r.2.mem ((c.tc : Thread Cert.S5GluRefIdeal.nD Cert.S5GluRefIdeal.τ).loc Cert.S5GluRefIdeal.main_arg3) = m' ((c.tc : Thread Cert.S5GluRefIdeal.nD Cert.S5GluRefIdeal.τ).loc Cert.S5GluRefIdeal.main_arg3)
          ∧ r.2.mem ((c.tc : Thread Cert.S5GluRefIdeal.nD Cert.S5GluRefIdeal.τ).loc Cert.S5GluRefIdeal.main_arg4) = m' ((c.tc : Thread Cert.S5GluRefIdeal.nD Cert.S5GluRefIdeal.τ).loc Cert.S5GluRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v2_0)) (v1 : (c : Dev Cert.FfnFwdIdeal.nD) → Buf (Elt Ideal) ((c.tc : Thread Cert.FfnFwdIdeal.nD Cert.FfnFwdIdeal.τ).loc Cert.FfnFwdIdeal.main_v2_1)) (v2 : (c : Dev Cert.FfnFwdIdeal.nD) → Buf (Elt Ideal) ((c.tc : Thread Cert.FfnFwdIdeal.nD Cert.FfnFwdIdeal.τ).loc Cert.FfnFwdIdeal.main_v4)) (v3 : (c : Dev Cert.FfnFwdIdeal.nD) → Buf (Elt Ideal) ((c.tc : Thread Cert.FfnFwdIdeal.nD Cert.FfnFwdIdeal.τ).loc Cert.FfnFwdIdeal.main_v3_0)) (v4 : (c : Dev Cert.FfnFwdIdeal.nD) → Buf (Elt Ideal) ((c.tc : Thread Cert.FfnFwdIdeal.nD Cert.FfnFwdIdeal.τ).loc Cert.FfnFwdIdeal.main_v3_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v2_0) = v0 c
          ∧ r.2.mem ((c.tc : Thread Cert.FfnFwdIdeal.nD Cert.FfnFwdIdeal.τ).loc Cert.FfnFwdIdeal.main_v2_1) = v1 c
          ∧ r.2.mem ((c.tc : Thread Cert.FfnFwdIdeal.nD Cert.FfnFwdIdeal.τ).loc Cert.FfnFwdIdeal.main_v4) = v2 c
          ∧ r.2.mem ((c.tc : Thread Cert.FfnFwdIdeal.nD Cert.FfnFwdIdeal.τ).loc Cert.FfnFwdIdeal.main_v3_0) = v3 c
          ∧ r.2.mem ((c.tc : Thread Cert.FfnFwdIdeal.nD Cert.FfnFwdIdeal.τ).loc Cert.FfnFwdIdeal.main_v3_1) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v1) = v0 c
          ∧ r.2.mem ((c.tc : Thread Cert.FfnFwdRefIdeal.nD Cert.FfnFwdRefIdeal.τ).loc Cert.FfnFwdRefIdeal.main_v2) = v1 c
          ∧ r.2.mem ((c.tc : Thread Cert.FfnFwdRefIdeal.nD Cert.FfnFwdRefIdeal.τ).loc Cert.FfnFwdRefIdeal.main_v4) = v2 c
          ∧ r.2.mem ((c.tc : Thread Cert.FfnFwdRefIdeal.nD Cert.FfnFwdRefIdeal.τ).loc Cert.FfnFwdRefIdeal.main_v8) = v3 c
          ∧ r.2.mem ((c.tc : Thread Cert.FfnFwdRefIdeal.nD Cert.FfnFwdRefIdeal.τ).loc Cert.FfnFwdRefIdeal.main_v32) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_InDX_InDXIdeal : Prop :=
  True

def algebraic_InDXIdeal_InDXRefIdeal [hInDXIdeal : Cert.InDXIdeal.Facts] [hInDXRefIdeal : Cert.InDXRefIdeal.Facts] : Prop :=
  ∀ (m : (ℓ : Loc Cert.InDXIdeal.nD Cert.InDXIdeal.τ Cert.InDXIdeal.sig) → Buf (Elt Ideal) ℓ) (g : Dev Cert.InDXIdeal.nD → PrngReg)
    (m' : (ℓ : Loc Cert.InDXRefIdeal.nD Cert.InDXRefIdeal.τ Cert.InDXRefIdeal.sig) → Buf (Elt Ideal) ℓ) (g' : Dev Cert.InDXRefIdeal.nD → PrngReg), Pre_InDXIdeal m →
    (∀ c : Dev Cert.InDXIdeal.nD,
      m' ((c.tc : Thread Cert.InDXRefIdeal.nD Cert.InDXRefIdeal.τ).loc Cert.InDXRefIdeal.main_arg0) = m ((c.tc : Thread Cert.InDXIdeal.nD Cert.InDXIdeal.τ).loc Cert.InDXIdeal.main_arg0)
      ∧ m' ((c.tc : Thread Cert.InDXRefIdeal.nD Cert.InDXRefIdeal.τ).loc Cert.InDXRefIdeal.main_arg1) = m ((c.tc : Thread Cert.InDXIdeal.nD Cert.InDXIdeal.τ).loc Cert.InDXIdeal.main_arg1)
      ∧ m' ((c.tc : Thread Cert.InDXRefIdeal.nD Cert.InDXRefIdeal.τ).loc Cert.InDXRefIdeal.main_arg2) = m ((c.tc : Thread Cert.InDXIdeal.nD Cert.InDXIdeal.τ).loc Cert.InDXIdeal.main_arg2)
      ∧ m' ((c.tc : Thread Cert.InDXRefIdeal.nD Cert.InDXRefIdeal.τ).loc Cert.InDXRefIdeal.main_arg3) = m ((c.tc : Thread Cert.InDXIdeal.nD Cert.InDXIdeal.τ).loc Cert.InDXIdeal.main_arg3)
      ∧ m' ((c.tc : Thread Cert.InDXRefIdeal.nD Cert.InDXRefIdeal.τ).loc Cert.InDXRefIdeal.main_arg4) = m ((c.tc : Thread Cert.InDXIdeal.nD Cert.InDXIdeal.τ).loc Cert.InDXIdeal.main_arg4)
      ∧ m' ((c.tc : Thread Cert.InDXRefIdeal.nD Cert.InDXRefIdeal.τ).loc Cert.InDXRefIdeal.main_arg5) = m ((c.tc : Thread Cert.InDXIdeal.nD Cert.InDXIdeal.τ).loc Cert.InDXIdeal.main_arg5)
      ∧ m' ((c.tc : Thread Cert.InDXRefIdeal.nD Cert.InDXRefIdeal.τ).loc Cert.InDXRefIdeal.main_arg6) = m ((c.tc : Thread Cert.InDXIdeal.nD Cert.InDXIdeal.τ).loc Cert.InDXIdeal.main_arg6)
      ∧ m' ((c.tc : Thread Cert.InDXRefIdeal.nD Cert.InDXRefIdeal.τ).loc Cert.InDXRefIdeal.main_arg7) = m ((c.tc : Thread Cert.InDXIdeal.nD Cert.InDXIdeal.τ).loc Cert.InDXIdeal.main_arg7)
      ∧ m' ((c.tc : Thread Cert.InDXRefIdeal.nD Cert.InDXRefIdeal.τ).loc Cert.InDXRefIdeal.main_arg8) = m ((c.tc : Thread Cert.InDXIdeal.nD Cert.InDXIdeal.τ).loc Cert.InDXIdeal.main_arg8)
      ∧ m' ((c.tc : Thread Cert.InDXRefIdeal.nD Cert.InDXRefIdeal.τ).loc Cert.InDXRefIdeal.main_arg9) = m ((c.tc : Thread Cert.InDXIdeal.nD Cert.InDXIdeal.τ).loc Cert.InDXIdeal.main_arg9)
      ∧ m' ((c.tc : Thread Cert.InDXRefIdeal.nD Cert.InDXRefIdeal.τ).loc Cert.InDXRefIdeal.main_arg10) = m ((c.tc : Thread Cert.InDXIdeal.nD Cert.InDXIdeal.τ).loc Cert.InDXIdeal.main_arg10)
      ∧ m' ((c.tc : Thread Cert.InDXRefIdeal.nD Cert.InDXRefIdeal.τ).loc Cert.InDXRefIdeal.main_arg11) = m ((c.tc : Thread Cert.InDXIdeal.nD Cert.InDXIdeal.τ).loc Cert.InDXIdeal.main_arg11)
      ∧ m' ((c.tc : Thread Cert.InDXRefIdeal.nD Cert.InDXRefIdeal.τ).loc Cert.InDXRefIdeal.main_arg12) = m ((c.tc : Thread Cert.InDXIdeal.nD Cert.InDXIdeal.τ).loc Cert.InDXIdeal.main_arg12)
      ∧ m' ((c.tc : Thread Cert.InDXRefIdeal.nD Cert.InDXRefIdeal.τ).loc Cert.InDXRefIdeal.main_arg13) = m ((c.tc : Thread Cert.InDXIdeal.nD Cert.InDXIdeal.τ).loc Cert.InDXIdeal.main_arg13)) →
    ∃ (v0 : (c : Dev Cert.InDXIdeal.nD) → Buf (Elt Ideal) ((c.tc : Thread Cert.InDXIdeal.nD Cert.InDXIdeal.τ).loc Cert.InDXIdeal.main_v2)) (v1 : (c : Dev Cert.InDXIdeal.nD) → Buf (Elt Ideal) ((c.tc : Thread Cert.InDXIdeal.nD Cert.InDXIdeal.τ).loc Cert.InDXIdeal.main_v3)) (v2 : (c : Dev Cert.InDXIdeal.nD) → Buf (Elt Ideal) ((c.tc : Thread Cert.InDXIdeal.nD Cert.InDXIdeal.τ).loc Cert.InDXIdeal.main_v6)),
      θ_run (Cert.InDXIdeal.defs (F := Ideal)) (onTc (τ := Cert.InDXIdeal.τ) (Cert.InDXIdeal.main (F := Ideal))) ⟨m, fun _ => 0, g⟩ (fun r => ∀ c : Dev Cert.InDXIdeal.nD,
          r.2.mem ((c.tc : Thread Cert.InDXIdeal.nD Cert.InDXIdeal.τ).loc Cert.InDXIdeal.main_v2) = v0 c
          ∧ r.2.mem ((c.tc : Thread Cert.InDXIdeal.nD Cert.InDXIdeal.τ).loc Cert.InDXIdeal.main_v3) = v1 c
          ∧ r.2.mem ((c.tc : Thread Cert.InDXIdeal.nD Cert.InDXIdeal.τ).loc Cert.InDXIdeal.main_v6) = v2 c
          ∧ r.2.mem ((c.tc : Thread Cert.InDXIdeal.nD Cert.InDXIdeal.τ).loc Cert.InDXIdeal.main_arg0) = m ((c.tc : Thread Cert.InDXIdeal.nD Cert.InDXIdeal.τ).loc Cert.InDXIdeal.main_arg0)
          ∧ r.2.mem ((c.tc : Thread Cert.InDXIdeal.nD Cert.InDXIdeal.τ).loc Cert.InDXIdeal.main_arg1) = m ((c.tc : Thread Cert.InDXIdeal.nD Cert.InDXIdeal.τ).loc Cert.InDXIdeal.main_arg1)
          ∧ r.2.mem ((c.tc : Thread Cert.InDXIdeal.nD Cert.InDXIdeal.τ).loc Cert.InDXIdeal.main_arg2) = m ((c.tc : Thread Cert.InDXIdeal.nD Cert.InDXIdeal.τ).loc Cert.InDXIdeal.main_arg2)
          ∧ r.2.mem ((c.tc : Thread Cert.InDXIdeal.nD Cert.InDXIdeal.τ).loc Cert.InDXIdeal.main_arg3) = m ((c.tc : Thread Cert.InDXIdeal.nD Cert.InDXIdeal.τ).loc Cert.InDXIdeal.main_arg3)
          ∧ r.2.mem ((c.tc : Thread Cert.InDXIdeal.nD Cert.InDXIdeal.τ).loc Cert.InDXIdeal.main_arg4) = m ((c.tc : Thread Cert.InDXIdeal.nD Cert.InDXIdeal.τ).loc Cert.InDXIdeal.main_arg4)
          ∧ r.2.mem ((c.tc : Thread Cert.InDXIdeal.nD Cert.InDXIdeal.τ).loc Cert.InDXIdeal.main_arg5) = m ((c.tc : Thread Cert.InDXIdeal.nD Cert.InDXIdeal.τ).loc Cert.InDXIdeal.main_arg5)
          ∧ r.2.mem ((c.tc : Thread Cert.InDXIdeal.nD Cert.InDXIdeal.τ).loc Cert.InDXIdeal.main_arg6) = m ((c.tc : Thread Cert.InDXIdeal.nD Cert.InDXIdeal.τ).loc Cert.InDXIdeal.main_arg6)
          ∧ r.2.mem ((c.tc : Thread Cert.InDXIdeal.nD Cert.InDXIdeal.τ).loc Cert.InDXIdeal.main_arg7) = m ((c.tc : Thread Cert.InDXIdeal.nD Cert.InDXIdeal.τ).loc Cert.InDXIdeal.main_arg7)
          ∧ r.2.mem ((c.tc : Thread Cert.InDXIdeal.nD Cert.InDXIdeal.τ).loc Cert.InDXIdeal.main_arg8) = m ((c.tc : Thread Cert.InDXIdeal.nD Cert.InDXIdeal.τ).loc Cert.InDXIdeal.main_arg8)
          ∧ r.2.mem ((c.tc : Thread Cert.InDXIdeal.nD Cert.InDXIdeal.τ).loc Cert.InDXIdeal.main_arg9) = m ((c.tc : Thread Cert.InDXIdeal.nD Cert.InDXIdeal.τ).loc Cert.InDXIdeal.main_arg9)
          ∧ r.2.mem ((c.tc : Thread Cert.InDXIdeal.nD Cert.InDXIdeal.τ).loc Cert.InDXIdeal.main_arg10) = m ((c.tc : Thread Cert.InDXIdeal.nD Cert.InDXIdeal.τ).loc Cert.InDXIdeal.main_arg10)
          ∧ r.2.mem ((c.tc : Thread Cert.InDXIdeal.nD Cert.InDXIdeal.τ).loc Cert.InDXIdeal.main_arg11) = m ((c.tc : Thread Cert.InDXIdeal.nD Cert.InDXIdeal.τ).loc Cert.InDXIdeal.main_arg11)
          ∧ r.2.mem ((c.tc : Thread Cert.InDXIdeal.nD Cert.InDXIdeal.τ).loc Cert.InDXIdeal.main_arg12) = m ((c.tc : Thread Cert.InDXIdeal.nD Cert.InDXIdeal.τ).loc Cert.InDXIdeal.main_arg12)
          ∧ r.2.mem ((c.tc : Thread Cert.InDXIdeal.nD Cert.InDXIdeal.τ).loc Cert.InDXIdeal.main_arg13) = m ((c.tc : Thread Cert.InDXIdeal.nD Cert.InDXIdeal.τ).loc Cert.InDXIdeal.main_arg13))
      ∧ θ_run (Cert.InDXRefIdeal.defs (F := Ideal)) (onTc (τ := Cert.InDXRefIdeal.τ) (Cert.InDXRefIdeal.main (F := Ideal))) ⟨m', fun _ => 0, g'⟩ (fun r => ∀ c : Dev Cert.InDXRefIdeal.nD,
          r.2.mem ((c.tc : Thread Cert.InDXRefIdeal.nD Cert.InDXRefIdeal.τ).loc Cert.InDXRefIdeal.main_v21) = v0 c
          ∧ r.2.mem ((c.tc : Thread Cert.InDXRefIdeal.nD Cert.InDXRefIdeal.τ).loc Cert.InDXRefIdeal.main_v25) = v1 c
          ∧ r.2.mem ((c.tc : Thread Cert.InDXRefIdeal.nD Cert.InDXRefIdeal.τ).loc Cert.InDXRefIdeal.main_v30) = v2 c
          ∧ r.2.mem ((c.tc : Thread Cert.InDXRefIdeal.nD Cert.InDXRefIdeal.τ).loc Cert.InDXRefIdeal.main_arg0) = m' ((c.tc : Thread Cert.InDXRefIdeal.nD Cert.InDXRefIdeal.τ).loc Cert.InDXRefIdeal.main_arg0)
          ∧ r.2.mem ((c.tc : Thread Cert.InDXRefIdeal.nD Cert.InDXRefIdeal.τ).loc Cert.InDXRefIdeal.main_arg1) = m' ((c.tc : Thread Cert.InDXRefIdeal.nD Cert.InDXRefIdeal.τ).loc Cert.InDXRefIdeal.main_arg1)
          ∧ r.2.mem ((c.tc : Thread Cert.InDXRefIdeal.nD Cert.InDXRefIdeal.τ).loc Cert.InDXRefIdeal.main_arg2) = m' ((c.tc : Thread Cert.InDXRefIdeal.nD Cert.InDXRefIdeal.τ).loc Cert.InDXRefIdeal.main_arg2)
          ∧ r.2.mem ((c.tc : Thread Cert.InDXRefIdeal.nD Cert.InDXRefIdeal.τ).loc Cert.InDXRefIdeal.main_arg3) = m' ((c.tc : Thread Cert.InDXRefIdeal.nD Cert.InDXRefIdeal.τ).loc Cert.InDXRefIdeal.main_arg3)
          ∧ r.2.mem ((c.tc : Thread Cert.InDXRefIdeal.nD Cert.InDXRefIdeal.τ).loc Cert.InDXRefIdeal.main_arg4) = m' ((c.tc : Thread Cert.InDXRefIdeal.nD Cert.InDXRefIdeal.τ).loc Cert.InDXRefIdeal.main_arg4)
          ∧ r.2.mem ((c.tc : Thread Cert.InDXRefIdeal.nD Cert.InDXRefIdeal.τ).loc Cert.InDXRefIdeal.main_arg5) = m' ((c.tc : Thread Cert.InDXRefIdeal.nD Cert.InDXRefIdeal.τ).loc Cert.InDXRefIdeal.main_arg5)
          ∧ r.2.mem ((c.tc : Thread Cert.InDXRefIdeal.nD Cert.InDXRefIdeal.τ).loc Cert.InDXRefIdeal.main_arg6) = m' ((c.tc : Thread Cert.InDXRefIdeal.nD Cert.InDXRefIdeal.τ).loc Cert.InDXRefIdeal.main_arg6)
          ∧ r.2.mem ((c.tc : Thread Cert.InDXRefIdeal.nD Cert.InDXRefIdeal.τ).loc Cert.InDXRefIdeal.main_arg7) = m' ((c.tc : Thread Cert.InDXRefIdeal.nD Cert.InDXRefIdeal.τ).loc Cert.InDXRefIdeal.main_arg7)
          ∧ r.2.mem ((c.tc : Thread Cert.InDXRefIdeal.nD Cert.InDXRefIdeal.τ).loc Cert.InDXRefIdeal.main_arg8) = m' ((c.tc : Thread Cert.InDXRefIdeal.nD Cert.InDXRefIdeal.τ).loc Cert.InDXRefIdeal.main_arg8)
          ∧ r.2.mem ((c.tc : Thread Cert.InDXRefIdeal.nD Cert.InDXRefIdeal.τ).loc Cert.InDXRefIdeal.main_arg9) = m' ((c.tc : Thread Cert.InDXRefIdeal.nD Cert.InDXRefIdeal.τ).loc Cert.InDXRefIdeal.main_arg9)
          ∧ r.2.mem ((c.tc : Thread Cert.InDXRefIdeal.nD Cert.InDXRefIdeal.τ).loc Cert.InDXRefIdeal.main_arg10) = m' ((c.tc : Thread Cert.InDXRefIdeal.nD Cert.InDXRefIdeal.τ).loc Cert.InDXRefIdeal.main_arg10)
          ∧ r.2.mem ((c.tc : Thread Cert.InDXRefIdeal.nD Cert.InDXRefIdeal.τ).loc Cert.InDXRefIdeal.main_arg11) = m' ((c.tc : Thread Cert.InDXRefIdeal.nD Cert.InDXRefIdeal.τ).loc Cert.InDXRefIdeal.main_arg11)
          ∧ r.2.mem ((c.tc : Thread Cert.InDXRefIdeal.nD Cert.InDXRefIdeal.τ).loc Cert.InDXRefIdeal.main_arg12) = m' ((c.tc : Thread Cert.InDXRefIdeal.nD Cert.InDXRefIdeal.τ).loc Cert.InDXRefIdeal.main_arg12)
          ∧ r.2.mem ((c.tc : Thread Cert.InDXRefIdeal.nD Cert.InDXRefIdeal.τ).loc Cert.InDXRefIdeal.main_arg13) = m' ((c.tc : Thread Cert.InDXRefIdeal.nD Cert.InDXRefIdeal.τ).loc Cert.InDXRefIdeal.main_arg13))

def preserves_OutLN_OutLNIdeal : Prop :=
  True

def algebraic_OutLNIdeal_OutLNRefIdeal [hOutLNIdeal : Cert.OutLNIdeal.Facts] [hOutLNRefIdeal : Cert.OutLNRefIdeal.Facts] : Prop :=
  ∀ (m : (ℓ : Loc Cert.OutLNIdeal.nD Cert.OutLNIdeal.τ Cert.OutLNIdeal.sig) → Buf (Elt Ideal) ℓ) (g : Dev Cert.OutLNIdeal.nD → PrngReg)
    (m' : (ℓ : Loc Cert.OutLNRefIdeal.nD Cert.OutLNRefIdeal.τ Cert.OutLNRefIdeal.sig) → Buf (Elt Ideal) ℓ) (g' : Dev Cert.OutLNRefIdeal.nD → PrngReg), Pre_OutLNIdeal m →
    (∀ c : Dev Cert.OutLNIdeal.nD,
      m' ((c.tc : Thread Cert.OutLNRefIdeal.nD Cert.OutLNRefIdeal.τ).loc Cert.OutLNRefIdeal.main_arg0) = m ((c.tc : Thread Cert.OutLNIdeal.nD Cert.OutLNIdeal.τ).loc Cert.OutLNIdeal.main_arg0)
      ∧ m' ((c.tc : Thread Cert.OutLNRefIdeal.nD Cert.OutLNRefIdeal.τ).loc Cert.OutLNRefIdeal.main_arg1) = m ((c.tc : Thread Cert.OutLNIdeal.nD Cert.OutLNIdeal.τ).loc Cert.OutLNIdeal.main_arg1)
      ∧ m' ((c.tc : Thread Cert.OutLNRefIdeal.nD Cert.OutLNRefIdeal.τ).loc Cert.OutLNRefIdeal.main_arg2) = m ((c.tc : Thread Cert.OutLNIdeal.nD Cert.OutLNIdeal.τ).loc Cert.OutLNIdeal.main_arg2)
      ∧ m' ((c.tc : Thread Cert.OutLNRefIdeal.nD Cert.OutLNRefIdeal.τ).loc Cert.OutLNRefIdeal.main_arg3) = m ((c.tc : Thread Cert.OutLNIdeal.nD Cert.OutLNIdeal.τ).loc Cert.OutLNIdeal.main_arg3)
      ∧ m' ((c.tc : Thread Cert.OutLNRefIdeal.nD Cert.OutLNRefIdeal.τ).loc Cert.OutLNRefIdeal.main_arg4) = m ((c.tc : Thread Cert.OutLNIdeal.nD Cert.OutLNIdeal.τ).loc Cert.OutLNIdeal.main_arg4)
      ∧ m' ((c.tc : Thread Cert.OutLNRefIdeal.nD Cert.OutLNRefIdeal.τ).loc Cert.OutLNRefIdeal.main_arg5) = m ((c.tc : Thread Cert.OutLNIdeal.nD Cert.OutLNIdeal.τ).loc Cert.OutLNIdeal.main_arg5)
      ∧ m' ((c.tc : Thread Cert.OutLNRefIdeal.nD Cert.OutLNRefIdeal.τ).loc Cert.OutLNRefIdeal.main_arg6) = m ((c.tc : Thread Cert.OutLNIdeal.nD Cert.OutLNIdeal.τ).loc Cert.OutLNIdeal.main_arg6)
      ∧ m' ((c.tc : Thread Cert.OutLNRefIdeal.nD Cert.OutLNRefIdeal.τ).loc Cert.OutLNRefIdeal.main_arg7) = m ((c.tc : Thread Cert.OutLNIdeal.nD Cert.OutLNIdeal.τ).loc Cert.OutLNIdeal.main_arg7)
      ∧ m' ((c.tc : Thread Cert.OutLNRefIdeal.nD Cert.OutLNRefIdeal.τ).loc Cert.OutLNRefIdeal.main_arg8) = m ((c.tc : Thread Cert.OutLNIdeal.nD Cert.OutLNIdeal.τ).loc Cert.OutLNIdeal.main_arg8)
      ∧ m' ((c.tc : Thread Cert.OutLNRefIdeal.nD Cert.OutLNRefIdeal.τ).loc Cert.OutLNRefIdeal.main_arg9) = m ((c.tc : Thread Cert.OutLNIdeal.nD Cert.OutLNIdeal.τ).loc Cert.OutLNIdeal.main_arg9)) →
    ∃ (v0 : (c : Dev Cert.OutLNIdeal.nD) → Buf (Elt Ideal) ((c.tc : Thread Cert.OutLNIdeal.nD Cert.OutLNIdeal.τ).loc Cert.OutLNIdeal.main_v3_0)) (v1 : (c : Dev Cert.OutLNIdeal.nD) → Buf (Elt Ideal) ((c.tc : Thread Cert.OutLNIdeal.nD Cert.OutLNIdeal.τ).loc Cert.OutLNIdeal.main_v3_1)) (v2 : (c : Dev Cert.OutLNIdeal.nD) → Buf (Elt Ideal) ((c.tc : Thread Cert.OutLNIdeal.nD Cert.OutLNIdeal.τ).loc Cert.OutLNIdeal.main_v6_0)) (v3 : (c : Dev Cert.OutLNIdeal.nD) → Buf (Elt Ideal) ((c.tc : Thread Cert.OutLNIdeal.nD Cert.OutLNIdeal.τ).loc Cert.OutLNIdeal.main_v6_1)),
      θ_run (Cert.OutLNIdeal.defs (F := Ideal)) (onTc (τ := Cert.OutLNIdeal.τ) (Cert.OutLNIdeal.main (F := Ideal))) ⟨m, fun _ => 0, g⟩ (fun r => ∀ c : Dev Cert.OutLNIdeal.nD,
          r.2.mem ((c.tc : Thread Cert.OutLNIdeal.nD Cert.OutLNIdeal.τ).loc Cert.OutLNIdeal.main_v3_0) = v0 c
          ∧ r.2.mem ((c.tc : Thread Cert.OutLNIdeal.nD Cert.OutLNIdeal.τ).loc Cert.OutLNIdeal.main_v3_1) = v1 c
          ∧ r.2.mem ((c.tc : Thread Cert.OutLNIdeal.nD Cert.OutLNIdeal.τ).loc Cert.OutLNIdeal.main_v6_0) = v2 c
          ∧ r.2.mem ((c.tc : Thread Cert.OutLNIdeal.nD Cert.OutLNIdeal.τ).loc Cert.OutLNIdeal.main_v6_1) = v3 c
          ∧ r.2.mem ((c.tc : Thread Cert.OutLNIdeal.nD Cert.OutLNIdeal.τ).loc Cert.OutLNIdeal.main_arg0) = m ((c.tc : Thread Cert.OutLNIdeal.nD Cert.OutLNIdeal.τ).loc Cert.OutLNIdeal.main_arg0)
          ∧ r.2.mem ((c.tc : Thread Cert.OutLNIdeal.nD Cert.OutLNIdeal.τ).loc Cert.OutLNIdeal.main_arg1) = m ((c.tc : Thread Cert.OutLNIdeal.nD Cert.OutLNIdeal.τ).loc Cert.OutLNIdeal.main_arg1)
          ∧ r.2.mem ((c.tc : Thread Cert.OutLNIdeal.nD Cert.OutLNIdeal.τ).loc Cert.OutLNIdeal.main_arg2) = m ((c.tc : Thread Cert.OutLNIdeal.nD Cert.OutLNIdeal.τ).loc Cert.OutLNIdeal.main_arg2)
          ∧ r.2.mem ((c.tc : Thread Cert.OutLNIdeal.nD Cert.OutLNIdeal.τ).loc Cert.OutLNIdeal.main_arg3) = m ((c.tc : Thread Cert.OutLNIdeal.nD Cert.OutLNIdeal.τ).loc Cert.OutLNIdeal.main_arg3)
          ∧ r.2.mem ((c.tc : Thread Cert.OutLNIdeal.nD Cert.OutLNIdeal.τ).loc Cert.OutLNIdeal.main_arg4) = m ((c.tc : Thread Cert.OutLNIdeal.nD Cert.OutLNIdeal.τ).loc Cert.OutLNIdeal.main_arg4)
          ∧ r.2.mem ((c.tc : Thread Cert.OutLNIdeal.nD Cert.OutLNIdeal.τ).loc Cert.OutLNIdeal.main_arg5) = m ((c.tc : Thread Cert.OutLNIdeal.nD Cert.OutLNIdeal.τ).loc Cert.OutLNIdeal.main_arg5)
          ∧ r.2.mem ((c.tc : Thread Cert.OutLNIdeal.nD Cert.OutLNIdeal.τ).loc Cert.OutLNIdeal.main_arg6) = m ((c.tc : Thread Cert.OutLNIdeal.nD Cert.OutLNIdeal.τ).loc Cert.OutLNIdeal.main_arg6)
          ∧ r.2.mem ((c.tc : Thread Cert.OutLNIdeal.nD Cert.OutLNIdeal.τ).loc Cert.OutLNIdeal.main_arg7) = m ((c.tc : Thread Cert.OutLNIdeal.nD Cert.OutLNIdeal.τ).loc Cert.OutLNIdeal.main_arg7)
          ∧ r.2.mem ((c.tc : Thread Cert.OutLNIdeal.nD Cert.OutLNIdeal.τ).loc Cert.OutLNIdeal.main_arg8) = m ((c.tc : Thread Cert.OutLNIdeal.nD Cert.OutLNIdeal.τ).loc Cert.OutLNIdeal.main_arg8)
          ∧ r.2.mem ((c.tc : Thread Cert.OutLNIdeal.nD Cert.OutLNIdeal.τ).loc Cert.OutLNIdeal.main_arg9) = m ((c.tc : Thread Cert.OutLNIdeal.nD Cert.OutLNIdeal.τ).loc Cert.OutLNIdeal.main_arg9))
      ∧ θ_run (Cert.OutLNRefIdeal.defs (F := Ideal)) (onTc (τ := Cert.OutLNRefIdeal.τ) (Cert.OutLNRefIdeal.main (F := Ideal))) ⟨m', fun _ => 0, g'⟩ (fun r => ∀ c : Dev Cert.OutLNRefIdeal.nD,
          r.2.mem ((c.tc : Thread Cert.OutLNRefIdeal.nD Cert.OutLNRefIdeal.τ).loc Cert.OutLNRefIdeal.main_v3) = v0 c
          ∧ r.2.mem ((c.tc : Thread Cert.OutLNRefIdeal.nD Cert.OutLNRefIdeal.τ).loc Cert.OutLNRefIdeal.main_v27) = v1 c
          ∧ r.2.mem ((c.tc : Thread Cert.OutLNRefIdeal.nD Cert.OutLNRefIdeal.τ).loc Cert.OutLNRefIdeal.main_v31) = v2 c
          ∧ r.2.mem ((c.tc : Thread Cert.OutLNRefIdeal.nD Cert.OutLNRefIdeal.τ).loc Cert.OutLNRefIdeal.main_v55) = v3 c
          ∧ r.2.mem ((c.tc : Thread Cert.OutLNRefIdeal.nD Cert.OutLNRefIdeal.τ).loc Cert.OutLNRefIdeal.main_arg0) = m' ((c.tc : Thread Cert.OutLNRefIdeal.nD Cert.OutLNRefIdeal.τ).loc Cert.OutLNRefIdeal.main_arg0)
          ∧ r.2.mem ((c.tc : Thread Cert.OutLNRefIdeal.nD Cert.OutLNRefIdeal.τ).loc Cert.OutLNRefIdeal.main_arg1) = m' ((c.tc : Thread Cert.OutLNRefIdeal.nD Cert.OutLNRefIdeal.τ).loc Cert.OutLNRefIdeal.main_arg1)
          ∧ r.2.mem ((c.tc : Thread Cert.OutLNRefIdeal.nD Cert.OutLNRefIdeal.τ).loc Cert.OutLNRefIdeal.main_arg2) = m' ((c.tc : Thread Cert.OutLNRefIdeal.nD Cert.OutLNRefIdeal.τ).loc Cert.OutLNRefIdeal.main_arg2)
          ∧ r.2.mem ((c.tc : Thread Cert.OutLNRefIdeal.nD Cert.OutLNRefIdeal.τ).loc Cert.OutLNRefIdeal.main_arg3) = m' ((c.tc : Thread Cert.OutLNRefIdeal.nD Cert.OutLNRefIdeal.τ).loc Cert.OutLNRefIdeal.main_arg3)
          ∧ r.2.mem ((c.tc : Thread Cert.OutLNRefIdeal.nD Cert.OutLNRefIdeal.τ).loc Cert.OutLNRefIdeal.main_arg4) = m' ((c.tc : Thread Cert.OutLNRefIdeal.nD Cert.OutLNRefIdeal.τ).loc Cert.OutLNRefIdeal.main_arg4)
          ∧ r.2.mem ((c.tc : Thread Cert.OutLNRefIdeal.nD Cert.OutLNRefIdeal.τ).loc Cert.OutLNRefIdeal.main_arg5) = m' ((c.tc : Thread Cert.OutLNRefIdeal.nD Cert.OutLNRefIdeal.τ).loc Cert.OutLNRefIdeal.main_arg5)
          ∧ r.2.mem ((c.tc : Thread Cert.OutLNRefIdeal.nD Cert.OutLNRefIdeal.τ).loc Cert.OutLNRefIdeal.main_arg6) = m' ((c.tc : Thread Cert.OutLNRefIdeal.nD Cert.OutLNRefIdeal.τ).loc Cert.OutLNRefIdeal.main_arg6)
          ∧ r.2.mem ((c.tc : Thread Cert.OutLNRefIdeal.nD Cert.OutLNRefIdeal.τ).loc Cert.OutLNRefIdeal.main_arg7) = m' ((c.tc : Thread Cert.OutLNRefIdeal.nD Cert.OutLNRefIdeal.τ).loc Cert.OutLNRefIdeal.main_arg7)
          ∧ r.2.mem ((c.tc : Thread Cert.OutLNRefIdeal.nD Cert.OutLNRefIdeal.τ).loc Cert.OutLNRefIdeal.main_arg8) = m' ((c.tc : Thread Cert.OutLNRefIdeal.nD Cert.OutLNRefIdeal.τ).loc Cert.OutLNRefIdeal.main_arg8)
          ∧ r.2.mem ((c.tc : Thread Cert.OutLNRefIdeal.nD Cert.OutLNRefIdeal.τ).loc Cert.OutLNRefIdeal.main_arg9) = m' ((c.tc : Thread Cert.OutLNRefIdeal.nD Cert.OutLNRefIdeal.τ).loc Cert.OutLNRefIdeal.main_arg9))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hLnb : Cert.Lnb.Facts) (hLnbIdeal : Cert.LnbIdeal.Facts) (hLnbRefIdeal : Cert.LnbRefIdeal.Facts) (hRopeQ : Cert.RopeQ.Facts) (hRopeQIdeal : Cert.RopeQIdeal.Facts) (hRopeQRefIdeal : Cert.RopeQRefIdeal.Facts) (hDLat : Cert.DLat.Facts) (hDLatIdeal : Cert.DLatIdeal.Facts) (hDLatRefIdeal : Cert.DLatRefIdeal.Facts) (hFfnDA : Cert.FfnDA.Facts) (hFfnDAIdeal : Cert.FfnDAIdeal.Facts) (hFfnDARefIdeal : Cert.FfnDARefIdeal.Facts) (hRopeKV : Cert.RopeKV.Facts) (hRopeKVIdeal : Cert.RopeKVIdeal.Facts) (hRopeKVRefIdeal : Cert.RopeKVRefIdeal.Facts) (hHgDog : Cert.HgDog.Facts) (hHgDogIdeal : Cert.HgDogIdeal.Facts) (hHgDogRefIdeal : Cert.HgDogRefIdeal.Facts) (hS5Glu : Cert.S5Glu.Facts) (hS5GluIdeal : Cert.S5GluIdeal.Facts) (hS5GluRefIdeal : Cert.S5GluRefIdeal.Facts) (hFfnFwd : Cert.FfnFwd.Facts) (hFfnFwdIdeal : Cert.FfnFwdIdeal.Facts) (hFfnFwdRefIdeal : Cert.FfnFwdRefIdeal.Facts) (hInDX : Cert.InDX.Facts) (hInDXIdeal : Cert.InDXIdeal.Facts) (hInDXRefIdeal : Cert.InDXRefIdeal.Facts) (hOutLN : Cert.OutLN.Facts) (hOutLNIdeal : Cert.OutLNIdeal.Facts) (hOutLNRefIdeal : Cert.OutLNRefIdeal.Facts) (hPre_attn_finite : Cert.Pre_attn_finite.Facts) (hPre_lnb_finite : Cert.Pre_lnb_finite.Facts) (hPre_dlat_finite : Cert.Pre_dlat_finite.Facts) (hPre_ffnda_finite : Cert.Pre_ffnda_finite.Facts) (hPre_ropekv_finite : Cert.Pre_ropekv_finite.Facts) (hPre_hgdog_finite : Cert.Pre_hgdog_finite.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Lnb (hLnb := hLnb)
    ∧ quiescent_LnbIdeal (hLnbIdeal := hLnbIdeal)
    ∧ quiescent_LnbIdeal_pre_lnb_finite (hLnbIdeal := hLnbIdeal) (hPre_lnb_finite := hPre_lnb_finite)
    ∧ quiescent_LnbRefIdeal (hLnbRefIdeal := hLnbRefIdeal)
    ∧ quiescent_LnbRefIdeal_pre_lnb_finite (hLnbRefIdeal := hLnbRefIdeal) (hPre_lnb_finite := hPre_lnb_finite)
    ∧ quiescent_RopeQ (hRopeQ := hRopeQ)
    ∧ quiescent_RopeQIdeal (hRopeQIdeal := hRopeQIdeal)
    ∧ quiescent_RopeQRefIdeal (hRopeQRefIdeal := hRopeQRefIdeal)
    ∧ quiescent_DLat (hDLat := hDLat)
    ∧ quiescent_DLatIdeal (hDLatIdeal := hDLatIdeal)
    ∧ quiescent_DLatIdeal_pre_dlat_finite (hDLatIdeal := hDLatIdeal) (hPre_dlat_finite := hPre_dlat_finite)
    ∧ quiescent_DLatRefIdeal (hDLatRefIdeal := hDLatRefIdeal)
    ∧ quiescent_DLatRefIdeal_pre_dlat_finite (hDLatRefIdeal := hDLatRefIdeal) (hPre_dlat_finite := hPre_dlat_finite)
    ∧ quiescent_FfnDA (hFfnDA := hFfnDA)
    ∧ quiescent_FfnDAIdeal (hFfnDAIdeal := hFfnDAIdeal)
    ∧ quiescent_FfnDAIdeal_pre_ffnda_finite (hFfnDAIdeal := hFfnDAIdeal) (hPre_ffnda_finite := hPre_ffnda_finite)
    ∧ quiescent_FfnDARefIdeal (hFfnDARefIdeal := hFfnDARefIdeal)
    ∧ quiescent_FfnDARefIdeal_pre_ffnda_finite (hFfnDARefIdeal := hFfnDARefIdeal) (hPre_ffnda_finite := hPre_ffnda_finite)
    ∧ quiescent_RopeKV (hRopeKV := hRopeKV)
    ∧ quiescent_RopeKVIdeal (hRopeKVIdeal := hRopeKVIdeal)
    ∧ quiescent_RopeKVIdeal_pre_ropekv_finite (hRopeKVIdeal := hRopeKVIdeal) (hPre_ropekv_finite := hPre_ropekv_finite)
    ∧ quiescent_RopeKVRefIdeal (hRopeKVRefIdeal := hRopeKVRefIdeal)
    ∧ quiescent_RopeKVRefIdeal_pre_ropekv_finite (hRopeKVRefIdeal := hRopeKVRefIdeal) (hPre_ropekv_finite := hPre_ropekv_finite)
    ∧ quiescent_HgDog (hHgDog := hHgDog)
    ∧ quiescent_HgDogIdeal (hHgDogIdeal := hHgDogIdeal)
    ∧ quiescent_HgDogIdeal_pre_hgdog_finite (hHgDogIdeal := hHgDogIdeal) (hPre_hgdog_finite := hPre_hgdog_finite)
    ∧ quiescent_HgDogRefIdeal (hHgDogRefIdeal := hHgDogRefIdeal)
    ∧ quiescent_HgDogRefIdeal_pre_hgdog_finite (hHgDogRefIdeal := hHgDogRefIdeal) (hPre_hgdog_finite := hPre_hgdog_finite)
    ∧ quiescent_S5Glu (hS5Glu := hS5Glu)
    ∧ quiescent_S5GluIdeal (hS5GluIdeal := hS5GluIdeal)
    ∧ quiescent_S5GluRefIdeal (hS5GluRefIdeal := hS5GluRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InDX (hInDX := hInDX)
    ∧ quiescent_InDXIdeal (hInDXIdeal := hInDXIdeal)
    ∧ quiescent_InDXRefIdeal (hInDXRefIdeal := hInDXRefIdeal)
    ∧ quiescent_OutLN (hOutLN := hOutLN)
    ∧ quiescent_OutLNIdeal (hOutLNIdeal := hOutLNIdeal)
    ∧ quiescent_OutLNRefIdeal (hOutLNRefIdeal := hOutLNRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Lnb_LnbIdeal
    ∧ algebraic_LnbIdeal_LnbRefIdeal_pre_lnb_finite (hLnbIdeal := hLnbIdeal) (hLnbRefIdeal := hLnbRefIdeal) (hPre_lnb_finite := hPre_lnb_finite)
    ∧ preserves_RopeQ_RopeQIdeal
    ∧ algebraic_RopeQIdeal_RopeQRefIdeal (hRopeQIdeal := hRopeQIdeal) (hRopeQRefIdeal := hRopeQRefIdeal)
    ∧ preserves_DLat_DLatIdeal
    ∧ algebraic_DLatIdeal_DLatRefIdeal_pre_dlat_finite (hDLatIdeal := hDLatIdeal) (hDLatRefIdeal := hDLatRefIdeal) (hPre_dlat_finite := hPre_dlat_finite)
    ∧ preserves_FfnDA_FfnDAIdeal
    ∧ algebraic_FfnDAIdeal_FfnDARefIdeal_pre_ffnda_finite (hFfnDAIdeal := hFfnDAIdeal) (hFfnDARefIdeal := hFfnDARefIdeal) (hPre_ffnda_finite := hPre_ffnda_finite)
    ∧ preserves_RopeKV_RopeKVIdeal
    ∧ algebraic_RopeKVIdeal_RopeKVRefIdeal_pre_ropekv_finite (hRopeKVIdeal := hRopeKVIdeal) (hRopeKVRefIdeal := hRopeKVRefIdeal) (hPre_ropekv_finite := hPre_ropekv_finite)
    ∧ preserves_HgDog_HgDogIdeal
    ∧ algebraic_HgDogIdeal_HgDogRefIdeal_pre_hgdog_finite (hHgDogIdeal := hHgDogIdeal) (hHgDogRefIdeal := hHgDogRefIdeal) (hPre_hgdog_finite := hPre_hgdog_finite)
    ∧ preserves_S5Glu_S5GluIdeal
    ∧ algebraic_S5GluIdeal_S5GluRefIdeal (hS5GluIdeal := hS5GluIdeal) (hS5GluRefIdeal := hS5GluRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InDX_InDXIdeal
    ∧ algebraic_InDXIdeal_InDXRefIdeal (hInDXIdeal := hInDXIdeal) (hInDXRefIdeal := hInDXRefIdeal)
    ∧ preserves_OutLN_OutLNIdeal
    ∧ algebraic_OutLNIdeal_OutLNRefIdeal (hOutLNIdeal := hOutLNIdeal) (hOutLNRefIdeal := hOutLNRefIdeal)
-- ==== Pre_attn_finite.lean ====
abbrev S16384x8x128 : Shape := ⟨3, ![16384, 8, 128]⟩
abbrev S16384x8x64 : Shape := ⟨3, ![16384, 8, 64]⟩
abbrev S16384x64 : Shape := ⟨2, ![16384, 64]⟩
abbrev S1024x1024 : Shape := ⟨2, ![1024, 1024]⟩
abbrev S16384x1024 : Shape := ⟨2, ![16384, 1024]⟩
abbrev S_ : Shape := ⟨0, ![]⟩

class Facts : Prop where
  bcast_S_S16384x8x128 : S_.BroadcastsInDim S16384x8x128 (![] : Fin 0 → Fin S16384x8x128.rank)
  bcast_S_S16384x8x64 : S_.BroadcastsInDim S16384x8x64 (![] : Fin 0 → Fin S16384x8x64.rank)
  bcast_S_S16384x64 : S_.BroadcastsInDim S16384x64 (![] : Fin 0 → Fin S16384x64.rank)
  bcast_S_S1024x1024 : S_.BroadcastsInDim S1024x1024 (![] : Fin 0 → Fin S1024x1024.rank)
  bcast_S_S16384x1024 : S_.BroadcastsInDim S16384x1024 (![] : Fin 0 → Fin S16384x1024.rank)

variable [Facts]

def fn_part1 {F : FTy → Type} [FloatOps F] (main_arg6 : FVec F S16384x1024 .f32) (main_v2 : IVec S16384x8x128 1) (main_v5 : IVec S16384x8x64 1) (main_v8 : IVec S16384x8x128 1) (main_v11 : IVec S16384x64 1) (main_v14 : IVec S16384x8x128 1) (main_v17 : IVec S1024x1024 1) : IVec S16384x8x128 1 × IVec S16384x8x64 1 × IVec S16384x8x128 1 × IVec S16384x64 1 × IVec S16384x8x128 1 × IVec S1024x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x8x128 .f32) (main_arg1 : FVec F S16384x8x64 .f32) (main_arg2 : FVec F S16384x8x128 .f32) (main_arg3 : FVec F S16384x64 .f32) (main_arg4 : FVec F S16384x8x128 .f32) (main_arg5 : FVec F S1024x1024 .f32) (main_arg6 : FVec F S16384x1024 .f32) : IVec S16384x8x128 1 × IVec S16384x8x64 1 × IVec S16384x8x128 1 × IVec S16384x64 1 × IVec S16384x8x128 1 × IVec S1024x1024 1 × IVec S16384x1024 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_v3 : FVec F S16384x8x64 .f32 := Host.absf main_arg1
  let main_cst_0 : FVec F S_ .f32 := constant S_ .f32 0x7F800000#32
  let main_v4 : FVec F S16384x8x64 .f32 := broadcastInDim S16384x8x64 ![] bcast_S_S16384x8x64 main_cst_0
  let main_v5 : IVec S16384x8x64 1 := cmpf .olt main_v3 main_v4
  let main_v6 : FVec F S16384x8x128 .f32 := Host.absf main_arg2
  let main_cst_1 : FVec F S_ .f32 := constant S_ .f32 0x7F800000#32
  let main_v7 : FVec F S16384x8x128 .f32 := broadcastInDim S16384x8x128 ![] bcast_S_S16384x8x128 main_cst_1
  let main_v8 : IVec S16384x8x128 1 := cmpf .olt main_v6 main_v7
  let main_v9 : FVec F S16384x64 .f32 := Host.absf main_arg3
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_v12 : FVec F S16384x8x128 .f32 := Host.absf main_arg4
  let main_cst_3 : FVec F S_ .f32 := constant S_ .f32 0x7F800000#32
  let main_v13 : FVec F S16384x8x128 .f32 := broadcastInDim S16384x8x128 ![] bcast_S_S16384x8x128 main_cst_3
  let main_v14 : IVec S16384x8x128 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_dlat_finite.lean ====
abbrev S16384x384 : Shape := ⟨2, ![16384, 384]⟩
abbrev S16384x256 : Shape := ⟨2, ![16384, 256]⟩
abbrev S384 : Shape := ⟨1, ![384]⟩
abbrev S256 : Shape := ⟨1, ![256]⟩
abbrev S16384x128 : Shape := ⟨2, ![16384, 128]⟩
abbrev S_ : Shape := ⟨0, ![]⟩

class Facts : Prop where
  bcast_S_S16384x384 : S_.BroadcastsInDim S16384x384 (![] : Fin 0 → Fin S16384x384.rank)
  bcast_S_S16384x256 : S_.BroadcastsInDim S16384x256 (![] : Fin 0 → Fin S16384x256.rank)
  bcast_S_S384 : S_.BroadcastsInDim S384 (![] : Fin 0 → Fin S384.rank)
  bcast_S_S256 : S_.BroadcastsInDim S256 (![] : Fin 0 → Fin S256.rank)

variable [Facts]

def fn {F : FTy → Type} [FloatOps F] (main_arg0 : FVec F S16384x384 .f32) (main_arg1 : FVec F S16384x256 .f32) (main_arg2 : FVec F S384 .f32) (main_arg3 : FVec F S256 .f32) (main_arg4 : FVec F S16384x384 .f32) (main_arg5 : FVec F S16384x256 .f32) (main_arg6 : FVec F S16384x128 .f32) : IVec S16384x384 1 × IVec S16384x256 1 × IVec S384 1 × IVec S256 1 × IVec S16384x384 1 × IVec S16384x256 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S16384x384 .f32 := Host.absf main_arg4
  let main_cst_3 : FVec F S_ .f32 := constant S_ .f32 0x7F800000#32
  let main_v13 : FVec F S16384x384 .f32 := broadcastInDim S16384x384 ![] bcast_S_S16384x384 main_cst_3
  let main_v14 : IVec S16384x384 1 := cmpf .olt main_v12 main_v13
  let main_v15 : FVec F S16384x256 .f32 := Host.absf main_arg5
  let main_cst_4 : FVec F S_ .f32 := constant S_ .f32 0x7F800000#32
  let main_v16 : FVec F S16384x256 .f32 := broadcastInDim S16384x256 ![] bcast_S_S16384x256 main_cst_4
  let main_v17 : IVec S16384x256 1 := cmpf .olt main_v15 main_v16
  (main_v2, main_v5, main_v8, main_v11, main_v14, main_v17)
-- ==== Pre_ffnda_finite.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S16384x2816 .f32) (main_arg2 : FVec F S2816x1024 .f32) (main_arg3 : FVec F S16384x1024 .f32) : IVec S16384x2816 1 × IVec S2816x1024 1 × IVec S16384x1024 1 :=
  let main_v0 : FVec F S16384x2816 .f32 := Host.absf main_arg1
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x1024 .f32 := Host.absf main_arg3
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_hgdog_finite.lean ====
abbrev S16384x1024 : Shape := ⟨2, ![16384, 1024]⟩
abbrev S16384x5120 : Shape := ⟨2, ![16384, 5120]⟩
abbrev S128 : Shape := ⟨1, ![128]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S16384x5120 : S_.BroadcastsInDim S16384x5120 (![] : Fin 0 → Fin S16384x5120.rank)
  bcast_S_S128 : S_.BroadcastsInDim S128 (![] : Fin 0 → Fin S128.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S16384x1024 .f32) (main_arg2 : FVec F S16384x5120 .f32) (main_arg3 : FVec F S128 .f32) (main_arg4 : FVec F S1024x1024 .f32) (main_arg5 : FVec F S16384x1024 .f32) : IVec S16384x1024 1 × IVec S16384x1024 1 × IVec S16384x5120 1 × IVec S128 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x5120 .f32 := Host.absf main_arg2
  let main_cst_1 : FVec F S_ .f32 := constant S_ .f32 0x7F800000#32
  let main_v7 : FVec F S16384x5120 .f32 := broadcastInDim S16384x5120 ![] bcast_S_S16384x5120 main_cst_1
  let main_v8 : IVec S16384x5120 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_lnb_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S1x1024 .f32) : IVec S16384x1024 1 × IVec S16384x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_ropekv_finite.lean ====
abbrev S16384 : Shape := ⟨1, ![16384]⟩
abbrev S8x16384x256 : Shape := ⟨3, ![8, 16384, 256]⟩
abbrev S8x16384x128 : Shape := ⟨3, ![8, 16384, 128]⟩
abbrev S_ : Shape := ⟨0, ![]⟩

class Facts : Prop where
  bcast_S_S8x16384x256 : S_.BroadcastsInDim S8x16384x256 (![] : Fin 0 → Fin S8x16384x256.rank)

variable [Facts]

def fn {F : FTy → Type} [FloatOps F] (main_arg0 : IVec S16384 32) (main_arg1 : FVec F S8x16384x256 .f32) (main_arg2 : FVec F S8x16384x128 .f32) : IVec S8x16384x256 1 :=
  let main_v0 : FVec F S8x16384x256 .f32 := Host.absf main_arg1
  let main_cst : FVec F S_ .f32 := constant S_ .f32 0x7F800000#32
  let main_v1 : FVec F S8x16384x256 .f32 := broadcastInDim S8x16384x256 ![] bcast_S_S8x16384x256 main_cst
  let main_v2 : IVec S8x16384x256 1 := cmpf .olt main_v0 main_v1
  main_v2
-- ==== Loss.lean ====
abbrev S16384x1024 : Shape := ⟨2, ![16384, 1024]⟩
abbrev S256x128 : Shape := ⟨2, ![256, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S32x8x128 : Shape := ⟨3, ![32, 8, 128]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S256x128, .f32⟩
  | .hbm, ⟨4, _⟩ => ⟨S32x8x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Attn.lean ====
abbrev S16384x8x128 : Shape := ⟨3, ![16384, 8, 128]⟩
abbrev S16384x8x64 : Shape := ⟨3, ![16384, 8, 64]⟩
abbrev S16384x64 : Shape := ⟨2, ![16384, 64]⟩
abbrev S1024x1024 : Shape := ⟨2, ![1024, 1024]⟩
abbrev S16384x1024 : Shape := ⟨2, ![16384, 1024]⟩
abbrev S16384x8x256 : Shape := ⟨3, ![16384, 8, 256]⟩
abbrev S8x16384x256 : Shape := ⟨3, ![8, 16384, 256]⟩
abbrev S16384x1x64 : Shape := ⟨3, ![16384, 1, 64]⟩
abbrev S_ : Shape := ⟨0, ![]⟩
abbrev S1x2048x256 : Shape := ⟨3, ![1, 2048, 256]⟩
abbrev S2048x128 : Shape := ⟨2, ![2048, 128]⟩
abbrev S2048x256 : Shape := ⟨2, ![2048, 256]⟩
abbrev S1x512x256 : Shape := ⟨3, ![1, 512, 256]⟩
abbrev S512x256 : Shape := ⟨2, ![512, 256]⟩
abbrev S2048x512 : Shape := ⟨2, ![2048, 512]⟩
abbrev S2048 : Shape := ⟨1, ![2048]⟩
abbrev S2048x1 : Shape := ⟨2, ![2048, 1]⟩
abbrev S512x1024 : Shape := ⟨2, ![512, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S8x16384x128 : Shape := ⟨3, ![8, 16384, 128]⟩
abbrev S1x1024x256 : Shape := ⟨3, ![1, 1024, 256]⟩
abbrev S1x1024x128 : Shape := ⟨3, ![1, 1024, 128]⟩
abbrev S1x16384x256 : Shape := ⟨3, ![1, 16384, 256]⟩
abbrev S1024x256 : Shape := ⟨2, ![1024, 256]⟩
abbrev S1024x128 : Shape := ⟨2, ![1024, 128]⟩
abbrev S16384x256 : Shape := ⟨2, ![16384, 256]⟩
abbrev S8x16384x64 : Shape := ⟨3, ![8, 16384, 64]⟩

abbrev nBuf : Space → Nat
  | .hbm => 35
  | .vmem => 42
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S1024x1024, .f32⟩
  | .hbm, ⟨6, _⟩ => ⟨S16384x1024, .f32⟩
  | .hbm, ⟨7, _⟩ => ⟨S16384x8x256, .f32⟩
  | .hbm, ⟨8, _⟩ => ⟨S8x16384x256, .f32⟩
  | .hbm, ⟨9, _⟩ => ⟨S8x16384x256, .bf16⟩
  | .hbm, ⟨10, _⟩ => ⟨S16384x1x64, .f32⟩
  | .hbm, ⟨11, _⟩ => ⟨S16384x8x64, .f32⟩
  | .hbm, ⟨12, _⟩ => ⟨S_, .f32⟩
  | .hbm, ⟨13, _⟩ => ⟨S16384x8x64, .f32⟩
  | .hbm, ⟨14, _⟩ => ⟨S16384x8x256, .f32⟩
  | .hbm, ⟨15, _⟩ => ⟨S8x16384x256, .f32⟩
  | .hbm, ⟨16, _⟩ => ⟨S8x16384x256, .bf16⟩
  | .hbm, ⟨17, _⟩ => ⟨S_, .f32⟩
  | .hbm, ⟨18, _⟩ => ⟨S16384x8x128, .f32⟩
  | .hbm, ⟨19, _⟩ => ⟨S16384x8x256, .f32⟩
  | .hbm, ⟨20, _⟩ => ⟨S8x16384x256, .f32⟩
  | .hbm, ⟨21, _⟩ => ⟨S8x16384x256, .bf16⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S16384x1024, .f32⟩
  | .hbm, ⟨26, _⟩ => ⟨S8x16384x256, .f32⟩
  | .hbm, ⟨27, _⟩ => ⟨S8x16384x256, .f32⟩
  | .hbm, ⟨28, _⟩ => ⟨S8x16384x128, .f32⟩
  | .hbm, ⟨29, _⟩ => ⟨S8x16384x128, .f32⟩
  | .hbm, ⟨30, _⟩ => ⟨S8x16384x64, .f32⟩
  | .hbm, ⟨31, _⟩ => ⟨S8x16384x128, .f32⟩
  | .hbm, ⟨32, _⟩ => ⟨S8x16384x64, .f32⟩
  | .hbm, ⟨33, _⟩ => ⟨S_, .f32⟩
  | .hbm, ⟨34, _⟩ => ⟨S16384x64, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x256, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1x512x1024, .f32⟩
  | .local _ .vmem, ⟨22, _⟩ => ⟨S1x2048x256, .bf16⟩
  | .local _ .vmem, ⟨23, _⟩ => ⟨S1x2048x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x128, .bf16⟩
  | .local _ .vmem, ⟨27, _⟩ => ⟨S1x1024x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S1x16384x256, .f32⟩
  | .local _ .vmem, ⟨35, _⟩ => ⟨S1x16384x256, .f32⟩
  | .local _ .vmem, ⟨36, _⟩ => ⟨S1x1024x256, .f32⟩
  | .local _ .vmem, ⟨37, _⟩ => ⟨S1x1024x256, .f32⟩
  | .local _ .vmem, ⟨38, _⟩ => ⟨S1x1024x128, .f32⟩
  | .local _ .vmem, ⟨39, _⟩ => ⟨S1x1024x128, .f32⟩
  | .local _ .vmem, ⟨40, _⟩ => ⟨S1024x256, .f32⟩
  | .local _ .vmem, ⟨41, _⟩ => ⟨S1024x128, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14_0 : Ref sig .tc := ⟨.hbm, 24, rfl⟩
abbrev main_v14_1 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_scratch0 : Ref sig .tc := ⟨.vmem, 40, rfl⟩
abbrev cc2_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem8_1 : DmaSem sig := 36

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v89 : BitVec 1 := Scalar.cmpi .eq arg2 c7_i32
  let v90 : BitVec 32 := Scalar.extui v89
  let c0_i32_43 : BitVec 32 := 0#32
  let v91 : BitVec 1 := Scalar.cmpi .ne v90 c0_i32_43
  v91

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![32, 1, 1], ![false, false, false]⟩

def k1_cond2 (i : grid1.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 16, 8], ![false, false, false]⟩

def k2_mult1 (i : grid2.Coords) : BitVec 32 :=
  let arg2 : BitVec 32 := BitVec.ofNat 32 (i 2).val
  let c2048_i32 : BitVec 32 := 2048#32
  let v36 : BitVec 32 := Scalar.muli arg2 c2048_i32
  let c0_i32_25 : BitVec 32 := 0#32
  let v37 : BitVec 32 := Scalar.addi v36 c0_i32_25
  v37
def k2_off1 (i : grid2.Coords) (c0_i32_25 : BitVec 32) : Fin 3 → Nat :=
  let c0_26 : Index := 0#32
  let arg2 : BitVec 32 := BitVec.ofNat 32 (i 2).val
  let c2048_i32 : BitVec 32 := 2048#32
  let v36 : BitVec 32 := Scalar.muli arg2 c2048_i32
  let v37 : BitVec 32 := Scalar.addi v36 c0_i32_25
  let v38 : BitVec 32 := v37
  let v39 : Index := Scalar.indexCast v38
  let c0_27 : Index := 0#32
  ![0, v39.toNat, 0]
def k2_mult2 (i : grid2.Coords) : BitVec 32 :=
  let arg2 : BitVec 32 := BitVec.ofNat 32 (i 2).val
  let c2048_i32_43 : BitVec 32 := 2048#32
  let v70 : BitVec 32 := Scalar.muli arg2 c2048_i32_43
  let c512_i32 : BitVec 32 := 512#32
  let v71 : BitVec 32 := Scalar.addi v70 c512_i32
  v71
def k2_mult3 (i : grid2.Coords) : BitVec 32 :=
  let arg2 : BitVec 32 := BitVec.ofNat 32 (i 2).val
  let c2048_i32_61 : BitVec 32 := 2048#32
  let v104 : BitVec 32 := Scalar.muli arg2 c2048_i32_61
  let c1024_i32 : BitVec 32 := 1024#32
  let v105 : BitVec 32 := Scalar.addi v104 c1024_i32
  v105
def k2_mult4 (i : grid2.Coords) : BitVec 32 :=
  let arg2 : BitVec 32 := BitVec.ofNat 32 (i 2).val
  let c2048_i32_79 : BitVec 32 := 2048#32
  let v138 : BitVec 32 := Scalar.muli arg2 c2048_i32_79
  let c1536_i32 : BitVec 32 := 1536#32
  let v139 : BitVec 32 := Scalar.addi v138 c1536_i32
  v139
def k2_cond3 (i : grid2.Coords) : BitVec 1 :=
  let arg2 : BitVec 32 := BitVec.ofNat 32 (i 2).val
  let c7_i32 : BitVec 32 := 7#32
  let v156 : BitVec 1 := Scalar.cmpi .eq arg2 c7_i32
  let v157 : BitVec 32 := Scalar.extui v156
  let c0_i32_89 : BitVec 32 := 0#32
  let v158 : BitVec 1 := Scalar.cmpi .ne v157 c0_i32_89
  v158

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, true]

abbrev stage2_6 : Fin 2 → Memref sig .tc .vmem S1x16384x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x1024x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S1x1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]
-- ==== AttnRefIdeal.lean ====
abbrev S16384x8x128 : Shape := ⟨3, ![16384, 8, 128]⟩
abbrev S16384x8x64 : Shape := ⟨3, ![16384, 8, 64]⟩
abbrev S16384x64 : Shape := ⟨2, ![16384, 64]⟩
abbrev S1024x1024 : Shape := ⟨2, ![1024, 1024]⟩
abbrev S16384x1024 : Shape := ⟨2, ![16384, 1024]⟩
abbrev S8x16384x16384 : Shape := ⟨3, ![8, 16384, 16384]⟩
abbrev S16384x16384x8 : Shape := ⟨3, ![16384, 16384, 8]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S8x16384x128 : Shape := ⟨3, ![8, 16384, 128]⟩
abbrev S8x16384x64 : Shape := ⟨3, ![8, 16384, 64]⟩

abbrev nBuf : Space → Nat
  | .hbm => 84
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S1024x1024, .f32⟩
  | .hbm, ⟨6, _⟩ => ⟨S16384x1024, .f32⟩
  | .hbm, ⟨7, _⟩ => ⟨S8x16384x16384, .f32⟩
  | .hbm, ⟨8, _⟩ => ⟨S16384x16384x8, .f32⟩
  | .hbm, ⟨9, _⟩ => ⟨S8x16384x16384, .f32⟩
  | .hbm, ⟨10, _⟩ => ⟨S8x16384x16384, .f32⟩
  | .hbm, ⟨11, _⟩ => ⟨S_, .f32⟩
  | .hbm, ⟨12, _⟩ => ⟨S8x16384, .f32⟩
  | .hbm, ⟨13, _⟩ => ⟨S8x16384x1, .f32⟩
  | .hbm, ⟨14, _⟩ => ⟨S8x16384x16384, .f32⟩
  | .hbm, ⟨15, _⟩ => ⟨S8x16384x16384, .i1⟩
  | .hbm, ⟨16, _⟩ => ⟨S8x16384x16384, .f32⟩
  | .hbm, ⟨17, _⟩ => ⟨S_, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .f32⟩
  | .hbm, ⟨22, _⟩ => ⟨S_, .f32⟩
  | .hbm, ⟨23, _⟩ => ⟨S8x16384, .f32⟩
  | .hbm, ⟨24, _⟩ => ⟨S8x16384, .i1⟩
  | .hbm, ⟨25, _⟩ => ⟨S_, .f32⟩
  | .hbm, ⟨26, _⟩ => ⟨S8x16384, .f32⟩
  | .hbm, ⟨27, _⟩ => ⟨S8x16384, .i1⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384x1, .f32⟩
  | .hbm, ⟨43, _⟩ => ⟨S8x16384x16384, .f32⟩
  | .hbm, ⟨44, _⟩ => ⟨S8x16384x16384, .f32⟩
  | .hbm, ⟨45, _⟩ => ⟨S8x16384x1, .f32⟩
  | .hbm, ⟨46, _⟩ => ⟨S_, .f32⟩
  | .hbm, ⟨47, _⟩ => ⟨S8x16384x1, .f32⟩
  | .hbm, ⟨48, _⟩ => ⟨S8x16384x1, .f32⟩
  | .hbm, ⟨49, _⟩ => ⟨S8x128x16384, .f32⟩
  | .hbm, ⟨50, _⟩ => ⟨S16384x8x128, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x8x128, .f32⟩
  | .hbm, ⟨55, _⟩ => ⟨S8x128x16384, .f32⟩
  | .hbm, ⟨56, _⟩ => ⟨S8x16384x16384, .f32⟩
  | .hbm, ⟨57, _⟩ => ⟨S8x128x16384, .f32⟩
  | .hbm, ⟨58, _⟩ => ⟨S16384x8x128, .f32⟩
  | .hbm, ⟨59, _⟩ => ⟨S8x16384x16384, .f32⟩
  | .hbm, ⟨60, _⟩ => ⟨S8x16384x16384, .f32⟩
  | .hbm, ⟨61, _⟩ => ⟨S8x16384x16384, .f32⟩
  | .hbm, ⟨62, _⟩ => ⟨S_, .f32⟩
  | .hbm, ⟨63, _⟩ => ⟨S8x16384, .f32⟩
  | .hbm, ⟨64, _⟩ => ⟨S8x16384x1, .f32⟩
  | .hbm, ⟨65, _⟩ => ⟨S8x16384x1, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x16384, .f32⟩
  | .hbm, ⟨71, _⟩ => ⟨S8x16384x16384, .f32⟩
  | .hbm, ⟨72, _⟩ => ⟨S8x16384x16384, .f32⟩
  | .hbm, ⟨73, _⟩ => ⟨S16384x16384x8, .f32⟩
  | .hbm, ⟨74, _⟩ => ⟨S16384x8x64, .f32⟩
  | .hbm, ⟨75, _⟩ => ⟨S16384x64, .f32⟩
  | .hbm, ⟨76, _⟩ => ⟨S8x16384x128, .f32⟩
  | .hbm, ⟨77, _⟩ => ⟨S16384x8x128, .f32⟩
  | .hbm, ⟨78, _⟩ => ⟨S8x16384x128, .f32⟩
  | .hbm, ⟨79, _⟩ => ⟨S16384x8x128, .f32⟩
  | .hbm, ⟨80, _⟩ => ⟨S8x16384x128, .f32⟩
  | .hbm, ⟨81, _⟩ => ⟨S8x16384x64, .f32⟩
  | .hbm, ⟨82, _⟩ => ⟨S8x16384x128, .f32⟩
  | .hbm, ⟨83, _⟩ => ⟨S8x16384x128, .f32⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Lnb.lean ====
abbrev S16384x1024 : Shape := ⟨2, ![16384, 1024]⟩
abbrev S1x1024 : Shape := ⟨2, ![1, 1024]⟩
abbrev S256x1024 : Shape := ⟨2, ![256, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024 : Shape := ⟨1, ![1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S256x1024, .f32⟩
  | .hbm, ⟨5, _⟩ => ⟨S256x1024, .f32⟩
  | .hbm, ⟨6, _⟩ => ⟨S32x8x1024, .f32⟩
  | .hbm, ⟨7, _⟩ => ⟨S32x1x1024, .f32⟩
  | .hbm, ⟨8, _⟩ => ⟨S32x1024, .f32⟩
  | .hbm, ⟨9, _⟩ => ⟨S_, .f32⟩
  | .hbm, ⟨10, _⟩ => ⟨S1024, .f32⟩
  | .hbm, ⟨11, _⟩ => ⟨S32x8x1024, .f32⟩
  | .hbm, ⟨12, _⟩ => ⟨S32x1x1024, .f32⟩
  | .hbm, ⟨13, _⟩ => ⟨S32x1024, .f32⟩
  | .hbm, ⟨14, _⟩ => ⟨S_, .f32⟩
  | .hbm, ⟨15, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnbRefIdeal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== RopeQ.lean ====
abbrev S16384 : Shape := ⟨1, ![16384]⟩
abbrev S16384x8x128 : Shape := ⟨3, ![16384, 8, 128]⟩
abbrev S16384x8x64 : Shape := ⟨3, ![16384, 8, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16384x8x256 : Shape := ⟨3, ![16384, 8, 256]⟩
abbrev S8x16384x256 : Shape := ⟨3, ![8, 16384, 256]⟩
abbrev S16384x2048 : Shape := ⟨2, ![16384, 2048]⟩
abbrev S1x512x256 : Shape := ⟨3, ![1, 512, 256]⟩
abbrev S512x128 : Shape := ⟨2, ![512, 128]⟩
abbrev S512x256 : Shape := ⟨2, ![512, 256]⟩
abbrev S16384x8x32 : Shape := ⟨3, ![16384, 8, 32]⟩
abbrev S16384x8x192 : Shape := ⟨3, ![16384, 8, 192]⟩

abbrev nBuf : Space → Nat
  | .hbm => 38
  | .vmem => 6
  | .smem => 0
  | _ => 0

abbrev bufTy : (tb : Table) → Fin (tcTables nBuf tb) → BufTy
  | .hbm, ⟨0, _⟩ => ⟨S16384, .i32⟩
  | .hbm, ⟨1, _⟩ => ⟨S16384x8x128, .f32⟩
  | .hbm, ⟨2, _⟩ => ⟨S16384x8x64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S16384, .f32⟩
  | .hbm, ⟨14, _⟩ => ⟨S16384x1, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x128, .f32⟩
  | .hbm, ⟨23, _⟩ => ⟨S_, .f32⟩
  | .hbm, ⟨24, _⟩ => ⟨S16384x8x64, .f32⟩
  | .hbm, ⟨25, _⟩ => ⟨S16384x8x256, .f32⟩
  | .hbm, ⟨26, _⟩ => ⟨S8x16384x256, .f32⟩
  | .hbm, ⟨27, _⟩ => ⟨S16384x2048, .bf16⟩
  | .hbm, ⟨28, _⟩ => ⟨S16384x2048, .f32⟩
  | .hbm, ⟨29, _⟩ => ⟨S16384x8x256, .f32⟩
  | .hbm, ⟨30, _⟩ => ⟨S16384x8x128, .f32⟩
  | .hbm, ⟨31, _⟩ => ⟨S16384x8x64, .f32⟩
  | .hbm, ⟨32, _⟩ => ⟨S16384x8x64, .f32⟩
  | .hbm, ⟨33, _⟩ => ⟨S16384x8x32, .f32⟩
  | .hbm, ⟨34, _⟩ => ⟨S16384x8x32, .f32⟩
  | .hbm, ⟨35, _⟩ => ⟨S16384x8x64, .f32⟩
  | .hbm, ⟨36, _⟩ => ⟨S16384x8x64, .f32⟩
  | .hbm, ⟨37, _⟩ => ⟨S16384x8x192, .f32⟩
  | .local _ .vmem, ⟨0, _⟩ => ⟨S1x512x256, .f32⟩
  | .local _ .vmem, ⟨1, _⟩ => ⟨S1x512x256, .f32⟩
  | .local _ .vmem, ⟨2, _⟩ => ⟨S512x128, .f32⟩
  | .local _ .vmem, ⟨3, _⟩ => ⟨S512x128, .f32⟩
  | .local _ .vmem, ⟨4, _⟩ => ⟨S512x256, .bf16⟩
  | .local _ .vmem, ⟨5, _⟩ => ⟨S512x256, .bf16⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RopeQRefIdeal.lean ====
abbrev S16384 : Shape := ⟨1, ![16384]⟩
abbrev S16384x8x128 : Shape := ⟨3, ![16384, 8, 128]⟩
abbrev S16384x8x64 : Shape := ⟨3, ![16384, 8, 64]⟩
abbrev S_ : Shape := ⟨0, ![]⟩
abbrev S16384x8x192 : Shape := ⟨3, ![16384, 8, 192]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x8x32 : Shape := ⟨3, ![16384, 8, 32]⟩

abbrev nBuf : Space → Nat
  | .hbm => 72
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x8x128, .f32⟩
  | .hbm, ⟨2, _⟩ => ⟨S16384x8x64, .f32⟩
  | .hbm, ⟨3, _⟩ => ⟨S_, .f32⟩
  | .hbm, ⟨4, _⟩ => ⟨S16384x8x192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384, .f32⟩
  | .hbm, ⟨16, _⟩ => ⟨S16384x1, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x1x32, .f32⟩
  | .hbm, ⟨23, _⟩ => ⟨S16384x32, .f32⟩
  | .hbm, ⟨24, _⟩ => ⟨S16384x1x32, .f32⟩
  | .hbm, ⟨25, _⟩ => ⟨S16384x8x32, .f32⟩
  | .hbm, ⟨26, _⟩ => ⟨S16384x8x32, .f32⟩
  | .hbm, ⟨27, _⟩ => ⟨S16384x8x128, .f32⟩
  | .hbm, ⟨28, _⟩ => ⟨S_, .f32⟩
  | .hbm, ⟨29, _⟩ => ⟨S16384x8x128, .f32⟩
  | .hbm, ⟨30, _⟩ => ⟨S16384x8x128, .f32⟩
  | .hbm, ⟨31, _⟩ => ⟨S16384x8x32, .f32⟩
  | .hbm, ⟨32, _⟩ => ⟨S16384x8x32, .f32⟩
  | .hbm, ⟨33, _⟩ => ⟨S16384x8x32, .f32⟩
  | .hbm, ⟨34, _⟩ => ⟨S16384x8x32, .f32⟩
  | .hbm, ⟨35, _⟩ => ⟨S16384x8x32, .f32⟩
  | .hbm, ⟨36, _⟩ => ⟨S16384x8x32, .f32⟩
  | .hbm, ⟨37, _⟩ => ⟨S16384x8x32, .f32⟩
  | .hbm, ⟨38, _⟩ => ⟨S16384x8x32, .f32⟩
  | .hbm, ⟨39, _⟩ => ⟨S16384x8x32, .f32⟩
  | .hbm, ⟨40, _⟩ => ⟨S16384x8x32, .f32⟩
  | .hbm, ⟨41, _⟩ => ⟨S16384x8x64, .f32⟩
  | .hbm, ⟨42, _⟩ => ⟨S_, .f32⟩
  | .hbm, ⟨43, _⟩ => ⟨S16384x8x64, .f32⟩
  | .hbm, ⟨44, _⟩ => ⟨S16384x8x64, .f32⟩
  | .hbm, ⟨45, _⟩ => ⟨S_, .f32⟩
  | .hbm, ⟨46, _⟩ => ⟨S16384x8x64, .f32⟩
  | .hbm, ⟨47, _⟩ => ⟨S16384x8x64, .f32⟩
  | .hbm, ⟨48, _⟩ => ⟨S16384x8x32, .f32⟩
  | .hbm, ⟨49, _⟩ => ⟨S16384x8x32, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x32, .f32⟩
  | .hbm, ⟨59, _⟩ => ⟨S16384x8x32, .f32⟩
  | .hbm, ⟨60, _⟩ => ⟨S16384x8x32, .f32⟩
  | .hbm, ⟨61, _⟩ => ⟨S_, .f32⟩
  | .hbm, ⟨62, _⟩ => ⟨S16384x8x128, .f32⟩
  | .hbm, ⟨63, _⟩ => ⟨S16384x8x128, .f32⟩
  | .hbm, ⟨64, _⟩ => ⟨S_, .f32⟩
  | .hbm, ⟨65, _⟩ => ⟨S16384x8x192, .f32⟩
  | .hbm, ⟨66, _⟩ => ⟨S_, .f32⟩
  | .hbm, ⟨67, _⟩ => ⟨S16384x8x192, .f32⟩
  | .hbm, ⟨68, _⟩ => ⟨S16384x8x192, .f32⟩
  | .hbm, ⟨69, _⟩ => ⟨S_, .f32⟩
  | .hbm, ⟨70, _⟩ => ⟨S16384x8x192, .f32⟩
  | .hbm, ⟨71, _⟩ => ⟨S16384x8x192, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== DLat.lean ====
abbrev S16384x384 : Shape := ⟨2, ![16384, 384]⟩
abbrev S16384x256 : Shape := ⟨2, ![16384, 256]⟩
abbrev S384 : Shape := ⟨1, ![384]⟩
abbrev S256 : Shape := ⟨1, ![256]⟩
abbrev S16384x128 : Shape := ⟨2, ![16384, 128]⟩
abbrev S1x384 : Shape := ⟨2, ![1, 384]⟩
abbrev S1x256 : Shape := ⟨2, ![1, 256]⟩
abbrev S16384x768 : Shape := ⟨2, ![16384, 768]⟩
abbrev S256x384 : Shape := ⟨2, ![256, 384]⟩
abbrev S256x256 : Shape := ⟨2, ![256, 256]⟩
abbrev S512x384 : Shape := ⟨2, ![512, 384]⟩
abbrev S512x256 : Shape := ⟨2, ![512, 256]⟩
abbrev S512x128 : Shape := ⟨2, ![512, 128]⟩
abbrev S512x768 : Shape := ⟨2, ![512, 768]⟩
abbrev S8x384 : Shape := ⟨2, ![8, 384]⟩
abbrev S8x256 : Shape := ⟨2, ![8, 256]⟩
abbrev S512 : Shape := ⟨1, ![512]⟩
abbrev S512x1 : Shape := ⟨2, ![512, 1]⟩
abbrev S32x8x384 : Shape := ⟨3, ![32, 8, 384]⟩
abbrev S32x1x384 : Shape := ⟨3, ![32, 1, 384]⟩
abbrev S32x384 : Shape := ⟨2, ![32, 384]⟩
abbrev S_ : Shape := ⟨0, ![]⟩
abbrev S32x8x256 : Shape := ⟨3, ![32, 8, 256]⟩
abbrev S32x1x256 : Shape := ⟨3, ![32, 1, 256]⟩
abbrev S32x256 : Shape := ⟨2, ![32, 256]⟩

abbrev nBuf : Space → Nat
  | .hbm => 23
  | .vmem => 18
  | .smem => 0
  | _ => 0

abbrev bufTy : (tb : Table) → Fin (tcTables nBuf tb) → BufTy
  | .hbm, ⟨0, _⟩ => ⟨S16384x384, .f32⟩
  | .hbm, ⟨1, _⟩ => ⟨S16384x256, .f32⟩
  | .hbm, ⟨2, _⟩ => ⟨S384, .f32⟩
  | .hbm, ⟨3, _⟩ => ⟨S256, .f32⟩
  | .hbm, ⟨4, _⟩ => ⟨S16384x384, .f32⟩
  | .hbm, ⟨5, _⟩ => ⟨S16384x256, .f32⟩
  | .hbm, ⟨6, _⟩ => ⟨S16384x128, .f32⟩
  | .hbm, ⟨7, _⟩ => ⟨S1x384, .f32⟩
  | .hbm, ⟨8, _⟩ => ⟨S1x256, .f32⟩
  | .hbm, ⟨9, _⟩ => ⟨S16384x768, .bf16⟩
  | .hbm, ⟨10, _⟩ => ⟨S256x384, .f32⟩
  | .hbm, ⟨11, _⟩ => ⟨S256x256, .f32⟩
  | .hbm, ⟨12, _⟩ => ⟨S16384x768, .f32⟩
  | .hbm, ⟨13, _⟩ => ⟨S32x8x384, .f32⟩
  | .hbm, ⟨14, _⟩ => ⟨S32x1x384, .f32⟩
  | .hbm, ⟨15, _⟩ => ⟨S32x384, .f32⟩
  | .hbm, ⟨16, _⟩ => ⟨S_, .f32⟩
  | .hbm, ⟨17, _⟩ => ⟨S384, .f32⟩
  | .hbm, ⟨18, _⟩ => ⟨S32x8x256, .f32⟩
  | .hbm, ⟨19, _⟩ => ⟨S32x1x256, .f32⟩
  | .hbm, ⟨20, _⟩ => ⟨S32x256, .f32⟩
  | .hbm, ⟨21, _⟩ => ⟨S_, .f32⟩
  | .hbm, ⟨22, _⟩ => ⟨S256, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S1x384, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x768, .bf16⟩
  | .local _ .vmem, ⟨14, _⟩ => ⟨S8x384, .f32⟩
  | .local _ .vmem, ⟨15, _⟩ => ⟨S8x384, .f32⟩
  | .local _ .vmem, ⟨16, _⟩ => ⟨S8x256, .f32⟩
  | .local _ .vmem, ⟨17, _⟩ => ⟨S8x256, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DLatRefIdeal.lean ====
abbrev S16384x384 : Shape := ⟨2, ![16384, 384]⟩
abbrev S16384x256 : Shape := ⟨2, ![16384, 256]⟩
abbrev S384 : Shape := ⟨1, ![384]⟩
abbrev S256 : Shape := ⟨1, ![256]⟩
abbrev S16384x128 : Shape := ⟨2, ![16384, 128]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S1x384 : Shape := ⟨2, ![1, 384]⟩
abbrev S1x256 : Shape := ⟨2, ![1, 256]⟩

abbrev nBuf : Space → Nat
  | .hbm => 109
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x256, .f32⟩
  | .hbm, ⟨2, _⟩ => ⟨S384, .f32⟩
  | .hbm, ⟨3, _⟩ => ⟨S256, .f32⟩
  | .hbm, ⟨4, _⟩ => ⟨S16384x384, .f32⟩
  | .hbm, ⟨5, _⟩ => ⟨S16384x256, .f32⟩
  | .hbm, ⟨6, _⟩ => ⟨S16384x128, .f32⟩
  | .hbm, ⟨7, _⟩ => ⟨S16384x768, .f32⟩
  | .hbm, ⟨8, _⟩ => ⟨S16384x384, .f32⟩
  | .hbm, ⟨9, _⟩ => ⟨S16384x384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x384, .f32⟩
  | .hbm, ⟨25, _⟩ => ⟨S16384x384, .f32⟩
  | .hbm, ⟨26, _⟩ => ⟨S1x384, .f32⟩
  | .hbm, ⟨27, _⟩ => ⟨S16384x384, .f32⟩
  | .hbm, ⟨28, _⟩ => ⟨S16384x384, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x256, .f32⟩
  | .hbm, ⟨46, _⟩ => ⟨S16384x256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S16384x128, .f32⟩
  | .hbm, ⟨51, _⟩ => ⟨S_, .f32⟩
  | .hbm, ⟨52, _⟩ => ⟨S16384x768, .f32⟩
  | .hbm, ⟨53, _⟩ => ⟨S16384x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S16384x256, .f32⟩
  | .hbm, ⟨58, _⟩ => ⟨S16384x256, .f32⟩
  | .hbm, ⟨59, _⟩ => ⟨S_, .f32⟩
  | .hbm, ⟨60, _⟩ => ⟨S256, .f32⟩
  | .hbm, ⟨61, _⟩ => ⟨S16384x256, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x256, .f32⟩
  | .hbm, ⟨66, _⟩ => ⟨S16384x256, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S16384x256, .f32⟩
  | .hbm, ⟨78, _⟩ => ⟨S_, .f32⟩
  | .hbm, ⟨79, _⟩ => ⟨S16384x768, .f32⟩
  | .hbm, ⟨80, _⟩ => ⟨S16384x768, .f32⟩
  | .hbm, ⟨81, _⟩ => ⟨S16384x384, .f32⟩
  | .hbm, ⟨82, _⟩ => ⟨S_, .f32⟩
  | .hbm, ⟨83, _⟩ => ⟨S384, .f32⟩
  | .hbm, ⟨84, _⟩ => ⟨S1x384, .f32⟩
  | .hbm, ⟨85, _⟩ => ⟨S16384x384, .f32⟩
  | .hbm, ⟨86, _⟩ => ⟨S16384x384, .f32⟩
  | .hbm, ⟨87, _⟩ => ⟨S_, .f32⟩
  | .hbm, ⟨88, _⟩ => ⟨S384, .f32⟩
  | .hbm, ⟨89, _⟩ => ⟨S16384x384, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x384, .f32⟩
  | .hbm, ⟨94, _⟩ => ⟨S16384x384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384, .f32⟩
  | .hbm, ⟨101, _⟩ => ⟨S16384x384, .f32⟩
  | .hbm, ⟨102, _⟩ => ⟨S16384x384, .f32⟩
  | .hbm, ⟨103, _⟩ => ⟨S16384x384, .f32⟩
  | .hbm, ⟨104, _⟩ => ⟨S16384x384, .f32⟩
  | .hbm, ⟨105, _⟩ => ⟨S16384x384, .f32⟩
  | .hbm, ⟨106, _⟩ => ⟨S_, .f32⟩
  | .hbm, ⟨107, _⟩ => ⟨S16384x768, .f32⟩
  | .hbm, ⟨108, _⟩ => ⟨S16384x768, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_19 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== FfnDA.lean ====
abbrev S16384x2816 : Shape := ⟨2, ![16384, 2816]⟩
abbrev S2816x1024 : Shape := ⟨2, ![2816, 1024]⟩
abbrev S16384x1024 : Shape := ⟨2, ![16384, 1024]⟩
abbrev S512x1024 : Shape := ⟨2, ![512, 1024]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 8
  | .vmem => 13
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .bf16⟩
  | .hbm, ⟨5, _⟩ => ⟨S16384x2816, .bf16⟩
  | .hbm, ⟨6, _⟩ => ⟨S16384x2816, .f32⟩
  | .hbm, ⟨7, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .f32⟩
  | .local _ .vmem, ⟨3, _⟩ => ⟨S1408x1024, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1x512x1408, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDARefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== RopeKV.lean ====
abbrev S16384 : Shape := ⟨1, ![16384]⟩
abbrev S8x16384x256 : Shape := ⟨3, ![8, 16384, 256]⟩
abbrev S8x16384x128 : Shape := ⟨3, ![8, 16384, 128]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16384x2048 : Shape := ⟨2, ![16384, 2048]⟩
abbrev S1x512x256 : Shape := ⟨3, ![1, 512, 256]⟩
abbrev S1x512x128 : Shape := ⟨3, ![1, 512, 128]⟩
abbrev S512x128 : Shape := ⟨2, ![512, 128]⟩
abbrev S512x256 : Shape := ⟨2, ![512, 256]⟩
abbrev S16384x64 : Shape := ⟨2, ![16384, 64]⟩

abbrev nBuf : Space → Nat
  | .hbm => 32
  | .vmem => 10
  | .smem => 0
  | _ => 0

abbrev bufTy : (tb : Table) → Fin (tcTables nBuf tb) → BufTy
  | .hbm, ⟨0, _⟩ => ⟨S16384, .i32⟩
  | .hbm, ⟨1, _⟩ => ⟨S8x16384x256, .f32⟩
  | .hbm, ⟨2, _⟩ => ⟨S8x16384x128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S16384, .f32⟩
  | .hbm, ⟨14, _⟩ => ⟨S16384x1, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x128, .f32⟩
  | .hbm, ⟨23, _⟩ => ⟨S16384x2048, .bf16⟩
  | .hbm, ⟨24, _⟩ => ⟨S16384x128, .f32⟩
  | .hbm, ⟨25, _⟩ => ⟨S16384x2048, .f32⟩
  | .hbm, ⟨26, _⟩ => ⟨S16384x64, .f32⟩
  | .hbm, ⟨27, _⟩ => ⟨S16384x64, .f32⟩
  | .hbm, ⟨28, _⟩ => ⟨S16384x32, .f32⟩
  | .hbm, ⟨29, _⟩ => ⟨S16384x32, .f32⟩
  | .hbm, ⟨30, _⟩ => ⟨S16384x64, .f32⟩
  | .hbm, ⟨31, _⟩ => ⟨S16384x64, .f32⟩
  | .local _ .vmem, ⟨0, _⟩ => ⟨S1x512x256, .f32⟩
  | .local _ .vmem, ⟨1, _⟩ => ⟨S1x512x256, .f32⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v20 : BitVec 32 := Scalar.extui v17
  let c0_i32_10 : BitVec 32 := 0#32
  let v21 : BitVec 1 := Scalar.cmpi .ne v20 c0_i32_10
  v21

def k0_cond2 (i : grid0.Coords) : BitVec 1 :=
  let arg1 : BitVec 32 := BitVec.ofNat 32 (i 1).val
  let c0_i32 : BitVec 32 := 0#32
  let v17 : BitVec 1 := Scalar.cmpi .eq arg1 c0_i32
  let v_true : BitVec 1 := 1#1
  let v22 : BitVec 1 := Scalar.xori v17 v_true
  let v23 : BitVec 32 := Scalar.extui v22
  let c0_i32_11 : BitVec 32 := 0#32
  let v24 : BitVec 1 := Scalar.cmpi .ne v23 c0_i32_11
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RopeKVRefIdeal.lean ====
abbrev S16384 : Shape := ⟨1, ![16384]⟩
abbrev S8x16384x256 : Shape := ⟨3, ![8, 16384, 256]⟩
abbrev S8x16384x128 : Shape := ⟨3, ![8, 16384, 128]⟩
abbrev S16384x8x256 : Shape := ⟨3, ![16384, 8, 256]⟩
abbrev S_ : Shape := ⟨0, ![]⟩
abbrev S16384x2048 : Shape := ⟨2, ![16384, 2048]⟩
abbrev S16384x64 : Shape := ⟨2, ![16384, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x8x128 : Shape := ⟨3, ![16384, 8, 128]⟩
abbrev S16384x1x64 : Shape := ⟨3, ![16384, 1, 64]⟩
abbrev S16384x8x64 : Shape := ⟨3, ![16384, 8, 64]⟩

abbrev nBuf : Space → Nat
  | .hbm => 68
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8x16384x256, .f32⟩
  | .hbm, ⟨2, _⟩ => ⟨S8x16384x128, .f32⟩
  | .hbm, ⟨3, _⟩ => ⟨S16384x8x256, .f32⟩
  | .hbm, ⟨4, _⟩ => ⟨S_, .f32⟩
  | .hbm, ⟨5, _⟩ => ⟨S16384x2048, .f32⟩
  | .hbm, ⟨6, _⟩ => ⟨S_, .f32⟩
  | .hbm, ⟨7, _⟩ => ⟨S16384x64, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384, .f32⟩
  | .hbm, ⟨19, _⟩ => ⟨S16384x1, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x64, .f32⟩
  | .hbm, ⟨35, _⟩ => ⟨S16384x8x256, .f32⟩
  | .hbm, ⟨36, _⟩ => ⟨S16384x8x128, .f32⟩
  | .hbm, ⟨37, _⟩ => ⟨S16384x1x64, .f32⟩
  | .hbm, ⟨38, _⟩ => ⟨S16384x8x64, .f32⟩
  | .hbm, ⟨39, _⟩ => ⟨S16384x8x128, .f32⟩
  | .hbm, ⟨40, _⟩ => ⟨S16384x8x128, .f32⟩
  | .hbm, ⟨41, _⟩ => ⟨S16384x8x64, .f32⟩
  | .hbm, ⟨42, _⟩ => ⟨S16384x8x128, .f32⟩
  | .hbm, ⟨43, _⟩ => ⟨S_, .f32⟩
  | .hbm, ⟨44, _⟩ => ⟨S16384x8x256, .f32⟩
  | .hbm, ⟨45, _⟩ => ⟨S_, .f32⟩
  | .hbm, ⟨46, _⟩ => ⟨S16384x64, .f32⟩
  | .hbm, ⟨47, _⟩ => ⟨S16384x1x64, .f32⟩
  | .hbm, ⟨48, _⟩ => ⟨S_, .f32⟩
  | .hbm, ⟨49, _⟩ => ⟨S16384x64, .f32⟩
  | .hbm, ⟨50, _⟩ => ⟨S_, .f32⟩
  | .hbm, ⟨51, _⟩ => ⟨S16384x8x256, .f32⟩
  | .hbm, ⟨52, _⟩ => ⟨S16384x8x256, .f32⟩
  | .hbm, ⟨53, _⟩ => ⟨S16384x2048, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S16384x32, .f32⟩
  | .hbm, ⟨62, _⟩ => ⟨S16384x32, .f32⟩
  | .hbm, ⟨63, _⟩ => ⟨S_, .f32⟩
  | .hbm, ⟨64, _⟩ => ⟨S16384x64, .f32⟩
  | .hbm, ⟨65, _⟩ => ⟨S_, .f32⟩
  | .hbm, ⟨66, _⟩ => ⟨S16384x64, .f32⟩
  | .hbm, ⟨67, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== HgDog.lean ====
abbrev S16384x1024 : Shape := ⟨2, ![16384, 1024]⟩
abbrev S16384x5120 : Shape := ⟨2, ![16384, 5120]⟩
abbrev S128 : Shape := ⟨1, ![128]⟩
abbrev S1024x1024 : Shape := ⟨2, ![1024, 1024]⟩
abbrev S1x128 : Shape := ⟨2, ![1, 128]⟩
abbrev S256x1024 : Shape := ⟨2, ![256, 1024]⟩
abbrev S512x1024 : Shape := ⟨2, ![512, 1024]⟩
abbrev S8x1024 : Shape := ⟨2, ![8, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩
abbrev S1024 : Shape := ⟨1, ![1024]⟩
abbrev S8x128 : Shape := ⟨2, ![8, 128]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S1024x1024, .f32⟩
  | .hbm, ⟨5, _⟩ => ⟨S16384x1024, .f32⟩
  | .hbm, ⟨6, _⟩ => ⟨S1x128, .f32⟩
  | .hbm, ⟨7, _⟩ => ⟨S16384x1024, .f32⟩
  | .hbm, ⟨8, _⟩ => ⟨S16384x1024, .f32⟩
  | .hbm, ⟨9, _⟩ => ⟨S256x1024, .f32⟩
  | .hbm, ⟨10, _⟩ => ⟨S32x8x1024, .f32⟩
  | .hbm, ⟨11, _⟩ => ⟨S32x1x1024, .f32⟩
  | .hbm, ⟨12, _⟩ => ⟨S32x1024, .f32⟩
  | .hbm, ⟨13, _⟩ => ⟨S_, .f32⟩
  | .hbm, ⟨14, _⟩ => ⟨S1024, .f32⟩
  | .hbm, ⟨15, _⟩ => ⟨S8x128, .f32⟩
  | .hbm, ⟨16, _⟩ => ⟨S_, .f32⟩
  | .hbm, ⟨17, _⟩ => ⟨S128, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | .local _ .vmem, ⟨16, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== HgDogRefIdeal.lean ====
abbrev S16384x1024 : Shape := ⟨2, ![16384, 1024]⟩
abbrev S16384x5120 : Shape := ⟨2, ![16384, 5120]⟩
abbrev S128 : Shape := ⟨1, ![128]⟩
abbrev S1024x1024 : Shape := ⟨2, ![1024, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S128, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x8x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S16384x8x128, .f32⟩
  | .hbm, ⟨25, _⟩ => ⟨S16384x8x128, .f32⟩
  | .hbm, ⟨26, _⟩ => ⟨S1x1x128, .f32⟩
  | .hbm, ⟨27, _⟩ => ⟨S16384x8x128, .f32⟩
  | .hbm, ⟨28, _⟩ => ⟨S16384x8x128, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x8x128, .f32⟩
  | .hbm, ⟨53, _⟩ => ⟨S16384x8x128, .f32⟩
  | .hbm, ⟨54, _⟩ => ⟨S_, .f32⟩
  | .hbm, ⟨55, _⟩ => ⟨S128, .f32⟩
  | .hbm, ⟨56, _⟩ => ⟨S1x1x128, .f32⟩
  | .hbm, ⟨57, _⟩ => ⟨S16384x8x128, .f32⟩
  | .hbm, ⟨58, _⟩ => ⟨S16384x8x128, .f32⟩
  | .hbm, ⟨59, _⟩ => ⟨S_, .f32⟩
  | .hbm, ⟨60, _⟩ => ⟨S128, .f32⟩
  | .hbm, ⟨61, _⟩ => ⟨S16384x8x128, .f32⟩
  | .hbm, ⟨62, _⟩ => ⟨S_, .f32⟩
  | .hbm, ⟨63, _⟩ => ⟨S16384x8, .f32⟩
  | .hbm, ⟨64, _⟩ => ⟨S16384x8x1, .f32⟩
  | .hbm, ⟨65, _⟩ => ⟨S16384x8x128, .f32⟩
  | .hbm, ⟨66, _⟩ => ⟨S16384x8x128, .f32⟩
  | .hbm, ⟨67, _⟩ => ⟨S16384x8x1, .f32⟩
  | .hbm, ⟨68, _⟩ => ⟨S_, .f32⟩
  | .hbm, ⟨69, _⟩ => ⟨S16384x8x1, .f32⟩
  | .hbm, ⟨70, _⟩ => ⟨S16384x8x1, .f32⟩
  | .hbm, ⟨71, _⟩ => ⟨S_, .f32⟩
  | .hbm, ⟨72, _⟩ => ⟨S16384x8, .f32⟩
  | .hbm, ⟨73, _⟩ => ⟨S16384x8x128, .f32⟩
  | .hbm, ⟨74, _⟩ => ⟨S16384x8x128, .f32⟩
  | .hbm, ⟨75, _⟩ => ⟨S16384x8x128, .f32⟩
  | .hbm, ⟨76, _⟩ => ⟨S16384x8x128, .f32⟩
  | .hbm, ⟨77, _⟩ => ⟨S16384x8x128, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]
-- ==== S5Glu.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x512x1024 : Shape := ⟨3, ![1, 512, 1024]⟩
abbrev S256x1024 : Shape := ⟨2, ![256, 1024]⟩
abbrev S8x1024 : Shape := ⟨2, ![8, 1024]⟩
abbrev S32x8x1024 : Shape := ⟨3, ![32, 8, 1024]⟩
abbrev S32x1x1024 : Shape := ⟨3, ![32, 1, 1024]⟩
abbrev S32x1024 : Shape := ⟨2, ![32, 1024]⟩
abbrev S_ : Shape := ⟨0, ![]⟩

abbrev nBuf : Space → Nat
  | .hbm => 18
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S1x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S256x1024, .f32⟩
  | .hbm, ⟨11, _⟩ => ⟨S16384x1024, .f32⟩
  | .hbm, ⟨12, _⟩ => ⟨S16384x1024, .f32⟩
  | .hbm, ⟨13, _⟩ => ⟨S32x8x1024, .f32⟩
  | .hbm, ⟨14, _⟩ => ⟨S32x1x1024, .f32⟩
  | .hbm, ⟨15, _⟩ => ⟨S32x1024, .f32⟩
  | .hbm, ⟨16, _⟩ => ⟨S_, .f32⟩
  | .hbm, ⟨17, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S8x1024, .f32⟩
  | .local _ .vmem, ⟨24, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![32, 1, 1], ![false, false, false]⟩

def k1_cond2 (i : grid1.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== S5GluRefIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== FfnFwd.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S2x512x1408 : Shape := ⟨3, ![2, 512, 1408]⟩
abbrev S1x512x1408 : Shape := ⟨3, ![1, 512, 1408]⟩
abbrev S512x2816 : Shape := ⟨2, ![512, 2816]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x2816, .f32⟩
  | .hbm, ⟨8, _⟩ => ⟨S16384x2816, .f32⟩
  | .hbm, ⟨9, _⟩ => ⟨S16384x2816, .bf16⟩
  | .hbm, ⟨10, _⟩ => ⟨S16384x1024, .f32⟩
  | .hbm, ⟨11, _⟩ => ⟨S16384x1024, .f32⟩
  | .hbm, ⟨12, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S2x512x1408, .f32⟩
  | .local _ .vmem, ⟨13, _⟩ => ⟨S512x2816, .bf16⟩
  | .local _ .vmem, ⟨14, _⟩ => ⟨S512x2816, .bf16⟩
  | .local _ .vmem, ⟨15, _⟩ => ⟨S2816x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨3, ![2, 32, 1], ![false, false, false]⟩

def k0_cond2 (i : grid0.Coords) : BitVec 1 :=
  let arg2 : BitVec 32 := BitVec.ofNat 32 (i 2).val
  let c0_i32_20 : BitVec 32 := 0#32
  let v25 : BitVec 1 := Scalar.cmpi .eq arg2 c0_i32_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![32, 1, 1], ![false, false, false]⟩

def k1_cond2 (i : grid1.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== FfnFwdRefIdeal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== InDX.lean ====
abbrev S16384x2816 : Shape := ⟨2, ![16384, 2816]⟩
abbrev S16384x1024 : Shape := ⟨2, ![16384, 1024]⟩
abbrev S1024x5632 : Shape := ⟨2, ![1024, 5632]⟩
abbrev S1024x1024 : Shape := ⟨2, ![1024, 1024]⟩
abbrev S1024x5120 : Shape := ⟨2, ![1024, 5120]⟩
abbrev S256x2816 : Shape := ⟨2, ![256, 2816]⟩
abbrev S1024x2816 : Shape := ⟨2, ![1024, 2816]⟩
abbrev S256x1024 : Shape := ⟨2, ![256, 1024]⟩
abbrev S1x256x1024 : Shape := ⟨3, ![1, 256, 1024]⟩
abbrev S512x1024 : Shape := ⟨2, ![512, 1024]⟩
abbrev S1x512x1024 : Shape := ⟨3, ![1, 512, 1024]⟩
abbrev S16384x5120 : Shape := ⟨2, ![16384, 5120]⟩
abbrev S256x5120 : Shape := ⟨2, ![256, 5120]⟩

abbrev nBuf : Space → Nat
  | .hbm => 21
  | .vmem => 27
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S1024x5632, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1024x5120, .f32⟩
  | .hbm, ⟨14, _⟩ => ⟨S16384x2816, .bf16⟩
  | .hbm, ⟨15, _⟩ => ⟨S16384x2816, .bf16⟩
  | .hbm, ⟨16, _⟩ => ⟨S16384x1024, .f32⟩
  | .hbm, ⟨17, _⟩ => ⟨S16384x1024, .f32⟩
  | .hbm, ⟨18, _⟩ => ⟨S16384x5120, .f32⟩
  | .hbm, ⟨19, _⟩ => ⟨S16384x5120, .bf16⟩
  | .hbm, ⟨20, _⟩ => ⟨S16384x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .f32⟩
  | .local _ .vmem, ⟨5, _⟩ => ⟨S1024x2816, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x512x1024, .f32⟩
  | .local _ .vmem, ⟨19, _⟩ => ⟨S256x5120, .bf16⟩
  | .local _ .vmem, ⟨20, _⟩ => ⟨S256x5120, .bf16⟩
  | .local _ .vmem, ⟨21, _⟩ => ⟨S1024x5120, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x256x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![64, 1, 1], ![false, false, false]⟩

def k0_cond2 (i : grid0.Coords) : BitVec 1 :=
  let arg2 : BitVec 32 := BitVec.ofNat 32 (i 2).val
  let c0_i32_21 : BitVec 32 := 0#32
  let v25 : BitVec 1 := Scalar.cmpi .eq arg2 c0_i32_21
  let v26 : BitVec 32 := Scalar.extui v25
  let c0_i32_22 : BitVec 32 := 0#32
  let v27 : BitVec 1 := Scalar.cmpi .ne v26 c0_i32_22
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev grid1 : Pipeline.Grid := ⟨3, ![32, 1, 1], ![false, false, false]⟩

def k1_cond2 (i : grid1.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![64, 1, 1], ![false, false, false]⟩

def k2_cond2 (i : grid2.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x5120 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x5120 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== InDXRefIdeal.lean ====
abbrev S16384x2816 : Shape := ⟨2, ![16384, 2816]⟩
abbrev S16384x1024 : Shape := ⟨2, ![16384, 1024]⟩
abbrev S1024x5632 : Shape := ⟨2, ![1024, 5632]⟩
abbrev S1024x1024 : Shape := ⟨2, ![1024, 1024]⟩
abbrev S1024x5120 : Shape := ⟨2, ![1024, 5120]⟩
abbrev S_ : Shape := ⟨0, ![]⟩
abbrev S16384x5632 : Shape := ⟨2, ![16384, 5632]⟩
abbrev S16384x5120 : Shape := ⟨2, ![16384, 5120]⟩

abbrev nBuf : Space → Nat
  | .hbm => 52
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S1024x5632, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1024x5120, .f32⟩
  | .hbm, ⟨14, _⟩ => ⟨S_, .f32⟩
  | .hbm, ⟨15, _⟩ => ⟨S16384x1024, .f32⟩
  | .hbm, ⟨16, _⟩ => ⟨S16384x5632, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x5120, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x5632, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x5120, .f32⟩
  | .hbm, ⟨50, _⟩ => ⟨S16384x1024, .f32⟩
  | .hbm, ⟨51, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== OutLN.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 19
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S16384x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![32, 1, 1], ![false, false, false]⟩

def k1_cond2 (i : grid1.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]
-- ==== OutLNRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Lits.lean ====
module

public import Idealize.ShloMosaic.Lib.Pointwise
public import Idealize.ShloMosaic.Lib.Claim

/-! The float literals of the programs at the ideal reading, as real numbers. -/

@[expose] public section

noncomputable section

namespace Cert.Lits

open Idealize.ShloMosaic

theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem kilo : Ideal.ofBits .f32 0x44800000#32 = ((1024 : ℝ) : EReal) := by
  simp [Ideal.ofBits, Ideal.ieee, -EReal.coe_mul]; norm_num
theorem milli : Ideal.ofBits .f32 0x3A800000#32 = ((1 / 1024 : ℝ) : EReal) := by
  simp [Ideal.ofBits, Ideal.ieee, -EReal.coe_mul]; norm_num
theorem zero : Ideal.ofBits .f32 0x00000000#32 = ((0 : ℝ) : EReal) := by
  simp [Ideal.ofBits, Ideal.ieee, -EReal.coe_mul]

/-- A nonnegative real distributes over a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

end Cert.Lits

end
-- ==== Proof.LossValue.lean ====
module

public import proofs.«01_k».proof.Defs
public import proofs.«01_k».proof.Proof.Gen.LossIdeal.Frame
public import proofs.«01_k».proof.Proof.Gen.LossRefIdeal
public import proofs.«01_k».proof.Proof.Lits
public import Idealize.ShloMosaic.Lib.Pipeline.ValueKit
public import Idealize.ShloMosaic.Lib.Pointwise
public import Idealize.ShloMosaic.Lib.Claim

@[expose] public section

set_option maxRecDepth 16384

noncomputable section

namespace Cert.LossIdeal.Value

open Idealize.ShloMosaic Idealize.ShloMosaic.TcCoe Idealize.SL.Sem
open Idealize.ShloMosaic.Pipeline (Dat)
open Cert.LossIdeal Cert.LossIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- The gradient: the difference by the reciprocal of the row length. -/
abbrev DY (Y T : FVec Ideal S16384x1024 .f32) : FVec Ideal S16384x1024 .f32 :=
  fun i => (Y i - T i) * Ideal.ofBits .f32 0x3A800000#32

/-- The mean square of row `r`. -/
def rowMean (Y T : FVec Ideal S16384x1024 .f32) (r : Fin 16384) : EReal :=
  Ideal.div (∑ k : Fin 1024, (Y (ix2 r k) - T (ix2 r k)) * (Y (ix2 r k) - T (ix2 r k))) (Ideal.ofBits .f32 0x44800000#32)

/-- The half sum of the mean squares of the 512 rows of block `t`. -/
def part (Y T : FVec Ideal S16384x1024 .f32) (t : Fin 32) : EReal :=
  Ideal.ofBits .f32 0x3F000000#32 * ∑ r : Fin 512, rowMean Y T ⟨t.val * 512 + r.val, by omega⟩

/-- The partial sums, each spread over a tile of 8 by 128. -/
abbrev PART (Y T : FVec Ideal S16384x1024 .f32) : FVec Ideal S256x128 .f32 :=
  fun i => part Y T ⟨(i 0).val / 8, by have := (i 0).isLt; change (i 0).val < 256 at this; omega⟩

theorem final2 (c : Dev nD) : (dats m 0 c).arrAt 2 (cfgs 0).N
    = DY (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay2, k0_pay1, DY]
  blk_point [iblk, V, idx t]

theorem final3 (c : Dev nD) : (dats m 0 c).arrAt 3 (cfgs 0).N
    = PART (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay3, k0_pay1, PART, part, rowMean]
  blk_point [iblk, V, idx t]

theorem tail4 (c : Dev nD) : Pipeline.afterTail₀ cfgs (dats m) 0 (V0 m) [hostOps1] c main_v4 =
   fun _ => ∑ t, part (m ((c : Thread nD τ).loc main_arg0)) (m ((c : Thread nD τ).loc main_arg1)) t := by
  unfold Pipeline.afterTail₀
  show StableHlo.after hostOps1 _ (Proc.devRef .tc main_v4) = _
  after_results
  have h3 := Pipeline.withArrays_arr (cfgs 0).spec (by decide) c (V0 m c) (fun w => (dats m 0 c).arrAt w (cfgs 0).N) 3
  simp only [show Pipeline.arrRef (cfgs 0).spec 3 = main_v0_1 from rfl, final3] at h3
  rw [h3]
  funext j
  pointwise [PART]
  exact Finset.sum_congr rfl fun t _ => congrArg _ (Fin.ext (Nat.mul_div_cancel _ (by norm_num)))

/-- Half the sum over all rows is the sum of the blocks' halves. -/
theorem half_sum (Y T : FVec Ideal S16384x1024 .f32) :
    Ideal.ofBits .f32 0x3F000000#32 * ∑ r, rowMean Y T r = ∑ t, part Y T t := by
  unfold part
  rw [Lits.half, ← Lits.coe_mul_sum _ _ (by norm_num), Fin.sum_univ_tiles 32 512 rfl]

/-- `(½ / 1024) · (2 · d)` is `d · (1 / 1024)`, at every extended real `d`. -/
theorem grad_eq (d : EReal) : Ideal.div (Ideal.ofBits .f32 0x3F000000#32) (Ideal.ofBits .f32 0x44800000#32)
    * (Ideal.ofBits .f32 0x40000000#32 * d) = d * Ideal.ofBits .f32 0x3A800000#32 := by
  rw [Lits.half, Lits.kilo, Lits.two, Lits.milli, Ideal.div_coe (by norm_num), ← mul_assoc, ← EReal.coe_mul,
    ← EReal.coe_mul, mul_comm]
  norm_num

theorem algebraic : Cert.algebraic_LossIdeal_LossRefIdeal (hLossIdeal := Cert.LossIdeal.Gen.facts) (hLossRefIdeal := Cert.LossRefIdeal.Gen.facts) := by
  pair_intro
  · run_from Cert.LossIdeal.Gen.run_main m g
  · hlo_run
    · rw [tail4 m c]
      funext j
      refine Eq.trans ?_ (half_sum _ _)
      pointwise! [rowMean]
    · rw [final2 m c]
      funext j
      pointwise [DY]
      exact grad_eq _

theorem frame_ref : Cert.quiescent_LossRefIdeal (hLossRefIdeal := Cert.LossRefIdeal.Gen.facts) := by
  intro m ρ _
  hlo_run
  · exact fun _ => ⟨trivial, trivial⟩
  · exact sem_eq_zero_of_no_sems (by decide) _

end Cert.LossIdeal.Value
-- ==== Proof.Attn.FwdBody.lean ====
module

public import proofs.«01_k».proof.Defs
public import proofs.«01_k».proof.Proof.Gen.AttnIdeal.Skeleton
public import proofs.«01_k».proof.Proof.Gen.AttnIdeal.Launch
public import proofs.«01_k».proof.Proof.Gen.AttnIdeal.Points
public import Idealize.ShloMosaic.Lib.Pipeline.Frame
public import Idealize.ShloMosaic.Lib.Pipeline.ValueKit
public import Idealize.ShloMosaic.Lib.WholeRead
public import Idealize.ShloMosaic.Lib.VecWindow

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rectangle of a block, as a load of that rectangle reads it. -/
abbrev blkAt {sh : Shape} {e : EltTy} (x : Vec F sh e) (B : LoadRect sh) : B.shape.Idx → Elt F e := fun y => x (B.idx y)

/-- A load through a whole buffer held at known contents reads the rectangle of those contents. -/
theorem readAt_blkAt {sp : Space} {sh : Shape} {e : EltTy} {mr : Memref sig .tc sp sh e} (h : mr.IsWhole) (X : Vec F sh e) (B : LoadRect sh) :
    View.readAt (Elt F) mr.view B (h.unread X) = blkAt X B := funext fun x => Memref.IsWhole.readAt_unread h X B x

/-- The rectangle that is the whole block reads the block. -/
theorem blkAt_all {sh : Shape} {e : EltTy} (X : Vec F sh e) {off : Fin sh.rank → ℕ} (inb : ∀ a, off a + sh.size a ≤ sh.size a) :
    blkAt X (Rect.unit off sh.size inb).toLoadRect = X := by
  funext x
  refine congrArg X (funext fun a => Fin.ext ?_)
  have h0 : off a = 0 := by have := inb a; omega
  simp [Rect.unit, LoadRect.idx, h0]

theorem blkAt_q (X : Vec F S1x2048x256 .bf16) (inb) : blkAt X (Rect.unit ![0, 0, 0] ![1, 2048, 256] inb).toLoadRect = X := blkAt_all X inb
theorem blkAt_m (X : Vec F S2048x128 .f32) (inb) : blkAt X (Rect.unit ![0, 0] ![2048, 128] inb).toLoadRect = X := blkAt_all X inb
theorem blkAt_a (X : Vec F S2048x256 .f32) (inb) : blkAt X (Rect.unit ![0, 0] ![2048, 256] inb).toLoadRect = X := blkAt_all X inb

/-- A load of a whole buffer after a store of a whole buffer reads what was stored. -/
theorem readCov_all {sp : Space} {sh : Shape} {e : EltTy} (v : View sig .tc sp sh e) {off : Fin sh.rank → ℕ}
    (inb : ∀ a, off a + sh.size a ≤ sh.size a) (w : Vec F sh e) :
    v.readCov [(⟨Rect.unit off sh.size inb, w⟩ : View.Piece (Elt F) sh e)] (Rect.unit off sh.size inb).toLoadRect = w :=
  View.readCov_unit_lit v inb w fun a => by have := inb a; omega

theorem readCov_m {sp : Space} (v : View sig .tc sp S2048x128 .f32) (inb) (w : Vec F S2048x128 .f32) :
    v.readCov [(⟨Rect.unit ![0, 0] ![2048, 128] inb, w⟩ : View.Piece (Elt F) S2048x128 .f32)] (Rect.unit ![0, 0] ![2048, 128] inb).toLoadRect = w := readCov_all v inb w
theorem readCov_a {sp : Space} (v : View sig .tc sp S2048x256 .f32) (inb) (w : Vec F S2048x256 .f32) :
    v.readCov [(⟨Rect.unit ![0, 0] ![2048, 256] inb, w⟩ : View.Piece (Elt F) S2048x256 .f32)] (Rect.unit ![0, 0] ![2048, 256] inb).toLoadRect = w := readCov_all v inb w

/-- The rows of the keys or values that one of a point's four steps works on. -/
abbrev rows0 (x : Vec F S1x2048x256 .bf16) : Vec F S1x512x256 .bf16 := blkAt x (Rect.unit (s := S1x2048x256) ![0, 0, 0] S1x512x256.size inb_S1x2048x256_S1x512x256_0_0_0).toLoadRect
abbrev rows1 (x : Vec F S1x2048x256 .bf16) : Vec F S1x512x256 .bf16 := blkAt x (Rect.unit (s := S1x2048x256) ![0, 512, 0] S1x512x256.size inb_S1x2048x256_S1x512x256_0_512_0).toLoadRect
abbrev rows2 (x : Vec F S1x2048x256 .bf16) : Vec F S1x512x256 .bf16 := blkAt x (Rect.unit (s := S1x2048x256) ![0, 1024, 0] S1x512x256.size inb_S1x2048x256_S1x512x256_0_1024_0).toLoadRect
abbrev rows3 (x : Vec F S1x2048x256 .bf16) : Vec F S1x512x256 .bf16 := blkAt x (Rect.unit (s := S1x2048x256) ![0, 1536, 0] S1x512x256.size inb_S1x2048x256_S1x512x256_0_1536_0).toLoadRect

/-- The running maximum after three of a point's four steps. -/
abbrev fwdM3 (x0 x1 : Vec F S1x2048x256 .bf16) (s0 : Vec F S2048x128 .f32) : FVec F S2048x128 .f32 :=
  k0_pay18 (k0_pay10 x0) (k0_pay12 x0 s0 (rows0 x1)) (k0_pay15 x0 (rows1 x1)) (rows2 x1)
/-- The weighted sum after three of a point's four steps. -/
abbrev fwdA3 (x0 x1 x2 : Vec F S1x2048x256 .bf16) (s0 : Vec F S2048x128 .f32) (s1 : Vec F S2048x256 .f32) : FVec F S2048x256 .f32 :=
  k0_pay19 (k0_pay10 x0) (k0_pay12 x0 s0 (rows0 x1)) (k0_pay13 x0 s0 s1 (rows0 x1) (rows0 x2)) (k0_pay14 (rows1 x2)) (k0_pay15 x0 (rows1 x1)) (rows2 x1) (rows2 x2)
/-- The running maximum a point leaves. -/
abbrev fwdM (x0 x1 : Vec F S1x2048x256 .bf16) (s0 : Vec F S2048x128 .f32) : FVec F S2048x128 .f32 :=
  k0_pay3 (fwdM3 x0 x1 s0) (k0_pay22 (k0_pay10 x0) (rows3 x1))
/-- The weighted sum a point leaves. -/
abbrev fwdA (x0 x1 x2 : Vec F S1x2048x256 .bf16) (s0 : Vec F S2048x128 .f32) (s1 : Vec F S2048x256 .f32) : FVec F S2048x256 .f32 :=
  k0_pay4 (fwdM3 x0 x1 s0) (fwdA3 x0 x1 x2 s0 s1) (k0_pay20 (rows3 x2)) (k0_pay21 (k0_pay10 x0) (rows3 x1)) (k0_pay22 (k0_pay10 x0) (rows3 x1))
/-- The output of the block of queries, of its last point. -/
abbrev fwdO (x0 x1 x2 : Vec F S1x2048x256 .bf16) (s0 : Vec F S2048x128 .f32) (s1 : Vec F S2048x256 .f32) : FVec F S2048x128 .f32 :=
  k0_pay6 (fwdM3 x0 x1 s0) (fwdA3 x0 x1 x2 s0 s1) (k0_pay20 (rows3 x2)) (k0_pay21 (k0_pay10 x0) (rows3 x1)) (k0_pay22 (k0_pay10 x0) (rows3 x1))
/-- The logarithm of the sum of exponentials of the block of queries, of its last point. -/
abbrev fwdL (x0 x1 x2 : Vec F S1x2048x256 .bf16) (s0 : Vec F S2048x128 .f32) (s1 : Vec F S2048x256 .f32) : FVec F S2048x128 .f32 :=
  k0_pay7 (fwdM3 x0 x1 s0) (fwdA3 x0 x1 x2 s0 s1) (k0_pay20 (rows3 x2)) (k0_pay21 (k0_pay10 x0) (rows3 x1)) (k0_pay22 (k0_pay10 x0) (rows3 x1))

set_option maxHeartbeats 1600000 in
/-- A point that begins a block of queries. -/
theorem fwd_bodyA (c : Dev nD) (i : grid0.Coords) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (hc0 : (Scalar.cmpi .ne (Scalar.extui (Scalar.cmpi .eq (BitVec.ofNat 32 (i 2).val) 0#32)) 0#32) = 1#1) (hc1 : ¬ k0_cond2 i = 1#1)
    (x0 x1 x2 : Vec F S1x2048x256 .bf16) (s0 : Vec F S2048x128 .f32) (s1 : Vec F S2048x256 .f32) (d3 d4 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare d4
        ∗ owns (c : Thread nD τ) arg8 fullShare s0 ∗ owns (c : Thread nD τ) arg9 fullShare s1
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare d4
            ∗ owns (c : Thread nD τ) arg8 fullShare (fwdM x0 x1 (k0_pay8 (F := F))) ∗ owns (c : Thread nD τ) arg9 fullShare (fwdA x0 x1 x2 (k0_pay8 (F := F)) (k0_pay9 (F := F)))) -∗ K ⟨⟩))
      ⊢ wp frame (wpE (defs₀ (F := F)) Variants.none c none) E (cc0_mla_attn i arg3 harg3 arg4 harg4 arg5 harg5 arg6 harg6 arg7 harg7 arg8 harg8 arg9 harg9) K := by
  simp only [cc0_mla_attn_eq_skeleton]; unfold cc0_mla_attn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg8.eq_unread hfs0; obtain rfl := harg9.eq_unread hfs1
  obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact harg6.read_unread _
  isplitl [H4]
  · iexists _; isplitr; swap; · iexact H4
    ipureintro
    exact harg7.read_unread _
  isplitl [HS0]
  · iexists _; isplitr; swap; · iexact HS0
    ipureintro
    refine (View.read_writes_full _ _ _ _ _).trans ?_
    delta fwd_bodyA.sl.r_5 fwd_bodyA.sl.r_6 fwd_bodyA.sl.r_7 fwd_bodyA.sl.r_8 fwd_bodyA.sl.r_9 fwd_bodyA.sl.r fwd_bodyA.sl.r_1 fwd_bodyA.sl.r_2 fwd_bodyA.sl.r_3 fwd_bodyA.sl.r_4 fwd_bodyA.sl.v5 fwd_bodyA.sl.v6 fwd_bodyA.sl.HS0_1 fwd_bodyA.sl.HS1_1
    simp only [readAt_blkAt, blkAt_q, blkAt_m, blkAt_a, readCov_m, readCov_a]
  iexists _; isplitr; swap; · iexact HS1
  ipureintro
  refine (View.read_writes_full _ _ _ _ _).trans ?_
  delta fwd_bodyA.sl.r_5 fwd_bodyA.sl.r_6 fwd_bodyA.sl.r_7 fwd_bodyA.sl.r_8 fwd_bodyA.sl.r_9 fwd_bodyA.sl.r fwd_bodyA.sl.r_1 fwd_bodyA.sl.r_2 fwd_bodyA.sl.r_3 fwd_bodyA.sl.r_4 fwd_bodyA.sl.v5 fwd_bodyA.sl.v6 fwd_bodyA.sl.HS0_1 fwd_bodyA.sl.HS1_1
  simp only [readAt_blkAt, blkAt_q, blkAt_m, blkAt_a, readCov_m, readCov_a]

set_option maxHeartbeats 1600000 in
/-- A point inside a block of queries. -/
theorem fwd_bodyB (c : Dev nD) (i : grid0.Coords) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (hc0 : ¬ (Scalar.cmpi .ne (Scalar.extui (Scalar.cmpi .eq (BitVec.ofNat 32 (i 2).val) 0#32)) 0#32) = 1#1) (hc1 : ¬ k0_cond2 i = 1#1)
    (x0 x1 x2 : Vec F S1x2048x256 .bf16) (s0 : Vec F S2048x128 .f32) (s1 : Vec F S2048x256 .f32) (d3 d4 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare d4
        ∗ owns (c : Thread nD τ) arg8 fullShare s0 ∗ owns (c : Thread nD τ) arg9 fullShare s1
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare d4
            ∗ owns (c : Thread nD τ) arg8 fullShare (fwdM x0 x1 s0) ∗ owns (c : Thread nD τ) arg9 fullShare (fwdA x0 x1 x2 s0 s1)) -∗ K ⟨⟩))
      ⊢ wp frame (wpE (defs₀ (F := F)) Variants.none c none) E (cc0_mla_attn i arg3 harg3 arg4 harg4 arg5 harg5 arg6 harg6 arg7 harg7 arg8 harg8 arg9 harg9) K := by
  simp only [cc0_mla_attn_eq_skeleton]; unfold cc0_mla_attn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg8.eq_unread hfs0; obtain rfl := harg9.eq_unread hfs1
  obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact harg6.read_unread _
  isplitl [H4]
  · iexists _; isplitr; swap; · iexact H4
    ipureintro
    exact harg7.read_unread _
  isplitl [HS0]
  · iexists _; isplitr; swap; · iexact HS0
    ipureintro
    refine (View.read_writes_full _ _ _ _ _).trans ?_
    delta fwd_bodyB.sl.r_5 fwd_bodyB.sl.r_6 fwd_bodyB.sl.r_7 fwd_bodyB.sl.r_8 fwd_bodyB.sl.r_9 fwd_bodyB.sl.r fwd_bodyB.sl.r_1 fwd_bodyB.sl.r_2 fwd_bodyB.sl.r_3 fwd_bodyB.sl.r_4
    simp only [readAt_blkAt, blkAt_q, blkAt_m, blkAt_a]
  iexists _; isplitr; swap; · iexact HS1
  ipureintro
  refine (View.read_writes_full _ _ _ _ _).trans ?_
  delta fwd_bodyB.sl.r_5 fwd_bodyB.sl.r_6 fwd_bodyB.sl.r_7 fwd_bodyB.sl.r_8 fwd_bodyB.sl.r_9 fwd_bodyB.sl.r fwd_bodyB.sl.r_1 fwd_bodyB.sl.r_2 fwd_bodyB.sl.r_3 fwd_bodyB.sl.r_4
  simp only [readAt_blkAt, blkAt_q, blkAt_m, blkAt_a]

set_option maxHeartbeats 1600000 in
/-- A point that ends a block of queries. -/
theorem fwd_bodyC (c : Dev nD) (i : grid0.Coords) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (hc0 : ¬ (Scalar.cmpi .ne (Scalar.extui (Scalar.cmpi .eq (BitVec.ofNat 32 (i 2).val) 0#32)) 0#32) = 1#1) (hc1 : k0_cond2 i = 1#1)
    (x0 x1 x2 : Vec F S1x2048x256 .bf16) (s0 : Vec F S2048x128 .f32) (s1 : Vec F S2048x256 .f32) (d3 d4 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare d4
        ∗ owns (c : Thread nD τ) arg8 fullShare s0 ∗ owns (c : Thread nD τ) arg9 fullShare s1
        ∗ (iprop(owns (c : Thread nD τ) arg3 fullShare x0 ∗ owns (c : Thread nD τ) arg4 fullShare x1 ∗ owns (c : Thread nD τ) arg5 fullShare x2
            ∗ owns (c : Thread nD τ) arg6 fullShare (fwdO x0 x1 x2 s0 s1) ∗ owns (c : Thread nD τ) arg7 fullShare (fwdL x0 x1 x2 s0 s1)
            ∗ owns (c : Thread nD τ) arg8 fullShare (fwdM x0 x1 s0) ∗ owns (c : Thread nD τ) arg9 fullShare (fwdA x0 x1 x2 s0 s1)) -∗ K ⟨⟩))
      ⊢ wp frame (wpE (defs₀ (F := F)) Variants.none c none) E (cc0_mla_attn i arg3 harg3 arg4 harg4 arg5 harg5 arg6 harg6 arg7 harg7 arg8 harg8 arg9 harg9) K := by
  simp only [cc0_mla_attn_eq_skeleton]; unfold cc0_mla_attn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg8.eq_unread hfs0; obtain rfl := harg9.eq_unread hfs1
  obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (View.read_writes_full _ _ _ _ _).trans ?_
    delta fwd_bodyC.sl.r_5 fwd_bodyC.sl.r_6 fwd_bodyC.sl.r_7 fwd_bodyC.sl.r_8 fwd_bodyC.sl.r_9 fwd_bodyC.sl.r fwd_bodyC.sl.r_1 fwd_bodyC.sl.r_2 fwd_bodyC.sl.r_3 fwd_bodyC.sl.r_4
    simp only [readAt_blkAt, blkAt_q, blkAt_m, blkAt_a]
  isplitl [H4]
  · iexists _; isplitr; swap; · iexact H4
    ipureintro
    refine (View.read_writes_full _ _ _ _ _).trans ?_
    delta fwd_bodyC.sl.r_5 fwd_bodyC.sl.r_6 fwd_bodyC.sl.r_7 fwd_bodyC.sl.r_8 fwd_bodyC.sl.r_9 fwd_bodyC.sl.r fwd_bodyC.sl.r_1 fwd_bodyC.sl.r_2 fwd_bodyC.sl.r_3 fwd_bodyC.sl.r_4
    simp only [readAt_blkAt, blkAt_q, blkAt_m, blkAt_a]
  isplitl [HS0]
  · iexists _; isplitr; swap; · iexact HS0
    ipureintro
    refine (View.read_writes_full _ _ _ _ _).trans ?_
    delta fwd_bodyC.sl.r_5 fwd_bodyC.sl.r_6 fwd_bodyC.sl.r_7 fwd_bodyC.sl.r_8 fwd_bodyC.sl.r_9 fwd_bodyC.sl.r fwd_bodyC.sl.r_1 fwd_bodyC.sl.r_2 fwd_bodyC.sl.r_3 fwd_bodyC.sl.r_4
    simp only [readAt_blkAt, blkAt_q, blkAt_m, blkAt_a]
  iexists _; isplitr; swap; · iexact HS1
  ipureintro
  refine (View.read_writes_full _ _ _ _ _).trans ?_
  delta fwd_bodyC.sl.r_5 fwd_bodyC.sl.r_6 fwd_bodyC.sl.r_7 fwd_bodyC.sl.r_8 fwd_bodyC.sl.r_9 fwd_bodyC.sl.r fwd_bodyC.sl.r_1 fwd_bodyC.sl.r_2 fwd_bodyC.sl.r_3 fwd_bodyC.sl.r_4
  simp only [readAt_blkAt, blkAt_q, blkAt_m, blkAt_a]

end Cert.AttnIdeal.Gen
end
-- ==== Proof.Attn.Fwd.lean ====
/-
  The forward call's region: what its buffers hold after each grid point, and that the body does it.

  The grid runs over heads, blocks of 2048 queries and blocks of 2048 keys, the keys innermost; the running maximum
  and the weighted sum are carried in two buffers from key block to key block, started afresh at the first and
  written out as the block's output and log-sum at the last.
-/
module

public import proofs.«01_k».proof.Proof.Attn.FwdBody
public import Idealize.ShloMosaic.Lib.WordCmp
public import Idealize.ShloMosaic.Lib.Pipeline.FrameBody

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's buffer holds its block at every point, fetched there or before. -/
theorem before0_of {c : Dev nD} (dat : Dat τ (Elt F) Unit ℕ (UR sig nD τ) ℕ cfg0 c) (hA : ∀ w, dat.A w = V c (Pipeline.arrRef spec0 w)) :
    ((∀ t, dat.after 0 t = iblk0 V c 0 t) → ∀ (t : Fin cfg0.N) (d), dat.before 0 t d = iblk0 V c 0 t)
    ∧ ((∀ t, dat.after 1 t = iblk0 V c 1 t) → ∀ (t : Fin cfg0.N) (d), dat.before 1 t d = iblk0 V c 1 t)
    ∧ ((∀ t, dat.after 2 t = iblk0 V c 2 t) → ∀ (t : Fin cfg0.N) (d), dat.before 2 t d = iblk0 V c 2 t) := by
  refine ⟨fun ha t d => ?_, fun ha t d => ?_, fun ha t d => ?_⟩
  · exact (dat.before_in_eq_fetched 0 rfl (fun _ => rfl) (fun _ _ _ => rfl) (fun t => by rw [ha]; unfold Dat.blockOf iblk0; rw [hA]; try rfl) t d).trans
      (by unfold Dat.fetched Dat.blockOf iblk0; rw [hA]; try rfl)
  · exact (dat.before_in_eq_fetched 1 rfl (fun _ => rfl) (fun _ _ _ => rfl) (fun t => by rw [ha]; unfold Dat.blockOf iblk0; rw [hA]; try rfl) t d).trans
      (by unfold Dat.fetched Dat.blockOf iblk0; rw [hA]; try rfl)
  · exact (dat.before_in_eq_fetched 2 rfl (fun _ => rfl) (fun _ _ _ => rfl) (fun t => by rw [ha]; unfold Dat.blockOf iblk0; rw [hA]; try rfl) t d).trans
      (by unfold Dat.fetched Dat.blockOf iblk0; rw [hA]; try rfl)

/-- The body's first condition: the point is the first of its block of queries. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (fun t => by
    have ht : t.val < 512 := Nat.lt_of_lt_of_eq t.isLt N_0
    have e2 : (grid0.coords t 2).val = t.val / 1 % 8 := Pipeline.Grid.coords_val t 2 (by decide) rfl
    simp only [cond0_0, e2]
    word_cmp
   : ∀ t : Fin grid0.N, cond0_0 (grid0.coords t) ↔ t.val % 8 = 0)
/-- The body's second condition: the point is the last of its block of queries. -/
theorem hcond0_1 : ∀ t : Fin cfg0.N, k0_cond2 (grid0.coords t) = 1#1 ↔ t.val % 8 = 7 :=
  (fun t => by
    have ht : t.val < 512 := Nat.lt_of_lt_of_eq t.isLt N_0
    have e2 : (grid0.coords t 2).val = t.val / 1 % 8 := Pipeline.Grid.coords_val t 2 (by decide) rfl
    simp only [k0_cond2, e2]
    word_cmp
   : ∀ t : Fin grid0.N, k0_cond2 (grid0.coords t) = 1#1 ↔ t.val % 8 = 7)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev scM0_0 : Memref sig .tc .vmem S2048x128 .f32 := Memref.whole cc0_scratch0
abbrev scM0_1 : Memref sig .tc .vmem S2048x256 .f32 := Memref.whole cc0_scratch1

/-- The carried buffers' contents: the running maximum and the weighted sum. -/
abbrev Carry0 (F : FTy → Type) [FloatOps F] : Type := Vec F S2048x128 .f32 × Vec F S2048x256 .f32
/-- What a block of queries starts from. -/
abbrev init0 : Carry0 F := (k0_pay8, k0_pay9)
/-- What one point makes of the carried buffers. -/
abbrev step0 (c : Dev nD) (t : Fin cfg0.N) (s : Carry0 F) : Carry0 F :=
  (fwdM (iblk0 V c 0 t) (iblk0 V c 1 t) s.1, fwdA (iblk0 V c 0 t) (iblk0 V c 1 t) (iblk0 V c 2 t) s.1 s.2)
/-- The carried buffers after point `n`. -/
def carry0 (c : Dev nD) : (n : ℕ) → n < cfg0.N → Carry0 F
  | 0, h => step0 V c ⟨0, h⟩ init0
  | n + 1, h => step0 V c ⟨n + 1, h⟩ (if (n + 1) % 8 = 0 then init0 else carry0 c n (Nat.lt_of_succ_lt h))
/-- The carried buffers a point works from. -/
def entry0 (c : Dev nD) (t : Fin cfg0.N) : Carry0 F :=
  if t.val % 8 = 0 then init0 else carry0 V c (t.val - 1) (lt_of_le_of_lt (Nat.sub_le _ _) t.isLt)

theorem carry0_eq (c : Dev nD) (t : Fin cfg0.N) : carry0 V c t.val t.isLt = step0 V c t (entry0 V c t) := by
  obtain ⟨n, h⟩ := t
  cases n with
  | zero => rw [carry0]; unfold entry0; rfl
  | succ n => rw [carry0]; unfold entry0; rfl

/-- The invariant between points: inside a block of queries the carried buffers are what the last point left. -/
def Phi0 (c : Dev nD) (n : ℕ) : sProp 𝕄 :=
  iprop(iprop((∃ s : Carry0 F, iprop(⌜n % 8 ≠ 0 → ∀ h : n - 1 < cfg0.N, s = carry0 V c (n - 1) h⌝
      ∗ owns (c : Thread nD τ) scM0_0 fullShare s.1 ∗ owns (c : Thread nD τ) scM0_1 fullShare s.2))
    ∗ Pipeline.scopedRestBut spec0 c [cc0_scratch0, cc0_scratch1]) ∗ (∃ r, prngReg c r))

/-- The region's data: inputs left in place, the outputs at the last point's values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fwdO (iblk0 V c 0 t) (iblk0 V c 1 t) (iblk0 V c 2 t) (entry0 V c t).1 (entry0 V c t).2
    | ⟨4, _⟩ => fwdL (iblk0 V c 0 t) (iblk0 V c 1 t) (iblk0 V c 2 t) (entry0 V c t).1 (entry0 V c t).2
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = fwdO (iblk0 V c 0 t) (iblk0 V c 1 t) (iblk0 V c 2 t) (entry0 V c t).1 (entry0 V c t).2 := by
  dsimp only [dat0]
theorem after0_4 (c : Dev nD) (t : Fin cfg0.N) : (dat0 V c).after 4 t = fwdL (iblk0 V c 0 t) (iblk0 V c 1 t) (iblk0 V c 2 t) (entry0 V c t).1 (entry0 V c t).2 := by
  dsimp only [dat0]
theorem before0_0 (c : Dev nD) (t : Fin cfg0.N) (d) : (dat0 V c).before 0 t d = iblk0 V c 0 t :=
  (before0_of V (dat0 V c) (A_eq0 V c)).1 (after0_0 V c) t d
theorem before0_1 (c : Dev nD) (t : Fin cfg0.N) (d) : (dat0 V c).before 1 t d = iblk0 V c 1 t :=
  (before0_of V (dat0 V c) (A_eq0 V c)).2.1 (after0_1 V c) t d
theorem before0_2 (c : Dev nD) (t : Fin cfg0.N) (d) : (dat0 V c).before 2 t d = iblk0 V c 2 t :=
  (before0_of V (dat0 V c) (A_eq0 V c)).2.2 (after0_2 V c) t d

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- After a point the carried buffers are that point's. -/
theorem Phi0_succ (c : Dev nD) (t : Fin cfg0.N) (s : Carry0 F) (hs : s = entry0 V c t) :
    (t.val + 1) % 8 ≠ 0 → ∀ h : t.val + 1 - 1 < cfg0.N, step0 V c t s = carry0 V c (t.val + 1 - 1) h := by
  intro _ h; subst hs
  exact (carry0_eq V c t).symm

/-- Inside a block the point works from what the last one left. -/
theorem entry0_of (c : Dev nD) (t : Fin cfg0.N) (h0 : ¬ t.val % 8 = 0) (s : Carry0 F)
    (hs : t.val % 8 ≠ 0 → ∀ h : t.val - 1 < cfg0.N, s = carry0 V c (t.val - 1) h) : s = entry0 V c t := by
  unfold entry0; rw [if_neg h0]; exact hs h0 _

theorem entry0_first (c : Dev nD) (t : Fin cfg0.N) (h0 : t.val % 8 = 0) : (init0 : Carry0 F) = entry0 V c t := by
  unfold entry0; rw [if_pos h0]

set_option maxHeartbeats 1600000 in
/-- The body at any point does what the data say. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.castSucc = Phi0 V c t.val from rfl, show (dat0 V c).Φ t.succ = Phi0 V c (t.val + 1) from rfl]
  unfold Phi0
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  by_cases h1 : t.val % 8 = 7
  · have h0 : ¬ t.val % 8 = 0 := by omega
    have hl : ∀ b : BitVec 1, b = 1#1 → (!(b == 1#1)) = false := by decide
    rw [show (dat0 V c).leavesExact 3 t = owns (c : Thread nD τ) (st0_3 t) fullShare ((dat0 V c).after 3 t) from by
        unfold Dat.leavesExact; rw [show cfg0.idle 3 (grid0.coords t) = false from hl _ ((hcond0_1 t).mpr h1)], after0_3,
      show (dat0 V c).leavesExact 4 t = owns (c : Thread nD τ) (st0_4 t) fullShare ((dat0 V c).after 4 t) from by
        unfold Dat.leavesExact; rw [show cfg0.idle 4 (grid0.coords t) = false from hl _ ((hcond0_1 t).mpr h1)], after0_4]
    iintro ⟨⟨⟨⟨%s, %hs, HS0, HS1⟩, HR⟩, Hg⟩, Ho, ⟨%d0, H0⟩, ⟨%d1, H1⟩, ⟨%d2, H2⟩, ⟨%d3, H3⟩, ⟨%d4, H4⟩⟩
    have hs' := entry0_of V c t h0 s hs
    rw [← hs']
    iapply (fwd_bodyC c (grid0.coords t) (st0_0 t) (hs0_0 t) (st0_1 t) (hs0_1 t) (st0_2 t) (hs0_2 t) (st0_3 t) (hs0_3 t) (st0_4 t) (hs0_4 t) scM0_0 (Memref.isWhole_whole _) scM0_1 (Memref.isWhole_whole _)
      (fun h => h0 ((hcond0_0 t).mp h)) ((hcond0_1 t).mpr h1) (iblk0 V c 0 t) (iblk0 V c 1 t) (iblk0 V c 2 t) s.1 s.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · iexists (step0 V c t s)
          isplitr; · ipureintro; exact Phi0_succ V c t s hs'
          isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · have hi : ∀ b : BitVec 1, ¬ b = 1#1 → (!(b == 1#1)) = true := by decide
    have hc1 : ¬ k0_cond2 (grid0.coords t) = 1#1 := fun h => h1 ((hcond0_1 t).mp h)
    rw [(dat0 V c).leavesExact_idle 3 t (hi _ hc1) (Bool.eq_false_iff.2 fun h => h1 ((flush0_3 t).mp h)),
      (dat0 V c).leavesExact_idle 4 t (hi _ hc1) (Bool.eq_false_iff.2 fun h => h1 ((flush0_4 t).mp h))]
    iintro ⟨⟨⟨⟨%s, %hs, HS0, HS1⟩, HR⟩, Hg⟩, Ho, ⟨%d0, H0⟩, ⟨%d1, H1⟩, ⟨%d2, H2⟩, ⟨%d3, H3⟩, ⟨%d4, H4⟩⟩
    by_cases h0 : t.val % 8 = 0
    · iapply (fwd_bodyA c (grid0.coords t) (st0_0 t) (hs0_0 t) (st0_1 t) (hs0_1 t) (st0_2 t) (hs0_2 t) (st0_3 t) (hs0_3 t) (st0_4 t) (hs0_4 t) scM0_0 (Memref.isWhole_whole _) scM0_1 (Memref.isWhole_whole _)
        ((hcond0_0 t).mpr h0) hc1 (iblk0 V c 0 t) (iblk0 V c 1 t) (iblk0 V c 2 t) s.1 s.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · iexists (step0 V c t init0)
            isplitr; · ipureintro; exact Phi0_succ V c t init0 (entry0_first V c t h0)
            isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists d3; iexact H3
      iexists d4; iexact H4
    · have hs' := entry0_of V c t h0 s hs
      iapply (fwd_bodyB c (grid0.coords t) (st0_0 t) (hs0_0 t) (st0_1 t) (hs0_1 t) (st0_2 t) (hs0_2 t) (st0_3 t) (hs0_3 t) (st0_4 t) (hs0_4 t) scM0_0 (Memref.isWhole_whole _) scM0_1 (Memref.isWhole_whole _)
        (fun h => h0 ((hcond0_0 t).mp h)) hc1 (iblk0 V c 0 t) (iblk0 V c 1 t) (iblk0 V c 2 t) s.1 s.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · iexists (step0 V c t s)
            isplitr; · ipureintro; exact Phi0_succ V c t s hs'
            isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists d3; iexact H3
      iexists d4; iexact H4

theorem defs₀_row0 (t : Fin cfg0.N) : defs₀ (F := F) .tc cfg0.body (cfg0.bodyArgs t (cfg0.slots t)) = bodyAt0 t := by
  unfold defs₀; rw [Defs.onTc_tc]

/-- The library's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The region's own buffers at entry and exit: at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1]) ∗ (∃ r, prngReg c r)) := by
  unfold Pipeline.ΦA; rw [scopedRest0_split]; simp only [scM0_0, scM0_1, owns_whole]; try rfl

theorem hin0 (c : Dev nD) : (Pipeline.ΦA spec0 c : sProp 𝕄) ⊢ (dat0 V c).Φ 0 := by
  rw [show (dat0 V c).Φ 0 = Phi0 V c 0 from rfl, PhiA0_eq]; unfold Phi0
  iintro ⟨⟨⟨⟨%d0, HS0⟩, ⟨%d1, HS1⟩⟩, HR⟩, Hg⟩
  isplitl [HS0 HS1 HR]
  · isplitl [HS0 HS1]
    · iexists ((d0, d1) : Carry0 F)
      isplitr; · ipureintro; intro h; exact absurd rfl h
      isplitl [HS0]; · iexact HS0
      iexact HS1
    iexact HR
  iexact Hg

theorem hout0 (c : Dev nD) : (dat0 V c).Φ (Fin.last cfg0.N) ⊢ (Pipeline.ΦA spec0 c : sProp 𝕄) := by
  rw [show (dat0 V c).Φ (Fin.last cfg0.N) = Phi0 V c cfg0.N from rfl, PhiA0_eq]; unfold Phi0
  iintro ⟨⟨⟨%s, %hs, HS0, HS1⟩, HR⟩, Hg⟩
  isplitl [HS0 HS1 HR]
  · isplitl [HS0 HS1]
    · isplitl [HS0]; · iexists _; iexact HS0
      iexists _; iexact HS1
    iexact HR
  iexact Hg

end Cert.AttnIdeal.Gen
end
-- ==== Proof.Attn.Do.lean ====
/-
  The output gradient's region: the product of the cotangent with the output weights, rounded, and each row's sum
  of output times output gradient, head by head. One point per block of 512 rows.
-/
module

public import proofs.«01_k».proof.Proof.Attn.Fwd
public import Idealize.ShloMosaic.Lib.Pipeline.ValueKit

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The product a point computes. -/
abbrev doAcc (x0 : Vec F S512x1024 .f32) (x1 : Vec F S1024x1024 .f32) : FVec F S1x512x1024 .f32 := k1_pay2 x0 x1 k1_pay1
/-- The block of the output's gradient. -/
abbrev doOut (x0 : Vec F S512x1024 .f32) (x1 : Vec F S1024x1024 .f32) : FVec F S512x1024 .bf16 := k1_pay4 (k1_pay5 (doAcc x0 x1))
/-- The block of row sums. -/
abbrev doDelta (x0 : Vec F S512x1024 .f32) (x1 : Vec F S1024x1024 .f32) (x2 : Vec F S512x1024 .f32) : FVec F S512x1024 .f32 :=
  k1_pay3 (k1_pay5 (doAcc x0 x1)) (k1_pay6 x2) (k1_pay7 (doAcc x0 x1) x2) (k1_pay8 (doAcc x0 x1) x2) (k1_pay9 (doAcc x0 x1) x2)
    (k1_pay10 (doAcc x0 x1) x2) (k1_pay11 (doAcc x0 x1) x2) (k1_pay12 (doAcc x0 x1) x2) (k1_pay13 (doAcc x0 x1) x2)

theorem blkAt_r (X : Vec F S512x1024 .f32) (inb) : blkAt X (Rect.unit ![0, 0] ![512, 1024] inb).toLoadRect = X := blkAt_all X inb
theorem blkAt_w (X : Vec F S1024x1024 .f32) (inb) : blkAt X (Rect.unit ![0, 0] ![1024, 1024] inb).toLoadRect = X := blkAt_all X inb
theorem readCov_d {sp : Space} (v : View sig .tc sp S1x512x1024 .f32) (inb) (w : Vec F S1x512x1024 .f32) (L : List (View.Piece (Elt F) S1x512x1024 .f32)) :
    v.readCov ((⟨Rect.unit ![0, 0, 0] ![1, 512, 1024] inb, w⟩ : View.Piece (Elt F) S1x512x1024 .f32) :: L) (Rect.unit ![0, 0, 0] ![1, 512, 1024] inb).toLoadRect = w :=
  View.readCov_cons_unit_lit' v inb inb w L (by decide) (by decide)

set_option maxHeartbeats 1600000 in
/-- The body on whole buffers. -/
theorem do_body (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S1x512x1024 .f32) (harg8 : arg8.IsWhole)
    (hc0 : (Scalar.cmpi .ne (Scalar.extui (Scalar.cmpi .eq (BitVec.ofNat 32 (i 2).val) 0#32)) 0#32) = 1#1) (hc1 : k1_cond2 i = 1#1)
    (x0 : Vec F S512x1024 .f32) (x1 : Vec F S1024x1024 .f32) (x2 : Vec F S512x1024 .f32) (d3 : Vec F S512x1024 .bf16) (d4 : Vec F S512x1024 .f32) (s0 : Vec F S1x512x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare d4 ∗ owns (c : Thread nD τ) arg8 fullShare s0
        ∗ (iprop(owns (c : Thread nD τ) arg3 fullShare x0 ∗ owns (c : Thread nD τ) arg4 fullShare x1 ∗ owns (c : Thread nD τ) arg5 fullShare x2
            ∗ owns (c : Thread nD τ) arg6 fullShare (doOut x0 x1) ∗ owns (c : Thread nD τ) arg7 fullShare (doDelta x0 x1 x2)
            ∗ owns (c : Thread nD τ) arg8 fullShare (doAcc x0 x1)) -∗ K ⟨⟩))
      ⊢ wp frame (wpE (defs₀ (F := F)) Variants.none c none) E (cc1_mla_dO i arg3 harg3 arg4 harg4 arg5 harg5 arg6 harg6 arg7 harg7 arg8 harg8) K := by
  simp only [cc1_mla_dO_eq_skeleton]; unfold cc1_mla_dO_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg3.eq_unread hf0; obtain rfl := harg4.eq_unread hf1; obtain rfl := harg5.eq_unread hf2; obtain rfl := harg8.eq_unread hfs0
  obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (View.read_writes_full _ _ _ _ _).trans ?_
    delta do_body.sl.r do_body.sl.v17 do_body.sl.HS0_2 do_body.sl.v7 do_body.sl.HS0_1
    simp only [readAt_blkAt, blkAt_r, blkAt_w, readCov_d]
  isplitl [H4]
  · iexists _; isplitr; swap; · iexact H4
    ipureintro
    refine (View.read_writes_full _ _ _ _ _).trans ?_
    delta do_body.sl.r do_body.sl.r_1 do_body.sl.r_2 do_body.sl.r_3 do_body.sl.r_4 do_body.sl.r_5 do_body.sl.r_6 do_body.sl.r_7 do_body.sl.r_8 do_body.sl.v17 do_body.sl.HS0_2 do_body.sl.v7 do_body.sl.HS0_1
    simp only [readAt_blkAt, blkAt_r, blkAt_w, readCov_d]
  iexists _; isplitr; swap; · iexact HS0
  ipureintro
  refine (View.read_writes_full _ _ _ _ _).trans ?_
  delta do_body.sl.v7 do_body.sl.HS0_1
  simp only [readAt_blkAt, blkAt_r, blkAt_w, readCov_d]

/-- A window's block at a point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's buffer holds its block at every point, fetched there or before. -/
theorem before1_of {c : Dev nD} (dat : Dat τ (Elt F) Unit ℕ (UR sig nD τ) ℕ cfg1 c) (hA : ∀ w, dat.A w = V c (Pipeline.arrRef spec1 w)) :
    ((∀ t, dat.after 0 t = iblk1 V c 0 t) → ∀ (t : Fin cfg1.N) (d), dat.before 0 t d = iblk1 V c 0 t)
    ∧ ((∀ t, dat.after 1 t = iblk1 V c 1 t) → ∀ (t : Fin cfg1.N) (d), dat.before 1 t d = iblk1 V c 1 t)
    ∧ ((∀ t, dat.after 2 t = iblk1 V c 2 t) → ∀ (t : Fin cfg1.N) (d), dat.before 2 t d = iblk1 V c 2 t) := by
  refine ⟨fun ha t d => ?_, fun ha t d => ?_, fun ha t d => ?_⟩
  · exact (dat.before_in_eq_fetched 0 rfl (fun _ => rfl) (fun _ _ _ => rfl) (fun t => by rw [ha]; unfold Dat.blockOf iblk1; rw [hA]; try rfl) t d).trans
      (by unfold Dat.fetched Dat.blockOf iblk1; rw [hA]; try rfl)
  · exact (dat.before_in_eq_fetched 1 rfl (fun _ => rfl) (fun _ _ _ => rfl) (fun t => by rw [ha]; unfold Dat.blockOf iblk1; rw [hA]; try rfl) t d).trans
      (by unfold Dat.fetched Dat.blockOf iblk1; rw [hA]; try rfl)
  · exact (dat.before_in_eq_fetched 2 rfl (fun _ => rfl) (fun _ _ _ => rfl) (fun t => by rw [ha]; unfold Dat.blockOf iblk1; rw [hA]; try rfl) t d).trans
      (by unfold Dat.fetched Dat.blockOf iblk1; rw [hA]; try rfl)

/-- Every point both starts and ends its block. -/
theorem hcond1_0 : ∀ t : Fin cfg1.N, (Scalar.cmpi .ne (Scalar.extui (Scalar.cmpi .eq (BitVec.ofNat 32 (grid1.coords t 2).val) 0#32)) 0#32) = 1#1 :=
  (fun t => by
    have ht : t.val < 32 := Nat.lt_of_lt_of_eq t.isLt N_1
    have e2 : (grid1.coords t 2).val = t.val / 1 % 1 := Pipeline.Grid.coords_val t 2 (by decide) rfl
    simp only [e2]
    word_cmp
   : ∀ t : Fin grid1.N, (Scalar.cmpi .ne (Scalar.extui (Scalar.cmpi .eq (BitVec.ofNat 32 (grid1.coords t 2).val) 0#32)) 0#32) = 1#1)
theorem hcond1_1 : ∀ t : Fin cfg1.N, k1_cond2 (grid1.coords t) = 1#1 :=
  (fun t => by
    have ht : t.val < 32 := Nat.lt_of_lt_of_eq t.isLt N_1
    have e2 : (grid1.coords t 2).val = t.val / 1 % 1 := Pipeline.Grid.coords_val t 2 (by decide) rfl
    simp only [k1_cond2, e2]
    word_cmp
   : ∀ t : Fin grid1.N, k1_cond2 (grid1.coords t) = 1#1)

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev scM1_0 : Memref sig .tc .vmem S1x512x1024 .f32 := Memref.whole cc1_scratch0

/-- The region's own buffers: at some contents. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

/-- The region's data: inputs left in place, the outputs at the product and the row sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => doOut (iblk1 V c 0 t) (iblk1 V c 1 t)
    | ⟨4, _⟩ => doDelta (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = doOut (iblk1 V c 0 t) (iblk1 V c 1 t) := by dsimp only [dat1]
theorem after1_4 (c : Dev nD) (t : Fin cfg1.N) : (dat1 V c).after 4 t = doDelta (iblk1 V c 0 t) (iblk1 V c 1 t) (iblk1 V c 2 t) := by dsimp only [dat1]
theorem before1_0 (c : Dev nD) (t : Fin cfg1.N) (d) : (dat1 V c).before 0 t d = iblk1 V c 0 t :=
  (before1_of V (dat1 V c) (A_eq1 V c)).1 (after1_0 V c) t d
theorem before1_1 (c : Dev nD) (t : Fin cfg1.N) (d) : (dat1 V c).before 1 t d = iblk1 V c 1 t :=
  (before1_of V (dat1 V c) (A_eq1 V c)).2.1 (after1_1 V c) t d
theorem before1_2 (c : Dev nD) (t : Fin cfg1.N) (d) : (dat1 V c).before 2 t d = iblk1 V c 2 t :=
  (before1_of V (dat1 V c) (A_eq1 V c)).2.2 (after1_2 V c) t d

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 1600000 in
/-- The body at any point does what the data say. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  have hl : ∀ b : BitVec 1, b = 1#1 → (!(b == 1#1)) = false := by decide
  rw [show (dat1 V c).owesAt () t.succ = (dat1 V c).owesAt () t.castSucc from rfl]
  rw [show (dat1 V c).Φ t.castSucc = Pipeline.ΦA spec1 c from rfl, show (dat1 V c).Φ t.succ = Pipeline.ΦA spec1 c from rfl, PhiA1_eq]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from by
      unfold Dat.leavesExact; rw [show cfg1.idle 3 (grid1.coords t) = false from hl _ (hcond1_1 t)], after1_3,
    show (dat1 V c).leavesExact 4 t = owns (c : Thread nD τ) (st1_4 t) fullShare ((dat1 V c).after 4 t) from by
      unfold Dat.leavesExact; rw [show cfg1.idle 4 (grid1.coords t) = false from hl _ (hcond1_1 t)], after1_4]
  iintro ⟨⟨⟨⟨%s, HS0⟩, HR⟩, Hg⟩, Ho, ⟨%d0, H0⟩, ⟨%d1, H1⟩, ⟨%d2, H2⟩, ⟨%d3, H3⟩, ⟨%d4, H4⟩⟩
  iapply (do_body c (grid1.coords t) (st1_0 t) (hs1_0 t) (st1_1 t) (hs1_1 t) (st1_2 t) (hs1_2 t) (st1_3 t) (hs1_3 t) (st1_4 t) (hs1_4 t) scM1_0 (Memref.isWhole_whole _)
    (hcond1_0 t) (hcond1_1 t) (iblk1 V c 0 t) (iblk1 V c 1 t) (iblk1 V c 2 t) _ _ s Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  isplitl [HS0 HR Hg]
  · isplitl [HS0 HR]
    · isplitl [HS0]; · iexists _; iexact HS0
      iexact HR
    iexact Hg
  isplitl [Ho]; · iexact Ho
  isplitl [H0]; · iexact H0
  isplitl [H1]; · iexact H1
  isplitl [H2]; · iexact H2
  isplitl [H3]; · iexact H3
  iexact H4

theorem defs₀_row1 (t : Fin cfg1.N) : defs₀ (F := F) .tc cfg1.body (cfg1.bodyArgs t (cfg1.slots t)) = bodyAt1 t := by
  unfold defs₀; rw [Defs.onTc_tc]

/-- The library's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.AttnIdeal.Gen
end
-- ==== Proof.Attn.Strip.lean ====
module
public import proofs.«01_k».proof.Proof.Attn.FwdBody
public import proofs.«01_k».proof.Proof.Lits
public import Idealize.ShloMosaic.Lib.Pipeline.ValueKit
public import Idealize.ShloMosaic.Lib.Pointwise
@[expose] public section
set_option maxRecDepth 16384
noncomputable section
/-! One strip of 512 keys of the attention's forward pass: what it does to a row's running maximum
    and to its weighted sum, over the reals. -/
namespace Cert.AttnIdeal.Value
open Idealize.ShloMosaic Idealize.ShloMosaic.TcCoe Idealize.SL.Sem
open Cert.AttnIdeal Cert.AttnIdeal.Gen

/-- The running maximum, one strip of keys further. -/
def stripM (s : FVec Ideal S2048x512 .f32) (m : FVec Ideal S2048x128 .f32) : FVec Ideal S2048x128 .f32 := k0_pay16 m s
/-- The weighted sum, one strip of keys further. -/
def stripA (s : FVec Ideal S2048x512 .f32) (v : FVec Ideal S512x256 .bf16) (m : FVec Ideal S2048x128 .f32) (a : FVec Ideal S2048x256 .f32) : FVec Ideal S2048x256 .f32 :=
  k0_pay2 m a v s (broadcastTo S2048x128 (shapeCast S2048x1 (multiReduction .maximumf [1] S2048 s 0xFF800000#32 reduces_S2048x512_S2048 (.inl rfl) rfl) shapeCasts_S2048_S2048x1) broadcasts_S2048x1_S2048x128)

/-- The largest score of a row's strip. -/
def top (s : FVec Ideal S2048x512 .f32) (r : Fin 2048) : EReal :=
  Finset.fold max (Ideal.ofBits FTy.f32 4286578688#32) (fun x : Fin 512 => s (ix2 r x)) Finset.univ

theorem stripM_at (s m) (r : Fin 2048) (l : Fin 128) : stripM s m (ix2 r l) = max (m (ix2 r l)) (top s r) := by
  pointwise [stripM, k0_pay16, top]

theorem stripA_at (s v m a) (r : Fin 2048) (d : Fin 256) (μ : EReal) (hm : ∀ l, m (ix2 r l) = μ) :
    stripA s v m a (ix2 r d) = Ideal.exp (μ - max μ (top s r)) * a (ix2 r d)
      + ∑ x : Fin 512, Ideal.exp (s (ix2 r x) - max μ (top s r)) * v (ix2 x d) := by
  pointwise! [stripA, k0_pay2, k0_pay1, top]
  simp only [hm, dite_eq_ite, ite_self]

theorem negInf : Ideal.ofBits FTy.f32 4286578688#32 = ⊥ := by
  simp [Ideal.ofBits, Ideal.ieee]

theorem top_real (s r) (σ : Fin 512 → ℝ) (h : ∀ x, s (ix2 r x) = (σ x : EReal)) : ∃ X : ℝ, top s r = X := by
  have e : top s r = Finset.sup Finset.univ (fun x : Fin 512 => (σ x : EReal)) := by
    unfold top; rw [negInf]; simp only [h]; rfl
  obtain ⟨i, _, hi⟩ := Finset.exists_mem_eq_sup (Finset.univ : Finset (Fin 512)) ⟨0, Finset.mem_univ _⟩ (fun x => (σ x : EReal))
  exact ⟨σ i, e.trans hi⟩

/-- A sum of reals is real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Row `r` after its first `n` keys: the weights are taken against one real `M`. -/
def Inv (S : ℕ → ℝ) (V : ℕ → ℕ → ℝ) (n : ℕ) (r : Fin 2048) (m : FVec Ideal S2048x128 .f32) (a : FVec Ideal S2048x256 .f32) : Prop :=
  ∃ M : ℝ, (∀ l, m (ix2 r l) = (M : EReal)) ∧
    ∀ d : Fin 256, a (ix2 r d) = ((∑ s ∈ Finset.range n, Real.exp (S s - M) * V s d.val : ℝ) : EReal)

/-- Row `r` before its first key. -/
def Inv0 (r : Fin 2048) (m : FVec Ideal S2048x128 .f32) (a : FVec Ideal S2048x256 .f32) : Prop :=
  (∀ l, m (ix2 r l) = ⊥) ∧ ∀ d : Fin 256, a (ix2 r d) = 0

theorem part_sum (s : FVec Ideal S2048x512 .f32) (v : FVec Ideal S512x256 .bf16) (r : Fin 2048) (d : Fin 256) (S : ℕ → ℝ) (V : ℕ → ℕ → ℝ) (n : ℕ) (M : ℝ)
    (hs : ∀ x : Fin 512, s (ix2 r x) = (S (n + x.val) : EReal)) (hv : ∀ (x : Fin 512) (d : Fin 256), v (ix2 x d) = (V (n + x.val) d.val : EReal)) :
    ∑ x : Fin 512, Ideal.exp (s (ix2 r x) - (M : EReal)) * v (ix2 x d)
      = ((∑ x ∈ Finset.range 512, Real.exp (S (n + x) - M) * V (n + x) d.val : ℝ) : EReal) := by
  rw [Finset.sum_range (fun x => Real.exp (S (n + x) - M) * V (n + x) d.val), coe_sum]
  refine Finset.sum_congr rfl fun x _ => ?_
  rw [hs, hv, ← EReal.coe_sub, Ideal.exp_coe, ← EReal.coe_mul]

theorem step_first (s : FVec Ideal S2048x512 .f32) (v : FVec Ideal S512x256 .bf16) (m a) (r : Fin 2048) (S : ℕ → ℝ) (V : ℕ → ℕ → ℝ)
    (hs : ∀ x : Fin 512, s (ix2 r x) = (S (0 + x.val) : EReal)) (hv : ∀ (x : Fin 512) (d : Fin 256), v (ix2 x d) = (V (0 + x.val) d.val : EReal))
    (h : Inv0 r m a) : Inv S V 512 r (stripM s m) (stripA s v m a) := by
  obtain ⟨X, hX⟩ := top_real s r _ hs
  refine ⟨X, fun l => by rw [stripM_at, h.1, hX]; exact max_eq_right bot_le, fun d => ?_⟩
  rw [stripA_at s v m a r d ⊥ h.1, h.2, mul_zero, zero_add, hX, max_eq_right bot_le, part_sum s v r d S V 0 X hs hv]
  simp only [Nat.zero_add]

theorem step_next (s : FVec Ideal S2048x512 .f32) (v : FVec Ideal S512x256 .bf16) (m a) (r : Fin 2048) (S : ℕ → ℝ) (V : ℕ → ℕ → ℝ) (n : ℕ)
    (hs : ∀ x : Fin 512, s (ix2 r x) = (S (n + x.val) : EReal)) (hv : ∀ (x : Fin 512) (d : Fin 256), v (ix2 x d) = (V (n + x.val) d.val : EReal))
    (h : Inv S V n r m a) : Inv S V (n + 512) r (stripM s m) (stripA s v m a) := by
  obtain ⟨X, hX⟩ := top_real s r _ hs
  obtain ⟨M, hm, ha⟩ := h
  have hmax : max (M : EReal) (top s r) = ((max M X : ℝ) : EReal) := by rw [hX]; exact (EReal.coe_strictMono.monotone.map_max).symm
  refine ⟨max M X, fun l => by rw [stripM_at, hm, hmax], fun d => ?_⟩
  rw [stripA_at s v m a r d M hm, ha, hmax, part_sum s v r d S V n (max M X) hs hv, ← EReal.coe_sub, Ideal.exp_coe, ← EReal.coe_mul,
    ← EReal.coe_add, Finset.sum_range_add, Finset.mul_sum]
  congr 2
  refine Finset.sum_congr rfl fun x _ => ?_
  rw [← mul_assoc, ← Real.exp_add]; congr 2; ring

end Cert.AttnIdeal.Value
end
-- ==== Proof.Attn.FwdPoint.lean ====
module
public import proofs.«01_k».proof.Proof.Attn.Strip
@[expose] public section
set_option maxRecDepth 16384
noncomputable section
/-! One point of the attention's forward pass over the reals: four strips, and what the last point
    of a block of queries writes. -/
namespace Cert.AttnIdeal.Value
open Idealize.ShloMosaic Idealize.ShloMosaic.TcCoe Idealize.SL.Sem
open Cert.AttnIdeal Cert.AttnIdeal.Gen

/-- The strip of 512 rows of a block, without its leading axis. -/
abbrev strip (x : Vec Ideal S1x512x256 .bf16) : FVec Ideal S512x256 .bf16 := shapeCast S512x256 x shapeCasts_S1x512x256_S512x256
variable (x0 x1 x2 : Vec Ideal S1x2048x256 .bf16) (s0 : Vec Ideal S2048x128 .f32) (s1 : Vec Ideal S2048x256 .f32)

/-- The running maximum after one, two, three and four strips. -/
abbrev m1 := stripM (k0_pay11 x0 (rows0 x1)) s0
abbrev m2 := stripM (k0_pay11 x0 (rows1 x1)) (m1 x0 x1 s0)
abbrev m3 := stripM (k0_pay11 x0 (rows2 x1)) (m2 x0 x1 s0)
abbrev m4 := stripM (k0_pay11 x0 (rows3 x1)) (m3 x0 x1 s0)
/-- The weighted sum after one, two, three and four strips. -/
abbrev a1 := stripA (k0_pay11 x0 (rows0 x1)) (strip (rows0 x2)) s0 s1
abbrev a2 := stripA (k0_pay11 x0 (rows1 x1)) (strip (rows1 x2)) (m1 x0 x1 s0) (a1 x0 x1 x2 s0 s1)
abbrev a3 := stripA (k0_pay11 x0 (rows2 x1)) (strip (rows2 x2)) (m2 x0 x1 s0) (a2 x0 x1 x2 s0 s1)
abbrev a4 := stripA (k0_pay11 x0 (rows3 x1)) (strip (rows3 x2)) (m3 x0 x1 s0) (a3 x0 x1 x2 s0 s1)

theorem fwdM_eq : fwdM x0 x1 s0 = shapeCast S2048x128 (m4 x0 x1 s0) shapeCasts_S2048x128_S2048x128 := rfl
theorem fwdA_eq : fwdA x0 x1 x2 s0 s1 = shapeCast S2048x256 (a4 x0 x1 x2 s0 s1) shapeCasts_S2048x256_S2048x256 := rfl
/-- The quotient of a weighted sum's two halves. -/
def quot (a : FVec Ideal S2048x256 .f32) : FVec Ideal S2048x128 .f32 :=
  divf (extractStridedSlice S2048x128 ![0, 0] a slices_S2048x256_o0_0_S2048x128) (extractStridedSlice S2048x128 ![0, 128] a slices_S2048x256_o0_128_S2048x128)
/-- The maximum plus the logarithm of a weighted sum's second half. -/
def logs (m : FVec Ideal S2048x128 .f32) (a : FVec Ideal S2048x256 .f32) : FVec Ideal S2048x128 .f32 :=
  addf m (log (extractStridedSlice S2048x128 ![0, 128] a slices_S2048x256_o0_128_S2048x128))
theorem fwdO_eq : fwdO x0 x1 x2 s0 s1 = quot (a4 x0 x1 x2 s0 s1) := rfl
theorem fwdL_eq : fwdL x0 x1 x2 s0 s1 = logs (m4 x0 x1 s0) (a4 x0 x1 x2 s0 s1) := rfl

theorem quot_at (a) (r : Fin 2048) (d : Fin 128) : quot a (ix2 r d) = Ideal.div (a (ix2 r ⟨d.val, by omega⟩)) (a (ix2 r ⟨128 + d.val, by omega⟩)) := by
  pointwise [quot]
theorem logs_at (m a) (r : Fin 2048) (d : Fin 128) : logs m a (ix2 r d) = m (ix2 r d) + Ideal.log (a (ix2 r ⟨128 + d.val, by omega⟩)) := by
  pointwise [logs]
theorem score_at (k : Vec Ideal S1x512x256 .bf16) (r : Fin 2048) (x : Fin 512) :
    k0_pay11 x0 k (ix2 r x) = ∑ e : Fin 256, x0 (ix3 0 r e) * k (ix3 0 x e) := by
  pointwise [k0_pay11, k0_pay10]
theorem strip_at (k : Vec Ideal S1x512x256 .bf16) (x : Fin 512) (d : Fin 256) : strip k (ix2 x d) = k (ix3 0 x d) := by
  pointwise [strip]
theorem cast128 (m : FVec Ideal S2048x128 .f32) : shapeCast S2048x128 m shapeCasts_S2048x128_S2048x128 = m := by
  funext j; pointwise
theorem cast256 (m : FVec Ideal S2048x256 .f32) : shapeCast S2048x256 m shapeCasts_S2048x256_S2048x256 = m := by
  funext j; pointwise
theorem rows0_at (k : Vec Ideal S1x2048x256 .bf16) (x : Fin 512) (d : Fin 256) : rows0 k (ix3 0 x d) = k (ix3 0 ⟨0 + x.val, by omega⟩ d) := by
  unfold rows0; refine congrArg k (funext fun a => Fin.ext ?_)

  fin_cases a <;> simp [LoadRect.idx, Rect.toLoadRect, Rect.unit, ix3]
theorem rows1_at (k : Vec Ideal S1x2048x256 .bf16) (x : Fin 512) (d : Fin 256) : rows1 k (ix3 0 x d) = k (ix3 0 ⟨512 + x.val, by omega⟩ d) := by
  unfold rows1; refine congrArg k (funext fun a => Fin.ext ?_)

  fin_cases a <;> simp [LoadRect.idx, Rect.toLoadRect, Rect.unit, ix3]
theorem rows2_at (k : Vec Ideal S1x2048x256 .bf16) (x : Fin 512) (d : Fin 256) : rows2 k (ix3 0 x d) = k (ix3 0 ⟨1024 + x.val, by omega⟩ d) := by
  unfold rows2; refine congrArg k (funext fun a => Fin.ext ?_)

  fin_cases a <;> simp [LoadRect.idx, Rect.toLoadRect, Rect.unit, ix3]
theorem rows3_at (k : Vec Ideal S1x2048x256 .bf16) (x : Fin 512) (d : Fin 256) : rows3 k (ix3 0 x d) = k (ix3 0 ⟨1536 + x.val, by omega⟩ d) := by
  unfold rows3; refine congrArg k (funext fun a => Fin.ext ?_)

  fin_cases a <;> simp [LoadRect.idx, Rect.toLoadRect, Rect.unit, ix3]

/-- The score of row `q` against a key. -/
def score (q : ℕ → ℝ) (k : ℕ → ℕ → ℝ) (s : ℕ) : ℝ := ∑ e ∈ Finset.range 256, q e * k s e

theorem score_real (k : Vec Ideal S1x512x256 .bf16) (r : Fin 2048) (x : Fin 512) (q : ℕ → ℝ) (k' : ℕ → ℕ → ℝ) (n : ℕ)
    (hq : ∀ e : Fin 256, x0 (ix3 0 r e) = (q e.val : EReal)) (hk : ∀ e : Fin 256, k (ix3 0 x e) = (k' n e.val : EReal)) :
    k0_pay11 x0 k (ix2 r x) = (score q k' n : EReal) := by
  rw [score_at, score, Finset.sum_range (fun e => q e * k' n e), coe_sum]
  exact Finset.sum_congr rfl fun e _ => by rw [hq, hk, EReal.coe_mul]

section
variable (r : Fin 2048) (q : ℕ → ℝ) (k v : ℕ → ℕ → ℝ) (n : ℕ)
  (hq : ∀ e : Fin 256, x0 (ix3 0 r e) = (q e.val : EReal))
  (hk : ∀ (x : Fin 2048) (e : Fin 256), x1 (ix3 0 x e) = (k (n + x.val) e.val : EReal))
  (hv : ∀ (x : Fin 2048) (e : Fin 256), x2 (ix3 0 x e) = (v (n + x.val) e.val : EReal))
include hq hk hv
/-- The first point of a block of queries. -/
theorem point_first (hn : n = 0) (h : Inv0 r s0 s1) : Inv (score q k) v 2048 r (m4 x0 x1 s0) (a4 x0 x1 x2 s0 s1) := by
  subst hn
  have h1 := step_first (k0_pay11 x0 (rows0 x1)) (strip (rows0 x2)) s0 s1 r (score q k) v
    (fun x => score_real x0 _ r x q k _ hq fun e => by rw [rows0_at, hk]; simp only [Nat.zero_add]) (fun x d => by rw [strip_at, rows0_at, hv]; simp only [Nat.zero_add]) h
  have h2 := step_next (k0_pay11 x0 (rows1 x1)) (strip (rows1 x2)) _ _ r (score q k) v 512
    (fun x => score_real x0 _ r x q k _ hq fun e => by rw [rows1_at, hk]; simp only [Nat.zero_add]) (fun x d => by rw [strip_at, rows1_at, hv]; simp only [Nat.zero_add]) h1
  have h3 := step_next (k0_pay11 x0 (rows2 x1)) (strip (rows2 x2)) _ _ r (score q k) v 1024
    (fun x => score_real x0 _ r x q k _ hq fun e => by rw [rows2_at, hk]; simp only [Nat.zero_add]) (fun x d => by rw [strip_at, rows2_at, hv]; simp only [Nat.zero_add]) h2
  exact step_next (k0_pay11 x0 (rows3 x1)) (strip (rows3 x2)) _ _ r (score q k) v 1536
    (fun x => score_real x0 _ r x q k _ hq fun e => by rw [rows3_at, hk]; simp only [Nat.zero_add]) (fun x d => by rw [strip_at, rows3_at, hv]; simp only [Nat.zero_add]) h3
/-- Every further point of it. -/
theorem point_next (h : Inv (score q k) v n r s0 s1) : Inv (score q k) v (n + 2048) r (m4 x0 x1 s0) (a4 x0 x1 x2 s0 s1) := by
  have h1 := step_next (k0_pay11 x0 (rows0 x1)) (strip (rows0 x2)) s0 s1 r (score q k) v n
    (fun x => score_real x0 _ r x q k _ hq fun e => by rw [rows0_at, hk]; simp only [Nat.zero_add]) (fun x d => by rw [strip_at, rows0_at, hv]; simp only [Nat.zero_add]) h
  have h2 := step_next (k0_pay11 x0 (rows1 x1)) (strip (rows1 x2)) _ _ r (score q k) v (n + 512)
    (fun x => score_real x0 _ r x q k _ hq fun e => by rw [rows1_at, hk]; simp only [Nat.add_assoc]) (fun x d => by rw [strip_at, rows1_at, hv]; simp only [Nat.add_assoc]) h1
  have h3 := step_next (k0_pay11 x0 (rows2 x1)) (strip (rows2 x2)) _ _ r (score q k) v (n + 512 + 512)
    (fun x => score_real x0 _ r x q k _ hq fun e => by rw [rows2_at, hk]; simp only [Nat.add_assoc, ← Nat.add_assoc 512 512, Nat.reduceAdd]) (fun x d => by rw [strip_at, rows2_at, hv]; simp only [Nat.add_assoc, ← Nat.add_assoc 512 512, Nat.reduceAdd]) h2
  exact step_next (k0_pay11 x0 (rows3 x1)) (strip (rows3 x2)) _ _ r (score q k) v (n + 512 + 512 + 512)
    (fun x => score_real x0 _ r x q k _ hq fun e => by rw [rows3_at, hk]; congr 2; simp only; omega) (fun x d => by rw [strip_at, rows3_at, hv]; congr 2; simp only; omega) h3
end

/-- A row's weights sum to a positive real. -/
theorem den_pos (S : ℕ → ℝ) (n : ℕ) (hn : 0 < n) : 0 < ∑ s ∈ Finset.range n, Real.exp (S s) :=
  Finset.sum_pos (fun s _ => Real.exp_pos _) ⟨0, Finset.mem_range.2 hn⟩

theorem shift (S : ℕ → ℝ) (w : ℕ → ℝ) (n : ℕ) (M : ℝ) :
    ∑ s ∈ Finset.range n, Real.exp (S s - M) * w s = Real.exp (-M) * ∑ s ∈ Finset.range n, Real.exp (S s) * w s := by
  rw [Finset.mul_sum]
  refine Finset.sum_congr rfl fun s _ => ?_
  rw [sub_eq_add_neg, Real.exp_add]; ring

section
variable (S : ℕ → ℝ) (v : ℕ → ℕ → ℝ) (n : ℕ) (hn : 0 < n) (hv1 : ∀ s d, v s (128 + d) = 1) (r : Fin 2048)
  (m : FVec Ideal S2048x128 .f32) (a : FVec Ideal S2048x256 .f32) (h : Inv S v n r m a)
include hn hv1 h
/-- What the last point writes: the softmax's output. -/
theorem quot_inv (d : Fin 128) : quot a (ix2 r d)
    = (((∑ s ∈ Finset.range n, Real.exp (S s) * v s d.val) / ∑ s ∈ Finset.range n, Real.exp (S s) : ℝ) : EReal) := by
  obtain ⟨M, _, ha⟩ := h
  have hp := den_pos S n hn
  rw [quot_at, ha, ha, shift, shift S (fun s => v s (128 + d.val))]
  simp only [hv1, mul_one]
  have hne : Real.exp (-M) * ∑ s ∈ Finset.range n, Real.exp (S s) ≠ 0 := (mul_pos (Real.exp_pos _) hp).ne'
  rw [Ideal.div_coe hne, ← EReal.coe_mul]
  congr 1
  have := Real.exp_pos (-M)
  field_simp
/-- And the logarithm of the row's sum of exponentials. -/
theorem logs_inv (d : Fin 128) : logs m a (ix2 r d) = ((Real.log (∑ s ∈ Finset.range n, Real.exp (S s)) : ℝ) : EReal) := by
  obtain ⟨M, hm, ha⟩ := h
  have hp := den_pos S n hn
  rw [logs_at, hm, ha, shift S (fun s => v s (128 + d.val))]
  simp only [hv1, mul_one]
  have hpos : 0 < Real.exp (-M) * ∑ s ∈ Finset.range n, Real.exp (S s) := mul_pos (Real.exp_pos _) hp
  rw [Ideal.log_coe, if_neg (not_le.2 hpos), ← EReal.coe_add, Real.log_mul (Real.exp_pos _).ne' hp.ne', Real.log_exp]
  congr 1; ring
end
end Cert.AttnIdeal.Value
end
-- ==== Proof.Attn.FwdArr.lean ====
module
public import proofs.«01_k».proof.Proof.Attn.Fwd
public import proofs.«01_k».proof.Proof.Attn.FwdPoint
@[expose] public section
set_option maxRecDepth 16384
noncomputable section
/-! The attention's forward pass leaves the softmax's output and the logarithm of its row sums. -/
namespace Cert.AttnIdeal.Value
open Idealize.ShloMosaic Idealize.ShloMosaic.TcCoe Idealize.SL.Sem
open Idealize.ShloMosaic.Pipeline (Dat)
open Cert.AttnIdeal Cert.AttnIdeal.Gen
variable (V : (c : Dev nD) → (b : Ref sig .tc) → Buf (Elt Ideal) ((c : Thread nD τ).loc b)) (c : Dev nD)

theorem idx0 : ∀ t : Fin cfg0.N, win0_0.index t = ![t.val / 64, t.val / 8 % 8, 0] ∧ win0_1.index t = ![t.val / 64, t.val % 8, 0]
    ∧ win0_2.index t = ![t.val / 64, t.val % 8, 0] ∧ win0_3.index t = ![t.val / 8 % 8, t.val / 64] ∧ win0_4.index t = ![t.val / 8 % 8, t.val / 64] :=
  (by decide +kernel : ∀ t : Fin grid0.N, _)

theorem lt0 (t : Fin cfg0.N) : t.val < 512 := Nat.lt_of_lt_of_eq t.isLt N_0

theorem q_blk (t : Fin cfg0.N) (r : Fin 2048) (e : Fin 256) :
    (iblk0 V c 0 t : Vec Ideal S1x2048x256 .bf16) (ix3 0 r e)
      = V c main_v2 (ix3 (⟨t.val / 64, by have := lt0 t; omega⟩ : Fin 8) (⟨t.val / 8 % 8 * 2048 + r.val, by omega⟩ : Fin 16384) e) := by
  blk_point [iblk0, idx0 t]
theorem k_blk (t : Fin cfg0.N) (r : Fin 2048) (e : Fin 256) :
    (iblk0 V c 1 t : Vec Ideal S1x2048x256 .bf16) (ix3 0 r e)
      = V c main_v8 (ix3 (⟨t.val / 64, by have := lt0 t; omega⟩ : Fin 8) (⟨t.val % 8 * 2048 + r.val, by omega⟩ : Fin 16384) e) := by
  blk_point [iblk0, idx0 t]
theorem v_blk (t : Fin cfg0.N) (r : Fin 2048) (e : Fin 256) :
    (iblk0 V c 2 t : Vec Ideal S1x2048x256 .bf16) (ix3 0 r e)
      = V c main_v12 (ix3 (⟨t.val / 64, by have := lt0 t; omega⟩ : Fin 8) (⟨t.val % 8 * 2048 + r.val, by omega⟩ : Fin 16384) e) := by
  blk_point [iblk0, idx0 t]

/-- The queries, keys and values by real numbers. -/
structure Reals (q k v : ℕ → ℕ → ℕ → ℝ) : Prop where
  hq : ∀ (h : Fin 8) (t : Fin 16384) (e : Fin 256), V c main_v2 (ix3 h t e) = (q h.val t.val e.val : EReal)
  hk : ∀ (h : Fin 8) (t : Fin 16384) (e : Fin 256), V c main_v8 (ix3 h t e) = (k h.val t.val e.val : EReal)
  hv : ∀ (h : Fin 8) (t : Fin 16384) (e : Fin 256), V c main_v12 (ix3 h t e) = (v h.val t.val e.val : EReal)
  h1 : ∀ h s d, v h s (128 + d) = 1

theorem init_inv (r : Fin 2048) : Inv0 r (init0 (F := Ideal)).1 (init0 (F := Ideal)).2 := by
  refine ⟨fun l => ?_, fun d => ?_⟩
  · pointwise [k0_pay8, init0, negInf]
  · pointwise [k0_pay9, init0, Lits.zero]; rfl

theorem flush_last : (∀ t : Fin cfg0.N, (cfg0.win 3).flush t = true → t.val % 8 = 7) ∧ (∀ t : Fin cfg0.N, (cfg0.win 4).flush t = true → t.val % 8 = 7) := by
  constructor <;> decide +kernel

/-- The score of query `t` against key `s` in head `h`. -/
def sc (q k : ℕ → ℕ → ℕ → ℝ) (h t : ℕ) : ℕ → ℝ := score (q h t) (k h)
/-- The attention's output. -/
def out (q k v : ℕ → ℕ → ℕ → ℝ) (h t d : ℕ) : ℝ :=
  (∑ s ∈ Finset.range 16384, Real.exp (sc q k h t s) * v h s d) / ∑ s ∈ Finset.range 16384, Real.exp (sc q k h t s)
/-- The logarithm of a row's sum of exponentials. -/
def lse (q k : ℕ → ℕ → ℕ → ℝ) (h t : ℕ) : ℝ := Real.log (∑ s ∈ Finset.range 16384, Real.exp (sc q k h t s))

variable {q k v : ℕ → ℕ → ℕ → ℝ} (H : Reals V c q k v)
include H

/-- The rows of a block of queries after point `t`. -/
theorem rows_inv (n : ℕ) (hn : n < cfg0.N) : ∀ r : Fin 2048,
    Inv (sc q k (n / 64) (n / 8 % 8 * 2048 + r.val)) (v (n / 64)) (n % 8 * 2048 + 2048) r
      (m4 (iblk0 V c 0 ⟨n, hn⟩) (iblk0 V c 1 ⟨n, hn⟩) (entry0 V c ⟨n, hn⟩).1)
      (a4 (iblk0 V c 0 ⟨n, hn⟩) (iblk0 V c 1 ⟨n, hn⟩) (iblk0 V c 2 ⟨n, hn⟩) (entry0 V c ⟨n, hn⟩).1 (entry0 V c ⟨n, hn⟩).2) := by
  induction n with
  | zero =>
    intro r
    refine point_first _ _ _ _ _ r (q _ _) (k _) (v _) 0 (fun e => ?_) (fun x e => ?_) (fun x e => ?_) rfl ?_
    · rw [q_blk, H.hq]
    · rw [k_blk, H.hk]; simp
    · rw [v_blk, H.hv]; simp
    · unfold entry0; rw [if_pos (by rfl)]; exact init_inv r
  | succ n ih =>
    intro r
    by_cases h8 : (n + 1) % 8 = 0
    · rw [h8, Nat.zero_mul, Nat.zero_add]
      refine point_first _ _ _ _ _ r (q _ _) (k _) (v _) 0 (fun e => ?_) (fun x e => ?_) (fun x e => ?_) rfl ?_
      · rw [q_blk, H.hq]
      · rw [k_blk, H.hk]; simp [h8]
      · rw [v_blk, H.hv]; simp [h8]
      · unfold entry0; rw [if_pos (by exact h8)]; exact init_inv r
    · refine point_next _ _ _ _ _ r (q _ _) (k _) (v _) _ (fun e => ?_) (fun x e => ?_) (fun x e => ?_) ?_
      · rw [q_blk, H.hq]
      · rw [k_blk, H.hk]
      · rw [v_blk, H.hv]
      · have hn' := Nat.lt_of_succ_lt hn
        have := ih hn' r
        have e1 : entry0 V c ⟨n + 1, hn⟩ = step0 V c ⟨n, hn'⟩ (entry0 V c ⟨n, hn'⟩) := by
          rw [← carry0_eq]; unfold entry0; rw [if_neg (by exact h8)]; rfl
        rw [e1]
        dsimp only [step0]
        rw [fwdM_eq, fwdA_eq, cast128, cast256]
        rw [show (n + 1) / 64 = n / 64 by omega, show (n + 1) / 8 = n / 8 by omega, show (n + 1) % 8 * 2048 = n % 8 * 2048 + 2048 by omega]
        exact this

theorem out_arr : (dat0 V c).arrAt 3 cfg0.N
    = fun i : S16384x1024.Idx => ((out q k v ((i 1).val / 128) (i 0).val ((i 1).val % 128) : ℝ) : EReal) := by
  refine (dat0 V c).arrAt_eq_of_covers 3 _ (by decide +kernel) fun t hf y => ?_
  have h7 := flush_last.1 t hf
  blk_simp
  rw [after0_3, fwdO_eq]
  obtain ⟨r, d, rfl⟩ : ∃ (r : Fin 2048) (d : Fin 128), y = ix2 r d := ⟨y 0, y 1, by funext a; fin_cases a <;> rfl⟩
  have hr := rows_inv V c H t.val t.isLt r
  rw [h7] at hr
  refine (quot_inv _ _ _ (by norm_num) (H.h1 _) r _ _ hr d).trans ?_
  rw [(idx0 t).2.2.2.1]
  show ((_ : ℝ) : EReal) = ((out q k v ((t.val / 64 * 128 + d.val) / 128) (t.val / 8 % 8 * 2048 + r.val) ((t.val / 64 * 128 + d.val) % 128) : ℝ) : EReal)
  rw [show (t.val / 64 * 128 + d.val) / 128 = t.val / 64 by omega, show (t.val / 64 * 128 + d.val) % 128 = d.val by omega]
  rfl
theorem lse_arr : (dat0 V c).arrAt 4 cfg0.N
    = fun i : S16384x1024.Idx => ((lse q k ((i 1).val / 128) (i 0).val : ℝ) : EReal) := by
  refine (dat0 V c).arrAt_eq_of_covers 4 _ (by decide +kernel) fun t hf y => ?_
  have h7 := flush_last.2 t hf
  blk_simp
  rw [after0_4, fwdL_eq]
  obtain ⟨r, d, rfl⟩ : ∃ (r : Fin 2048) (d : Fin 128), y = ix2 r d := ⟨y 0, y 1, by funext a; fin_cases a <;> rfl⟩
  have hr := rows_inv V c H t.val t.isLt r
  rw [h7] at hr
  refine (logs_inv _ _ _ (by norm_num) (H.h1 _) r _ _ hr d).trans ?_
  rw [(idx0 t).2.2.2.2]
  show ((_ : ℝ) : EReal) = ((lse q k ((t.val / 64 * 128 + d.val) / 128) (t.val / 8 % 8 * 2048 + r.val) : ℝ) : EReal)
  rw [show (t.val / 64 * 128 + d.val) / 128 = t.val / 64 by omega]
  rfl
end Cert.AttnIdeal.Value
end
-- ==== Proof.Attn.DoVal.lean ====
module
public import proofs.«01_k».proof.Proof.Attn.Do
public import proofs.«01_k».proof.Proof.Attn.FwdArr
@[expose] public section
set_option maxRecDepth 16384
noncomputable section
/-! The second call: the gradient of the attention's output and, per head, its product with the
    output summed over the head's columns. -/
namespace Cert.AttnIdeal.Value
open Idealize.ShloMosaic Idealize.ShloMosaic.TcCoe Idealize.SL.Sem
open Idealize.ShloMosaic.Pipeline (Dat)
open Cert.AttnIdeal Cert.AttnIdeal.Gen

theorem acc_at (x0 : Vec Ideal S512x1024 .f32) (x1 : Vec Ideal S1024x1024 .f32) (r : Fin 512) (e : Fin 1024) :
    doAcc x0 x1 (ix3 0 r e) = ∑ j : Fin 1024, x0 (ix2 r j) * x1 (ix2 e j) := by
  pointwise [k1_pay2, k1_pay1]
theorem doOut_at (x0 : Vec Ideal S512x1024 .f32) (x1 : Vec Ideal S1024x1024 .f32) (r : Fin 512) (e : Fin 1024) :
    doOut x0 x1 (ix2 r e) = ∑ j : Fin 1024, x0 (ix2 r j) * x1 (ix2 e j) := by
  rw [← acc_at]; pointwise [k1_pay4, k1_pay5]

section
variable (A : Vec Ideal S1x512x1024 .f32) (B : Vec Ideal S512x1024 .f32)
/-- A head's part of a row's product. -/
def part (r : Fin 512) (h : ℕ) (hh : h < 8) : EReal :=
  ∑ d : Fin 128, A (ix3 0 r ⟨128 * h + d.val, by omega⟩) * B (ix2 r ⟨128 * h + d.val, by omega⟩)
theorem piece0 (r : Fin 512) (l : Fin 128) : k1_pay7 A B (ix2 r l) = part A B r 0 (by decide) := by
  pointwise [k1_pay7, k1_pay5, k1_pay6, part]
theorem piece1 (r : Fin 512) (l : Fin 128) : k1_pay8 A B (ix2 r l) = part A B r 1 (by decide) := by
  pointwise [k1_pay8, k1_pay5, k1_pay6, part]
theorem piece2 (r : Fin 512) (l : Fin 128) : k1_pay9 A B (ix2 r l) = part A B r 2 (by decide) := by
  pointwise [k1_pay9, k1_pay5, k1_pay6, part]
theorem piece3 (r : Fin 512) (l : Fin 128) : k1_pay10 A B (ix2 r l) = part A B r 3 (by decide) := by
  pointwise [k1_pay10, k1_pay5, k1_pay6, part]
theorem piece4 (r : Fin 512) (l : Fin 128) : k1_pay11 A B (ix2 r l) = part A B r 4 (by decide) := by
  pointwise [k1_pay11, k1_pay5, k1_pay6, part]
theorem piece5 (r : Fin 512) (l : Fin 128) : k1_pay12 A B (ix2 r l) = part A B r 5 (by decide) := by
  pointwise [k1_pay12, k1_pay5, k1_pay6, part]
/-- The eight heads side by side. -/
def heads : FVec Ideal S512x1024 .f32 := k1_pay3 (k1_pay5 A) (k1_pay6 B) (k1_pay7 A B) (k1_pay8 A B) (k1_pay9 A B) (k1_pay10 A B) (k1_pay11 A B) (k1_pay12 A B) (k1_pay13 A B)
set_option maxHeartbeats 1600000 in
theorem heads_at (r : Fin 512) (e : Fin 1024) : heads A B (ix2 r e) = part A B r (e.val / 128) (by omega) := by
  unfold heads
  pointwise! [k1_pay3, k1_pay13, piece0, piece1, piece2, piece3, piece4, piece5]
  have key : ∀ (h : ℕ) (hh : h < 8), e.val / 128 = h → part A B r h hh = part A B r (e.val / 128) (by omega) := by
    intro h hh e'; subst e'; rfl
  split_ifs <;> first
    | exact key _ _ (by omega)
    | (refine Eq.trans ?_ (key 6 (by decide) (by omega)); pointwise [k1_pay5, k1_pay6, part])
    | (refine Eq.trans ?_ (key 7 (by decide) (by omega)); pointwise [k1_pay5, k1_pay6, part])
end

variable (V : (c : Dev nD) → (b : Ref sig .tc) → Buf (Elt Ideal) ((c : Thread nD τ).loc b)) (c : Dev nD)

theorem idx1 : ∀ t : Fin cfg1.N, win1_0.index t = ![t.val, 0] ∧ win1_1.index t = ![0, 0]
    ∧ win1_2.index t = ![t.val, 0] ∧ win1_3.index t = ![t.val, 0] ∧ win1_4.index t = ![t.val, 0] :=
  (by decide +kernel : ∀ t : Fin grid1.N, _)
theorem lt1 (t : Fin cfg1.N) : t.val < 32 := Nat.lt_of_lt_of_eq t.isLt N_1

theorem dz_blk (t : Fin cfg1.N) (r : Fin 512) (e : Fin 1024) :
    (iblk1 V c 0 t : Vec Ideal S512x1024 .f32) (ix2 r e) = V c main_arg6 (ix2 (⟨t.val * 512 + r.val, by have := lt1 t; omega⟩ : Fin 16384) e) := by
  blk_point [iblk1, idx1 t]
theorem w_blk (t : Fin cfg1.N) (r e : Fin 1024) :
    (iblk1 V c 1 t : Vec Ideal S1024x1024 .f32) (ix2 r e) = V c main_arg5 (ix2 r e) := by
  blk_point [iblk1, idx1 t]
theorem o_blk (t : Fin cfg1.N) (r : Fin 512) (e : Fin 1024) :
    (iblk1 V c 2 t : Vec Ideal S512x1024 .f32) (ix2 r e) = V c main_v13_0 (ix2 (⟨t.val * 512 + r.val, by have := lt1 t; omega⟩ : Fin 16384) e) := by
  blk_point [iblk1, idx1 t]

/-- The cotangent, the weight and the output by real numbers. -/
structure Reals1 (z w o : ℕ → ℕ → ℝ) : Prop where
  hz : ∀ (t : Fin 16384) (e : Fin 1024), V c main_arg6 (ix2 t e) = (z t.val e.val : EReal)
  hw : ∀ (t : Fin 1024) (e : Fin 1024), V c main_arg5 (ix2 t e) = (w t.val e.val : EReal)
  ho : ∀ (t : Fin 16384) (e : Fin 1024), V c main_v13_0 (ix2 t e) = (o t.val e.val : EReal)
/-- The gradient of the output. -/
def dO (z w : ℕ → ℕ → ℝ) (t e : ℕ) : ℝ := ∑ j ∈ Finset.range 1024, z t j * w e j
/-- Its product with the output, summed over a head. -/
def delta (z w o : ℕ → ℕ → ℝ) (h t : ℕ) : ℝ := ∑ d ∈ Finset.range 128, dO z w t (128 * h + d) * o t (128 * h + d)

variable {z w o : ℕ → ℕ → ℝ} (H : Reals1 V c z w o)
include H
theorem doOut_real (t : Fin cfg1.N) (r : Fin 512) (e : Fin 1024) :
    doOut (iblk1 V c 0 t) (iblk1 V c 1 t) (ix2 r e) = (dO z w (t.val * 512 + r.val) e.val : EReal) := by
  rw [doOut_at, dO, Finset.sum_range (fun j => z _ j * w _ j), coe_sum]
  exact Finset.sum_congr rfl fun j _ => by rw [dz_blk, w_blk, H.hz, H.hw, EReal.coe_mul]

theorem do_arr : (dat1 V c).arrAt 3 cfg1.N = fun i : S16384x1024.Idx => ((dO z w (i 0).val (i 1).val : ℝ) : EReal) := by
  refine (dat1 V c).arrAt_eq_of_covers 3 _ (by decide +kernel) fun t hf y => ?_
  blk_simp
  rw [after1_3]
  obtain ⟨r, d, rfl⟩ : ∃ (r : Fin 512) (d : Fin 1024), y = ix2 r d := ⟨y 0, y 1, by funext a; fin_cases a <;> rfl⟩
  refine (doOut_real V c H t r d).trans ?_
  rw [(idx1 t).2.2.2.1]
  show _ = ((dO z w (t.val * 512 + r.val) (0 * 1024 + d.val) : ℝ) : EReal)
  rw [Nat.zero_mul, Nat.zero_add]
theorem delta_arr : (dat1 V c).arrAt 4 cfg1.N = fun i : S16384x1024.Idx => ((delta z w o ((i 1).val / 128) (i 0).val : ℝ) : EReal) := by
  refine (dat1 V c).arrAt_eq_of_covers 4 _ (by decide +kernel) fun t hf y => ?_
  blk_simp
  rw [after1_4]
  obtain ⟨r, d, rfl⟩ : ∃ (r : Fin 512) (d : Fin 1024), y = ix2 r d := ⟨y 0, y 1, by funext a; fin_cases a <;> rfl⟩
  refine (heads_at _ _ r d).trans ?_
  rw [(idx1 t).2.2.2.2]
  show _ = ((delta z w o ((0 * 1024 + d.val) / 128) (t.val * 512 + r.val) : ℝ) : EReal)
  rw [Nat.zero_mul, Nat.zero_add, delta, part, Finset.sum_range (fun e => dO z w _ (128 * (d.val / 128) + e) * o _ (128 * (d.val / 128) + e)), coe_sum]
  refine Finset.sum_congr rfl fun j _ => ?_
  rw [acc_at, ← doOut_at, doOut_real V c H, o_blk, H.ho, EReal.coe_mul]
end Cert.AttnIdeal.Value
end
-- ==== Proof.Finite.lean ====
module

public import proofs.«01_k».proof.Proof.Lits
public import Idealize.ShloMosaic.Lib.Pipeline.ValueKit
public import Idealize.ShloMosaic.Lib.Pointwise
public import Idealize.ShloMosaic.Lib.Claim

/-! An array whose entries have an absolute value below infinity is an array of reals. -/

@[expose] public section
noncomputable section
namespace Cert.Finite
open Idealize.ShloMosaic

theorem inf : Ideal.ofBits .f32 0x7F800000#32 = (⊤ : EReal) := by
  simp [Ideal.ofBits, Ideal.ieee]

theorem real_of {S E : Shape} (x : FVec Ideal S .f32) {dims : Fin E.rank → Fin S.rank}
    {hb : E.BroadcastsInDim S dims}
    (h : cmpf .olt (Host.absf x) (broadcastInDim S dims hb (constant E .f32 0x7F800000#32)) = fun _ => 1#1)
    (i : S.Idx) : x i = ((x i).toReal : EReal) := by
  have h1 : BitVec.ofBool (decide (max (x i) (-(x i)) < Ideal.ofBits .f32 0x7F800000#32)) = 1#1 := congrFun h i
  rw [inf] at h1
  have h2 : max (x i) (-(x i)) < ⊤ := by
    by_contra hc
    rw [decide_eq_false hc] at h1
    exact absurd h1 (by decide)
  refine (EReal.coe_toReal ?_ ?_).symm
  · intro ht; rw [ht] at h2; simp at h2
  · intro hb; rw [hb] at h2; simp at h2

/-- The real entries of an array of rank three, total in its indices. -/
def re3 {a b c : ℕ} (x : FVec Ideal ⟨3, ![a, b, c]⟩ .f32) (i j k : ℕ) : ℝ :=
  if h : i < a ∧ j < b ∧ k < c then (x (ix3 ⟨i, h.1⟩ ⟨j, h.2.1⟩ ⟨k, h.2.2⟩)).toReal else 0

/-- The real entries of an array of rank two, total in its indices. -/
def re2 {a b : ℕ} (x : FVec Ideal ⟨2, ![a, b]⟩ .f32) (i j : ℕ) : ℝ :=
  if h : i < a ∧ j < b then (x (ix2 ⟨i, h.1⟩ ⟨j, h.2⟩)).toReal else 0

theorem re3_eq {a b c : ℕ} {x : FVec Ideal ⟨3, ![a, b, c]⟩ .f32}
    (h : ∀ i, x i = ((x i).toReal : EReal)) (i : Fin a) (j : Fin b) (k : Fin c) :
    x (ix3 i j k) = (re3 x i.val j.val k.val : EReal) := by
  rw [re3, dif_pos ⟨i.isLt, j.isLt, k.isLt⟩]; exact h _

theorem re2_eq {a b : ℕ} {x : FVec Ideal ⟨2, ![a, b]⟩ .f32}
    (h : ∀ i, x i = ((x i).toReal : EReal)) (i : Fin a) (j : Fin b) :
    x (ix2 i j) = (re2 x i.val j.val : EReal) := by
  rw [re2, dif_pos ⟨i.isLt, j.isLt⟩]; exact h _

end Cert.Finite
-- ==== Proof.Attn.RefVal.lean ====
module

public import proofs.«01_k».proof.Defs
public import proofs.«01_k».proof.Proof.Gen.AttnRefIdeal.Run
public import proofs.«01_k».proof.Proof.Attn.DoVal
public import proofs.«01_k».proof.Proof.Attn.Strip
public import proofs.«01_k».proof.Proof.Finite

/-! What the reference computes, in reals: scores, weights, the gradient of the weights and of the scores. -/

@[expose] public section
set_option maxRecDepth 16384
noncomputable section
namespace Cert.AttnRefIdeal.Value
open Idealize.ShloMosaic Idealize.ShloMosaic.TcCoe Idealize.SL.Sem
open Cert.AttnRefIdeal Cert.AttnRefIdeal.Gen Cert.Finite
open Cert.AttnIdeal.Value (coe_sum dO)

section Arrays
variable (a0 a2 a4 : FVec Ideal S16384x8x128 .f32) (a1 : FVec Ideal S16384x8x64 .f32) (a3 : FVec Ideal S16384x64 .f32)
  (a5 : FVec Ideal S1024x1024 .f32) (a6 : FVec Ideal S16384x1024 .f32)

/-- The scores. -/
def SC : FVec Ideal S8x16384x16384 .f32 :=
  addf (Host.dotGeneral dot_S16384x8x128_S16384x8x128_S8x16384x16384_2_2_0_0_1_1 none a0 a2) (transpose S8x16384x16384 [2, 1, 0] (Host.dotGeneral dot_S16384x64_S16384x8x64_S16384x16384x8_1_2_0_01_n_n none a3 a1) transposes_S16384x16384x8_S8x16384x16384_2_1_0)
variable (sc ex dp ds pr : FVec Ideal S8x16384x16384 .f32) (ls : FVec Ideal S8x16384 .f32)
/-- A row's greatest score. -/
def RM : FVec Ideal S8x16384 .f32 := Host.reduce FloatOps.maximumf sc (constant S_ .f32 0xFF800000#32) reducesTo_S8x16384x16384_S8x16384_d2 h_S_
/-- The greater of a row's number and `-∞`, on every entry of the row. -/
def MXr (rm : FVec Ideal S8x16384 .f32) : FVec Ideal S8x16384x16384 .f32 :=
  broadcastInDim S8x16384x16384 ![0, 1, 2] bcast_S8x16384x1_S8x16384x16384_0_1_2 (broadcastInDim S8x16384x1 ![0, 1] bcast_S8x16384_S8x16384x1_0_1 (maximumf (broadcastInDim S8x16384 ![] bcast_S_S8x16384 (constant S_ .f32 0xFF800000#32)) rm))
/-- A row's greatest score, on every entry of the row. -/
def MX : FVec Ideal S8x16384x16384 .f32 := MXr (RM sc)
/-- The exponentials. -/
def EX : FVec Ideal S8x16384x16384 .f32 := Host.exp (subf sc (MX sc))
/-- A row's sum. -/
def LS : FVec Ideal S8x16384 .f32 := Host.reduceAdd ex (constant S_ .f32 0x00000000#32) reducesTo_S8x16384x16384_S8x16384_d2 h_S_
/-- The output's gradient by head. -/
def DO : FVec Ideal S8x128x16384 .f32 :=
  transpose S8x128x16384 [1, 2, 0] (shapeCast _ (Host.dotGeneral dot_S16384x1024_S1024x1024_S16384x1024_1_1_0_0_n_n none a6 a5) shapeCasts_S16384x1024_S16384x8x128) transposes_S16384x8x128_S8x128x16384_1_2_0
/-- The weights' gradient. -/
def DP : FVec Ideal S8x16384x16384 .f32 := Host.dotGeneral dot_S8x128x16384_S16384x8x128_S8x16384x16384_1_2_2_0_0_1 none (DO a5 a6) a4
/-- The weights. -/
def PR : FVec Ideal S8x16384x16384 .f32 := Host.divf ex (broadcastInDim S8x16384x16384 ![0, 1, 2] bcast_S8x16384x1_S8x16384x16384_0_1_2 (broadcastInDim S8x16384x1 ![0, 1] bcast_S8x16384_S8x16384x1_0_1 (LS ex)))
/-- The gradient of a row's sum, on every entry of the row. -/
def DT : FVec Ideal S8x16384x16384 .f32 :=
  broadcastInDim S8x16384x16384 ![0, 1] bcast_S8x16384_S8x16384x16384_0_1 (Host.reduceAdd (Host.negf (shapeCast _ (Host.reduceAdd (mulf (mulf dp (broadcastInDim S8x16384x16384 ![0, 1, 2] bcast_S8x16384x1_S8x16384x16384_0_1_2 (Host.divf (broadcastInDim S8x16384x1 ![] bcast_S_S8x16384x1 (constant S_ .f32 0x3F800000#32)) (mulf (broadcastInDim S8x16384x1 ![0, 1] bcast_S8x16384_S8x16384x1_0_1 (LS ex)) (broadcastInDim S8x16384x1 ![0, 1] bcast_S8x16384_S8x16384x1_0_1 (LS ex)))))) ex) (constant S_ .f32 0x00000000#32) reducesTo_S8x16384x16384_S8x16384_d2 h_S_) shapeCasts_S8x16384_S8x16384x1)) (constant S_ .f32 0x00000000#32) reducesTo_S8x16384x1_S8x16384_d2 h_S_)
/-- The scores' gradient. -/
def DS : FVec Ideal S8x16384x16384 .f32 :=
  mulf (addf (Host.divf dp (broadcastInDim S8x16384x16384 ![0, 1, 2] bcast_S8x16384x1_S8x16384x16384_0_1_2 (broadcastInDim S8x16384x1 ![0, 1] bcast_S8x16384_S8x16384x1_0_1 (LS ex)))) (DT ex dp)) ex
def dQn : FVec Ideal S8x16384x128 .f32 :=
  transpose S8x16384x128 [1, 0, 2] (transpose S16384x8x128 [1, 0, 2] (Host.dotGeneral dot_S8x16384x16384_S16384x8x128_S8x16384x128_2_0_1_2_0_1 none ds a2) transposes_S8x16384x128_S16384x8x128_1_0_2) transposes_S16384x8x128_S8x16384x128_1_0_2
def dQp : FVec Ideal S8x16384x64 .f32 :=
  transpose S8x16384x64 [1, 0, 2] (Host.dotGeneral dot_S16384x16384x8_S16384x64_S16384x8x64_0_0_12_1_n_n none (transpose S16384x16384x8 [2, 1, 0] ds transposes_S8x16384x16384_S16384x16384x8_2_1_0) a3) transposes_S16384x8x64_S8x16384x64_1_0_2
def dKn : FVec Ideal S8x16384x128 .f32 :=
  transpose S8x16384x128 [1, 0, 2] (transpose S16384x8x128 [1, 0, 2] (Host.dotGeneral dot_S8x16384x16384_S16384x8x128_S8x16384x128_1_0_2_2_0_1 none ds a0) transposes_S8x16384x128_S16384x8x128_1_0_2) transposes_S16384x8x128_S8x16384x128_1_0_2
def dKp : FVec Ideal S16384x64 .f32 :=
  Host.dotGeneral dot_S16384x16384x8_S16384x8x64_S16384x64_12_01_0_2_n_n none (transpose S16384x16384x8 [2, 1, 0] ds transposes_S8x16384x16384_S16384x16384x8_2_1_0) a1
def dV : FVec Ideal S8x16384x128 .f32 :=
  transpose S8x16384x128 [1, 0, 2] (transpose S16384x8x128 [2, 0, 1] (Host.dotGeneral dot_S8x128x16384_S8x16384x16384_S8x128x16384_2_1_1_2_0_0 none (DO a5 a6) pr) transposes_S8x128x16384_S16384x8x128_2_0_1) transposes_S16384x8x128_S8x16384x128_1_0_2
def OUT : FVec Ideal S16384x1024 .f32 :=
  shapeCast _ (transpose S16384x8x128 [2, 0, 1] (Host.dotGeneral dot_S16384x8x128_S8x16384x16384_S8x128x16384_0_2_2_1_1_0 none a4 pr) transposes_S8x128x16384_S16384x8x128_2_0_1) shapeCasts_S16384x8x128_S16384x1024
end Arrays

variable {a0 a2 a4 : FVec Ideal S16384x8x128 .f32} {a1 : FVec Ideal S16384x8x64 .f32} {a3 : FVec Ideal S16384x64 .f32}
  {a5 : FVec Ideal S1024x1024 .f32} {a6 : FVec Ideal S16384x1024 .f32}
  {qn qp kn v : ℕ → ℕ → ℕ → ℝ} {kp w z : ℕ → ℕ → ℝ} {sc ex dp ds pr : FVec Ideal S8x16384x16384 .f32} {s e p g f : ℕ → ℕ → ℕ → ℝ}

/-- A sum of entries that are real. -/
theorem sum_real {n : ℕ} {F : Fin n → EReal} {f : ℕ → ℝ} (h : ∀ i, F i = (f i.val : EReal)) :
    ∑ i, F i = ((∑ i ∈ Finset.range n, f i : ℝ) : EReal) := by
  rw [Finset.sum_range, coe_sum]; exact Finset.sum_congr rfl fun i _ => h i

/-- A fold of the maximum over reals is one of them. -/
theorem fold_real {n : ℕ} (hn : 0 < n) (F : Fin n → EReal) (σ : Fin n → ℝ) (h : ∀ x, F x = (σ x : EReal)) :
    ∃ M : ℝ, Finset.fold max (⊥ : EReal) F Finset.univ = M := by
  have e : Finset.fold max (⊥ : EReal) F Finset.univ = Finset.sup Finset.univ (fun x : Fin n => (σ x : EReal)) := by
    simp only [h]; rfl
  obtain ⟨i, _, hi⟩ := Finset.exists_mem_eq_sup (Finset.univ : Finset (Fin n)) ⟨⟨0, hn⟩, Finset.mem_univ _⟩ (fun x => (σ x : EReal))
  exact ⟨σ i, e.trans hi⟩

theorem row_max {n : ℕ} (hn : 0 < n) {sc : FVec Ideal ⟨3, ![8, n, n]⟩ .f32} (hr : (⟨3, ![8, n, n]⟩ : Shape).ReducesTo [2] ⟨2, ![8, n]⟩) (hu : 0 < S_.numel)
    (hs : ∀ h t x, sc (ix3 h t x) = (s h.val t.val x.val : EReal)) (h : Fin 8) (t : Fin n) :
    ∃ M : ℝ, Host.reduce FloatOps.maximumf sc (constant S_ .f32 0xFF800000#32) hr hu (ix2 h t) = (M : EReal) := by
  obtain ⟨M, hM⟩ := fold_real hn (fun x => sc (ix3 h t x)) (fun x => s h t x) (fun x => hs h t x)
  refine ⟨M, ?_⟩
  pointwise
  rw [Cert.AttnIdeal.Value.negInf]
  exact hM

theorem SC_at (h0 : ∀ t h d, a0 (ix3 t h d) = (qn t.val h.val d.val : EReal)) (h2 : ∀ t h d, a2 (ix3 t h d) = (kn t.val h.val d.val : EReal))
    (h1 : ∀ t h d, a1 (ix3 t h d) = (qp t.val h.val d.val : EReal)) (h3 : ∀ t d, a3 (ix2 t d) = (kp t.val d.val : EReal))
    (h : Fin 8) (t s : Fin 16384) :
    SC a0 a2 a1 a3 (ix3 h t s) = (((∑ d ∈ Finset.range 128, qn t h d * kn s h d) + ∑ d ∈ Finset.range 64, kp s d * qp t h d : ℝ) : EReal) := by
  pointwise [SC]
  rw [EReal.coe_add]
  refine congrArg₂ (· + ·) (sum_real fun i => ?_) (sum_real fun i => ?_)
  · rw [h0, h2, EReal.coe_mul]
  · rw [h3, h1, EReal.coe_mul]
theorem RM_at (hs : ∀ h t x, sc (ix3 h t x) = (s h.val t.val x.val : EReal)) (h : Fin 8) (t : Fin 16384) :
    ∃ M : ℝ, RM sc (ix2 h t) = (M : EReal) :=
  row_max (n := 16384) (by norm_num) reducesTo_S8x16384x16384_S8x16384_d2 h_S_ hs h t
theorem MXr_at (rm : FVec Ideal S8x16384 .f32) (h : Fin 8) (t x : Fin 16384) (M : ℝ) (hM : rm (ix2 h t) = (M : EReal)) :
    MXr rm (ix3 h t x) = (M : EReal) := by
  pointwise [MXr]
  rw [hM, Cert.AttnIdeal.Value.negInf]
  exact max_eq_right bot_le
theorem MX_at (hs : ∀ h t x, sc (ix3 h t x) = (s h.val t.val x.val : EReal)) :
    ∃ M : ℕ → ℕ → ℝ, ∀ (h : Fin 8) (t x : Fin 16384), MX sc (ix3 h t x) = (M h.val t.val : EReal) := by
  choose M hM using RM_at hs
  refine ⟨fun h t => if H : h < 8 ∧ t < 16384 then M ⟨h, H.1⟩ ⟨t, H.2⟩ else 0, fun h t x => ?_⟩
  have e : (if H : h.val < 8 ∧ t.val < 16384 then M ⟨h.val, H.1⟩ ⟨t.val, H.2⟩ else 0) = M h t := dif_pos ⟨h.isLt, t.isLt⟩
  exact (MXr_at (RM sc) h t x (M h t) (hM h t)).trans (congrArg _ e.symm)
theorem EX_at {M : ℕ → ℕ → ℝ} (hs : ∀ h t x, sc (ix3 h t x) = (s h.val t.val x.val : EReal))
    (hM : ∀ (h : Fin 8) (t x : Fin 16384), MX sc (ix3 h t x) = (M h.val t.val : EReal)) (h : Fin 8) (t x : Fin 16384) :
    EX sc (ix3 h t x) = ((Real.exp (s h t x - M h t) : ℝ) : EReal) := by
  pointwise [EX]
  rw [hs, hM, ← EReal.coe_sub, Ideal.exp_coe]
theorem LS_at (hs : ∀ h t x, ex (ix3 h t x) = (e h.val t.val x.val : EReal)) (h : Fin 8) (t : Fin 16384) :
    LS ex (ix2 h t) = ((∑ x ∈ Finset.range 16384, e h t x : ℝ) : EReal) := by
  pointwise [LS]
  exact sum_real fun i => hs _ _ _
theorem DO_at (h5 : ∀ i j, a5 (ix2 i j) = (w i.val j.val : EReal)) (h6 : ∀ i j, a6 (ix2 i j) = (z i.val j.val : EReal))
    (h : Fin 8) (d : Fin 128) (t : Fin 16384) : DO a5 a6 (ix3 h d t) = ((dO z w t.val (128 * h.val + d.val) : ℝ) : EReal) := by
  pointwise [DO]
  rw [Nat.mul_comm 128]
  exact sum_real fun i => by rw [h6, h5, EReal.coe_mul]
theorem DP_at (h4 : ∀ t h d, a4 (ix3 t h d) = (v t.val h.val d.val : EReal)) (hg : ∀ h d t, DO a5 a6 (ix3 h d t) = (g h.val t.val d.val : EReal))
    (h : Fin 8) (t x : Fin 16384) : DP a4 a5 a6 (ix3 h t x) = ((∑ d ∈ Finset.range 128, g h t d * v x h d : ℝ) : EReal) := by
  pointwise [DP]
  exact sum_real fun i => by rw [hg, h4, EReal.coe_mul]
theorem PR_at (hs : ∀ h t x, ex (ix3 h t x) = (e h.val t.val x.val : EReal)) (hp : ∀ h t, (∑ x ∈ Finset.range 16384, e h t x) ≠ 0) (h : Fin 8) (t x : Fin 16384) :
    PR ex (ix3 h t x) = ((e h t x / ∑ x ∈ Finset.range 16384, e h t x : ℝ) : EReal) := by
  pointwise [PR]
  rw [hs, LS_at hs, Ideal.div_coe (hp _ _), ← EReal.coe_mul]
  congr 1; ring
theorem DS_at (hs : ∀ h t x, ex (ix3 h t x) = (e h.val t.val x.val : EReal)) (hd : ∀ h t x, dp (ix3 h t x) = (p h.val t.val x.val : EReal))
    (hp : ∀ h t, (∑ x ∈ Finset.range 16384, e h t x) ≠ 0) (h : Fin 8) (t x : Fin 16384) :
    DS ex dp (ix3 h t x) = (((p h t x / (∑ x ∈ Finset.range 16384, e h t x)
      + -∑ y ∈ Finset.range 16384, p h t y * (1 / ((∑ x ∈ Finset.range 16384, e h t x) * (∑ x ∈ Finset.range 16384, e h t x))) * e h t y) * e h t x : ℝ) : EReal) := by
  pointwise [DS, DT]
  have hl : (∑ x ∈ Finset.range 16384, e h t x) * (∑ x ∈ Finset.range 16384, e h t x) ≠ 0 := mul_ne_zero (hp _ _) (hp _ _)
  rw [LS_at hs, Ideal.div_coe (hp _ _), ← EReal.coe_mul (∑ x ∈ Finset.range 16384, e h t x), Ideal.div_coe hl, one_mul, Fin.sum_univ_one,
    sum_real (f := fun y => p h t y * (1 / ((∑ x ∈ Finset.range 16384, e h t x) * (∑ x ∈ Finset.range 16384, e h t x))) * e h t y)
      (fun y => by rw [hd, hs, EReal.coe_mul, EReal.coe_mul]), hd, hs, ← EReal.coe_mul, ← EReal.coe_neg, ← EReal.coe_add, ← EReal.coe_mul]
  congr 1; ring
theorem dQn_at (h2 : ∀ t h d, a2 (ix3 t h d) = (kn t.val h.val d.val : EReal)) (hs : ∀ h t x, ds (ix3 h t x) = (f h.val t.val x.val : EReal))
    (h : Fin 8) (t : Fin 16384) (d : Fin 128) : dQn a2 ds (ix3 h t d) = ((∑ x ∈ Finset.range 16384, f h t x * kn x h d : ℝ) : EReal) := by
  pointwise [dQn]
  exact sum_real fun i => by rw [hs, h2, EReal.coe_mul]
theorem dQp_at (h3 : ∀ t d, a3 (ix2 t d) = (kp t.val d.val : EReal)) (hs : ∀ h t x, ds (ix3 h t x) = (f h.val t.val x.val : EReal))
    (h : Fin 8) (t : Fin 16384) (d : Fin 64) : dQp a3 ds (ix3 h t d) = ((∑ x ∈ Finset.range 16384, f h t x * kp x d : ℝ) : EReal) := by
  pointwise [dQp]
  exact sum_real fun i => by rw [hs, h3, EReal.coe_mul]
theorem dKn_at (h0 : ∀ t h d, a0 (ix3 t h d) = (qn t.val h.val d.val : EReal)) (hs : ∀ h t x, ds (ix3 h t x) = (f h.val t.val x.val : EReal))
    (h : Fin 8) (x : Fin 16384) (d : Fin 128) : dKn a0 ds (ix3 h x d) = ((∑ t ∈ Finset.range 16384, f h t x * qn t h d : ℝ) : EReal) := by
  pointwise [dKn]
  exact sum_real fun i => by rw [hs, h0, EReal.coe_mul]
theorem dKp_at (h1 : ∀ t h d, a1 (ix3 t h d) = (qp t.val h.val d.val : EReal)) (hs : ∀ h t x, ds (ix3 h t x) = (f h.val t.val x.val : EReal))
    (x : Fin 16384) (d : Fin 64) : dKp a1 ds (ix2 x d) = ((∑ h ∈ Finset.range 8, ∑ t ∈ Finset.range 16384, f h t x * qp t h d : ℝ) : EReal) := by
  pointwise [dKp]
  rw [Finset.sum_comm]
  exact sum_real fun i => sum_real (f := fun y => f i.val y x.val * qp y i.val d.val) fun j => by rw [hs, h1, EReal.coe_mul]
theorem dV_at (hg : ∀ h d t, DO a5 a6 (ix3 h d t) = (g h.val t.val d.val : EReal)) (hs : ∀ h t x, pr (ix3 h t x) = (f h.val t.val x.val : EReal))
    (h : Fin 8) (x : Fin 16384) (d : Fin 128) : dV a5 a6 pr (ix3 h x d) = ((∑ t ∈ Finset.range 16384, f h t x * g h t d : ℝ) : EReal) := by
  pointwise [dV]
  exact sum_real fun i => by rw [hg, hs, ← EReal.coe_mul, mul_comm]
theorem OUT_at (h4 : ∀ t h d, a4 (ix3 t h d) = (v t.val h.val d.val : EReal)) (hs : ∀ h t x, pr (ix3 h t x) = (f h.val t.val x.val : EReal))
    (t : Fin 16384) (j : Fin 1024) : OUT a4 pr (ix2 t j) = ((∑ x ∈ Finset.range 16384, f (j.val / 128) t x * v x (j.val / 128) (j.val % 128) : ℝ) : EReal) := by
  pointwise [OUT]
  exact sum_real fun i => by rw [h4, hs, ← EReal.coe_mul, mul_comm]
end Cert.AttnRefIdeal.Value
-- ==== Proof.Attn.BwdBody.lean ====
/-
  The backward call's body on whole buffers: a point takes a block of 2048 queries against a block of 1024 keys, in
  four tiles of 512 queries.
-/
module

public import proofs.«01_k».proof.Proof.Attn.Fwd
public import Idealize.ShloMosaic.Lib.Pipeline.ValueKit

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev qRows0 (x : Vec F S1x2048x256 .bf16) : Vec F S1x512x256 .bf16 := blkAt x (Rect.unit (s := S1x2048x256) ![0, 0, 0] S1x512x256.size inb_S1x2048x256_S1x512x256_0_0_0).toLoadRect
abbrev doRows0 (x : Vec F S2048x128 .bf16) : Vec F S512x128 .bf16 := blkAt x (Rect.unit (s := S2048x128) ![0, 0] S512x128.size inb_S2048x128_S512x128_0_0).toLoadRect
abbrev stRows0 (x : Vec F S2048x128 .f32) : Vec F S512x128 .f32 := blkAt x (Rect.unit (s := S2048x128) ![0, 0] S512x128.size inb_S2048x128_S512x128_0_0).toLoadRect
/-- The rows of the queries' gradient that the point's step 0 adds to. -/
abbrev dqRows0 (i : grid2.Coords) (x : Vec F S1x16384x256 .f32) : Vec F S1x512x256 .f32 := blkAt x (Rect.unit (s := S1x16384x256) (k2_off1 i 0#32) S1x512x256.size (k2_off1_inb i 0)).toLoadRect
abbrev dqPut0 (i : grid2.Coords) (x : Vec F S1x16384x256 .f32) (w : Vec F S1x512x256 .f32) : Vec F S1x16384x256 .f32 := VecWindow.put x (k2_off1 i 0#32) S1x512x256.size w
abbrev qRows1 (x : Vec F S1x2048x256 .bf16) : Vec F S1x512x256 .bf16 := blkAt x (Rect.unit (s := S1x2048x256) ![0, 512, 0] S1x512x256.size inb_S1x2048x256_S1x512x256_0_512_0).toLoadRect
abbrev doRows1 (x : Vec F S2048x128 .bf16) : Vec F S512x128 .bf16 := blkAt x (Rect.unit (s := S2048x128) ![512, 0] S512x128.size inb_S2048x128_S512x128_512_0).toLoadRect
abbrev stRows1 (x : Vec F S2048x128 .f32) : Vec F S512x128 .f32 := blkAt x (Rect.unit (s := S2048x128) ![512, 0] S512x128.size inb_S2048x128_S512x128_512_0).toLoadRect
/-- The rows of the queries' gradient that the point's step 1 adds to. -/
abbrev dqRows1 (i : grid2.Coords) (x : Vec F S1x16384x256 .f32) : Vec F S1x512x256 .f32 := blkAt x (Rect.unit (s := S1x16384x256) (k2_off1 i 512#32) S1x512x256.size (k2_off1_inb i 1)).toLoadRect
abbrev dqPut1 (i : grid2.Coords) (x : Vec F S1x16384x256 .f32) (w : Vec F S1x512x256 .f32) : Vec F S1x16384x256 .f32 := VecWindow.put x (k2_off1 i 512#32) S1x512x256.size w
abbrev qRows2 (x : Vec F S1x2048x256 .bf16) : Vec F S1x512x256 .bf16 := blkAt x (Rect.unit (s := S1x2048x256) ![0, 1024, 0] S1x512x256.size inb_S1x2048x256_S1x512x256_0_1024_0).toLoadRect
abbrev doRows2 (x : Vec F S2048x128 .bf16) : Vec F S512x128 .bf16 := blkAt x (Rect.unit (s := S2048x128) ![1024, 0] S512x128.size inb_S2048x128_S512x128_1024_0).toLoadRect
abbrev stRows2 (x : Vec F S2048x128 .f32) : Vec F S512x128 .f32 := blkAt x (Rect.unit (s := S2048x128) ![1024, 0] S512x128.size inb_S2048x128_S512x128_1024_0).toLoadRect
/-- The rows of the queries' gradient that the point's step 2 adds to. -/
abbrev dqRows2 (i : grid2.Coords) (x : Vec F S1x16384x256 .f32) : Vec F S1x512x256 .f32 := blkAt x (Rect.unit (s := S1x16384x256) (k2_off1 i 1024#32) S1x512x256.size (k2_off1_inb i 2)).toLoadRect
abbrev dqPut2 (i : grid2.Coords) (x : Vec F S1x16384x256 .f32) (w : Vec F S1x512x256 .f32) : Vec F S1x16384x256 .f32 := VecWindow.put x (k2_off1 i 1024#32) S1x512x256.size w
abbrev qRows3 (x : Vec F S1x2048x256 .bf16) : Vec F S1x512x256 .bf16 := blkAt x (Rect.unit (s := S1x2048x256) ![0, 1536, 0] S1x512x256.size inb_S1x2048x256_S1x512x256_0_1536_0).toLoadRect
abbrev doRows3 (x : Vec F S2048x128 .bf16) : Vec F S512x128 .bf16 := blkAt x (Rect.unit (s := S2048x128) ![1536, 0] S512x128.size inb_S2048x128_S512x128_1536_0).toLoadRect
abbrev stRows3 (x : Vec F S2048x128 .f32) : Vec F S512x128 .f32 := blkAt x (Rect.unit (s := S2048x128) ![1536, 0] S512x128.size inb_S2048x128_S512x128_1536_0).toLoadRect
/-- The rows of the queries' gradient that the point's step 3 adds to. -/
abbrev dqRows3 (i : grid2.Coords) (x : Vec F S1x16384x256 .f32) : Vec F S1x512x256 .f32 := blkAt x (Rect.unit (s := S1x16384x256) (k2_off1 i 1536#32) S1x512x256.size (k2_off1_inb i 3)).toLoadRect
abbrev dqPut3 (i : grid2.Coords) (x : Vec F S1x16384x256 .f32) (w : Vec F S1x512x256 .f32) : Vec F S1x16384x256 .f32 := VecWindow.put x (k2_off1 i 1536#32) S1x512x256.size w

section Step
variable (i : grid2.Coords) (x0 : Vec F S1x2048x256 .bf16) (x1 : Vec F S1x1024x256 .bf16) (x2 : Vec F S1x1024x128 .bf16) (x3 : Vec F S2048x128 .bf16) (x4 x5 : Vec F S2048x128 .f32)
/-- The first tile's scores' exponentials. -/
abbrev b24 : FVec F S512x1024 .f32 := k2_pay13 x1 (qRows0 x0) (stRows0 x4)
abbrev b28 : FVec F S512x1024 .f32 := k2_pay14 x2 (doRows0 x3) (stRows0 x5)
abbrev b64 : FVec F S512x1024 .bf16 := k2_pay22 (k2_pay9 x1) (k2_pay10 x2) (qRows1 x0) (doRows1 x3) (stRows1 x4) (stRows1 x5)
abbrev b98 : FVec F S512x1024 .bf16 := k2_pay28 (k2_pay9 x1) (k2_pay10 x2) (qRows2 x0) (doRows2 x3) (stRows2 x4) (stRows2 x5)
abbrev b132 : FVec F S512x1024 .bf16 := k2_pay35 (k2_pay9 x1) (k2_pay10 x2) (qRows3 x0) (doRows3 x3) (stRows3 x4) (stRows3 x5)
/-- The queries' gradient after each of the point's four tiles. -/
abbrev bQ0 (e : Vec F S1x16384x256 .f32) : Vec F S1x16384x256 .f32 := dqPut0 i e (k2_pay18 (k2_pay9 x1) (b24 x0 x1 x4) (b28 x2 x3 x5) (dqRows0 i e))
abbrev bQ1 (e : Vec F S1x16384x256 .f32) : Vec F S1x16384x256 .f32 := dqPut1 i (bQ0 i x0 x1 x2 x3 x4 x5 e) (k2_pay24 (k2_pay9 x1) (b64 x0 x1 x2 x3 x4 x5) (dqRows1 i e))
abbrev bQ2 (e : Vec F S1x16384x256 .f32) : Vec F S1x16384x256 .f32 := dqPut2 i (bQ1 i x0 x1 x2 x3 x4 x5 e) (k2_pay31 (k2_pay9 x1) (b98 x0 x1 x2 x3 x4 x5) (dqRows2 i e))
abbrev bQ3 (e : Vec F S1x16384x256 .f32) : Vec F S1x16384x256 .f32 := dqPut3 i (bQ2 i x0 x1 x2 x3 x4 x5 e) (k2_pay1 (k2_pay9 x1) (b132 x0 x1 x2 x3 x4 x5) (dqRows3 i e))
/-- The values' gradient after the point, -/
abbrev bV (s1 : Vec F S1024x128 .f32) : FVec F S1024x128 .f32 :=
  k2_pay36 (k2_pay9 x1) (k2_pay29 (k2_pay9 x1) (k2_pay16 s1 (k2_pay12 (doRows0 x3)) (b24 x0 x1 x4)) (k2_pay23 (k2_pay9 x1) (qRows1 x0) (doRows1 x3) (stRows1 x4)) (qRows2 x0) (doRows2 x3) (stRows2 x4)) (qRows3 x0) (doRows3 x3) (stRows3 x4)
/-- and the keys'. -/
abbrev bK (s0 : Vec F S1024x256 .f32) : FVec F S1024x256 .f32 :=
  k2_pay37 (k2_pay9 x1) (k2_pay10 x2) (k2_pay30 (k2_pay9 x1) (k2_pay10 x2) (k2_pay17 s0 (k2_pay11 (qRows0 x0)) (b24 x0 x1 x4) (b28 x2 x3 x5)) (k2_pay19 (qRows1 x0)) (b64 x0 x1 x2 x3 x4 x5) (qRows2 x0) (doRows2 x3) (stRows2 x4) (stRows2 x5)) (qRows3 x0) (doRows3 x3) (stRows3 x4) (stRows3 x5)
end Step

theorem blkAt_k (X : Vec F S1x1024x256 .bf16) (inb) : blkAt X (Rect.unit ![0, 0, 0] ![1, 1024, 256] inb).toLoadRect = X := blkAt_all X inb
theorem blkAt_v (X : Vec F S1x1024x128 .bf16) (inb) : blkAt X (Rect.unit ![0, 0, 0] ![1, 1024, 128] inb).toLoadRect = X := blkAt_all X inb
theorem blkAt_sk (X : Vec F S1024x256 .f32) (inb) : blkAt X (Rect.unit ![0, 0] ![1024, 256] inb).toLoadRect = X := blkAt_all X inb
theorem blkAt_sv (X : Vec F S1024x128 .f32) (inb) : blkAt X (Rect.unit ![0, 0] ![1024, 128] inb).toLoadRect = X := blkAt_all X inb
theorem readCov_sk {sp : Space} (v : View sig .tc sp S1024x256 .f32) (inb) (w : Vec F S1024x256 .f32) :
    v.readCov [(⟨Rect.unit ![0, 0] ![1024, 256] inb, w⟩ : View.Piece (Elt F) S1024x256 .f32)] (Rect.unit ![0, 0] ![1024, 256] inb).toLoadRect = w := readCov_all v inb w
theorem readCov_sv {sp : Space} (v : View sig .tc sp S1024x128 .f32) (inb) (w : Vec F S1024x128 .f32) :
    v.readCov [(⟨Rect.unit ![0, 0] ![1024, 128] inb, w⟩ : View.Piece (Elt F) S1024x128 .f32)] (Rect.unit ![0, 0] ![1024, 128] inb).toLoadRect = w := readCov_all v inb w
/-- A load after stores reads the rectangle of what the stores left. -/
theorem readCov_blk {sp : Space} {sh : Shape} {e : EltTy} (v : View sig .tc sp sh e) (L : List (View.Piece (Elt F) sh e)) (B : LoadRect sh) :
    v.readCov L B = blkAt (v.read (Elt F) (v.writes (Elt F) v.junk L)) B := rfl
theorem readAt_writes {sp : Space} {sh : Shape} {e : EltTy} (v : View sig .tc sp sh e) (f : v.ty.Contents (Elt F)) (L : List (View.Piece (Elt F) sh e)) (B : LoadRect sh) :
    v.readAt (Elt F) B (v.writes (Elt F) f L) = blkAt (v.read (Elt F) (v.writes (Elt F) f L)) B := rfl
theorem read_put {sp : Space} {sh : Shape} {e : EltTy} (v : View sig .tc sp sh e) (f : v.ty.Contents (Elt F)) {off size : Fin sh.rank → ℕ}
    (inb : ∀ a, off a + size a ≤ sh.size a) (w : (Rect.unit off size inb).shape.Idx → Elt F e) (L : List (View.Piece (Elt F) sh e)) :
    v.read (Elt F) (v.writes (Elt F) f (⟨Rect.unit off size inb, w⟩ :: L)) = VecWindow.put (v.read (Elt F) (v.writes (Elt F) f L)) off size w :=
  View.read_writes_cons_put v f inb w L rfl
theorem put_all (x w : Vec F S1x16384x256 .f32) : VecWindow.put x ![0, 0, 0] ![1, 16384, 256] w = w := by
  funext y
  unfold VecWindow.put
  rw [dif_pos (fun a => ?_)]
  · refine congrArg w (funext fun a => Fin.ext ?_)
    show (y a).val - _ = _
    fin_cases a <;> rfl
  · have h := (y a).isLt
    fin_cases a <;> exact ⟨Nat.zero_le _, by simpa using h⟩
/-- Rows put do not change the other rows. -/
theorem rows_put (x : Vec F S1x16384x256 .f32) {off off' : Fin 3 → ℕ} (inb) (w : Vec F S1x512x256 .f32) (h : off' 1 + 512 ≤ off 1) :
    blkAt (VecWindow.put x off' ![1, 512, 256] w) (Rect.unit (s := S1x16384x256) off ![1, 512, 256] inb).toLoadRect = blkAt x (Rect.unit (s := S1x16384x256) off ![1, 512, 256] inb).toLoadRect := by
  funext y
  show VecWindow.put x off' ![1, 512, 256] w _ = x _
  unfold VecWindow.put
  rw [dif_neg]
  intro hh
  have h1 := (hh 1).2
  simp [Rect.unit, LoadRect.idx] at h1
  omega
theorem off1_val (i : grid2.Coords) : k2_off1 i 0#32 1 = 2048 * (i 2).val ∧ k2_off1 i 512#32 1 = 2048 * (i 2).val + 512
    ∧ k2_off1 i 1024#32 1 = 2048 * (i 2).val + 1024 ∧ k2_off1 i 1536#32 1 = 2048 * (i 2).val + 1536 :=
  ⟨congrFun (k2_off1_eq i 0) 1, congrFun (k2_off1_eq i 1) 1, congrFun (k2_off1_eq i 2) 1, congrFun (k2_off1_eq i 3) 1⟩
theorem rows_put10 (i : grid2.Coords) (x : Vec F S1x16384x256 .f32) (inb) (w : Vec F S1x512x256 .f32) :
    blkAt (VecWindow.put x (k2_off1 i 0#32) ![1, 512, 256] w) (Rect.unit (s := S1x16384x256) (k2_off1 i 512#32) ![1, 512, 256] inb).toLoadRect = blkAt x (Rect.unit (s := S1x16384x256) (k2_off1 i 512#32) ![1, 512, 256] inb).toLoadRect :=
  rows_put x inb w (by have h := off1_val i; omega)
theorem rows_put20 (i : grid2.Coords) (x : Vec F S1x16384x256 .f32) (inb) (w : Vec F S1x512x256 .f32) :
    blkAt (VecWindow.put x (k2_off1 i 0#32) ![1, 512, 256] w) (Rect.unit (s := S1x16384x256) (k2_off1 i 1024#32) ![1, 512, 256] inb).toLoadRect = blkAt x (Rect.unit (s := S1x16384x256) (k2_off1 i 1024#32) ![1, 512, 256] inb).toLoadRect :=
  rows_put x inb w (by have h := off1_val i; omega)
theorem rows_put21 (i : grid2.Coords) (x : Vec F S1x16384x256 .f32) (inb) (w : Vec F S1x512x256 .f32) :
    blkAt (VecWindow.put x (k2_off1 i 512#32) ![1, 512, 256] w) (Rect.unit (s := S1x16384x256) (k2_off1 i 1024#32) ![1, 512, 256] inb).toLoadRect = blkAt x (Rect.unit (s := S1x16384x256) (k2_off1 i 1024#32) ![1, 512, 256] inb).toLoadRect :=
  rows_put x inb w (by have h := off1_val i; omega)
theorem rows_put30 (i : grid2.Coords) (x : Vec F S1x16384x256 .f32) (inb) (w : Vec F S1x512x256 .f32) :
    blkAt (VecWindow.put x (k2_off1 i 0#32) ![1, 512, 256] w) (Rect.unit (s := S1x16384x256) (k2_off1 i 1536#32) ![1, 512, 256] inb).toLoadRect = blkAt x (Rect.unit (s := S1x16384x256) (k2_off1 i 1536#32) ![1, 512, 256] inb).toLoadRect :=
  rows_put x inb w (by have h := off1_val i; omega)
theorem rows_put31 (i : grid2.Coords) (x : Vec F S1x16384x256 .f32) (inb) (w : Vec F S1x512x256 .f32) :
    blkAt (VecWindow.put x (k2_off1 i 512#32) ![1, 512, 256] w) (Rect.unit (s := S1x16384x256) (k2_off1 i 1536#32) ![1, 512, 256] inb).toLoadRect = blkAt x (Rect.unit (s := S1x16384x256) (k2_off1 i 1536#32) ![1, 512, 256] inb).toLoadRect :=
  rows_put x inb w (by have h := off1_val i; omega)
theorem rows_put32 (i : grid2.Coords) (x : Vec F S1x16384x256 .f32) (inb) (w : Vec F S1x512x256 .f32) :
    blkAt (VecWindow.put x (k2_off1 i 1024#32) ![1, 512, 256] w) (Rect.unit (s := S1x16384x256) (k2_off1 i 1536#32) ![1, 512, 256] inb).toLoadRect = blkAt x (Rect.unit (s := S1x16384x256) (k2_off1 i 1536#32) ![1, 512, 256] inb).toLoadRect :=
  rows_put x inb w (by have h := off1_val i; omega)
/-- Four strips of rows put one after another over a whole array: each strip is read as the whole array had it. -/
theorem dq_chain (i : grid2.Coords) (x k : Vec F S1x16384x256 .f32) (f0 f1 f2 f3 : Vec F S1x512x256 .f32 → Vec F S1x512x256 .f32) :
    (VecWindow.put (VecWindow.put (VecWindow.put (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (k2_off1 i 512#32) ![1, 512, 256] (f1 (blkAt (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (Rect.unit (s := S1x16384x256) (k2_off1 i 512#32) ![1, 512, 256] (k2_off1_inb i 1)).toLoadRect))) (k2_off1 i 1024#32) ![1, 512, 256] (f2 (blkAt (VecWindow.put (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (k2_off1 i 512#32) ![1, 512, 256] (f1 (blkAt (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (Rect.unit (s := S1x16384x256) (k2_off1 i 512#32) ![1, 512, 256] (k2_off1_inb i 1)).toLoadRect))) (Rect.unit (s := S1x16384x256) (k2_off1 i 1024#32) ![1, 512, 256] (k2_off1_inb i 2)).toLoadRect))) (k2_off1 i 1536#32) ![1, 512, 256] (f3 (blkAt (VecWindow.put (VecWindow.put (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (k2_off1 i 512#32) ![1, 512, 256] (f1 (blkAt (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (Rect.unit (s := S1x16384x256) (k2_off1 i 512#32) ![1, 512, 256] (k2_off1_inb i 1)).toLoadRect))) (k2_off1 i 1024#32) ![1, 512, 256] (f2 (blkAt (VecWindow.put (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (k2_off1 i 512#32) ![1, 512, 256] (f1 (blkAt (VecWindow.put (VecWindow.put x ![0, 0, 0] ![1, 16384, 256] k) (k2_off1 i 0#32) ![1, 512, 256] (f0 (blkAt (VecWindow.put x ![0, 0, 0] ![1, 16384, 256] k) (Rect.unit (s := S1x16384x256) (k2_off1 i 0#32) ![1, 512, 256] (k2_off1_inb i 0)).toLoadRect))) (Rect.unit (s := S1x16384x256) (k2_off1 i 512#32) ![1, 512, 256] (k2_off1_inb i 1)).toLoadRect))) (Rect.unit (s := S1x16384x256) (k2_off1 i 1024#32) ![1, 512, 256] (k2_off1_inb i 2)).toLoadRect))) (Rect.unit (s := S1x16384x256) (k2_off1 i 1536#32) ![1, 512, 256] (k2_off1_inb i 3)).toLoadRect)))
      = (VecWindow.put (VecWindow.put (VecWindow.put (VecWindow.put k (k2_off1 i 0#32) ![1, 512, 256] (f0 (blkAt k (Rect.unit (s := S1x16384x256) (k2_off1 i 0#32) ![1, 512, 256] (k2_off1_inb i 0)).toLoadRect))) (k2_off1 i 512#32) ![1, 512, 256] (f1 (blkAt k (Rect.unit (s := S1x16384x256) (k2_off1 i 512#32) ![1, 512, 256] (k2_off1_inb i 1)).toLoadRect))) (k2_off1 i 1024#32) ![1, 512, 256] (f2 (blkAt k (Rect.unit (s := S1x16384x256) (k2_off1 i 1024#32) ![1, 512, 256] (k2_off1_inb i 2)).toLoadRect))) (k2_off1 i 1536#32) ![1, 512, 256] (f3 (blkAt k (Rect.unit (s := S1x16384x256) (k2_off1 i 1536#32) ![1, 512, 256] (k2_off1_inb i 3)).toLoadRect))) := by
  rw [put_all x k, rows_put32, rows_put31, rows_put30, rows_put21, rows_put20, rows_put10]

set_option maxHeartbeats 3200000 in
/-- The first point of a head. -/
theorem bwd_bodyA (c : Dev nD) (i : grid2.Coords) (arg3 : Memref sig .tc .vmem S1x2048x256 .bf16) (harg3 : arg3.IsWhole) (arg4 : Memref sig .tc .vmem S1x1024x256 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x16384x256 .f32) (harg9 : arg9.IsWhole) (arg10 : Memref sig .tc .vmem S1x1024x256 .f32) (harg10 : arg10.IsWhole) (arg11 : Memref sig .tc .vmem S1x1024x128 .f32) (harg11 : arg11.IsWhole) (arg12 : Memref sig .tc .vmem S1024x256 .f32) (harg12 : arg12.IsWhole) (arg13 : Memref sig .tc .vmem S1024x128 .f32) (harg13 : arg13.IsWhole)
    (hcA : (Scalar.cmpi .ne (Scalar.extui (Scalar.andi (Scalar.cmpi .eq (BitVec.ofNat 32 (i 1).val) 0#32) (Scalar.cmpi .eq (BitVec.ofNat 32 (i 2).val) 0#32))) 0#32) = 1#1) (hcB : (Scalar.cmpi .ne (Scalar.extui (Scalar.cmpi .eq (BitVec.ofNat 32 (i 2).val) 0#32)) 0#32) = 1#1) (hcC : ¬ k2_cond3 i = 1#1)
    (x0 : Vec F S1x2048x256 .bf16) (x1 : Vec F S1x1024x256 .bf16) (x2 : Vec F S1x1024x128 .bf16) (x3 : Vec F S2048x128 .bf16) (x4 x5 : Vec F S2048x128 .f32) (d6 : Vec F S1x16384x256 .f32) (d7 : Vec F S1x1024x256 .f32) (d8 : Vec F S1x1024x128 .f32)
    (s0 : Vec F S1024x256 .f32) (s1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d6 ∗ owns (c : Thread nD τ) arg10 fullShare d7 ∗ owns (c : Thread nD τ) arg11 fullShare d8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (bQ3 i x0 x1 x2 x3 x4 x5 (k2_pay6 (F := F))) ∗ owns (c : Thread nD τ) arg10 fullShare d7 ∗ owns (c : Thread nD τ) arg11 fullShare d8 ∗ owns (c : Thread nD τ) arg12 fullShare (k2_pay2 (bK x0 x1 x2 x3 x4 x5 (k2_pay7 (F := F)))) ∗ owns (c : Thread nD τ) arg13 fullShare (k2_pay3 (bV x0 x1 x3 x4 (k2_pay8 (F := F))))) -∗ K ⟨⟩))
      ⊢ wp frame (wpE (defs₀ (F := F)) Variants.none c none) E (cc2_mla_attnb i arg3 harg3 arg4 harg4 arg5 harg5 arg6 harg6 arg7 harg7 arg8 harg8 arg9 harg9 arg10 harg10 arg11 harg11 arg12 harg12 arg13 harg13) K := by
  simp only [cc2_mla_attnb_eq_skeleton]; unfold cc2_mla_attnb_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec (disch := first | sl_exact hcA | sl_exact hcB | sl_exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    delta bwd_bodyA.sl.r_16 bwd_bodyA.sl.r_15 bwd_bodyA.sl.r_14 bwd_bodyA.sl.r_13 bwd_bodyA.sl.r_12 bwd_bodyA.sl.r_11 bwd_bodyA.sl.r_10 bwd_bodyA.sl.r_9 bwd_bodyA.sl.r_8 bwd_bodyA.sl.r_7 bwd_bodyA.sl.r_6 bwd_bodyA.sl.r_5 bwd_bodyA.sl.r_4 bwd_bodyA.sl.r_3 bwd_bodyA.sl.r_2 bwd_bodyA.sl.r_1 bwd_bodyA.sl.r bwd_bodyA.sl.v74 bwd_bodyA.sl.v108 bwd_bodyA.sl.v142 bwd_bodyA.sl.H6_4 bwd_bodyA.sl.v108 bwd_bodyA.sl.H6_3 bwd_bodyA.sl.v74 bwd_bodyA.sl.H6_2 bwd_bodyA.sl.v40 bwd_bodyA.sl.H6_1
    simp only [readAt_blkAt, blkAt_k, blkAt_v, blkAt_sk, blkAt_sv, readCov_sk, readCov_sv, readCov_blk, readAt_writes, read_put]
    exact dq_chain i _ _ (fun r => k2_pay18 (k2_pay9 x1) (b24 x0 x1 x4) (b28 x2 x3 x5) r) (fun r => k2_pay24 (k2_pay9 x1) (b64 x0 x1 x2 x3 x4 x5) r)
      (fun r => k2_pay31 (k2_pay9 x1) (b98 x0 x1 x2 x3 x4 x5) r) (fun r => k2_pay1 (k2_pay9 x1) (b132 x0 x1 x2 x3 x4 x5) r)
  isplitl [H7]
  · iexists _; isplitr; swap; · iexact H7
    ipureintro; exact harg10.read_unread _
  isplitl [H8]
  · iexists _; isplitr; swap; · iexact H8
    ipureintro; exact harg11.read_unread _
  isplitl [HS0]
  · iexists _; isplitr; swap; · iexact HS0
    ipureintro
    refine (View.read_writes_full _ _ _ _ _).trans ?_
    delta bwd_bodyA.sl.r_16 bwd_bodyA.sl.r_15 bwd_bodyA.sl.r_14 bwd_bodyA.sl.r_13 bwd_bodyA.sl.r_12 bwd_bodyA.sl.r_11 bwd_bodyA.sl.r_10 bwd_bodyA.sl.r_9 bwd_bodyA.sl.r_8 bwd_bodyA.sl.r_7 bwd_bodyA.sl.r_6 bwd_bodyA.sl.r_5 bwd_bodyA.sl.r_4 bwd_bodyA.sl.r_3 bwd_bodyA.sl.r_2 bwd_bodyA.sl.r_1 bwd_bodyA.sl.r bwd_bodyA.sl.v12 bwd_bodyA.sl.v13 bwd_bodyA.sl.HS0_1 bwd_bodyA.sl.HS1_1
    simp only [readAt_blkAt, blkAt_k, blkAt_v, blkAt_sk, blkAt_sv, readCov_sk, readCov_sv]
  iexists _; isplitr; swap; · iexact HS1
  ipureintro
  refine (View.read_writes_full _ _ _ _ _).trans ?_
  delta bwd_bodyA.sl.r_16 bwd_bodyA.sl.r_15 bwd_bodyA.sl.r_14 bwd_bodyA.sl.r_13 bwd_bodyA.sl.r_12 bwd_bodyA.sl.r_11 bwd_bodyA.sl.r_10 bwd_bodyA.sl.r_9 bwd_bodyA.sl.r_8 bwd_bodyA.sl.r_7 bwd_bodyA.sl.r_6 bwd_bodyA.sl.r_5 bwd_bodyA.sl.r_4 bwd_bodyA.sl.r_3 bwd_bodyA.sl.r_2 bwd_bodyA.sl.r_1 bwd_bodyA.sl.r bwd_bodyA.sl.v12 bwd_bodyA.sl.v13 bwd_bodyA.sl.HS0_1 bwd_bodyA.sl.HS1_1
  simp only [readAt_blkAt, blkAt_k, blkAt_v, blkAt_sk, blkAt_sv, readCov_sk, readCov_sv]

set_option maxHeartbeats 3200000 in
/-- A point that begins a later block of keys. -/
theorem bwd_bodyB (c : Dev nD) (i : grid2.Coords) (arg3 : Memref sig .tc .vmem S1x2048x256 .bf16) (harg3 : arg3.IsWhole) (arg4 : Memref sig .tc .vmem S1x1024x256 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x16384x256 .f32) (harg9 : arg9.IsWhole) (arg10 : Memref sig .tc .vmem S1x1024x256 .f32) (harg10 : arg10.IsWhole) (arg11 : Memref sig .tc .vmem S1x1024x128 .f32) (harg11 : arg11.IsWhole) (arg12 : Memref sig .tc .vmem S1024x256 .f32) (harg12 : arg12.IsWhole) (arg13 : Memref sig .tc .vmem S1024x128 .f32) (harg13 : arg13.IsWhole)
    (hcA : ¬ (Scalar.cmpi .ne (Scalar.extui (Scalar.andi (Scalar.cmpi .eq (BitVec.ofNat 32 (i 1).val) 0#32) (Scalar.cmpi .eq (BitVec.ofNat 32 (i 2).val) 0#32))) 0#32) = 1#1) (hcB : (Scalar.cmpi .ne (Scalar.extui (Scalar.cmpi .eq (BitVec.ofNat 32 (i 2).val) 0#32)) 0#32) = 1#1) (hcC : ¬ k2_cond3 i = 1#1)
    (x0 : Vec F S1x2048x256 .bf16) (x1 : Vec F S1x1024x256 .bf16) (x2 : Vec F S1x1024x128 .bf16) (x3 : Vec F S2048x128 .bf16) (x4 x5 : Vec F S2048x128 .f32) (d6 : Vec F S1x16384x256 .f32) (d7 : Vec F S1x1024x256 .f32) (d8 : Vec F S1x1024x128 .f32)
    (s0 : Vec F S1024x256 .f32) (s1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d6 ∗ owns (c : Thread nD τ) arg10 fullShare d7 ∗ owns (c : Thread nD τ) arg11 fullShare d8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (bQ3 i x0 x1 x2 x3 x4 x5 d6) ∗ owns (c : Thread nD τ) arg10 fullShare d7 ∗ owns (c : Thread nD τ) arg11 fullShare d8 ∗ owns (c : Thread nD τ) arg12 fullShare (k2_pay2 (bK x0 x1 x2 x3 x4 x5 (k2_pay7 (F := F)))) ∗ owns (c : Thread nD τ) arg13 fullShare (k2_pay3 (bV x0 x1 x3 x4 (k2_pay8 (F := F))))) -∗ K ⟨⟩))
      ⊢ wp frame (wpE (defs₀ (F := F)) Variants.none c none) E (cc2_mla_attnb i arg3 harg3 arg4 harg4 arg5 harg5 arg6 harg6 arg7 harg7 arg8 harg8 arg9 harg9 arg10 harg10 arg11 harg11 arg12 harg12 arg13 harg13) K := by
  simp only [cc2_mla_attnb_eq_skeleton]; unfold cc2_mla_attnb_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec (disch := first | sl_exact hcA | sl_exact hcB | sl_exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_cons_put _ _ _ _ _ rfl, View.read_writes_cons_put _ _ _ _ _ rfl, View.read_writes_cons_put _ _ _ _ _ rfl,
      View.read_writes_cons_put _ _ _ _ _ rfl, View.writes_nil, harg9.read_unread]
    delta bwd_bodyB.sl.r_16 bwd_bodyB.sl.r_15 bwd_bodyB.sl.r_14 bwd_bodyB.sl.r_13 bwd_bodyB.sl.r_12 bwd_bodyB.sl.r_11 bwd_bodyB.sl.r_10 bwd_bodyB.sl.r_9 bwd_bodyB.sl.r_8 bwd_bodyB.sl.r_7 bwd_bodyB.sl.r_6 bwd_bodyB.sl.r_5 bwd_bodyB.sl.r_4 bwd_bodyB.sl.r_3 bwd_bodyB.sl.r_2 bwd_bodyB.sl.r_1 bwd_bodyB.sl.r bwd_bodyB.sl.v74 bwd_bodyB.sl.v108 bwd_bodyB.sl.v142
    simp only [readAt_blkAt, blkAt_k, blkAt_v, blkAt_sk, blkAt_sv, readCov_sk, readCov_sv]
  isplitl [H7]
  · iexists _; isplitr; swap; · iexact H7
    ipureintro; exact harg10.read_unread _
  isplitl [H8]
  · iexists _; isplitr; swap; · iexact H8
    ipureintro; exact harg11.read_unread _
  isplitl [HS0]
  · iexists _; isplitr; swap; · iexact HS0
    ipureintro
    refine (View.read_writes_full _ _ _ _ _).trans ?_
    delta bwd_bodyB.sl.r_16 bwd_bodyB.sl.r_15 bwd_bodyB.sl.r_14 bwd_bodyB.sl.r_13 bwd_bodyB.sl.r_12 bwd_bodyB.sl.r_11 bwd_bodyB.sl.r_10 bwd_bodyB.sl.r_9 bwd_bodyB.sl.r_8 bwd_bodyB.sl.r_7 bwd_bodyB.sl.r_6 bwd_bodyB.sl.r_5 bwd_bodyB.sl.r_4 bwd_bodyB.sl.r_3 bwd_bodyB.sl.r_2 bwd_bodyB.sl.r_1 bwd_bodyB.sl.r bwd_bodyB.sl.v12 bwd_bodyB.sl.v13 bwd_bodyB.sl.HS0_1 bwd_bodyB.sl.HS1_1
    simp only [readAt_blkAt, blkAt_k, blkAt_v, blkAt_sk, blkAt_sv, readCov_sk, readCov_sv]
  iexists _; isplitr; swap; · iexact HS1
  ipureintro
  refine (View.read_writes_full _ _ _ _ _).trans ?_
  delta bwd_bodyB.sl.r_16 bwd_bodyB.sl.r_15 bwd_bodyB.sl.r_14 bwd_bodyB.sl.r_13 bwd_bodyB.sl.r_12 bwd_bodyB.sl.r_11 bwd_bodyB.sl.r_10 bwd_bodyB.sl.r_9 bwd_bodyB.sl.r_8 bwd_bodyB.sl.r_7 bwd_bodyB.sl.r_6 bwd_bodyB.sl.r_5 bwd_bodyB.sl.r_4 bwd_bodyB.sl.r_3 bwd_bodyB.sl.r_2 bwd_bodyB.sl.r_1 bwd_bodyB.sl.r bwd_bodyB.sl.v12 bwd_bodyB.sl.v13 bwd_bodyB.sl.HS0_1 bwd_bodyB.sl.HS1_1
  simp only [readAt_blkAt, blkAt_k, blkAt_v, blkAt_sk, blkAt_sv, readCov_sk, readCov_sv]

set_option maxHeartbeats 3200000 in
/-- A point inside a block of keys. -/
theorem bwd_bodyC (c : Dev nD) (i : grid2.Coords) (arg3 : Memref sig .tc .vmem S1x2048x256 .bf16) (harg3 : arg3.IsWhole) (arg4 : Memref sig .tc .vmem S1x1024x256 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x16384x256 .f32) (harg9 : arg9.IsWhole) (arg10 : Memref sig .tc .vmem S1x1024x256 .f32) (harg10 : arg10.IsWhole) (arg11 : Memref sig .tc .vmem S1x1024x128 .f32) (harg11 : arg11.IsWhole) (arg12 : Memref sig .tc .vmem S1024x256 .f32) (harg12 : arg12.IsWhole) (arg13 : Memref sig .tc .vmem S1024x128 .f32) (harg13 : arg13.IsWhole)
    (hcA : ¬ (Scalar.cmpi .ne (Scalar.extui (Scalar.andi (Scalar.cmpi .eq (BitVec.ofNat 32 (i 1).val) 0#32) (Scalar.cmpi .eq (BitVec.ofNat 32 (i 2).val) 0#32))) 0#32) = 1#1) (hcB : ¬ (Scalar.cmpi .ne (Scalar.extui (Scalar.cmpi .eq (BitVec.ofNat 32 (i 2).val) 0#32)) 0#32) = 1#1) (hcC : ¬ k2_cond3 i = 1#1)
    (x0 : Vec F S1x2048x256 .bf16) (x1 : Vec F S1x1024x256 .bf16) (x2 : Vec F S1x1024x128 .bf16) (x3 : Vec F S2048x128 .bf16) (x4 x5 : Vec F S2048x128 .f32) (d6 : Vec F S1x16384x256 .f32) (d7 : Vec F S1x1024x256 .f32) (d8 : Vec F S1x1024x128 .f32)
    (s0 : Vec F S1024x256 .f32) (s1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d6 ∗ owns (c : Thread nD τ) arg10 fullShare d7 ∗ owns (c : Thread nD τ) arg11 fullShare d8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (bQ3 i x0 x1 x2 x3 x4 x5 d6) ∗ owns (c : Thread nD τ) arg10 fullShare d7 ∗ owns (c : Thread nD τ) arg11 fullShare d8 ∗ owns (c : Thread nD τ) arg12 fullShare (k2_pay2 (bK x0 x1 x2 x3 x4 x5 s0)) ∗ owns (c : Thread nD τ) arg13 fullShare (k2_pay3 (bV x0 x1 x3 x4 s1))) -∗ K ⟨⟩))
      ⊢ wp frame (wpE (defs₀ (F := F)) Variants.none c none) E (cc2_mla_attnb i arg3 harg3 arg4 harg4 arg5 harg5 arg6 harg6 arg7 harg7 arg8 harg8 arg9 harg9 arg10 harg10 arg11 harg11 arg12 harg12 arg13 harg13) K := by
  simp only [cc2_mla_attnb_eq_skeleton]; unfold cc2_mla_attnb_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec (disch := first | sl_exact hcA | sl_exact hcB | sl_exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_cons_put _ _ _ _ _ rfl, View.read_writes_cons_put _ _ _ _ _ rfl, View.read_writes_cons_put _ _ _ _ _ rfl,
      View.read_writes_cons_put _ _ _ _ _ rfl, View.writes_nil, harg9.read_unread]
    delta bwd_bodyC.sl.r_18 bwd_bodyC.sl.r_17 bwd_bodyC.sl.r_16 bwd_bodyC.sl.r_15 bwd_bodyC.sl.r_14 bwd_bodyC.sl.r_13 bwd_bodyC.sl.r_12 bwd_bodyC.sl.r_11 bwd_bodyC.sl.r_10 bwd_bodyC.sl.r_9 bwd_bodyC.sl.r_8 bwd_bodyC.sl.r_7 bwd_bodyC.sl.r_6 bwd_bodyC.sl.r_5 bwd_bodyC.sl.r_4 bwd_bodyC.sl.r_3 bwd_bodyC.sl.r_2 bwd_bodyC.sl.r_1 bwd_bodyC.sl.r bwd_bodyC.sl.v74 bwd_bodyC.sl.v108 bwd_bodyC.sl.v142
    simp only [readAt_blkAt, blkAt_k, blkAt_v, blkAt_sk, blkAt_sv]
  isplitl [H7]
  · iexists _; isplitr; swap; · iexact H7
    ipureintro; exact harg10.read_unread _
  isplitl [H8]
  · iexists _; isplitr; swap; · iexact H8
    ipureintro; exact harg11.read_unread _
  isplitl [HS0]
  · iexists _; isplitr; swap; · iexact HS0
    ipureintro
    refine (View.read_writes_full _ _ _ _ _).trans ?_
    delta bwd_bodyC.sl.r_18 bwd_bodyC.sl.r_17 bwd_bodyC.sl.r_16 bwd_bodyC.sl.r_15 bwd_bodyC.sl.r_14 bwd_bodyC.sl.r_13 bwd_bodyC.sl.r_12 bwd_bodyC.sl.r_11 bwd_bodyC.sl.r_10 bwd_bodyC.sl.r_9 bwd_bodyC.sl.r_8 bwd_bodyC.sl.r_7 bwd_bodyC.sl.r_6 bwd_bodyC.sl.r_5 bwd_bodyC.sl.r_4 bwd_bodyC.sl.r_3 bwd_bodyC.sl.r_2 bwd_bodyC.sl.r_1 bwd_bodyC.sl.r
    simp only [readAt_blkAt, blkAt_k, blkAt_v, blkAt_sk, blkAt_sv]
  iexists _; isplitr; swap; · iexact HS1
  ipureintro
  refine (View.read_writes_full _ _ _ _ _).trans ?_
  delta bwd_bodyC.sl.r_18 bwd_bodyC.sl.r_17 bwd_bodyC.sl.r_16 bwd_bodyC.sl.r_15 bwd_bodyC.sl.r_14 bwd_bodyC.sl.r_13 bwd_bodyC.sl.r_12 bwd_bodyC.sl.r_11 bwd_bodyC.sl.r_10 bwd_bodyC.sl.r_9 bwd_bodyC.sl.r_8 bwd_bodyC.sl.r_7 bwd_bodyC.sl.r_6 bwd_bodyC.sl.r_5 bwd_bodyC.sl.r_4 bwd_bodyC.sl.r_3 bwd_bodyC.sl.r_2 bwd_bodyC.sl.r_1 bwd_bodyC.sl.r
  simp only [readAt_blkAt, blkAt_k, blkAt_v, blkAt_sk, blkAt_sv]

set_option maxHeartbeats 3200000 in
/-- A point that ends a block of keys. -/
theorem bwd_bodyD (c : Dev nD) (i : grid2.Coords) (arg3 : Memref sig .tc .vmem S1x2048x256 .bf16) (harg3 : arg3.IsWhole) (arg4 : Memref sig .tc .vmem S1x1024x256 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x16384x256 .f32) (harg9 : arg9.IsWhole) (arg10 : Memref sig .tc .vmem S1x1024x256 .f32) (harg10 : arg10.IsWhole) (arg11 : Memref sig .tc .vmem S1x1024x128 .f32) (harg11 : arg11.IsWhole) (arg12 : Memref sig .tc .vmem S1024x256 .f32) (harg12 : arg12.IsWhole) (arg13 : Memref sig .tc .vmem S1024x128 .f32) (harg13 : arg13.IsWhole)
    (hcA : ¬ (Scalar.cmpi .ne (Scalar.extui (Scalar.andi (Scalar.cmpi .eq (BitVec.ofNat 32 (i 1).val) 0#32) (Scalar.cmpi .eq (BitVec.ofNat 32 (i 2).val) 0#32))) 0#32) = 1#1) (hcB : ¬ (Scalar.cmpi .ne (Scalar.extui (Scalar.cmpi .eq (BitVec.ofNat 32 (i 2).val) 0#32)) 0#32) = 1#1) (hcC : k2_cond3 i = 1#1)
    (x0 : Vec F S1x2048x256 .bf16) (x1 : Vec F S1x1024x256 .bf16) (x2 : Vec F S1x1024x128 .bf16) (x3 : Vec F S2048x128 .bf16) (x4 x5 : Vec F S2048x128 .f32) (d6 : Vec F S1x16384x256 .f32) (d7 : Vec F S1x1024x256 .f32) (d8 : Vec F S1x1024x128 .f32)
    (s0 : Vec F S1024x256 .f32) (s1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d6 ∗ owns (c : Thread nD τ) arg10 fullShare d7 ∗ owns (c : Thread nD τ) arg11 fullShare d8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (bQ3 i x0 x1 x2 x3 x4 x5 d6) ∗ owns (c : Thread nD τ) arg10 fullShare (k2_pay4 (bK x0 x1 x2 x3 x4 x5 s0)) ∗ owns (c : Thread nD τ) arg11 fullShare (k2_pay5 (bV x0 x1 x3 x4 s1)) ∗ owns (c : Thread nD τ) arg12 fullShare (k2_pay2 (bK x0 x1 x2 x3 x4 x5 s0)) ∗ owns (c : Thread nD τ) arg13 fullShare (k2_pay3 (bV x0 x1 x3 x4 s1))) -∗ K ⟨⟩))
      ⊢ wp frame (wpE (defs₀ (F := F)) Variants.none c none) E (cc2_mla_attnb i arg3 harg3 arg4 harg4 arg5 harg5 arg6 harg6 arg7 harg7 arg8 harg8 arg9 harg9 arg10 harg10 arg11 harg11 arg12 harg12 arg13 harg13) K := by
  simp only [cc2_mla_attnb_eq_skeleton]; unfold cc2_mla_attnb_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, HS0⟩, ⟨%f10, %hf10, HS1⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  sl_exec (disch := first | sl_exact hcA | sl_exact hcB | sl_exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_cons_put _ _ _ _ _ rfl, View.read_writes_cons_put _ _ _ _ _ rfl, View.read_writes_cons_put _ _ _ _ _ rfl,
      View.read_writes_cons_put _ _ _ _ _ rfl, View.writes_nil, harg9.read_unread]
    delta bwd_bodyD.sl.r_18 bwd_bodyD.sl.r_17 bwd_bodyD.sl.r_16 bwd_bodyD.sl.r_15 bwd_bodyD.sl.r_14 bwd_bodyD.sl.r_13 bwd_bodyD.sl.r_12 bwd_bodyD.sl.r_11 bwd_bodyD.sl.r_10 bwd_bodyD.sl.r_9 bwd_bodyD.sl.r_8 bwd_bodyD.sl.r_7 bwd_bodyD.sl.r_6 bwd_bodyD.sl.r_5 bwd_bodyD.sl.r_4 bwd_bodyD.sl.r_3 bwd_bodyD.sl.r_2 bwd_bodyD.sl.r_1 bwd_bodyD.sl.r bwd_bodyD.sl.v74 bwd_bodyD.sl.v108 bwd_bodyD.sl.v142
    simp only [readAt_blkAt, blkAt_k, blkAt_v, blkAt_sk, blkAt_sv]
  isplitl [H7]
  · iexists _; isplitr; swap; · iexact H7
    ipureintro
    refine (View.read_writes_full _ _ _ _ _).trans ?_
    delta bwd_bodyD.sl.r_18 bwd_bodyD.sl.r_17 bwd_bodyD.sl.r_16 bwd_bodyD.sl.r_15 bwd_bodyD.sl.r_14 bwd_bodyD.sl.r_13 bwd_bodyD.sl.r_12 bwd_bodyD.sl.r_11 bwd_bodyD.sl.r_10 bwd_bodyD.sl.r_9 bwd_bodyD.sl.r_8 bwd_bodyD.sl.r_7 bwd_bodyD.sl.r_6 bwd_bodyD.sl.r_5 bwd_bodyD.sl.r_4 bwd_bodyD.sl.r_3 bwd_bodyD.sl.r_2 bwd_bodyD.sl.r_1 bwd_bodyD.sl.r
    simp only [readAt_blkAt, blkAt_k, blkAt_v, blkAt_sk, blkAt_sv]
  isplitl [H8]
  · iexists _; isplitr; swap; · iexact H8
    ipureintro
    refine (View.read_writes_full _ _ _ _ _).trans ?_
    delta bwd_bodyD.sl.r_18 bwd_bodyD.sl.r_17 bwd_bodyD.sl.r_16 bwd_bodyD.sl.r_15 bwd_bodyD.sl.r_14 bwd_bodyD.sl.r_13 bwd_bodyD.sl.r_12 bwd_bodyD.sl.r_11 bwd_bodyD.sl.r_10 bwd_bodyD.sl.r_9 bwd_bodyD.sl.r_8 bwd_bodyD.sl.r_7 bwd_bodyD.sl.r_6 bwd_bodyD.sl.r_5 bwd_bodyD.sl.r_4 bwd_bodyD.sl.r_3 bwd_bodyD.sl.r_2 bwd_bodyD.sl.r_1 bwd_bodyD.sl.r
    simp only [readAt_blkAt, blkAt_k, blkAt_v, blkAt_sk, blkAt_sv]
  isplitl [HS0]
  · iexists _; isplitr; swap; · iexact HS0
    ipureintro
    refine (View.read_writes_full _ _ _ _ _).trans ?_
    delta bwd_bodyD.sl.r_18 bwd_bodyD.sl.r_17 bwd_bodyD.sl.r_16 bwd_bodyD.sl.r_15 bwd_bodyD.sl.r_14 bwd_bodyD.sl.r_13 bwd_bodyD.sl.r_12 bwd_bodyD.sl.r_11 bwd_bodyD.sl.r_10 bwd_bodyD.sl.r_9 bwd_bodyD.sl.r_8 bwd_bodyD.sl.r_7 bwd_bodyD.sl.r_6 bwd_bodyD.sl.r_5 bwd_bodyD.sl.r_4 bwd_bodyD.sl.r_3 bwd_bodyD.sl.r_2 bwd_bodyD.sl.r_1 bwd_bodyD.sl.r
    simp only [readAt_blkAt, blkAt_k, blkAt_v, blkAt_sk, blkAt_sv]
  iexists _; isplitr; swap; · iexact HS1
  ipureintro
  refine (View.read_writes_full _ _ _ _ _).trans ?_
  delta bwd_bodyD.sl.r_18 bwd_bodyD.sl.r_17 bwd_bodyD.sl.r_16 bwd_bodyD.sl.r_15 bwd_bodyD.sl.r_14 bwd_bodyD.sl.r_13 bwd_bodyD.sl.r_12 bwd_bodyD.sl.r_11 bwd_bodyD.sl.r_10 bwd_bodyD.sl.r_9 bwd_bodyD.sl.r_8 bwd_bodyD.sl.r_7 bwd_bodyD.sl.r_6 bwd_bodyD.sl.r_5 bwd_bodyD.sl.r_4 bwd_bodyD.sl.r_3 bwd_bodyD.sl.r_2 bwd_bodyD.sl.r_1 bwd_bodyD.sl.r
  simp only [readAt_blkAt, blkAt_k, blkAt_v, blkAt_sk, blkAt_sv]

end Cert.AttnIdeal.Gen
end
-- ==== Proof.Attn.Bwd.lean ====
/-
  The backward call's region: what its buffers hold after each grid point, and that the body does it.

  The grid runs over heads, blocks of 1024 keys and blocks of 2048 queries, the queries innermost. The gradients of a
  block of keys and of its values are carried in two buffers from query block to query block, started at zero at the
  first and written out at the last. The gradient of a head's queries is one output block that stays in place for all
  the points of the head: zero at the first, and each point adds to the rows of its own queries.
-/
module

public import proofs.«01_k».proof.Proof.Attn.BwdBody
public import Idealize.ShloMosaic.Lib.WordCmp
public import Idealize.ShloMosaic.Lib.Pipeline.FrameBody

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's first condition: the point is the first of its head. -/
abbrev cond2_0 (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond2_0 : ∀ t : Fin cfg2.N, cond2_0 (grid2.coords t) ↔ t.val % 128 = 0 :=
  (fun t => by
    have ht : t.val < 1024 := Nat.lt_of_lt_of_eq t.isLt N_2
    have e1 : (grid2.coords t 1).val = t.val / 8 % 16 := Pipeline.Grid.coords_val t 1 (by decide) rfl
    have e2 : (grid2.coords t 2).val = t.val / 1 % 8 := Pipeline.Grid.coords_val t 2 (by decide) rfl
    simp only [cond2_0, e1, e2]
    word_cmp
   : ∀ t : Fin grid2.N, cond2_0 (grid2.coords t) ↔ t.val % 128 = 0)
/-- The second: the point is the first of its block of keys. -/
abbrev cond2_1 (i : grid2.Coords) : Prop := (Scalar.cmpi .ne (Scalar.extui (Scalar.cmpi .eq (BitVec.ofNat 32 (i 2).val) 0#32)) 0#32) = 1#1
theorem hcond2_1 : ∀ t : Fin cfg2.N, cond2_1 (grid2.coords t) ↔ t.val % 8 = 0 :=
  (fun t => by
    have ht : t.val < 1024 := Nat.lt_of_lt_of_eq t.isLt N_2
    have e2 : (grid2.coords t 2).val = t.val / 1 % 8 := Pipeline.Grid.coords_val t 2 (by decide) rfl
    simp only [cond2_1, e2]
    word_cmp
   : ∀ t : Fin grid2.N, cond2_1 (grid2.coords t) ↔ t.val % 8 = 0)
/-- The third: the point is the last of its block of keys. -/
theorem hcond2_2 : ∀ t : Fin cfg2.N, k2_cond3 (grid2.coords t) = 1#1 ↔ t.val % 8 = 7 :=
  (fun t => by
    have ht : t.val < 1024 := Nat.lt_of_lt_of_eq t.isLt N_2
    have e2 : (grid2.coords t 2).val = t.val / 1 % 8 := Pipeline.Grid.coords_val t 2 (by decide) rfl
    simp only [k2_cond3, e2]
    word_cmp
   : ∀ t : Fin grid2.N, k2_cond3 (grid2.coords t) = 1#1 ↔ t.val % 8 = 7)

abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)
abbrev hs2_4 (t : Fin cfg2.N) : (st2_4 t).IsWhole := hstage2_4 ((cfg2.slots t 4).cast nbuf2_4)
abbrev hs2_5 (t : Fin cfg2.N) : (st2_5 t).IsWhole := hstage2_5 ((cfg2.slots t 5).cast nbuf2_5)
abbrev hs2_6 (t : Fin cfg2.N) : (st2_6 t).IsWhole := hstage2_6 ((cfg2.slots t 6).cast nbuf2_6)
abbrev hs2_7 (t : Fin cfg2.N) : (st2_7 t).IsWhole := hstage2_7 ((cfg2.slots t 7).cast nbuf2_7)
abbrev hs2_8 (t : Fin cfg2.N) : (st2_8 t).IsWhole := hstage2_8 ((cfg2.slots t 8).cast nbuf2_8)
abbrev scM2_0 : Memref sig .tc .vmem S1024x256 .f32 := Memref.whole cc2_scratch0
abbrev scM2_1 : Memref sig .tc .vmem S1024x128 .f32 := Memref.whole cc2_scratch1

/-- The carried buffers' contents: the gradients of the block of keys and of its values so far. -/
abbrev Carry2 (F : FTy → Type) [FloatOps F] : Type := Vec F S1024x256 .f32 × Vec F S1024x128 .f32
abbrev init2 : Carry2 F := (k2_pay7, k2_pay8)
/-- What one point makes of the carried buffers. -/
abbrev step2 (c : Dev nD) (t : Fin cfg2.N) (s : Carry2 F) : Carry2 F :=
  (k2_pay2 (bK (iblk2 V c 0 t) (iblk2 V c 1 t) (iblk2 V c 2 t) (iblk2 V c 3 t) (iblk2 V c 4 t) (iblk2 V c 5 t) s.1), k2_pay3 (bV (iblk2 V c 0 t) (iblk2 V c 1 t) (iblk2 V c 3 t) (iblk2 V c 4 t) s.2))
/-- The carried buffers after point `n`. -/
def carry2 (c : Dev nD) : (n : ℕ) → n < cfg2.N → Carry2 F
  | 0, h => step2 V c ⟨0, h⟩ init2
  | n + 1, h => step2 V c ⟨n + 1, h⟩ (if (n + 1) % 8 = 0 then init2 else carry2 c n (Nat.lt_of_succ_lt h))
/-- The carried buffers a point works from. -/
def entry2 (c : Dev nD) (t : Fin cfg2.N) : Carry2 F :=
  if t.val % 8 = 0 then init2 else carry2 V c (t.val - 1) (lt_of_le_of_lt (Nat.sub_le _ _) t.isLt)
/-- What one point makes of the head's query gradient. -/
abbrev stepQ (c : Dev nD) (t : Fin cfg2.N) (e : Vec F S1x16384x256 .f32) : Vec F S1x16384x256 .f32 :=
  bQ3 (grid2.coords t) (iblk2 V c 0 t) (iblk2 V c 1 t) (iblk2 V c 2 t) (iblk2 V c 3 t) (iblk2 V c 4 t) (iblk2 V c 5 t) e
/-- The head's query gradient after point `n`. -/
def dq2 (c : Dev nD) : (n : ℕ) → n < cfg2.N → Vec F S1x16384x256 .f32
  | 0, h => stepQ V c ⟨0, h⟩ k2_pay6
  | n + 1, h => stepQ V c ⟨n + 1, h⟩ (if (n + 1) % 128 = 0 then k2_pay6 else dq2 c n (Nat.lt_of_succ_lt h))
/-- The head's query gradient a point works from. -/
def entryQ (c : Dev nD) (t : Fin cfg2.N) : Vec F S1x16384x256 .f32 :=
  if t.val % 128 = 0 then k2_pay6 else dq2 V c (t.val - 1) (lt_of_le_of_lt (Nat.sub_le _ _) t.isLt)

theorem carry2_eq (c : Dev nD) (t : Fin cfg2.N) : carry2 V c t.val t.isLt = step2 V c t (entry2 V c t) := by
  obtain ⟨n, h⟩ := t
  cases n with
  | zero => rw [carry2]; unfold entry2; rfl
  | succ n => rw [carry2]; unfold entry2; rfl
theorem dq2_eq (c : Dev nD) (t : Fin cfg2.N) : dq2 V c t.val t.isLt = stepQ V c t (entryQ V c t) := by
  obtain ⟨n, h⟩ := t
  cases n with
  | zero => rw [dq2]; unfold entryQ; rfl
  | succ n => rw [dq2]; unfold entryQ; rfl

/-- The invariant between points: inside a block of keys the carried buffers are what the last point left. -/
def Phi2 (c : Dev nD) (n : ℕ) : sProp 𝕄 :=
  iprop(iprop((∃ s : Carry2 F, iprop(⌜n % 8 ≠ 0 → ∀ h : n - 1 < cfg2.N, s = carry2 V c (n - 1) h⌝
      ∗ owns (c : Thread nD τ) scM2_0 fullShare s.1 ∗ owns (c : Thread nD τ) scM2_1 fullShare s.2))
    ∗ Pipeline.scopedRestBut spec2 c [cc2_scratch0, cc2_scratch1]) ∗ (∃ r, prngReg c r))

/-- The region's data: inputs left in place, the query gradient at every point, the keys' and values' at the last. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => dq2 V c t.val t.isLt
    | ⟨7, _⟩ => k2_pay4 (bK (iblk2 V c 0 t) (iblk2 V c 1 t) (iblk2 V c 2 t) (iblk2 V c 3 t) (iblk2 V c 4 t) (iblk2 V c 5 t) (entry2 V c t).1)
    | ⟨8, _⟩ => k2_pay5 (bV (iblk2 V c 0 t) (iblk2 V c 1 t) (iblk2 V c 3 t) (iblk2 V c 4 t) (entry2 V c t).2)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = dq2 V c t.val t.isLt := by dsimp only [dat2]
theorem after2_7 (c : Dev nD) (t : Fin cfg2.N) : (dat2 V c).after 7 t = k2_pay4 (bK (iblk2 V c 0 t) (iblk2 V c 1 t) (iblk2 V c 2 t) (iblk2 V c 3 t) (iblk2 V c 4 t) (iblk2 V c 5 t) (entry2 V c t).1) := by dsimp only [dat2]
theorem after2_8 (c : Dev nD) (t : Fin cfg2.N) : (dat2 V c).after 8 t = k2_pay5 (bV (iblk2 V c 0 t) (iblk2 V c 1 t) (iblk2 V c 3 t) (iblk2 V c 4 t) (entry2 V c t).2) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- Past the head's first point the query gradient's buffer holds what the last point left. -/
theorem before2_6 (c : Dev nD) (t : Fin cfg2.N) (h : ¬ t.val % 128 = 0) (d) : (dat2 V c).before 6 t d = entryQ V c t := by
  rw [(dat2 V c).before_out_kept 6 rfl t (fun e => h (by rw [e])) (Bool.eq_false_iff.2 fun hf => ?_) (fun _ => rfl) (fun _ _ => rfl) d, after2_6]
  · unfold entryQ; rw [if_neg h]
  · have := (flush2_6 _).mp hf
    dsimp only at this; omega

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

theorem Phi2_succ (c : Dev nD) (t : Fin cfg2.N) (s : Carry2 F) (hs : s = entry2 V c t) :
    (t.val + 1) % 8 ≠ 0 → ∀ h : t.val + 1 - 1 < cfg2.N, step2 V c t s = carry2 V c (t.val + 1 - 1) h := by
  intro _ h; subst hs
  exact (carry2_eq V c t).symm

theorem entry2_of (c : Dev nD) (t : Fin cfg2.N) (h0 : ¬ t.val % 8 = 0) (s : Carry2 F)
    (hs : t.val % 8 ≠ 0 → ∀ h : t.val - 1 < cfg2.N, s = carry2 V c (t.val - 1) h) : s = entry2 V c t := by
  unfold entry2; rw [if_neg h0]; exact hs h0 _

theorem entry2_first (c : Dev nD) (t : Fin cfg2.N) (h0 : t.val % 8 = 0) : (init2 : Carry2 F) = entry2 V c t := by
  unfold entry2; rw [if_pos h0]

theorem entryQ_first (c : Dev nD) (t : Fin cfg2.N) (h0 : t.val % 128 = 0) : (k2_pay6 : Vec F S1x16384x256 .f32) = entryQ V c t := by
  unfold entryQ; rw [if_pos h0]

set_option maxHeartbeats 3200000 in
/-- The body at any point does what the data say. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.castSucc = Phi2 V c t.val from rfl, show (dat2 V c).Φ t.succ = Phi2 V c (t.val + 1) from rfl]
  unfold Phi2
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3,
    show (dat2 V c).leavesExact 4 t = owns (c : Thread nD τ) (st2_4 t) fullShare ((dat2 V c).after 4 t) from rfl, after2_4,
    show (dat2 V c).leavesExact 5 t = owns (c : Thread nD τ) (st2_5 t) fullShare ((dat2 V c).after 5 t) from rfl, after2_5,
    show (dat2 V c).leavesExact 6 t = owns (c : Thread nD τ) (st2_6 t) fullShare ((dat2 V c).after 6 t) from rfl, after2_6]
  rw [dq2_eq]
  by_cases h1 : t.val % 8 = 7
  · have h0 : ¬ t.val % 8 = 0 := by omega
    have hA : ¬ t.val % 128 = 0 := by omega
    simp only [before2_6 V c t hA]
    have hl : ∀ b : BitVec 1, b = 1#1 → (!(b == 1#1)) = false := by decide
    rw [show (dat2 V c).leavesExact 7 t = owns (c : Thread nD τ) (st2_7 t) fullShare ((dat2 V c).after 7 t) from by
        unfold Dat.leavesExact; rw [show cfg2.idle 7 (grid2.coords t) = false from hl _ ((hcond2_2 t).mpr h1)], after2_7,
      show (dat2 V c).leavesExact 8 t = owns (c : Thread nD τ) (st2_8 t) fullShare ((dat2 V c).after 8 t) from by
        unfold Dat.leavesExact; rw [show cfg2.idle 8 (grid2.coords t) = false from hl _ ((hcond2_2 t).mpr h1)], after2_8]
    iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hs' := entry2_of V c t h0 s hs
    rw [← hs']
    iapply (bwd_bodyD c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _)
      (fun h => hA ((hcond2_0 t).mp h)) (fun h => h0 ((hcond2_1 t).mp h)) ((hcond2_2 t).mpr h1) (iblk2 V c 0 t) (iblk2 V c 1 t) (iblk2 V c 2 t) (iblk2 V c 3 t) (iblk2 V c 4 t) (iblk2 V c 5 t) (entryQ V c t) _ _ s.1 s.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · iexists (step2 V c t s)
          isplitr; · ipureintro; exact Phi2_succ V c t s hs'
          isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hi : ∀ b : BitVec 1, ¬ b = 1#1 → (!(b == 1#1)) = true := by decide
    have hc1 : ¬ k2_cond3 (grid2.coords t) = 1#1 := fun h => h1 ((hcond2_2 t).mp h)
    rw [(dat2 V c).leavesExact_idle 7 t (hi _ hc1) (Bool.eq_false_iff.2 fun h => h1 ((flush2_7 t).mp h)),
      (dat2 V c).leavesExact_idle 8 t (hi _ hc1) (Bool.eq_false_iff.2 fun h => h1 ((flush2_8 t).mp h))]
    by_cases hA : t.val % 128 = 0
    · have h0 : t.val % 8 = 0 := by omega
      rw [← entryQ_first V c t hA]
      iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bwd_bodyA c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _)
        ((hcond2_0 t).mpr hA) ((hcond2_1 t).mpr h0) hc1 (iblk2 V c 0 t) (iblk2 V c 1 t) (iblk2 V c 2 t) (iblk2 V c 3 t) (iblk2 V c 4 t) (iblk2 V c 5 t) _ _ _ s.1 s.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · iexists (step2 V c t init2)
            isplitr; · ipureintro; exact Phi2_succ V c t init2 (entry2_first V c t h0)
            isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      iexists d8; iexact H8
    · simp only [before2_6 V c t hA]
      iintro ⟨⟨⟨⟨%s, %hs, HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      by_cases h0 : t.val % 8 = 0
      · iapply (bwd_bodyB c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _)
          (fun h => hA ((hcond2_0 t).mp h)) ((hcond2_1 t).mpr h0) hc1 (iblk2 V c 0 t) (iblk2 V c 1 t) (iblk2 V c 2 t) (iblk2 V c 3 t) (iblk2 V c 4 t) (iblk2 V c 5 t) (entryQ V c t) _ _ s.1 s.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, HS0, HS1⟩
        isplitl [HS0 HS1 HR Hg]
        · isplitl [HS0 HS1 HR]
          · isplitl [HS0 HS1]
            · iexists (step2 V c t init2)
              isplitr; · ipureintro; exact Phi2_succ V c t init2 (entry2_first V c t h0)
              isplitl [HS0]; · iexact HS0
              iexact HS1
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8
      · have hs' := entry2_of V c t h0 s hs
        iapply (bwd_bodyC c (grid2.coords t) (st2_0 t) (hs2_0 t) (st2_1 t) (hs2_1 t) (st2_2 t) (hs2_2 t) (st2_3 t) (hs2_3 t) (st2_4 t) (hs2_4 t) (st2_5 t) (hs2_5 t) (st2_6 t) (hs2_6 t) (st2_7 t) (hs2_7 t) (st2_8 t) (hs2_8 t) scM2_0 (Memref.isWhole_whole _) scM2_1 (Memref.isWhole_whole _)
          (fun h => hA ((hcond2_0 t).mp h)) (fun h => h0 ((hcond2_1 t).mp h)) hc1 (iblk2 V c 0 t) (iblk2 V c 1 t) (iblk2 V c 2 t) (iblk2 V c 3 t) (iblk2 V c 4 t) (iblk2 V c 5 t) (entryQ V c t) _ _ s.1 s.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, HS0, HS1⟩
        isplitl [HS0 HS1 HR Hg]
        · isplitl [HS0 HS1 HR]
          · isplitl [HS0 HS1]
            · iexists (step2 V c t s)
              isplitr; · ipureintro; exact Phi2_succ V c t s hs'
              isplitl [HS0]; · iexact HS0
              iexact HS1
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists d7; iexact H7
        iexists d8; iexact H8

theorem defs₀_row2 (t : Fin cfg2.N) : defs₀ (F := F) .tc cfg2.body (cfg2.bodyArgs t (cfg2.slots t)) = bodyAt2 t := by
  unfold defs₀; rw [Defs.onTc_tc]

/-- The library's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The region's own buffers at entry and exit: at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA
  rw [Pipeline.scopedRest_split_of_list spec2 c [cc2_scratch0, cc2_scratch1] (by decide) (by decide)]
  simp only [scM2_0, scM2_1, owns_whole]; try rfl

theorem hin2 (c : Dev nD) : (Pipeline.ΦA spec2 c : sProp 𝕄) ⊢ (dat2 V c).Φ 0 := by
  rw [show (dat2 V c).Φ 0 = Phi2 V c 0 from rfl, PhiA2_eq]; unfold Phi2
  iintro ⟨⟨⟨⟨%d0, HS0⟩, ⟨%d1, HS1⟩⟩, HR⟩, Hg⟩
  isplitl [HS0 HS1 HR]
  · isplitl [HS0 HS1]
    · iexists ((d0, d1) : Carry2 F)
      isplitr; · ipureintro; intro h; exact absurd rfl h
      isplitl [HS0]; · iexact HS0
      iexact HS1
    iexact HR
  iexact Hg

theorem hout2 (c : Dev nD) : (dat2 V c).Φ (Fin.last cfg2.N) ⊢ (Pipeline.ΦA spec2 c : sProp 𝕄) := by
  rw [show (dat2 V c).Φ (Fin.last cfg2.N) = Phi2 V c cfg2.N from rfl, PhiA2_eq]; unfold Phi2
  iintro ⟨⟨⟨%s, %hs, HS0, HS1⟩, HR⟩, Hg⟩
  isplitl [HS0 HS1 HR]
  · isplitl [HS0 HS1]
    · isplitl [HS0]; · iexists _; iexact HS0
      iexists _; iexact HS1
    iexact HR
  iexact Hg

end Cert.AttnIdeal.Gen
end
-- ==== Proof.Attn.Run.lean ====
/-
  The attention program runs: the host lines, the three calls one after another, the last host lines. At each boundary
  every buffer's contents are named, so the run says both that the arguments end as launched and what the results hold.
-/
module

public import proofs.«01_k».proof.Proof.Attn.Fwd
public import proofs.«01_k».proof.Proof.Attn.Do
public import proofs.«01_k».proof.Proof.Attn.Bwd
public import proofs.«01_k».proof.Proof.Gen.AttnIdeal.Regions
public import Idealize.ShloMosaic.Lib.Pipeline.RegionsLoop
public import Idealize.ShloMosaic.Lib.Pipeline.FrameSuffix
public import Idealize.ShloMosaic.Lib.WordCmp
public import Idealize.ShloMosaic.Lib.Pipeline.FrameBody

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch, -/
abbrev W0 : Dev nD → Valuation τ sig (Elt F) := fun c b => (s₀ m ρ).mem ((c : Dev nD), b)
/-- after the first host lines, -/
abbrev W1 : Dev nD → Valuation τ sig (Elt F) := fun c => StableHlo.after hostOps0 (W0 m ρ c)
abbrev R1 : (c : Dev nD) → (b : Ref sig .tc) → Buf (Elt F) ((c : Thread nD τ).loc b) := fun c b => W1 m ρ c b
/-- After call 0: its arrays at what it leaves, every other buffer as it found it. -/
def W2 (c : Dev nD) : Valuation τ sig (Elt F) :=
  Pipeline.withArrays spec0 c (W1 m ρ c) fun w => (dat0 (R1 m ρ) c).arrAt w cfg0.N
abbrev R2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (R1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After call 1: its arrays at what it leaves, every other buffer as it found it. -/
def W3 (c : Dev nD) : Valuation τ sig (Elt F) :=
  Pipeline.withArrays spec1 c (W2 m ρ c) fun w => (dat1 (R2 m ρ) c).arrAt w cfg1.N
abbrev R3 : (c : Dev nD) → (b : Ref sig .tc) → Buf (Elt F) ((c : Thread nD τ).loc b) := fun c b => W3 m ρ c b
theorem W3_arr (c : Dev nD) (w : Fin cfg1.W) :
    W3 m ρ c (Proc.devRef .tc (Pipeline.arrRef spec1 w)) = (dat1 (R2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- After call 2: its arrays at what it leaves, every other buffer as it found it. -/
def W4 (c : Dev nD) : Valuation τ sig (Elt F) :=
  Pipeline.withArrays spec2 c (W3 m ρ c) fun w => (dat2 (R3 m ρ) c).arrAt w cfg2.N
abbrev R4 : (c : Dev nD) → (b : Ref sig .tc) → Buf (Elt F) ((c : Thread nD τ).loc b) := fun c b => W4 m ρ c b
theorem W4_arr (c : Dev nD) (w : Fin cfg2.W) :
    W4 m ρ c (Proc.devRef .tc (Pipeline.arrRef spec2 w)) = (dat2 (R3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

/-- after the last host lines. -/
abbrev W5 : Dev nD → Valuation τ sig (Elt F) := fun c => StableHlo.after hostOps3 (W4 m ρ c)

/-- What no call has as an array and no host line writes ends as launched. -/
theorem W5_of (c : Dev nD) (r : Ref sig .tc) (h0 : r ∉ hostOps0_W) (h3 : r ∉ hostOps3_W) (k0 : ∀ w, Pipeline.arrRef spec0 w ≠ r)
    (k1 : ∀ w, Pipeline.arrRef spec1 w ≠ r) (k2 : ∀ w, Pipeline.arrRef spec2 w ≠ r) :
    W5 m ρ c (Proc.devRef .tc r) = m ((c : Thread nD τ).loc r) :=
  (StableHlo.after_of_writes_sub hostOps3 _ hostOps3_writes h3).trans ((W4_of_ne m ρ c r k2).trans ((W3_of_ne m ρ c r k1).trans
    ((W2_of_ne m ρ c r k0).trans (StableHlo.after_of_writes_sub hostOps0 _ hostOps0_writes h0))))
/-- The second call reads two arguments; an input array is never written back. -/
theorem W5_in (c : Dev nD) (r : Ref sig .tc) (w : Fin cfg1.W) (hw : (cfg1.win w).isOut = false) (e : Pipeline.arrRef spec1 w = r) (h0 : r ∉ hostOps0_W) (h3 : r ∉ hostOps3_W)
    (k0 : ∀ w, Pipeline.arrRef spec0 w ≠ r) (k2 : ∀ w, Pipeline.arrRef spec2 w ≠ r) :
    W5 m ρ c (Proc.devRef .tc r) = m ((c : Thread nD τ).loc r) := by
  refine (StableHlo.after_of_writes_sub hostOps3 _ hostOps3_writes h3).trans ((W4_of_ne m ρ c r k2).trans (Eq.trans ?_
    ((W2_of_ne m ρ c r k0).trans (StableHlo.after_of_writes_sub hostOps0 _ hostOps0_writes h0))))
  subst e
  exact (W3_arr m ρ c w).trans (((dat1 (R2 m ρ) c).arrAt_in w hw _).trans (A_eq1 (R2 m ρ) c w))

/-- The three calls' data, each from its own boundary. -/
def pdats : (p : Fin 3) → (c : Dev nD) → Dat τ (Elt F) Unit ℕ (UR sig nD τ) ℕ (Pipeline.pin (pcfgs (F := F)) adm p) c
  | ⟨0, _⟩ => fun c => dat0 (R1 m ρ) c
  | ⟨1, _⟩ => fun c => dat1 (R2 m ρ) c
  | ⟨2, _⟩ => fun c => dat2 (R3 m ρ) c
abbrev 𝒱₀ : Variants := Variants.none
/-- No core owes another anything. -/
abbrev L : GSem nD τ sig → Finset Unit := fun _ => ∅
abbrev lv : GSem nD τ sig → Unit → ℕ := fun _ _ => 0
/-- What rides along: the generator register at some state, and nothing owed. -/
abbrev Rr (c : Dev nD) : sProp 𝕄 := iprop((∃ r, prngReg c r) ∗ ∃ W, owes (c : Thread nD τ) (0 : CellTallies nD τ sig Unit) W)
/-- Host lines as a segment between two named boundaries. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- How a core ends: every buffer at the last boundary. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- A call as a segment between two boundaries: its arrays out of the buffers held and back, the generator register
    into its invariant and out. -/
def reg (p : Fin 3) (kit : Pipeline.LaunchFacts (nD := nD) (τ := τ) cfgs p) (Wi Wo : Dev nD → Valuation τ sig (Elt F))
    (hbody : ∀ c, BodyObligation (pdats m ρ p c) (defs₀ (F := F)) 𝒱₀ () Set.univ)
    (howed : ∀ c t, (pdats m ρ p c).owed t = 0) (hrec : ∀ c t, (pdats m ρ p c).recorded t = Set.univ)
    (hshare : ∀ c w, (pdats m ρ p c).share w = fullShare)
    (hA : ∀ c w, (pdats m ρ p c).A w = Wi c (Proc.devRef .tc (Pipeline.arrRef (cfgs p).spec w)))
    (hF : ∀ c w, (pdats m ρ p c).arrAt w (cfgs p).N = Wo c (Proc.devRef .tc (Pipeline.arrRef (cfgs p).spec w)))
    (hrest : ∀ c (b : Ref sig .tc), b ∉ Finset.univ.image (Pipeline.arrRef (cfgs p).spec) → Wo c (Proc.devRef .tc b) = Wi c (Proc.devRef .tc b))
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) kit.win kit.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) (hshare c)
      (fun b => Wi c b) (fun b => Wo c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

set_option backward.isDefEq.respectTransparency.types false in
def reg0 : Pipeline.RegionSeg (pcfgs (F := F)) adm (pdats m ρ) () defs₀ 𝒱₀ L lv 0 :=
  reg m ρ 0 launch0 (W1 m ρ) (W2 m ρ) (body_obligation0 (R1 m ρ)) (fun _ _ => rfl) (fun _ _ => rfl)
    (fun c => (dat0 (R1 m ρ) c).share_full fun _ => rfl) (A_eq0 (R1 m ρ)) (fun c w => (W2_arr m ρ c w).symm)
    (fun c b hb => W2_of_ne m ρ c b fun w e => hb (Finset.mem_image.mpr ⟨w, Finset.mem_univ _, e⟩)) (hin0 (R1 m ρ)) (hout0 (R1 m ρ))
set_option backward.isDefEq.respectTransparency.types false in
def reg1 : Pipeline.RegionSeg (pcfgs (F := F)) adm (pdats m ρ) () defs₀ 𝒱₀ L lv 1 :=
  reg m ρ 1 launch1 (W2 m ρ) (W3 m ρ) (body_obligation1 (R2 m ρ)) (fun _ _ => rfl) (fun _ _ => rfl)
    (fun c => (dat1 (R2 m ρ) c).share_full fun _ => rfl) (A_eq1 (R2 m ρ)) (fun c w => (W3_arr m ρ c w).symm)
    (fun c b hb => W3_of_ne m ρ c b fun w e => hb (Finset.mem_image.mpr ⟨w, Finset.mem_univ _, e⟩)) (fun _ => .rfl) (fun _ => .rfl)
set_option backward.isDefEq.respectTransparency.types false in
def reg2 : Pipeline.RegionSeg (pcfgs (F := F)) adm (pdats m ρ) () defs₀ 𝒱₀ L lv 2 :=
  reg m ρ 2 launch2 (W3 m ρ) (W4 m ρ) (body_obligation2 (R3 m ρ)) (fun _ _ => rfl) (fun _ _ => rfl)
    (fun c => (dat2 (R3 m ρ) c).share_full fun _ => rfl) (A_eq2 (R3 m ρ)) (fun c w => (W4_arr m ρ c w).symm)
    (fun c b hb => W4_of_ne m ρ c b fun w e => hb (Finset.mem_image.mpr ⟨w, Finset.mem_univ _, e⟩)) (hin2 (R3 m ρ)) (hout2 (R3 m ρ))
/-- The program as five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program is the run of these segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every weakly fair run ends, with every buffer at the last boundary's contents and every counter at zero. -/
theorem run_main : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c _ (mem_uc main_arg0 (by decide))).trans (W5_of m ρ c main_arg0 (by decide) (by decide) (by decide) (by decide) (by decide)),
    (h.1 c _ (mem_uc main_arg1 (by decide))).trans (W5_of m ρ c main_arg1 (by decide) (by decide) (by decide) (by decide) (by decide)),
    (h.1 c _ (mem_uc main_arg2 (by decide))).trans (W5_of m ρ c main_arg2 (by decide) (by decide) (by decide) (by decide) (by decide)),
    (h.1 c _ (mem_uc main_arg3 (by decide))).trans (W5_of m ρ c main_arg3 (by decide) (by decide) (by decide) (by decide) (by decide)),
    (h.1 c _ (mem_uc main_arg4 (by decide))).trans (W5_of m ρ c main_arg4 (by decide) (by decide) (by decide) (by decide) (by decide)),
    (h.1 c _ (mem_uc main_arg5 (by decide))).trans (W5_in m ρ c main_arg5 1 rfl rfl (by decide) (by decide) (by decide) (by decide)),
    (h.1 c _ (mem_uc main_arg6 (by decide))).trans (W5_in m ρ c main_arg6 0 rfl rfl (by decide) (by decide) (by decide) (by decide))⟩, h.2⟩) (run_main m ρ)

end Cert.AttnIdeal.Run
end
-- ==== Proof.Attn.BwdTile.lean ====
module
public import proofs.«01_k».proof.Proof.Attn.BwdBody
public import proofs.«01_k».proof.Proof.Attn.FwdPoint
@[expose] public section
set_option maxRecDepth 16384
noncomputable section
/-! One tile of the attention's backward pass, 512 queries against 1024 keys, over the reals. -/
namespace Cert.AttnIdeal.Value
open Idealize.ShloMosaic Idealize.ShloMosaic.TcCoe Idealize.SL.Sem
open Cert.AttnIdeal Cert.AttnIdeal.Gen

/-- The tile's weights. -/
abbrev tP (k : Vec Ideal S1x1024x256 .bf16) (q : Vec Ideal S1x512x256 .bf16) (l : Vec Ideal S512x128 .f32) : FVec Ideal S512x1024 .f32 := k2_pay13 k q l
/-- The gradient of the tile's weights, less the row's sum. -/
abbrev tG (v : Vec Ideal S1x1024x128 .bf16) (g : Vec Ideal S512x128 .bf16) (l : Vec Ideal S512x128 .f32) : FVec Ideal S512x1024 .f32 := k2_pay14 v g l
/-- The gradient of the tile's scores. -/
abbrev tS (p g : FVec Ideal S512x1024 .f32) : FVec Ideal S512x1024 .bf16 := k2_pay15 p g
/-- What the tile adds to the values' gradient, -/
abbrev tV (s : Vec Ideal S1024x128 .f32) (g : Vec Ideal S512x128 .bf16) (p : FVec Ideal S512x1024 .f32) : FVec Ideal S1024x128 .f32 := k2_pay16 s (k2_pay12 g) p
/-- to the keys', -/
abbrev tK (s : Vec Ideal S1024x256 .f32) (q : Vec Ideal S1x512x256 .bf16) (p g : FVec Ideal S512x1024 .f32) : FVec Ideal S1024x256 .f32 := k2_pay17 s (k2_pay11 q) p g
/-- and to the queries'. -/
abbrev tQ (k : Vec Ideal S1x1024x256 .bf16) (p g : FVec Ideal S512x1024 .f32) (e : Vec Ideal S1x512x256 .f32) : FVec Ideal S1x512x256 .f32 := k2_pay18 (k2_pay9 k) p g e

section
variable (i : grid2.Coords) (x0 : Vec Ideal S1x2048x256 .bf16) (x1 : Vec Ideal S1x1024x256 .bf16) (x2 : Vec Ideal S1x1024x128 .bf16) (x3 : Vec Ideal S2048x128 .bf16) (x4 x5 : Vec Ideal S2048x128 .f32)
abbrev p0 := tP x1 (qRows0 x0) (stRows0 x4)
abbrev g0 := tG x2 (doRows0 x3) (stRows0 x5)
abbrev p1 := tP x1 (qRows1 x0) (stRows1 x4)
abbrev g1 := tG x2 (doRows1 x3) (stRows1 x5)
abbrev p2 := tP x1 (qRows2 x0) (stRows2 x4)
abbrev g2 := tG x2 (doRows2 x3) (stRows2 x5)
abbrev p3 := tP x1 (qRows3 x0) (stRows3 x4)
abbrev g3 := tG x2 (doRows3 x3) (stRows3 x5)
theorem bV_eq (s1) : bV x0 x1 x3 x4 s1 = tV (tV (tV (tV s1 (doRows0 x3) (p0 x0 x1 x4)) (doRows1 x3) (p1 x0 x1 x4)) (doRows2 x3) (p2 x0 x1 x4)) (doRows3 x3) (p3 x0 x1 x4) := rfl
theorem bK_eq (s0) : bK x0 x1 x2 x3 x4 x5 s0 = tK (tK (tK (tK s0 (qRows0 x0) (p0 x0 x1 x4) (g0 x2 x3 x5)) (qRows1 x0) (p1 x0 x1 x4) (g1 x2 x3 x5)) (qRows2 x0) (p2 x0 x1 x4) (g2 x2 x3 x5)) (qRows3 x0) (p3 x0 x1 x4) (g3 x2 x3 x5) := rfl
theorem bQ0_eq (e) : bQ0 i x0 x1 x2 x3 x4 x5 e = dqPut0 i e (tQ x1 (p0 x0 x1 x4) (g0 x2 x3 x5) (dqRows0 i e)) := rfl
theorem bQ1_eq (e) : bQ1 i x0 x1 x2 x3 x4 x5 e = dqPut1 i (bQ0 i x0 x1 x2 x3 x4 x5 e) (tQ x1 (p1 x0 x1 x4) (g1 x2 x3 x5) (dqRows1 i e)) := rfl
theorem bQ2_eq (e) : bQ2 i x0 x1 x2 x3 x4 x5 e = dqPut2 i (bQ1 i x0 x1 x2 x3 x4 x5 e) (tQ x1 (p2 x0 x1 x4) (g2 x2 x3 x5) (dqRows2 i e)) := rfl
theorem bQ3_eq (e) : bQ3 i x0 x1 x2 x3 x4 x5 e = dqPut3 i (bQ2 i x0 x1 x2 x3 x4 x5 e) (tQ x1 (p3 x0 x1 x4) (g3 x2 x3 x5) (dqRows3 i e)) := rfl
end

theorem tP_at (k q l) (r : Fin 512) (x : Fin 1024) (L : EReal) (hl : ∀ a, l (ix2 r a) = L) :
    tP k q l (ix2 r x) = Ideal.exp ((∑ e : Fin 256, q (ix3 0 r e) * k (ix3 0 x e)) - L) := by
  pointwise! [k2_pay13, k2_pay11, k2_pay9]
  simp only [hl, dite_eq_ite, ite_self]
theorem tG_at (v g l) (r : Fin 512) (x : Fin 1024) (L : EReal) (hl : ∀ a, l (ix2 r a) = L) :
    tG v g l (ix2 r x) = (∑ d : Fin 128, g (ix2 r d) * v (ix3 0 x d)) - L := by
  pointwise! [k2_pay14, k2_pay12, k2_pay10]
  simp only [hl, dite_eq_ite, ite_self]
theorem tV_at (s g p) (x : Fin 1024) (d : Fin 128) :
    tV s g p (ix2 x d) = s (ix2 x d) + ∑ r : Fin 512, p (ix2 r x) * g (ix2 r d) := by
  pointwise [k2_pay16, k2_pay12]
theorem tK_at (s q p g) (x : Fin 1024) (e : Fin 256) :
    tK s q p g (ix2 x e) = s (ix2 x e) + ∑ r : Fin 512, p (ix2 r x) * g (ix2 r x) * q (ix3 0 r e) := by
  pointwise [k2_pay17, k2_pay15, k2_pay11]
theorem tQ_at (k p g e) (r : Fin 512) (d : Fin 256) :
    tQ k p g e (ix3 0 r d) = e (ix3 0 r d) + ∑ x : Fin 1024, p (ix2 r x) * g (ix2 r x) * k (ix3 0 x d) := by
  pointwise [k2_pay18, k2_pay15, k2_pay9]
theorem qRows0_at (k : Vec Ideal S1x2048x256 .bf16) (x : Fin 512) (d : Fin 256) : qRows0 k (ix3 0 x d) = k (ix3 0 ⟨0 + x.val, by omega⟩ d) := by
  unfold qRows0; refine congrArg k (funext fun a => Fin.ext ?_)
  fin_cases a <;> simp [LoadRect.idx, Rect.toLoadRect, Rect.unit, ix3]
theorem doRows0_at (k : Vec Ideal S2048x128 .bf16) (x : Fin 512) (d : Fin 128) : doRows0 k (ix2 x d) = k (ix2 ⟨0 + x.val, by omega⟩ d) := by
  unfold doRows0; refine congrArg k (funext fun a => Fin.ext ?_)
  fin_cases a <;> simp [LoadRect.idx, Rect.toLoadRect, Rect.unit, ix2]
theorem stRows0_at (k : Vec Ideal S2048x128 .f32) (x : Fin 512) (d : Fin 128) : stRows0 k (ix2 x d) = k (ix2 ⟨0 + x.val, by omega⟩ d) := by
  unfold stRows0; refine congrArg k (funext fun a => Fin.ext ?_)
  fin_cases a <;> simp [LoadRect.idx, Rect.toLoadRect, Rect.unit, ix2]
theorem qRows1_at (k : Vec Ideal S1x2048x256 .bf16) (x : Fin 512) (d : Fin 256) : qRows1 k (ix3 0 x d) = k (ix3 0 ⟨512 + x.val, by omega⟩ d) := by
  unfold qRows1; refine congrArg k (funext fun a => Fin.ext ?_)
  fin_cases a <;> simp [LoadRect.idx, Rect.toLoadRect, Rect.unit, ix3]
theorem doRows1_at (k : Vec Ideal S2048x128 .bf16) (x : Fin 512) (d : Fin 128) : doRows1 k (ix2 x d) = k (ix2 ⟨512 + x.val, by omega⟩ d) := by
  unfold doRows1; refine congrArg k (funext fun a => Fin.ext ?_)
  fin_cases a <;> simp [LoadRect.idx, Rect.toLoadRect, Rect.unit, ix2]
theorem stRows1_at (k : Vec Ideal S2048x128 .f32) (x : Fin 512) (d : Fin 128) : stRows1 k (ix2 x d) = k (ix2 ⟨512 + x.val, by omega⟩ d) := by
  unfold stRows1; refine congrArg k (funext fun a => Fin.ext ?_)
  fin_cases a <;> simp [LoadRect.idx, Rect.toLoadRect, Rect.unit, ix2]
theorem qRows2_at (k : Vec Ideal S1x2048x256 .bf16) (x : Fin 512) (d : Fin 256) : qRows2 k (ix3 0 x d) = k (ix3 0 ⟨1024 + x.val, by omega⟩ d) := by
  unfold qRows2; refine congrArg k (funext fun a => Fin.ext ?_)
  fin_cases a <;> simp [LoadRect.idx, Rect.toLoadRect, Rect.unit, ix3]
theorem doRows2_at (k : Vec Ideal S2048x128 .bf16) (x : Fin 512) (d : Fin 128) : doRows2 k (ix2 x d) = k (ix2 ⟨1024 + x.val, by omega⟩ d) := by
  unfold doRows2; refine congrArg k (funext fun a => Fin.ext ?_)
  fin_cases a <;> simp [LoadRect.idx, Rect.toLoadRect, Rect.unit, ix2]
theorem stRows2_at (k : Vec Ideal S2048x128 .f32) (x : Fin 512) (d : Fin 128) : stRows2 k (ix2 x d) = k (ix2 ⟨1024 + x.val, by omega⟩ d) := by
  unfold stRows2; refine congrArg k (funext fun a => Fin.ext ?_)
  fin_cases a <;> simp [LoadRect.idx, Rect.toLoadRect, Rect.unit, ix2]
theorem qRows3_at (k : Vec Ideal S1x2048x256 .bf16) (x : Fin 512) (d : Fin 256) : qRows3 k (ix3 0 x d) = k (ix3 0 ⟨1536 + x.val, by omega⟩ d) := by
  unfold qRows3; refine congrArg k (funext fun a => Fin.ext ?_)
  fin_cases a <;> simp [LoadRect.idx, Rect.toLoadRect, Rect.unit, ix3]
theorem doRows3_at (k : Vec Ideal S2048x128 .bf16) (x : Fin 512) (d : Fin 128) : doRows3 k (ix2 x d) = k (ix2 ⟨1536 + x.val, by omega⟩ d) := by
  unfold doRows3; refine congrArg k (funext fun a => Fin.ext ?_)
  fin_cases a <;> simp [LoadRect.idx, Rect.toLoadRect, Rect.unit, ix2]
theorem stRows3_at (k : Vec Ideal S2048x128 .f32) (x : Fin 512) (d : Fin 128) : stRows3 k (ix2 x d) = k (ix2 ⟨1536 + x.val, by omega⟩ d) := by
  unfold stRows3; refine congrArg k (funext fun a => Fin.ext ?_)
  fin_cases a <;> simp [LoadRect.idx, Rect.toLoadRect, Rect.unit, ix2]

end Cert.AttnIdeal.Value
end
-- ==== Proof.Attn.BwdPoint.lean ====
module
public import proofs.«01_k».proof.Proof.Attn.BwdTile
@[expose] public section
set_option maxRecDepth 16384
noncomputable section
/-! One point of the attention's backward pass over the reals: four tiles, each adding 512 queries to
    the keys' and values' gradients and 1024 keys to its queries' gradient. -/
namespace Cert.AttnIdeal.Value
open Idealize.ShloMosaic Idealize.ShloMosaic.TcCoe Idealize.SL.Sem
open Cert.AttnIdeal Cert.AttnIdeal.Gen

/-- One head: queries, keys, values, the output's gradient, the row logarithms and the row sums. -/
structure Head where
  q : ℕ → ℕ → ℝ
  k : ℕ → ℕ → ℝ
  v : ℕ → ℕ → ℝ
  g : ℕ → ℕ → ℝ
  L : ℕ → ℝ
  D : ℕ → ℝ
namespace Head
variable (A : Head)
/-- The weight of key `X` for query `T`. -/
def p (T X : ℕ) : ℝ := Real.exp (score (A.q T) A.k X - A.L T)
/-- The weight's gradient less the row's sum. -/
def w (T X : ℕ) : ℝ := (∑ d ∈ Finset.range 128, A.g T d * A.v X d) - A.D T
/-- The score's gradient. -/
def s (T X : ℕ) : ℝ := A.p T X * A.w T X
end Head

section strips
variable (A : Head) (n nX : ℕ) (p g : FVec Ideal S512x1024 .f32)
  (hp : ∀ (r : Fin 512) (x : Fin 1024), p (ix2 r x) = (A.p (n + r.val) (nX + x.val) : EReal))
include hp
theorem stepV (s : Vec Ideal S1024x128 .f32) (go : Vec Ideal S512x128 .bf16)
    (hg : ∀ (r : Fin 512) (d : Fin 128), go (ix2 r d) = (A.g (n + r.val) d.val : EReal))
    (hs : ∀ (x : Fin 1024) (d : Fin 128), s (ix2 x d) = ((∑ T ∈ Finset.range n, A.p T (nX + x.val) * A.g T d.val : ℝ) : EReal))
    (x : Fin 1024) (d : Fin 128) : tV s go p (ix2 x d) = ((∑ T ∈ Finset.range (n + 512), A.p T (nX + x.val) * A.g T d.val : ℝ) : EReal) := by
  rw [tV_at, hs, Finset.sum_range_add, EReal.coe_add, Finset.sum_range (fun r => A.p (n + r) (nX + x.val) * A.g (n + r) d.val)]
  congr 1
  rw [coe_sum]
  exact Finset.sum_congr rfl fun r _ => by rw [hp, hg, EReal.coe_mul]
variable (hg : ∀ (r : Fin 512) (x : Fin 1024), g (ix2 r x) = (A.w (n + r.val) (nX + x.val) : EReal))
include hg
theorem stepK (s : Vec Ideal S1024x256 .f32) (q : Vec Ideal S1x512x256 .bf16)
    (hq : ∀ (r : Fin 512) (e : Fin 256), q (ix3 0 r e) = (A.q (n + r.val) e.val : EReal))
    (hs : ∀ (x : Fin 1024) (e : Fin 256), s (ix2 x e) = ((∑ T ∈ Finset.range n, A.s T (nX + x.val) * A.q T e.val : ℝ) : EReal))
    (x : Fin 1024) (e : Fin 256) : tK s q p g (ix2 x e) = ((∑ T ∈ Finset.range (n + 512), A.s T (nX + x.val) * A.q T e.val : ℝ) : EReal) := by
  rw [tK_at, hs, Finset.sum_range_add, EReal.coe_add, Finset.sum_range (fun r => A.s (n + r) (nX + x.val) * A.q (n + r) e.val)]
  congr 1
  rw [coe_sum]
  exact Finset.sum_congr rfl fun r _ => by rw [hp, hg, hq, Head.s, EReal.coe_mul, EReal.coe_mul]
theorem stepQ' (k : Vec Ideal S1x1024x256 .bf16) (e : Vec Ideal S1x512x256 .f32)
    (hk : ∀ (x : Fin 1024) (d : Fin 256), k (ix3 0 x d) = (A.k (nX + x.val) d.val : EReal))
    (r : Fin 512) (d : Fin 256) (he : e (ix3 0 r d) = ((∑ X ∈ Finset.range nX, A.s (n + r.val) X * A.k X d.val : ℝ) : EReal)) :
    tQ k p g e (ix3 0 r d) = ((∑ X ∈ Finset.range (nX + 1024), A.s (n + r.val) X * A.k X d.val : ℝ) : EReal) := by
  rw [tQ_at, he, Finset.sum_range_add, EReal.coe_add, Finset.sum_range (fun x => A.s (n + r.val) (nX + x) * A.k (nX + x) d.val)]
  congr 1
  rw [coe_sum]
  exact Finset.sum_congr rfl fun x _ => by rw [hp, hg, hk, Head.s, EReal.coe_mul, EReal.coe_mul]
end strips

/-- Rows put into a buffer: those rows are the new ones, the others as they were. -/
theorem put_at (off : ℕ) (o : Fin 3 → ℕ) (ho : o = ![0, off, 0]) (e : Vec Ideal S1x16384x256 .f32) (w : Vec Ideal S1x512x256 .f32) (T : Fin 16384) (d : Fin 256) :
    VecWindow.put e o S1x512x256.size w (ix3 0 T d)
      = if h : off ≤ T.val ∧ T.val < off + 512 then w (ix3 0 ⟨T.val - off, by omega⟩ d) else e (ix3 0 T d) := by
  subst ho
  unfold VecWindow.put
  by_cases h : off ≤ T.val ∧ T.val < off + 512
  · rw [dif_pos h, dif_pos (by intro a; fin_cases a <;> simp [ix3, h, S1x512x256] <;> omega)]
    refine congrArg w (funext fun a => Fin.ext ?_)
    fin_cases a <;> simp [Rect.unitLocal, ix3]
  · rw [dif_neg h, dif_neg]
    intro h'; exact h (h' 1)

section point
variable (i : grid2.Coords) (x0 : Vec Ideal S1x2048x256 .bf16) (x1 : Vec Ideal S1x1024x256 .bf16) (x2 : Vec Ideal S1x1024x128 .bf16) (x3 : Vec Ideal S2048x128 .bf16) (x4 x5 : Vec Ideal S2048x128 .f32)
  (A : Head) (n nX : ℕ)
/-- The blocks a point reads, by real numbers. -/
structure Blocks : Prop where
  h0 : ∀ (r : Fin 2048) (e : Fin 256), x0 (ix3 0 r e) = (A.q (n + r.val) e.val : EReal)
  h1 : ∀ (x : Fin 1024) (e : Fin 256), x1 (ix3 0 x e) = (A.k (nX + x.val) e.val : EReal)
  h2 : ∀ (x : Fin 1024) (d : Fin 128), x2 (ix3 0 x d) = (A.v (nX + x.val) d.val : EReal)
  h3 : ∀ (r : Fin 2048) (d : Fin 128), x3 (ix2 r d) = (A.g (n + r.val) d.val : EReal)
  h4 : ∀ (r : Fin 2048) (d : Fin 128), x4 (ix2 r d) = (A.L (n + r.val) : EReal)
  h5 : ∀ (r : Fin 2048) (d : Fin 128), x5 (ix2 r d) = (A.D (n + r.val) : EReal)
variable {x0 x1 x2 x3 x4 x5 A n nX} (B : Blocks x0 x1 x2 x3 x4 x5 A n nX)
omit B in
theorem tP_real {n : ℕ} (k q l) (hq : ∀ (r : Fin 512) (e : Fin 256), q (ix3 0 r e) = (A.q (n + r.val) e.val : EReal))
    (hk : ∀ (x : Fin 1024) (e : Fin 256), k (ix3 0 x e) = (A.k (nX + x.val) e.val : EReal))
    (hl : ∀ (r : Fin 512) (d : Fin 128), l (ix2 r d) = (A.L (n + r.val) : EReal)) (r : Fin 512) (x : Fin 1024) :
    tP k q l (ix2 r x) = (A.p (n + r.val) (nX + x.val) : EReal) := by
  rw [tP_at k q l r x _ (hl r), Head.p, ← Ideal.exp_coe, EReal.coe_sub, score, Finset.sum_range (fun e => A.q _ e * A.k _ e), coe_sum]
  congr 2
  exact Finset.sum_congr rfl fun e _ => by rw [hq, hk, EReal.coe_mul]
omit B in
theorem tG_real {n : ℕ} (v g l) (hg : ∀ (r : Fin 512) (d : Fin 128), g (ix2 r d) = (A.g (n + r.val) d.val : EReal))
    (hv : ∀ (x : Fin 1024) (d : Fin 128), v (ix3 0 x d) = (A.v (nX + x.val) d.val : EReal))
    (hl : ∀ (r : Fin 512) (d : Fin 128), l (ix2 r d) = (A.D (n + r.val) : EReal)) (r : Fin 512) (x : Fin 1024) :
    tG v g l (ix2 r x) = (A.w (n + r.val) (nX + x.val) : EReal) := by
  rw [tG_at v g l r x _ (hl r), Head.w, EReal.coe_sub, Finset.sum_range (fun e => A.g _ e * A.v _ e), coe_sum]
  congr 1
  exact Finset.sum_congr rfl fun e _ => by rw [hg, hv, EReal.coe_mul]
include B
theorem q0_real (r : Fin 512) (e : Fin 256) : qRows0 x0 (ix3 0 r e) = (A.q (n + 0 + r.val) e.val : EReal) := by
  rw [qRows0_at, B.h0]; simp only [Nat.add_assoc]
theorem do0_real (r : Fin 512) (e : Fin 128) : doRows0 x3 (ix2 r e) = (A.g (n + 0 + r.val) e.val : EReal) := by
  rw [doRows0_at, B.h3]; simp only [Nat.add_assoc]
theorem p0_real (r : Fin 512) (x : Fin 1024) : p0 x0 x1 x4 (ix2 r x) = (A.p (n + 0 + r.val) (nX + x.val) : EReal) :=
  tP_real _ _ _ (q0_real B) B.h1 (fun r d => by rw [stRows0_at, B.h4]; simp only [Nat.add_assoc]) r x
theorem g0_real (r : Fin 512) (x : Fin 1024) : g0 x2 x3 x5 (ix2 r x) = (A.w (n + 0 + r.val) (nX + x.val) : EReal) :=
  tG_real _ _ _ (do0_real B) B.h2 (fun r d => by rw [stRows0_at, B.h5]; simp only [Nat.add_assoc]) r x
theorem q1_real (r : Fin 512) (e : Fin 256) : qRows1 x0 (ix3 0 r e) = (A.q (n + 512 + r.val) e.val : EReal) := by
  rw [qRows1_at, B.h0]; simp only [Nat.add_assoc]
theorem do1_real (r : Fin 512) (e : Fin 128) : doRows1 x3 (ix2 r e) = (A.g (n + 512 + r.val) e.val : EReal) := by
  rw [doRows1_at, B.h3]; simp only [Nat.add_assoc]
theorem p1_real (r : Fin 512) (x : Fin 1024) : p1 x0 x1 x4 (ix2 r x) = (A.p (n + 512 + r.val) (nX + x.val) : EReal) :=
  tP_real _ _ _ (q1_real B) B.h1 (fun r d => by rw [stRows1_at, B.h4]; simp only [Nat.add_assoc]) r x
theorem g1_real (r : Fin 512) (x : Fin 1024) : g1 x2 x3 x5 (ix2 r x) = (A.w (n + 512 + r.val) (nX + x.val) : EReal) :=
  tG_real _ _ _ (do1_real B) B.h2 (fun r d => by rw [stRows1_at, B.h5]; simp only [Nat.add_assoc]) r x
theorem q2_real (r : Fin 512) (e : Fin 256) : qRows2 x0 (ix3 0 r e) = (A.q (n + 1024 + r.val) e.val : EReal) := by
  rw [qRows2_at, B.h0]; simp only [Nat.add_assoc]
theorem do2_real (r : Fin 512) (e : Fin 128) : doRows2 x3 (ix2 r e) = (A.g (n + 1024 + r.val) e.val : EReal) := by
  rw [doRows2_at, B.h3]; simp only [Nat.add_assoc]
theorem p2_real (r : Fin 512) (x : Fin 1024) : p2 x0 x1 x4 (ix2 r x) = (A.p (n + 1024 + r.val) (nX + x.val) : EReal) :=
  tP_real _ _ _ (q2_real B) B.h1 (fun r d => by rw [stRows2_at, B.h4]; simp only [Nat.add_assoc]) r x
theorem g2_real (r : Fin 512) (x : Fin 1024) : g2 x2 x3 x5 (ix2 r x) = (A.w (n + 1024 + r.val) (nX + x.val) : EReal) :=
  tG_real _ _ _ (do2_real B) B.h2 (fun r d => by rw [stRows2_at, B.h5]; simp only [Nat.add_assoc]) r x
theorem q3_real (r : Fin 512) (e : Fin 256) : qRows3 x0 (ix3 0 r e) = (A.q (n + 1536 + r.val) e.val : EReal) := by
  rw [qRows3_at, B.h0]; simp only [Nat.add_assoc]
theorem do3_real (r : Fin 512) (e : Fin 128) : doRows3 x3 (ix2 r e) = (A.g (n + 1536 + r.val) e.val : EReal) := by
  rw [doRows3_at, B.h3]; simp only [Nat.add_assoc]
theorem p3_real (r : Fin 512) (x : Fin 1024) : p3 x0 x1 x4 (ix2 r x) = (A.p (n + 1536 + r.val) (nX + x.val) : EReal) :=
  tP_real _ _ _ (q3_real B) B.h1 (fun r d => by rw [stRows3_at, B.h4]; simp only [Nat.add_assoc]) r x
theorem g3_real (r : Fin 512) (x : Fin 1024) : g3 x2 x3 x5 (ix2 r x) = (A.w (n + 1536 + r.val) (nX + x.val) : EReal) :=
  tG_real _ _ _ (do3_real B) B.h2 (fun r d => by rw [stRows3_at, B.h5]; simp only [Nat.add_assoc]) r x

theorem bV_real (s1 : Vec Ideal S1024x128 .f32) (hs : ∀ (x : Fin 1024) (d : Fin 128), s1 (ix2 x d) = ((∑ T ∈ Finset.range n, A.p T (nX + x.val) * A.g T d.val : ℝ) : EReal)) :
    ∀ (x : Fin 1024) (d : Fin 128), bV x0 x1 x3 x4 s1 (ix2 x d) = ((∑ T ∈ Finset.range (n + 2048), A.p T (nX + x.val) * A.g T d.val : ℝ) : EReal) := by
  rw [bV_eq]
  exact stepV A (n + 1536) nX _ (p3_real B) _ _ (do3_real B) (stepV A (n + 1024) nX _ (p2_real B) _ _ (do2_real B)
    (stepV A (n + 512) nX _ (p1_real B) _ _ (do1_real B) (stepV A (n + 0) nX _ (p0_real B) _ _ (do0_real B) hs)))
theorem bK_real (s0 : Vec Ideal S1024x256 .f32) (hs : ∀ (x : Fin 1024) (e : Fin 256), s0 (ix2 x e) = ((∑ T ∈ Finset.range n, A.s T (nX + x.val) * A.q T e.val : ℝ) : EReal)) :
    ∀ (x : Fin 1024) (e : Fin 256), bK x0 x1 x2 x3 x4 x5 s0 (ix2 x e) = ((∑ T ∈ Finset.range (n + 2048), A.s T (nX + x.val) * A.q T e.val : ℝ) : EReal) := by
  rw [bK_eq]
  exact stepK A (n + 1536) nX _ _ (p3_real B) (g3_real B) _ _ (q3_real B) (stepK A (n + 1024) nX _ _ (p2_real B) (g2_real B) _ _ (q2_real B)
    (stepK A (n + 512) nX _ _ (p1_real B) (g1_real B) _ _ (q1_real B) (stepK A (n + 0) nX _ _ (p0_real B) (g0_real B) _ _ (q0_real B) hs)))

/-- The queries' gradient while key blocks go by: row `T` has the keys below `N T`. -/
def QInv (A : Head) (e : Vec Ideal S1x16384x256 .f32) (N : ℕ → ℕ) : Prop :=
  ∀ (T : Fin 16384) (d : Fin 256), e (ix3 0 T d) = ((∑ X ∈ Finset.range (N T.val), A.s T.val X * A.k X d.val : ℝ) : EReal)
/-- The row limits after the rows from `o` on have had their keys. -/
def lim (N : ℕ → ℕ) (o : ℕ) : ℕ → ℕ := fun T => if o ≤ T ∧ T < o + 512 then N T + 1024 else N T
variable (i : grid2.Coords) (hi : 2048 * (i 2).val = n)
include hi
theorem bQ0_real (e0 e : Vec Ideal S1x16384x256 .f32) (N0 N : ℕ → ℕ) (h0 : QInv A e0 N0) (h : QInv A e N)
    (hN0 : ∀ T, n + 0 ≤ T → T < n + 0 + 512 → N0 T = nX) (hN : ∀ T, n + 0 ≤ T → T < n + 0 + 512 → N T = nX) :
    QInv A (dqPut0 i e (tQ x1 (p0 x0 x1 x4) (g0 x2 x3 x5) (dqRows0 i e0))) (lim N (n + 0)) := by
  intro T d
  have hn : n + 0 + 512 ≤ 16384 := by have := (i 2).isLt; have : (i 2).val < 8 := this; omega
  have ho : k2_off1 i 0#32 = ![0, n + 0, 0] := (k2_off1_eq i 0).trans (by rw [hi]; rfl)
  unfold dqPut0
  rw [put_at (n + 0) _ ho]
  unfold lim
  by_cases hT : n + 0 ≤ T.val ∧ T.val < n + 0 + 512
  · rw [dif_pos hT, if_pos hT]
    have hr := hN T.val hT.1 hT.2
    refine (stepQ' A (n + 0) nX _ _ (p0_real B) (g0_real B) x1 _ B.h1 ⟨T.val - (n + 0), by omega⟩ d ?_).trans ?_
    · have e1 : dqRows0 i e0 (ix3 0 (⟨T.val - (n + 0), by omega⟩ : Fin 512) d) = e0 (ix3 0 T d) := by
        unfold dqRows0
        refine congrArg e0 (funext fun a => Fin.ext ?_)
        have hx := congrFun ho a
        fin_cases a <;> simp [LoadRect.idx, Rect.toLoadRect, Rect.unit, ix3] at hx ⊢ <;> omega
      rw [e1, h0 T d, hN0 T.val hT.1 hT.2]
      simp only [show n + 0 + (T.val - (n + 0)) = T.val by omega]
    · simp only [show n + 0 + (T.val - (n + 0)) = T.val by omega, hr]
  · rw [dif_neg hT, if_neg hT]
    exact h T d
theorem bQ1_real (e0 e : Vec Ideal S1x16384x256 .f32) (N0 N : ℕ → ℕ) (h0 : QInv A e0 N0) (h : QInv A e N)
    (hN0 : ∀ T, n + 512 ≤ T → T < n + 512 + 512 → N0 T = nX) (hN : ∀ T, n + 512 ≤ T → T < n + 512 + 512 → N T = nX) :
    QInv A (dqPut1 i e (tQ x1 (p1 x0 x1 x4) (g1 x2 x3 x5) (dqRows1 i e0))) (lim N (n + 512)) := by
  intro T d
  have hn : n + 512 + 512 ≤ 16384 := by have := (i 2).isLt; have : (i 2).val < 8 := this; omega
  have ho : k2_off1 i 512#32 = ![0, n + 512, 0] := (k2_off1_eq i 1).trans (by rw [hi]; rfl)
  unfold dqPut1
  rw [put_at (n + 512) _ ho]
  unfold lim
  by_cases hT : n + 512 ≤ T.val ∧ T.val < n + 512 + 512
  · rw [dif_pos hT, if_pos hT]
    have hr := hN T.val hT.1 hT.2
    refine (stepQ' A (n + 512) nX _ _ (p1_real B) (g1_real B) x1 _ B.h1 ⟨T.val - (n + 512), by omega⟩ d ?_).trans ?_
    · have e1 : dqRows1 i e0 (ix3 0 (⟨T.val - (n + 512), by omega⟩ : Fin 512) d) = e0 (ix3 0 T d) := by
        unfold dqRows1
        refine congrArg e0 (funext fun a => Fin.ext ?_)
        have hx := congrFun ho a
        fin_cases a <;> simp [LoadRect.idx, Rect.toLoadRect, Rect.unit, ix3] at hx ⊢ <;> omega
      rw [e1, h0 T d, hN0 T.val hT.1 hT.2]
      simp only [show n + 512 + (T.val - (n + 512)) = T.val by omega]
    · simp only [show n + 512 + (T.val - (n + 512)) = T.val by omega, hr]
  · rw [dif_neg hT, if_neg hT]
    exact h T d
theorem bQ2_real (e0 e : Vec Ideal S1x16384x256 .f32) (N0 N : ℕ → ℕ) (h0 : QInv A e0 N0) (h : QInv A e N)
    (hN0 : ∀ T, n + 1024 ≤ T → T < n + 1024 + 512 → N0 T = nX) (hN : ∀ T, n + 1024 ≤ T → T < n + 1024 + 512 → N T = nX) :
    QInv A (dqPut2 i e (tQ x1 (p2 x0 x1 x4) (g2 x2 x3 x5) (dqRows2 i e0))) (lim N (n + 1024)) := by
  intro T d
  have hn : n + 1024 + 512 ≤ 16384 := by have := (i 2).isLt; have : (i 2).val < 8 := this; omega
  have ho : k2_off1 i 1024#32 = ![0, n + 1024, 0] := (k2_off1_eq i 2).trans (by rw [hi]; rfl)
  unfold dqPut2
  rw [put_at (n + 1024) _ ho]
  unfold lim
  by_cases hT : n + 1024 ≤ T.val ∧ T.val < n + 1024 + 512
  · rw [dif_pos hT, if_pos hT]
    have hr := hN T.val hT.1 hT.2
    refine (stepQ' A (n + 1024) nX _ _ (p2_real B) (g2_real B) x1 _ B.h1 ⟨T.val - (n + 1024), by omega⟩ d ?_).trans ?_
    · have e1 : dqRows2 i e0 (ix3 0 (⟨T.val - (n + 1024), by omega⟩ : Fin 512) d) = e0 (ix3 0 T d) := by
        unfold dqRows2
        refine congrArg e0 (funext fun a => Fin.ext ?_)
        have hx := congrFun ho a
        fin_cases a <;> simp [LoadRect.idx, Rect.toLoadRect, Rect.unit, ix3] at hx ⊢ <;> omega
      rw [e1, h0 T d, hN0 T.val hT.1 hT.2]
      simp only [show n + 1024 + (T.val - (n + 1024)) = T.val by omega]
    · simp only [show n + 1024 + (T.val - (n + 1024)) = T.val by omega, hr]
  · rw [dif_neg hT, if_neg hT]
    exact h T d
theorem bQ3_real (e0 e : Vec Ideal S1x16384x256 .f32) (N0 N : ℕ → ℕ) (h0 : QInv A e0 N0) (h : QInv A e N)
    (hN0 : ∀ T, n + 1536 ≤ T → T < n + 1536 + 512 → N0 T = nX) (hN : ∀ T, n + 1536 ≤ T → T < n + 1536 + 512 → N T = nX) :
    QInv A (dqPut3 i e (tQ x1 (p3 x0 x1 x4) (g3 x2 x3 x5) (dqRows3 i e0))) (lim N (n + 1536)) := by
  intro T d
  have hn : n + 1536 + 512 ≤ 16384 := by have := (i 2).isLt; have : (i 2).val < 8 := this; omega
  have ho : k2_off1 i 1536#32 = ![0, n + 1536, 0] := (k2_off1_eq i 3).trans (by rw [hi]; rfl)
  unfold dqPut3
  rw [put_at (n + 1536) _ ho]
  unfold lim
  by_cases hT : n + 1536 ≤ T.val ∧ T.val < n + 1536 + 512
  · rw [dif_pos hT, if_pos hT]
    have hr := hN T.val hT.1 hT.2
    refine (stepQ' A (n + 1536) nX _ _ (p3_real B) (g3_real B) x1 _ B.h1 ⟨T.val - (n + 1536), by omega⟩ d ?_).trans ?_
    · have e1 : dqRows3 i e0 (ix3 0 (⟨T.val - (n + 1536), by omega⟩ : Fin 512) d) = e0 (ix3 0 T d) := by
        unfold dqRows3
        refine congrArg e0 (funext fun a => Fin.ext ?_)
        have hx := congrFun ho a
        fin_cases a <;> simp [LoadRect.idx, Rect.toLoadRect, Rect.unit, ix3] at hx ⊢ <;> omega
      rw [e1, h0 T d, hN0 T.val hT.1 hT.2]
      simp only [show n + 1536 + (T.val - (n + 1536)) = T.val by omega]
    · simp only [show n + 1536 + (T.val - (n + 1536)) = T.val by omega, hr]
  · rw [dif_neg hT, if_neg hT]
    exact h T d

/-- The queries' gradient after the point: the rows of its block have had the point's keys. -/
theorem bQ_real (e : Vec Ideal S1x16384x256 .f32) (N : ℕ → ℕ) (h : QInv A e N) (hN : ∀ T, n ≤ T → T < n + 2048 → N T = nX) :
    QInv A (bQ3 i x0 x1 x2 x3 x4 x5 e) (fun T => if n ≤ T ∧ T < n + 2048 then N T + 1024 else N T) := by
  have e0 := bQ0_real B i hi e e N N h h (fun T h1 h2 => hN T (by omega) (by omega)) (fun T h1 h2 => hN T (by omega) (by omega))
  have e1 := bQ1_real B i hi e _ N _ h e0 (fun T h1 h2 => hN T (by omega) (by omega))
    (fun T h1 h2 => by unfold lim; rw [if_neg (by omega)]; exact hN T (by omega) (by omega))
  have e2 := bQ2_real B i hi e _ N _ h e1 (fun T h1 h2 => hN T (by omega) (by omega))
    (fun T h1 h2 => by unfold lim; rw [if_neg (by omega), if_neg (by omega)]; exact hN T (by omega) (by omega))
  have e3 := bQ3_real B i hi e _ N _ h e2 (fun T h1 h2 => hN T (by omega) (by omega))
    (fun T h1 h2 => by unfold lim; rw [if_neg (by omega), if_neg (by omega), if_neg (by omega)]; exact hN T (by omega) (by omega))
  rw [bQ3_eq, bQ2_eq, bQ1_eq, bQ0_eq]
  intro T d
  refine (e3 T d).trans ?_
  congr 3
  simp only [lim]
  split_ifs <;> omega

end point
end Cert.AttnIdeal.Value
end
-- ==== Proof.Attn.BwdArr.lean ====
module
public import proofs.«01_k».proof.Proof.Attn.Bwd
public import proofs.«01_k».proof.Proof.Attn.DoVal
public import proofs.«01_k».proof.Proof.Attn.BwdPoint
@[expose] public section
set_option maxRecDepth 16384
noncomputable section
/-! The attention's backward pass leaves the gradients of the queries, keys and values. -/
namespace Cert.AttnIdeal.Value
open Idealize.ShloMosaic Idealize.ShloMosaic.TcCoe Idealize.SL.Sem
open Idealize.ShloMosaic.Pipeline (Dat)
open Cert.AttnIdeal Cert.AttnIdeal.Gen
variable (V : (c : Dev nD) → (b : Ref sig .tc) → Buf (Elt Ideal) ((c : Thread nD τ).loc b)) (c : Dev nD)

theorem idx2 : ∀ t : Fin cfg2.N, win2_0.index t = ![t.val / 128, t.val % 8, 0] ∧ win2_1.index t = ![t.val / 128, t.val / 8 % 16, 0]
    ∧ win2_2.index t = ![t.val / 128, t.val / 8 % 16, 0] ∧ win2_3.index t = ![t.val % 8, t.val / 128] ∧ win2_4.index t = ![t.val % 8, t.val / 128]
    ∧ win2_5.index t = ![t.val % 8, t.val / 128] ∧ win2_6.index t = ![t.val / 128, 0, 0] ∧ win2_7.index t = ![t.val / 128, t.val / 8 % 16, 0]
    ∧ win2_8.index t = ![t.val / 128, t.val / 8 % 16, 0] :=
  (by decide +kernel : ∀ t : Fin grid2.N, _)
theorem lt2 (t : Fin cfg2.N) : t.val < 1024 := Nat.lt_of_lt_of_eq t.isLt N_2
theorem coord2 (t : Fin cfg2.N) : (grid2.coords t 2).val = t.val % 8 :=
  (Pipeline.Grid.coords_val t 2 (by decide) rfl : _ = t.val / 1 % 8).trans (by rw [Nat.div_one])

theorem q2_blk (t : Fin cfg2.N) (r : Fin 2048) (e : Fin 256) :
    (iblk2 V c 0 t : Vec Ideal S1x2048x256 .bf16) (ix3 0 r e)
      = V c main_v2 (ix3 (⟨t.val / 128, by have := lt2 t; omega⟩ : Fin 8) (⟨t.val % 8 * 2048 + r.val, by omega⟩ : Fin 16384) e) := by
  blk_point [iblk2, idx2 t]
theorem k2_blk (t : Fin cfg2.N) (r : Fin 1024) (e : Fin 256) :
    (iblk2 V c 1 t : Vec Ideal S1x1024x256 .bf16) (ix3 0 r e)
      = V c main_v8 (ix3 (⟨t.val / 128, by have := lt2 t; omega⟩ : Fin 8) (⟨t.val / 8 % 16 * 1024 + r.val, by omega⟩ : Fin 16384) e) := by
  blk_point [iblk2, idx2 t]
theorem v2_blk (t : Fin cfg2.N) (r : Fin 1024) (e : Fin 128) :
    (iblk2 V c 2 t : Vec Ideal S1x1024x128 .bf16) (ix3 0 r e)
      = V c main_v12 (ix3 (⟨t.val / 128, by have := lt2 t; omega⟩ : Fin 8) (⟨t.val / 8 % 16 * 1024 + r.val, by omega⟩ : Fin 16384) (⟨e.val, by omega⟩ : Fin 256)) := by
  blk_point [iblk2, idx2 t]
theorem do2_blk (t : Fin cfg2.N) (r : Fin 2048) (e : Fin 128) :
    (iblk2 V c 3 t : Vec Ideal S2048x128 .bf16) (ix2 r e)
      = V c main_v14_0 (ix2 (⟨t.val % 8 * 2048 + r.val, by omega⟩ : Fin 16384) (⟨t.val / 128 * 128 + e.val, by have := lt2 t; omega⟩ : Fin 1024)) := by
  blk_point [iblk2, idx2 t]
theorem l2_blk (t : Fin cfg2.N) (r : Fin 2048) (e : Fin 128) :
    (iblk2 V c 4 t : Vec Ideal S2048x128 .f32) (ix2 r e)
      = V c main_v13_1 (ix2 (⟨t.val % 8 * 2048 + r.val, by omega⟩ : Fin 16384) (⟨t.val / 128 * 128 + e.val, by have := lt2 t; omega⟩ : Fin 1024)) := by
  blk_point [iblk2, idx2 t]
theorem d2_blk (t : Fin cfg2.N) (r : Fin 2048) (e : Fin 128) :
    (iblk2 V c 5 t : Vec Ideal S2048x128 .f32) (ix2 r e)
      = V c main_v14_1 (ix2 (⟨t.val % 8 * 2048 + r.val, by omega⟩ : Fin 16384) (⟨t.val / 128 * 128 + e.val, by have := lt2 t; omega⟩ : Fin 1024)) := by
  blk_point [iblk2, idx2 t]

/-- What the third call reads, by real numbers, head by head. -/
structure Reals2 (A : ℕ → Head) : Prop where
  hq : ∀ (h : Fin 8) (t : Fin 16384) (e : Fin 256), V c main_v2 (ix3 h t e) = ((A h.val).q t.val e.val : EReal)
  hk : ∀ (h : Fin 8) (t : Fin 16384) (e : Fin 256), V c main_v8 (ix3 h t e) = ((A h.val).k t.val e.val : EReal)
  hv : ∀ (h : Fin 8) (t : Fin 16384) (e : Fin 256), V c main_v12 (ix3 h t e) = ((A h.val).v t.val e.val : EReal)
  hg : ∀ (t : Fin 16384) (e : Fin 1024), V c main_v14_0 (ix2 t e) = ((A (e.val / 128)).g t.val (e.val % 128) : EReal)
  hl : ∀ (t : Fin 16384) (e : Fin 1024), V c main_v13_1 (ix2 t e) = ((A (e.val / 128)).L t.val : EReal)
  hd : ∀ (t : Fin 16384) (e : Fin 1024), V c main_v14_1 (ix2 t e) = ((A (e.val / 128)).D t.val : EReal)

variable {A : ℕ → Head} (H : Reals2 V c A)

theorem init2_K (x : Fin 1024) (e : Fin 256) : (init2 (F := Ideal)).1 (ix2 x e) = 0 := by
  pointwise [k2_pay7, init2, Lits.zero]; rfl
theorem init2_V (x : Fin 1024) (e : Fin 128) : (init2 (F := Ideal)).2 (ix2 x e) = 0 := by
  pointwise [k2_pay8, init2, Lits.zero]; rfl
theorem initQ (x : Fin 16384) (e : Fin 256) : (k2_pay6 (F := Ideal)) (ix3 0 x e) = 0 := by
  pointwise [k2_pay6, Lits.zero]; rfl
theorem flush2 : (∀ t : Fin cfg2.N, (cfg2.win 6).flush t = true → t.val % 128 = 127) ∧ (∀ t : Fin cfg2.N, (cfg2.win 7).flush t = true → t.val % 8 = 7)
    ∧ (∀ t : Fin cfg2.N, (cfg2.win 8).flush t = true → t.val % 8 = 7) := by
  refine ⟨?_, ?_, ?_⟩ <;> decide +kernel
theorem castK (m : FVec Ideal S1024x256 .f32) : k2_pay2 m = m := by
  funext j; pointwise [k2_pay2]
theorem castV (m : FVec Ideal S1024x128 .f32) : k2_pay3 m = m := by
  funext j; pointwise [k2_pay3]
theorem outK (m : FVec Ideal S1024x256 .f32) (x : Fin 1024) (e : Fin 256) : k2_pay4 m (ix3 0 x e) = m (ix2 x e) := by
  pointwise [k2_pay4]
theorem outV (m : FVec Ideal S1024x128 .f32) (x : Fin 1024) (e : Fin 128) : k2_pay5 m (ix3 0 x e) = m (ix2 x e) := by
  pointwise [k2_pay5]

include H
theorem blocks (t : Fin cfg2.N) : Blocks (iblk2 V c 0 t) (iblk2 V c 1 t) (iblk2 V c 2 t) (iblk2 V c 3 t) (iblk2 V c 4 t) (iblk2 V c 5 t)
    (A (t.val / 128)) (t.val % 8 * 2048) (t.val / 8 % 16 * 1024) where
  h0 r e := by rw [q2_blk, H.hq]
  h1 x e := by rw [k2_blk, H.hk]
  h2 x d := by rw [v2_blk, H.hv]
  h3 r d := by rw [do2_blk, H.hg]; simp only [show (t.val / 128 * 128 + d.val) / 128 = t.val / 128 by omega, show (t.val / 128 * 128 + d.val) % 128 = d.val by omega]
  h4 r d := by rw [l2_blk, H.hl]; simp only [show (t.val / 128 * 128 + d.val) / 128 = t.val / 128 by omega]
  h5 r d := by rw [d2_blk, H.hd]; simp only [show (t.val / 128 * 128 + d.val) / 128 = t.val / 128 by omega]

/-- The keys' and values' gradients a point works from. -/
theorem entry_inv (n : ℕ) (hn : n < cfg2.N) :
    (∀ (x : Fin 1024) (e : Fin 256), (entry2 V c ⟨n, hn⟩).1 (ix2 x e)
      = ((∑ T ∈ Finset.range (n % 8 * 2048), (A (n / 128)).s T (n / 8 % 16 * 1024 + x.val) * (A (n / 128)).q T e.val : ℝ) : EReal))
    ∧ (∀ (x : Fin 1024) (d : Fin 128), (entry2 V c ⟨n, hn⟩).2 (ix2 x d)
      = ((∑ T ∈ Finset.range (n % 8 * 2048), (A (n / 128)).p T (n / 8 % 16 * 1024 + x.val) * (A (n / 128)).g T d.val : ℝ) : EReal)) := by
  induction n with
  | zero =>
    unfold entry2
    rw [if_pos (by rfl)]
    exact ⟨fun x e => by rw [init2_K]; simp, fun x e => by rw [init2_V]; simp⟩
  | succ n ih =>
    by_cases h8 : (n + 1) % 8 = 0
    · unfold entry2
      rw [if_pos (by exact h8), h8]
      exact ⟨fun x e => by rw [init2_K]; simp, fun x e => by rw [init2_V]; simp⟩
    · have hn' := Nat.lt_of_succ_lt hn
      have e1 : entry2 V c ⟨n + 1, hn⟩ = step2 V c ⟨n, hn'⟩ (entry2 V c ⟨n, hn'⟩) := by
        rw [← carry2_eq]; unfold entry2; rw [if_neg (by exact h8)]; rfl
      rw [e1]
      dsimp only [step2]
      rw [castK, castV, show (n + 1) / 128 = n / 128 by omega, show (n + 1) / 8 = n / 8 by omega, show (n + 1) % 8 * 2048 = n % 8 * 2048 + 2048 by omega]
      exact ⟨bK_real (blocks V c H ⟨n, hn'⟩) _ (ih hn').1, bV_real (blocks V c H ⟨n, hn'⟩) _ (ih hn').2⟩

/-- The queries' gradient a point works from. -/
theorem entryQ_inv (n : ℕ) (hn : n < cfg2.N) :
    QInv (A (n / 128)) (entryQ V c ⟨n, hn⟩) (fun T => if T < n % 8 * 2048 then n / 8 % 16 * 1024 + 1024 else n / 8 % 16 * 1024) := by
  induction n with
  | zero =>
    unfold entryQ
    rw [if_pos (by rfl)]
    intro T d; rw [initQ]; simp
  | succ n ih =>
    by_cases h8 : (n + 1) % 128 = 0
    · unfold entryQ
      rw [if_pos (by exact h8)]
      intro T d; rw [initQ, show (n + 1) % 8 = 0 by omega, show (n + 1) / 8 % 16 = 0 by omega]; simp
    · have hn' := Nat.lt_of_succ_lt hn
      have e1 : entryQ V c ⟨n + 1, hn⟩ = stepQ V c ⟨n, hn'⟩ (entryQ V c ⟨n, hn'⟩) := by
        rw [← dq2_eq]; unfold entryQ; rw [if_neg (by exact h8)]; rfl
      rw [e1, show (n + 1) / 128 = n / 128 by omega]
      intro T d
      refine (bQ_real (blocks V c H ⟨n, hn'⟩) (grid2.coords ⟨n, hn'⟩) (by rw [coord2]; simp only; omega) _ _ (ih hn')
        (fun T h1 h2 => by simp only; rw [if_neg (by simp only at h1; omega)]) T d).trans ?_
      congr 3
      have := T.isLt
      simp only
      split_ifs <;> omega

/-- The keys' gradient. -/
def gradK (A : ℕ → Head) (h X e : ℕ) : ℝ := ∑ T ∈ Finset.range 16384, (A h).s T X * (A h).q T e
/-- The values' gradient. -/
def gradV (A : ℕ → Head) (h X d : ℕ) : ℝ := ∑ T ∈ Finset.range 16384, (A h).p T X * (A h).g T d
/-- The queries' gradient. -/
def gradQ (A : ℕ → Head) (h T d : ℕ) : ℝ := ∑ X ∈ Finset.range 16384, (A h).s T X * (A h).k X d

theorem dk_arr : (dat2 V c).arrAt 7 cfg2.N = fun i : S8x16384x256.Idx => ((gradK A (i 0).val (i 1).val (i 2).val : ℝ) : EReal) := by
  refine (dat2 V c).arrAt_eq_of_covers 7 _ (by decide +kernel) fun t hf y => ?_
  have h7 := flush2.2.1 t hf
  blk_simp
  rw [after2_7]
  obtain ⟨r, d, rfl⟩ : ∃ (r : Fin 1024) (d : Fin 256), y = ix3 0 r d := ⟨y 1, y 2, by funext a; fin_cases a <;> first | rfl | exact Subsingleton.elim (α := Fin 1) _ _⟩
  refine (outK _ r d).trans ((bK_real (blocks V c H t) _ (entry_inv V c H t.val t.isLt).1 r d).trans ?_)
  rw [(idx2 t).2.2.2.2.2.2.2.1, h7]
  show _ = ((gradK A (t.val / 128) (t.val / 8 % 16 * 1024 + r.val) (0 * 256 + d.val) : ℝ) : EReal)
  rw [Nat.zero_mul, Nat.zero_add]; rfl
theorem dv_arr : (dat2 V c).arrAt 8 cfg2.N = fun i : S8x16384x128.Idx => ((gradV A (i 0).val (i 1).val (i 2).val : ℝ) : EReal) := by
  refine (dat2 V c).arrAt_eq_of_covers 8 _ (by decide +kernel) fun t hf y => ?_
  have h7 := flush2.2.2 t hf
  blk_simp
  rw [after2_8]
  obtain ⟨r, d, rfl⟩ : ∃ (r : Fin 1024) (d : Fin 128), y = ix3 0 r d := ⟨y 1, y 2, by funext a; fin_cases a <;> first | rfl | exact Subsingleton.elim (α := Fin 1) _ _⟩
  refine (outV _ r d).trans ((bV_real (blocks V c H t) _ (entry_inv V c H t.val t.isLt).2 r d).trans ?_)
  rw [(idx2 t).2.2.2.2.2.2.2.2, h7]
  show _ = ((gradV A (t.val / 128) (t.val / 8 % 16 * 1024 + r.val) (0 * 128 + d.val) : ℝ) : EReal)
  rw [Nat.zero_mul, Nat.zero_add]; rfl
theorem dq_arr : (dat2 V c).arrAt 6 cfg2.N = fun i : S8x16384x256.Idx => ((gradQ A (i 0).val (i 1).val (i 2).val : ℝ) : EReal) := by
  refine (dat2 V c).arrAt_eq_of_covers 6 _ (by decide +kernel) fun t hf y => ?_
  have h7 := flush2.1 t hf
  blk_simp
  rw [after2_6, dq2_eq]
  obtain ⟨r, d, rfl⟩ : ∃ (r : Fin 16384) (d : Fin 256), y = ix3 0 r d := ⟨y 1, y 2, by funext a; fin_cases a <;> first | rfl | exact Subsingleton.elim (α := Fin 1) _ _⟩
  refine (bQ_real (blocks V c H t) (grid2.coords t) (by rw [coord2]; omega) _ _ (entryQ_inv V c H t.val t.isLt)
    (fun T h1 h2 => by simp only; rw [if_neg (by omega)]) r d).trans ?_
  rw [(idx2 t).2.2.2.2.2.2.1]
  show _ = ((gradQ A (t.val / 128) (0 * 16384 + r.val) (0 * 256 + d.val) : ℝ) : EReal)
  rw [Nat.zero_mul, Nat.zero_add, Nat.zero_add]
  unfold gradQ
  congr 3
  have := r.isLt
  simp only
  split_ifs <;> omega
end Cert.AttnIdeal.Value
end
-- ==== Proof.Attn.Host.lean ====
module

public import proofs.«01_k».proof.Defs
public import proofs.«01_k».proof.Proof.Attn.Run
public import proofs.«01_k».proof.Proof.Attn.BwdArr
public import proofs.«01_k».proof.Proof.Attn.DoVal
public import proofs.«01_k».proof.Proof.Attn.FwdArr
public import proofs.«01_k».proof.Proof.Gen.Pre_attn_finite
public import proofs.«01_k».proof.Proof.Finite

/-! The operations before and after the three regions, and what the three regions meet, in reals. -/

@[expose] public section
set_option maxRecDepth 16384
noncomputable section
namespace Cert.AttnIdeal.Value
open Idealize.ShloMosaic Idealize.ShloMosaic.TcCoe Idealize.SL.Sem
open Cert.AttnIdeal Cert.AttnIdeal.Gen Cert.Finite
open Cert.AttnIdeal.Run (W0 W1 W2 W3 W4 W5 R1 R2 R3 R4 W2_arr W3_arr W4_arr W2_of_ne W3_of_ne W4_of_ne)

variable (m : (ℓ : Loc nD τ sig) → Buf (Elt Ideal) ℓ) (ρ : Dev nD → PrngReg)

abbrev aQn (c : Dev nD) := m ((c : Thread nD τ).loc main_arg0)
abbrev aQp (c : Dev nD) := m ((c : Thread nD τ).loc main_arg1)
abbrev aKn (c : Dev nD) := m ((c : Thread nD τ).loc main_arg2)
abbrev aKp (c : Dev nD) := m ((c : Thread nD τ).loc main_arg3)
abbrev aV (c : Dev nD) := m ((c : Thread nD τ).loc main_arg4)
abbrev aWo (c : Dev nD) := m ((c : Thread nD τ).loc main_arg5)
abbrev aDz (c : Dev nD) := m ((c : Thread nD τ).loc main_arg6)

theorem w1_v2 (c : Dev nD) (h : Fin 8) (t : Fin 16384) (e : Fin 256) :
    R1 m ρ c main_v2 (ix3 h t e) = if h₁ : e.val < 128 then aQn m c (ix3 t h ⟨e.val, h₁⟩)
      else if h₂ : e.val - 128 < 64 then aQp m c (ix3 t h ⟨e.val - 128, h₂⟩)
      else aQp m c (ix3 t h ⟨e.val - 128 - 64, by omega⟩) := by
  show W1 m ρ c (Proc.devRef .tc main_v2) (ix3 h t e) = _
  unfold W1
  after_results
  pointwise!

/-- The keys from their three parts, whatever the buffers hold. -/
theorem keys (U : Valuation τ sig (Elt Ideal)) (h : Fin 8) (t : Fin 16384) (e : Fin 256) :
    (StableHlo.after ((hostOps0 (F := Ideal)).drop 7) U (Proc.devRef .tc main_v8) : S8x16384x256.Idx → EReal) (ix3 h t e)
      = if h₁ : e.val < 128 then (U (Proc.devRef .tc main_arg2) : S16384x8x128.Idx → EReal) (ix3 t h ⟨e.val, h₁⟩)
      else if h₂ : e.val - 128 < 64 then (U (Proc.devRef .tc main_v4) : S16384x8x64.Idx → EReal) (ix3 t h ⟨e.val - 128, h₂⟩)
      else (U (Proc.devRef .tc main_v5) : S16384x8x64.Idx → EReal) (ix3 t h ⟨e.val - 128 - 64, by omega⟩) := by
  simp only [List.drop_succ_cons, List.drop_zero]
  after_results
  pointwise!

theorem w1_v8 (c : Dev nD) (h : Fin 8) (t : Fin 16384) (e : Fin 256) :
    R1 m ρ c main_v8 (ix3 h t e) = if h₁ : e.val < 128 then aKn m c (ix3 t h ⟨e.val, h₁⟩)
      else if h₂ : e.val - 128 < 64 then aKp m c (ix2 t ⟨e.val - 128, h₂⟩)
      else ((0 : ℝ) : EReal) := by
  refine (keys (StableHlo.after ((hostOps0 (F := Ideal)).take 7) (W0 m ρ c)) h t e).trans ?_
  split_ifs with h₁ h₂
  · simp only [List.take_succ_cons, List.take_zero]; after_results
  · simp only [List.take_succ_cons, List.take_zero]; after_results; pointwise
  · simp only [List.take_succ_cons, List.take_zero]; after_results; pointwise!

theorem w1_v12 (c : Dev nD) (h : Fin 8) (t : Fin 16384) (e : Fin 256) :
    R1 m ρ c main_v12 (ix3 h t e) = if h₁ : e.val < 128 then aV m c (ix3 t h ⟨e.val, h₁⟩)
      else ((1 : ℝ) : EReal) := by
  show W1 m ρ c (Proc.devRef .tc main_v12) (ix3 h t e) = _
  unfold W1
  after_results
  pointwise!

/-- The arguments are arrays of reals. -/
structure Args (c : Dev nD) : Prop where
  f0 : ∀ i, aQn m c i = ((aQn m c i : EReal).toReal : EReal)
  f1 : ∀ i, aQp m c i = ((aQp m c i : EReal).toReal : EReal)
  f2 : ∀ i, aKn m c i = ((aKn m c i : EReal).toReal : EReal)
  f3 : ∀ i, aKp m c i = ((aKp m c i : EReal).toReal : EReal)
  f4 : ∀ i, aV m c i = ((aV m c i : EReal).toReal : EReal)
  f5 : ∀ i, aWo m c i = ((aWo m c i : EReal).toReal : EReal)
  f6 : ∀ i, aDz m c i = ((aDz m c i : EReal).toReal : EReal)

theorem args_of (h : Cert.Pre_AttnIdeal_attn_finite (hPre_attn_finite := Cert.Pre_attn_finite.Gen.facts) m) (c : Dev nD) : Args m c := by
  obtain ⟨h0, h1, h2, h3, h4, h5, h6⟩ := h c
  exact ⟨real_of _ h0, real_of _ h1, real_of _ h2, real_of _ h3, real_of _ h4, real_of _ h5, real_of _ h6⟩

/-- The queries: the plain part, the rotary part, and the rotary part once more. -/
def qr (c : Dev nD) (h t e : ℕ) : ℝ :=
  if e < 128 then re3 (aQn m c) t h e else if e - 128 < 64 then re3 (aQp m c) t h (e - 128) else re3 (aQp m c) t h (e - 128 - 64)
/-- The keys: the plain part, the rotary part all heads share, and zero. -/
def kr (c : Dev nD) (h t e : ℕ) : ℝ :=
  if e < 128 then re3 (aKn m c) t h e else if e - 128 < 64 then re2 (aKp m c) t (e - 128) else 0
/-- The values, and ones behind them. -/
def vr (c : Dev nD) (h t e : ℕ) : ℝ := if e < 128 then re3 (aV m c) t h e else 1
/-- The output's gradient before the product with the weight, and the weight. -/
def zr (c : Dev nD) : ℕ → ℕ → ℝ := re2 (aDz m c)
def wr (c : Dev nD) : ℕ → ℕ → ℝ := re2 (aWo m c)
/-- The attention's output by token and column. -/
def orr (c : Dev nD) (t e : ℕ) : ℝ := out (qr m c) (kr m c) (vr m c) (e / 128) t (e % 128)
/-- What the gradient reads of head `h`. -/
def hd (c : Dev nD) (h : ℕ) : Head where
  q := qr m c h
  k := kr m c h
  v := vr m c h
  g := fun t d => dO (zr m c) (wr m c) t (128 * h + d)
  L := lse (qr m c) (kr m c) h
  D := delta (zr m c) (wr m c) (orr m c) h

variable {m} {c : Dev nD} (H : Args m c)
include H

theorem reals : Reals (R1 m ρ) c (qr m c) (kr m c) (vr m c) where
  hq h t e := by
    rw [w1_v2, qr]
    split_ifs
    · exact re3_eq H.f0 t h ⟨e.val, _⟩
    · exact re3_eq H.f1 t h ⟨e.val - 128, _⟩
    · exact re3_eq H.f1 t h ⟨e.val - 128 - 64, _⟩
  hk h t e := by
    rw [w1_v8, kr]
    split_ifs
    · exact re3_eq H.f2 t h ⟨e.val, _⟩
    · exact re2_eq H.f3 t ⟨e.val - 128, _⟩
    · rfl
  hv h t e := by
    rw [w1_v12, vr]
    split_ifs
    · exact re3_eq H.f4 t h ⟨e.val, _⟩
    · rfl
  h1 h s d := by rw [vr, if_neg (by omega)]

theorem w2_o : W2 m ρ c (Proc.devRef .tc main_v13_0) = fun i : S16384x1024.Idx => ((orr m c (i 0).val (i 1).val : ℝ) : EReal) :=
  (W2_arr m ρ c 3).trans (out_arr (R1 m ρ) c (reals ρ H))

theorem reals1 : Reals1 (R2 m ρ) c (zr m c) (wr m c) (orr m c) where
  hz t e := by
    show W2 m ρ c (Proc.devRef .tc main_arg6) _ = _
    rw [W2_of_ne m ρ c main_arg6 (by decide), show W1 m ρ c (Proc.devRef .tc main_arg6) = aDz m c from
      StableHlo.after_of_writes_sub hostOps0 _ hostOps0_writes (by decide)]
    exact re2_eq H.f6 t e
  hw t e := by
    show W2 m ρ c (Proc.devRef .tc main_arg5) _ = _
    rw [W2_of_ne m ρ c main_arg5 (by decide), show W1 m ρ c (Proc.devRef .tc main_arg5) = aWo m c from
      StableHlo.after_of_writes_sub hostOps0 _ hostOps0_writes (by decide)]
    exact re2_eq H.f5 t e
  ho t e := by
    show W2 m ρ c (Proc.devRef .tc main_v13_0) _ = _
    rw [w2_o ρ H]; rfl

omit H in
theorem w3_in0 (w : Fin cfg0.W) (hw : (cfg0.win w).isOut = false) (r : Ref sig .tc) (e : Pipeline.arrRef spec0 w = r) (hr : ∀ w, Pipeline.arrRef spec1 w ≠ r) :
    W3 m ρ c (Proc.devRef .tc r) = W1 m ρ c (Proc.devRef .tc r) := by
  refine (W3_of_ne m ρ c r hr).trans ?_
  subst e
  exact (W2_arr m ρ c w).trans (((dat0 (R1 m ρ) c).arrAt_in w hw _).trans (A_eq0 (R1 m ρ) c w))

theorem w3_o : W3 m ρ c (Proc.devRef .tc main_v13_0) = fun i : S16384x1024.Idx => ((orr m c (i 0).val (i 1).val : ℝ) : EReal) :=
  ((W3_arr m ρ c 2).trans (((dat1 (R2 m ρ) c).arrAt_in 2 rfl _).trans (A_eq1 (R2 m ρ) c 2))).trans (w2_o ρ H)

theorem reals2 : Reals2 (R3 m ρ) c (hd m c) where
  hq h t e := by
    show W3 m ρ c (Proc.devRef .tc main_v2) _ = _
    rw [w3_in0 ρ 0 rfl main_v2 rfl (by decide)]; exact (reals ρ H).hq h t e
  hk h t e := by
    show W3 m ρ c (Proc.devRef .tc main_v8) _ = _
    rw [w3_in0 ρ 1 rfl main_v8 rfl (by decide)]; exact (reals ρ H).hk h t e
  hv h t e := by
    show W3 m ρ c (Proc.devRef .tc main_v12) _ = _
    rw [w3_in0 ρ 2 rfl main_v12 rfl (by decide)]; exact (reals ρ H).hv h t e
  hg t e := by
    show W3 m ρ c (Proc.devRef .tc main_v14_0) _ = _
    rw [show W3 m ρ c (Proc.devRef .tc main_v14_0) = _ from (W3_arr m ρ c 3).trans (do_arr (R2 m ρ) c (reals1 ρ H))]
    show _ = ((dO (zr m c) (wr m c) t.val (128 * (e.val / 128) + e.val % 128) : ℝ) : EReal)
    rw [Nat.div_add_mod]; rfl
  hl t e := by
    show W3 m ρ c (Proc.devRef .tc main_v13_1) _ = _
    rw [W3_of_ne m ρ c main_v13_1 (by decide), show W2 m ρ c (Proc.devRef .tc main_v13_1) = _ from (W2_arr m ρ c 4).trans (lse_arr (R1 m ρ) c (reals ρ H))]
    rfl
  hd t e := by
    show W3 m ρ c (Proc.devRef .tc main_v14_1) _ = _
    rw [show W3 m ρ c (Proc.devRef .tc main_v14_1) = _ from (W3_arr m ρ c 4).trans (delta_arr (R2 m ρ) c (reals1 ρ H))]
    rfl

theorem w4_dq : W4 m ρ c (Proc.devRef .tc main_v15_0) = fun i : S8x16384x256.Idx => ((gradQ (hd m c) (i 0).val (i 1).val (i 2).val : ℝ) : EReal) :=
  (W4_arr m ρ c 6).trans (dq_arr (R3 m ρ) c (reals2 ρ H))
theorem w4_dk : W4 m ρ c (Proc.devRef .tc main_v15_1) = fun i : S8x16384x256.Idx => ((gradK (hd m c) (i 0).val (i 1).val (i 2).val : ℝ) : EReal) :=
  (W4_arr m ρ c 7).trans (dk_arr (R3 m ρ) c (reals2 ρ H))
theorem w5_dv : W5 m ρ c (Proc.devRef .tc main_v15_2) = fun i : S8x16384x128.Idx => ((gradV (hd m c) (i 0).val (i 1).val (i 2).val : ℝ) : EReal) :=
  (StableHlo.after_of_writes_sub hostOps3 _ hostOps3_writes (by decide)).trans ((W4_arr m ρ c 8).trans (dv_arr (R3 m ρ) c (reals2 ρ H)))
theorem w5_o : W5 m ρ c (Proc.devRef .tc main_v13_0) = fun i : S16384x1024.Idx => ((orr m c (i 0).val (i 1).val : ℝ) : EReal) :=
  (StableHlo.after_of_writes_sub hostOps3 _ hostOps3_writes (by decide)).trans ((W4_of_ne m ρ c main_v13_0 (by decide)).trans (w3_o ρ H))
theorem w5_dqn : W5 m ρ c (Proc.devRef .tc main_v16) = fun i : S8x16384x128.Idx => ((gradQ (hd m c) (i 0).val (i 1).val (i 2).val : ℝ) : EReal) := by
  unfold W5
  after_results
  rw [w4_dq ρ H]
  funext i; idx_vars i; pointwise
theorem w5_dqp : W5 m ρ c (Proc.devRef .tc main_v17) = fun i : S8x16384x64.Idx => ((gradQ (hd m c) (i 0).val (i 1).val (128 + (i 2).val) : ℝ) : EReal) := by
  unfold W5
  after_results
  rw [w4_dq ρ H]
  funext i; idx_vars i; pointwise
theorem w5_dkn : W5 m ρ c (Proc.devRef .tc main_v18) = fun i : S8x16384x128.Idx => ((gradK (hd m c) (i 0).val (i 1).val (i 2).val : ℝ) : EReal) := by
  unfold W5
  after_results
  rw [w4_dk ρ H]
  funext i; idx_vars i; pointwise
theorem w5_dkp : W5 m ρ c (Proc.devRef .tc main_v20) = fun i : S16384x64.Idx => ((∑ h ∈ Finset.range 8, gradK (hd m c) h (i 0).val (128 + (i 1).val) : ℝ) : EReal) := by
  unfold W5
  after_results
  rw [w4_dk ρ H]
  funext i; idx_vars i
  rw [Finset.sum_range, coe_sum]
  pointwise!
end Cert.AttnIdeal.Value
-- ==== Proof.Attn.RefReal.lean ====
module

public import proofs.«01_k».proof.Proof.Attn.RefVal
public import proofs.«01_k».proof.Proof.Attn.Host

/-! The reference's weights and gradients are the kernel's, in reals. -/

@[expose] public section
set_option maxRecDepth 16384
noncomputable section
namespace Cert.AttnIdeal.Value
open Idealize.ShloMosaic Idealize.ShloMosaic.TcCoe Idealize.SL.Sem
open Cert.AttnIdeal Cert.AttnIdeal.Gen Cert.Finite
open Cert.AttnRefIdeal.Value (SC EX DP DS PR DO SC_at MX_at EX_at DO_at DP_at PR_at DS_at)

variable {m : (ℓ : Loc nD τ sig) → Buf (Elt Ideal) ℓ} {c : Dev nD}

/-- The score, its two parts apart. -/
def S (m : (ℓ : Loc nD τ sig) → Buf (Elt Ideal) ℓ) (c : Dev nD) (h t s : ℕ) : ℝ :=
  (∑ d ∈ Finset.range 128, re3 (aQn m c) t h d * re3 (aKn m c) s h d) + ∑ d ∈ Finset.range 64, re2 (aKp m c) s d * re3 (aQp m c) t h d

theorem qr_n {h t d : ℕ} (hd : d < 128) : qr m c h t d = re3 (aQn m c) t h d := by rw [qr, if_pos hd]
theorem qr_p {h t d : ℕ} (hd : d < 64) : qr m c h t (128 + d) = re3 (aQp m c) t h d := by
  rw [qr, if_neg (by omega), if_pos (by omega), Nat.add_sub_cancel_left]
theorem kr_n {h t d : ℕ} (hd : d < 128) : kr m c h t d = re3 (aKn m c) t h d := by rw [kr, if_pos hd]
theorem kr_p {h t d : ℕ} (hd : d < 64) : kr m c h t (128 + d) = re2 (aKp m c) t d := by
  rw [kr, if_neg (by omega), if_pos (by omega), Nat.add_sub_cancel_left]
theorem kr_z {h t d : ℕ} : kr m c h t (192 + d) = 0 := by
  rw [kr, if_neg (by omega), if_neg (by omega)]
theorem vr_v {h t d : ℕ} (hd : d < 128) : vr m c h t d = re3 (aV m c) t h d := by rw [vr, if_pos hd]

theorem score_split (h t s : ℕ) : score (qr m c h t) (kr m c h) s = S m c h t s := by
  rw [score, show (256 : ℕ) = 128 + 64 + 64 from rfl, Finset.sum_range_add, Finset.sum_range_add, S]
  have z : ∑ x ∈ Finset.range 64, qr m c h t (128 + 64 + x) * kr m c h s (128 + 64 + x) = 0 :=
    Finset.sum_eq_zero fun x _ => by rw [show 128 + 64 + x = 192 + x from by omega, kr_z, mul_zero]
  rw [z, add_zero]
  refine congrArg₂ (· + ·) (Finset.sum_congr rfl fun d hd => ?_) (Finset.sum_congr rfl fun d hd => ?_)
  · rw [qr_n (Finset.mem_range.1 hd), kr_n (Finset.mem_range.1 hd)]
  · rw [qr_p (Finset.mem_range.1 hd), kr_p (Finset.mem_range.1 hd), mul_comm]

/-- A row's sum of exponentials. -/
def Z (m : (ℓ : Loc nD τ sig) → Buf (Elt Ideal) ℓ) (c : Dev nD) (h t : ℕ) : ℝ := ∑ s ∈ Finset.range 16384, Real.exp (S m c h t s)
theorem Z_pos (h t : ℕ) : 0 < Z m c h t := Finset.sum_pos (fun _ _ => Real.exp_pos _) ⟨0, by simp⟩

theorem p_eq (h t s : ℕ) : (hd m c h).p t s = Real.exp (S m c h t s) / Z m c h t := by
  have e : lse (qr m c) (kr m c) h t = Real.log (Z m c h t) := by
    unfold lse sc Z; simp only [score_split]
  show Real.exp (score (qr m c h t) (kr m c h) s - lse (qr m c) (kr m c) h t) = _
  rw [score_split, e, Real.exp_sub, Real.exp_log (Z_pos h t)]

theorem out_eq (h t d : ℕ) : out (qr m c) (kr m c) (vr m c) h t d = ∑ s ∈ Finset.range 16384, (hd m c h).p t s * vr m c h s d := by
  unfold out sc
  simp only [score_split, p_eq]
  rw [show (∑ s ∈ Finset.range 16384, Real.exp (S m c h t s)) = Z m c h t from rfl, Finset.sum_div]
  exact Finset.sum_congr rfl fun s _ => by ring

/-- The weight's gradient. -/
def dp (m : (ℓ : Loc nD τ sig) → Buf (Elt Ideal) ℓ) (c : Dev nD) (h t s : ℕ) : ℝ :=
  ∑ d ∈ Finset.range 128, dO (zr m c) (wr m c) t (128 * h + d) * re3 (aV m c) s h d

theorem delta_eq (h t : ℕ) : delta (zr m c) (wr m c) (orr m c) h t = ∑ s ∈ Finset.range 16384, (hd m c h).p t s * dp m c h t s := by
  unfold delta dp
  simp only [Finset.mul_sum]
  rw [Finset.sum_comm]
  refine Finset.sum_congr rfl fun d hd' => ?_
  have hd := Finset.mem_range.1 hd'
  rw [orr, show (128 * h + d) / 128 = h from by omega, show (128 * h + d) % 128 = d from by omega, out_eq, Finset.mul_sum]
  refine Finset.sum_congr rfl fun s _ => ?_
  rw [vr_v hd]; ring

theorem s_eq (h t s : ℕ) : (hd m c h).s t s
    = (hd m c h).p t s * (dp m c h t s - ∑ y ∈ Finset.range 16384, (hd m c h).p t y * dp m c h t y) := by
  show (hd m c h).p t s * ((∑ d ∈ Finset.range 128, dO (zr m c) (wr m c) t (128 * h + d) * vr m c h s d) - delta (zr m c) (wr m c) (orr m c) h t) = _
  rw [delta_eq, dp]
  refine congrArg (fun z => (hd m c h).p t s * (z - _)) (Finset.sum_congr rfl fun d hd' => ?_)
  rw [vr_v (Finset.mem_range.1 hd')]

/-- A weight is the same whatever was taken off the scores of its row. -/
theorem shifted (h t s : ℕ) (M : ℝ) : Real.exp (S m c h t s - M) / (∑ y ∈ Finset.range 16384, Real.exp (S m c h t y - M)) = (hd m c h).p t s := by
  have hM := (Real.exp_pos M).ne'
  have hZ := (Z_pos (m := m) (c := c) h t).ne'
  have e : (∑ y ∈ Finset.range 16384, Real.exp (S m c h t y - M)) = Z m c h t / Real.exp M := by
    rw [Z, Finset.sum_div]; exact Finset.sum_congr rfl fun y _ => Real.exp_sub _ _
  rw [e, p_eq, Real.exp_sub]
  field_simp

theorem sum_pos' (h t : ℕ) (M : ℝ) : (∑ y ∈ Finset.range 16384, Real.exp (S m c h t y - M)) ≠ 0 :=
  (Finset.sum_pos (fun _ _ => Real.exp_pos _) ⟨0, by simp⟩).ne'

/-- The scores' gradient as the quotient's rule gives it. -/
theorem quotient (h t s : ℕ) (M : ℝ) :
    (dp m c h t s / (∑ y ∈ Finset.range 16384, Real.exp (S m c h t y - M))
      + -∑ y ∈ Finset.range 16384, dp m c h t y * (1 / ((∑ x ∈ Finset.range 16384, Real.exp (S m c h t x - M)) * (∑ x ∈ Finset.range 16384, Real.exp (S m c h t x - M)))) * Real.exp (S m c h t y - M))
      * Real.exp (S m c h t s - M) = (hd m c h).s t s := by
  rw [s_eq, ← shifted h t s M]
  have hL := sum_pos' (m := m) (c := c) h t M
  have e : (∑ y ∈ Finset.range 16384, (hd m c h).p t y * dp m c h t y)
      = (∑ y ∈ Finset.range 16384, dp m c h t y * (1 / ((∑ x ∈ Finset.range 16384, Real.exp (S m c h t x - M)) * (∑ x ∈ Finset.range 16384, Real.exp (S m c h t x - M)))) * Real.exp (S m c h t y - M))
        * (∑ x ∈ Finset.range 16384, Real.exp (S m c h t x - M)) := by
    rw [Finset.sum_mul]
    refine Finset.sum_congr rfl fun y _ => ?_
    rw [← shifted h t y M]; field_simp
  rw [e]
  generalize (∑ y ∈ Finset.range 16384, dp m c h t y * _ * _) = B
  field_simp
  ring

variable (H : Args m c)
include H

theorem ref_ds (h : Fin 8) (t x : Fin 16384) :
    DS (EX (SC (aQn m c) (aKn m c) (aQp m c) (aKp m c))) (DP (aV m c) (aWo m c) (aDz m c)) (ix3 h t x) = (((hd m c h.val).s t.val x.val : ℝ) : EReal) := by
  have hs := SC_at (re3_eq H.f0) (re3_eq H.f2) (re3_eq H.f1) (re2_eq H.f3)
  obtain ⟨M, hM⟩ := MX_at (s := S m c) hs
  have he := EX_at (s := S m c) hs hM
  have hp := DP_at (a5 := aWo m c) (a6 := aDz m c) (g := fun h t d => dO (zr m c) (wr m c) t (128 * h + d)) (re3_eq H.f4) (DO_at (re2_eq H.f5) (re2_eq H.f6))
  rw [DS_at (e := fun h t x => Real.exp (S m c h t x - M h t)) (p := dp m c) he hp (fun h t => sum_pos' h t _)]
  exact congrArg _ (quotient h t x (M h t))

theorem ref_pr (h : Fin 8) (t x : Fin 16384) :
    PR (EX (SC (aQn m c) (aKn m c) (aQp m c) (aKp m c))) (ix3 h t x) = (((hd m c h.val).p t.val x.val : ℝ) : EReal) := by
  have hs := SC_at (re3_eq H.f0) (re3_eq H.f2) (re3_eq H.f1) (re2_eq H.f3)
  obtain ⟨M, hM⟩ := MX_at (s := S m c) hs
  have he := EX_at (s := S m c) hs hM
  rw [PR_at (e := fun h t x => Real.exp (S m c h t x - M h t)) he (fun h t => sum_pos' h t _)]
  exact congrArg _ (shifted h t x (M h t))

theorem ref_do (h : Fin 8) (d : Fin 128) (t : Fin 16384) : DO (aWo m c) (aDz m c) (ix3 h d t) = (((hd m c h.val).g t.val d.val : ℝ) : EReal) :=
  DO_at (re2_eq H.f5) (re2_eq H.f6) h d t
end Cert.AttnIdeal.Value
-- ==== Proof.Attn.Value.lean ====
module

public import proofs.«01_k».proof.Proof.Attn.RefReal
public import proofs.«01_k».proof.Proof.Gen.Attn

/-! The attention's gradients: the kernel's results are the reference's. -/

@[expose] public section
set_option maxRecDepth 16384
noncomputable section
namespace Cert.AttnIdeal.Value
open Idealize.ShloMosaic Idealize.ShloMosaic.TcCoe Idealize.SL.Sem
open Cert.AttnIdeal Cert.AttnIdeal.Gen Cert.Finite
open Cert.AttnIdeal.Run (W5 mem_uc W5_of W5_in)
open Cert.AttnRefIdeal.Value (SC EX DP DS PR DO dQn dQp dKn dKp dV OUT dQn_at dQp_at dKn_at dKp_at dV_at OUT_at)

variable {m : (ℓ : Loc nD τ sig) → Buf (Elt Ideal) ℓ} {c : Dev nD}

/-- The scores' gradient and the weights, over the kernel's arguments. -/
abbrev dsA (m : (ℓ : Loc nD τ sig) → Buf (Elt Ideal) ℓ) (c : Dev nD) := DS (EX (SC (aQn m c) (aKn m c) (aQp m c) (aKp m c))) (DP (aV m c) (aWo m c) (aDz m c))
abbrev prA (m : (ℓ : Loc nD τ sig) → Buf (Elt Ideal) ℓ) (c : Dev nD) := PR (EX (SC (aQn m c) (aKn m c) (aQp m c) (aKp m c)))

section
variable (H : Args m c)
include H

theorem eq_dqn : dQn (aKn m c) (dsA m c) = fun i : S8x16384x128.Idx => ((gradQ (hd m c) (i 0).val (i 1).val (i 2).val : ℝ) : EReal) := by
  funext i; idx_vars i
  rw [dQn_at (re3_eq H.f2) (f := fun h t x => (hd m c h).s t x) (ref_ds H)]
  exact congrArg _ (Finset.sum_congr rfl fun x _ => congrArg _ (kr_n (Fin.isLt _)).symm)
theorem eq_dqp : dQp (aKp m c) (dsA m c) = fun i : S8x16384x64.Idx => ((gradQ (hd m c) (i 0).val (i 1).val (128 + (i 2).val) : ℝ) : EReal) := by
  funext i; idx_vars i
  rw [dQp_at (re2_eq H.f3) (f := fun h t x => (hd m c h).s t x) (ref_ds H)]
  exact congrArg _ (Finset.sum_congr rfl fun x _ => congrArg _ (kr_p (Fin.isLt _)).symm)
theorem eq_dkn : dKn (aQn m c) (dsA m c) = fun i : S8x16384x128.Idx => ((gradK (hd m c) (i 0).val (i 1).val (i 2).val : ℝ) : EReal) := by
  funext i; idx_vars i
  rw [dKn_at (re3_eq H.f0) (f := fun h t x => (hd m c h).s t x) (ref_ds H)]
  exact congrArg _ (Finset.sum_congr rfl fun x _ => congrArg _ (qr_n (Fin.isLt _)).symm)
theorem eq_dkp : dKp (aQp m c) (dsA m c) = fun i : S16384x64.Idx => ((∑ h ∈ Finset.range 8, gradK (hd m c) h (i 0).val (128 + (i 1).val) : ℝ) : EReal) := by
  funext i; idx_vars i
  rw [dKp_at (re3_eq H.f1) (f := fun h t x => (hd m c h).s t x) (ref_ds H)]
  exact congrArg _ (Finset.sum_congr rfl fun h _ => Finset.sum_congr rfl fun x _ => congrArg _ (qr_p (Fin.isLt _)).symm)
theorem eq_dv : dV (aWo m c) (aDz m c) (prA m c) = fun i : S8x16384x128.Idx => ((gradV (hd m c) (i 0).val (i 1).val (i 2).val : ℝ) : EReal) := by
  funext i; idx_vars i
  rw [dV_at (g := fun h t d => (hd m c h).g t d) (ref_do H) (f := fun h t x => (hd m c h).p t x) (ref_pr H)]
  rfl
theorem eq_out : OUT (aV m c) (prA m c) = fun i : S16384x1024.Idx => ((orr m c (i 0).val (i 1).val : ℝ) : EReal) := by
  funext i; idx_vars i
  rw [OUT_at (re3_eq H.f4) (f := fun h t x => (hd m c h).p t x) (ref_pr H)]
  refine congrArg _ (Eq.trans ?_ (out_eq _ _ _).symm)
  exact Finset.sum_congr rfl fun x _ => congrArg _ (vr_v (Nat.mod_lt _ (by norm_num))).symm
end

theorem algebraic : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  intro m g m' g' hpre hargs
  refine ⟨fun c => W5 m g c (Proc.devRef .tc main_v16), fun c => W5 m g c (Proc.devRef .tc main_v17), fun c => W5 m g c (Proc.devRef .tc main_v18),
    fun c => W5 m g c (Proc.devRef .tc main_v20), fun c => W5 m g c (Proc.devRef .tc main_v15_2), fun c => W5 m g c (Proc.devRef .tc main_v13_0), ?_, ?_⟩
  · exact (θ_run _ _ _).mono (fun r h c => ⟨h.1 c _ (mem_uc main_v16 (by decide)), h.1 c _ (mem_uc main_v17 (by decide)), h.1 c _ (mem_uc main_v18 (by decide)),
      h.1 c _ (mem_uc main_v20 (by decide)), h.1 c _ (mem_uc main_v15_2 (by decide)), h.1 c _ (mem_uc main_v13_0 (by decide)),
      (h.1 c _ (mem_uc main_arg0 (by decide))).trans (W5_of m g c main_arg0 (by decide) (by decide) (by decide) (by decide) (by decide)),
      (h.1 c _ (mem_uc main_arg1 (by decide))).trans (W5_of m g c main_arg1 (by decide) (by decide) (by decide) (by decide) (by decide)),
      (h.1 c _ (mem_uc main_arg2 (by decide))).trans (W5_of m g c main_arg2 (by decide) (by decide) (by decide) (by decide) (by decide)),
      (h.1 c _ (mem_uc main_arg3 (by decide))).trans (W5_of m g c main_arg3 (by decide) (by decide) (by decide) (by decide) (by decide)),
      (h.1 c _ (mem_uc main_arg4 (by decide))).trans (W5_of m g c main_arg4 (by decide) (by decide) (by decide) (by decide) (by decide)),
      (h.1 c _ (mem_uc main_arg5 (by decide))).trans (W5_in m g c main_arg5 1 rfl rfl (by decide) (by decide) (by decide) (by decide)),
      (h.1 c _ (mem_uc main_arg6 (by decide))).trans (W5_in m g c main_arg6 0 rfl rfl (by decide) (by decide) (by decide) (by decide))⟩) (Cert.AttnIdeal.Run.run_main m g)
  · refine (θ_run _ _ _).mono (fun r h c => ?_) (Cert.AttnRefIdeal.Value.run m' g')
    obtain ⟨h0, h1, h2, h3, h4, h5, hm⟩ := h c
    obtain ⟨e0, e1, e2, e3, e4, e5, e6⟩ := hargs c
    have H := args_of m hpre c
    refine ⟨h0.trans (Eq.trans ?_ ((eq_dqn H).trans (w5_dqn g H).symm)), h1.trans (Eq.trans ?_ ((eq_dqp H).trans (w5_dqp g H).symm)),
      h2.trans (Eq.trans ?_ ((eq_dkn H).trans (w5_dkn g H).symm)), h3.trans (Eq.trans ?_ ((eq_dkp H).trans (w5_dkp g H).symm)),
      h4.trans (Eq.trans ?_ ((eq_dv H).trans (w5_dv g H).symm)), h5.trans (Eq.trans ?_ ((eq_out H).trans (w5_o g H).symm)), hm⟩
    · unfold Cert.AttnRefIdeal.Value.res_main_v61; rw [e0, e1, e2, e3, e4, e5, e6]; rfl
    · unfold Cert.AttnRefIdeal.Value.res_main_v62; rw [e0, e1, e2, e3, e4, e5, e6]; rfl
    · unfold Cert.AttnRefIdeal.Value.res_main_v63; rw [e0, e1, e2, e3, e4, e5, e6]; rfl
    · unfold Cert.AttnRefIdeal.Value.res_main_v56; rw [e0, e1, e2, e3, e4, e5, e6]; rfl
    · rw [e0, e1, e2, e3, e5, e6]; rfl
    · rw [e0, e1, e2, e3, e4]; rfl

/-- The reference's run, for the frame. -/
theorem frame_ref : Cert.quiescent_AttnRefIdeal (hAttnRefIdeal := Cert.AttnRefIdeal.Gen.facts) := by
  intro m ρ _
  hlo_run
  · exact fun _ => ⟨trivial, trivial, trivial, trivial, trivial, trivial, trivial⟩
  · exact sem_eq_zero_of_no_sems (by decide) _

/-- The run of the ideal kernel, and of the kernel as printed: one text. -/
theorem frame_ideal : Cert.quiescent_AttnIdeal (hAttnIdeal := Cert.AttnIdeal.Gen.facts) := fun m ρ _ => Cert.AttnIdeal.Run.frame m ρ
/-- The frame's statement over the run shared with the ideal program, at the float words. -/
abbrev Frame (F : FTy → Type) [FloatOps F] : Prop := ∀ (m : (ℓ : Loc nD τ sig) → Buf (Elt F) ℓ) (ρ : Dev nD → PrngReg), True →
  θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
theorem frame_kernel : Cert.quiescent_Attn (hAttn := Cert.Attn.Gen.facts) := by
  have e : Cert.quiescent_Attn (hAttn := Cert.Attn.Gen.facts) = Frame Bits := by sl_kernel_rfl
  rw [e]
  exact fun m ρ _ => Cert.AttnIdeal.Run.frame (F := Bits) m ρ
end Cert.AttnIdeal.Value
-- ==== Proof.Reals.lean ====
module

public import proofs.«01_k».proof.Proof.Lits

/-! Extended reals that are real: the operations on them are the real ones. -/

@[expose] public section

noncomputable section

namespace Cert.Reals

open Idealize.ShloMosaic

theorem minus_half : Ideal.ofBits .f32 0xBF000000#32 = ((-(1 / 2) : ℝ) : EReal) := by
  simp [Ideal.ofBits, Ideal.ieee, -EReal.coe_mul]; norm_num
/-- The small number added to a variance. -/
theorem eps5 : ∃ e : ℝ, 0 < e ∧ Ideal.ofBits .f32 0x3727C5AC#32 = (e : EReal) :=
  ⟨10995116 / 1099511627776, by norm_num, by simp [Ideal.ofBits, Ideal.ieee, -EReal.coe_mul]; norm_num⟩

theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem div_coe (x y : ℝ) (h : y ≠ 0) : Ideal.div (x : EReal) (y : EReal) = ((x / y : ℝ) : EReal) := by
  rw [Ideal.div_coe h, ← EReal.coe_mul, mul_one_div]

theorem rsqrt_pos (x : ℝ) (h : 0 < x) : Ideal.rsqrt (x : EReal) = (((Real.sqrt x)⁻¹ : ℝ) : EReal) := by
  rw [Ideal.rsqrt_coe, if_neg (not_lt.2 h.le), if_neg h.ne']

end Cert.Reals
-- ==== Proof.LnbMath.lean ====
module

public import proofs.«01_k».proof.Proof.Reals

/-! The gradient of the layer norm of one row, in two forms: with the row's two means taken off at once, and by the
    chain rule through the mean and the variance. Over real numbers they are the same. -/

@[expose] public section

noncomputable section

namespace Cert.Lnb

open Idealize.ShloMosaic Cert.Reals

/-- The row length, as the programs write it. -/
abbrev len : EReal := Ideal.ofBits .f32 0x44800000#32

variable (d z g : Fin 1024 → EReal)

/-- An entry less the row's mean. -/
def zc (k : Fin 1024) : EReal := z k - Ideal.div (∑ j, z j) len
/-- The variance and the small number. -/
def ve : EReal := Ideal.div (∑ j, zc z j * zc z j) len + Ideal.ofBits .f32 0x3727C5AC#32
/-- The reciprocal of the deviation. -/
def rs : EReal := Ideal.rsqrt (ve z)
/-- The normalised entry. -/
def xh (k : Fin 1024) : EReal := zc z k * rs z
/-- The gradient of the row with both means taken off. -/
def dzK (k : Fin 1024) : EReal :=
  rs z * (d k * g k - Ideal.div (∑ j, d j * g j) len - xh z k * Ideal.div (∑ j, d j * g j * xh z j) len)
/-- The factor of the variance's share. -/
def cv : EReal := Ideal.div ((∑ j, zc z j * (d j * g j)) * (Ideal.ofBits .f32 0xBF000000#32 * Ideal.div (rs z) (ve z))) len
/-- The gradient of the row by the chain rule. -/
def dzR (k : Fin 1024) : EReal :=
  d k * g k * rs z + cv d z g * (Ideal.ofBits .f32 0x40000000#32 * zc z k)
    + Ideal.div (∑ j, -(d j * g j * rs z) + ∑ j, -(cv d z g * (Ideal.ofBits .f32 0x40000000#32 * zc z j))) len

/-- The equation over the reals. -/
theorem real_eq (D Z : Fin 1024 → ℝ) (v : ℝ) (hv : 0 < v) (hz : ∑ j, Z j = 0) (k : Fin 1024) :
    (Real.sqrt v)⁻¹ * (D k - (∑ j, D j) / 1024 - Z k * (Real.sqrt v)⁻¹ * ((∑ j, D j * (Z j * (Real.sqrt v)⁻¹)) / 1024))
    = D k * (Real.sqrt v)⁻¹ + (∑ j, Z j * D j) * (-(1 / 2) * ((Real.sqrt v)⁻¹ / v)) / 1024 * (2 * Z k)
      + (∑ j, -(D j * (Real.sqrt v)⁻¹)
        + ∑ j, -((∑ j, Z j * D j) * (-(1 / 2) * ((Real.sqrt v)⁻¹ / v)) / 1024 * (2 * Z j))) / 1024 := by
  have hs : Real.sqrt v ≠ 0 := (Real.sqrt_pos.2 hv).ne'
  have hv' : v = Real.sqrt v * Real.sqrt v := (Real.mul_self_sqrt hv.le).symm
  generalize Real.sqrt v = s at hs hv' ⊢
  subst hv'
  have e1 : ∑ j, D j * (Z j * s⁻¹) = (∑ j, Z j * D j) * s⁻¹ := by
    rw [Finset.sum_mul]; exact Finset.sum_congr rfl fun j _ => by ring
  have e2 : ∑ j, -(D j * s⁻¹) = -((∑ j, D j) * s⁻¹) := by rw [Finset.sum_neg_distrib, Finset.sum_mul]
  have e3 : ∀ C : ℝ, ∑ j, -(C * (2 * Z j)) = 0 := fun C => by
    rw [Finset.sum_neg_distrib, ← Finset.mul_sum, ← Finset.mul_sum, hz]; simp
  rw [e1, e2, e3]
  generalize ∑ j, Z j * D j = A
  generalize ∑ j, D j = B
  field_simp
  ring

theorem dz_eq (hd : ∀ k, d k = ((d k).toReal : EReal)) (hz : ∀ k, z k = ((z k).toReal : EReal)) (hg : ∀ k, g k = ((g k).toReal : EReal))
    (k : Fin 1024) : dzK d z g k = dzR d z g k := by
  obtain ⟨e, he, hE⟩ := eps5
  have hl : (1024 : ℝ) ≠ 0 := by norm_num
  have kc : ∀ j, zc z j = (((z j).toReal - (∑ i, (z i).toReal) / 1024 : ℝ) : EReal) := fun j => by
    rw [zc, len, Lits.kilo, Finset.sum_congr rfl fun i _ => hz i, sum_coe, div_coe _ _ hl, EReal.coe_sub, ← hz j]
  have kd : ∀ j, d j * g j = (((d j).toReal * (g j).toReal : ℝ) : EReal) := fun j => by rw [EReal.coe_mul, ← hd, ← hg]
  have h0 : ∑ j, ((z j).toReal - (∑ i, (z i).toReal) / 1024) = 0 := by
    rw [Finset.sum_sub_distrib, Finset.sum_const, Finset.card_univ, Fintype.card_fin, nsmul_eq_mul]; push_cast; ring
  revert kc kd h0
  generalize hZ : (fun j => (z j).toReal - (∑ i, (z i).toReal) / 1024 : Fin 1024 → ℝ) = Z
  generalize hD : (fun j => (d j).toReal * (g j).toReal : Fin 1024 → ℝ) = D
  intro kc kd h0
  replace kc : ∀ j, zc z j = (Z j : EReal) := fun j => (kc j).trans (by rw [← hZ])
  replace kd : ∀ j, d j * g j = (D j : EReal) := fun j => (kd j).trans (by rw [← hD])
  have hp : 0 < (∑ j, Z j * Z j) / 1024 + e := add_pos_of_nonneg_of_pos (div_nonneg (Finset.sum_nonneg fun j _ => mul_self_nonneg _) (by norm_num)) he
  have kv : ve z = (((∑ j, Z j * Z j) / 1024 + e : ℝ) : EReal) := by
    simp only [ve, len, Lits.kilo, hE, kc, ← EReal.coe_mul, sum_coe, div_coe _ _ hl, ← EReal.coe_add]
  have kr : rs z = (((Real.sqrt ((∑ j, Z j * Z j) / 1024 + e))⁻¹ : ℝ) : EReal) := by rw [rs, kv, rsqrt_pos _ hp]
  simp only [dzK, dzR, cv, xh, kr, kv, kc, kd, len, Lits.kilo, Lits.two, minus_half, ← EReal.coe_mul, sum_coe, div_coe _ _ hl,
    div_coe _ _ hp.ne', ← EReal.coe_add, ← EReal.coe_sub, ← EReal.coe_neg]
  exact congrArg _ (real_eq D Z _ hp h0 k)

end Cert.Lnb
-- ==== Proof.LnbRef.lean ====
module

public import proofs.«01_k».proof.Proof.LnbMath
public import proofs.«01_k».proof.Proof.Gen.LnbRefIdeal.Run
public import Idealize.ShloMosaic.Lib.Pipeline.ValueKit
public import Idealize.ShloMosaic.Lib.Pointwise

/-! What the reference of the layer norm's gradient computes, entry by entry. -/

@[expose] public section
set_option maxRecDepth 16384
noncomputable section
namespace Cert.LnbRefIdeal.Value
open Idealize.ShloMosaic Idealize.ShloMosaic.TcCoe Idealize.SL.Sem
open Cert.LnbRefIdeal Cert.LnbRefIdeal.Gen Cert.Lnb

variable (a0 a1 : FVec Ideal S16384x1024 .f32) (a2 : FVec Ideal S1x1024 .f32)

/-- Row `r` of an array. -/
def row (a : FVec Ideal S16384x1024 .f32) (r : Fin 16384) : Fin 1024 → EReal := fun k => a (ix2 r k)

abbrev LEN : FVec Ideal S16384x1 .f32 := broadcastInDim S16384x1 ![] bcast_S_S16384x1 (constant S_ .f32 0x44800000#32)
/-- Entries less their row's mean. -/
def ZC : FVec Ideal S16384x1024 .f32 :=
  subf a1 (broadcastInDim S16384x1024 ![0, 1] bcast_S16384x1_S16384x1024_0_1 (Host.divf (broadcastInDim S16384x1 ![0] bcast_S16384_S16384x1_0 (Host.reduceAdd a1 (constant S_ .f32 0x00000000#32) reducesTo_S16384x1024_S16384_d1 h_S_)) LEN))
/-- The variances and the small number. -/
def VE : FVec Ideal S16384x1 .f32 :=
  addf (Host.divf (broadcastInDim S16384x1 ![0] bcast_S16384_S16384x1_0 (Host.reduceAdd (mulf (ZC a1) (ZC a1)) (constant S_ .f32 0x00000000#32) reducesTo_S16384x1024_S16384_d1 h_S_)) LEN) (broadcastInDim S16384x1 ![] bcast_S_S16384x1 (constant S_ .f32 0x3727C5AC#32))
/-- The reciprocals of the deviations. -/
def RS : FVec Ideal S16384x1024 .f32 := broadcastInDim S16384x1024 ![0, 1] bcast_S16384x1_S16384x1024_0_1 (Host.rsqrt (VE a1))
/-- The scaled cotangent. -/
def DX : FVec Ideal S16384x1024 .f32 :=
  mulf (shapeCast _ a0 shapeCasts_S16384x1024_S16384x1024) (broadcastInDim S16384x1024 ![0, 1] bcast_S1x1024_S16384x1024_0_1 (broadcastInDim S1x1024 ![1] bcast_S1024_S1x1024_1 (shapeCast _ a2 shapeCasts_S1x1024_S1024)))
/-- The factors of the variances' shares. -/
def CV : FVec Ideal S16384x1024 .f32 :=
  broadcastInDim S16384x1024 ![0] bcast_S16384_S16384x1024_0 (Host.reduceAdd (Host.divf (mulf (shapeCast _ (Host.reduceAdd (mulf (ZC a1) (DX a0 a2)) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (VE a1)) (VE a1)))) LEN) (constant S_ .f32 0x00000000#32) reducesTo_S16384x1_S16384_d1 h_S_)
/-- The variances' shares. -/
def VS : FVec Ideal S16384x1024 .f32 := mulf (CV a0 a1 a2) (mulf (broadcastInDim S16384x1024 ![] bcast_S_S16384x1024 (constant S_ .f32 0x40000000#32)) (ZC a1))
/-- The gradient of the rows. -/
def DZ : FVec Ideal S16384x1024 .f32 :=
  addf (addf (mulf (DX a0 a2) (RS a1)) (VS a0 a1 a2)) (broadcastInDim S16384x1024 ![0] bcast_S16384_S16384x1024_0 (Host.reduceAdd (Host.divf (addf (shapeCast _ (Host.reduceAdd (Host.negf (mulf (DX a0 a2) (RS a1))) (constant S_ .f32 0x00000000#32) reducesTo_S16384x1024_S16384_d1 h_S_) shapeCasts_S16384_S16384x1) (shapeCast _ (Host.reduceAdd (Host.negf (VS a0 a1 a2)) (constant S_ .f32 0x00000000#32) reducesTo_S16384x1024_S16384_d1 h_S_) shapeCasts_S16384_S16384x1)) LEN) (constant S_ .f32 0x00000000#32) reducesTo_S16384x1_S16384_d1 h_S_))
/-- The gradient of the scale. -/
def DG : FVec Ideal S1024 .f32 :=
  Host.reduceAdd (shapeCast _ (Host.reduceAdd (mulf (mulf (ZC a1) (RS a1)) (shapeCast _ a0 shapeCasts_S16384x1024_S16384x1024)) (constant S_ .f32 0x00000000#32) reducesTo_S16384x1024_S1024_d0 h_S_) shapeCasts_S1024_S1x1024) (constant S_ .f32 0x00000000#32) reducesTo_S1x1024_S1024_d0 h_S_
/-- The gradient of the shift. -/
def DB : FVec Ideal S1024 .f32 :=
  Host.reduceAdd (shapeCast _ (Host.reduceAdd a0 (constant S_ .f32 0x00000000#32) reducesTo_S16384x1024_S1024_d0 h_S_) shapeCasts_S1024_S1x1024) (constant S_ .f32 0x00000000#32) reducesTo_S1x1024_S1024_d0 h_S_

variable (r : Fin 16384) (k : Fin 1024)

theorem ZC_at : ZC a1 (ix2 r k) = zc (row a1 r) k := by pointwise [ZC, zc, row]
theorem VE_at : VE a1 (ix2 r 0) = ve (row a1 r) := by
  pointwise [VE, ve]
  simp only [ZC_at]
theorem RS_at : RS a1 (ix2 r k) = rs (row a1 r) := by
  pointwise [RS, rs]
  exact congrArg _ (VE_at a1 r)
theorem DX_at : DX a0 a2 (ix2 r k) = row a0 r k * a2 (ix2 0 k) := by pointwise [DX, row]
theorem CV_at : CV a0 a1 a2 (ix2 r k) = cv (row a0 r) (row a1 r) (fun k => a2 (ix2 0 k)) := by
  pointwise [CV, cv, rs]
  simp only [Fin.sum_univ_one, ZC_at, DX_at, VE_at]
theorem VS_at : VS a0 a1 a2 (ix2 r k) = cv (row a0 r) (row a1 r) (fun k => a2 (ix2 0 k)) * (Ideal.ofBits .f32 0x40000000#32 * zc (row a1 r) k) := by
  pointwise [VS]
  rw [CV_at, ZC_at]
theorem DZ_at : DZ a0 a1 a2 (ix2 r k) = dzR (row a0 r) (row a1 r) (fun k => a2 (ix2 0 k)) k := by
  pointwise [DZ, dzR]
  simp only [Fin.sum_univ_one, VS_at, RS_at, DX_at]
theorem DG_at : DG a0 a1 (ix1 k) = ∑ r, xh (row a1 r) k * a0 (ix2 r k) := by
  pointwise [DG, xh]
  simp only [Fin.sum_univ_one, ZC_at, RS_at]
theorem DB_at : DB a0 (ix1 k) = ∑ r, a0 (ix2 r k) := by
  pointwise [DB]
  rw [Fin.sum_univ_one]

end Cert.LnbRefIdeal.Value
-- ==== Proof.LnbArr.lean ====
module

public import proofs.«01_k».proof.Defs
public import proofs.«01_k».proof.Proof.Gen.LnbIdeal.Frame
public import proofs.«01_k».proof.Proof.Gen.Pre_lnb_finite
public import proofs.«01_k».proof.Proof.LnbRef
public import proofs.«01_k».proof.Proof.Finite
public import Idealize.ShloMosaic.Lib.Pipeline.ValueKit
public import Idealize.ShloMosaic.Lib.Pointwise
public import Idealize.ShloMosaic.Lib.Claim

/-! The layer norm's gradient: what the kernel's arrays hold, and that the reference computes the same. -/

@[expose] public section
set_option maxRecDepth 16384
noncomputable section
namespace Cert.LnbIdeal.Value
open Idealize.ShloMosaic Idealize.ShloMosaic.TcCoe Idealize.SL.Sem
open Idealize.ShloMosaic.Pipeline (Dat)
open Cert.LnbIdeal Cert.LnbIdeal.Gen Cert.Lnb
open Cert.LnbRefIdeal.Value (row)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

/-- The gradient of the rows. -/
abbrev DZ (D Z : FVec Ideal S16384x1024 .f32) (G : FVec Ideal S1x1024 .f32) : FVec Ideal S16384x1024 .f32 :=
  fun i => dzK (row D (i 0)) (row Z (i 0)) (fun k => G (ix2 0 k)) (i 1)

/-- The sum over the 512 rows of block `t` of the cotangent by the normalised entry. -/
def gpart (D Z : FVec Ideal S16384x1024 .f32) (t : Fin 32) (k : Fin 1024) : EReal :=
  ∑ r : Fin 512, D (ix2 ⟨t.val * 512 + r.val, by omega⟩ k) * xh (row Z ⟨t.val * 512 + r.val, by omega⟩) k
/-- The sum over the 512 rows of block `t` of the cotangent. -/
def bpart (D : FVec Ideal S16384x1024 .f32) (t : Fin 32) (k : Fin 1024) : EReal :=
  ∑ r : Fin 512, D (ix2 ⟨t.val * 512 + r.val, by omega⟩ k)

/-- A block's sums, each on the eight rows of its tile. -/
abbrev TILE (f : Fin 32 → Fin 1024 → EReal) : FVec Ideal S256x1024 .f32 :=
  fun i => f ⟨(i 0).val / 8, by have := (i 0).isLt; change (i 0).val < 256 at this; omega⟩ (i 1)

theorem final3 (c : Dev nD) : (dats m 0 c).arrAt 3 (cfgs 0).N
    = DZ (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay5, k0_pay4, k0_pay3, k0_pay2, DZ, dzK, xh, rs, ve, zc, row]
  blk_point [iblk, V, idx t]

theorem final4 (c : Dev nD) : (dats m 0 c).arrAt 4 (cfgs 0).N
    = TILE (gpart (m ((c : Thread nD τ).loc main_arg0)) (m ((c : Thread nD τ).loc main_arg1))) := by
  refine (dats m 0 c).arrAt_eq_of_covers 4 _ (by decide +kernel) fun t _ y => ?_
  blk_simp
  rw [after0_4]; frame_out
  pointwise [k0_pay6, k0_pay4, k0_pay3, k0_pay2, TILE, gpart, xh, rs, ve, zc, row]
  blk_point [iblk, V, idx t]

theorem final5 (c : Dev nD) : (dats m 0 c).arrAt 5 (cfgs 0).N
    = TILE (bpart (m ((c : Thread nD τ).loc main_arg0))) := by
  refine (dats m 0 c).arrAt_eq_of_covers 5 _ (by decide +kernel) fun t _ y => ?_
  blk_simp
  rw [after0_5]; frame_out
  pointwise [k0_pay1, TILE, bpart]
  blk_point [iblk, V, idx t]

theorem tail4 (c : Dev nD) : Pipeline.afterTail₀ cfgs (dats m) 0 (V0 m) [hostOps1] c main_v4 =
   fun i => ∑ t, gpart (m ((c : Thread nD τ).loc main_arg0)) (m ((c : Thread nD τ).loc main_arg1)) t (i 0) := by
  unfold Pipeline.afterTail₀
  show StableHlo.after hostOps1 _ (Proc.devRef .tc main_v4) = _
  after_results
  have h3 := Pipeline.withArrays_arr (cfgs 0).spec (by decide) c (V0 m c) (fun w => (dats m 0 c).arrAt w (cfgs 0).N) 4
  simp only [show Pipeline.arrRef (cfgs 0).spec 4 = main_v0_1 from rfl, final4] at h3
  rw [h3]
  funext j
  pointwise [TILE]
  exact Finset.sum_congr rfl fun t _ => congrArg (gpart _ _ · _) (Fin.ext (Nat.mul_div_cancel _ (by norm_num)))

theorem tail8 (c : Dev nD) : Pipeline.afterTail₀ cfgs (dats m) 0 (V0 m) [hostOps1] c main_v8 =
   fun i => ∑ t, bpart (m ((c : Thread nD τ).loc main_arg0)) t (i 0) := by
  unfold Pipeline.afterTail₀
  show StableHlo.after hostOps1 _ (Proc.devRef .tc main_v8) = _
  after_results
  have h3 := Pipeline.withArrays_arr (cfgs 0).spec (by decide) c (V0 m c) (fun w => (dats m 0 c).arrAt w (cfgs 0).N) 5
  simp only [show Pipeline.arrRef (cfgs 0).spec 5 = main_v0_2 from rfl, final5] at h3
  rw [h3]
  funext j
  pointwise [TILE]
  exact Finset.sum_congr rfl fun t _ => congrArg (bpart _ · _) (Fin.ext (Nat.mul_div_cancel _ (by norm_num)))

end Cert.LnbIdeal.Value
-- ==== Proof.LnbValue.lean ====
module

public import proofs.«01_k».proof.Proof.LnbArr

/-! The reference of the layer norm's gradient computes what the kernel's arrays hold. -/

@[expose] public section
set_option maxRecDepth 16384
noncomputable section
namespace Cert.LnbIdeal.Value
open Idealize.ShloMosaic Idealize.ShloMosaic.TcCoe Idealize.SL.Sem
open Idealize.ShloMosaic.Pipeline (Dat)
open Cert.LnbIdeal Cert.LnbIdeal.Gen Cert.Lnb
open Cert.LnbRefIdeal.Value (row)

/-- A sum over all rows is the sum over the blocks of the sums over a block's rows. -/
theorem sum_rows (f : Fin 16384 → EReal) : ∑ r, f r = ∑ t : Fin 32, ∑ r : Fin 512, f ⟨t.val * 512 + r.val, by omega⟩ :=
  Fin.sum_univ_tiles 32 512 rfl f

theorem algebraic : Cert.algebraic_LnbIdeal_LnbRefIdeal_pre_lnb_finite (hLnbIdeal := Cert.LnbIdeal.Gen.facts)
    (hLnbRefIdeal := Cert.LnbRefIdeal.Gen.facts) (hPre_lnb_finite := Cert.Pre_lnb_finite.Gen.facts) := by
  intro m g m' g' hpre hargs
  refine ⟨fun c => (dats m 0 c).arrAt 3 (cfgs 0).N, fun c => Pipeline.afterTail₀ cfgs (dats m) 0 (V0 m) [hostOps1] c main_v4,
    fun c => Pipeline.afterTail₀ cfgs (dats m) 0 (V0 m) [hostOps1] c main_v8, ?_, ?_⟩
  · run_from Cert.LnbIdeal.Gen.run_main m g
  · refine (θ_run _ _ _).mono (fun r h c => ?_) (Cert.LnbRefIdeal.Value.run m' g')
    obtain ⟨h0, h1, h2, hm⟩ := h c
    obtain ⟨e0, e1, e2⟩ := hargs c
    obtain ⟨p0, p1, p2⟩ := hpre c
    refine ⟨h0.trans ?_, h1.trans ?_, h2.trans ?_, hm⟩
    · refine Eq.trans ?_ (final3 m c).symm
      trans Cert.LnbRefIdeal.Value.DZ (m ((c : Thread nD τ).loc main_arg0)) (m ((c : Thread nD τ).loc main_arg1)) (m ((c : Thread nD τ).loc main_arg2))
      · unfold Cert.LnbRefIdeal.Value.res_main_v65; rw [e0, e1, e2]; rfl
      · funext j
        idx_vars j
        rw [Cert.LnbRefIdeal.Value.DZ_at]
        exact (dz_eq _ _ _ (fun k => Cert.Finite.real_of _ p0 _) (fun k => Cert.Finite.real_of _ p1 _) (fun k => Cert.Finite.real_of _ p2 _) _).symm
    · refine Eq.trans ?_ (tail4 m c).symm
      trans Cert.LnbRefIdeal.Value.DG (m ((c : Thread nD τ).loc main_arg0)) (m ((c : Thread nD τ).loc main_arg1))
      · rw [e0, e1]; rfl
      · funext j
        idx_vars j
        rw [Cert.LnbRefIdeal.Value.DG_at, sum_rows]
        exact Finset.sum_congr rfl fun t _ => Finset.sum_congr rfl fun r _ => mul_comm _ _
    · refine Eq.trans ?_ (tail8 m c).symm
      trans Cert.LnbRefIdeal.Value.DB (m ((c : Thread nD τ).loc main_arg0))
      · rw [e0]; rfl
      · funext j
        idx_vars j
        rw [Cert.LnbRefIdeal.Value.DB_at, sum_rows]
        rfl

theorem frame_ref : Cert.quiescent_LnbRefIdeal (hLnbRefIdeal := Cert.LnbRefIdeal.Gen.facts) := by
  intro m ρ _
  set_option maxHeartbeats 1600000 in
  hlo_run
  · exact fun _ => ⟨trivial, trivial, trivial⟩
  · exact sem_eq_zero_of_no_sems (by decide) _

end Cert.LnbIdeal.Value
-- ==== Proof.RopeQArr.lean ====
module

public import proofs.«01_k».proof.Proof.Gen.RopeQIdeal.Frame
public import proofs.«01_k».proof.Proof.Lits
public import Idealize.ShloMosaic.Lib.Pipeline.ValueKit
public import Idealize.ShloMosaic.Lib.Pointwise

/-! What the kernel of the queries' rotary gradient leaves in its array. -/

@[expose] public section
set_option maxRecDepth 16384
noncomputable section
namespace Cert.RopeQIdeal.Value
open Idealize.ShloMosaic Idealize.ShloMosaic.TcCoe Idealize.SL.Sem
open Idealize.ShloMosaic.Pipeline (Dat)
open Cert.RopeQIdeal Cert.RopeQIdeal.Gen

variable (m : (ℓ : Loc nD τ sig) → Buf (Elt Ideal) ℓ)

theorem idx : ∀ t : Fin cfg0.N, win0_0.index t = ![t.val % 8, t.val / 8, 0] ∧ win0_1.index t = ![t.val / 8, 0]
    ∧ win0_2.index t = ![t.val / 8, t.val % 8] :=
  (by decide +kernel : ∀ t : Fin grid0.N, _)

/-- Head `h`'s entry `e` of token `t`: the plain part, and the rotary part with both its halves turned. -/
def turn (Q : FVec Ideal S8x16384x256 .f32) (C : FVec Ideal S16384x128 .f32) (t : Fin 16384) (h : Fin 8) (e : Fin 256) : EReal :=
  (if h₁ : e.val < 128 then Q (ix3 h t e)
    else (Q (ix3 h t ⟨128 + (e.val - 128), by omega⟩) + Q (ix3 h t ⟨128 + (e.val - 128 + 128 - 64) % 128, by omega⟩))
      * C (ix2 t ⟨e.val - 128, by omega⟩)) * Ideal.ofBits .f32 0x3D93CD3A#32

/-- The array: a token's entries head after head. -/
abbrev OUT (Q : FVec Ideal S8x16384x256 .f32) (C : FVec Ideal S16384x128 .f32) : FVec Ideal S16384x2048 .bf16 :=
  fun i => turn Q C (i 0) ⟨(i 1).val / 256, by have := (i 1).isLt; change (i 1).val < 2048 at this; omega⟩ ⟨(i 1).val % 256, by omega⟩

theorem read0 (c : Dev nD) (t : Fin cfg0.N) (a : Fin 512) (b : Fin 256) : iblk m c 0 t (ix3 0 a b)
    = V m c main_v19 (ix3 ⟨t.val % 8, by omega⟩ ⟨t.val / 8 * 512 + a.val, by have := t.isLt; change t.val < 256 at this; omega⟩ b) := by
  unfold iblk
  generalize V m c = U
  blk_ext [idx t]

theorem read1 (c : Dev nD) (t : Fin cfg0.N) (a : Fin 512) (b : Fin 128) : iblk m c 1 t (ix2 a b)
    = V m c main_v16 (ix2 ⟨t.val / 8 * 512 + a.val, by have := t.isLt; change t.val < 256 at this; omega⟩ b) := by
  unfold iblk
  generalize V m c = U
  blk_ext [idx t]

theorem out_at (Q : FVec Ideal S8x16384x256 .f32) (C : FVec Ideal S16384x128 .f32) (t : Fin cfg0.N) (i : S16384x2048.Idx) (a : Fin 512) (b : Fin 256)
    (h0 : (i 0).val = t.val / 8 * 512 + a.val) (h1 : (i 1).val = t.val % 8 * 256 + b.val) :
    OUT Q C i = turn Q C ⟨t.val / 8 * 512 + a.val, by have := t.isLt; change t.val < 256 at this; omega⟩ ⟨t.val % 8, by omega⟩ b := by
  unfold OUT
  congr 1
  · exact Fin.ext h0
  · exact Fin.ext (by show (i 1).val / 256 = t.val % 8; omega)
  · exact Fin.ext (by show (i 1).val % 256 = b.val; omega)

theorem final2 (c : Dev nD) : (dats m 0 c).arrAt 2 (cfgs 0).N
    = OUT (V m c main_v19) (V m c main_v16) := by
  refine (dats m 0 c).arrAt_eq_of_covers 2 _ (by decide +kernel) fun t _ y => ?_
  blk_simp
  rw [after0_2]; frame_out
  refine Eq.trans ?_ (out_at _ _ t _ (y 0) (y 1) (by blk_simp [idx t]) (by blk_simp [idx t])).symm
  pointwise [k0_pay1, turn]
  by_cases h : (y 1).val < 128
  · rw [dif_pos h, dif_pos h]
    exact congrArg (· * _) (read0 m c t _ _)
  · rw [dif_neg h, dif_neg h]
    exact congrArg (· * _) (congrArg₂ (· * ·) (congrArg₂ (· + ·) (read0 m c t _ _) (read0 m c t _ _)) (read1 m c t _ _))

/-- The cosines and sines of the angles. -/
def ANG (a0 : IVec S16384 32) : FVec Ideal S16384x32 .f32 :=
  mulf (broadcastInDim S16384x32 ![0, 1] bcast_S16384x1_S16384x32_0_1 (broadcastInDim S16384x1 ![0] bcast_S16384_S16384x1_0 (sitofp .f32 a0))) (broadcastInDim S16384x32 ![0, 1] bcast_S1x32_S16384x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))
def COS (a0 : IVec S16384 32) : FVec Ideal S16384x32 .f32 := Host.cos (ANG a0)
def SIN (a0 : IVec S16384 32) : FVec Ideal S16384x32 .f32 := Host.sin (ANG a0)

theorem table (U : Valuation τ sig (Elt Ideal)) (t : Fin 16384) (e : Fin 128) :
    (StableHlo.after ((hostOps0 (F := Ideal)).drop 19) U (Proc.devRef .tc main_v16) : S16384x128.Idx → EReal) (ix2 t e)
      = if h₁ : e.val < 32 then (U (Proc.devRef .tc main_v13) : S16384x32.Idx → EReal) (ix2 t ⟨e.val, h₁⟩)
      else if h₂ : e.val - 32 < 32 then (U (Proc.devRef .tc main_v13) : S16384x32.Idx → EReal) (ix2 t ⟨e.val - 32, h₂⟩)
      else if h₃ : e.val - 32 - 32 < 32 then (U (Proc.devRef .tc main_v15) : S16384x32.Idx → EReal) (ix2 t ⟨e.val - 32 - 32, h₃⟩)
      else (U (Proc.devRef .tc main_v14) : S16384x32.Idx → EReal) (ix2 t ⟨e.val - 32 - 32 - 32, by omega⟩) := by
  simp only [List.drop_succ_cons, List.drop_zero]
  after_results
  pointwise!

theorem v16 (c : Dev nD) (t : Fin 16384) (e : Fin 128) : V m c main_v16 (ix2 t e) =
      if h₁ : e.val < 32 then COS (m ((c : Thread nD τ).loc main_arg0)) (ix2 t ⟨e.val, h₁⟩)
      else if h₂ : e.val - 32 < 32 then COS (m ((c : Thread nD τ).loc main_arg0)) (ix2 t ⟨e.val - 32, h₂⟩)
      else if h₃ : e.val - 32 - 32 < 32 then -SIN (m ((c : Thread nD τ).loc main_arg0)) (ix2 t ⟨e.val - 32 - 32, h₃⟩)
      else SIN (m ((c : Thread nD τ).loc main_arg0)) (ix2 t ⟨e.val - 32 - 32 - 32, by omega⟩) := by
  refine (table (StableHlo.after ((hostOps0 (F := Ideal)).take 19) (fun b => m (c, b))) t e).trans ?_
  split_ifs with h₁ h₂ h₃
  · simp only [List.take_succ_cons, List.take_zero]; after_results; rfl
  · simp only [List.take_succ_cons, List.take_zero]; after_results; rfl
  · simp only [List.take_succ_cons, List.take_zero]; after_results; rfl
  · simp only [List.take_succ_cons, List.take_zero]; after_results; rfl

theorem heads (U : Valuation τ sig (Elt Ideal)) (h : Fin 8) (t : Fin 16384) (e : Fin 256) :
    (StableHlo.after ((hostOps0 (F := Ideal)).drop 22) U (Proc.devRef .tc main_v19) : S8x16384x256.Idx → EReal) (ix3 h t e)
      = if h₁ : e.val < 128 then (U (Proc.devRef .tc main_arg1) : S16384x8x128.Idx → EReal) (ix3 t h ⟨e.val, h₁⟩)
      else if h₂ : e.val - 128 < 64 then (U (Proc.devRef .tc main_arg2) : S16384x8x64.Idx → EReal) (ix3 t h ⟨e.val - 128, h₂⟩)
      else (U (Proc.devRef .tc main_v17) : S16384x8x64.Idx → EReal) (ix3 t h ⟨e.val - 128 - 64, by omega⟩) := by
  simp only [List.drop_succ_cons, List.drop_zero]
  after_results
  pointwise!

theorem v19 (c : Dev nD) (h : Fin 8) (t : Fin 16384) (e : Fin 256) : V m c main_v19 (ix3 h t e) =
      if h₁ : e.val < 128 then (m ((c : Thread nD τ).loc main_arg1) (ix3 t h ⟨e.val, h₁⟩) : EReal)
      else if h₂ : e.val - 128 < 64 then m ((c : Thread nD τ).loc main_arg2) (ix3 t h ⟨e.val - 128, h₂⟩)
      else ((0 : ℝ) : EReal) := by
  refine (heads (StableHlo.after ((hostOps0 (F := Ideal)).take 22) (fun b => m (c, b))) h t e).trans ?_
  split_ifs with h₁ h₂
  · simp only [List.take_succ_cons, List.take_zero]; after_results
  · simp only [List.take_succ_cons, List.take_zero]; after_results
  · simp only [List.take_succ_cons, List.take_zero]; after_results; pointwise!

/-- The result, from the kernel's array: the rotary part's second half is added with its two quarters exchanged. -/
def GATHER (O : FVec Ideal S16384x2048 .bf16) (t : Fin 16384) (h : Fin 8) (e : Fin 192) : EReal :=
  if h₁ : e.val < 128 then O (ix2 t ⟨h.val * 256 + e.val, by omega⟩)
  else O (ix2 t ⟨h.val * 256 + (128 + (e.val - 128)), by omega⟩)
    + if h₂ : e.val - 128 < 32 then O (ix2 t ⟨h.val * 256 + (192 + (32 + (e.val - 128))), by omega⟩)
      else O (ix2 t ⟨h.val * 256 + (192 + (e.val - 128 - 32)), by omega⟩)

theorem tail30 (c : Dev nD) (t : Fin 16384) (h : Fin 8) (e : Fin 192) :
    (Pipeline.afterTail₀ cfgs (dats m) 0 (V0 m) [hostOps1] c main_v30 : S16384x8x192.Idx → EReal) (ix3 t h e)
      = GATHER (OUT (V m c main_v19) (V m c main_v16)) t h e := by
  refine (congrFun (show Pipeline.afterTail₀ cfgs (dats m) 0 (V0 m) [hostOps1] c main_v30 = StableHlo.after hostOps1 _ (Proc.devRef .tc main_v30) from rfl) (ix3 t h e)).trans ?_
  after_results
  have h3 := Pipeline.withArrays_arr (cfgs 0).spec (by decide) c (V0 m c) (fun w => (dats m 0 c).arrAt w (cfgs 0).N) 2
  simp only [show Pipeline.arrRef (cfgs 0).spec 2 = main_v20 from rfl, final2] at h3
  rw [h3]
  generalize (OUT (V m c main_v19) (V m c main_v16)) = O
  pointwise [GATHER]

end Cert.RopeQIdeal.Value
-- ==== Proof.RopeQRef.lean ====
module

public import proofs.«01_k».proof.Proof.Gen.RopeQRefIdeal.Run
public import proofs.«01_k».proof.Proof.Lits
public import Idealize.ShloMosaic.Lib.Pipeline.ValueKit
public import Idealize.ShloMosaic.Lib.Pointwise

/-! What the reference of the queries' rotary gradient computes, entry by entry. -/

@[expose] public section
set_option maxRecDepth 16384
noncomputable section
namespace Cert.RopeQRefIdeal.Value
open Idealize.ShloMosaic Idealize.ShloMosaic.TcCoe Idealize.SL.Sem
open Cert.RopeQRefIdeal Cert.RopeQRefIdeal.Gen

variable (a0 : IVec S16384 32) (a1 : FVec Ideal S16384x8x128 .f32) (a2 : FVec Ideal S16384x8x64 .f32)

/-- The angles, a token's 32 in a row. -/
def ANG : FVec Ideal S16384x32 .f32 :=
  mulf (broadcastInDim S16384x32 ![0, 1] bcast_S16384x1_S16384x32_0_1 (broadcastInDim S16384x1 ![0] bcast_S16384_S16384x1_0 (sitofp .f32 a0))) (broadcastInDim S16384x32 ![0, 1] bcast_S1x32_S16384x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))
/-- Their cosines. -/
def COS : FVec Ideal S16384x32 .f32 := Host.cos (ANG a0)
/-- Their sines. -/
def SIN : FVec Ideal S16384x32 .f32 := Host.sin (ANG a0)
/-- The same for every head. -/
def ALL (x : FVec Ideal S16384x32 .f32) : FVec Ideal S16384x8x32 .f32 :=
  broadcastInDim S16384x8x32 ![0, 1, 2] bcast_S16384x1x32_S16384x8x32_0_1_2 (broadcastInDim S16384x1x32 ![0, 2] bcast_S16384x32_S16384x1x32_0_2 x)
/-- The scaled rotary part. -/
abbrev RP : FVec Ideal S16384x8x64 .f32 := mulf a2 (broadcastInDim S16384x8x64 ![] bcast_S_S16384x8x64 (constant S_ .f32 0x3D93CD3A#32))
/-- Its first half. -/
def LO : FVec Ideal S16384x8x32 .f32 := extractStridedSlice S16384x8x32 ![0, 0, 0] (RP a2) slices_S16384x8x64_S16384x8x32_0_0_0
/-- Its second half. -/
def HI : FVec Ideal S16384x8x32 .f32 := extractStridedSlice S16384x8x32 ![0, 0, 32] (RP a2) slices_S16384x8x64_S16384x8x32_0_0_32
/-- The gradient. -/
def DQ : FVec Ideal S16384x8x192 .f32 :=
  addf (addf (pad S16384x8x192 ![0, 0, 0] ![0, 0, 64] ![0, 0, 0] (mulf a1 (broadcastInDim S16384x8x128 ![] bcast_S_S16384x8x128 (constant S_ .f32 0x3D93CD3A#32))) (constant S_ .f32 0x00000000#32) pads_S16384x8x128_S16384x8x192_000_000_0640 h_S_) (pad S16384x8x192 ![0, 0, 160] ![0, 0, 0] ![0, 0, 0] (addf (mulf (HI a2) (ALL (COS a0))) (mulf (Host.negf (LO a2)) (ALL (SIN a0)))) (constant S_ .f32 0x00000000#32) pads_S16384x8x32_S16384x8x192_000_000_16000 h_S_)) (pad S16384x8x192 ![0, 0, 128] ![0, 0, 32] ![0, 0, 0] (addf (mulf (HI a2) (ALL (SIN a0))) (mulf (LO a2) (ALL (COS a0)))) (constant S_ .f32 0x00000000#32) pads_S16384x8x32_S16384x8x192_000_000_128320 h_S_)

variable (t : Fin 16384) (h : Fin 8)

theorem ALL_at (x : FVec Ideal S16384x32 .f32) (k : Fin 32) : ALL x (ix3 t h k) = x (ix2 t k) := by pointwise [ALL]

/-- The scale. -/
abbrev S : EReal := Ideal.ofBits .f32 0x3D93CD3A#32

theorem DQ_plain (e : Fin 128) : DQ a0 a1 a2 (ix3 t h ⟨e.val, by omega⟩) = a1 (ix3 t h e) * S := by
  pointwise [DQ, LO, HI, ALL_at]
  have := e.isLt
  rw [dif_neg (by omega)]
  exact (add_zero (_ : EReal)).trans (add_zero (_ : EReal))

theorem DQ_lo (k : Fin 32) : DQ a0 a1 a2 (ix3 t h ⟨128 + k.val, by omega⟩)
    = a2 (ix3 t h ⟨32 + k.val, by omega⟩) * S * SIN a0 (ix2 t k) + a2 (ix3 t h ⟨k.val, by omega⟩) * S * COS a0 (ix2 t k) := by
  pointwise [DQ, LO, HI, ALL_at]
  have := k.isLt
  rw [dif_neg (by omega)]
  exact zero_add (_ : EReal)

theorem DQ_hi (k : Fin 32) : DQ a0 a1 a2 (ix3 t h ⟨160 + k.val, by omega⟩)
    = a2 (ix3 t h ⟨32 + k.val, by omega⟩) * S * COS a0 (ix2 t k) + -(a2 (ix3 t h ⟨k.val, by omega⟩) * S) * SIN a0 (ix2 t k) := by
  pointwise [DQ, LO, HI, ALL_at]
  have := k.isLt
  rw [dif_neg (by omega), dif_neg (by omega)]
  exact (add_zero (_ : EReal)).trans (zero_add (_ : EReal))

end Cert.RopeQRefIdeal.Value
-- ==== Proof.RopeQTurn.lean ====
module

public import proofs.«01_k».proof.Proof.RopeQArr
public import proofs.«01_k».proof.Proof.RopeQRef

/-! The queries' rotary gradient: the kernel's array gathered, entry by entry. -/

@[expose] public section
set_option maxRecDepth 16384
noncomputable section
namespace Cert.RopeQIdeal.Value
open Idealize.ShloMosaic Idealize.ShloMosaic.TcCoe Idealize.SL.Sem
open Cert.RopeQIdeal Cert.RopeQIdeal.Gen

/-- The scale. -/
abbrev S : EReal := Ideal.ofBits .f32 0x3D93CD3A#32

theorem OUT_at (Q : FVec Ideal S8x16384x256 .f32) (C : FVec Ideal S16384x128 .f32) (t : Fin 16384) (h : Fin 8) (e : Fin 256) (x : ℕ) (hx : x < 2048)
    (hb : x = h.val * 256 + e.val) : OUT Q C (ix2 t ⟨x, hx⟩) = turn Q C t h e := by
  unfold OUT
  congr 1
  · exact Fin.ext (by subst hb; show (h.val * 256 + e.val) / 256 = h.val; omega)
  · exact Fin.ext (by subst hb; show (h.val * 256 + e.val) % 256 = e.val; omega)

variable (c : Dev nD) (t : Fin 16384) (h : Fin 8)

/-- A sign moved to the front. -/
theorem neg_out (a n s : EReal) : a * -n * s = -(a * s) * n := by
  rw [mul_comm a, EReal.neg_mul, EReal.neg_mul, EReal.neg_mul, mul_comm n a, mul_right_comm]

section turned
variable (Q : FVec Ideal S8x16384x256 .f32) (C : FVec Ideal S16384x128 .f32)
  (a1 : FVec Ideal S16384x8x128 .f32) (a2 : FVec Ideal S16384x8x64 .f32) (cs sn : FVec Ideal S16384x32 .f32)
  (hQ : ∀ h t (e : Fin 256), Q (ix3 h t e) = if h₁ : e.val < 128 then a1 (ix3 t h ⟨e.val, h₁⟩)
      else if h₂ : e.val - 128 < 64 then a2 (ix3 t h ⟨e.val - 128, h₂⟩) else ((0 : ℝ) : EReal))
  (hC : ∀ t (e : Fin 128), C (ix2 t e) = if h₁ : e.val < 32 then cs (ix2 t ⟨e.val, h₁⟩)
      else if h₂ : e.val - 32 < 32 then cs (ix2 t ⟨e.val - 32, h₂⟩)
      else if h₃ : e.val - 32 - 32 < 32 then -sn (ix2 t ⟨e.val - 32 - 32, h₃⟩)
      else sn (ix2 t ⟨e.val - 32 - 32 - 32, by omega⟩))
  (t : Fin 16384) (h : Fin 8)

include hQ in
theorem turn_plain (e : Fin 128) : turn Q C t h ⟨e.val, by omega⟩ = a1 (ix3 t h e) * S := by
  unfold turn
  simp only [e.isLt, dif_pos, hQ]

include hQ hC in
theorem turn_lo (d : Fin 64) : turn Q C t h ⟨128 + d.val, by omega⟩ = a2 (ix3 t h d) * cs (ix2 t ⟨d.val % 32, by omega⟩) * S := by
  unfold turn
  simp only [hQ, hC]
  have := d.isLt
  rw [dif_neg (by omega), dif_neg (by omega), dif_pos (by omega), dif_neg (by omega), dif_neg (by omega), EReal.coe_zero, add_zero]
  simp only [Nat.add_sub_cancel_left]
  by_cases h : d.val < 32
  · rw [dif_pos h]; simp only [Nat.mod_eq_of_lt h]
  · rw [dif_neg h, dif_pos (by omega)]
    simp only [show d.val % 32 = d.val - 32 by omega]

include hQ hC in
theorem turn_hi (d : Fin 64) : turn Q C t h ⟨192 + d.val, by omega⟩
    = a2 (ix3 t h d) * (if d.val < 32 then -sn (ix2 t ⟨d.val % 32, by omega⟩) else sn (ix2 t ⟨d.val % 32, by omega⟩)) * S := by
  unfold turn
  simp only [hQ, hC]
  have := d.isLt
  rw [dif_neg (by omega), dif_neg (by omega), dif_neg (by omega), dif_neg (by omega), dif_pos (by omega), EReal.coe_zero, zero_add, dif_neg (by omega), dif_neg (by omega)]
  simp only [show 128 + (192 + d.val - 128 + 128 - 64) % 128 - 128 = d.val by omega]
  by_cases h : d.val < 32
  · rw [dif_pos (by omega), if_pos h]; simp only [show 192 + d.val - 128 - 32 - 32 = d.val % 32 by omega]
  · rw [dif_neg (by omega), if_neg h]
    simp only [show 192 + d.val - 128 - 32 - 32 - 32 = d.val % 32 by omega]

include hQ in
theorem gather_plain (e : Fin 128) : GATHER (OUT Q C) t h ⟨e.val, by omega⟩ = a1 (ix3 t h e) * S := by
  unfold GATHER
  rw [dif_pos e.isLt, OUT_at Q C t h ⟨e.val, by omega⟩ _ _ rfl]
  exact turn_plain Q C a1 a2 hQ t h e

include hQ hC in
theorem gather_lo (k : Fin 32) : GATHER (OUT Q C) t h ⟨128 + k.val, by omega⟩
    = a2 (ix3 t h ⟨32 + k.val, by omega⟩) * S * sn (ix2 t k) + a2 (ix3 t h ⟨k.val, by omega⟩) * S * cs (ix2 t k) := by
  have hk := k.isLt
  have e1 := (turn_lo Q C a1 a2 cs sn hQ hC t h ⟨k.val, by omega⟩).trans (mul_right_comm _ _ _)
  have e2 := turn_hi Q C a1 a2 cs sn hQ hC t h ⟨32 + k.val, by omega⟩
  rw [if_neg (by show ¬ 32 + k.val < 32; omega), mul_right_comm] at e2
  simp only [Nat.mod_eq_of_lt k.isLt, show (32 + k.val) % 32 = k.val by omega] at e1 e2
  unfold GATHER
  rw [dif_neg (by show ¬ 128 + k.val < 128; omega), dif_pos (by show 128 + k.val - 128 < 32; omega), OUT_at Q C t h ⟨128 + k.val, by omega⟩ _ _ (by simp only [Nat.add_sub_cancel_left]),
    OUT_at Q C t h ⟨192 + (32 + k.val), by omega⟩ _ _ (by simp only [Nat.add_sub_cancel_left]), e1, e2, add_comm]

include hQ hC in
theorem gather_hi (k : Fin 32) : GATHER (OUT Q C) t h ⟨160 + k.val, by omega⟩
    = a2 (ix3 t h ⟨32 + k.val, by omega⟩) * S * cs (ix2 t k) + -(a2 (ix3 t h ⟨k.val, by omega⟩) * S) * sn (ix2 t k) := by
  have hk := k.isLt
  have e1 := (turn_lo Q C a1 a2 cs sn hQ hC t h ⟨32 + k.val, by omega⟩).trans (mul_right_comm _ _ _)
  have e2 := turn_hi Q C a1 a2 cs sn hQ hC t h ⟨k.val, by omega⟩
  rw [if_pos (by show k.val < 32; omega), neg_out] at e2
  simp only [Nat.mod_eq_of_lt k.isLt, show (32 + k.val) % 32 = k.val by omega] at e1 e2
  unfold GATHER
  rw [dif_neg (by show ¬ 160 + k.val < 128; omega), dif_neg (by show ¬ 160 + k.val - 128 < 32; omega), OUT_at Q C t h ⟨128 + (32 + k.val), by omega⟩ _ _ (by show h.val * 256 + (128 + (160 + k.val - 128)) = h.val * 256 + (128 + (32 + k.val)); omega),
    OUT_at Q C t h ⟨192 + k.val, by omega⟩ _ _ (by show h.val * 256 + (192 + (160 + k.val - 128 - 32)) = h.val * 256 + (192 + k.val); omega), e1, e2]

end turned

theorem eq_at (m : (ℓ : Loc nD τ sig) → Buf (Elt Ideal) ℓ) (c : Dev nD) (t : Fin 16384) (h : Fin 8) (e : Fin 192) :
    GATHER (OUT (V m c main_v19) (V m c main_v16)) t h e
      = Cert.RopeQRefIdeal.Value.DQ (m ((c : Thread nD τ).loc main_arg0)) (m ((c : Thread nD τ).loc main_arg1)) (m ((c : Thread nD τ).loc main_arg2)) (ix3 t h e) := by
  have hQ := v19 m c
  have hC := v16 m c
  rcases Nat.lt_or_ge e.val 128 with h₁ | h₁
  · exact (gather_plain _ _ _ _ hQ t h ⟨e.val, h₁⟩).trans (Cert.RopeQRefIdeal.Value.DQ_plain _ _ _ t h ⟨e.val, h₁⟩).symm
  rcases Nat.lt_or_ge e.val 160 with h₂ | h₂
  · obtain ⟨k, hk⟩ : ∃ k : Fin 32, e = ⟨128 + k.val, by omega⟩ := ⟨⟨e.val - 128, by omega⟩, Fin.ext (by show e.val = 128 + (e.val - 128); omega)⟩
    rw [hk]
    exact (gather_lo _ _ _ _ _ _ hQ hC t h k).trans (Cert.RopeQRefIdeal.Value.DQ_lo _ _ _ t h k).symm
  · obtain ⟨k, hk⟩ : ∃ k : Fin 32, e = ⟨160 + k.val, by omega⟩ := ⟨⟨e.val - 160, by omega⟩, Fin.ext (by show e.val = 160 + (e.val - 160); omega)⟩
    rw [hk]
    exact (gather_hi _ _ _ _ _ _ hQ hC t h k).trans (Cert.RopeQRefIdeal.Value.DQ_hi _ _ _ t h k).symm

end Cert.RopeQIdeal.Value
-- ==== Proof.RopeQValue.lean ====
module

public import proofs.«01_k».proof.Proof.Gen.RopeQIdeal.Frame
public import proofs.«01_k».proof.Defs
public import proofs.«01_k».proof.Proof.RopeQTurn
public import proofs.«01_k».proof.Proof.RopeQRef

/-! The queries' rotary gradient: the kernel computes what the reference computes. -/

@[expose] public section
set_option maxRecDepth 16384
noncomputable section
namespace Cert.RopeQIdeal.Value
open Idealize.ShloMosaic Idealize.ShloMosaic.TcCoe Idealize.SL.Sem
open Idealize.ShloMosaic.Pipeline (Dat)
open Cert.RopeQIdeal Cert.RopeQIdeal.Gen

theorem algebraic : Cert.algebraic_RopeQIdeal_RopeQRefIdeal (hRopeQIdeal := Cert.RopeQIdeal.Gen.facts)
    (hRopeQRefIdeal := Cert.RopeQRefIdeal.Gen.facts) := by
  intro m g m' g' _ hargs
  refine ⟨fun c => Pipeline.afterTail₀ cfgs (dats m) 0 (V0 m) [hostOps1] c main_v30, ?_, ?_⟩
  · run_from Cert.RopeQIdeal.Gen.run_main m g
    · exact W_main_arg0 m (dats m) c
    · exact W_main_arg1 m (dats m) c
    · exact W_main_arg2 m (dats m) c
  · refine (θ_run _ _ _).mono (fun r h c => ?_) (Cert.RopeQRefIdeal.Value.run m' g')
    obtain ⟨h0, hm⟩ := h c
    obtain ⟨e0, e1, e2⟩ := hargs c
    refine ⟨h0.trans ?_, hm⟩
    trans Cert.RopeQRefIdeal.Value.DQ (m ((c : Thread nD τ).loc main_arg0)) (m ((c : Thread nD τ).loc main_arg1)) (m ((c : Thread nD τ).loc main_arg2))
    · unfold Cert.RopeQRefIdeal.Value.res_main_v57; rw [e0, e1, e2]; rfl
    · funext j
      idx_vars j
      exact ((tail30 m c _ _ _).trans (eq_at m c _ _ _)).symm

theorem frame_ref : Cert.quiescent_RopeQRefIdeal (hRopeQRefIdeal := Cert.RopeQRefIdeal.Gen.facts) := by
  intro m ρ _
  set_option maxHeartbeats 1600000 in
  hlo_run
  · exact fun _ => ⟨trivial, trivial, trivial⟩
  · exact sem_eq_zero_of_no_sems (by decide) _

end Cert.RopeQIdeal.Value
-- ==== Proof.RmsMath.lean ====
module

public import proofs.«01_k».proof.Proof.Reals

/-! The gradient of the root mean square norm of one row, in two forms: in one formula, and by the chain rule through
    the mean square. Over real numbers they are the same. -/

@[expose] public section

noncomputable section

namespace Cert.Rms

open Idealize.ShloMosaic Cert.Reals

/-- The small number added to a mean square. -/
theorem eps6 : ∃ e : ℝ, 0 < e ∧ Ideal.ofBits .f32 0x358637BD#32 = (e : EReal) :=
  ⟨8796093 / 8796093022208, by norm_num, by simp [Ideal.ofBits, Ideal.ieee, -EReal.coe_mul]; norm_num⟩

theorem len256 : Ideal.ofBits .f32 0x43800000#32 = ((256 : ℝ) : EReal) := by
  simp [Ideal.ofBits, Ideal.ieee, -EReal.coe_mul]; norm_num
theorem len384 : Ideal.ofBits .f32 0x43C00000#32 = ((384 : ℝ) : EReal) := by
  simp [Ideal.ofBits, Ideal.ieee, -EReal.coe_mul]; norm_num
theorem len128 : Ideal.ofBits .f32 0x43000000#32 = ((128 : ℝ) : EReal) := by
  simp [Ideal.ofBits, Ideal.ieee, -EReal.coe_mul]; norm_num

variable {n : ℕ} (L : EReal) (d x : Fin n → EReal)

/-- The mean square and the small number. -/
def ve : EReal := Ideal.div (∑ j, x j * x j) L + Ideal.ofBits .f32 0x358637BD#32
/-- Its reciprocal root. -/
def rs : EReal := Ideal.rsqrt (ve L x)
/-- The gradient of the row in one formula, `d` the cotangent with the scale. -/
def dxK (k : Fin n) : EReal :=
  rs L x * d k - x k * (rs L x * rs L x * rs L x) * Ideal.div (∑ j, d j * x j) L
/-- The factor of the mean square's share. -/
def cv : EReal := Ideal.div ((∑ j, x j * d j) * (Ideal.ofBits .f32 0xBF000000#32 * Ideal.div (rs L x) (ve L x))) L
/-- The gradient of the row by the chain rule. -/
def dxR (k : Fin n) : EReal := d k * rs L x + x k * cv L d x + cv L d x * x k

/-- The equation over the reals. -/
theorem real_eq (D X : Fin n → ℝ) (v l : ℝ) (hv : 0 < v) (hl : l ≠ 0) (k : Fin n) :
    (Real.sqrt v)⁻¹ * D k - X k * ((Real.sqrt v)⁻¹ * (Real.sqrt v)⁻¹ * (Real.sqrt v)⁻¹) * ((∑ j, D j * X j) / l)
    = D k * (Real.sqrt v)⁻¹ + X k * ((∑ j, X j * D j) * (-(1 / 2) * ((Real.sqrt v)⁻¹ / v)) / l)
      + (∑ j, X j * D j) * (-(1 / 2) * ((Real.sqrt v)⁻¹ / v)) / l * X k := by
  have hs : Real.sqrt v ≠ 0 := (Real.sqrt_pos.2 hv).ne'
  have hv' : v = Real.sqrt v * Real.sqrt v := (Real.mul_self_sqrt hv.le).symm
  generalize Real.sqrt v = s at hs hv' ⊢
  subst hv'
  rw [Finset.sum_congr rfl fun j _ => mul_comm (D j) (X j)]
  generalize ∑ j, X j * D j = A
  field_simp
  ring

theorem dx_eq (l : ℝ) (hl : 0 < l) (hL : L = (l : EReal)) (hd : ∀ k, ∃ r : ℝ, d k = (r : EReal)) (hx : ∀ k, ∃ r : ℝ, x k = (r : EReal))
    (k : Fin n) : dxK L d x k = dxR L d x k := by
  subst hL
  obtain ⟨e, he, hE⟩ := eps6
  choose D kd using hd
  choose X kx using hx
  have hp : 0 < (∑ j, X j * X j) / l + e := add_pos_of_nonneg_of_pos (div_nonneg (Finset.sum_nonneg fun j _ => mul_self_nonneg _) hl.le) he
  have kv : ve (l : EReal) x = (((∑ j, X j * X j) / l + e : ℝ) : EReal) := by
    simp only [ve, hE, kx, ← EReal.coe_mul, sum_coe, div_coe _ _ hl.ne', ← EReal.coe_add]
  have kr : rs (l : EReal) x = (((Real.sqrt ((∑ j, X j * X j) / l + e))⁻¹ : ℝ) : EReal) := by rw [rs, kv, rsqrt_pos _ hp]
  simp only [dxK, dxR, cv, kr, kv, kx, kd, minus_half, ← EReal.coe_mul, sum_coe, div_coe _ _ hl.ne',
    div_coe _ _ hp.ne', ← EReal.coe_add, ← EReal.coe_sub]
  exact congrArg _ (real_eq D X _ l hp hl.ne' k)

end Cert.Rms
-- ==== Proof.DLatArr.lean ====
module

public import proofs.«01_k».proof.Proof.Gen.DLatIdeal.Frame
public import proofs.«01_k».proof.Proof.RmsMath
public import Idealize.ShloMosaic.Lib.Pipeline.ValueKit
public import Idealize.ShloMosaic.Lib.Pointwise

/-! The latent norms' gradients: what the kernel's arrays hold. -/

@[expose] public section
set_option maxRecDepth 16384
noncomputable section
namespace Cert.DLatIdeal.Value
open Idealize.ShloMosaic Idealize.ShloMosaic.TcCoe Idealize.SL.Sem
open Idealize.ShloMosaic.Pipeline (Dat)
open Cert.DLatIdeal Cert.DLatIdeal.Gen Cert.Rms

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

abbrev lq : EReal := Ideal.ofBits .f32 0x43C00000#32
abbrev lk : EReal := Ideal.ofBits .f32 0x43800000#32

/-- Entry `e` of row `r` of the three parts of the rows' gradient. -/
def entry (X D : FVec Ideal S16384x384 .f32) (G : FVec Ideal S1x384 .f32) (Y E : FVec Ideal S16384x256 .f32) (K : FVec Ideal S1x256 .f32) (R : FVec Ideal S16384x128 .f32)
    (r : Fin 16384) (e : Fin 768) : EReal :=
  if h₁ : e.val < 384 then dxK lq (fun j => D (ix2 r j) * G (ix2 0 j)) (fun j => X (ix2 r j)) ⟨e.val, h₁⟩
  else if h₂ : e.val - 384 < 256 then dxK lk (fun j => E (ix2 r j) * K (ix2 0 j)) (fun j => Y (ix2 r j)) ⟨e.val - 384, h₂⟩
  else R (ix2 r ⟨e.val - 384 - 256, by omega⟩)

/-- The array of the rows' gradient. -/
abbrev DL (X D : FVec Ideal S16384x384 .f32) (G : FVec Ideal S1x384 .f32) (Y E : FVec Ideal S16384x256 .f32) (K : FVec Ideal S1x256 .f32) (R : FVec Ideal S16384x128 .f32) :
    FVec Ideal S16384x768 .bf16 := fun i => entry X D G Y E K R (i 0) (i 1)

theorem DL_at (X D : FVec Ideal S16384x384 .f32) (G : FVec Ideal S1x384 .f32) (Y E : FVec Ideal S16384x256 .f32) (K : FVec Ideal S1x256 .f32) (R : FVec Ideal S16384x128 .f32)
    (i : S16384x768.Idx) (r : Fin 16384) (e : Fin 768) (h0 : (i 0).val = r.val) (h1 : (i 1).val = e.val) : DL X D G Y E K R i = entry X D G Y E K R r e :=
  congrArg₂ (entry X D G Y E K R) (Fin.ext h0) (Fin.ext h1)

/-- The sum over the 512 rows of block `t` of the cotangent by the normalised entry. -/
def part {n : ℕ} (L : EReal) (X D : FVec Ideal ⟨2, ![16384, n]⟩ .f32) (t : Fin 32) (k : Fin n) : EReal :=
  ∑ r : Fin 512, D (ix2 ⟨t.val * 512 + r.val, by omega⟩ k) * X (ix2 ⟨t.val * 512 + r.val, by omega⟩ k) * rs L (fun j => X (ix2 ⟨t.val * 512 + r.val, by omega⟩ j))

/-- A block's sums, each on the eight rows of its tile. -/
abbrev TILE {n : ℕ} (f : Fin 32 → Fin n → EReal) : FVec Ideal ⟨2, ![256, n]⟩ .f32 :=
  fun i => f ⟨(i 0).val / 8, by have := (i 0).isLt; change (i 0).val < 256 at this; omega⟩ (i 1)

set_option maxHeartbeats 2000000 in
theorem final7 (c : Dev nD) : (dats m 0 c).arrAt 7 (cfgs 0).N
    = DL (V m c main_arg0) (V m c main_arg4) (V m c main_v0) (V m c main_arg1) (V m c main_arg5) (V m c main_v1) (V m c main_arg6) := by
  refine (dats m 0 c).arrAt_eq_of_covers 7 _ (by decide +kernel) fun t _ y => ?_
  blk_simp
  rw [after0_7]; frame_out
  refine Eq.trans ?_ (DL_at _ _ _ _ _ _ _ _ ⟨t.val * 512 + (y 0).val, by have h := t.isLt; change t.val < 32 at h; have h' : (y 0).val < 512 := (y 0).isLt; omega⟩ (y 1)
    (by blk_simp [idx t]) (by blk_simp [idx t])).symm
  pointwise [k0_pay4, k0_pay1, k0_pay5, k0_pay7, k0_pay6, k0_pay9, k0_pay10, entry, dxK, rs, ve]
  unfold iblk
  generalize V m c = U
  by_cases h₁ : (y 1).val < 384
  · rw [dif_pos h₁, dif_pos h₁]
    blk_point [idx t]
  rw [dif_neg h₁, dif_neg h₁]
  by_cases h₂ : (y 1).val - 384 < 256
  · rw [dif_pos h₂, dif_pos h₂]
    blk_point [idx t]
  · rw [dif_neg h₂, dif_neg h₂]
    blk_point [idx t]

theorem final8 (c : Dev nD) : (dats m 0 c).arrAt 8 (cfgs 0).N = TILE (part lq (V m c main_arg0) (V m c main_arg4)) := by
  refine (dats m 0 c).arrAt_eq_of_covers 8 _ (by decide +kernel) fun t _ y => ?_
  blk_simp
  rw [after0_8]; frame_out
  pointwise [k0_pay2, k0_pay8, k0_pay6, k0_pay9, k0_pay10, TILE, part, rs, ve]
  unfold iblk
  generalize V m c = U
  blk_point [idx t]

theorem final9 (c : Dev nD) : (dats m 0 c).arrAt 9 (cfgs 0).N = TILE (part lk (V m c main_arg1) (V m c main_arg5)) := by
  refine (dats m 0 c).arrAt_eq_of_covers 9 _ (by decide +kernel) fun t _ y => ?_
  blk_simp
  rw [after0_9]; frame_out
  pointwise [k0_pay3, k0_pay1, k0_pay9, k0_pay10, TILE, part, rs, ve]
  unfold iblk
  generalize V m c = U
  blk_point [idx t]

end Cert.DLatIdeal.Value
-- ==== Proof.DLatTail.lean ====
module

public import proofs.«01_k».proof.Proof.DLatArr

/-! The latent norms' gradients: what the lines after the kernel make of its arrays. -/

@[expose] public section
set_option maxRecDepth 16384
noncomputable section
namespace Cert.DLatIdeal.Value
open Idealize.ShloMosaic Idealize.ShloMosaic.TcCoe Idealize.SL.Sem
open Idealize.ShloMosaic.Pipeline (Dat)
open Cert.DLatIdeal Cert.DLatIdeal.Gen Cert.Rms

variable (m : (ℓ : Loc nD τ sig) → Buf (Elt Ideal) ℓ)

theorem v0_at (c : Dev nD) (j : Fin 384) : V m c main_v0 (ix2 0 j) = m ((c : Thread nD τ).loc main_arg2) (ix1 j) := by
  have h : V m c main_v0 = shapeCast S1x384 (m ((c : Thread nD τ).loc main_arg2)) shapeCasts_S384_S1x384 := by
    show StableHlo.after (hostOps0 (F := Ideal)) (fun b => m (c, b)) (Proc.devRef .tc main_v0) = _
    after_results; rfl
  rw [h]; pointwise
theorem v1_at (c : Dev nD) (j : Fin 256) : V m c main_v1 (ix2 0 j) = m ((c : Thread nD τ).loc main_arg3) (ix1 j) := by
  have h : V m c main_v1 = shapeCast S1x256 (m ((c : Thread nD τ).loc main_arg3)) shapeCasts_S256_S1x256 := by
    show StableHlo.after (hostOps0 (F := Ideal)) (fun b => m (c, b)) (Proc.devRef .tc main_v1) = _
    after_results; rfl
  rw [h]; pointwise
theorem kept0 (c : Dev nD) : V m c main_arg0 = m ((c : Thread nD τ).loc main_arg0) := V_main_arg0 m c
theorem kept1 (c : Dev nD) : V m c main_arg1 = m ((c : Thread nD τ).loc main_arg1) := V_main_arg1 m c
theorem kept4 (c : Dev nD) : V m c main_arg4 = m ((c : Thread nD τ).loc main_arg4) := V_main_arg4 m c
theorem kept5 (c : Dev nD) : V m c main_arg5 = m ((c : Thread nD τ).loc main_arg5) := V_main_arg5 m c
theorem kept6 (c : Dev nD) : V m c main_arg6 = m ((c : Thread nD τ).loc main_arg6) := V_main_arg6 m c

theorem tail3 (c : Dev nD) : Pipeline.afterTail₀ cfgs (dats m) 0 (V0 m) [hostOps1] c main_v3
    = DL (V m c main_arg0) (V m c main_arg4) (V m c main_v0) (V m c main_arg1) (V m c main_arg5) (V m c main_v1) (V m c main_arg6) := by
  unfold Pipeline.afterTail₀
  show StableHlo.after hostOps1 _ (Proc.devRef .tc main_v3) = _
  after_results
  have h3 := Pipeline.withArrays_arr (cfgs 0).spec (by decide) c (V0 m c) (fun w => (dats m 0 c).arrAt w (cfgs 0).N) 7
  simp only [show Pipeline.arrRef (cfgs 0).spec 7 = main_v2_0 from rfl, final7] at h3
  rw [h3]
  rfl

theorem tail7 (c : Dev nD) : Pipeline.afterTail₀ cfgs (dats m) 0 (V0 m) [hostOps1] c main_v7
    = fun i => ∑ t, part lq (V m c main_arg0) (V m c main_arg4) t (i 0) := by
  unfold Pipeline.afterTail₀
  show StableHlo.after hostOps1 _ (Proc.devRef .tc main_v7) = _
  after_results
  have h3 := Pipeline.withArrays_arr (cfgs 0).spec (by decide) c (V0 m c) (fun w => (dats m 0 c).arrAt w (cfgs 0).N) 8
  simp only [show Pipeline.arrRef (cfgs 0).spec 8 = main_v2_1 from rfl, final8] at h3
  rw [h3]
  funext j
  pointwise [TILE]
  exact Finset.sum_congr rfl fun t _ => congrArg (part _ _ _ · _) (Fin.ext (Nat.mul_div_cancel _ (by norm_num)))

theorem tail11 (c : Dev nD) : Pipeline.afterTail₀ cfgs (dats m) 0 (V0 m) [hostOps1] c main_v11
    = fun i => ∑ t, part lk (V m c main_arg1) (V m c main_arg5) t (i 0) := by
  unfold Pipeline.afterTail₀
  show StableHlo.after hostOps1 _ (Proc.devRef .tc main_v11) = _
  after_results
  have h3 := Pipeline.withArrays_arr (cfgs 0).spec (by decide) c (V0 m c) (fun w => (dats m 0 c).arrAt w (cfgs 0).N) 9
  simp only [show Pipeline.arrRef (cfgs 0).spec 9 = main_v2_2 from rfl, final9] at h3
  rw [h3]
  funext j
  pointwise [TILE]
  exact Finset.sum_congr rfl fun t _ => congrArg (part _ _ _ · _) (Fin.ext (Nat.mul_div_cancel _ (by norm_num)))

end Cert.DLatIdeal.Value
-- ==== Proof.DLatRef.lean ====
module

public import proofs.«01_k».proof.Proof.RmsMath
public import proofs.«01_k».proof.Proof.Gen.DLatRefIdeal.Run
public import Idealize.ShloMosaic.Lib.Pipeline.ValueKit
public import Idealize.ShloMosaic.Lib.Pointwise

/-! What the reference of the latent norms' gradients computes, entry by entry. -/

@[expose] public section
set_option maxRecDepth 16384
noncomputable section
namespace Cert.DLatRefIdeal.Value
open Idealize.ShloMosaic Idealize.ShloMosaic.TcCoe Idealize.SL.Sem
open Cert.DLatRefIdeal Cert.DLatRefIdeal.Gen Cert.Rms

variable (a0 : FVec Ideal S16384x384 .f32) (a1 : FVec Ideal S16384x256 .f32) (a2 : FVec Ideal S384 .f32) (a3 : FVec Ideal S256 .f32)
  (a4 : FVec Ideal S16384x384 .f32) (a5 : FVec Ideal S16384x256 .f32) (a6 : FVec Ideal S16384x128 .f32)

abbrev EPS : FVec Ideal S16384x1 .f32 := broadcastInDim S16384x1 ![] bcast_S_S16384x1 (constant S_ .f32 0x358637BD#32)
abbrev HALF : FVec Ideal S16384x1 .f32 := broadcastInDim S16384x1 ![] bcast_S_S16384x1 (constant S_ .f32 0xBF000000#32)
abbrev L256 : FVec Ideal S16384x1 .f32 := broadcastInDim S16384x1 ![] bcast_S_S16384x1 (constant S_ .f32 0x43800000#32)
abbrev L384 : FVec Ideal S16384x1 .f32 := broadcastInDim S16384x1 ![] bcast_S_S16384x1 (constant S_ .f32 0x43C00000#32)
/-- The three parts of a token's latent side by side. -/
def LAT : FVec Ideal S16384x768 .f32 :=
  concatenate S16384x768 1 [⟨S16384x384, a0⟩, ⟨S16384x256, a1⟩, ⟨S16384x128, a6⟩] concatenates_S16384x384_S16384x256_S16384x128_S16384x768_d1
/-- The first part, taken out again. -/
def XQ : FVec Ideal S16384x384 .f32 := extractStridedSlice S16384x384 ![0, 0] (LAT a0 a1 a6) slices_S16384x768_S16384x384_0_0
/-- The second part, taken out again. -/
def XK : FVec Ideal S16384x256 .f32 := extractStridedSlice S16384x256 ![0, 384] (LAT a0 a1 a6) slices_S16384x768_S16384x256_0_384
/-- The scaled cotangents. -/
def DQ : FVec Ideal S16384x384 .f32 := mulf a4 (broadcastInDim S16384x384 ![0, 1] bcast_S1x384_S16384x384_0_1 (broadcastInDim S1x384 ![1] bcast_S384_S1x384_1 a2))
def DK : FVec Ideal S16384x256 .f32 := mulf a5 (broadcastInDim S16384x256 ![0, 1] bcast_S1x256_S16384x256_0_1 (broadcastInDim S1x256 ![1] bcast_S256_S1x256_1 a3))

section q
variable (x d : FVec Ideal S16384x384 .f32)
/-- The mean squares. -/
def VQ : FVec Ideal S16384x1 .f32 :=
  addf (Host.divf (broadcastInDim S16384x1 ![0] bcast_S16384_S16384x1_0 (Host.reduceAdd (mulf x x) (constant S_ .f32 0x00000000#32) reducesTo_S16384x384_S16384_d1 h_S_)) L384) EPS
/-- The reciprocal roots. -/
def RQ : FVec Ideal S16384x384 .f32 := broadcastInDim S16384x384 ![0, 1] bcast_S16384x1_S16384x384_0_1 (Host.rsqrt (VQ x))
/-- The factors of the mean squares' shares. -/
def CQ : FVec Ideal S16384x384 .f32 :=
  broadcastInDim S16384x384 ![0] bcast_S16384_S16384x384_0 (Host.reduceAdd (Host.divf (mulf (shapeCast _ (Host.reduceAdd (mulf x d) (constant S_ .f32 0x00000000#32) reducesTo_S16384x384_S16384_d1 h_S_) shapeCasts_S16384_S16384x1) (mulf HALF (Host.divf (Host.rsqrt (VQ x)) (VQ x)))) L384) (constant S_ .f32 0x00000000#32) reducesTo_S16384x1_S16384_d1 h_S_)
/-- The gradient of the rows. -/
def GQ : FVec Ideal S16384x384 .f32 := addf (addf (mulf d (RQ x)) (mulf x (CQ x d))) (mulf (CQ x d) x)

variable (r : Fin 16384) (k : Fin 384)
abbrev lq : EReal := Ideal.ofBits .f32 0x43C00000#32
theorem VQ_at : VQ x (ix2 r 0) = ve lq (fun j => x (ix2 r j)) := by pointwise [VQ, ve]
theorem RQ_at : RQ x (ix2 r k) = rs lq (fun j => x (ix2 r j)) := by
  pointwise [RQ, rs]
  exact congrArg _ (VQ_at x r)
theorem CQ_at : CQ x d (ix2 r k) = cv lq (fun j => d (ix2 r j)) (fun j => x (ix2 r j)) := by
  pointwise [CQ, cv, rs]
  simp only [Fin.sum_univ_one, VQ_at]
theorem GQ_at : GQ x d (ix2 r k) = dxR lq (fun j => d (ix2 r j)) (fun j => x (ix2 r j)) k := by
  pointwise [GQ, dxR]
  simp only [RQ_at, CQ_at]
end q

section kv
variable (x d : FVec Ideal S16384x256 .f32)
/-- The mean squares. -/
def VK : FVec Ideal S16384x1 .f32 :=
  addf (Host.divf (broadcastInDim S16384x1 ![0] bcast_S16384_S16384x1_0 (Host.reduceAdd (mulf x x) (constant S_ .f32 0x00000000#32) reducesTo_S16384x256_S16384_d1 h_S_)) L256) EPS
/-- The reciprocal roots. -/
def RK : FVec Ideal S16384x256 .f32 := broadcastInDim S16384x256 ![0, 1] bcast_S16384x1_S16384x256_0_1 (Host.rsqrt (VK x))
/-- The factors of the mean squares' shares. -/
def CK : FVec Ideal S16384x256 .f32 :=
  broadcastInDim S16384x256 ![0] bcast_S16384_S16384x256_0 (Host.reduceAdd (Host.divf (mulf (shapeCast _ (Host.reduceAdd (mulf x d) (constant S_ .f32 0x00000000#32) reducesTo_S16384x256_S16384_d1 h_S_) shapeCasts_S16384_S16384x1) (mulf HALF (Host.divf (Host.rsqrt (VK x)) (VK x)))) L256) (constant S_ .f32 0x00000000#32) reducesTo_S16384x1_S16384_d1 h_S_)
/-- The gradient of the rows. -/
def GK : FVec Ideal S16384x256 .f32 := addf (addf (mulf d (RK x)) (mulf x (CK x d))) (mulf (CK x d) x)

variable (r : Fin 16384) (k : Fin 256)
abbrev lk : EReal := Ideal.ofBits .f32 0x43800000#32
theorem VK_at : VK x (ix2 r 0) = ve lk (fun j => x (ix2 r j)) := by pointwise [VK, ve]
theorem RK_at : RK x (ix2 r k) = rs lk (fun j => x (ix2 r j)) := by
  pointwise [RK, rs]
  exact congrArg _ (VK_at x r)
theorem CK_at : CK x d (ix2 r k) = cv lk (fun j => d (ix2 r j)) (fun j => x (ix2 r j)) := by
  pointwise [CK, cv, rs]
  simp only [Fin.sum_univ_one, VK_at]
theorem GK_at : GK x d (ix2 r k) = dxR lk (fun j => d (ix2 r j)) (fun j => x (ix2 r j)) k := by
  pointwise [GK, dxR]
  simp only [RK_at, CK_at]
end kv

/-- The gradient of the three parts side by side. -/
def DL : FVec Ideal S16384x768 .f32 :=
  addf (addf (pad S16384x768 ![0, 640] ![0, 0] ![0, 0] a6 (constant S_ .f32 0x00000000#32) pads_S16384x128_S16384x768_000_64000 h_S_) (pad S16384x768 ![0, 384] ![0, 128] ![0, 0] (GK (XK a0 a1 a6) (DK a3 a5)) (constant S_ .f32 0x00000000#32) pads_S16384x256_S16384x768_000_3841280 h_S_)) (pad S16384x768 ![0, 0] ![0, 384] ![0, 0] (GQ (XQ a0 a1 a6) (DQ a2 a4)) (constant S_ .f32 0x00000000#32) pads_S16384x384_S16384x768_000_03840 h_S_)
/-- The gradients of the scales. -/
def SQ : FVec Ideal S384 .f32 :=
  Host.reduceAdd (shapeCast _ (Host.reduceAdd (mulf (mulf (XQ a0 a1 a6) (RQ (XQ a0 a1 a6))) a4) (constant S_ .f32 0x00000000#32) reducesTo_S16384x384_S384_d0 h_S_) shapeCasts_S384_S1x384) (constant S_ .f32 0x00000000#32) reducesTo_S1x384_S384_d0 h_S_
def SK : FVec Ideal S256 .f32 :=
  Host.reduceAdd (shapeCast _ (Host.reduceAdd (mulf (mulf (XK a0 a1 a6) (RK (XK a0 a1 a6))) a5) (constant S_ .f32 0x00000000#32) reducesTo_S16384x256_S256_d0 h_S_) shapeCasts_S256_S1x256) (constant S_ .f32 0x00000000#32) reducesTo_S1x256_S256_d0 h_S_

variable (r : Fin 16384)
theorem XQ_at (k : Fin 384) : XQ a0 a1 a6 (ix2 r k) = a0 (ix2 r k) := by pointwise [XQ, LAT]
theorem XK_at (k : Fin 256) : XK a0 a1 a6 (ix2 r k) = a1 (ix2 r k) := by pointwise [XK, LAT]
theorem DQ_at (k : Fin 384) : DQ a2 a4 (ix2 r k) = a4 (ix2 r k) * a2 (ix1 k) := by pointwise [DQ]
theorem DK_at (k : Fin 256) : DK a3 a5 (ix2 r k) = a5 (ix2 r k) * a3 (ix1 k) := by pointwise [DK]

theorem DL_at (e : Fin 768) : DL a0 a1 a2 a3 a4 a5 a6 (ix2 r e)
    = (if h₁ : e.val < 384 then dxR lq (fun j => a4 (ix2 r j) * a2 (ix1 j)) (fun j => a0 (ix2 r j)) ⟨e.val, h₁⟩
      else if h₂ : e.val - 384 < 256 then dxR lk (fun j => a5 (ix2 r j) * a3 (ix1 j)) (fun j => a1 (ix2 r j)) ⟨e.val - 384, h₂⟩
      else a6 (ix2 r ⟨e.val - 384 - 256, by omega⟩)) := by
  pointwise [DL, GQ_at, GK_at, XQ_at, XK_at, DQ_at, DK_at]
  have he := e.isLt
  by_cases h₁ : e.val < 384
  · rw [dif_neg (by omega), dif_neg (by omega), dif_pos h₁, dif_pos h₁, zero_add, zero_add]
  by_cases h₂ : e.val - 384 < 256
  · rw [dif_neg (by omega), dif_pos (by omega), dif_neg h₁, dif_neg h₁, dif_pos h₂, add_zero, zero_add]
  · rw [dif_pos (by omega), dif_neg (by omega), dif_neg h₁, dif_neg h₁, dif_neg h₂, add_zero, add_zero]
    simp only [show e.val - 640 = e.val - 384 - 256 by omega]

theorem SQ_at (k : Fin 384) : SQ a0 a1 a4 a6 (ix1 k) = ∑ r : Fin 16384, a0 (ix2 r k) * rs lq (fun j => a0 (ix2 r j)) * a4 (ix2 r k) := by
  pointwise [SQ]
  simp only [Fin.sum_univ_one, RQ_at, XQ_at]
theorem SK_at (k : Fin 256) : SK a0 a1 a5 a6 (ix1 k) = ∑ r : Fin 16384, a1 (ix2 r k) * rs lk (fun j => a1 (ix2 r j)) * a5 (ix2 r k) := by
  pointwise [SK]
  simp only [Fin.sum_univ_one, RK_at, XK_at]

end Cert.DLatRefIdeal.Value
-- ==== Proof.DLatValue.lean ====
module

public import proofs.«01_k».proof.Defs
public import proofs.«01_k».proof.Proof.Gen.Pre_dlat_finite
public import proofs.«01_k».proof.Proof.DLatTail
public import proofs.«01_k».proof.Proof.DLatRef
public import proofs.«01_k».proof.Proof.Finite
public import Idealize.ShloMosaic.Lib.Claim

/-! The latent norms' gradients: the kernel computes what the reference computes. -/

@[expose] public section
set_option maxRecDepth 16384
noncomputable section
namespace Cert.DLatIdeal.Value
open Idealize.ShloMosaic Idealize.ShloMosaic.TcCoe Idealize.SL.Sem
open Idealize.ShloMosaic.Pipeline (Dat)
open Cert.DLatIdeal Cert.DLatIdeal.Gen Cert.Rms

/-- A product of two finite entries is real. -/
theorem prod_real {x y : EReal} (hx : x = (x.toReal : EReal)) (hy : y = (y.toReal : EReal)) : ∃ r : ℝ, x * y = (r : EReal) :=
  ⟨x.toReal * y.toReal, by rw [EReal.coe_mul, ← hx, ← hy]⟩

theorem sums {n : ℕ} (L : EReal) (X D : FVec Ideal ⟨2, ![16384, n]⟩ .f32) (k : Fin n) :
    ∑ r : Fin 16384, X (ix2 r k) * rs L (fun j => X (ix2 r j)) * D (ix2 r k) = ∑ t, part L X D t k := by
  refine (Fin.sum_univ_tiles 32 512 rfl _).trans (Finset.sum_congr rfl fun t _ => Finset.sum_congr rfl fun r _ => ?_)
  rw [mul_comm, ← mul_assoc]

/-- The arrays of the chip, with their types: the two cotangents and the two weights. -/
abbrev A4 (m : (ℓ : Loc nD τ sig) → Buf (Elt Ideal) ℓ) (c : Dev nD) : S16384x384.Idx → EReal := m ((c : Thread nD τ).loc main_arg4)
abbrev A5 (m : (ℓ : Loc nD τ sig) → Buf (Elt Ideal) ℓ) (c : Dev nD) : S16384x256.Idx → EReal := m ((c : Thread nD τ).loc main_arg5)
abbrev A2 (m : (ℓ : Loc nD τ sig) → Buf (Elt Ideal) ℓ) (c : Dev nD) : S384.Idx → EReal := m ((c : Thread nD τ).loc main_arg2)
abbrev A3 (m : (ℓ : Loc nD τ sig) → Buf (Elt Ideal) ℓ) (c : Dev nD) : S256.Idx → EReal := m ((c : Thread nD τ).loc main_arg3)

/-- The entries from the arguments. -/
theorem entry_at (m : (ℓ : Loc nD τ sig) → Buf (Elt Ideal) ℓ) (c : Dev nD) (r : Fin 16384) (e : Fin 768) :
    entry (V m c main_arg0) (V m c main_arg4) (V m c main_v0) (V m c main_arg1) (V m c main_arg5) (V m c main_v1) (V m c main_arg6) r e
    = if h₁ : e.val < 384 then dxK lq (fun j => (A4 m c (ix2 r j) * A2 m c (ix1 j) : EReal)) (fun j => m ((c : Thread nD τ).loc main_arg0) (ix2 r j)) ⟨e.val, h₁⟩
      else if h₂ : e.val - 384 < 256 then dxK lk (fun j => (A5 m c (ix2 r j) * A3 m c (ix1 j) : EReal)) (fun j => m ((c : Thread nD τ).loc main_arg1) (ix2 r j)) ⟨e.val - 384, h₂⟩
      else m ((c : Thread nD τ).loc main_arg6) (ix2 r ⟨e.val - 384 - 256, by omega⟩) := by
  rw [kept0, kept1, kept4, kept5, kept6]
  have h0 := v0_at m c
  have h1 := v1_at m c
  generalize V m c main_v0 = G at h0
  generalize V m c main_v1 = K at h1
  unfold entry
  simp only [h0, h1]

theorem algebraic : Cert.algebraic_DLatIdeal_DLatRefIdeal_pre_dlat_finite (hDLatIdeal := Cert.DLatIdeal.Gen.facts)
    (hDLatRefIdeal := Cert.DLatRefIdeal.Gen.facts) (hPre_dlat_finite := Cert.Pre_dlat_finite.Gen.facts) := by
  intro m g m' g' hpre hargs
  refine ⟨fun c => Pipeline.afterTail₀ cfgs (dats m) 0 (V0 m) [hostOps1] c main_v3, fun c => Pipeline.afterTail₀ cfgs (dats m) 0 (V0 m) [hostOps1] c main_v7,
    fun c => Pipeline.afterTail₀ cfgs (dats m) 0 (V0 m) [hostOps1] c main_v11, ?_, ?_⟩
  · run_from Cert.DLatIdeal.Gen.run_main m g
    · exact W_main_arg2 m (dats m) c
    · exact W_main_arg3 m (dats m) c
  · refine (θ_run _ _ _).mono (fun r h c => ?_) (Cert.DLatRefIdeal.Value.run m' g')
    obtain ⟨h0, h1, h2, hm⟩ := h c
    obtain ⟨e0, e1, e2, e3, e4, e5, e6⟩ := hargs c
    obtain ⟨p0, p1, p2, p3, p4, p5⟩ := hpre c
    refine ⟨h0.trans ?_, h1.trans ?_, h2.trans ?_, hm⟩
    · refine Eq.trans ?_ (tail3 m c).symm
      trans Cert.DLatRefIdeal.Value.DL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      · unfold Cert.DLatRefIdeal.Value.res_main_v80; rw [e0, e1, e2, e3, e4, e5, e6]; rfl
      · funext j
        idx_vars j
        rw [Cert.DLatRefIdeal.Value.DL_at]
        refine Eq.trans ?_ (DL_at _ _ _ _ _ _ _ _ j0 j1 rfl rfl).symm
        refine Eq.trans ?_ (entry_at m c j0 j1).symm
        split_ifs with h₁ h₂
        · exact (dx_eq _ _ _ 384 (by norm_num) len384 (fun k => prod_real (Cert.Finite.real_of _ p4 _) (Cert.Finite.real_of _ p2 _)) (fun k => ⟨_, Cert.Finite.real_of _ p0 _⟩) _).symm
        · exact (dx_eq _ _ _ 256 (by norm_num) len256 (fun k => prod_real (Cert.Finite.real_of _ p5 _) (Cert.Finite.real_of _ p3 _)) (fun k => ⟨_, Cert.Finite.real_of _ p1 _⟩) _).symm
        · rfl
    · refine Eq.trans ?_ (tail7 m c).symm
      trans Cert.DLatRefIdeal.Value.SQ (m ((c : Thread nD τ).loc main_arg0)) (m ((c : Thread nD τ).loc main_arg1)) (m ((c : Thread nD τ).loc main_arg4)) (m ((c : Thread nD τ).loc main_arg6))
      · rw [e0, e1, e4, e6]; rfl
      · funext j
        idx_vars j
        rw [Cert.DLatRefIdeal.Value.SQ_at, kept0, kept4]
        exact sums _ _ _ _
    · refine Eq.trans ?_ (tail11 m c).symm
      trans Cert.DLatRefIdeal.Value.SK (m ((c : Thread nD τ).loc main_arg0)) (m ((c : Thread nD τ).loc main_arg1)) (m ((c : Thread nD τ).loc main_arg5)) (m ((c : Thread nD τ).loc main_arg6))
      · rw [e0, e1, e5, e6]; rfl
      · funext j
        idx_vars j
        rw [Cert.DLatRefIdeal.Value.SK_at, kept1, kept5]
        exact sums _ _ _ _

theorem frame_ref : Cert.quiescent_DLatRefIdeal (hDLatRefIdeal := Cert.DLatRefIdeal.Gen.facts) := by
  intro m ρ _
  set_option maxHeartbeats 1600000 in
  hlo_run
  · exact fun _ => ⟨trivial, trivial, trivial, trivial, trivial, trivial, trivial⟩
  · exact sem_eq_zero_of_no_sems (by decide) _

end Cert.DLatIdeal.Value
-- ==== Proof.GateMath.lean ====
module

public import proofs.«01_k».proof.Proof.Reals
public import Idealize.ShloMosaic.Lib.Pointwise

/-! The gradient of `x ↦ x σ(x)`: the kernel's form and the chain rule's agree at every gate. -/

@[expose] public section
noncomputable section
namespace Cert.Gate
open Idealize.ShloMosaic Cert.Reals

/-- The logistic function. -/
def sgm (g : EReal) : EReal := Ideal.div 1 (1 + Ideal.exp (0 - g))

theorem sgm_bot : sgm ⊥ = 0 := by
  unfold sgm
  rw [sub_eq_add_neg, EReal.neg_bot, zero_add, Ideal.exp_top, EReal.add_top_of_ne_bot (by decide)]
  unfold Ideal.div
  rw [if_neg (by decide), EReal.inv_top, mul_zero]

theorem sgm_top : sgm ⊤ = 1 := by
  unfold sgm
  rw [sub_eq_add_neg, EReal.neg_top, zero_add, Ideal.exp_bot, add_zero]
  unfold Ideal.div
  rw [if_neg (by norm_num)]
  exact (by rw [← EReal.coe_one, ← EReal.coe_inv, ← EReal.coe_mul]; norm_num)

theorem sgm_coe (x : ℝ) : sgm (x : EReal) = ((1 / (1 + Real.exp (0 - x)) : ℝ) : EReal) := by
  unfold sgm
  rw [← EReal.coe_zero, ← EReal.coe_sub, Ideal.exp_coe, ← EReal.coe_one, ← EReal.coe_add, div_coe _ _ (by positivity)]

/-- The two forms of the gradient by a real factor. -/
theorem silu_grad (d : ℝ) (g : EReal) :
    (d : EReal) * (sgm g * (1 + g * (1 - sgm g))) = (d : EReal) * sgm g + g * (d : EReal) * (sgm g * (1 - sgm g)) := by
  induction g using EReal.rec with
  | bot => rw [sgm_bot]; simp
  | top =>
    rw [sgm_top, show (1 : EReal) - 1 = 0 from by rw [← EReal.coe_one, ← EReal.coe_sub, sub_self, EReal.coe_zero]]
    simp
  | coe x =>
    rw [sgm_coe]
    simp only [← EReal.coe_one, ← EReal.coe_sub, ← EReal.coe_mul, ← EReal.coe_add]
    exact congrArg _ (by ring)

end Cert.Gate
-- ==== Proof.FfnDAArr.lean ====
module

public import proofs.«01_k».proof.Proof.Gen.FfnDAIdeal.Frame
public import proofs.«01_k».proof.Proof.GateMath
public import Idealize.ShloMosaic.Lib.Pipeline.ValueKit
public import Idealize.ShloMosaic.Lib.Pointwise
public import Idealize.ShloMosaic.Lib.Claim

/-! The gate's gradient fused with the product: what the kernel's two arrays hold. -/

@[expose] public section
set_option maxRecDepth 16384
noncomputable section
namespace Cert.FfnDAIdeal.Value
open Idealize.ShloMosaic Idealize.ShloMosaic.TcCoe Idealize.SL.Sem
open Idealize.ShloMosaic.Pipeline (Dat)
open Cert.FfnDAIdeal Cert.FfnDAIdeal.Gen Cert.Gate

variable (m : (ℓ : Loc nD τ sig) → Buf (Elt Ideal) ℓ)

theorem idx : ∀ t : Fin cfg0.N, win0_0.index t = ![t.val % 32, 0] ∧ win0_1.index t = ![t.val / 32, 0] ∧ win0_2.index t = ![t.val % 32, t.val / 32]
    ∧ win0_3.index t = ![t.val % 32, t.val / 32] ∧ win0_4.index t = ![t.val % 32, t.val / 32] ∧ win0_5.index t = ![t.val % 32, t.val / 32] :=
  (by decide +kernel : ∀ t : Fin grid0.N, _)

/-- The block's product. -/
theorem acc_at (x : FVec Ideal S512x1024 .f32) (w : FVec Ideal S1408x1024 .f32) (r : Fin 512) (e : Fin 1408) :
    k0_pay3 (F := Ideal) (k0_pay2 (F := Ideal) x w (k0_pay1 (F := Ideal))) (ix2 r e) = ∑ k : Fin 1024, x (ix2 r k) * w (ix2 e k) := by
  pointwise [k0_pay1, k0_pay2, k0_pay3]

/-- The product of row `r` of the cotangent with row `e` of the weights. -/
def prod (D : FVec Ideal S16384x1024 .f32) (W : FVec Ideal S2816x1024 .f32) (r : Fin 16384) (e : Fin 2816) : EReal :=
  ∑ k : Fin 1024, D (ix2 r k) * W (ix2 e k)

/-- The gradient of the gate. -/
abbrev DGATE (G U : FVec Ideal S16384x2816 .f32) (W : FVec Ideal S2816x1024 .f32) (D : FVec Ideal S16384x1024 .f32) : FVec Ideal S16384x2816 .bf16 :=
  fun i => prod D W (i 0) (i 1) * U (ix2 (i 0) (i 1)) * (sgm (G (ix2 (i 0) (i 1))) * (1 + G (ix2 (i 0) (i 1)) * (1 - sgm (G (ix2 (i 0) (i 1))))))

/-- The gradient of the other factor. -/
abbrev DUP (G : FVec Ideal S16384x2816 .f32) (W : FVec Ideal S2816x1024 .f32) (D : FVec Ideal S16384x1024 .f32) : FVec Ideal S16384x2816 .bf16 :=
  fun i => prod D W (i 0) (i 1) * (G (ix2 (i 0) (i 1)) * sgm (G (ix2 (i 0) (i 1))))

theorem final4 (c : Dev nD) : (dats m 0 c).arrAt 4 (cfgs 0).N
    = DGATE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold Gen.outsAt0; frame_out
  pointwise [k0_pay4, k0_pay3, k0_pay2, k0_pay1, DGATE, prod, sgm]
  blk_point [iblk, V, idx t]

theorem final5 (c : Dev nD) : (dats m 0 c).arrAt 5 (cfgs 0).N
    = DUP (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]; unfold Gen.outsAt0; frame_out
  pointwise [k0_pay5, k0_pay3, k0_pay2, k0_pay1, DUP, prod, sgm]
  blk_point [iblk, V, idx t]

theorem tail1 (c : Dev nD) : Pipeline.afterTail₀ cfgs (dats m) 0 (V0 m) [hostOps1] c main_v1 =
   (DGATE (m ((c : Thread nD τ).loc main_arg0)) (m ((c : Thread nD τ).loc main_arg1)) (m ((c : Thread nD τ).loc main_arg2)) (m ((c : Thread nD τ).loc main_arg3)) : FVec Ideal S16384x2816 .f32) := by
  unfold Pipeline.afterTail₀
  show StableHlo.after hostOps1 _ (Proc.devRef .tc main_v1) = _
  after_results
  have h3 := Pipeline.withArrays_arr (cfgs 0).spec (by decide) c (V0 m c) (fun w => (dats m 0 c).arrAt w (cfgs 0).N) 4
  simp only [show Pipeline.arrRef (cfgs 0).spec 4 = main_v0_0 from rfl, final4] at h3
  rw [h3]
  rfl

theorem tail2 (c : Dev nD) : Pipeline.afterTail₀ cfgs (dats m) 0 (V0 m) [hostOps1] c main_v2 =
   (DUP (m ((c : Thread nD τ).loc main_arg0)) (m ((c : Thread nD τ).loc main_arg2)) (m ((c : Thread nD τ).loc main_arg3)) : FVec Ideal S16384x2816 .f32) := by
  unfold Pipeline.afterTail₀
  show StableHlo.after hostOps1 _ (Proc.devRef .tc main_v2) = _
  after_results
  have h3 := Pipeline.withArrays_arr (cfgs 0).spec (by decide) c (V0 m c) (fun w => (dats m 0 c).arrAt w (cfgs 0).N) 5
  simp only [show Pipeline.arrRef (cfgs 0).spec 5 = main_v0_1 from rfl, final5] at h3
  rw [h3]
  rfl

end Cert.FfnDAIdeal.Value
-- ==== Proof.FfnDARef.lean ====
module

public import proofs.«01_k».proof.Proof.GateMath
public import proofs.«01_k».proof.Proof.Gen.FfnDARefIdeal.Run
public import Idealize.ShloMosaic.Lib.Pipeline.ValueKit
public import Idealize.ShloMosaic.Lib.Pointwise

/-! What the reference of the gate's gradient computes, entry by entry. -/

@[expose] public section
set_option maxRecDepth 16384
noncomputable section
namespace Cert.FfnDARefIdeal.Value
open Idealize.ShloMosaic Idealize.ShloMosaic.TcCoe Idealize.SL.Sem
open Cert.FfnDARefIdeal Cert.FfnDARefIdeal.Gen Cert.Gate

variable (a0 a1 : FVec Ideal S16384x2816 .f32) (a2 : FVec Ideal S2816x1024 .f32) (a3 : FVec Ideal S16384x1024 .f32)

/-- The ones. -/
abbrev ONE : FVec Ideal S16384x2816 .f32 := broadcastInDim S16384x2816 ![] bcast_S_S16384x2816 (constant S_ .f32 0x3F800000#32)
/-- The product. -/
def DOT : FVec Ideal S16384x2816 .f32 := Host.dotGeneral dot_S16384x1024_S2816x1024_S16384x2816_1_1_0_0_n_n none a3 a2
/-- The gate's logistic function. -/
def SG : FVec Ideal S16384x2816 .f32 := Host.divf ONE (addf ONE (Host.exp (Host.negf a0)))
/-- The gradient of the gate. -/
def DG : FVec Ideal S16384x2816 .f32 :=
  addf (mulf (mulf (DOT a2 a3) a1) (SG a0)) (mulf (mulf a0 (mulf (DOT a2 a3) a1)) (mulf (SG a0) (subf ONE (SG a0))))
/-- The gradient of the other factor. -/
def DU : FVec Ideal S16384x2816 .f32 := mulf (mulf a0 (SG a0)) (DOT a2 a3)

variable (r : Fin 16384) (e : Fin 2816)

theorem DOT_at : DOT a2 a3 (ix2 r e) = ∑ k : Fin 1024, a3 (ix2 r k) * a2 (ix2 e k) := by pointwise [DOT]
theorem SG_at : SG a0 (ix2 r e) = sgm (a0 (ix2 r e)) := by
  pointwise [SG, sgm]
  rw [zero_sub]
theorem DG_at : DG a0 a1 a2 a3 (ix2 r e) = DOT a2 a3 (ix2 r e) * a1 (ix2 r e) * sgm (a0 (ix2 r e))
    + a0 (ix2 r e) * (DOT a2 a3 (ix2 r e) * a1 (ix2 r e)) * (sgm (a0 (ix2 r e)) * (1 - sgm (a0 (ix2 r e)))) := by
  pointwise [DG]
  rw [SG_at]
theorem DU_at : DU a0 a2 a3 (ix2 r e) = a0 (ix2 r e) * sgm (a0 (ix2 r e)) * DOT a2 a3 (ix2 r e) := by
  pointwise [DU]
  rw [SG_at]

end Cert.FfnDARefIdeal.Value
-- ==== Proof.FfnDAValue.lean ====
module

public import proofs.«01_k».proof.Defs
public import proofs.«01_k».proof.Proof.FfnDAArr
public import proofs.«01_k».proof.Proof.Finite
public import proofs.«01_k».proof.Proof.Gen.Pre_ffnda_finite
public import proofs.«01_k».proof.Proof.FfnDARef

/-! The gate's gradient: the kernel computes what the reference computes. -/

@[expose] public section
set_option maxRecDepth 16384
noncomputable section
namespace Cert.FfnDAIdeal.Value
open Idealize.ShloMosaic Idealize.ShloMosaic.TcCoe Idealize.SL.Sem
open Cert.FfnDAIdeal Cert.FfnDAIdeal.Gen Cert.Gate

/-- A product of real rows is real. -/
theorem prod_real (D : FVec Ideal S16384x1024 .f32) (W : FVec Ideal S2816x1024 .f32) (r : Fin 16384) (e : Fin 2816)
    (hD : ∀ i, D i = ((D i).toReal : EReal)) (hW : ∀ i, W i = ((W i).toReal : EReal)) : ∃ x : ℝ, prod D W r e = (x : EReal) :=
  ⟨∑ k : Fin 1024, (D (ix2 r k)).toReal * (W (ix2 e k)).toReal, by
    rw [← Cert.Reals.sum_coe]
    exact Finset.sum_congr rfl fun k _ => by rw [EReal.coe_mul, ← hD, ← hW]⟩

/-- The chain rule's gradient of the gate is the kernel's. -/
theorem dgate_eq {p u g : EReal} {d : ℝ} (hd : p = (d : EReal)) (hu : u = (u.toReal : EReal)) :
    p * u * sgm g + g * (p * u) * (sgm g * (1 - sgm g)) = p * u * (sgm g * (1 + g * (1 - sgm g))) := by
  rw [hd, hu, ← EReal.coe_mul]
  exact (silu_grad _ g).symm

theorem algebraic : Cert.algebraic_FfnDAIdeal_FfnDARefIdeal_pre_ffnda_finite (hFfnDAIdeal := Cert.FfnDAIdeal.Gen.facts)
    (hFfnDARefIdeal := Cert.FfnDARefIdeal.Gen.facts) (hPre_ffnda_finite := Cert.Pre_ffnda_finite.Gen.facts) := by
  intro m g m' g' hpre hargs
  refine ⟨fun c => Pipeline.afterTail₀ cfgs (dats m) 0 (V0 m) [hostOps1] c main_v1, fun c => Pipeline.afterTail₀ cfgs (dats m) 0 (V0 m) [hostOps1] c main_v2, ?_, ?_⟩
  · run_from Cert.FfnDAIdeal.Gen.run_main m g
  · refine (θ_run _ _ _).mono (fun r h c => ?_) (Cert.FfnDARefIdeal.Value.run m' g')
    obtain ⟨h0, h1, hm⟩ := h c
    obtain ⟨e0, e1, e2, e3⟩ := hargs c
    obtain ⟨p1, p2, p3⟩ := hpre c
    refine ⟨h0.trans ?_, h1.trans ?_, hm⟩
    · refine Eq.trans ?_ (tail1 m c).symm
      trans Cert.FfnDARefIdeal.Value.DG (m ((c : Thread nD τ).loc main_arg0)) (m ((c : Thread nD τ).loc main_arg1)) (m ((c : Thread nD τ).loc main_arg2)) (m ((c : Thread nD τ).loc main_arg3))
      · rw [e0, e1, e2, e3]; rfl
      funext j
      idx_vars j
      obtain ⟨d, hd⟩ := prod_real (m ((c : Thread nD τ).loc main_arg3)) (m ((c : Thread nD τ).loc main_arg2)) j0 j1 (Cert.Finite.real_of _ p3) (Cert.Finite.real_of _ p2)
      have hu := Cert.Finite.real_of _ p1 (ix2 j0 j1)
      refine (Cert.FfnDARefIdeal.Value.DG_at _ _ _ _ j0 j1).trans ?_
      rw [Cert.FfnDARefIdeal.Value.DOT_at]
      exact dgate_eq hd hu
    · refine Eq.trans ?_ (tail2 m c).symm
      trans Cert.FfnDARefIdeal.Value.DU (m ((c : Thread nD τ).loc main_arg0)) (m ((c : Thread nD τ).loc main_arg2)) (m ((c : Thread nD τ).loc main_arg3))
      · rw [e0, e2, e3]; rfl
      funext j
      idx_vars j
      refine (Cert.FfnDARefIdeal.Value.DU_at _ _ _ j0 j1).trans ?_
      rw [Cert.FfnDARefIdeal.Value.DOT_at]
      exact mul_comm _ _

theorem frame_ref : Cert.quiescent_FfnDARefIdeal (hFfnDARefIdeal := Cert.FfnDARefIdeal.Gen.facts) := by
  intro m ρ _
  set_option maxHeartbeats 1600000 in
  hlo_run
  · exact fun _ => ⟨trivial, trivial, trivial, trivial⟩
  · exact sem_eq_zero_of_no_sems (by decide) _

end Cert.FfnDAIdeal.Value
-- ==== Proof.RopeKVArr.lean ====
module

public import proofs.«01_k».proof.Proof.Gen.RopeKVIdeal.Frame
public import proofs.«01_k».proof.Proof.Lits
public import Idealize.ShloMosaic.Lib.Pipeline.ValueKit
public import Idealize.ShloMosaic.Lib.Pointwise

/-! What the kernel of the keys' rotary gradient leaves in its two arrays. -/

@[expose] public section
set_option maxRecDepth 16384
noncomputable section
namespace Cert.RopeKVIdeal.Value
open Idealize.ShloMosaic Idealize.ShloMosaic.TcCoe Idealize.SL.Sem
open Idealize.ShloMosaic.Pipeline (Dat)
open Cert.RopeKVIdeal Cert.RopeKVIdeal.Gen

variable (m : (ℓ : Loc nD τ sig) → Buf (Elt Ideal) ℓ)

theorem idx : ∀ t : Fin cfg0.N, win0_0.index t = ![t.val % 8, t.val / 8, 0] ∧ win0_1.index t = ![t.val % 8, t.val / 8, 0]
    ∧ win0_2.index t = ![t.val / 8, 0] ∧ win0_3.index t = ![t.val / 8, t.val % 8] ∧ win0_4.index t = ![t.val / 8, 0] :=
  (by decide +kernel : ∀ t : Fin grid0.N, _)

/-- Head `h`'s entry `e` of token `t`: the key's plain part, then the value. -/
def kv (K : FVec Ideal S8x16384x256 .f32) (W : FVec Ideal S8x16384x128 .f32) (t : Fin 16384) (h : Fin 8) (e : Fin 256) : EReal :=
  if h₁ : e.val < 128 then K (ix3 h t ⟨e.val, by omega⟩) else W (ix3 h t ⟨e.val - 128, by omega⟩)

/-- The first array: a token's entries head after head. -/
abbrev KV (K : FVec Ideal S8x16384x256 .f32) (W : FVec Ideal S8x16384x128 .f32) : FVec Ideal S16384x2048 .bf16 :=
  fun i => kv K W (i 0) ⟨(i 1).val / 256, by have := (i 1).isLt; change (i 1).val < 2048 at this; omega⟩ ⟨(i 1).val % 256, by omega⟩

/-- The second array: the rotary parts, twice beside each other and turned, summed over the heads. -/
abbrev KR (K : FVec Ideal S8x16384x256 .f32) (C : FVec Ideal S16384x128 .f32) : FVec Ideal S16384x128 .f32 :=
  fun i => ∑ h : Fin 8, K (ix3 h (i 0) ⟨128 + (i 1).val % 64, by omega⟩) * C i

theorem KV_at (K : FVec Ideal S8x16384x256 .f32) (W : FVec Ideal S8x16384x128 .f32) (t : Fin cfg0.N) (i : S16384x2048.Idx) (a : Fin 512) (b : Fin 256)
    (h0 : (i 0).val = t.val / 8 * 512 + a.val) (h1 : (i 1).val = t.val % 8 * 256 + b.val) :
    KV K W i = kv K W ⟨t.val / 8 * 512 + a.val, by have := t.isLt; change t.val < 256 at this; omega⟩ ⟨t.val % 8, by omega⟩ b := by
  unfold KV
  congr 1
  · exact Fin.ext h0
  · exact Fin.ext (by show (i 1).val / 256 = t.val % 8; omega)
  · exact Fin.ext (by show (i 1).val % 256 = b.val; omega)

/-- The lower half's test, at a lane. -/
theorem low (n : Fin 128) (x y : EReal) : Scalar.select (IntOp.cmpi CmpIPredicate.slt (BitVec.ofNat 32 n.val) 64#32) x y = if n.val < 64 then x else y := by
  have h := (by decide +kernel : ∀ n : Fin 128, IntOp.cmpi CmpIPredicate.slt (BitVec.ofNat 32 n.val) 64#32 = if n.val < 64 then 1#1 else 0#1) n
  rw [h]
  by_cases h : n.val < 64
  · rw [if_pos h, if_pos h]; rfl
  · rw [if_neg h, if_neg h]; rfl

theorem pay2_at (x : FVec Ideal S1x512x256 .f32) (w : FVec Ideal S512x128 .f32) (a : Fin 512) (j : Fin 128) :
    k0_pay2 (F := Ideal) x w (ix2 a j) = x (ix3 0 a ⟨128 + j.val % 64, by omega⟩) * w (ix2 a j) := by
  pointwise [k0_pay2, k0_pay1]
  have hj := j.isLt
  rw [low ⟨j.val, hj⟩, low ⟨(j.val + 128 - 64) % 128, by omega⟩]
  refine congrArg (· * _) ?_
  by_cases h : j.val < 64
  · rw [if_pos h, if_neg (by show ¬ (j.val + 128 - 64) % 128 < 64; omega), add_zero]
    simp only [Nat.mod_eq_of_lt h]
  · rw [if_neg h, if_pos (by show (j.val + 128 - 64) % 128 < 64; omega), zero_add]
    simp only [show (j.val + 128 - 64) % 128 = j.val % 64 by omega]

theorem pay3_at (x : FVec Ideal S1x512x256 .f32) (w : FVec Ideal S1x512x128 .f32) (i : S512x256.Idx) :
    k0_pay3 (F := Ideal) x w i = if h₁ : (i 1).val < 128 then x (ix3 0 (i 0) (i 1))
      else w (ix3 0 (i 0) ⟨(i 1).val - 128, by have h := (i 1).isLt; change (i 1).val < 256 at h; omega⟩) := by
  pointwise [k0_pay3, k0_pay1]

theorem pay4_at (x : FVec Ideal S1x512x256 .f32) (w z : FVec Ideal S512x128 .f32) (i : S512x128.Idx) :
    k0_pay4 (F := Ideal) x w z i = z i + k0_pay2 (F := Ideal) x w i := by
  pointwise [k0_pay4]

theorem read0 (c : Dev nD) (t : Fin cfg0.N) (a : Fin 512) (b : Fin 256) : iblk m c 0 t (ix3 0 a b)
    = V m c main_arg1 (ix3 ⟨t.val % 8, by omega⟩ ⟨t.val / 8 * 512 + a.val, by have := t.isLt; change t.val < 256 at this; omega⟩ b) := by
  unfold iblk
  generalize V m c = U
  blk_ext [idx t]

theorem read1 (c : Dev nD) (t : Fin cfg0.N) (a : Fin 512) (b : Fin 128) : iblk m c 1 t (ix3 0 a b)
    = V m c main_arg2 (ix3 ⟨t.val % 8, by omega⟩ ⟨t.val / 8 * 512 + a.val, by have := t.isLt; change t.val < 256 at this; omega⟩ b) := by
  unfold iblk
  generalize V m c = U
  blk_ext [idx t]

theorem read2 (c : Dev nD) (t : Fin cfg0.N) (a : Fin 512) (b : Fin 128) : iblk m c 2 t (ix2 a b)
    = V m c main_v16 (ix2 ⟨t.val / 8 * 512 + a.val, by have := t.isLt; change t.val < 256 at this; omega⟩ b) := by
  unfold iblk
  generalize V m c = U
  blk_ext [idx t]

/-- An entry of the second array, from its block's rows. -/
theorem KR_at (K : FVec Ideal S8x16384x256 .f32) (C : FVec Ideal S16384x128 .f32) (t : Fin cfg0.N) (i : S16384x128.Idx) (a : Fin 512) (b : Fin 128)
    (h0 : (i 0).val = t.val / 8 * 512 + a.val) (h1 : (i 1).val = b.val) :
    KR K C i = ∑ h : Fin 8, K (ix3 h ⟨t.val / 8 * 512 + a.val, by have := t.isLt; change t.val < 256 at this; omega⟩ ⟨128 + b.val % 64, by omega⟩)
      * C (ix2 ⟨t.val / 8 * 512 + a.val, by have := t.isLt; change t.val < 256 at this; omega⟩ b) := by
  have hi : i = ix2 ⟨t.val / 8 * 512 + a.val, by have := t.isLt; change t.val < 256 at this; omega⟩ b :=
    funext fun | ⟨0, _⟩ => Fin.ext h0 | ⟨1, _⟩ => Fin.ext h1
  rw [hi]
  rfl

theorem left3 (c : Dev nD) (t : Fin cfg0.N) : (outsAt0 m c t.val t.isLt).1 = k0_pay3 (iblk m c 0 t) (iblk m c 1 t) := by
  by_cases h : t.val % 8 = 0
  · rw [outsAt0_A m c t h (by omega)]; frame_out
  · rw [outsAt0_B m c t h (by omega)]; frame_out

theorem final3 (c : Dev nD) : (dats m 0 c).arrAt 3 (cfgs 0).N = KV (V m c main_arg1) (V m c main_arg2) := by
  refine (dats m 0 c).arrAt_eq_of_covers 3 _ (by decide +kernel) fun t _ y => ?_
  blk_simp
  rw [after0_3, left3]
  refine Eq.trans ?_ (KV_at _ _ t _ (y 0) (y 1) (by blk_simp [idx t]) (by blk_simp [idx t])).symm
  refine (pay3_at _ _ y).trans ?_
  unfold kv
  by_cases h : (y 1).val < 128
  · rw [dif_pos h, dif_pos h]; exact read0 m c t _ _
  · rw [dif_neg h, dif_neg h]; exact read1 m c t _ _

theorem final4 (c : Dev nD) : (dats m 0 c).arrAt 4 (cfgs 0).N = KR (V m c main_arg1) (V m c main_v16) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) _
    (fun t h j => by rw [outsAt0_A m c t h (by omega)]; frame_out; rw [zero_add]) (fun t h j => by rw [outsAt0_B m c t h (by omega)]; frame_out; rw [pay4_at])
    t ((flush0_4 t).mp hf) _, zero_add]
  refine Eq.trans ?_ (KR_at _ _ t _ (y 0) (y 1) (by blk_simp [idx t]) (by blk_simp [idx t])).symm
  refine Fin.sum_fin_congr fun s => ?_
  refine (pay2_at _ _ (y 0) (y 1)).trans ?_
  have e : 8 * (t.val / 8) + s.val < 256 := by have := t.isLt; change t.val < 256 at this; omega
  refine congrArg₂ (· * ·) ((read0 m c ⟨_, e⟩ _ _).trans ?_) ((read2 m c ⟨_, e⟩ _ _).trans ?_)
  · simp only [show (8 * (t.val / 8) + s.val) % 8 = s.val by omega, show (8 * (t.val / 8) + s.val) / 8 = t.val / 8 by omega]
  · simp only [show (8 * (t.val / 8) + s.val) / 8 = t.val / 8 by omega]

end Cert.RopeKVIdeal.Value
-- ==== Proof.RopeKVTail.lean ====
module

public import proofs.«01_k».proof.Proof.RopeKVArr

/-! The keys' rotary gradient: the kernel's table, and its results from its arrays. -/

@[expose] public section
set_option maxRecDepth 16384
noncomputable section
namespace Cert.RopeKVIdeal.Value
open Idealize.ShloMosaic Idealize.ShloMosaic.TcCoe Idealize.SL.Sem
open Idealize.ShloMosaic.Pipeline (Dat)
open Cert.RopeKVIdeal Cert.RopeKVIdeal.Gen

variable (m : (ℓ : Loc nD τ sig) → Buf (Elt Ideal) ℓ)

/-- The cosines and sines of the angles. -/
def ANG (a0 : IVec S16384 32) : FVec Ideal S16384x32 .f32 :=
  mulf (broadcastInDim S16384x32 ![0, 1] bcast_S16384x1_S16384x32_0_1 (broadcastInDim S16384x1 ![0] bcast_S16384_S16384x1_0 (sitofp .f32 a0))) (broadcastInDim S16384x32 ![0, 1] bcast_S1x32_S16384x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))
def COS (a0 : IVec S16384 32) : FVec Ideal S16384x32 .f32 := Host.cos (ANG a0)
def SIN (a0 : IVec S16384 32) : FVec Ideal S16384x32 .f32 := Host.sin (ANG a0)

theorem table (U : Valuation τ sig (Elt Ideal)) (t : Fin 16384) (e : Fin 128) :
    (StableHlo.after ((hostOps0 (F := Ideal)).drop 19) U (Proc.devRef .tc main_v16) : S16384x128.Idx → EReal) (ix2 t e)
      = if h₁ : e.val < 32 then (U (Proc.devRef .tc main_v13) : S16384x32.Idx → EReal) (ix2 t ⟨e.val, h₁⟩)
      else if h₂ : e.val - 32 < 32 then (U (Proc.devRef .tc main_v13) : S16384x32.Idx → EReal) (ix2 t ⟨e.val - 32, h₂⟩)
      else if h₃ : e.val - 32 - 32 < 32 then (U (Proc.devRef .tc main_v15) : S16384x32.Idx → EReal) (ix2 t ⟨e.val - 32 - 32, h₃⟩)
      else (U (Proc.devRef .tc main_v14) : S16384x32.Idx → EReal) (ix2 t ⟨e.val - 32 - 32 - 32, by omega⟩) := by
  simp only [List.drop_succ_cons, List.drop_zero]
  after_results
  pointwise!

theorem v16 (c : Dev nD) (t : Fin 16384) (e : Fin 128) : V m c main_v16 (ix2 t e) =
      if h₁ : e.val < 32 then COS (m ((c : Thread nD τ).loc main_arg0)) (ix2 t ⟨e.val, h₁⟩)
      else if h₂ : e.val - 32 < 32 then COS (m ((c : Thread nD τ).loc main_arg0)) (ix2 t ⟨e.val - 32, h₂⟩)
      else if h₃ : e.val - 32 - 32 < 32 then -SIN (m ((c : Thread nD τ).loc main_arg0)) (ix2 t ⟨e.val - 32 - 32, h₃⟩)
      else SIN (m ((c : Thread nD τ).loc main_arg0)) (ix2 t ⟨e.val - 32 - 32 - 32, by omega⟩) := by
  refine (table (StableHlo.after ((hostOps0 (F := Ideal)).take 19) (fun b => m (c, b))) t e).trans ?_
  split_ifs with h₁ h₂ h₃
  · simp only [List.take_succ_cons, List.take_zero]; after_results; rfl
  · simp only [List.take_succ_cons, List.take_zero]; after_results; rfl
  · simp only [List.take_succ_cons, List.take_zero]; after_results; rfl
  · simp only [List.take_succ_cons, List.take_zero]; after_results; rfl

/-- The second result, from the kernel's second array: its second half is added with its two quarters exchanged. -/
def GATHER (O : FVec Ideal S16384x128 .f32) (t : Fin 16384) (e : Fin 64) : EReal :=
  O (ix2 t ⟨e.val, by omega⟩) + if h₂ : e.val < 32 then O (ix2 t ⟨64 + (32 + e.val), by omega⟩) else O (ix2 t ⟨64 + (e.val - 32), by omega⟩)

theorem tail18 (c : Dev nD) : Pipeline.afterTail₀ cfgs (dats m) 0 (V0 m) [hostOps1] c main_v18
    = (KV (V m c main_arg1) (V m c main_arg2) : FVec Ideal S16384x2048 .f32) := by
  unfold Pipeline.afterTail₀
  show StableHlo.after hostOps1 _ (Proc.devRef .tc main_v18) = _
  after_results
  have h3 := Pipeline.withArrays_arr (cfgs 0).spec (by decide) c (V0 m c) (fun w => (dats m 0 c).arrAt w (cfgs 0).N) 3
  simp only [show Pipeline.arrRef (cfgs 0).spec 3 = main_v17_0 from rfl, final3] at h3
  rw [h3]
  rfl

theorem tail24 (c : Dev nD) (t : Fin 16384) (e : Fin 64) :
    (Pipeline.afterTail₀ cfgs (dats m) 0 (V0 m) [hostOps1] c main_v24 : S16384x64.Idx → EReal) (ix2 t e)
      = GATHER (KR (V m c main_arg1) (V m c main_v16)) t e := by
  refine (congrFun (show Pipeline.afterTail₀ cfgs (dats m) 0 (V0 m) [hostOps1] c main_v24 = StableHlo.after hostOps1 _ (Proc.devRef .tc main_v24) from rfl) (ix2 t e)).trans ?_
  after_results
  have h3 := Pipeline.withArrays_arr (cfgs 0).spec (by decide) c (V0 m c) (fun w => (dats m 0 c).arrAt w (cfgs 0).N) 4
  simp only [show Pipeline.arrRef (cfgs 0).spec 4 = main_v17_1 from rfl, final4] at h3
  rw [h3]
  generalize (KR (V m c main_arg1) (V m c main_v16)) = O
  pointwise [GATHER]

end Cert.RopeKVIdeal.Value
-- ==== Proof.RopeKVRef.lean ====
module

public import proofs.«01_k».proof.Proof.Gen.RopeKVRefIdeal.Run
public import proofs.«01_k».proof.Proof.Lits
public import proofs.«01_k».proof.Proof.Reals
public import Idealize.ShloMosaic.Lib.Pipeline.ValueKit
public import Idealize.ShloMosaic.Lib.Pointwise

/-! What the reference of the keys' rotary gradient computes, entry by entry. -/

@[expose] public section
set_option maxRecDepth 16384
noncomputable section
namespace Cert.RopeKVRefIdeal.Value
open Idealize.ShloMosaic Idealize.ShloMosaic.TcCoe Idealize.SL.Sem
open Cert.RopeKVRefIdeal Cert.RopeKVRefIdeal.Gen

variable (a0 : IVec S16384 32) (a1 : FVec Ideal S8x16384x256 .f32) (a2 : FVec Ideal S8x16384x128 .f32)

/-- The angles, a token's 32 in a row. -/
def ANG : FVec Ideal S16384x32 .f32 :=
  mulf (broadcastInDim S16384x32 ![0, 1] bcast_S16384x1_S16384x32_0_1 (broadcastInDim S16384x1 ![0] bcast_S16384_S16384x1_0 (sitofp .f32 a0))) (broadcastInDim S16384x32 ![0, 1] bcast_S1x32_S16384x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (mulf (sitofp .f32 (iotaInDim S32 32 0)) (broadcastInDim S32 ![] bcast_S_S32 (constant S_ .f32 0x3D000000#32)))))))
/-- Their cosines. -/
def COS : FVec Ideal S16384x32 .f32 := Host.cos (ANG a0)
/-- Their sines. -/
def SIN : FVec Ideal S16384x32 .f32 := Host.sin (ANG a0)
/-- The keys with a token's heads beside each other. -/
abbrev KT : FVec Ideal S16384x8x256 .f32 := transpose S16384x8x256 [1, 0, 2] a1 transposes_S8x16384x256_S16384x8x256_1_0_2
/-- The rotary parts summed over the heads. -/
def RS : FVec Ideal S16384x64 .f32 :=
  Host.reduceAdd (broadcastInDim S16384x1x64 ![0, 2] bcast_S16384x64_S16384x1x64_0_2 (Host.reduceAdd (extractStridedSlice S16384x8x64 ![0, 0, 128] (KT a1) slices_S16384x8x256_S16384x8x64_0_0_128) (constant S_ .f32 0x00000000#32) reducesTo_S16384x8x64_S16384x64_d1 h_S_)) (constant S_ .f32 0x00000000#32) reducesTo_S16384x1x64_S16384x64_d1 h_S_
def LO : FVec Ideal S16384x32 .f32 := extractStridedSlice S16384x32 ![0, 0] (RS a1) slices_S16384x64_S16384x32_0_0
def HI : FVec Ideal S16384x32 .f32 := extractStridedSlice S16384x32 ![0, 32] (RS a1) slices_S16384x64_S16384x32_0_32
/-- The gradient of the shared rotary key. -/
def DR : FVec Ideal S16384x64 .f32 :=
  addf (pad S16384x64 ![0, 32] ![0, 0] ![0, 0] (addf (mulf (HI a1) (COS a0)) (mulf (Host.negf (LO a1)) (SIN a0))) (constant S_ .f32 0x00000000#32) pads_S16384x32_S16384x64_000_3200 h_S_) (pad S16384x64 ![0, 0] ![0, 32] ![0, 0] (addf (mulf (HI a1) (SIN a0)) (mulf (LO a1) (COS a0))) (constant S_ .f32 0x00000000#32) pads_S16384x32_S16384x64_000_0320 h_S_)
/-- The gradient of the keys' plain parts and the values. -/
def DKV : FVec Ideal S16384x2048 .f32 :=
  shapeCast _ (addf (pad S16384x8x256 ![0, 0, 128] ![0, 0, 0] ![0, 0, 0] (transpose S16384x8x128 [1, 0, 2] a2 transposes_S8x16384x128_S16384x8x128_1_0_2) (constant S_ .f32 0x00000000#32) pads_S16384x8x128_S16384x8x256_000_000_12800 h_S_) (pad S16384x8x256 ![0, 0, 0] ![0, 0, 128] ![0, 0, 0] (extractStridedSlice S16384x8x128 ![0, 0, 0] (KT a1) slices_S16384x8x256_S16384x8x128_0_0_0) (constant S_ .f32 0x00000000#32) pads_S16384x8x128_S16384x8x256_000_000_01280 h_S_)) shapeCasts_S16384x8x256_S16384x2048

variable (t : Fin 16384)

theorem RS_at (e : Fin 64) : RS a1 (ix2 t e) = ∑ h : Fin 8, a1 (ix3 h t ⟨128 + e.val, by omega⟩) := by
  pointwise [RS]
  simp only [Fin.sum_univ_one]

theorem DR_lo (k : Fin 32) : DR a0 a1 (ix2 t ⟨k.val, by omega⟩)
    = RS a1 (ix2 t ⟨32 + k.val, by omega⟩) * SIN a0 (ix2 t k) + RS a1 (ix2 t ⟨k.val, by omega⟩) * COS a0 (ix2 t k) := by
  pointwise [DR, LO, HI]
  rw [dif_neg (fun h => h.1)]
  exact zero_add (_ : EReal)

theorem DR_hi (k : Fin 32) : DR a0 a1 (ix2 t ⟨32 + k.val, by omega⟩)
    = RS a1 (ix2 t ⟨32 + k.val, by omega⟩) * COS a0 (ix2 t k) + -RS a1 (ix2 t ⟨k.val, by omega⟩) * SIN a0 (ix2 t k) := by
  pointwise [DR, LO, HI]

/-- Of two pads at a place that one of them fills, the sum is that one. -/
theorem pick {p q r : Prop} [Decidable p] [Decidable q] [Decidable r] {f : p → EReal} {g : q → EReal} {u : r → EReal} {v : ¬ r → EReal}
    (hq : q ↔ r) (hp : p ↔ ¬ r) (hg : ∀ h, g (hq.2 h) = u h) (hf : ∀ h, f (hp.2 h) = v h) :
    ((if h : p then f h else 0) + (if h : q then g h else 0)) = if h : r then u h else v h := by
  by_cases h : r
  · rw [dif_neg (fun hh => hp.1 hh h), dif_pos (hq.2 h), dif_pos h, zero_add, hg]
  · rw [dif_pos (hp.2 h), dif_neg (fun hh => h (hq.1 hh)), dif_neg h, add_zero, hf]

theorem DKV_at (x : Fin 2048) : DKV a1 a2 (ix2 t x) = if h₁ : x.val % 256 < 128 then a1 (ix3 ⟨x.val / 256, by omega⟩ t ⟨x.val % 256, by omega⟩)
    else a2 (ix3 ⟨x.val / 256, by omega⟩ t ⟨x.val % 256 - 128, by omega⟩) := by
  pointwise [DKV]
  have := x.isLt
  exact pick (by omega) (by omega) (fun _ => rfl) (fun _ => rfl)

theorem theta : ∃ r : ℝ, 0 < r ∧ Ideal.ofBits .f32 0x461C4000#32 = (r : EReal) :=
  ⟨10000, by norm_num, by simp [Ideal.ofBits, Ideal.ieee, -EReal.coe_mul]; norm_num⟩
theorem step : ∃ r : ℝ, Ideal.ofBits .f32 0x3D000000#32 = (r : EReal) :=
  ⟨1 / 32, by simp [Ideal.ofBits, Ideal.ieee, -EReal.coe_mul]; norm_num⟩

/-- The angles are real. -/
theorem ang_real (k : Fin 32) : ∃ r : ℝ, ANG a0 (ix2 t k) = (r : EReal) := by
  obtain ⟨θ, hθ, eθ⟩ := theta
  obtain ⟨s, es⟩ := step
  pointwise [ANG]
  rw [eθ, es]
  show ∃ r : ℝ, (((a0 (ix1 t)).toInt : ℝ) : EReal) * Ideal.div 1 (Ideal.pow (θ : EReal) ((((BitVec.ofNat 32 k.val).toInt : ℝ) : EReal) * (s : EReal))) = (r : EReal)
  rw [← EReal.coe_mul, Ideal.pow_coe_coe, ← EReal.coe_one, Cert.Reals.div_coe _ (θ.rpow _) (Real.rpow_pos_of_pos hθ _).ne', ← EReal.coe_mul]
  exact ⟨_, rfl⟩

theorem cos_real (k : Fin 32) : ∃ r : ℝ, COS a0 (ix2 t k) = (r : EReal) := by
  obtain ⟨r, hr⟩ := ang_real a0 t k
  exact ⟨Real.cos r, by show Ideal.cos (ANG a0 (ix2 t k)) = _; rw [hr]; rfl⟩
theorem sin_real (k : Fin 32) : ∃ r : ℝ, SIN a0 (ix2 t k) = (r : EReal) := by
  obtain ⟨r, hr⟩ := ang_real a0 t k
  exact ⟨Real.sin r, by show Ideal.sin (ANG a0 (ix2 t k)) = _; rw [hr]; rfl⟩

end Cert.RopeKVRefIdeal.Value
-- ==== Proof.RopeKVValue.lean ====
module

public import proofs.«01_k».proof.Defs
public import proofs.«01_k».proof.Proof.RopeKVTail
public import proofs.«01_k».proof.Proof.RopeKVRef
public import proofs.«01_k».proof.Proof.Finite
public import proofs.«01_k».proof.Proof.Gen.Pre_ropekv_finite

/-! The keys' rotary gradient: the kernel computes what the reference computes. -/

@[expose] public section
set_option maxRecDepth 16384
noncomputable section
namespace Cert.RopeKVIdeal.Value
open Idealize.ShloMosaic Idealize.ShloMosaic.TcCoe Idealize.SL.Sem
open Idealize.ShloMosaic.Pipeline (Dat)
open Cert.RopeKVIdeal Cert.RopeKVIdeal.Gen

/-- A real factor leaves a sum of reals. -/
theorem sum_mul_real (f : Fin 8 → EReal) (x : EReal) (hf : ∀ h, ∃ r : ℝ, f h = (r : EReal)) (hx : ∃ r : ℝ, x = (r : EReal)) :
    ∑ h, f h * x = (∑ h, f h) * x := by
  obtain ⟨r, rfl⟩ := hx
  choose g hg using hf
  simp only [hg, ← EReal.coe_mul, Cert.Reals.sum_coe, Finset.sum_mul]

section turned
variable (K : FVec Ideal S8x16384x256 .f32) (C : FVec Ideal S16384x128 .f32) (cs sn : FVec Ideal S16384x32 .f32)
  (hK : ∀ i, ∃ r : ℝ, K i = (r : EReal))
  (hcs : ∀ t k, ∃ r : ℝ, cs (ix2 t k) = (r : EReal)) (hsn : ∀ t k, ∃ r : ℝ, sn (ix2 t k) = (r : EReal))
  (hC : ∀ t (e : Fin 128), C (ix2 t e) = if h₁ : e.val < 32 then cs (ix2 t ⟨e.val, h₁⟩)
      else if h₂ : e.val - 32 < 32 then cs (ix2 t ⟨e.val - 32, h₂⟩)
      else if h₃ : e.val - 32 - 32 < 32 then -sn (ix2 t ⟨e.val - 32 - 32, h₃⟩)
      else sn (ix2 t ⟨e.val - 32 - 32 - 32, by omega⟩))
  (t : Fin 16384)

/-- The rotary parts' sum. -/
abbrev sumK (K : FVec Ideal S8x16384x256 .f32) (t : Fin 16384) (e : Fin 64) : EReal := ∑ h : Fin 8, K (ix3 h t ⟨128 + e.val, by omega⟩)

include hK hcs hC in
theorem turned_lo (d : Fin 64) : KR K C (ix2 t ⟨d.val, by omega⟩) = sumK K t d * cs (ix2 t ⟨d.val % 32, by omega⟩) := by
  have hd := d.isLt
  have hc : C (ix2 t ⟨d.val, by omega⟩) = cs (ix2 t ⟨d.val % 32, by omega⟩) := by
    rw [hC]
    by_cases h : d.val < 32
    · rw [dif_pos h]; simp only [Nat.mod_eq_of_lt h]
    · rw [dif_neg h, dif_pos (by show d.val - 32 < 32; omega)]
      simp only [show d.val % 32 = d.val - 32 by omega]
  rw [← sum_mul_real _ _ (fun h => hK _) (hcs _ _)]
  show ∑ h : Fin 8, K (ix3 h t ⟨128 + d.val % 64, _⟩) * C (ix2 t ⟨d.val, _⟩) = _
  simp only [hc, Nat.mod_eq_of_lt hd]

include hK hsn hC in
theorem turned_hi (d : Fin 64) : KR K C (ix2 t ⟨64 + d.val, by omega⟩)
    = sumK K t d * (if d.val < 32 then -sn (ix2 t ⟨d.val % 32, by omega⟩) else sn (ix2 t ⟨d.val % 32, by omega⟩)) := by
  have hd := d.isLt
  have hc : C (ix2 t ⟨64 + d.val, by omega⟩) = (if d.val < 32 then -sn (ix2 t ⟨d.val % 32, by omega⟩) else sn (ix2 t ⟨d.val % 32, by omega⟩)) := by
    rw [hC, dif_neg (by show ¬ 64 + d.val < 32; omega), dif_neg (by show ¬ 64 + d.val - 32 < 32; omega)]
    by_cases h : d.val < 32
    · rw [dif_pos (by show 64 + d.val - 32 - 32 < 32; omega), if_pos h]
      simp only [show 64 + d.val - 32 - 32 = d.val % 32 by omega]
    · rw [dif_neg (by show ¬ 64 + d.val - 32 - 32 < 32; omega), if_neg h]
      simp only [show 64 + d.val - 32 - 32 - 32 = d.val % 32 by omega]
  rw [← sum_mul_real _ _ (fun h => hK _) (by
    by_cases h : d.val < 32
    · rw [if_pos h]; obtain ⟨r, hr⟩ := hsn t ⟨d.val % 32, by omega⟩; exact ⟨-r, by rw [hr, EReal.coe_neg]⟩
    · rw [if_neg h]; exact hsn _ _)]
  show ∑ h : Fin 8, K (ix3 h t ⟨128 + (64 + d.val) % 64, _⟩) * C (ix2 t ⟨64 + d.val, _⟩) = _
  simp only [hc, show (64 + d.val) % 64 = d.val by omega]

include hK hcs hsn hC in
theorem gather_lo (k : Fin 32) : GATHER (KR K C) t ⟨k.val, by omega⟩
    = sumK K t ⟨32 + k.val, by omega⟩ * sn (ix2 t k) + sumK K t ⟨k.val, by omega⟩ * cs (ix2 t k) := by
  have hk := k.isLt
  have e1 := turned_lo K C cs sn hK hcs hC t ⟨k.val, by omega⟩
  have e2 := turned_hi K C cs sn hK hsn hC t ⟨32 + k.val, by omega⟩
  rw [if_neg (by show ¬ 32 + k.val < 32; omega)] at e2
  simp only [Nat.mod_eq_of_lt hk, show (32 + k.val) % 32 = k.val by omega] at e1 e2
  unfold GATHER
  rw [dif_pos hk, e1, e2, add_comm]

include hK hcs hsn hC in
theorem gather_hi (k : Fin 32) : GATHER (KR K C) t ⟨32 + k.val, by omega⟩
    = sumK K t ⟨32 + k.val, by omega⟩ * cs (ix2 t k) + -sumK K t ⟨k.val, by omega⟩ * sn (ix2 t k) := by
  have hk := k.isLt
  have e1 := turned_lo K C cs sn hK hcs hC t ⟨32 + k.val, by omega⟩
  have e2 := turned_hi K C cs sn hK hsn hC t ⟨k.val, by omega⟩
  rw [if_pos (by show k.val < 32; omega)] at e2
  simp only [Nat.mod_eq_of_lt hk, show (32 + k.val) % 32 = k.val by omega] at e1 e2
  unfold GATHER
  rw [dif_neg (by show ¬ 32 + k.val < 32; omega), e1]
  simp only [Nat.add_sub_cancel_left]
  rw [e2, mul_comm _ (-_ : EReal), EReal.neg_mul, EReal.neg_mul, mul_comm (sn _)]

end turned

theorem eq_at (m : (ℓ : Loc nD τ sig) → Buf (Elt Ideal) ℓ) (c : Dev nD)
    (hK : ∀ i, ∃ r : ℝ, (m ((c : Thread nD τ).loc main_arg1) : S8x16384x256.Idx → EReal) i = (r : EReal)) (t : Fin 16384) (e : Fin 64) :
    GATHER (KR (V m c main_arg1) (V m c main_v16)) t e
      = Cert.RopeKVRefIdeal.Value.DR (m ((c : Thread nD τ).loc main_arg0)) (m ((c : Thread nD τ).loc main_arg1)) (ix2 t e) := by
  have hC := v16 m c
  have hcs := Cert.RopeKVRefIdeal.Value.cos_real (m ((c : Thread nD τ).loc main_arg0))
  have hsn := Cert.RopeKVRefIdeal.Value.sin_real (m ((c : Thread nD τ).loc main_arg0))
  rw [V_main_arg1]
  rcases Nat.lt_or_ge e.val 32 with h₂ | h₂
  · obtain ⟨k, hk⟩ : ∃ k : Fin 32, e = ⟨k.val, by omega⟩ := ⟨⟨e.val, h₂⟩, rfl⟩
    rw [hk]
    refine (gather_lo _ _ _ _ hK hcs hsn hC t k).trans ?_
    rw [Cert.RopeKVRefIdeal.Value.DR_lo, Cert.RopeKVRefIdeal.Value.RS_at, Cert.RopeKVRefIdeal.Value.RS_at]
  · obtain ⟨k, hk⟩ : ∃ k : Fin 32, e = ⟨32 + k.val, by omega⟩ := ⟨⟨e.val - 32, by omega⟩, Fin.ext (by show e.val = 32 + (e.val - 32); omega)⟩
    rw [hk]
    refine (gather_hi _ _ _ _ hK hcs hsn hC t k).trans ?_
    rw [Cert.RopeKVRefIdeal.Value.DR_hi, Cert.RopeKVRefIdeal.Value.RS_at, Cert.RopeKVRefIdeal.Value.RS_at]

theorem algebraic : Cert.algebraic_RopeKVIdeal_RopeKVRefIdeal_pre_ropekv_finite (hRopeKVIdeal := Cert.RopeKVIdeal.Gen.facts)
    (hRopeKVRefIdeal := Cert.RopeKVRefIdeal.Gen.facts) (hPre_ropekv_finite := Cert.Pre_ropekv_finite.Gen.facts) := by
  intro m g m' g' hpre hargs
  refine ⟨fun c => Pipeline.afterTail₀ cfgs (dats m) 0 (V0 m) [hostOps1] c main_v18, fun c => Pipeline.afterTail₀ cfgs (dats m) 0 (V0 m) [hostOps1] c main_v24, ?_, ?_⟩
  · run_from Cert.RopeKVIdeal.Gen.run_main m g
    · exact W_main_arg0 m (dats m) c
  · refine (θ_run _ _ _).mono (fun r h c => ?_) (Cert.RopeKVRefIdeal.Value.run m' g')
    obtain ⟨h0, h1, hm⟩ := h c
    obtain ⟨e0, e1, e2⟩ := hargs c
    have p1 := hpre c
    refine ⟨h0.trans ?_, h1.trans ?_, hm⟩
    · refine Eq.trans ?_ (tail18 m c).symm
      trans Cert.RopeKVRefIdeal.Value.DKV (m ((c : Thread nD τ).loc main_arg1)) (m ((c : Thread nD τ).loc main_arg2))
      · rw [e1, e2]; rfl
      · funext j
        idx_vars j
        rw [V_main_arg1, V_main_arg2]
        exact Cert.RopeKVRefIdeal.Value.DKV_at _ _ j0 j1
    · trans Cert.RopeKVRefIdeal.Value.DR (m ((c : Thread nD τ).loc main_arg0)) (m ((c : Thread nD τ).loc main_arg1))
      · unfold Cert.RopeKVRefIdeal.Value.res_main_v53; rw [e0, e1]; rfl
      · funext j
        idx_vars j
        exact ((tail24 m c _ _).trans (eq_at m c (fun i => ⟨_, Cert.Finite.real_of _ p1 i⟩) _ _)).symm

theorem frame_ref : Cert.quiescent_RopeKVRefIdeal (hRopeKVRefIdeal := Cert.RopeKVRefIdeal.Gen.facts) := by
  intro m ρ _
  set_option maxHeartbeats 1600000 in
  hlo_run
  · exact fun _ => ⟨trivial, trivial, trivial⟩
  · exact sem_eq_zero_of_no_sems (by decide) _

end Cert.RopeKVIdeal.Value
-- ==== Proof.HgDogHead.lean ====
module

public import proofs.«01_k».proof.Proof.Gen.HgDogIdeal.Frame
public import proofs.«01_k».proof.Proof.GateMath
public import proofs.«01_k».proof.Proof.RmsMath
public import Idealize.ShloMosaic.Lib.Pipeline.ValueKit
public import Idealize.ShloMosaic.Lib.Pointwise

/-! The gradient of the gated head norm: one head of one block, as operations on the block's arrays and entry by entry. -/

@[expose] public section
set_option maxRecDepth 16384
noncomputable section
namespace Cert.HgDogIdeal.Value
open Idealize.ShloMosaic Idealize.ShloMosaic.TcCoe Idealize.SL.Sem
open Idealize.ShloMosaic.Pipeline (Dat)
open Cert.HgDogIdeal Cert.HgDogIdeal.Gen Cert.Gate Cert.Rms

/-- The length of a head. -/
abbrev lh : EReal := Ideal.ofBits .f32 0x43000000#32

theorem sl : ∀ k : Fin 8, S512x1024.Slices ![0, k.val * 128] S512x128 := by decide +kernel

/-- Head `k` of a block's rows. -/
def hB (A : FVec Ideal S512x1024 .f32) (k : Fin 8) : FVec Ideal S512x128 .f32 := extractStridedSlice S512x128 ![0, k.val * 128] A (sl k)
/-- The number `x` everywhere. -/
def cB (b : BitVec 32) : FVec Ideal S512x128 .f32 := broadcast S512x128 (Scalar.ofBits .f32 b)
/-- The logistic function. -/
def sB (g : FVec Ideal S512x128 .f32) : FVec Ideal S512x128 .f32 := divf (cB 0x3F800000#32) (addf (cB 0x3F800000#32) (exp (subf (cB 0x00000000#32) g)))
/-- A row's sum, divided by the head's length. -/
def mB (x : FVec Ideal S512x128 .f32) : FVec Ideal S512x1 .f32 :=
  divf (shapeCast S512x1 (multiReduction .add [1] S512 x 0x00000000#32 reduces_S512x128_S512 (.inl rfl) rfl) shapeCasts_S512_S512x1)
    (broadcast S512x1 (Scalar.ofBits .f32 0x43000000#32))
/-- The reciprocal deviations. -/
def rB (x : FVec Ideal S512x128 .f32) : FVec Ideal S512x1 .f32 :=
  rsqrt (addf (mB (mulf x x)) (broadcast S512x1 (Scalar.ofBits .f32 0x358637BD#32)))
/-- A column beside itself. -/
def wB (r : FVec Ideal S512x1 .f32) : FVec Ideal S512x128 .f32 := broadcastTo S512x128 r broadcasts_S512x1_S512x128
/-- The norm's weights on every row. -/
def nB (w : FVec Ideal S1x128 .f32) : FVec Ideal S512x128 .f32 := broadcastTo S512x128 (shapeCast S1x128 w shapeCasts_S1x128_S1x128) broadcasts_S1x128_S512x128
/-- The gradient of the norm's result. -/
def yB (d g : FVec Ideal S512x128 .f32) : FVec Ideal S512x128 .f32 := mulf d (mulf g (sB g))
/-- The gradient of the gate. -/
def gB (d g x : FVec Ideal S512x128 .f32) (w : FVec Ideal S1x128 .f32) : FVec Ideal S512x128 .f32 :=
  mulf (mulf d (mulf (mulf x (wB (rB x))) (nB w))) (mulf (sB g) (addf (cB 0x3F800000#32) (mulf g (subf (cB 0x3F800000#32) (sB g)))))
/-- The gradient of the rows. -/
def xB (d g x : FVec Ideal S512x128 .f32) (w : FVec Ideal S1x128 .f32) : FVec Ideal S512x128 .f32 :=
  subf (mulf (wB (rB x)) (mulf (yB d g) (nB w))) (mulf (mulf x (wB (mulf (mulf (rB x) (rB x)) (rB x)))) (wB (mB (mulf (mulf (yB d g) (nB w)) x))))
/-- The block's sums for the norm's weights. -/
def tB (d g x : FVec Ideal S512x128 .f32) : FVec Ideal S1x128 .f32 :=
  shapeCast S1x128 (multiReduction .add [0] S128 (mulf (mulf (yB d g) x) (wB (rB x))) 0x00000000#32 reduces_S512x128_S128 (.inl rfl) rfl) shapeCasts_S128_S1x128

section
variable (A : FVec Ideal S512x1024 .f32) (k : Fin 8) (d g x : FVec Ideal S512x128 .f32) (w : FVec Ideal S1x128 .f32) (r : Fin 512) (j : Fin 128)

theorem hB_at : hB A k (ix2 r j) = A (ix2 r ⟨k.val * 128 + j.val, by omega⟩) := by pointwise [hB]
theorem sB_at : sB g (ix2 r j) = sgm (g (ix2 r j)) := by pointwise [sB, cB, sgm]
theorem yB_at : yB d g (ix2 r j) = d (ix2 r j) * (g (ix2 r j) * sgm (g (ix2 r j))) := by pointwise [yB, sB_at]
theorem mB_at : mB x (ix2 r 0) = Ideal.div (∑ j, x (ix2 r j)) lh := by pointwise [mB]
theorem rB_at : rB x (ix2 r 0) = rs lh (fun j => x (ix2 r j)) := by
  pointwise [rB, rs, ve]
  rw [mB_at]
  pointwise
theorem nB_at : nB w (ix2 r j) = w (ix2 0 j) := by pointwise [nB]
theorem wB_at (c : FVec Ideal S512x1 .f32) : wB c (ix2 r j) = c (ix2 r 0) := by pointwise [wB]
theorem gB_at : gB d g x w (ix2 r j) = d (ix2 r j) * (x (ix2 r j) * rs lh (fun j => x (ix2 r j)) * w (ix2 0 j))
    * (sgm (g (ix2 r j)) * (1 + g (ix2 r j) * (1 - sgm (g (ix2 r j))))) := by
  pointwise [gB, cB, sB_at, wB_at, nB_at, rB_at]
theorem xB_at : xB d g x w (ix2 r j)
    = dxK lh (fun j => d (ix2 r j) * (g (ix2 r j) * sgm (g (ix2 r j))) * w (ix2 0 j)) (fun j => x (ix2 r j)) j := by
  pointwise [xB, dxK, wB_at, nB_at, rB_at, mB_at, yB_at]
theorem tB_at : tB d g x (ix2 0 j)
    = ∑ r : Fin 512, d (ix2 r j) * (g (ix2 r j) * sgm (g (ix2 r j))) * x (ix2 r j) * rs lh (fun j => x (ix2 r j)) := by
  pointwise [tB, wB_at, rB_at, yB_at]
end

/-- The head and the entry of a lane. -/
theorem pick (g : Fin 8 → Fin 128 → EReal) (e : Fin 1024) (k : Fin 8) (x : ℕ) (hx : x < 128) (h : e.val = k.val * 128 + x) :
    g k ⟨x, hx⟩ = g ⟨e.val / 128, by omega⟩ ⟨e.val % 128, by omega⟩ :=
  congrArg₂ g (Fin.ext (by show k.val = e.val / 128; omega)) (Fin.ext (by show x = e.val % 128; omega))

/-- Eight arrays side by side. -/
theorem cat8 (f : Fin 8 → FVec Ideal S512x128 .f32) (r : Fin 512) (e : Fin 1024) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
      concatenates_S512x128_S512x128_S512x128_S512x128_S512x128_S512x128_S512x128_S512x128_S512x1024_d1 (ix2 r e)
    = f ⟨e.val / 128, by omega⟩ (ix2 r ⟨e.val % 128, by omega⟩) := by
  pointwise
  split_ifs <;> first
    | exact pick (fun k x => f k (ix2 r x)) e 0 _ _ (by show e.val = 0 * 128 + _; omega)
    | exact pick (fun k x => f k (ix2 r x)) e 1 _ _ (by show e.val = 1 * 128 + _; omega)
    | exact pick (fun k x => f k (ix2 r x)) e 2 _ _ (by show e.val = 2 * 128 + _; omega)
    | exact pick (fun k x => f k (ix2 r x)) e 3 _ _ (by show e.val = 3 * 128 + _; omega)
    | exact pick (fun k x => f k (ix2 r x)) e 4 _ _ (by show e.val = 4 * 128 + _; omega)
    | exact pick (fun k x => f k (ix2 r x)) e 5 _ _ (by show e.val = 5 * 128 + _; omega)
    | exact pick (fun k x => f k (ix2 r x)) e 6 _ _ (by show e.val = 6 * 128 + _; omega)
    | exact pick (fun k x => f k (ix2 r x)) e 7 _ _ (by show e.val = 7 * 128 + _; omega)

/-- Eight rows side by side, on eight rows. -/
theorem row8 (f : Fin 8 → FVec Ideal S1x128 .f32) (r : Fin 8) (e : Fin 1024) :
    broadcastTo S8x1024 (shapeCast S1x1024 (concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
      concatenates_S1x128_S1x128_S1x128_S1x128_S1x128_S1x128_S1x128_S1x128_S1x1024_d1) shapeCasts_S1x1024_S1x1024) broadcasts_S1x1024_S8x1024 (ix2 r e)
    = f ⟨e.val / 128, by omega⟩ (ix2 0 ⟨e.val % 128, by omega⟩) := by
  pointwise
  split_ifs <;> first
    | exact pick (fun k x => f k (ix2 0 x)) e 0 _ _ (by show e.val = 0 * 128 + _; omega)
    | exact pick (fun k x => f k (ix2 0 x)) e 1 _ _ (by show e.val = 1 * 128 + _; omega)
    | exact pick (fun k x => f k (ix2 0 x)) e 2 _ _ (by show e.val = 2 * 128 + _; omega)
    | exact pick (fun k x => f k (ix2 0 x)) e 3 _ _ (by show e.val = 3 * 128 + _; omega)
    | exact pick (fun k x => f k (ix2 0 x)) e 4 _ _ (by show e.val = 4 * 128 + _; omega)
    | exact pick (fun k x => f k (ix2 0 x)) e 5 _ _ (by show e.val = 5 * 128 + _; omega)
    | exact pick (fun k x => f k (ix2 0 x)) e 6 _ _ (by show e.val = 6 * 128 + _; omega)
    | exact pick (fun k x => f k (ix2 0 x)) e 7 _ _ (by show e.val = 7 * 128 + _; omega)

end Cert.HgDogIdeal.Value
-- ==== Proof.HgDogArr.lean ====
module

public import proofs.«01_k».proof.Proof.HgDogHead
public import Idealize.ShloMosaic.Lib.Claim

/-! The gradient of the gated head norm: what the kernel's three arrays hold. -/

@[expose] public section
set_option maxRecDepth 16384
noncomputable section
namespace Cert.HgDogIdeal.Value
open Idealize.ShloMosaic Idealize.ShloMosaic.TcCoe Idealize.SL.Sem
open Idealize.ShloMosaic.Pipeline (Dat)
open Cert.HgDogIdeal Cert.HgDogIdeal.Gen Cert.Gate Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 4] ∧ win0_5.index t = ![0, 0] ∧ win0_6.index t = ![t.val, 0]
    ∧ win0_7.index t = ![t.val, 0] ∧ win0_8.index t = ![t.val, 0] :=
  (by decide +kernel : ∀ t : Fin grid0.N, _)

/-- A row of a block. -/
abbrev row (t : Fin 32) (a : Fin 512) : Fin 16384 := ⟨t.val * 512 + a.val, by omega⟩
/-- A lane of a head. -/
abbrev lane (k : Fin 8) (j : Fin 128) : Fin 1024 := ⟨k.val * 128 + j.val, by omega⟩

section
variable (O P : FVec Ideal S16384x1024 .f32) (G : FVec Ideal S16384x5120 .f32) (N : FVec Ideal S1x128 .f32) (W : FVec Ideal S1024x1024 .f32) (D : FVec Ideal S16384x1024 .f32)
variable (r : Fin 16384) (k : Fin 8) (j : Fin 128)
/-- The product of row `r` of the cotangent with row `e` of the weights. -/
def prod (e : Fin 1024) : EReal := ∑ q : Fin 1024, D (ix2 r q) * W (ix2 e q)
/-- The gate of a lane. -/
abbrev gt (e : Fin 1024) : EReal := G (ix2 r ⟨4096 + e.val, by omega⟩)
/-- The two directions' sum. -/
abbrev o : EReal := O (ix2 r (lane k j)) + P (ix2 r (lane k j))
/-- The gradient of the norm's result. -/
def dy : EReal := prod W D r (lane k j) * (gt G r (lane k j) * sgm (gt G r (lane k j)))
/-- The gradient of the sum. -/
def dO : EReal := dxK lh (fun j => dy G W D r k j * N (ix2 0 j)) (o O P r k) j
/-- The gradient of the gate. -/
def dG : EReal := prod W D r (lane k j) * (o O P r k j * rs lh (o O P r k) * N (ix2 0 j))
  * (sgm (gt G r (lane k j)) * (1 + gt G r (lane k j) * (1 - sgm (gt G r (lane k j)))))
/-- A block's sum for the norm's weights. -/
def part (t : Fin 32) : EReal := ∑ a : Fin 512, dy G W D (row t a) k j * o O P (row t a) k j * rs lh (o O P (row t a) k)
end

/-- The head of a lane, and its entry in the head. -/
abbrev hd (e : Fin 1024) : Fin 8 := ⟨e.val / 128, by omega⟩
abbrev en (e : Fin 1024) : Fin 128 := ⟨e.val % 128, by omega⟩

/-- An array from its entries, head by head. -/
abbrev ARR (f : Fin 16384 → Fin 8 → Fin 128 → EReal) : FVec Ideal S16384x1024 .f32 := fun i => f (i 0) (hd (i 1)) (en (i 1))
/-- A block's sums, each on the eight rows of its tile. -/
abbrev TILE (f : Fin 32 → Fin 8 → Fin 128 → EReal) : FVec Ideal S256x1024 .f32 :=
  fun i => f ⟨(i 0).val / 8, by have := (i 0).isLt; change (i 0).val < 256 at this; omega⟩ (hd (i 1)) (en (i 1))

theorem ARR_at (f : Fin 16384 → Fin 8 → Fin 128 → EReal) (i : S16384x1024.Idx) (r : Fin 16384) (e : Fin 1024) (h0 : (i 0).val = r.val) (h1 : (i 1).val = e.val) :
    ARR f i = f r (hd e) (en e) := by
  rw [show i = ix2 r e from funext fun | ⟨0, _⟩ => Fin.ext h0 | ⟨1, _⟩ => Fin.ext h1]
  rfl
theorem TILE_at (f : Fin 32 → Fin 8 → Fin 128 → EReal) (i : S256x1024.Idx) (t : Fin 32) (b : Fin 8) (e : Fin 1024) (h0 : (i 0).val = t.val * 8 + b.val)
    (h1 : (i 1).val = e.val) : TILE f i = f t (hd e) (en e) := by
  have he : i 1 = e := Fin.ext h1
  show f ⟨(i 0).val / 8, _⟩ (hd (i 1)) (en (i 1)) = _
  rw [he, show (⟨(i 0).val / 8, by have := (i 0).isLt; change (i 0).val < 256 at this; omega⟩ : Fin 32) = t from Fin.ext (by show (i 0).val / 8 = _; omega)]

/-- The block's product. -/
abbrev dB (c : Dev nD) (t : Fin cfg0.N) : FVec Ideal S512x1024 .f32 :=
  k0_pay3 (F := Ideal) (k0_pay2 (F := Ideal) (iblk m c 0 t) (iblk m c 1 t) (k0_pay1 (F := Ideal)))

theorem acc_at (x : FVec Ideal S512x1024 .f32) (w : FVec Ideal S1024x1024 .f32) (r : Fin 512) (e : Fin 1024) :
    k0_pay3 (F := Ideal) (k0_pay2 (F := Ideal) x w (k0_pay1 (F := Ideal))) (ix2 r e) = ∑ q : Fin 1024, x (ix2 r q) * w (ix2 e q) := by
  pointwise [k0_pay1, k0_pay2, k0_pay3]

theorem dB_at (c : Dev nD) (t : Fin cfg0.N) (r : Fin 512) (e : Fin 1024) :
    dB m c t (ix2 r e) = prod (V m c main_arg4) (V m c main_arg5) (row t r) e := by
  unfold dB
  rw [acc_at]
  unfold prod iblk
  generalize V m c = U
  refine Finset.sum_congr rfl fun q _ => congrArg₂ (· * ·) ?_ ?_
  · blk_ext [idx t]
  · blk_ext [idx t]
theorem read2 (c : Dev nD) (t : Fin cfg0.N) (r : Fin 512) (e : Fin 1024) : iblk m c 2 t (ix2 r e) = V m c main_arg0 (ix2 (row t r) e) := by
  unfold iblk
  generalize V m c = U
  blk_ext [idx t]
theorem read3 (c : Dev nD) (t : Fin cfg0.N) (r : Fin 512) (e : Fin 1024) : iblk m c 3 t (ix2 r e) = V m c main_arg1 (ix2 (row t r) e) := by
  unfold iblk
  generalize V m c = U
  blk_ext [idx t]
theorem read4 (c : Dev nD) (t : Fin cfg0.N) (r : Fin 512) (e : Fin 1024) : iblk m c 4 t (ix2 r e) = gt (V m c main_arg2) (row t r) e := by
  unfold iblk
  generalize V m c = U
  blk_ext [idx t]
theorem read5 (c : Dev nD) (t : Fin cfg0.N) (j : Fin 128) : iblk m c 5 t (ix2 0 j) = V m c main_v0 (ix2 0 j) := by
  unfold iblk
  generalize V m c = U
  blk_ext [idx t]

/-- Head `k` of the product, of the gate and of the sum. -/
abbrev dH (c : Dev nD) (t : Fin cfg0.N) (k : Fin 8) : FVec Ideal S512x128 .f32 := hB (dB m c t) k
abbrev gH (c : Dev nD) (t : Fin cfg0.N) (k : Fin 8) : FVec Ideal S512x128 .f32 := hB (iblk m c 4 t) k
abbrev xH (c : Dev nD) (t : Fin cfg0.N) (k : Fin 8) : FVec Ideal S512x128 .f32 := addf (hB (iblk m c 2 t) k) (hB (iblk m c 3 t) k)

theorem dH_at (c : Dev nD) (t : Fin cfg0.N) (k : Fin 8) (r : Fin 512) (j : Fin 128) :
    dH m c t k (ix2 r j) = prod (V m c main_arg4) (V m c main_arg5) (row t r) (lane k j) := (hB_at _ _ _ _).trans (dB_at m c t r _)
theorem gH_at (c : Dev nD) (t : Fin cfg0.N) (k : Fin 8) (r : Fin 512) (j : Fin 128) :
    gH m c t k (ix2 r j) = gt (V m c main_arg2) (row t r) (lane k j) := (hB_at _ _ _ _).trans (read4 m c t r _)
theorem xH_at (c : Dev nD) (t : Fin cfg0.N) (k : Fin 8) (r : Fin 512) (j : Fin 128) :
    xH m c t k (ix2 r j) = o (V m c main_arg0) (V m c main_arg1) (row t r) k j :=
  congrArg₂ (· + ·) ((hB_at _ _ _ _).trans (read2 m c t r _)) ((hB_at _ _ _ _).trans (read3 m c t r _))

theorem final6 (c : Dev nD) : (dats m 0 c).arrAt 6 (cfgs 0).N
    = ARR (dO (V m c main_arg0) (V m c main_arg1) (V m c main_arg2) (V m c main_v0) (V m c main_arg4) (V m c main_arg5)) := by
  refine (dats m 0 c).arrAt_eq_of_covers 6 _ (by decide +kernel) fun t _ y => ?_
  blk_simp
  rw [after0_6]; unfold Gen.outsAt0; frame_out
  refine Eq.trans ?_ (ARR_at _ _ (row t (y 0)) (y 1) (by blk_simp [idx t]) (by blk_simp [idx t])).symm
  idx_vars y
  refine Eq.trans (show _ = _ from rfl) ((cat8 (fun k => xB (dH m c t k) (gH m c t k) (xH m c t k) (iblk m c 5 t)) y0 y1).trans ?_)
  refine (xB_at _ _ _ _ _ _).trans ?_
  simp only [dH_at, gH_at, xH_at, read5]
  rfl

theorem final7 (c : Dev nD) : (dats m 0 c).arrAt 7 (cfgs 0).N
    = ARR (dG (V m c main_arg0) (V m c main_arg1) (V m c main_arg2) (V m c main_v0) (V m c main_arg4) (V m c main_arg5)) := by
  refine (dats m 0 c).arrAt_eq_of_covers 7 _ (by decide +kernel) fun t _ y => ?_
  blk_simp
  rw [after0_7]; unfold Gen.outsAt0; frame_out
  refine Eq.trans ?_ (ARR_at _ _ (row t (y 0)) (y 1) (by blk_simp [idx t]) (by blk_simp [idx t])).symm
  idx_vars y
  refine Eq.trans (show _ = _ from rfl) ((cat8 (fun k => gB (dH m c t k) (gH m c t k) (xH m c t k) (iblk m c 5 t)) y0 y1).trans ?_)
  refine (gB_at _ _ _ _ _ _).trans ?_
  simp only [dH_at, gH_at, xH_at, read5]
  rfl

theorem final8 (c : Dev nD) : (dats m 0 c).arrAt 8 (cfgs 0).N
    = TILE (fun t k j => part (V m c main_arg0) (V m c main_arg1) (V m c main_arg2) (V m c main_arg4) (V m c main_arg5) k j t) := by
  refine (dats m 0 c).arrAt_eq_of_covers 8 _ (by decide +kernel) fun t _ y => ?_
  blk_simp
  rw [after0_8]; unfold Gen.outsAt0; frame_out
  refine Eq.trans ?_ (TILE_at _ _ t (y 0) (y 1) (by blk_simp [idx t]) (by blk_simp [idx t])).symm
  idx_vars y
  refine Eq.trans (show _ = _ from rfl) ((row8 (fun k => tB (dH m c t k) (gH m c t k) (xH m c t k)) y0 y1).trans ?_)
  refine (tB_at _ _ _ _).trans ?_
  simp only [dH_at, gH_at, xH_at]
  rfl

end Cert.HgDogIdeal.Value
-- ==== Proof.HgDogTail.lean ====
module

public import proofs.«01_k».proof.Proof.HgDogArr

/-! The gradient of the gated head norm: what the lines after the kernel make of its arrays. -/

@[expose] public section
set_option maxRecDepth 16384
noncomputable section
namespace Cert.HgDogIdeal.Value
open Idealize.ShloMosaic Idealize.ShloMosaic.TcCoe Idealize.SL.Sem
open Idealize.ShloMosaic.Pipeline (Dat)
open Cert.HgDogIdeal Cert.HgDogIdeal.Gen Cert.Gate Cert.Rms

variable (m : (ℓ : Loc nD τ sig) → Buf (Elt Ideal) ℓ)

theorem v0_at (c : Dev nD) (j : Fin 128) : V m c main_v0 (ix2 0 j) = m ((c : Thread nD τ).loc main_arg3) (ix1 j) := by
  have h : V m c main_v0 = shapeCast S1x128 (m ((c : Thread nD τ).loc main_arg3)) shapeCasts_S128_S1x128 := by
    show StableHlo.after (hostOps0 (F := Ideal)) (fun b => m (c, b)) (Proc.devRef .tc main_v0) = _
    after_results; rfl
  rw [h]; pointwise
theorem kept0 (c : Dev nD) : V m c main_arg0 = m ((c : Thread nD τ).loc main_arg0) := V_main_arg0 m c
theorem kept1 (c : Dev nD) : V m c main_arg1 = m ((c : Thread nD τ).loc main_arg1) := V_main_arg1 m c
theorem kept2 (c : Dev nD) : V m c main_arg2 = m ((c : Thread nD τ).loc main_arg2) := V_main_arg2 m c
theorem kept4 (c : Dev nD) : V m c main_arg4 = m ((c : Thread nD τ).loc main_arg4) := V_main_arg4 m c
theorem kept5 (c : Dev nD) : V m c main_arg5 = m ((c : Thread nD τ).loc main_arg5) := V_main_arg5 m c

/-- The first rows of the tiles, added, then the heads added. -/
theorem rows (f : Fin 32 → Fin 8 → Fin 128 → EReal) (j : Fin 128) (i : Fin 8) (t : Fin 32) (e : Fin 1024) (a : Fin 256) (ha : a.val = t.val * 8)
    (he : e.val = i.val * 128 + j.val) : TILE f (ix2 a e) = f t i j := by
  refine (TILE_at f _ t 0 e (by show a.val = _; rw [ha]; rfl) rfl).trans ?_
  rw [show hd e = i from Fin.ext (by show e.val / 128 = _; omega), show en e = j from Fin.ext (by show e.val % 128 = _; omega)]

theorem tail7 (c : Dev nD) : Pipeline.afterTail₀ cfgs (dats m) 0 (V0 m) [hostOps1] c main_v7
    = fun i => ∑ h : Fin 8, ∑ t : Fin 32, part (V m c main_arg0) (V m c main_arg1) (V m c main_arg2) (V m c main_arg4) (V m c main_arg5) h (i 0) t := by
  unfold Pipeline.afterTail₀
  show StableHlo.after hostOps1 _ (Proc.devRef .tc main_v7) = _
  after_results
  have h3 := Pipeline.withArrays_arr (cfgs 0).spec (by decide) c (V0 m c) (fun w => (dats m 0 c).arrAt w (cfgs 0).N) 8
  simp only [show Pipeline.arrRef (cfgs 0).spec 8 = main_v1_2 from rfl, final8] at h3
  rw [h3]
  funext j
  idx_vars j
  pointwise
  refine Finset.sum_congr rfl fun h _ => Finset.sum_congr rfl fun t _ => ?_
  exact rows (fun t k j => part (V m c main_arg0) (V m c main_arg1) (V m c main_arg2) (V m c main_arg4) (V m c main_arg5) k j t) _ _ _ _ _ rfl rfl

end Cert.HgDogIdeal.Value
-- ==== Proof.HgDogRef.lean ====
module

public import proofs.«01_k».proof.Proof.RmsMath
public import proofs.«01_k».proof.Proof.GateMath
public import proofs.«01_k».proof.Proof.Gen.HgDogRefIdeal.Run
public import Idealize.ShloMosaic.Lib.Pipeline.ValueKit
public import Idealize.ShloMosaic.Lib.Pointwise

/-! What the reference of the gated head norm's gradient computes, entry by entry. -/

@[expose] public section
set_option maxRecDepth 16384
noncomputable section
namespace Cert.HgDogRefIdeal.Value
open Idealize.ShloMosaic Idealize.ShloMosaic.TcCoe Idealize.SL.Sem
open Cert.HgDogRefIdeal Cert.HgDogRefIdeal.Gen Cert.Rms Cert.Gate

variable (a0 a1 : FVec Ideal S16384x1024 .f32) (a2 : FVec Ideal S16384x5120 .f32) (a3 : FVec Ideal S128 .f32) (a4 : FVec Ideal S1024x1024 .f32) (a5 : FVec Ideal S16384x1024 .f32)

abbrev LEN : FVec Ideal S16384x8x1 .f32 := broadcastInDim S16384x8x1 ![] bcast_S_S16384x8x1 (constant S_ .f32 0x43000000#32)
abbrev EPS : FVec Ideal S16384x8x1 .f32 := broadcastInDim S16384x8x1 ![] bcast_S_S16384x8x1 (constant S_ .f32 0x358637BD#32)
abbrev HALF : FVec Ideal S16384x8x1 .f32 := broadcastInDim S16384x8x1 ![] bcast_S_S16384x8x1 (constant S_ .f32 0xBF000000#32)
abbrev ONE : FVec Ideal S16384x1024 .f32 := broadcastInDim S16384x1024 ![] bcast_S_S16384x1024 (constant S_ .f32 0x3F800000#32)
/-- The two directions' sum, head by head. -/
def X : FVec Ideal S16384x8x128 .f32 := shapeCast _ (addf a0 a1) shapeCasts_S16384x1024_S16384x8x128
/-- The cotangent by the weights. -/
def DOT : FVec Ideal S16384x1024 .f32 := Host.dotGeneral dot_S16384x1024_S1024x1024_S16384x1024_1_1_0_0_n_n none a5 a4
/-- The gate's columns. -/
def GT : FVec Ideal S16384x1024 .f32 := extractStridedSlice S16384x1024 ![0, 4096] a2 slices_S16384x5120_S16384x1024_0_4096
/-- Their logistic function. -/
def SG : FVec Ideal S16384x1024 .f32 := Host.divf ONE (addf ONE (Host.exp (Host.negf (GT a2))))
/-- The gradient of the norm's result. -/
def DY : FVec Ideal S16384x8x128 .f32 := shapeCast _ (mulf (DOT a4 a5) (mulf (GT a2) (SG a2))) shapeCasts_S16384x1024_S16384x8x128
/-- The norm's weights. -/
def NG : FVec Ideal S16384x8x128 .f32 := broadcastInDim S16384x8x128 ![0, 1, 2] bcast_S1x1x128_S16384x8x128_0_1_2 (broadcastInDim S1x1x128 ![2] bcast_S128_S1x1x128_2 a3)

/-- A sum over the two leading axes, the initial value first. -/
theorem sum01 {n0 n1 n2 : ℕ} (h : (⟨3, ![n0, n1, n2]⟩ : Shape).ReducesTo [0, 1] ⟨1, ![n2]⟩) (v : (⟨3, ![n0, n1, n2]⟩ : Shape).Idx → EReal) (z : EReal)
    (k : Fin n2) : Ideal.hostReduceAdd h v z (ix1 k) = z + ∑ a : Fin n0, ∑ b : Fin n1, v (ix3 a b k) := by
  refine congrArg (z + ·) ((Finset.sum_filter_eq_sum_of_fiber _ (fun q : Fin n0 × Fin n1 => ix3 q.1 q.2 k)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨q, rfl⟩
      funext b
      apply Fin.ext
      match b with
      | ⟨0, _⟩ => rfl
  · simp only [Fintype.sum_prod_type]

section
variable (x d : FVec Ideal S16384x8x128 .f32)
/-- The mean squares. -/
def VV : FVec Ideal S16384x8x1 .f32 :=
  addf (Host.divf (broadcastInDim S16384x8x1 ![0, 1] bcast_S16384x8_S16384x8x1_0_1 (Host.reduceAdd (mulf x x) (constant S_ .f32 0x00000000#32) reducesTo_S16384x8x128_S16384x8_d2 h_S_)) LEN) EPS
/-- The reciprocal roots. -/
def RR : FVec Ideal S16384x8x128 .f32 := broadcastInDim S16384x8x128 ![0, 1, 2] bcast_S16384x8x1_S16384x8x128_0_1_2 (Host.rsqrt (VV x))
/-- The factors of the mean squares' shares. -/
def CC : FVec Ideal S16384x8x128 .f32 :=
  broadcastInDim S16384x8x128 ![0, 1] bcast_S16384x8_S16384x8x128_0_1 (Host.reduceAdd (Host.divf (mulf
    (shapeCast _ (Host.reduceAdd (mulf x d) (constant S_ .f32 0x00000000#32) reducesTo_S16384x8x128_S16384x8_d2 h_S_) shapeCasts_S16384x8_S16384x8x1)
    (mulf HALF (Host.divf (Host.rsqrt (VV x)) (VV x)))) LEN) (constant S_ .f32 0x00000000#32) reducesTo_S16384x8x1_S16384x8_d2 h_S_)
/-- The gradient of the rows. -/
def GG : FVec Ideal S16384x8x128 .f32 := addf (addf (mulf d (RR x)) (mulf x (CC x d))) (mulf (CC x d) x)

variable (r : Fin 16384) (h : Fin 8) (k : Fin 128)
abbrev lh : EReal := Ideal.ofBits .f32 0x43000000#32
theorem VV_at : VV x (ix3 r h 0) = ve lh (fun j => x (ix3 r h j)) := by pointwise [VV, ve]
theorem RR_at : RR x (ix3 r h k) = rs lh (fun j => x (ix3 r h j)) := by
  pointwise [RR, rs]
  exact congrArg _ (VV_at x r h)
theorem CC_at : CC x d (ix3 r h k) = cv lh (fun j => d (ix3 r h j)) (fun j => x (ix3 r h j)) := by
  pointwise [CC, cv, rs]
  simp only [Fin.sum_univ_one, VV_at]
theorem GG_at : GG x d (ix3 r h k) = dxR lh (fun j => d (ix3 r h j)) (fun j => x (ix3 r h j)) k := by
  pointwise [GG, dxR]
  simp only [RR_at, CC_at]
end

/-- The gradient of the two directions' sum. -/
def DO : FVec Ideal S16384x1024 .f32 := shapeCast _ (GG (X a0 a1) (mulf (DY a2 a4 a5) (NG a3))) shapeCasts_S16384x8x128_S16384x1024
/-- The norm's result, a token's heads side by side. -/
def ON : FVec Ideal S16384x1024 .f32 := shapeCast _ (mulf (mulf (X a0 a1) (RR (X a0 a1))) (NG a3)) shapeCasts_S16384x8x128_S16384x1024
/-- The gradient of the gate. -/
def DG : FVec Ideal S16384x1024 .f32 :=
  addf (mulf (mulf (ON a0 a1 a3) (DOT a4 a5)) (SG a2)) (mulf (mulf (GT a2) (mulf (ON a0 a1 a3) (DOT a4 a5))) (mulf (SG a2) (subf ONE (SG a2))))
/-- The gradient of the norm's weights. -/
def DN : FVec Ideal S128 .f32 :=
  Host.reduceAdd (shapeCast _ (Host.reduceAdd (mulf (mulf (X a0 a1) (RR (X a0 a1))) (DY a2 a4 a5)) (constant S_ .f32 0x00000000#32) reducesTo_S16384x8x128_S128_d0_1 h_S_)
    shapeCasts_S128_S1x1x128) (constant S_ .f32 0x00000000#32) reducesTo_S1x1x128_S128_d0_1 h_S_

variable (r : Fin 16384) (e : Fin 1024) (h : Fin 8) (k : Fin 128)
/-- The product of two rows. -/
def prod : EReal := ∑ q : Fin 1024, a5 (ix2 r q) * a4 (ix2 e q)
/-- The gate. -/
abbrev gt : EReal := a2 (ix2 r ⟨4096 + e.val, by omega⟩)
abbrev lane : Fin 1024 := ⟨h.val * 128 + k.val, by omega⟩
/-- The sum's entry. -/
abbrev o : EReal := a0 (ix2 r (lane h k)) + a1 (ix2 r (lane h k))
/-- The gradient of the norm's result. -/
def dy : EReal := prod a4 a5 r (lane h k) * (gt a2 r (lane h k) * sgm (gt a2 r (lane h k)))

theorem X_at : X a0 a1 (ix3 r h k) = o a0 a1 r h k := by pointwise [X]
theorem DOT_at : DOT a4 a5 (ix2 r e) = prod a4 a5 r e := by pointwise [DOT, prod]
theorem GT_at : GT a2 (ix2 r e) = gt a2 r e := by pointwise [GT]
theorem SG_at : SG a2 (ix2 r e) = sgm (gt a2 r e) := by
  pointwise [SG, sgm, GT_at]
  rw [zero_sub]
theorem DY_at : DY a2 a4 a5 (ix3 r h k) = dy a2 a4 a5 r h k := by pointwise [DY, dy, DOT_at, SG_at, GT_at]
theorem NG_at : NG a3 (ix3 r h k) = a3 (ix1 k) := by pointwise [NG]

theorem DO_at : DO a0 a1 a2 a3 a4 a5 (ix2 r e)
    = dxR lh (fun j => dy a2 a4 a5 r ⟨e.val / 128, by omega⟩ j * a3 (ix1 j)) (o a0 a1 r ⟨e.val / 128, by omega⟩) ⟨e.val % 128, by omega⟩ := by
  pointwise [DO, GG_at, X_at, DY_at, NG_at]
theorem ON_at : ON a0 a1 a3 (ix2 r e)
    = o a0 a1 r ⟨e.val / 128, by omega⟩ ⟨e.val % 128, by omega⟩ * rs lh (o a0 a1 r ⟨e.val / 128, by omega⟩) * a3 (ix1 ⟨e.val % 128, by omega⟩) := by
  pointwise [ON, RR_at, X_at, NG_at]
theorem DG_at : DG a0 a1 a2 a3 a4 a5 (ix2 r e) = ON a0 a1 a3 (ix2 r e) * prod a4 a5 r e * sgm (gt a2 r e)
    + gt a2 r e * (ON a0 a1 a3 (ix2 r e) * prod a4 a5 r e) * (sgm (gt a2 r e) * (1 - sgm (gt a2 r e))) := by
  pointwise [DG, DOT_at, SG_at, GT_at]
theorem DN_at : DN a0 a1 a2 a4 a5 (ix1 k) = ∑ r, ∑ h, o a0 a1 r h k * rs lh (o a0 a1 r h) * dy a2 a4 a5 r h k := by
  pointwise [DN]
  rw [sum01, zero_add]
  simp only [Fin.sum_univ_one]
  pointwise
  rw [sum01, zero_add]
  refine Finset.sum_congr rfl fun r _ => Finset.sum_congr rfl fun h _ => ?_
  pointwise [RR_at, X_at, DY_at]

end Cert.HgDogRefIdeal.Value
-- ==== Proof.HgDogValue.lean ====
module

public import proofs.«01_k».proof.Defs
public import proofs.«01_k».proof.Proof.Gen.Pre_hgdog_finite
public import proofs.«01_k».proof.Proof.HgDogTail
public import proofs.«01_k».proof.Proof.HgDogRef
public import proofs.«01_k».proof.Proof.Finite
public import Idealize.ShloMosaic.Lib.Claim

/-! The gradient of the gated head norm: the kernel computes what the reference computes. -/

@[expose] public section
set_option maxRecDepth 16384
noncomputable section
namespace Cert.HgDogIdeal.Value
open Idealize.ShloMosaic Idealize.ShloMosaic.TcCoe Idealize.SL.Sem
open Idealize.ShloMosaic.Pipeline (Dat)
open Cert.HgDogIdeal Cert.HgDogIdeal.Gen Cert.Gate Cert.Rms

/-- The logistic function of a real number is real. -/
theorem sgm_real (g : ℝ) : ∃ s : ℝ, sgm (g : EReal) = (s : EReal) := by
  rw [sgm_coe]
  exact ⟨_, rfl⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

section
variable (O P : FVec Ideal S16384x1024 .f32) (G : FVec Ideal S16384x5120 .f32) (N : FVec Ideal S1x128 .f32) (N' : FVec Ideal S128 .f32)
  (W : FVec Ideal S1024x1024 .f32) (D : FVec Ideal S16384x1024 .f32)

theorem prod_real (hD : ∀ i, D i = ((D i).toReal : EReal)) (hW : ∀ i, W i = ((W i).toReal : EReal)) (r : Fin 16384) (e : Fin 1024) :
    ∃ x : ℝ, prod W D r e = (x : EReal) :=
  ⟨∑ k : Fin 1024, (D (ix2 r k)).toReal * (W (ix2 e k)).toReal, by
    rw [← Cert.Reals.sum_coe]
    exact Finset.sum_congr rfl fun k _ => by rw [EReal.coe_mul, ← hD, ← hW]⟩

theorem o_real (hO : ∀ i, O i = ((O i).toReal : EReal)) (hP : ∀ i, P i = ((P i).toReal : EReal)) (r : Fin 16384) (k : Fin 8) (j : Fin 128) :
    ∃ x : ℝ, o O P r k j = (x : EReal) :=
  ⟨(O (ix2 r (lane k j))).toReal + (P (ix2 r (lane k j))).toReal, by rw [EReal.coe_add, ← hO, ← hP]⟩

theorem dy_real (hG : ∀ i, G i = ((G i).toReal : EReal)) (hD : ∀ i, D i = ((D i).toReal : EReal)) (hW : ∀ i, W i = ((W i).toReal : EReal))
    (r : Fin 16384) (k : Fin 8) (j : Fin 128) : ∃ x : ℝ, dy G W D r k j = (x : EReal) := by
  refine mul_real (prod_real W D hD hW r _) (mul_real ⟨_, hG _⟩ ?_)
  rw [gt, hG]
  exact sgm_real _

/-- The first result's entries. -/
theorem do_eq (hN : ∀ j, N (ix2 0 j) = N' (ix1 j)) (hO : ∀ i, O i = ((O i).toReal : EReal)) (hP : ∀ i, P i = ((P i).toReal : EReal))
    (hG : ∀ i, G i = ((G i).toReal : EReal)) (hR : ∀ i, N' i = ((N' i).toReal : EReal)) (hW : ∀ i, W i = ((W i).toReal : EReal))
    (hD : ∀ i, D i = ((D i).toReal : EReal)) (r : Fin 16384) (e : Fin 1024) :
    Cert.HgDogRefIdeal.Value.DO O P G N' W D (ix2 r e) = dO O P G N W D r (hd e) (en e) := by
  rw [Cert.HgDogRefIdeal.Value.DO_at]
  unfold dO
  simp only [hN]
  exact (dx_eq lh _ _ 128 (by norm_num) len128 (fun k => mul_real (dy_real G W D hG hD hW r _ k) ⟨_, hR _⟩) (fun k => o_real O P hO hP r _ k) _).symm

/-- A reciprocal deviation of a real row is real. -/
theorem rs_real {n : ℕ} (x : Fin n → EReal) (hx : ∀ k, ∃ r : ℝ, x k = (r : EReal)) : ∃ r : ℝ, rs lh x = (r : EReal) := by
  obtain ⟨e, he, hE⟩ := eps6
  choose X kx using hx
  have hp : 0 < (∑ j, X j * X j) / 128 + e := add_pos_of_nonneg_of_pos (div_nonneg (Finset.sum_nonneg fun j _ => mul_self_nonneg _) (by norm_num)) he
  refine ⟨(Real.sqrt ((∑ j, X j * X j) / 128 + e))⁻¹, ?_⟩
  rw [rs, show ve lh x = (((∑ j, X j * X j) / 128 + e : ℝ) : EReal) by
    simp only [ve, hE, kx, lh, len128, ← EReal.coe_mul, Cert.Reals.sum_coe, Cert.Reals.div_coe _ _ (show (128 : ℝ) ≠ 0 by norm_num), ← EReal.coe_add], Cert.Reals.rsqrt_pos _ hp]

/-- The chain rule's gradient of the gate is the kernel's. -/
theorem gate_eq {p n g : EReal} (hp : ∃ r : ℝ, p = (r : EReal)) (hn : ∃ r : ℝ, n = (r : EReal)) :
    n * p * sgm g + g * (n * p) * (sgm g * (1 - sgm g)) = p * n * (sgm g * (1 + g * (1 - sgm g))) := by
  obtain ⟨a, rfl⟩ := hp
  obtain ⟨b, rfl⟩ := hn
  rw [mul_comm (a : EReal), ← EReal.coe_mul]
  exact (silu_grad _ g).symm

/-- The second result's entries. -/
theorem dg_eq (hN : ∀ j, N (ix2 0 j) = N' (ix1 j)) (hO : ∀ i, O i = ((O i).toReal : EReal)) (hP : ∀ i, P i = ((P i).toReal : EReal))
    (hR : ∀ i, N' i = ((N' i).toReal : EReal)) (hW : ∀ i, W i = ((W i).toReal : EReal))
    (hD : ∀ i, D i = ((D i).toReal : EReal)) (r : Fin 16384) (e : Fin 1024) :
    Cert.HgDogRefIdeal.Value.DG O P G N' W D (ix2 r e) = dG O P G N W D r (hd e) (en e) := by
  rw [Cert.HgDogRefIdeal.Value.DG_at, Cert.HgDogRefIdeal.Value.ON_at]
  unfold dG
  rw [hN, show lane (hd e) (en e) = e from Fin.ext (by show e.val / 128 * 128 + e.val % 128 = e.val; omega)]
  exact gate_eq (prod_real W D hD hW r e) (mul_real (mul_real (o_real O P hO hP r _ _) (rs_real _ fun k => o_real O P hO hP r _ k)) ⟨_, hR _⟩)

/-- The third result's entries. -/
theorem dn_eq (k : Fin 128) : Cert.HgDogRefIdeal.Value.DN O P G W D (ix1 k) = ∑ h : Fin 8, ∑ t : Fin 32, part O P G W D h k t := by
  rw [Cert.HgDogRefIdeal.Value.DN_at, Finset.sum_comm]
  refine Finset.sum_congr rfl fun h _ => (Fin.sum_univ_tiles 32 512 rfl _).trans (Finset.sum_congr rfl fun t _ => Finset.sum_congr rfl fun r _ => ?_)
  rw [mul_comm, ← mul_assoc]
  rfl
end

theorem algebraic : Cert.algebraic_HgDogIdeal_HgDogRefIdeal_pre_hgdog_finite (hHgDogIdeal := Cert.HgDogIdeal.Gen.facts)
    (hHgDogRefIdeal := Cert.HgDogRefIdeal.Gen.facts) (hPre_hgdog_finite := Cert.Pre_hgdog_finite.Gen.facts) := by
  intro m g m' g' hpre hargs
  refine ⟨fun c => (dats m 0 c).arrAt 6 (cfgs 0).N, fun c => (dats m 0 c).arrAt 7 (cfgs 0).N,
    fun c => Pipeline.afterTail₀ cfgs (dats m) 0 (V0 m) [hostOps1] c main_v7, ?_, ?_⟩
  · run_from Cert.HgDogIdeal.Gen.run_main m g
    · exact W_main_arg3 m (dats m) c
  · refine (θ_run _ _ _).mono (fun r h c => ?_) (Cert.HgDogRefIdeal.Value.run m' g')
    obtain ⟨h0, h1, h2, hm⟩ := h c
    obtain ⟨e0, e1, e2, e3, e4, e5⟩ := hargs c
    obtain ⟨p0, p1, p2, p3, p4, p5⟩ := hpre c
    refine ⟨h0.trans ?_, h1.trans ?_, h2.trans ?_, hm⟩
    · refine Eq.trans ?_ (final6 m c).symm
      trans Cert.HgDogRefIdeal.Value.DO (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      · unfold Cert.HgDogRefIdeal.Value.res_main_v48; rw [e0, e1, e2, e3, e4, e5]; rfl
      · funext j
        idx_vars j
        rw [kept0, kept1, kept2, kept4, kept5]
        exact do_eq _ _ _ _ _ _ _ (v0_at m c) (Cert.Finite.real_of _ p0) (Cert.Finite.real_of _ p1) (Cert.Finite.real_of _ p2) (Cert.Finite.real_of _ p3)
          (Cert.Finite.real_of _ p4) (Cert.Finite.real_of _ p5) j0 j1
    · refine Eq.trans ?_ (final7 m c).symm
      trans Cert.HgDogRefIdeal.Value.DG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      · rw [e0, e1, e2, e3, e4, e5]; rfl
      · funext j
        idx_vars j
        rw [kept0, kept1, kept2, kept4, kept5]
        exact dg_eq _ _ _ _ _ _ _ (v0_at m c) (Cert.Finite.real_of _ p0) (Cert.Finite.real_of _ p1) (Cert.Finite.real_of _ p3)
          (Cert.Finite.real_of _ p4) (Cert.Finite.real_of _ p5) j0 j1
    · refine Eq.trans ?_ (tail7 m c).symm
      trans Cert.HgDogRefIdeal.Value.DN (m ((c : Thread nD τ).loc main_arg0)) (m ((c : Thread nD τ).loc main_arg1)) (m ((c : Thread nD τ).loc main_arg2))
        (m ((c : Thread nD τ).loc main_arg4)) (m ((c : Thread nD τ).loc main_arg5))
      · rw [e0, e1, e2, e4, e5]; rfl
      · funext j
        idx_vars j
        rw [kept0, kept1, kept2, kept4, kept5]
        exact dn_eq _ _ _ _ _ j0

theorem frame_ref : Cert.quiescent_HgDogRefIdeal (hHgDogRefIdeal := Cert.HgDogRefIdeal.Gen.facts) := by
  intro m ρ _
  set_option maxHeartbeats 1600000 in
  hlo_run
  · exact fun _ => ⟨trivial, trivial, trivial, trivial, trivial, trivial⟩
  · exact sem_eq_zero_of_no_sems (by decide) _

end Cert.HgDogIdeal.Value
-- ==== Proof.S5GluArr.lean ====
module

public import proofs.«01_k».proof.Proof.Gen.S5GluIdeal.Frame
public import proofs.«01_k».proof.Proof.GateMath
public import Idealize.ShloMosaic.Lib.Pipeline.ValueKit
public import Idealize.ShloMosaic.Lib.Pointwise
public import Idealize.ShloMosaic.Lib.Claim

/-! The gated linear unit and its gradient: what the two kernels' arrays hold, whatever they were entered with. -/

@[expose] public section
set_option maxRecDepth 16384
noncomputable section
namespace Cert.S5GluIdeal.Value
open Idealize.ShloMosaic Idealize.ShloMosaic.TcCoe Idealize.SL.Sem
open Idealize.ShloMosaic.Pipeline (Dat)
open Cert.S5GluIdeal Cert.S5GluIdeal.Gen Cert.Gate

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] ∧ win1_6.index t = ![t.val, 0] :=
  (by decide +kernel : ∀ t : Fin grid1.N, _)

section
variable (Y : FVec Ideal S16384x1024 .f32) (G : FVec Ideal S1024x1024 .f32) (B : FVec Ideal S1x1024 .f32)
variable (D : FVec Ideal S16384x1024 .f32) (W : FVec Ideal S1024x1024 .f32) (S : FVec Ideal S16384x1024 .f32)
/-- The logistic function of a gate's pre-activation. -/
def gate (r : Fin 16384) (e : Fin 1024) : EReal := sgm ((∑ q : Fin 1024, Y (ix2 r q) * G (ix2 q e)) + B (ix2 0 e))
/-- The gated entry. -/
def gated (r : Fin 16384) (e : Fin 1024) : EReal := Y (ix2 r e) * gate Y G B r e
/-- The product of row `r` of the cotangent with row `e` of the weights. -/
def prod (r : Fin 16384) (e : Fin 1024) : EReal := ∑ q : Fin 1024, D (ix2 r q) * W (ix2 e q)
/-- The gradient of the pre-activation. -/
def dpre (r : Fin 16384) (e : Fin 1024) : EReal := prod D W r e * Y (ix2 r e) * S (ix2 r e) * (1 - S (ix2 r e))
/-- The part of the gradient of the gated entry that passes through it as a factor. -/
def through (r : Fin 16384) (e : Fin 1024) : EReal := prod D W r e * S (ix2 r e)
end

/-- An array from its entries. -/
abbrev ARR (f : Fin 16384 → Fin 1024 → EReal) : FVec Ideal S16384x1024 .f32 := fun i => f (i 0) (i 1)
/-- The same at the narrow type. -/
abbrev ARRB (f : Fin 16384 → Fin 1024 → EReal) : FVec Ideal S16384x1024 .bf16 := fun i => f (i 0) (i 1)
/-- A block's sums, each on the eight rows of its tile. -/
abbrev TILE (f : Fin 32 → Fin 1024 → EReal) : FVec Ideal S256x1024 .f32 :=
  fun i => f ⟨(i 0).val / 8, by have := (i 0).isLt; change (i 0).val < 256 at this; omega⟩ (i 1)

variable (V : (c : Dev nD) → (b : Ref sig .tc) → Buf (Elt Ideal) ((c : Thread nD τ).loc b))

theorem final0_4 (c : Dev nD) : (dat0 V c).arrAt 4 cfg0.N
    = ARRB fun r e => gated (V c main_arg0) (V c main_arg1) (V c main_v0) r e := by
  refine (dat0 V c).arrAt_eq_of_covers 4 _ (by decide +kernel) fun t _ y => ?_
  blk_simp
  rw [after0_4]; unfold Gen.outsAt0; frame_out
  pointwise [k0_pay6, k0_pay5, k0_pay4, k0_pay3, k0_pay2, k0_pay1, ARRB, gated, gate, sgm]
  blk_point [iblk0, idx0 t]

theorem final0_5 (c : Dev nD) : (dat0 V c).arrAt 5 cfg0.N
    = ARR fun r e => gate (V c main_arg0) (V c main_arg1) (V c main_v0) r e := by
  refine (dat0 V c).arrAt_eq_of_covers 5 _ (by decide +kernel) fun t _ y => ?_
  blk_simp
  rw [after0_5]; unfold Gen.outsAt0; frame_out
  pointwise [k0_pay5, k0_pay4, k0_pay3, k0_pay2, k0_pay1, ARR, gate, sgm]
  blk_point [iblk0, idx0 t]

theorem final1_4 (c : Dev nD) : (dat1 V c).arrAt 4 cfg1.N
    = ARRB fun r e => dpre (V c main_arg0) (V c main_arg4) (V c main_arg3) (V c main_v1_1) r e := by
  refine (dat1 V c).arrAt_eq_of_covers 4 _ (by decide +kernel) fun t _ y => ?_
  blk_simp
  rw [after1_4]; unfold Gen.outsAt1; frame_out
  pointwise [k1_pay8, k1_pay5, k1_pay4, k1_pay3, k1_pay2, k1_pay1, ARRB, dpre, prod]
  blk_point [iblk1, idx1 t]

theorem final1_5 (c : Dev nD) : (dat1 V c).arrAt 5 cfg1.N
    = ARR fun r e => through (V c main_arg4) (V c main_arg3) (V c main_v1_1) r e := by
  refine (dat1 V c).arrAt_eq_of_covers 5 _ (by decide +kernel) fun t _ y => ?_
  blk_simp
  rw [after1_5]; unfold Gen.outsAt1; frame_out
  pointwise [k1_pay6, k1_pay4, k1_pay3, k1_pay2, k1_pay1, ARR, through, prod]
  blk_point [iblk1, idx1 t]

theorem final1_6 (c : Dev nD) : (dat1 V c).arrAt 6 cfg1.N
    = TILE fun t e => ∑ a : Fin 512, dpre (V c main_arg0) (V c main_arg4) (V c main_arg3) (V c main_v1_1) ⟨t.val * 512 + a.val, by omega⟩ e := by
  refine (dat1 V c).arrAt_eq_of_covers 6 _ (by decide +kernel) fun t _ y => ?_
  blk_simp
  rw [after1_6]; unfold Gen.outsAt1; frame_out
  pointwise [k1_pay7, k1_pay5, k1_pay4, k1_pay3, k1_pay2, k1_pay1, TILE, dpre, prod]
  blk_point [iblk1, idx1 t]

end Cert.S5GluIdeal.Value
-- ==== Proof.S5GluRun.lean ====
module

public import proofs.«01_k».proof.Proof.S5GluArr

/-! The run of the gated linear unit's two kernels: what its four results hold. -/

@[expose] public section
set_option maxRecDepth 16384
noncomputable section
namespace Cert.S5GluIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.S5GluIdeal Cert.S5GluIdeal.Gen Cert.Gate

/-- The resources of a run. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every buffer at the last boundary's contents. -/
theorem ends : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The boundaries -/

/-- The bias as a row. -/
theorem v0_at (c : Dev nD) (j : Fin 1024) : V1 m ρ c main_v0 (ix2 0 j) = m ((c : Thread nD τ).loc main_arg2) (ix1 j) := by
  have h : V1 m ρ c main_v0 = shapeCast S1x1024 (m ((c : Thread nD τ).loc main_arg2)) shapeCasts_S1024_S1x1024 := by
    show StableHlo.after (hostOps0 (F := Ideal)) (W0 m ρ c) (Proc.devRef .tc main_v0) = _
    after_results; rfl
  rw [h]; pointwise

/-- The gate, where the second kernel reads it. -/
theorem gate_at (c : Dev nD) : V2 m ρ c main_v1_1 = ARR fun r e => gate (V1 m ρ c main_arg0) (V1 m ρ c main_arg1) (V1 m ρ c main_v0) r e :=
  (W2_arr m ρ c 5).trans (final0_5 (V1 m ρ) c)
/-- The gated entries, at the end of the second kernel. -/
theorem y2_at (c : Dev nD) : W3 m ρ c (Proc.devRef .tc main_v1_0) = ARRB fun r e => gated (V1 m ρ c main_arg0) (V1 m ρ c main_arg1) (V1 m ρ c main_v0) r e :=
  (W3_of m ρ c main_v1_0 (by decide)).trans ((W2_arr m ρ c 4).trans (final0_4 (V1 m ρ) c))

theorem at1 (c : Dev nD) (a : Ref sig .tc) (h : a ∈ argRefs) : V1 m ρ c a = m ((c : Thread nD τ).loc a) := W1_args m ρ c a h
theorem at2 (c : Dev nD) (a : Ref sig .tc) (h : a ∈ argRefs) : V2 m ρ c a = m ((c : Thread nD τ).loc a) := W2_args m ρ c a h

theorem end3 (c : Dev nD) : W4 m ρ c (Proc.devRef .tc main_v3)
    = ARR fun r e => gated (V1 m ρ c main_arg0) (V1 m ρ c main_arg1) (V1 m ρ c main_v0) r e := by
  show StableHlo.after hostOps2 _ (Proc.devRef .tc main_v3) = _
  after_results
  rw [y2_at]
  rfl
theorem end4 (c : Dev nD) : W4 m ρ c (Proc.devRef .tc main_v4)
    = ARR fun r e => dpre (V2 m ρ c main_arg0) (V2 m ρ c main_arg4) (V2 m ρ c main_arg3) (V2 m ρ c main_v1_1) r e := by
  show StableHlo.after hostOps2 _ (Proc.devRef .tc main_v4) = _
  after_results
  have h := (W3_arr m ρ c 4).trans (final1_4 (V2 m ρ) c)
  simp only [show Pipeline.arrRef spec1 4 = main_v2_0 from rfl] at h
  rw [h]
  rfl
theorem end2_1 (c : Dev nD) : W4 m ρ c (Proc.devRef .tc main_v2_1)
    = ARR fun r e => through (V2 m ρ c main_arg4) (V2 m ρ c main_arg3) (V2 m ρ c main_v1_1) r e :=
  (W4_of m ρ c main_v2_1 (by decide)).trans ((W3_arr m ρ c 5).trans (final1_5 (V2 m ρ) c))
theorem end8 (c : Dev nD) : W4 m ρ c (Proc.devRef .tc main_v8)
    = fun i => ∑ t : Fin 32, ∑ a : Fin 512, dpre (V2 m ρ c main_arg0) (V2 m ρ c main_arg4) (V2 m ρ c main_arg3) (V2 m ρ c main_v1_1) ⟨t.val * 512 + a.val, by omega⟩ (i 0) := by
  show StableHlo.after hostOps2 _ (Proc.devRef .tc main_v8) = _
  after_results
  have h := (W3_arr m ρ c 6).trans (final1_6 (V2 m ρ) c)
  simp only [show Pipeline.arrRef spec1 6 = main_v2_2 from rfl] at h
  rw [h]
  generalize V2 m ρ c = U
  funext j
  idx_vars j
  pointwise
  refine Finset.sum_congr rfl fun t _ => ?_
  refine Finset.sum_congr rfl fun a _ => ?_
  exact congrArg (dpre _ _ _ _ · _) (Fin.ext (congrArg (· * 512 + a.val) (Nat.mul_div_cancel _ (by norm_num))))

end Cert.S5GluIdeal.Value
-- ==== Proof.S5GluRef.lean ====
module

public import proofs.«01_k».proof.Proof.GateMath
public import proofs.«01_k».proof.Proof.Gen.S5GluRefIdeal.Run
public import Idealize.ShloMosaic.Lib.Pipeline.ValueKit
public import Idealize.ShloMosaic.Lib.Pointwise

/-! What the reference of the gated linear unit's gradient computes, entry by entry. -/

@[expose] public section
set_option maxRecDepth 16384
noncomputable section
namespace Cert.S5GluRefIdeal.Value
open Idealize.ShloMosaic Idealize.ShloMosaic.TcCoe Idealize.SL.Sem
open Cert.S5GluRefIdeal Cert.S5GluRefIdeal.Gen Cert.Gate

variable (a0 : FVec Ideal S16384x1024 .f32) (a1 : FVec Ideal S1024x1024 .f32) (a2 : FVec Ideal S1024 .f32) (a3 : FVec Ideal S1024x1024 .f32) (a4 : FVec Ideal S16384x1024 .f32)

abbrev ONE : FVec Ideal S16384x1024 .f32 := broadcastInDim S16384x1024 ![] bcast_S_S16384x1024 (constant S_ .f32 0x3F800000#32)
abbrev ZERO : FVec Ideal S_ .f32 := constant S_ .f32 0x00000000#32
/-- The gate. -/
def SG : FVec Ideal S16384x1024 .f32 := Host.divf ONE (addf ONE (Host.exp (Host.negf (addf (Host.dotGeneral dot_S16384x1024_S1024x1024_S16384x1024_1_0_0_1_n_n none a0 a1)
  (broadcastInDim S16384x1024 ![0, 1] bcast_S1x1024_S16384x1024_0_1 (broadcastInDim S1x1024 ![1] bcast_S1024_S1x1024_1 a2))))))
/-- The cotangent by the weights. -/
def DOT : FVec Ideal S16384x1024 .f32 := Host.dotGeneral dot_S16384x1024_S1024x1024_S16384x1024_1_1_0_0_n_n none a4 a3
/-- The gradient of the pre-activation. -/
def DP : FVec Ideal S16384x1024 .f32 := mulf (mulf a0 (DOT a3 a4)) (mulf (SG a0 a1 a2) (subf ONE (SG a0 a1 a2)))
/-- The gradient of the bias. -/
def DB : FVec Ideal S1024 .f32 := Host.reduceAdd (shapeCast _ (Host.reduceAdd (DP a0 a1 a2 a3 a4) ZERO reducesTo_S16384x1024_S1024_d0 h_S_) shapeCasts_S1024_S1x1024) ZERO
  reducesTo_S1x1024_S1024_d0 h_S_

/-- The gate's entry. -/
def sg (r : Fin 16384) (e : Fin 1024) : EReal := sgm ((∑ q : Fin 1024, a0 (ix2 r q) * a1 (ix2 q e)) + a2 (ix1 e))
/-- The product's entry. -/
def dot (r : Fin 16384) (e : Fin 1024) : EReal := ∑ q : Fin 1024, a4 (ix2 r q) * a3 (ix2 e q)

theorem SG_at (r : Fin 16384) (e : Fin 1024) : SG a0 a1 a2 (ix2 r e) = sg a0 a1 a2 r e := by
  pointwise [SG, sg, sgm]
  rw [zero_sub]
theorem DOT_at (r : Fin 16384) (e : Fin 1024) : DOT a3 a4 (ix2 r e) = dot a3 a4 r e := by
  pointwise [DOT, dot]
theorem DP_at (r : Fin 16384) (e : Fin 1024) : DP a0 a1 a2 a3 a4 (ix2 r e)
    = a0 (ix2 r e) * dot a3 a4 r e * (sg a0 a1 a2 r e * (1 - sg a0 a1 a2 r e)) := by
  rw [← SG_at, ← DOT_at]
  pointwise [DP]
theorem DB_at (e : Fin 1024) : DB a0 a1 a2 a3 a4 (ix1 e) = ∑ r : Fin 16384, a0 (ix2 r e) * dot a3 a4 r e * (sg a0 a1 a2 r e * (1 - sg a0 a1 a2 r e)) := by
  simp only [← DP_at]
  unfold DB
  generalize DP a0 a1 a2 a3 a4 = X
  pointwise
  exact Fin.sum_univ_one _

end Cert.S5GluRefIdeal.Value
-- ==== Proof.S5GluValue.lean ====
module

public import proofs.«01_k».proof.Defs
public import proofs.«01_k».proof.Proof.S5GluRun
public import proofs.«01_k».proof.Proof.S5GluRef

/-! The gated linear unit and its gradient: the kernels' results are the reference's. -/

@[expose] public section
set_option maxRecDepth 16384
noncomputable section
namespace Cert.S5GluIdeal.Value
open Idealize.ShloMosaic Idealize.ShloMosaic.TcCoe Idealize.SL.Sem
open Cert.S5GluIdeal Cert.S5GluIdeal.Gen Cert.Gate

variable (m : (ℓ : Loc nD τ sig) → Buf (Elt Ideal) ℓ) (ρ : Dev nD → PrngReg)

/-- The arguments as launched. -/
abbrev y1 (c : Dev nD) : FVec Ideal S16384x1024 .f32 := m ((c : Thread nD τ).loc main_arg0)
abbrev wg (c : Dev nD) : FVec Ideal S1024x1024 .f32 := m ((c : Thread nD τ).loc main_arg1)
abbrev bg (c : Dev nD) : FVec Ideal S1024 .f32 := m ((c : Thread nD τ).loc main_arg2)
abbrev wo (c : Dev nD) : FVec Ideal S1024x1024 .f32 := m ((c : Thread nD τ).loc main_arg3)
abbrev dz (c : Dev nD) : FVec Ideal S16384x1024 .f32 := m ((c : Thread nD τ).loc main_arg4)

theorem gate_eq (c : Dev nD) (r : Fin 16384) (e : Fin 1024) : gate (V1 m ρ c main_arg0) (V1 m ρ c main_arg1) (V1 m ρ c main_v0) r e
    = Cert.S5GluRefIdeal.Value.sg (y1 m c) (wg m c) (bg m c) r e := by
  unfold gate Cert.S5GluRefIdeal.Value.sg
  rw [v0_at, at1 m ρ c main_arg0 (by decide), at1 m ρ c main_arg1 (by decide)]
theorem gated_eq (c : Dev nD) (r : Fin 16384) (e : Fin 1024) : gated (V1 m ρ c main_arg0) (V1 m ρ c main_arg1) (V1 m ρ c main_v0) r e
    = y1 m c (ix2 r e) * Cert.S5GluRefIdeal.Value.sg (y1 m c) (wg m c) (bg m c) r e := by
  unfold gated
  rw [gate_eq, at1 m ρ c main_arg0 (by decide)]
theorem prod_eq (c : Dev nD) (r : Fin 16384) (e : Fin 1024) : prod (V2 m ρ c main_arg4) (V2 m ρ c main_arg3) r e
    = Cert.S5GluRefIdeal.Value.dot (wo m c) (dz m c) r e := by
  unfold prod Cert.S5GluRefIdeal.Value.dot
  rw [at2 m ρ c main_arg4 (by decide), at2 m ρ c main_arg3 (by decide)]
theorem read_gate (c : Dev nD) (r : Fin 16384) (e : Fin 1024) : (V2 m ρ c main_v1_1 : FVec Ideal S16384x1024 .f32) (ix2 r e)
    = Cert.S5GluRefIdeal.Value.sg (y1 m c) (wg m c) (bg m c) r e := by
  rw [gate_at]
  exact gate_eq m ρ c r e
theorem through_eq (c : Dev nD) (r : Fin 16384) (e : Fin 1024) : through (V2 m ρ c main_arg4) (V2 m ρ c main_arg3) (V2 m ρ c main_v1_1) r e
    = Cert.S5GluRefIdeal.Value.dot (wo m c) (dz m c) r e * Cert.S5GluRefIdeal.Value.sg (y1 m c) (wg m c) (bg m c) r e := by
  unfold through
  rw [prod_eq, read_gate]
theorem dpre_eq (c : Dev nD) (r : Fin 16384) (e : Fin 1024) : dpre (V2 m ρ c main_arg0) (V2 m ρ c main_arg4) (V2 m ρ c main_arg3) (V2 m ρ c main_v1_1) r e
    = Cert.S5GluRefIdeal.Value.DP (y1 m c) (wg m c) (bg m c) (wo m c) (dz m c) (ix2 r e) := by
  rw [Cert.S5GluRefIdeal.Value.DP_at]
  unfold dpre
  rw [prod_eq, read_gate, at2 m ρ c main_arg0 (by decide), mul_assoc, mul_comm (y1 m c (ix2 r e))]

/-- What the run leaves in the results and the arguments. -/
theorem leaves : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_v2_1) = W4 m ρ c (Proc.devRef .tc main_v2_1)
      ∧ r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v3 (by decide)), h c _ (mem_uc main_v4 (by decide)), h c _ (mem_uc main_v2_1 (by decide)),
    h c _ (mem_uc main_v8 (by decide)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c),
    (h c _ (mem_uc main_arg4 (by decide))).trans (W4_main_arg4 m ρ c)⟩) (ends m ρ)

theorem algebraic : Cert.algebraic_S5GluIdeal_S5GluRefIdeal (hS5GluIdeal := Cert.S5GluIdeal.Gen.facts) (hS5GluRefIdeal := Cert.S5GluRefIdeal.Gen.facts) := by
  intro m g m' g' _ hargs
  refine ⟨fun c => W4 m g c (Proc.devRef .tc main_v3), fun c => W4 m g c (Proc.devRef .tc main_v4), fun c => W4 m g c (Proc.devRef .tc main_v2_1),
    fun c => W4 m g c (Proc.devRef .tc main_v8), leaves m g, ?_⟩
  refine (θ_run _ _ _).mono (fun r h c => ?_) (Cert.S5GluRefIdeal.Value.run m' g')
  obtain ⟨h0, h1, h2, h3, hm⟩ := h c
  obtain ⟨e0, e1, e2, e3, e4⟩ := hargs c
  refine ⟨h0.trans ?_, h1.trans ?_, h2.trans ?_, h3.trans ?_, hm⟩
  · refine Eq.trans ?_ (end3 m g c).symm
    trans mulf (y1 m c) (Cert.S5GluRefIdeal.Value.SG (y1 m c) (wg m c) (bg m c))
    · rw [e0, e1, e2]; rfl
    · funext j
      idx_vars j
      exact (congrArg (y1 m c (ix2 j0 j1) * ·) (Cert.S5GluRefIdeal.Value.SG_at _ _ _ j0 j1)).trans (gated_eq m g c j0 j1).symm
  · refine Eq.trans ?_ (end4 m g c).symm
    trans Cert.S5GluRefIdeal.Value.DP (y1 m c) (wg m c) (bg m c) (wo m c) (dz m c)
    · rw [e0, e1, e2, e3, e4]; rfl
    · funext j
      idx_vars j
      exact (dpre_eq m g c j0 j1).symm
  · refine Eq.trans ?_ (end2_1 m g c).symm
    trans mulf (Cert.S5GluRefIdeal.Value.DOT (wo m c) (dz m c)) (Cert.S5GluRefIdeal.Value.SG (y1 m c) (wg m c) (bg m c))
    · rw [e0, e1, e2, e3, e4]; rfl
    · funext j
      idx_vars j
      exact (congrArg₂ (· * ·) (Cert.S5GluRefIdeal.Value.DOT_at _ _ j0 j1) (Cert.S5GluRefIdeal.Value.SG_at _ _ _ j0 j1)).trans (through_eq m g c j0 j1).symm
  · refine Eq.trans ?_ (end8 m g c).symm
    trans Cert.S5GluRefIdeal.Value.DB (y1 m c) (wg m c) (bg m c) (wo m c) (dz m c)
    · rw [e0, e1, e2, e3, e4]; rfl
    · funext j
      idx_vars j
      rw [Cert.S5GluRefIdeal.Value.DB_at]
      refine (Fin.sum_univ_tiles 32 512 rfl _).trans (Finset.sum_congr rfl fun t _ => Finset.sum_congr rfl fun a _ => ?_)
      exact (Cert.S5GluRefIdeal.Value.DP_at _ _ _ _ _ _ j0).symm.trans (dpre_eq m g c _ j0).symm

theorem frame_ref : Cert.quiescent_S5GluRefIdeal (hS5GluRefIdeal := Cert.S5GluRefIdeal.Gen.facts) := by
  intro m ρ _
  set_option maxHeartbeats 1600000 in
  hlo_run
  · exact fun _ => ⟨trivial, trivial, trivial, trivial, trivial⟩
  · exact sem_eq_zero_of_no_sems (by decide) _

end Cert.S5GluIdeal.Value
-- ==== Proof.FfnFwdArr.lean ====
module

public import proofs.«01_k».proof.Proof.Gen.FfnFwdIdeal.Frame
public import proofs.«01_k».proof.Proof.GateMath
public import proofs.«01_k».proof.Proof.LnbMath
public import Idealize.ShloMosaic.Lib.Pipeline.ValueKit
public import Idealize.ShloMosaic.Lib.Pipeline.ReadBack
public import Idealize.ShloMosaic.Lib.Pointwise
public import Idealize.ShloMosaic.Lib.Claim

/-! The feed-forward sub-layer: what the two kernels' arrays hold, whatever they were entered with. -/

@[expose] public section
set_option maxRecDepth 16384
noncomputable section
namespace Cert.FfnFwdIdeal.Value
open Idealize.ShloMosaic Idealize.ShloMosaic.TcCoe Idealize.SL.Sem
open Idealize.ShloMosaic.Pipeline (Dat)
open Cert.FfnFwdIdeal Cert.FfnFwdIdeal.Gen Cert.Gate

theorem idx0 : ∀ t : Fin cfg0.N, win0_0.index t = ![t.val % 32, 0] ∧ win0_1.index t = ![0, t.val / 32] ∧ win0_2.index t = ![0, t.val / 32 + 2]
    ∧ win0_3.index t = ![t.val % 32, t.val / 32] ∧ win0_4.index t = ![t.val % 32, t.val / 32] ∧ win0_5.index t = ![t.val % 32, t.val / 32] :=
  (by decide +kernel : ∀ t : Fin grid0.N, _)
theorem idx1 : ∀ t : Fin cfg1.N, win1_0.index t = ![t.val, 0] ∧ win1_1.index t = ![0, 0] ∧ win1_2.index t = ![t.val, 0]
    ∧ win1_3.index t = ![0, 0] ∧ win1_4.index t = ![0, 0] ∧ win1_5.index t = ![t.val, 0] ∧ win1_6.index t = ![t.val, 0] :=
  (by decide +kernel : ∀ t : Fin grid1.N, _)

section
variable (H : FVec Ideal S16384x1024 .f32) (I : FVec Ideal S1024x5632 .f32)
/-- The gate's product. -/
def gg (r : Fin 16384) (e : Fin 2816) : EReal := ∑ q : Fin 1024, H (ix2 r q) * I (ix2 q ⟨e.val, by omega⟩)
/-- The other factor's product. -/
def uu (r : Fin 16384) (e : Fin 2816) : EReal := ∑ q : Fin 1024, H (ix2 r q) * I (ix2 q ⟨2816 + e.val, by omega⟩)
/-- The gated product. -/
def act (r : Fin 16384) (e : Fin 2816) : EReal := gg H I r e * sgm (gg H I r e) * uu H I r e
end

section
variable (A : FVec Ideal S16384x2816 .bf16) (W : FVec Ideal S2816x1024 .f32) (H : FVec Ideal S16384x1024 .f32) (g b : FVec Ideal S1x1024 .f32)
/-- The weight of the residual. -/
abbrev al : EReal := Ideal.ofBits .f32 0x3FD744FD#32
/-- The residual and the second product. -/
def zz (r : Fin 16384) (e : Fin 1024) : EReal := al * H (ix2 r e) + ∑ q : Fin 2816, A (ix2 r q) * W (ix2 q e)
/-- The layer norm's entry. -/
def out (r : Fin 16384) (e : Fin 1024) : EReal := Cert.Lnb.xh (zz A W H r) e * g (ix2 0 e) + b (ix2 0 e)
end

/-- An array from its entries. -/
abbrev ARR {n : ℕ} (f : Fin 16384 → Fin n → EReal) : FVec Ideal ⟨2, ![16384, n]⟩ .f32 := fun i => f (i 0) (i 1)
/-- The same at the narrow type. -/
abbrev ARRB {n : ℕ} (f : Fin 16384 → Fin n → EReal) : FVec Ideal ⟨2, ![16384, n]⟩ .bf16 := fun i => f (i 0) (i 1)

variable (V : (c : Dev nD) → (b : Ref sig .tc) → Buf (Elt Ideal) ((c : Thread nD τ).loc b))

theorem final0_3 (c : Dev nD) : (dat0 V c).arrAt 3 cfg0.N = ARR fun r e => gg (V c main_arg0) (V c main_arg1) r e := by
  refine (dat0 V c).arrAt_eq_of_covers 3 _ (by decide +kernel) fun t _ y => ?_
  blk_simp
  rw [after0_3]; unfold Gen.outsAt0; frame_open
  simp (disch := decide) only [↓ View.readCov_skip, ↓ View.readCov_cons_toLoadRect, ↓ View.readCov_fill]
  frame_out
  pointwise [k0_pay6, k0_pay5, k0_pay4, k0_pay3, k0_pay2, k0_pay1, View.ld_apply, ARR, gg]
  blk_point [iblk0, idx0 t]

theorem final0_4 (c : Dev nD) : (dat0 V c).arrAt 4 cfg0.N = ARR fun r e => uu (V c main_arg0) (V c main_arg1) r e := by
  refine (dat0 V c).arrAt_eq_of_covers 4 _ (by decide +kernel) fun t _ y => ?_
  blk_simp
  rw [after0_4]; unfold Gen.outsAt0; frame_open
  simp (disch := decide) only [↓ View.readCov_skip, ↓ View.readCov_cons_toLoadRect, ↓ View.readCov_fill]
  frame_out
  pointwise [k0_pay6, k0_pay5, k0_pay4, k0_pay3, k0_pay2, k0_pay1, View.ld_apply, ARR, uu]
  blk_point [iblk0, idx0 t]

theorem final0_5 (c : Dev nD) : (dat0 V c).arrAt 5 cfg0.N = ARRB fun r e => act (V c main_arg0) (V c main_arg1) r e := by
  refine (dat0 V c).arrAt_eq_of_covers 5 _ (by decide +kernel) fun t _ y => ?_
  blk_simp
  rw [after0_5]; unfold Gen.outsAt0; frame_open
  simp (disch := decide) only [↓ View.readCov_skip, ↓ View.readCov_cons_toLoadRect, ↓ View.readCov_fill]
  frame_out
  pointwise [k0_pay6, k0_pay5, k0_pay4, k0_pay3, k0_pay2, k0_pay1, View.ld_apply, ARRB, act, sgm, gg, uu]
  blk_point [iblk0, idx0 t]

theorem final1_5 (c : Dev nD) : (dat1 V c).arrAt 5 cfg1.N = ARR fun r e => zz (V c main_v2_2) (V c main_arg2) (V c main_arg0) r e := by
  refine (dat1 V c).arrAt_eq_of_covers 5 _ (by decide +kernel) fun t _ y => ?_
  blk_simp
  rw [after1_5]; unfold Gen.outsAt1; frame_out
  pointwise [k1_pay3, k1_pay2, k1_pay1, ARR, zz]
  blk_point [iblk1, idx1 t]

theorem final1_6 (c : Dev nD) : (dat1 V c).arrAt 6 cfg1.N
    = ARR fun r e => out (V c main_v2_2) (V c main_arg2) (V c main_arg0) (V c main_v0) (V c main_v1) r e := by
  refine (dat1 V c).arrAt_eq_of_covers 6 _ (by decide +kernel) fun t _ y => ?_
  blk_simp
  rw [after1_6]; unfold Gen.outsAt1; frame_out
  pointwise [k1_pay4, k1_pay3, k1_pay2, k1_pay1, ARR, out, Cert.Lnb.xh, Cert.Lnb.rs, Cert.Lnb.ve, Cert.Lnb.zc, zz]
  blk_point [iblk1, idx1 t]

end Cert.FfnFwdIdeal.Value
-- ==== Proof.FfnFwdRun.lean ====
module

public import proofs.«01_k».proof.Proof.FfnFwdArr

/-! The run of the feed-forward sub-layer's two kernels: what its five results hold. -/

@[expose] public section
set_option maxRecDepth 16384
noncomputable section
namespace Cert.FfnFwdIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.FfnFwdIdeal Cert.FfnFwdIdeal.Gen Cert.Gate

/-- The resources of a run. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every buffer at the last boundary's contents. -/
theorem ends : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The boundaries -/

/-- The norm's weights as a row. -/
theorem v0_at (c : Dev nD) (j : Fin 1024) : V2 m ρ c main_v0 (ix2 0 j) = m ((c : Thread nD τ).loc main_arg3) (ix1 j) := by
  have h : V2 m ρ c main_v0 = shapeCast S1x1024 (m ((c : Thread nD τ).loc main_arg3)) shapeCasts_S1024_S1x1024 := by
    refine (W2_of m ρ c main_v0 (by decide)).trans ?_
    show StableHlo.after (hostOps0 (F := Ideal)) (W0 m ρ c) (Proc.devRef .tc main_v0) = _
    after_results; rfl
  rw [h]; pointwise
/-- The norm's shifts as a row. -/
theorem v1_at (c : Dev nD) (j : Fin 1024) : V2 m ρ c main_v1 (ix2 0 j) = m ((c : Thread nD τ).loc main_arg4) (ix1 j) := by
  have h : V2 m ρ c main_v1 = shapeCast S1x1024 (m ((c : Thread nD τ).loc main_arg4)) shapeCasts_S1024_S1x1024 := by
    refine (W2_of m ρ c main_v1 (by decide)).trans ?_
    show StableHlo.after (hostOps0 (F := Ideal)) (W0 m ρ c) (Proc.devRef .tc main_v1) = _
    after_results; rfl
  rw [h]; pointwise

theorem at1 (c : Dev nD) (a : Ref sig .tc) (h : a ∈ argRefs) : V1 m ρ c a = m ((c : Thread nD τ).loc a) := W1_args m ρ c a h
theorem at2 (c : Dev nD) (a : Ref sig .tc) (h : a ∈ argRefs) : V2 m ρ c a = m ((c : Thread nD τ).loc a) := W2_args m ρ c a h

/-- The arguments as launched. -/
abbrev h0 (c : Dev nD) : FVec Ideal S16384x1024 .f32 := m ((c : Thread nD τ).loc main_arg0)
abbrev wi (c : Dev nD) : FVec Ideal S1024x5632 .f32 := m ((c : Thread nD τ).loc main_arg1)
abbrev wo (c : Dev nD) : FVec Ideal S2816x1024 .f32 := m ((c : Thread nD τ).loc main_arg2)
abbrev g0 (c : Dev nD) : FVec Ideal S1024 .f32 := m ((c : Thread nD τ).loc main_arg3)
abbrev b0 (c : Dev nD) : FVec Ideal S1024 .f32 := m ((c : Thread nD τ).loc main_arg4)

/-- The gated product, where the second kernel reads it. -/
theorem act_at (c : Dev nD) : V2 m ρ c main_v2_2 = ARRB fun r e => act (h0 m c) (wi m c) r e := by
  refine (W2_arr m ρ c 5).trans ((final0_5 (V1 m ρ) c).trans ?_)
  rw [at1 m ρ c main_arg0 (by decide), at1 m ρ c main_arg1 (by decide)]

theorem end2_0 (c : Dev nD) : W4 m ρ c (Proc.devRef .tc main_v2_0) = ARR fun r e => gg (h0 m c) (wi m c) r e := by
  refine (W4_of m ρ c main_v2_0 (by decide)).trans ((W3_of m ρ c main_v2_0 (by decide)).trans ((W2_arr m ρ c 3).trans ((final0_3 (V1 m ρ) c).trans ?_)))
  rw [at1 m ρ c main_arg0 (by decide), at1 m ρ c main_arg1 (by decide)]
theorem end2_1 (c : Dev nD) : W4 m ρ c (Proc.devRef .tc main_v2_1) = ARR fun r e => uu (h0 m c) (wi m c) r e := by
  refine (W4_of m ρ c main_v2_1 (by decide)).trans ((W3_of m ρ c main_v2_1 (by decide)).trans ((W2_arr m ρ c 4).trans ((final0_4 (V1 m ρ) c).trans ?_)))
  rw [at1 m ρ c main_arg0 (by decide), at1 m ρ c main_arg1 (by decide)]
/-- The gated product as the second kernel leaves it: an input there. -/
theorem act_end (c : Dev nD) : W3 m ρ c (Proc.devRef .tc main_v2_2) = ARRB fun r e => act (h0 m c) (wi m c) r e :=
  (W3_of m ρ c main_v2_2 (by decide)).trans (act_at m ρ c)
theorem end4 (c : Dev nD) : W4 m ρ c (Proc.devRef .tc main_v4) = ARR fun r e => act (h0 m c) (wi m c) r e := by
  show StableHlo.after hostOps2 _ (Proc.devRef .tc main_v4) = _
  after_results
  rw [act_end]
  rfl
theorem end3_0 (c : Dev nD) : W4 m ρ c (Proc.devRef .tc main_v3_0) = ARR fun r e => zz (V2 m ρ c main_v2_2) (wo m c) (h0 m c) r e := by
  refine (W4_of m ρ c main_v3_0 (by decide)).trans ((W3_arr m ρ c 5).trans ((final1_5 (V2 m ρ) c).trans ?_))
  rw [at2 m ρ c main_arg0 (by decide), at2 m ρ c main_arg2 (by decide)]
theorem end3_1 (c : Dev nD) : W4 m ρ c (Proc.devRef .tc main_v3_1)
    = ARR fun r e => out (V2 m ρ c main_v2_2) (wo m c) (h0 m c) (V2 m ρ c main_v0) (V2 m ρ c main_v1) r e := by
  refine (W4_of m ρ c main_v3_1 (by decide)).trans ((W3_arr m ρ c 6).trans ((final1_6 (V2 m ρ) c).trans ?_))
  rw [at2 m ρ c main_arg0 (by decide), at2 m ρ c main_arg2 (by decide)]

end Cert.FfnFwdIdeal.Value
-- ==== Proof.FfnFwdRef.lean ====
module

public import proofs.«01_k».proof.Proof.FfnFwdArr
public import proofs.«01_k».proof.Proof.Gen.FfnFwdRefIdeal.Run

/-! What the reference of the feed-forward sub-layer computes, entry by entry. -/

@[expose] public section
set_option maxRecDepth 16384
noncomputable section
namespace Cert.FfnFwdRefIdeal.Value
open Idealize.ShloMosaic Idealize.ShloMosaic.TcCoe Idealize.SL.Sem
open Cert.FfnFwdRefIdeal Cert.FfnFwdRefIdeal.Gen Cert.Gate
open Cert.FfnFwdIdeal.Value (gg uu act zz)

section
variable (a0 : FVec Ideal S16384x1024 .f32) (a1 : FVec Ideal S1024x5632 .f32)
/-- The product with the gate's and the other factor's weights. -/
abbrev D : FVec Ideal S16384x5632 .f32 := Host.dotGeneral dot_S16384x1024_S1024x5632_S16384x5632_1_0_0_1_n_n none a0 a1
abbrev ONE : FVec Ideal S16384x2816 .f32 := broadcastInDim S16384x2816 ![] bcast_S_S16384x2816 (constant S_ .f32 0x3F800000#32)
abbrev ZERO : FVec Ideal S_ .f32 := constant S_ .f32 0x00000000#32
/-- The gate's half. -/
def GG : FVec Ideal S16384x2816 .f32 := extractStridedSlice S16384x2816 ![0, 0] (D a0 a1) slices_S16384x5632_S16384x2816_0_0
/-- The other half. -/
def UU : FVec Ideal S16384x2816 .f32 := extractStridedSlice S16384x2816 ![0, 2816] (D a0 a1) slices_S16384x5632_S16384x2816_0_2816
/-- The gated product. -/
def ACT : FVec Ideal S16384x2816 .f32 := mulf (mulf (GG a0 a1) (Host.divf ONE (addf ONE (Host.exp (Host.negf (GG a0 a1)))))) (UU a0 a1)

theorem GG_at (r : Fin 16384) (e : Fin 2816) : GG a0 a1 (ix2 r e) = gg a0 a1 r e := by
  pointwise [GG, gg]
theorem UU_at (r : Fin 16384) (e : Fin 2816) : UU a0 a1 (ix2 r e) = uu a0 a1 r e := by
  pointwise [UU, uu]
theorem ACT_at (r : Fin 16384) (e : Fin 2816) : ACT a0 a1 (ix2 r e) = act a0 a1 r e := by
  unfold act
  rw [← GG_at, ← UU_at]
  pointwise [ACT, sgm]
  rw [zero_sub]
end

section
variable (A : FVec Ideal S16384x2816 .f32) (a0 : FVec Ideal S16384x1024 .f32) (a2 : FVec Ideal S2816x1024 .f32)
/-- The residual and the second product. -/
def Z : FVec Ideal S16384x1024 .f32 := addf (mulf (broadcastInDim S16384x1024 ![] bcast_S_S16384x1024 (constant S_ .f32 0x3FD744FD#32)) a0)
  (Host.dotGeneral dot_S16384x2816_S2816x1024_S16384x1024_1_0_0_1_n_n none A a2)
theorem Z_at (r : Fin 16384) (e : Fin 1024) : Z A a0 a2 (ix2 r e) = zz A a2 a0 r e := by
  pointwise [Z, zz]
end

section
variable (X : FVec Ideal S16384x1024 .f32) (a3 a4 : FVec Ideal S1024 .f32)
abbrev LEN : FVec Ideal S16384x1 .f32 := broadcastInDim S16384x1 ![] bcast_S_S16384x1 (constant S_ .f32 0x44800000#32)
/-- The rows' means. -/
def MEAN : FVec Ideal S16384x1 .f32 := Host.divf (broadcastInDim S16384x1 ![0] bcast_S16384_S16384x1_0 (Host.reduceAdd X ZERO reducesTo_S16384x1024_S16384_d1 h_S_)) LEN
/-- The rows less their means. -/
def CEN : FVec Ideal S16384x1024 .f32 := subf X (broadcastInDim S16384x1024 ![0, 1] bcast_S16384x1_S16384x1024_0_1 (MEAN X))
/-- The layer norm. -/
def NORM : FVec Ideal S16384x1024 .f32 := addf (mulf (mulf (CEN X) (broadcastInDim S16384x1024 ![0, 1] bcast_S16384x1_S16384x1024_0_1
    (Host.rsqrt (addf (MEAN (mulf (CEN X) (CEN X))) (broadcastInDim S16384x1 ![] bcast_S_S16384x1 (constant S_ .f32 0x3727C5AC#32))))))
  (broadcastInDim S16384x1024 ![0, 1] bcast_S1x1024_S16384x1024_0_1 (broadcastInDim S1x1024 ![1] bcast_S1024_S1x1024_1 a3)))
  (broadcastInDim S16384x1024 ![0, 1] bcast_S1x1024_S16384x1024_0_1 (broadcastInDim S1x1024 ![1] bcast_S1024_S1x1024_1 a4))

theorem CEN_at (r : Fin 16384) (e : Fin 1024) : CEN X (ix2 r e) = Cert.Lnb.zc (fun j => X (ix2 r j)) e := by
  pointwise [CEN, MEAN, Cert.Lnb.zc]
theorem NORM_at (r : Fin 16384) (e : Fin 1024) : NORM X a3 a4 (ix2 r e)
    = Cert.Lnb.xh (fun j => X (ix2 r j)) e * a3 (ix1 e) + a4 (ix1 e) := by
  unfold Cert.Lnb.xh Cert.Lnb.rs Cert.Lnb.ve
  simp only [← CEN_at]
  unfold NORM
  generalize CEN X = C
  pointwise [MEAN]
end

end Cert.FfnFwdRefIdeal.Value
-- ==== Proof.FfnFwdValue.lean ====
module

public import proofs.«01_k».proof.Defs
public import proofs.«01_k».proof.Proof.FfnFwdRun
public import proofs.«01_k».proof.Proof.FfnFwdRef

/-! The feed-forward sub-layer: the kernels' results are the reference's. -/

@[expose] public section
set_option maxRecDepth 16384
noncomputable section
namespace Cert.FfnFwdIdeal.Value
open Idealize.ShloMosaic Idealize.ShloMosaic.TcCoe Idealize.SL.Sem
open Cert.FfnFwdIdeal Cert.FfnFwdIdeal.Gen Cert.Gate

variable (m : (ℓ : Loc nD τ sig) → Buf (Elt Ideal) ℓ) (ρ : Dev nD → PrngReg)

/-- The reference's gated product, as the second kernel reads it. -/
abbrev AR (c : Dev nD) : FVec Ideal S16384x2816 .f32 := Cert.FfnFwdRefIdeal.Value.ACT (h0 m c) (wi m c)
theorem read_act (c : Dev nD) (r : Fin 16384) (e : Fin 2816) : (V2 m ρ c main_v2_2 : FVec Ideal S16384x2816 .bf16) (ix2 r e) = AR m c (ix2 r e) := by
  rw [act_at]
  exact (Cert.FfnFwdRefIdeal.Value.ACT_at _ _ r e).symm
theorem zz_eq (c : Dev nD) (r : Fin 16384) (e : Fin 1024) : zz (V2 m ρ c main_v2_2) (wo m c) (h0 m c) r e
    = Cert.FfnFwdRefIdeal.Value.Z (AR m c) (h0 m c) (wo m c) (ix2 r e) := by
  rw [Cert.FfnFwdRefIdeal.Value.Z_at]
  unfold zz
  exact congrArg (al * h0 m c (ix2 r e) + ·) (Finset.sum_congr rfl fun q _ => congrArg (· * wo m c (ix2 q e)) (read_act m ρ c r q))
theorem out_eq (c : Dev nD) (r : Fin 16384) (e : Fin 1024) : out (V2 m ρ c main_v2_2) (wo m c) (h0 m c) (V2 m ρ c main_v0) (V2 m ρ c main_v1) r e
    = Cert.FfnFwdRefIdeal.Value.NORM (Cert.FfnFwdRefIdeal.Value.Z (AR m c) (h0 m c) (wo m c)) (g0 m c) (b0 m c) (ix2 r e) := by
  rw [Cert.FfnFwdRefIdeal.Value.NORM_at]
  unfold out
  rw [v0_at, v1_at]
  simp only [← zz_eq m ρ]

/-- What the run leaves in the results and the arguments. -/
theorem leaves : θ_run defs (onTc (τ := τ) (main (F := Ideal))) ⟨m, fun _ => 0, ρ⟩ (fun r => ∀ c : Dev nD,
      r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v4) = W4 m ρ c (Proc.devRef .tc main_v4)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c _ (mem_uc main_v2_0 (by decide)), h c _ (mem_uc main_v2_1 (by decide)), h c _ (mem_uc main_v4 (by decide)),
    h c _ (mem_uc main_v3_0 (by decide)), h c _ (mem_uc main_v3_1 (by decide)),
    (h c _ (mem_uc main_arg0 (by decide))).trans (W4_main_arg0 m ρ c), (h c _ (mem_uc main_arg1 (by decide))).trans (W4_main_arg1 m ρ c),
    (h c _ (mem_uc main_arg2 (by decide))).trans (W4_main_arg2 m ρ c), (h c _ (mem_uc main_arg3 (by decide))).trans (W4_main_arg3 m ρ c),
    (h c _ (mem_uc main_arg4 (by decide))).trans (W4_main_arg4 m ρ c)⟩) (ends m ρ)

theorem algebraic : Cert.algebraic_FfnFwdIdeal_FfnFwdRefIdeal (hFfnFwdIdeal := Cert.FfnFwdIdeal.Gen.facts) (hFfnFwdRefIdeal := Cert.FfnFwdRefIdeal.Gen.facts) := by
  intro m g m' g' _ hargs
  refine ⟨fun c => W4 m g c (Proc.devRef .tc main_v2_0), fun c => W4 m g c (Proc.devRef .tc main_v2_1), fun c => W4 m g c (Proc.devRef .tc main_v4),
    fun c => W4 m g c (Proc.devRef .tc main_v3_0), fun c => W4 m g c (Proc.devRef .tc main_v3_1), leaves m g, ?_⟩
  refine (θ_run _ _ _).mono (fun r h c => ?_) (Cert.FfnFwdRefIdeal.Value.run m' g')
  obtain ⟨q0, q1, q2, q3, q4, hm⟩ := h c
  obtain ⟨e0, e1, e2, e3, e4⟩ := hargs c
  refine ⟨q0.trans ?_, q1.trans ?_, q2.trans ?_, q3.trans ?_, q4.trans ?_, hm⟩
  · refine Eq.trans ?_ (end2_0 m g c).symm
    trans Cert.FfnFwdRefIdeal.Value.GG (h0 m c) (wi m c)
    · rw [e0, e1]; rfl
    · funext j
      idx_vars j
      exact Cert.FfnFwdRefIdeal.Value.GG_at _ _ j0 j1
  · refine Eq.trans ?_ (end2_1 m g c).symm
    trans Cert.FfnFwdRefIdeal.Value.UU (h0 m c) (wi m c)
    · rw [e0, e1]; rfl
    · funext j
      idx_vars j
      exact Cert.FfnFwdRefIdeal.Value.UU_at _ _ j0 j1
  · refine Eq.trans ?_ (end4 m g c).symm
    trans AR m c
    · rw [e0, e1]; rfl
    · funext j
      idx_vars j
      exact Cert.FfnFwdRefIdeal.Value.ACT_at _ _ j0 j1
  · refine Eq.trans ?_ (end3_0 m g c).symm
    trans Cert.FfnFwdRefIdeal.Value.Z (AR m c) (h0 m c) (wo m c)
    · rw [e0, e1, e2]; rfl
    · funext j
      idx_vars j
      exact (zz_eq m g c j0 j1).symm
  · refine Eq.trans ?_ (end3_1 m g c).symm
    trans Cert.FfnFwdRefIdeal.Value.NORM (Cert.FfnFwdRefIdeal.Value.Z (AR m c) (h0 m c) (wo m c)) (g0 m c) (b0 m c)
    · unfold Cert.FfnFwdRefIdeal.Value.res_main_v32; rw [e0, e1, e2, e3, e4]; rfl
    · funext j
      idx_vars j
      exact (out_eq m g c j0 j1).symm

theorem frame_ref : Cert.quiescent_FfnFwdRefIdeal (hFfnFwdRefIdeal := Cert.FfnFwdRefIdeal.Gen.facts) := by
  intro m ρ _
  set_option maxHeartbeats 1600000 in
  hlo_run
  · exact fun _ => ⟨trivial, trivial, trivial, trivial, trivial⟩
  · exact sem_eq_zero_of_no_sems (by decide) _

end Cert.FfnFwdIdeal.Value
-- ==== Proof.InDXArr.lean ====
module

public import proofs.«01_k».proof.Proof.Gen.InDXIdeal.Frame
public import Idealize.ShloMosaic.Lib.Pipeline.ValueKit
public import Idealize.ShloMosaic.Lib.Pipeline.ReadBack
public import Idealize.ShloMosaic.Lib.Pointwise
public import Idealize.ShloMosaic.Lib.Claim

/-! The gradients of the layers' inputs: what the three kernels' arrays hold, whatever they were entered with. -/

@[expose] public section
set_option maxRecDepth 16384
noncomputable section
namespace Cert.InDXIdeal.Value
open Idealize.ShloMosaic Idealize.ShloMosaic.TcCoe Idealize.SL.Sem
open Idealize.ShloMosaic.Pipeline (Dat)
open Cert.InDXIdeal Cert.InDXIdeal.Gen

theorem idx0 : ∀ t : Fin cfg0.N, win0_0.index t = ![t.val, 0] ∧ win0_1.index t = ![t.val, 0] ∧ win0_2.index t = ![0, 0]
    ∧ win0_3.index t = ![0, 1] ∧ win0_4.index t = ![t.val, 0] ∧ win0_5.index t = ![t.val, 0] := (by decide +kernel : ∀ t : Fin grid0.N, _)
theorem idx1 : ∀ t : Fin cfg1.N, win1_0.index t = ![t.val, 0] ∧ win1_1.index t = ![0, 0] ∧ win1_2.index t = ![t.val, 0]
    ∧ win1_3.index t = ![t.val, 0] := (by decide +kernel : ∀ t : Fin grid1.N, _)
theorem idx2 : ∀ t : Fin cfg2.N, win2_0.index t = ![t.val, 0] ∧ win2_1.index t = ![0, 0] ∧ win2_2.index t = ![t.val, 0]
    ∧ win2_3.index t = ![t.val, 0] := (by decide +kernel : ∀ t : Fin grid2.N, _)

/-- The weight of the residual. -/
abbrev al : EReal := Ideal.ofBits .f32 0x3FD744FD#32

section
variable (G U : FVec Ideal S16384x2816 .bf16) (W : FVec Ideal S1024x5632 .f32) (Z : FVec Ideal S16384x1024 .f32)
/-- The feed-forward sub-layer's entry: its weights' two halves, and the residual. -/
def ff (r : Fin 16384) (e : Fin 1024) : EReal := (∑ q : Fin 2816, G (ix2 r q) * W (ix2 e ⟨q.val, by omega⟩))
  + (∑ q : Fin 2816, U (ix2 r q) * W (ix2 e ⟨2816 + q.val, by omega⟩)) + al * Z (ix2 r e)
end
section
variable (D : FVec Ideal S16384x1024 .f32) (W : FVec Ideal S1024x1024 .f32) (Z : FVec Ideal S16384x1024 .f32)
/-- The state-space layer's entry. -/
def ss (r : Fin 16384) (e : Fin 1024) : EReal := (∑ q : Fin 1024, D (ix2 r q) * W (ix2 e q)) + al * Z (ix2 r e)
end
section
variable (D : FVec Ideal S16384x5120 .bf16) (W : FVec Ideal S1024x5120 .f32) (Z : FVec Ideal S16384x1024 .f32)
/-- The gated recurrence's entry. -/
def hh (r : Fin 16384) (e : Fin 1024) : EReal := (∑ q : Fin 5120, D (ix2 r q) * W (ix2 e q)) + al * Z (ix2 r e)
end

/-- An array from its entries. -/
abbrev ARR (f : Fin 16384 → Fin 1024 → EReal) : FVec Ideal S16384x1024 .f32 := fun i => f (i 0) (i 1)

variable (V : (c : Dev nD) → (b : Ref sig .tc) → Buf (Elt Ideal) ((c : Thread nD τ).loc b))

theorem final0_5 (c : Dev nD) : (dat0 V c).arrAt 5 cfg0.N = ARR fun r e => ff (V c main_v0) (V c main_v1) (V c main_arg3) (V c main_arg2) r e := by
  refine (dat0 V c).arrAt_eq_of_covers 5 _ (by decide +kernel) fun t _ y => ?_
  blk_simp
  rw [after0_5]; unfold Gen.outsAt0; frame_open
  simp (disch := decide) only [↓ View.readCov_skip, ↓ View.readCov_cons_toLoadRect, ↓ View.readCov_fill]
  frame_out
  pointwise [k0_pay4, k0_pay3, k0_pay2, k0_pay1, ARR, ff]
  blk_point [iblk0, idx0 t]

theorem final1_3 (c : Dev nD) : (dat1 V c).arrAt 3 cfg1.N = ARR fun r e => ss (V c main_arg4) (V c main_arg6) (V c main_arg5) r e := by
  refine (dat1 V c).arrAt_eq_of_covers 3 _ (by decide +kernel) fun t _ y => ?_
  blk_simp
  rw [after1_3]; unfold Gen.outsAt1; frame_out
  pointwise [k1_pay3, k1_pay2, k1_pay1, ARR, ss]
  blk_point [iblk1, idx1 t]

theorem final2_3 (c : Dev nD) : (dat2 V c).arrAt 3 cfg2.N = ARR fun r e => hh (V c main_v5) (V c main_arg13) (V c main_arg12) r e := by
  refine (dat2 V c).arrAt_eq_of_covers 3 _ (by decide +kernel) fun t _ y => ?_
  blk_simp
  rw [after2_3]; unfold Gen.outsAt2; frame_out
  pointwise [k2_pay3, k2_pay2, k2_pay1, ARR, hh]
  blk_point [iblk2, idx2 t]

end Cert.InDXIdeal.Value
-- ==== Proof.InDXRun.lean ====
module

public import proofs.«01_k».proof.Proof.InDXArr

/-! The run of the three kernels: what its results hold. -/

@[expose] public section
set_option maxRecDepth 16384
noncomputable section
namespace Cert.InDXIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.InDXIdeal Cert.InDXIdeal.Gen

/-- The resources of a run. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every buffer at the last boundary's contents. -/
theorem ends : θ_run defs (onTc (τ := τ) (main (F := Ideal))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! ## The boundaries -/

/-- The arguments as launched. -/
abbrev dgate (c : Dev nD) : FVec Ideal S16384x2816 .f32 := m ((c : Thread nD τ).loc main_arg0)
abbrev dup (c : Dev nD) : FVec Ideal S16384x2816 .f32 := m ((c : Thread nD τ).loc main_arg1)
abbrev dzf (c : Dev nD) : FVec Ideal S16384x1024 .f32 := m ((c : Thread nD τ).loc main_arg2)
abbrev wf (c : Dev nD) : FVec Ideal S1024x5632 .f32 := m ((c : Thread nD τ).loc main_arg3)
abbrev du (c : Dev nD) : FVec Ideal S16384x1024 .f32 := m ((c : Thread nD τ).loc main_arg4)
abbrev dzs (c : Dev nD) : FVec Ideal S16384x1024 .f32 := m ((c : Thread nD τ).loc main_arg5)
abbrev ws (c : Dev nD) : FVec Ideal S1024x1024 .f32 := m ((c : Thread nD τ).loc main_arg6)
abbrev dzh (c : Dev nD) : FVec Ideal S16384x1024 .f32 := m ((c : Thread nD τ).loc main_arg12)
abbrev wh (c : Dev nD) : FVec Ideal S1024x5120 .f32 := m ((c : Thread nD τ).loc main_arg13)
/-- The gradient of the gate, rounded for the first kernel. -/
theorem v0_at (c : Dev nD) : V1 m ρ c main_v0 = (truncf .bf16 (dgate m c) bitsLt_bf16_f32 : FVec Ideal S16384x2816 .bf16) := by
  show StableHlo.after (hostOps0 (F := Ideal)) (W0 m ρ c) (Proc.devRef .tc main_v0) = _
  after_results
/-- The gradient of the other factor, rounded for the first kernel. -/
theorem v1_at (c : Dev nD) : V1 m ρ c main_v1 = (truncf .bf16 (dup m c) bitsLt_bf16_f32 : FVec Ideal S16384x2816 .bf16) := by
  show StableHlo.after (hostOps0 (F := Ideal)) (W0 m ρ c) (Proc.devRef .tc main_v1) = _
  after_results

theorem at1 (c : Dev nD) (a : Ref sig .tc) (h : a ∈ argRefs) : V1 m ρ c a = m ((c : Thread nD τ).loc a) := W1_args m ρ c a h
theorem at2 (c : Dev nD) (a : Ref sig .tc) (h : a ∈ argRefs) : V2 m ρ c a = m ((c : Thread nD τ).loc a) := W2_args m ρ c a h
theorem at3 (c : Dev nD) (a : Ref sig .tc) (h : a ∈ argRefs) : W3 m ρ c (Proc.devRef .tc a) = m ((c : Thread nD τ).loc a) := W3_args m ρ c a h
theorem at4 (c : Dev nD) (a : Ref sig .tc) (h : a ∈ argRefs) : V4 m ρ c a = m ((c : Thread nD τ).loc a) := W4_args m ρ c a h

/-- Five gradients side by side. -/
def cat (x0 x1 x2 x3 x4 : FVec Ideal S16384x1024 .f32) : FVec Ideal S16384x5120 .f32 :=
  concatenate S16384x5120 1 [⟨S16384x1024, x0⟩, ⟨S16384x1024, x1⟩, ⟨S16384x1024, x2⟩, ⟨S16384x1024, x3⟩, ⟨S16384x1024, x4⟩]
    concatenates_S16384x1024_S16384x1024_S16384x1024_S16384x1024_S16384x1024_S16384x5120_d1
/-- The five of the gated recurrence. -/
abbrev CAT (c : Dev nD) : FVec Ideal S16384x5120 .f32 := cat (m ((c : Thread nD τ).loc main_arg7)) (m ((c : Thread nD τ).loc main_arg8))
  (m ((c : Thread nD τ).loc main_arg9)) (m ((c : Thread nD τ).loc main_arg10)) (m ((c : Thread nD τ).loc main_arg11))

/-- The five gradients, rounded for the third kernel. -/
theorem v5_at (c : Dev nD) : V4 m ρ c main_v5 = (truncf .bf16 (CAT m c) bitsLt_bf16_f32 : FVec Ideal S16384x5120 .bf16) := by
  have h : V4 m ρ c main_v5 = (truncf .bf16 (cat (W3 m ρ c (Proc.devRef .tc main_arg7)) (W3 m ρ c (Proc.devRef .tc main_arg8)) (W3 m ρ c (Proc.devRef .tc main_arg9))
      (W3 m ρ c (Proc.devRef .tc main_arg10)) (W3 m ρ c (Proc.devRef .tc main_arg11))) bitsLt_bf16_f32 : FVec Ideal S16384x5120 .bf16) := by
    show StableHlo.after (hostOps2 (F := Ideal)) (W3 m ρ c) (Proc.devRef .tc main_v5) = _
    after_results
    rfl
  rw [h, at3 m ρ c main_arg7 (by decide), at3 m ρ c main_arg8 (by decide), at3 m ρ c main_arg9 (by decide), at3 m ρ c main_arg10 (by decide),
    at3 m ρ c main_arg11 (by decide)]

theorem end2 (c : Dev nD) : W5 m ρ c (Proc.devRef .tc main_v2)
    = ARR fun r e => ff (truncf .bf16 (dgate m c) bitsLt_bf16_f32) (truncf .bf16 (dup m c) bitsLt_bf16_f32) (wf m c) (dzf m c) r e := by
  refine (W5_of m ρ c main_v2 (by decide)).trans ((W4_of m ρ c main_v2 (by decide)).trans ((W3_of m ρ c main_v2 (by decide)).trans
    ((W2_arr m ρ c 5).trans ((final0_5 (V1 m ρ) c).trans ?_))))
  rw [v0_at, v1_at, at1 m ρ c main_arg2 (by decide), at1 m ρ c main_arg3 (by decide)]
theorem end3 (c : Dev nD) : W5 m ρ c (Proc.devRef .tc main_v3) = ARR fun r e => ss (du m c) (ws m c) (dzs m c) r e := by
  refine (W5_of m ρ c main_v3 (by decide)).trans ((W4_of m ρ c main_v3 (by decide)).trans ((W3_arr m ρ c 3).trans ((final1_3 (V2 m ρ) c).trans ?_)))
  rw [at2 m ρ c main_arg4 (by decide), at2 m ρ c main_arg5 (by decide), at2 m ρ c main_arg6 (by decide)]
theorem end6 (c : Dev nD) : W5 m ρ c (Proc.devRef .tc main_v6) = ARR fun r e => hh (truncf .bf16 (CAT m c) bitsLt_bf16_f32) (wh m c) (dzh m c) r e := by
  refine (W5_arr m ρ c 3).trans ((final2_3 (V4 m ρ) c).trans ?_)
  rw [v5_at, at4 m ρ c main_arg12 (by decide), at4 m ρ c main_arg13 (by decide)]

end Cert.InDXIdeal.Value
-- ==== Proof.InDXRef.lean ====
module

public import proofs.«01_k».proof.Proof.InDXArr
public import proofs.«01_k».proof.Proof.Gen.InDXRefIdeal.Run

/-! What the reference of the layers' inputs' gradients computes, entry by entry. -/

@[expose] public section
set_option maxRecDepth 16384
noncomputable section
namespace Cert.InDXRefIdeal.Value
open Idealize.ShloMosaic Idealize.ShloMosaic.TcCoe Idealize.SL.Sem
open Cert.InDXRefIdeal Cert.InDXRefIdeal.Gen
open Cert.InDXIdeal.Value (ff ss hh)

/-- The residual's share. -/
abbrev RES (Z : FVec Ideal S16384x1024 .f32) : FVec Ideal S16384x1024 .f32 := mulf (broadcastInDim S16384x1024 ![] bcast_S_S16384x1024 (constant S_ .f32 0x3FD744FD#32)) Z

section
variable (G U : FVec Ideal S16384x2816 .f32) (W : FVec Ideal S1024x5632 .f32) (Z : FVec Ideal S16384x1024 .f32)
/-- The two gradients side by side. -/
def GU : FVec Ideal S16384x5632 .f32 := concatenate S16384x5632 1 [⟨S16384x2816, G⟩, ⟨S16384x2816, U⟩] concatenates_S16384x2816_S16384x2816_S16384x5632_d1
/-- The feed-forward sub-layer's gradient. -/
def FF : FVec Ideal S16384x1024 .f32 := addf (RES Z) (Host.dotGeneral dot_S16384x5632_S1024x5632_S16384x1024_1_1_0_0_n_n none (GU G U) W)

theorem GU_left (r : Fin 16384) (q : Fin 2816) : GU G U (ix2 r ⟨q.val, by omega⟩) = G (ix2 r q) := by
  pointwise [GU]
theorem GU_right (r : Fin 16384) (q : Fin 2816) : GU G U (ix2 r ⟨2816 + q.val, by omega⟩) = U (ix2 r q) := by
  pointwise [GU]
/-- A sum over both halves. -/
theorem halves (f : Fin 5632 → EReal) : ∑ q, f q = (∑ q : Fin 2816, f ⟨q.val, by omega⟩) + ∑ q : Fin 2816, f ⟨2816 + q.val, by omega⟩ :=
  Fin.sum_univ_add (a := 2816) (b := 2816) f
theorem FF_at (r : Fin 16384) (e : Fin 1024) : FF G U W Z (ix2 r e) = ff G U W Z r e := by
  have h : FF G U W Z (ix2 r e) = Cert.InDXIdeal.Value.al * Z (ix2 r e) + ∑ q : Fin 5632, GU G U (ix2 r q) * W (ix2 e q) := by
    unfold FF
    generalize GU G U = X
    pointwise
  rw [h, add_comm]
  unfold ff
  refine congrArg (· + _) ((halves fun q => GU G U (ix2 r q) * W (ix2 e q)).trans (congrArg₂ (· + ·)
    (Finset.sum_congr rfl fun q _ => ?_) (Finset.sum_congr rfl fun q _ => ?_)))
  · exact congrArg (· * _) (GU_left G U r q)
  · exact congrArg (· * _) (GU_right G U r q)
end

section
variable (D : FVec Ideal S16384x1024 .f32) (W : FVec Ideal S1024x1024 .f32) (Z : FVec Ideal S16384x1024 .f32)
/-- The state-space layer's gradient. -/
def SS : FVec Ideal S16384x1024 .f32 := addf (RES Z) (Host.dotGeneral dot_S16384x1024_S1024x1024_S16384x1024_1_1_0_0_n_n none D W)
theorem SS_at (r : Fin 16384) (e : Fin 1024) : SS D W Z (ix2 r e) = ss D W Z r e := by
  pointwise [SS, ss]
  exact add_comm _ _
end

section
variable (D : FVec Ideal S16384x5120 .f32) (W : FVec Ideal S1024x5120 .f32) (Z : FVec Ideal S16384x1024 .f32)
/-- The gated recurrence's gradient. -/
def HH : FVec Ideal S16384x1024 .f32 := addf (RES Z) (Host.dotGeneral dot_S16384x5120_S1024x5120_S16384x1024_1_1_0_0_n_n none D W)
theorem HH_at (r : Fin 16384) (e : Fin 1024) : HH D W Z (ix2 r e) = hh D W Z r e := by
  pointwise [HH, hh]
  exact add_comm _ _
end

end Cert.InDXRefIdeal.Value
-- ==== Proof.InDXValue.lean ====
module

public import proofs.«01_k».proof.Defs
public import proofs.«01_k».proof.Proof.InDXRun
public import proofs.«01_k».proof.Proof.InDXRef

/-! The gradients of the layers' inputs: the kernels' results are the reference's. -/

@[expose] public section
set_option maxRecDepth 16384
noncomputable section
namespace Cert.InDXIdeal.Value
open Idealize.ShloMosaic Idealize.ShloMosaic.TcCoe Idealize.SL.Sem
open Cert.InDXIdeal Cert.InDXIdeal.Gen

variable (m : (ℓ : Loc nD τ sig) → Buf (Elt Ideal) ℓ) (ρ : Dev nD → PrngReg)

/-- What the run leaves in the results and the arguments. -/
theorem leaves : θ_run defs (onTc (τ := τ) (main (F := Ideal))) ⟨m, fun _ => 0, ρ⟩ (fun r => ∀ c : Dev nD,
      r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c _ (mem_uc main_v2 (by decide)), h c _ (mem_uc main_v3 (by decide)), h c _ (mem_uc main_v6 (by decide)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c)⟩) (ends m ρ)

theorem algebraic : Cert.algebraic_InDXIdeal_InDXRefIdeal (hInDXIdeal := Cert.InDXIdeal.Gen.facts) (hInDXRefIdeal := Cert.InDXRefIdeal.Gen.facts) := by
  intro m g m' g' _ hargs
  refine ⟨fun c => W5 m g c (Proc.devRef .tc main_v2), fun c => W5 m g c (Proc.devRef .tc main_v3), fun c => W5 m g c (Proc.devRef .tc main_v6), leaves m g, ?_⟩
  refine (θ_run _ _ _).mono (fun r h c => ?_) (Cert.InDXRefIdeal.Value.run m' g')
  obtain ⟨q0, q1, q2, hm⟩ := h c
  obtain ⟨e0, e1, e2, e3, e4, e5, e6, e7, e8, e9, e10, e11, e12, e13⟩ := hargs c
  refine ⟨q0.trans ?_, q1.trans ?_, q2.trans ?_, hm⟩
  · refine Eq.trans ?_ (end2 m g c).symm
    trans Cert.InDXRefIdeal.Value.FF (dgate m c) (dup m c) (wf m c) (dzf m c)
    · rw [e0, e1, e2, e3]; rfl
    · funext j
      idx_vars j
      exact Cert.InDXRefIdeal.Value.FF_at _ _ _ _ j0 j1
  · refine Eq.trans ?_ (end3 m g c).symm
    trans Cert.InDXRefIdeal.Value.SS (du m c) (ws m c) (dzs m c)
    · rw [e4, e5, e6]; rfl
    · funext j
      idx_vars j
      exact Cert.InDXRefIdeal.Value.SS_at _ _ _ j0 j1
  · refine Eq.trans ?_ (end6 m g c).symm
    trans Cert.InDXRefIdeal.Value.HH (CAT m c) (wh m c) (dzh m c)
    · rw [e7, e8, e9, e10, e11, e12, e13]; rfl
    · funext j
      idx_vars j
      exact Cert.InDXRefIdeal.Value.HH_at _ _ _ j0 j1

theorem frame_ref : Cert.quiescent_InDXRefIdeal (hInDXRefIdeal := Cert.InDXRefIdeal.Gen.facts) := by
  intro m ρ _
  set_option maxHeartbeats 1600000 in
  hlo_run
  · exact fun _ => ⟨trivial, trivial, trivial, trivial, trivial, trivial, trivial, trivial, trivial, trivial, trivial, trivial, trivial, trivial⟩
  · exact sem_eq_zero_of_no_sems (by decide) _

end Cert.InDXIdeal.Value
-- ==== Proof.OutLNArr.lean ====
module

public import proofs.«01_k».proof.Proof.Gen.OutLNIdeal.Frame
public import proofs.«01_k».proof.Proof.LnbMath
public import Idealize.ShloMosaic.Lib.Pipeline.ValueKit
public import Idealize.ShloMosaic.Lib.Pointwise
public import Idealize.ShloMosaic.Lib.Claim

/-! The mixers' last products: what the two kernels' arrays hold, whatever they were entered with. -/

@[expose] public section
set_option maxRecDepth 16384
noncomputable section
namespace Cert.OutLNIdeal.Value
open Idealize.ShloMosaic Idealize.ShloMosaic.TcCoe Idealize.SL.Sem
open Idealize.ShloMosaic.Pipeline (Dat)
open Cert.OutLNIdeal Cert.OutLNIdeal.Gen

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)
theorem idx1 : ∀ t : Fin cfg1.N, win1_0.index t = ![t.val, 0] ∧ win1_1.index t = ![0, 0] ∧ win1_2.index t = ![t.val, 0]
    ∧ win1_3.index t = ![0, 0] ∧ win1_4.index t = ![0, 0] ∧ win1_5.index t = ![t.val, 0] ∧ win1_6.index t = ![t.val, 0] :=
  (by decide +kernel : ∀ t : Fin grid1.N, _)

variable (A : FVec Ideal S16384x1024 .f32) (W : FVec Ideal S1024x1024 .f32) (H : FVec Ideal S16384x1024 .f32)
/-- The weight of the residual. -/
abbrev al : EReal := Ideal.ofBits .f32 0x3FD744FD#32
/-- The residual and the product. -/
def zz (r : Fin 16384) (e : Fin 1024) : EReal := al * H (ix2 r e) + ∑ q : Fin 1024, A (ix2 r q) * W (ix2 q e)
/-- The layer norm's entry, from its weights and shifts. -/
def out (g b : Fin 1024 → EReal) (r : Fin 16384) (e : Fin 1024) : EReal := Cert.Lnb.xh (zz A W H r) e * g e + b e
/-- A row of weights. -/
abbrev row (g : FVec Ideal S1x1024 .f32) (e : Fin 1024) : EReal := g (ix2 0 e)

/-- An array from its entries. -/
abbrev ARR (f : Fin 16384 → Fin 1024 → EReal) : FVec Ideal S16384x1024 .f32 := fun i => f (i 0) (i 1)

variable (V : (c : Dev nD) → (b : Ref sig .tc) → Buf (Elt Ideal) ((c : Thread nD τ).loc b))

theorem final0_5 (c : Dev nD) : (dat0 V c).arrAt 5 cfg0.N = ARR fun r e => zz (V c main_v0) (V c main_arg1) (V c main_arg2) r e := by
  refine (dat0 V c).arrAt_eq_of_covers 5 _ (by decide +kernel) fun t _ y => ?_
  blk_simp
  rw [after0_5]; unfold Gen.outsAt0; frame_out
  pointwise [k0_pay3, k0_pay2, k0_pay1, ARR, zz]
  blk_point [iblk0, idx0 t]

theorem final0_6 (c : Dev nD) : (dat0 V c).arrAt 6 cfg0.N
    = ARR fun r e => out (V c main_v0) (V c main_arg1) (V c main_arg2) (row (V c main_v1)) (row (V c main_v2)) r e := by
  refine (dat0 V c).arrAt_eq_of_covers 6 _ (by decide +kernel) fun t _ y => ?_
  blk_simp
  rw [after0_6]; unfold Gen.outsAt0; frame_out
  pointwise [k0_pay4, k0_pay3, k0_pay2, k0_pay1, ARR, out, row, Cert.Lnb.xh, Cert.Lnb.rs, Cert.Lnb.ve, Cert.Lnb.zc, zz]
  blk_point [iblk0, idx0 t]

theorem final1_5 (c : Dev nD) : (dat1 V c).arrAt 5 cfg1.N = ARR fun r e => zz (V c main_arg5) (V c main_arg6) (V c main_arg7) r e := by
  refine (dat1 V c).arrAt_eq_of_covers 5 _ (by decide +kernel) fun t _ y => ?_
  blk_simp
  rw [after1_5]; unfold Gen.outsAt1; frame_out
  pointwise [k1_pay3, k1_pay2, k1_pay1, ARR, zz]
  blk_point [iblk1, idx1 t]

theorem final1_6 (c : Dev nD) : (dat1 V c).arrAt 6 cfg1.N
    = ARR fun r e => out (V c main_arg5) (V c main_arg6) (V c main_arg7) (row (V c main_v4)) (row (V c main_v5)) r e := by
  refine (dat1 V c).arrAt_eq_of_covers 6 _ (by decide +kernel) fun t _ y => ?_
  blk_simp
  rw [after1_6]; unfold Gen.outsAt1; frame_out
  pointwise [k1_pay4, k1_pay3, k1_pay2, k1_pay1, ARR, out, row, Cert.Lnb.xh, Cert.Lnb.rs, Cert.Lnb.ve, Cert.Lnb.zc, zz]
  blk_point [iblk1, idx1 t]

end Cert.OutLNIdeal.Value
-- ==== Proof.OutLNRun.lean ====
module

public import proofs.«01_k».proof.Proof.OutLNArr

/-! The run of the two kernels: what its results hold. -/

@[expose] public section
set_option maxRecDepth 16384
noncomputable section
namespace Cert.OutLNIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.OutLNIdeal Cert.OutLNIdeal.Gen

/-- The resources of a run. -/
abbrev Res := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every buffer at the last boundary's contents. -/
theorem ends : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The boundaries -/

/-- The arguments as launched. -/
abbrev a0 (c : Dev nD) : FVec Ideal S16384x1024 .f32 := m ((c : Thread nD τ).loc main_arg0)
abbrev w0 (c : Dev nD) : FVec Ideal S1024x1024 .f32 := m ((c : Thread nD τ).loc main_arg1)
abbrev h0 (c : Dev nD) : FVec Ideal S16384x1024 .f32 := m ((c : Thread nD τ).loc main_arg2)
abbrev g0 (c : Dev nD) : FVec Ideal S1024 .f32 := m ((c : Thread nD τ).loc main_arg3)
abbrev b0 (c : Dev nD) : FVec Ideal S1024 .f32 := m ((c : Thread nD τ).loc main_arg4)
abbrev a1 (c : Dev nD) : FVec Ideal S16384x1024 .f32 := m ((c : Thread nD τ).loc main_arg5)
abbrev w1 (c : Dev nD) : FVec Ideal S1024x1024 .f32 := m ((c : Thread nD τ).loc main_arg6)
abbrev h1 (c : Dev nD) : FVec Ideal S16384x1024 .f32 := m ((c : Thread nD τ).loc main_arg7)
abbrev g1 (c : Dev nD) : FVec Ideal S1024 .f32 := m ((c : Thread nD τ).loc main_arg8)
abbrev b1 (c : Dev nD) : FVec Ideal S1024 .f32 := m ((c : Thread nD τ).loc main_arg9)

/-- A row's weights, as launched. -/
abbrev ent (g : FVec Ideal S1024 .f32) (e : Fin 1024) : EReal := g (ix1 e)

theorem at1 (c : Dev nD) (a : Ref sig .tc) (h : a ∈ argRefs) : V1 m ρ c a = m ((c : Thread nD τ).loc a) := W1_args m ρ c a h
theorem at2 (c : Dev nD) (a : Ref sig .tc) (h : a ∈ argRefs) : W2 m ρ c (Proc.devRef .tc a) = m ((c : Thread nD τ).loc a) := W2_args m ρ c a h
theorem at3 (c : Dev nD) (a : Ref sig .tc) (h : a ∈ argRefs) : V3 m ρ c a = m ((c : Thread nD τ).loc a) := W3_args m ρ c a h

/-- The first product's left side, rounded for the kernel. -/
theorem v0_at (c : Dev nD) : V1 m ρ c main_v0 = (truncf .bf16 (a0 m c) bitsLt_bf16_f32 : FVec Ideal S16384x1024 .bf16) := by
  show StableHlo.after (hostOps0 (F := Ideal)) (W0 m ρ c) (Proc.devRef .tc main_v0) = _
  after_results
/-- A vector as a row, read. -/
theorem row_cast (x : FVec Ideal S1024 .f32) : row (shapeCast S1x1024 x shapeCasts_S1024_S1x1024) = ent x := by
  funext e
  pointwise [row, ent]
theorem v1_at (c : Dev nD) : row (V1 m ρ c main_v1) = ent (g0 m c) := by
  refine Eq.trans (congrArg row ?_) (row_cast (g0 m c))
  show StableHlo.after (hostOps0 (F := Ideal)) (W0 m ρ c) (Proc.devRef .tc main_v1) = _
  after_results; rfl
theorem v2_at (c : Dev nD) : row (V1 m ρ c main_v2) = ent (b0 m c) := by
  refine Eq.trans (congrArg row ?_) (row_cast (b0 m c))
  show StableHlo.after (hostOps0 (F := Ideal)) (W0 m ρ c) (Proc.devRef .tc main_v2) = _
  after_results; rfl
theorem v4_at (c : Dev nD) : row (V3 m ρ c main_v4) = ent (g1 m c) := by
  refine Eq.trans (congrArg row ?_) (row_cast (g1 m c))
  refine Eq.trans ?_ (congrArg (fun x : FVec Ideal S1024 .f32 => shapeCast S1x1024 x shapeCasts_S1024_S1x1024) (at2 m ρ c main_arg8 (by decide)))
  show StableHlo.after (hostOps1 (F := Ideal)) (W2 m ρ c) (Proc.devRef .tc main_v4) = _
  after_results; rfl
theorem v5_at (c : Dev nD) : row (V3 m ρ c main_v5) = ent (b1 m c) := by
  refine Eq.trans (congrArg row ?_) (row_cast (b1 m c))
  refine Eq.trans ?_ (congrArg (fun x : FVec Ideal S1024 .f32 => shapeCast S1x1024 x shapeCasts_S1024_S1x1024) (at2 m ρ c main_arg9 (by decide)))
  show StableHlo.after (hostOps1 (F := Ideal)) (W2 m ρ c) (Proc.devRef .tc main_v5) = _
  after_results; rfl

theorem end3_0 (c : Dev nD) : W4 m ρ c (Proc.devRef .tc main_v3_0) = ARR fun r e => zz (a0 m c) (w0 m c) (h0 m c) r e := by
  refine (W4_of m ρ c main_v3_0 (by decide)).trans ((W3_of m ρ c main_v3_0 (by decide)).trans ((W2_arr m ρ c 5).trans ((final0_5 (V1 m ρ) c).trans ?_)))
  rw [v0_at, at1 m ρ c main_arg1 (by decide), at1 m ρ c main_arg2 (by decide)]
  rfl
theorem end3_1 (c : Dev nD) : W4 m ρ c (Proc.devRef .tc main_v3_1)
    = ARR fun r e => out (a0 m c) (w0 m c) (h0 m c) (ent (g0 m c)) (ent (b0 m c)) r e := by
  refine (W4_of m ρ c main_v3_1 (by decide)).trans ((W3_of m ρ c main_v3_1 (by decide)).trans ((W2_arr m ρ c 6).trans ((final0_6 (V1 m ρ) c).trans ?_)))
  rw [v0_at, v1_at, v2_at, at1 m ρ c main_arg1 (by decide), at1 m ρ c main_arg2 (by decide)]
  rfl
theorem end6_0 (c : Dev nD) : W4 m ρ c (Proc.devRef .tc main_v6_0) = ARR fun r e => zz (a1 m c) (w1 m c) (h1 m c) r e := by
  refine (W4_arr m ρ c 5).trans ((final1_5 (V3 m ρ) c).trans ?_)
  rw [at3 m ρ c main_arg5 (by decide), at3 m ρ c main_arg6 (by decide), at3 m ρ c main_arg7 (by decide)]
theorem end6_1 (c : Dev nD) : W4 m ρ c (Proc.devRef .tc main_v6_1)
    = ARR fun r e => out (a1 m c) (w1 m c) (h1 m c) (ent (g1 m c)) (ent (b1 m c)) r e := by
  refine (W4_arr m ρ c 6).trans ((final1_6 (V3 m ρ) c).trans ?_)
  rw [v4_at, v5_at, at3 m ρ c main_arg5 (by decide), at3 m ρ c main_arg6 (by decide), at3 m ρ c main_arg7 (by decide)]

end Cert.OutLNIdeal.Value
-- ==== Proof.OutLNRef.lean ====
module

public import proofs.«01_k».proof.Proof.OutLNArr
public import proofs.«01_k».proof.Proof.FfnFwdRef
public import proofs.«01_k».proof.Proof.Gen.OutLNRefIdeal.Run

/-! What the reference of the mixers' last products computes, entry by entry. -/

@[expose] public section
set_option maxRecDepth 16384
noncomputable section
namespace Cert.OutLNRefIdeal.Value
open Idealize.ShloMosaic Idealize.ShloMosaic.TcCoe Idealize.SL.Sem
open Cert.OutLNRefIdeal Cert.OutLNRefIdeal.Gen
open Cert.OutLNIdeal.Value (zz out)
open Cert.FfnFwdRefIdeal.Value (NORM NORM_at)

variable (A : FVec Ideal S16384x1024 .f32) (W : FVec Ideal S1024x1024 .f32) (H : FVec Ideal S16384x1024 .f32) (g b : FVec Ideal S1024 .f32)
/-- The residual and the product. -/
def Z : FVec Ideal S16384x1024 .f32 := addf (mulf (broadcastInDim S16384x1024 ![] bcast_S_S16384x1024 (constant S_ .f32 0x3FD744FD#32)) H)
  (Host.dotGeneral dot_S16384x1024_S1024x1024_S16384x1024_1_0_0_1_n_n none A W)
theorem Z_at (r : Fin 16384) (e : Fin 1024) : Z A W H (ix2 r e) = zz A W H r e := by
  pointwise [Z, zz]
theorem OUT_at (r : Fin 16384) (e : Fin 1024) : NORM (Z A W H) g b (ix2 r e) = out A W H (fun j => g (ix1 j)) (fun j => b (ix1 j)) r e := by
  rw [NORM_at]
  unfold out
  simp only [Z_at]

end Cert.OutLNRefIdeal.Value
-- ==== Proof.OutLNValue.lean ====
module

public import proofs.«01_k».proof.Defs
public import proofs.«01_k».proof.Proof.OutLNRun
public import proofs.«01_k».proof.Proof.OutLNRef

/-! The mixers' last products: the kernels' results are the reference's. -/

@[expose] public section
set_option maxRecDepth 16384
noncomputable section
namespace Cert.OutLNIdeal.Value
open Idealize.ShloMosaic Idealize.ShloMosaic.TcCoe Idealize.SL.Sem
open Cert.OutLNIdeal Cert.OutLNIdeal.Gen

variable (m : (ℓ : Loc nD τ sig) → Buf (Elt Ideal) ℓ) (ρ : Dev nD → PrngReg)

/-- What the run leaves in the results and the arguments. -/
theorem leaves : θ_run defs (onTc (τ := τ) (main (F := Ideal))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v6_0) = W4 m ρ c (Proc.devRef .tc main_v6_0)
      ∧ r.2.mem ((c.tc : Thread nD τ).loc main_v6_1) = W4 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v3_0 (by decide)), h c _ (mem_uc main_v3_1 (by decide)), h c _ (mem_uc main_v6_0 (by decide)), h c _ (mem_uc main_v6_1 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (ends m ρ)

theorem algebraic : Cert.algebraic_OutLNIdeal_OutLNRefIdeal (hOutLNIdeal := Cert.OutLNIdeal.Gen.facts) (hOutLNRefIdeal := Cert.OutLNRefIdeal.Gen.facts) := by
  intro m g m' g' _ hargs
  refine ⟨fun c => W4 m g c (Proc.devRef .tc main_v3_0), fun c => W4 m g c (Proc.devRef .tc main_v3_1), fun c => W4 m g c (Proc.devRef .tc main_v6_0), fun c => W4 m g c (Proc.devRef .tc main_v6_1), leaves m g, ?_⟩
  refine (θ_run _ _ _).mono (fun r h c => ?_) (Cert.OutLNRefIdeal.Value.run m' g')
  obtain ⟨q0, q1, q2, q3, hm⟩ := h c
  obtain ⟨e0, e1, e2, e3, e4, e5, e6, e7, e8, e9⟩ := hargs c
  refine ⟨q0.trans ?_, q1.trans ?_, q2.trans ?_, q3.trans ?_, hm⟩
  · refine Eq.trans ?_ (end3_0 m g c).symm
    trans Cert.OutLNRefIdeal.Value.Z (a0 m c) (w0 m c) (h0 m c)
    · rw [e0, e1, e2]; rfl
    · funext j
      idx_vars j
      exact Cert.OutLNRefIdeal.Value.Z_at _ _ _ j0 j1
  · refine Eq.trans ?_ (end3_1 m g c).symm
    trans Cert.FfnFwdRefIdeal.Value.NORM (Cert.OutLNRefIdeal.Value.Z (a0 m c) (w0 m c) (h0 m c)) (g0 m c) (b0 m c)
    · rw [e0, e1, e2, e3, e4]; rfl
    · funext j
      idx_vars j
      exact Cert.OutLNRefIdeal.Value.OUT_at _ _ _ _ _ j0 j1
  · refine Eq.trans ?_ (end6_0 m g c).symm
    trans Cert.OutLNRefIdeal.Value.Z (a1 m c) (w1 m c) (h1 m c)
    · rw [e5, e6, e7]; rfl
    · funext j
      idx_vars j
      exact Cert.OutLNRefIdeal.Value.Z_at _ _ _ j0 j1
  · refine Eq.trans ?_ (end6_1 m g c).symm
    trans Cert.FfnFwdRefIdeal.Value.NORM (Cert.OutLNRefIdeal.Value.Z (a1 m c) (w1 m c) (h1 m c)) (g1 m c) (b1 m c)
    · rw [e5, e6, e7, e8, e9]; rfl
    · funext j
      idx_vars j
      exact Cert.OutLNRefIdeal.Value.OUT_at _ _ _ _ _ j0 j1

theorem frame_ref : Cert.quiescent_OutLNRefIdeal (hOutLNRefIdeal := Cert.OutLNRefIdeal.Gen.facts) := by
  intro m ρ _
  set_option maxHeartbeats 1600000 in
  hlo_run
  · exact fun _ => ⟨trivial, trivial, trivial, trivial, trivial, trivial, trivial, trivial, trivial, trivial⟩
  · exact sem_eq_zero_of_no_sems (by decide) _

end Cert.OutLNIdeal.Value
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Attn
public import proofs.«01_k».proof.Proof.Gen.Attn.Skeleton
public import proofs.«01_k».proof.Proof.Gen.Attn.Launch
public import proofs.«01_k».proof.Proof.Gen.Attn.Regions
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Regions
public import proofs.«01_k».proof.Proof.Gen.AttnIdeal.Points
public import proofs.«01_k».proof.Proof.Gen.AttnRefIdeal
public import proofs.«01_k».proof.Proof.Gen.Pre_attn_finite
public import proofs.«01_k».proof.Proof.Gen.AttnRefIdeal.Run
public import proofs.«01_k».proof.Proof.Gen.Lnb
public import proofs.«01_k».proof.Proof.Gen.Lnb.Skeleton
public import proofs.«01_k».proof.Proof.Gen.Lnb.Launch
public import proofs.«01_k».proof.Proof.Gen.Lnb.Points
public import proofs.«01_k».proof.Proof.Gen.Lnb.Frame
public import proofs.«01_k».proof.Proof.Gen.LnbIdeal
public import proofs.«01_k».proof.Proof.Gen.LnbIdeal.Skeleton
public import proofs.«01_k».proof.Proof.Gen.LnbIdeal.Launch
public import proofs.«01_k».proof.Proof.Gen.LnbIdeal.Points
public import proofs.«01_k».proof.Proof.Gen.LnbIdeal.Frame
public import proofs.«01_k».proof.Proof.Gen.LnbRefIdeal
public import proofs.«01_k».proof.Proof.Gen.Pre_lnb_finite
public import proofs.«01_k».proof.Proof.Gen.LnbRefIdeal.Run
public import proofs.«01_k».proof.Proof.Gen.RopeQ
public import proofs.«01_k».proof.Proof.Gen.RopeQ.Skeleton
public import proofs.«01_k».proof.Proof.Gen.RopeQ.Launch
public import proofs.«01_k».proof.Proof.Gen.RopeQ.Points
public import proofs.«01_k».proof.Proof.Gen.RopeQ.Frame
public import proofs.«01_k».proof.Proof.Gen.RopeQIdeal
public import proofs.«01_k».proof.Proof.Gen.RopeQIdeal.Skeleton
public import proofs.«01_k».proof.Proof.Gen.RopeQIdeal.Launch
public import proofs.«01_k».proof.Proof.Gen.RopeQIdeal.Points
public import proofs.«01_k».proof.Proof.Gen.RopeQIdeal.Frame
public import proofs.«01_k».proof.Proof.Gen.RopeQRefIdeal
public import proofs.«01_k».proof.Proof.Gen.RopeQRefIdeal.Run
public import proofs.«01_k».proof.Proof.Gen.DLat
public import proofs.«01_k».proof.Proof.Gen.DLat.Skeleton
public import proofs.«01_k».proof.Proof.Gen.DLat.Launch
public import proofs.«01_k».proof.Proof.Gen.DLat.Points
public import proofs.«01_k».proof.Proof.Gen.DLat.Frame
public import proofs.«01_k».proof.Proof.Gen.DLatIdeal
public import proofs.«01_k».proof.Proof.Gen.DLatIdeal.Skeleton
public import proofs.«01_k».proof.Proof.Gen.DLatIdeal.Launch
public import proofs.«01_k».proof.Proof.Gen.DLatIdeal.Points
public import proofs.«01_k».proof.Proof.Gen.DLatIdeal.Frame
public import proofs.«01_k».proof.Proof.Gen.DLatRefIdeal
public import proofs.«01_k».proof.Proof.Gen.Pre_dlat_finite
public import proofs.«01_k».proof.Proof.Gen.DLatRefIdeal.Run
public import proofs.«01_k».proof.Proof.Gen.FfnDA
public import proofs.«01_k».proof.Proof.Gen.FfnDA.Skeleton
public import proofs.«01_k».proof.Proof.Gen.FfnDA.Launch
public import proofs.«01_k».proof.Proof.Gen.FfnDA.Points
public import proofs.«01_k».proof.Proof.Gen.FfnDA.Frame
public import proofs.«01_k».proof.Proof.Gen.FfnDAIdeal
public import proofs.«01_k».proof.Proof.Gen.FfnDAIdeal.Skeleton
public import proofs.«01_k».proof.Proof.Gen.FfnDAIdeal.Launch
public import proofs.«01_k».proof.Proof.Gen.FfnDAIdeal.Points
public import proofs.«01_k».proof.Proof.Gen.FfnDAIdeal.Frame
public import proofs.«01_k».proof.Proof.Gen.FfnDARefIdeal
public import proofs.«01_k».proof.Proof.Gen.Pre_ffnda_finite
public import proofs.«01_k».proof.Proof.Gen.FfnDARefIdeal.Run
public import proofs.«01_k».proof.Proof.Gen.RopeKV
public import proofs.«01_k».proof.Proof.Gen.RopeKV.Skeleton
public import proofs.«01_k».proof.Proof.Gen.RopeKV.Launch
public import proofs.«01_k».proof.Proof.Gen.RopeKV.Points
public import proofs.«01_k».proof.Proof.Gen.RopeKV.Frame
public import proofs.«01_k».proof.Proof.Gen.RopeKVIdeal
public import proofs.«01_k».proof.Proof.Gen.RopeKVIdeal.Skeleton
public import proofs.«01_k».proof.Proof.Gen.RopeKVIdeal.Launch
public import proofs.«01_k».proof.Proof.Gen.RopeKVIdeal.Points
public import proofs.«01_k».proof.Proof.Gen.RopeKVIdeal.Frame
public import proofs.«01_k».proof.Proof.Gen.RopeKVRefIdeal
public import proofs.«01_k».proof.Proof.Gen.RopeKVRefIdeal.Run
public import proofs.«01_k».proof.Proof.Gen.HgDog
public import proofs.«01_k».proof.Proof.Gen.HgDog.Skeleton
public import proofs.«01_k».proof.Proof.Gen.HgDog.Launch
public import proofs.«01_k».proof.Proof.Gen.HgDog.Points
public import proofs.«01_k».proof.Proof.Gen.HgDog.Frame
public import proofs.«01_k».proof.Proof.Gen.HgDogIdeal
public import proofs.«01_k».proof.Proof.Gen.HgDogIdeal.Skeleton
public import proofs.«01_k».proof.Proof.Gen.HgDogIdeal.Launch
public import proofs.«01_k».proof.Proof.Gen.HgDogIdeal.Points
public import proofs.«01_k».proof.Proof.Gen.HgDogIdeal.Frame
public import proofs.«01_k».proof.Proof.Gen.HgDogRefIdeal
public import proofs.«01_k».proof.Proof.Gen.Pre_hgdog_finite
public import proofs.«01_k».proof.Proof.Gen.HgDogRefIdeal.Run
public import proofs.«01_k».proof.Proof.Gen.S5GluRefIdeal.Run
public import proofs.«01_k».proof.Proof.Gen.S5Glu
public import proofs.«01_k».proof.Proof.Gen.S5Glu.Skeleton
public import proofs.«01_k».proof.Proof.Gen.S5Glu.Launch
public import proofs.«01_k».proof.Proof.Gen.S5Glu.Points
public import proofs.«01_k».proof.Proof.Gen.S5Glu.Frame
public import proofs.«01_k».proof.Proof.Gen.S5GluIdeal
public import proofs.«01_k».proof.Proof.Gen.S5GluIdeal.Skeleton
public import proofs.«01_k».proof.Proof.Gen.S5GluIdeal.Launch
public import proofs.«01_k».proof.Proof.Gen.S5GluIdeal.Points
public import proofs.«01_k».proof.Proof.Gen.S5GluIdeal.Frame
public import proofs.«01_k».proof.Proof.Gen.S5GluRefIdeal
public import proofs.«01_k».proof.Proof.Gen.FfnFwdRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.InDXRefIdeal.Run
public import proofs.«01_k».proof.Proof.Gen.InDX
public import proofs.«01_k».proof.Proof.Gen.InDX.Skeleton
public import proofs.«01_k».proof.Proof.Gen.InDX.Launch
public import proofs.«01_k».proof.Proof.Gen.InDX.Points
public import proofs.«01_k».proof.Proof.Gen.InDX.Frame
public import proofs.«01_k».proof.Proof.Gen.InDXIdeal
public import proofs.«01_k».proof.Proof.Gen.InDXIdeal.Skeleton
public import proofs.«01_k».proof.Proof.Gen.InDXIdeal.Launch
public import proofs.«01_k».proof.Proof.Gen.InDXIdeal.Points
public import proofs.«01_k».proof.Proof.Gen.InDXIdeal.Frame
public import proofs.«01_k».proof.Proof.Gen.InDXRefIdeal
public import proofs.«01_k».proof.Proof.Gen.OutLNRefIdeal.Run
public import proofs.«01_k».proof.Proof.Gen.OutLN
public import proofs.«01_k».proof.Proof.Gen.OutLN.Skeleton
public import proofs.«01_k».proof.Proof.Gen.OutLN.Launch
public import proofs.«01_k».proof.Proof.Gen.OutLN.Points
public import proofs.«01_k».proof.Proof.Gen.OutLN.Frame
public import proofs.«01_k».proof.Proof.Gen.OutLNIdeal
public import proofs.«01_k».proof.Proof.Gen.OutLNIdeal.Skeleton
public import proofs.«01_k».proof.Proof.Gen.OutLNIdeal.Launch
public import proofs.«01_k».proof.Proof.Gen.OutLNIdeal.Points
public import proofs.«01_k».proof.Proof.Gen.OutLNIdeal.Frame
public import proofs.«01_k».proof.Proof.Gen.OutLNRefIdeal
public import proofs.«01_k».proof.Proof.LossValue
public import proofs.«01_k».proof.Proof.Attn.Value
public import proofs.«01_k».proof.Proof.LnbValue
public import proofs.«01_k».proof.Proof.RopeQValue
public import proofs.«01_k».proof.Proof.DLatValue
public import proofs.«01_k».proof.Proof.FfnDAValue
public import proofs.«01_k».proof.Proof.RopeKVValue
public import proofs.«01_k».proof.Proof.HgDogValue
public import proofs.«01_k».proof.Proof.S5GluValue
public import proofs.«01_k».proof.Proof.FfnFwdValue
public import proofs.«01_k».proof.Proof.InDXValue
public import proofs.«01_k».proof.Proof.OutLNValue
public import Idealize.ShloMosaic.Adequacy
public import Idealize.ShloMosaic.Init
public import Idealize.ShloMosaic.Lib.Claim

@[expose] public section

noncomputable section

namespace Cert.Proof

open Idealize.ShloMosaic Idealize.SL.Sem

theorem claim : Cert.Claim := ⟨Cert.Loss.Gen.facts,
  Cert.LossIdeal.Gen.facts,
  Cert.LossRefIdeal.Gen.facts,
  Cert.Attn.Gen.facts,
  Cert.AttnIdeal.Gen.facts,
  Cert.AttnRefIdeal.Gen.facts,
  Cert.Lnb.Gen.facts,
  Cert.LnbIdeal.Gen.facts,
  Cert.LnbRefIdeal.Gen.facts,
  Cert.RopeQ.Gen.facts,
  Cert.RopeQIdeal.Gen.facts,
  Cert.RopeQRefIdeal.Gen.facts,
  Cert.DLat.Gen.facts,
  Cert.DLatIdeal.Gen.facts,
  Cert.DLatRefIdeal.Gen.facts,
  Cert.FfnDA.Gen.facts,
  Cert.FfnDAIdeal.Gen.facts,
  Cert.FfnDARefIdeal.Gen.facts,
  Cert.RopeKV.Gen.facts,
  Cert.RopeKVIdeal.Gen.facts,
  Cert.RopeKVRefIdeal.Gen.facts,
  Cert.HgDog.Gen.facts,
  Cert.HgDogIdeal.Gen.facts,
  Cert.HgDogRefIdeal.Gen.facts,
  Cert.S5Glu.Gen.facts,
  Cert.S5GluIdeal.Gen.facts,
  Cert.S5GluRefIdeal.Gen.facts,
  Cert.FfnFwd.Gen.facts,
  Cert.FfnFwdIdeal.Gen.facts,
  Cert.FfnFwdRefIdeal.Gen.facts,
  Cert.InDX.Gen.facts,
  Cert.InDXIdeal.Gen.facts,
  Cert.InDXRefIdeal.Gen.facts,
  Cert.OutLN.Gen.facts,
  Cert.OutLNIdeal.Gen.facts,
  Cert.OutLNRefIdeal.Gen.facts,
  Cert.Pre_attn_finite.Gen.facts,
  Cert.Pre_lnb_finite.Gen.facts,
  Cert.Pre_dlat_finite.Gen.facts,
  Cert.Pre_ffnda_finite.Gen.facts,
  Cert.Pre_ropekv_finite.Gen.facts,
  Cert.Pre_hgdog_finite.Gen.facts,
  fun m ρ _ => Cert.Loss.Gen.frame m ρ,
  fun m ρ _ => Cert.LossIdeal.Gen.frame m ρ,
  Cert.LossIdeal.Value.frame_ref,
  Cert.AttnIdeal.Value.frame_kernel,
  Cert.AttnIdeal.Value.frame_ideal,
  fun m ρ _ => Cert.AttnIdeal.Run.frame m ρ,
  Cert.AttnIdeal.Value.frame_ref,
  fun m ρ _ => Cert.AttnIdeal.Value.frame_ref m ρ trivial,
  fun m ρ _ => Cert.Lnb.Gen.frame m ρ,
  fun m ρ _ => Cert.LnbIdeal.Gen.frame m ρ,
  fun m ρ _ => Cert.LnbIdeal.Gen.frame m ρ,
  Cert.LnbIdeal.Value.frame_ref,
  fun m ρ _ => Cert.LnbIdeal.Value.frame_ref m ρ trivial,
  fun m ρ _ => Cert.RopeQ.Gen.frame m ρ,
  fun m ρ _ => Cert.RopeQIdeal.Gen.frame m ρ,
  Cert.RopeQIdeal.Value.frame_ref,
  fun m ρ _ => Cert.DLat.Gen.frame m ρ,
  fun m ρ _ => Cert.DLatIdeal.Gen.frame m ρ,
  fun m ρ _ => Cert.DLatIdeal.Gen.frame m ρ,
  Cert.DLatIdeal.Value.frame_ref,
  fun m ρ _ => Cert.DLatIdeal.Value.frame_ref m ρ trivial,
  fun m ρ _ => Cert.FfnDA.Gen.frame m ρ,
  fun m ρ _ => Cert.FfnDAIdeal.Gen.frame m ρ,
  fun m ρ _ => Cert.FfnDAIdeal.Gen.frame m ρ,
  Cert.FfnDAIdeal.Value.frame_ref,
  fun m ρ _ => Cert.FfnDAIdeal.Value.frame_ref m ρ trivial,
  fun m ρ _ => Cert.RopeKV.Gen.frame m ρ,
  fun m ρ _ => Cert.RopeKVIdeal.Gen.frame m ρ,
  fun m ρ _ => Cert.RopeKVIdeal.Gen.frame m ρ,
  Cert.RopeKVIdeal.Value.frame_ref,
  fun m ρ _ => Cert.RopeKVIdeal.Value.frame_ref m ρ trivial,
  fun m ρ _ => Cert.HgDog.Gen.frame m ρ,
  fun m ρ _ => Cert.HgDogIdeal.Gen.frame m ρ,
  fun m ρ _ => Cert.HgDogIdeal.Gen.frame m ρ,
  Cert.HgDogIdeal.Value.frame_ref,
  fun m ρ _ => Cert.HgDogIdeal.Value.frame_ref m ρ trivial,
  fun m ρ _ => Cert.S5Glu.Gen.frame m ρ,
  fun m ρ _ => Cert.S5GluIdeal.Gen.frame m ρ,
  Cert.S5GluIdeal.Value.frame_ref,
  fun m ρ _ => Cert.FfnFwd.Gen.frame m ρ,
  fun m ρ _ => Cert.FfnFwdIdeal.Gen.frame m ρ,
  Cert.FfnFwdIdeal.Value.frame_ref,
  fun m ρ _ => Cert.InDX.Gen.frame m ρ,
  fun m ρ _ => Cert.InDXIdeal.Gen.frame m ρ,
  Cert.InDXIdeal.Value.frame_ref,
  fun m ρ _ => Cert.OutLN.Gen.frame m ρ,
  fun m ρ _ => Cert.OutLNIdeal.Gen.frame m ρ,
  Cert.OutLNIdeal.Value.frame_ref,
  trivial,
  Cert.LossIdeal.Value.algebraic,
  trivial,
  Cert.AttnIdeal.Value.algebraic,
  trivial,
  Cert.LnbIdeal.Value.algebraic,
  trivial,
  Cert.RopeQIdeal.Value.algebraic,
  trivial,
  Cert.DLatIdeal.Value.algebraic,
  trivial,
  Cert.FfnDAIdeal.Value.algebraic,
  trivial,
  Cert.RopeKVIdeal.Value.algebraic,
  trivial,
  Cert.HgDogIdeal.Value.algebraic,
  trivial,
  Cert.S5GluIdeal.Value.algebraic,
  trivial,
  Cert.FfnFwdIdeal.Value.algebraic,
  trivial,
  Cert.InDXIdeal.Value.algebraic,
  trivial,
  Cert.OutLNIdeal.Value.algebraic⟩

end Cert.Proof

end
